-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsReferenceIdeal (m : (ℓ : Loc Cert.RowsReferenceIdeal.nD Cert.RowsReferenceIdeal.τ Cert.RowsReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Values (m : (ℓ : Loc Cert.Values.nD Cert.Values.τ Cert.Values.sig) → Buf (Elt Bits) ℓ) : Prop :=
  True

def Pre_ValuesIdeal (m : (ℓ : Loc Cert.ValuesIdeal.nD Cert.ValuesIdeal.τ Cert.ValuesIdeal.sig) → Buf (Elt Ideal) ℓ) : Prop :=
  True

def Pre_ValuesReferenceIdeal (m : (ℓ : Loc Cert.ValuesReferenceIdeal.nD Cert.ValuesReferenceIdeal.τ Cert.ValuesReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_OddRows (m : (ℓ : Loc Cert.OddRows.nD Cert.OddRows.τ Cert.OddRows.sig) → Buf (Elt Bits) ℓ) : Prop :=
  True

def Pre_OddRowsIdeal (m : (ℓ : Loc Cert.OddRowsIdeal.nD Cert.OddRowsIdeal.τ Cert.OddRowsIdeal.sig) → Buf (Elt Ideal) ℓ) : Prop :=
  True

def Pre_OddRowsReferenceIdeal (m : (ℓ : Loc Cert.OddRowsReferenceIdeal.nD Cert.OddRowsReferenceIdeal.τ Cert.OddRowsReferenceIdeal.sig) → Buf (Elt Ideal) ℓ) : Prop :=
  True

def Pre_OddGates (m : (ℓ : Loc Cert.OddGates.nD Cert.OddGates.τ Cert.OddGates.sig) → Buf (Elt Bits) ℓ) : Prop :=
  True

def Pre_OddGatesIdeal (m : (ℓ : Loc Cert.OddGatesIdeal.nD Cert.OddGatesIdeal.τ Cert.OddGatesIdeal.sig) → Buf (Elt Ideal) ℓ) : Prop :=
  True

def Pre_OddGatesReferenceIdeal (m : (ℓ : Loc Cert.OddGatesReferenceIdeal.nD Cert.OddGatesReferenceIdeal.τ Cert.OddGatesReferenceIdeal.sig) → Buf (Elt Ideal) ℓ) : Prop :=
  True

def Pre_OddValues (m : (ℓ : Loc Cert.OddValues.nD Cert.OddValues.τ Cert.OddValues.sig) → Buf (Elt Bits) ℓ) : Prop :=
  True

def Pre_OddValuesIdeal (m : (ℓ : Loc Cert.OddValuesIdeal.nD Cert.OddValuesIdeal.τ Cert.OddValuesIdeal.sig) → Buf (Elt Ideal) ℓ) : Prop :=
  True

def Pre_OddValuesReferenceIdeal (m : (ℓ : Loc Cert.OddValuesReferenceIdeal.nD Cert.OddValuesReferenceIdeal.τ Cert.OddValuesReferenceIdeal.sig) → Buf (Elt Ideal) ℓ) : Prop :=
  True

def Pre_OddQk (m : (ℓ : Loc Cert.OddQk.nD Cert.OddQk.τ Cert.OddQk.sig) → Buf (Elt Bits) ℓ) : Prop :=
  True

def Pre_OddQkIdeal (m : (ℓ : Loc Cert.OddQkIdeal.nD Cert.OddQkIdeal.τ Cert.OddQkIdeal.sig) → Buf (Elt Ideal) ℓ) : Prop :=
  True

def Pre_OddQkReferenceIdeal (m : (ℓ : Loc Cert.OddQkReferenceIdeal.nD Cert.OddQkReferenceIdeal.τ Cert.OddQkReferenceIdeal.sig) → Buf (Elt Ideal) ℓ) : Prop :=
  True

def Pre_MixerC (m : (ℓ : Loc Cert.MixerC.nD Cert.MixerC.τ Cert.MixerC.sig) → Buf (Elt Bits) ℓ) : Prop :=
  True

def Pre_MixerCIdeal (m : (ℓ : Loc Cert.MixerCIdeal.nD Cert.MixerCIdeal.τ Cert.MixerCIdeal.sig) → Buf (Elt Ideal) ℓ) : Prop :=
  True

def Pre_MixerCIdeal_finite_scores [hPre_finite_scores : Cert.Pre_finite_scores.Facts] (m : (ℓ : Loc Cert.MixerCIdeal.nD Cert.MixerCIdeal.τ Cert.MixerCIdeal.sig) → Buf (Elt Ideal) ℓ) : Prop :=
  ∀ c : Dev Cert.MixerCIdeal.nD,
    (Cert.Pre_finite_scores.fn (F := Ideal) (m ((c.tc : Thread Cert.MixerCIdeal.nD Cert.MixerCIdeal.τ).loc Cert.MixerCIdeal.main_arg0)) (m ((c.tc : Thread Cert.MixerCIdeal.nD Cert.MixerCIdeal.τ).loc Cert.MixerCIdeal.main_arg1)) (m ((c.tc : Thread Cert.MixerCIdeal.nD Cert.MixerCIdeal.τ).loc Cert.MixerCIdeal.main_arg2)) (m ((c.tc : Thread Cert.MixerCIdeal.nD Cert.MixerCIdeal.τ).loc Cert.MixerCIdeal.main_arg3)) (m ((c.tc : Thread Cert.MixerCIdeal.nD Cert.MixerCIdeal.τ).loc Cert.MixerCIdeal.main_arg4))) = (fun _ => 1#1)

def Pre_MixerCReferenceIdeal (m : (ℓ : Loc Cert.MixerCReferenceIdeal.nD Cert.MixerCReferenceIdeal.τ Cert.MixerCReferenceIdeal.sig) → Buf (Elt Ideal) ℓ) : Prop :=
  True

def Pre_MixerCReferenceIdeal_finite_scores [hPre_finite_scores : Cert.Pre_finite_scores.Facts] (m : (ℓ : Loc Cert.MixerCReferenceIdeal.nD Cert.MixerCReferenceIdeal.τ Cert.MixerCReferenceIdeal.sig) → Buf (Elt Ideal) ℓ) : Prop :=
  ∀ c : Dev Cert.MixerCReferenceIdeal.nD,
    (Cert.Pre_finite_scores.fn (F := Ideal) (m ((c.tc : Thread Cert.MixerCReferenceIdeal.nD Cert.MixerCReferenceIdeal.τ).loc Cert.MixerCReferenceIdeal.main_arg0)) (m ((c.tc : Thread Cert.MixerCReferenceIdeal.nD Cert.MixerCReferenceIdeal.τ).loc Cert.MixerCReferenceIdeal.main_arg1)) (m ((c.tc : Thread Cert.MixerCReferenceIdeal.nD Cert.MixerCReferenceIdeal.τ).loc Cert.MixerCReferenceIdeal.main_arg2)) (m ((c.tc : Thread Cert.MixerCReferenceIdeal.nD Cert.MixerCReferenceIdeal.τ).loc Cert.MixerCReferenceIdeal.main_arg3)) (m ((c.tc : Thread Cert.MixerCReferenceIdeal.nD Cert.MixerCReferenceIdeal.τ).loc Cert.MixerCReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def quiescent_RowsReferenceIdeal [hRowsReferenceIdeal : Cert.RowsReferenceIdeal.Facts] : Prop :=
  ∀ (m : (ℓ : Loc Cert.RowsReferenceIdeal.nD Cert.RowsReferenceIdeal.τ Cert.RowsReferenceIdeal.sig) → Buf (Elt Ideal) ℓ) (g : Dev Cert.RowsReferenceIdeal.nD → PrngReg), Pre_RowsReferenceIdeal m →
    θ_run (Cert.RowsReferenceIdeal.defs (F := Ideal)) (onTc (τ := Cert.RowsReferenceIdeal.τ) (Cert.RowsReferenceIdeal.main (F := Ideal))) ⟨m, fun _ => 0, g⟩ (fun r => (∀ c : Dev Cert.RowsReferenceIdeal.nD,
      r.2.mem ((c.tc : Thread Cert.RowsReferenceIdeal.nD Cert.RowsReferenceIdeal.τ).loc Cert.RowsReferenceIdeal.main_arg0) = m ((c.tc : Thread Cert.RowsReferenceIdeal.nD Cert.RowsReferenceIdeal.τ).loc Cert.RowsReferenceIdeal.main_arg0)
      ∧ r.2.mem ((c.tc : Thread Cert.RowsReferenceIdeal.nD Cert.RowsReferenceIdeal.τ).loc Cert.RowsReferenceIdeal.main_arg1) = m ((c.tc : Thread Cert.RowsReferenceIdeal.nD Cert.RowsReferenceIdeal.τ).loc Cert.RowsReferenceIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1))
      ∧ r.2.sem = fun _ => 0)

def quiescent_Values [hValues : Cert.Values.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ r.2.sem = fun _ => 0)

def quiescent_ValuesReferenceIdeal [hValuesReferenceIdeal : Cert.ValuesReferenceIdeal.Facts] : Prop :=
  ∀ (m : (ℓ : Loc Cert.ValuesReferenceIdeal.nD Cert.ValuesReferenceIdeal.τ Cert.ValuesReferenceIdeal.sig) → Buf (Elt Ideal) ℓ) (g : Dev Cert.ValuesReferenceIdeal.nD → PrngReg), Pre_ValuesReferenceIdeal m →
    θ_run (Cert.ValuesReferenceIdeal.defs (F := Ideal)) (onTc (τ := Cert.ValuesReferenceIdeal.τ) (Cert.ValuesReferenceIdeal.main (F := Ideal))) ⟨m, fun _ => 0, g⟩ (fun r => (∀ c : Dev Cert.ValuesReferenceIdeal.nD,
      r.2.mem ((c.tc : Thread Cert.ValuesReferenceIdeal.nD Cert.ValuesReferenceIdeal.τ).loc Cert.ValuesReferenceIdeal.main_arg0) = m ((c.tc : Thread Cert.ValuesReferenceIdeal.nD Cert.ValuesReferenceIdeal.τ).loc Cert.ValuesReferenceIdeal.main_arg0)
      ∧ r.2.mem ((c.tc : Thread Cert.ValuesReferenceIdeal.nD Cert.ValuesReferenceIdeal.τ).loc Cert.ValuesReferenceIdeal.main_arg1) = m ((c.tc : Thread Cert.ValuesReferenceIdeal.nD Cert.ValuesReferenceIdeal.τ).loc Cert.ValuesReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4))
      ∧ r.2.sem = fun _ => 0)

def quiescent_OddRows [hOddRows : Cert.OddRows.Facts] : Prop :=
  ∀ (m : (ℓ : Loc Cert.OddRows.nD Cert.OddRows.τ Cert.OddRows.sig) → Buf (Elt Bits) ℓ) (g : Dev Cert.OddRows.nD → PrngReg), Pre_OddRows m →
    θ_run (Cert.OddRows.defs (F := Bits)) (onTc (τ := Cert.OddRows.τ) (Cert.OddRows.main (F := Bits))) ⟨m, fun _ => 0, g⟩ (fun r => (∀ c : Dev Cert.OddRows.nD,
      r.2.mem ((c.tc : Thread Cert.OddRows.nD Cert.OddRows.τ).loc Cert.OddRows.main_arg0) = m ((c.tc : Thread Cert.OddRows.nD Cert.OddRows.τ).loc Cert.OddRows.main_arg0)
      ∧ r.2.mem ((c.tc : Thread Cert.OddRows.nD Cert.OddRows.τ).loc Cert.OddRows.main_arg1) = m ((c.tc : Thread Cert.OddRows.nD Cert.OddRows.τ).loc Cert.OddRows.main_arg1))
      ∧ r.2.sem = fun _ => 0)

def quiescent_OddRowsIdeal [hOddRowsIdeal : Cert.OddRowsIdeal.Facts] : Prop :=
  ∀ (m : (ℓ : Loc Cert.OddRowsIdeal.nD Cert.OddRowsIdeal.τ Cert.OddRowsIdeal.sig) → Buf (Elt Ideal) ℓ) (g : Dev Cert.OddRowsIdeal.nD → PrngReg), Pre_OddRowsIdeal m →
    θ_run (Cert.OddRowsIdeal.defs (F := Ideal)) (onTc (τ := Cert.OddRowsIdeal.τ) (Cert.OddRowsIdeal.main (F := Ideal))) ⟨m, fun _ => 0, g⟩ (fun r => (∀ c : Dev Cert.OddRowsIdeal.nD,
      r.2.mem ((c.tc : Thread Cert.OddRowsIdeal.nD Cert.OddRowsIdeal.τ).loc Cert.OddRowsIdeal.main_arg0) = m ((c.tc : Thread Cert.OddRowsIdeal.nD Cert.OddRowsIdeal.τ).loc Cert.OddRowsIdeal.main_arg0)
      ∧ r.2.mem ((c.tc : Thread Cert.OddRowsIdeal.nD Cert.OddRowsIdeal.τ).loc Cert.OddRowsIdeal.main_arg1) = m ((c.tc : Thread Cert.OddRowsIdeal.nD Cert.OddRowsIdeal.τ).loc Cert.OddRowsIdeal.main_arg1))
      ∧ r.2.sem = fun _ => 0)

def quiescent_OddRowsReferenceIdeal [hOddRowsReferenceIdeal : Cert.OddRowsReferenceIdeal.Facts] : Prop :=
  ∀ (m : (ℓ : Loc Cert.OddRowsReferenceIdeal.nD Cert.OddRowsReferenceIdeal.τ Cert.OddRowsReferenceIdeal.sig) → Buf (Elt Ideal) ℓ) (g : Dev Cert.OddRowsReferenceIdeal.nD → PrngReg), Pre_OddRowsReferenceIdeal m →
    θ_run (Cert.OddRowsReferenceIdeal.defs (F := Ideal)) (onTc (τ := Cert.OddRowsReferenceIdeal.τ) (Cert.OddRowsReferenceIdeal.main (F := Ideal))) ⟨m, fun _ => 0, g⟩ (fun r => (∀ c : Dev Cert.OddRowsReferenceIdeal.nD,
      r.2.mem ((c.tc : Thread Cert.OddRowsReferenceIdeal.nD Cert.OddRowsReferenceIdeal.τ).loc Cert.OddRowsReferenceIdeal.main_arg0) = m ((c.tc : Thread Cert.OddRowsReferenceIdeal.nD Cert.OddRowsReferenceIdeal.τ).loc Cert.OddRowsReferenceIdeal.main_arg0)
      ∧ r.2.mem ((c.tc : Thread Cert.OddRowsReferenceIdeal.nD Cert.OddRowsReferenceIdeal.τ).loc Cert.OddRowsReferenceIdeal.main_arg1) = m ((c.tc : Thread Cert.OddRowsReferenceIdeal.nD Cert.OddRowsReferenceIdeal.τ).loc Cert.OddRowsReferenceIdeal.main_arg1))
      ∧ r.2.sem = fun _ => 0)

def quiescent_OddGates [hOddGates : Cert.OddGates.Facts] : Prop :=
  ∀ (m : (ℓ : Loc Cert.OddGates.nD Cert.OddGates.τ Cert.OddGates.sig) → Buf (Elt Bits) ℓ) (g : Dev Cert.OddGates.nD → PrngReg), Pre_OddGates m →
    θ_run (Cert.OddGates.defs (F := Bits)) (onTc (τ := Cert.OddGates.τ) (Cert.OddGates.main (F := Bits))) ⟨m, fun _ => 0, g⟩ (fun r => (∀ c : Dev Cert.OddGates.nD,
      r.2.mem ((c.tc : Thread Cert.OddGates.nD Cert.OddGates.τ).loc Cert.OddGates.main_arg0) = m ((c.tc : Thread Cert.OddGates.nD Cert.OddGates.τ).loc Cert.OddGates.main_arg0)
      ∧ r.2.mem ((c.tc : Thread Cert.OddGates.nD Cert.OddGates.τ).loc Cert.OddGates.main_arg1) = m ((c.tc : Thread Cert.OddGates.nD Cert.OddGates.τ).loc Cert.OddGates.main_arg1))
      ∧ r.2.sem = fun _ => 0)

def quiescent_OddGatesIdeal [hOddGatesIdeal : Cert.OddGatesIdeal.Facts] : Prop :=
  ∀ (m : (ℓ : Loc Cert.OddGatesIdeal.nD Cert.OddGatesIdeal.τ Cert.OddGatesIdeal.sig) → Buf (Elt Ideal) ℓ) (g : Dev Cert.OddGatesIdeal.nD → PrngReg), Pre_OddGatesIdeal m →
    θ_run (Cert.OddGatesIdeal.defs (F := Ideal)) (onTc (τ := Cert.OddGatesIdeal.τ) (Cert.OddGatesIdeal.main (F := Ideal))) ⟨m, fun _ => 0, g⟩ (fun r => (∀ c : Dev Cert.OddGatesIdeal.nD,
      r.2.mem ((c.tc : Thread Cert.OddGatesIdeal.nD Cert.OddGatesIdeal.τ).loc Cert.OddGatesIdeal.main_arg0) = m ((c.tc : Thread Cert.OddGatesIdeal.nD Cert.OddGatesIdeal.τ).loc Cert.OddGatesIdeal.main_arg0)
      ∧ r.2.mem ((c.tc : Thread Cert.OddGatesIdeal.nD Cert.OddGatesIdeal.τ).loc Cert.OddGatesIdeal.main_arg1) = m ((c.tc : Thread Cert.OddGatesIdeal.nD Cert.OddGatesIdeal.τ).loc Cert.OddGatesIdeal.main_arg1))
      ∧ r.2.sem = fun _ => 0)

def quiescent_OddGatesReferenceIdeal [hOddGatesReferenceIdeal : Cert.OddGatesReferenceIdeal.Facts] : Prop :=
  ∀ (m : (ℓ : Loc Cert.OddGatesReferenceIdeal.nD Cert.OddGatesReferenceIdeal.τ Cert.OddGatesReferenceIdeal.sig) → Buf (Elt Ideal) ℓ) (g : Dev Cert.OddGatesReferenceIdeal.nD → PrngReg), Pre_OddGatesReferenceIdeal m →
    θ_run (Cert.OddGatesReferenceIdeal.defs (F := Ideal)) (onTc (τ := Cert.OddGatesReferenceIdeal.τ) (Cert.OddGatesReferenceIdeal.main (F := Ideal))) ⟨m, fun _ => 0, g⟩ (fun r => (∀ c : Dev Cert.OddGatesReferenceIdeal.nD,
      r.2.mem ((c.tc : Thread Cert.OddGatesReferenceIdeal.nD Cert.OddGatesReferenceIdeal.τ).loc Cert.OddGatesReferenceIdeal.main_arg0) = m ((c.tc : Thread Cert.OddGatesReferenceIdeal.nD Cert.OddGatesReferenceIdeal.τ).loc Cert.OddGatesReferenceIdeal.main_arg0)
      ∧ r.2.mem ((c.tc : Thread Cert.OddGatesReferenceIdeal.nD Cert.OddGatesReferenceIdeal.τ).loc Cert.OddGatesReferenceIdeal.main_arg1) = m ((c.tc : Thread Cert.OddGatesReferenceIdeal.nD Cert.OddGatesReferenceIdeal.τ).loc Cert.OddGatesReferenceIdeal.main_arg1))
      ∧ r.2.sem = fun _ => 0)

def quiescent_OddValues [hOddValues : Cert.OddValues.Facts] : Prop :=
  ∀ (m : (ℓ : Loc Cert.OddValues.nD Cert.OddValues.τ Cert.OddValues.sig) → Buf (Elt Bits) ℓ) (g : Dev Cert.OddValues.nD → PrngReg), Pre_OddValues m →
    θ_run (Cert.OddValues.defs (F := Bits)) (onTc (τ := Cert.OddValues.τ) (Cert.OddValues.main (F := Bits))) ⟨m, fun _ => 0, g⟩ (fun r => (∀ c : Dev Cert.OddValues.nD,
      r.2.mem ((c.tc : Thread Cert.OddValues.nD Cert.OddValues.τ).loc Cert.OddValues.main_arg0) = m ((c.tc : Thread Cert.OddValues.nD Cert.OddValues.τ).loc Cert.OddValues.main_arg0)
      ∧ r.2.mem ((c.tc : Thread Cert.OddValues.nD Cert.OddValues.τ).loc Cert.OddValues.main_arg1) = m ((c.tc : Thread Cert.OddValues.nD Cert.OddValues.τ).loc Cert.OddValues.main_arg1))
      ∧ r.2.sem = fun _ => 0)

def quiescent_OddValuesIdeal [hOddValuesIdeal : Cert.OddValuesIdeal.Facts] : Prop :=
  ∀ (m : (ℓ : Loc Cert.OddValuesIdeal.nD Cert.OddValuesIdeal.τ Cert.OddValuesIdeal.sig) → Buf (Elt Ideal) ℓ) (g : Dev Cert.OddValuesIdeal.nD → PrngReg), Pre_OddValuesIdeal m →
    θ_run (Cert.OddValuesIdeal.defs (F := Ideal)) (onTc (τ := Cert.OddValuesIdeal.τ) (Cert.OddValuesIdeal.main (F := Ideal))) ⟨m, fun _ => 0, g⟩ (fun r => (∀ c : Dev Cert.OddValuesIdeal.nD,
      r.2.mem ((c.tc : Thread Cert.OddValuesIdeal.nD Cert.OddValuesIdeal.τ).loc Cert.OddValuesIdeal.main_arg0) = m ((c.tc : Thread Cert.OddValuesIdeal.nD Cert.OddValuesIdeal.τ).loc Cert.OddValuesIdeal.main_arg0)
      ∧ r.2.mem ((c.tc : Thread Cert.OddValuesIdeal.nD Cert.OddValuesIdeal.τ).loc Cert.OddValuesIdeal.main_arg1) = m ((c.tc : Thread Cert.OddValuesIdeal.nD Cert.OddValuesIdeal.τ).loc Cert.OddValuesIdeal.main_arg1))
      ∧ r.2.sem = fun _ => 0)

def quiescent_OddValuesReferenceIdeal [hOddValuesReferenceIdeal : Cert.OddValuesReferenceIdeal.Facts] : Prop :=
  ∀ (m : (ℓ : Loc Cert.OddValuesReferenceIdeal.nD Cert.OddValuesReferenceIdeal.τ Cert.OddValuesReferenceIdeal.sig) → Buf (Elt Ideal) ℓ) (g : Dev Cert.OddValuesReferenceIdeal.nD → PrngReg), Pre_OddValuesReferenceIdeal m →
    θ_run (Cert.OddValuesReferenceIdeal.defs (F := Ideal)) (onTc (τ := Cert.OddValuesReferenceIdeal.τ) (Cert.OddValuesReferenceIdeal.main (F := Ideal))) ⟨m, fun _ => 0, g⟩ (fun r => (∀ c : Dev Cert.OddValuesReferenceIdeal.nD,
      r.2.mem ((c.tc : Thread Cert.OddValuesReferenceIdeal.nD Cert.OddValuesReferenceIdeal.τ).loc Cert.OddValuesReferenceIdeal.main_arg0) = m ((c.tc : Thread Cert.OddValuesReferenceIdeal.nD Cert.OddValuesReferenceIdeal.τ).loc Cert.OddValuesReferenceIdeal.main_arg0)
      ∧ r.2.mem ((c.tc : Thread Cert.OddValuesReferenceIdeal.nD Cert.OddValuesReferenceIdeal.τ).loc Cert.OddValuesReferenceIdeal.main_arg1) = m ((c.tc : Thread Cert.OddValuesReferenceIdeal.nD Cert.OddValuesReferenceIdeal.τ).loc Cert.OddValuesReferenceIdeal.main_arg1))
      ∧ r.2.sem = fun _ => 0)

def quiescent_OddQk [hOddQk : Cert.OddQk.Facts] : Prop :=
  ∀ (m : (ℓ : Loc Cert.OddQk.nD Cert.OddQk.τ Cert.OddQk.sig) → Buf (Elt Bits) ℓ) (g : Dev Cert.OddQk.nD → PrngReg), Pre_OddQk m →
    θ_run (Cert.OddQk.defs (F := Bits)) (onTc (τ := Cert.OddQk.τ) (Cert.OddQk.main (F := Bits))) ⟨m, fun _ => 0, g⟩ (fun r => (∀ c : Dev Cert.OddQk.nD,
      r.2.mem ((c.tc : Thread Cert.OddQk.nD Cert.OddQk.τ).loc Cert.OddQk.main_arg0) = m ((c.tc : Thread Cert.OddQk.nD Cert.OddQk.τ).loc Cert.OddQk.main_arg0)
      ∧ r.2.mem ((c.tc : Thread Cert.OddQk.nD Cert.OddQk.τ).loc Cert.OddQk.main_arg1) = m ((c.tc : Thread Cert.OddQk.nD Cert.OddQk.τ).loc Cert.OddQk.main_arg1))
      ∧ r.2.sem = fun _ => 0)

def quiescent_OddQkIdeal [hOddQkIdeal : Cert.OddQkIdeal.Facts] : Prop :=
  ∀ (m : (ℓ : Loc Cert.OddQkIdeal.nD Cert.OddQkIdeal.τ Cert.OddQkIdeal.sig) → Buf (Elt Ideal) ℓ) (g : Dev Cert.OddQkIdeal.nD → PrngReg), Pre_OddQkIdeal m →
    θ_run (Cert.OddQkIdeal.defs (F := Ideal)) (onTc (τ := Cert.OddQkIdeal.τ) (Cert.OddQkIdeal.main (F := Ideal))) ⟨m, fun _ => 0, g⟩ (fun r => (∀ c : Dev Cert.OddQkIdeal.nD,
      r.2.mem ((c.tc : Thread Cert.OddQkIdeal.nD Cert.OddQkIdeal.τ).loc Cert.OddQkIdeal.main_arg0) = m ((c.tc : Thread Cert.OddQkIdeal.nD Cert.OddQkIdeal.τ).loc Cert.OddQkIdeal.main_arg0)
      ∧ r.2.mem ((c.tc : Thread Cert.OddQkIdeal.nD Cert.OddQkIdeal.τ).loc Cert.OddQkIdeal.main_arg1) = m ((c.tc : Thread Cert.OddQkIdeal.nD Cert.OddQkIdeal.τ).loc Cert.OddQkIdeal.main_arg1))
      ∧ r.2.sem = fun _ => 0)

def quiescent_OddQkReferenceIdeal [hOddQkReferenceIdeal : Cert.OddQkReferenceIdeal.Facts] : Prop :=
  ∀ (m : (ℓ : Loc Cert.OddQkReferenceIdeal.nD Cert.OddQkReferenceIdeal.τ Cert.OddQkReferenceIdeal.sig) → Buf (Elt Ideal) ℓ) (g : Dev Cert.OddQkReferenceIdeal.nD → PrngReg), Pre_OddQkReferenceIdeal m →
    θ_run (Cert.OddQkReferenceIdeal.defs (F := Ideal)) (onTc (τ := Cert.OddQkReferenceIdeal.τ) (Cert.OddQkReferenceIdeal.main (F := Ideal))) ⟨m, fun _ => 0, g⟩ (fun r => (∀ c : Dev Cert.OddQkReferenceIdeal.nD,
      r.2.mem ((c.tc : Thread Cert.OddQkReferenceIdeal.nD Cert.OddQkReferenceIdeal.τ).loc Cert.OddQkReferenceIdeal.main_arg0) = m ((c.tc : Thread Cert.OddQkReferenceIdeal.nD Cert.OddQkReferenceIdeal.τ).loc Cert.OddQkReferenceIdeal.main_arg0)
      ∧ r.2.mem ((c.tc : Thread Cert.OddQkReferenceIdeal.nD Cert.OddQkReferenceIdeal.τ).loc Cert.OddQkReferenceIdeal.main_arg1) = m ((c.tc : Thread Cert.OddQkReferenceIdeal.nD Cert.OddQkReferenceIdeal.τ).loc Cert.OddQkReferenceIdeal.main_arg1))
      ∧ r.2.sem = fun _ => 0)

def quiescent_MixerC [hMixerC : Cert.MixerC.Facts] : Prop :=
  ∀ (m : (ℓ : Loc Cert.MixerC.nD Cert.MixerC.τ Cert.MixerC.sig) → Buf (Elt Bits) ℓ) (g : Dev Cert.MixerC.nD → PrngReg), Pre_MixerC m →
    θ_run (Cert.MixerC.defs (F := Bits)) (onTc (τ := Cert.MixerC.τ) (Cert.MixerC.main (F := Bits))) ⟨m, fun _ => 0, g⟩ (fun r => (∀ c : Dev Cert.MixerC.nD,
      r.2.mem ((c.tc : Thread Cert.MixerC.nD Cert.MixerC.τ).loc Cert.MixerC.main_arg0) = m ((c.tc : Thread Cert.MixerC.nD Cert.MixerC.τ).loc Cert.MixerC.main_arg0)
      ∧ r.2.mem ((c.tc : Thread Cert.MixerC.nD Cert.MixerC.τ).loc Cert.MixerC.main_arg1) = m ((c.tc : Thread Cert.MixerC.nD Cert.MixerC.τ).loc Cert.MixerC.main_arg1)
      ∧ r.2.mem ((c.tc : Thread Cert.MixerC.nD Cert.MixerC.τ).loc Cert.MixerC.main_arg2) = m ((c.tc : Thread Cert.MixerC.nD Cert.MixerC.τ).loc Cert.MixerC.main_arg2)
      ∧ r.2.mem ((c.tc : Thread Cert.MixerC.nD Cert.MixerC.τ).loc Cert.MixerC.main_arg3) = m ((c.tc : Thread Cert.MixerC.nD Cert.MixerC.τ).loc Cert.MixerC.main_arg3)
      ∧ r.2.mem ((c.tc : Thread Cert.MixerC.nD Cert.MixerC.τ).loc Cert.MixerC.main_arg4) = m ((c.tc : Thread Cert.MixerC.nD Cert.MixerC.τ).loc Cert.MixerC.main_arg4))
      ∧ r.2.sem = fun _ => 0)

def quiescent_MixerCIdeal [hMixerCIdeal : Cert.MixerCIdeal.Facts] : Prop :=
  ∀ (m : (ℓ : Loc Cert.MixerCIdeal.nD Cert.MixerCIdeal.τ Cert.MixerCIdeal.sig) → Buf (Elt Ideal) ℓ) (g : Dev Cert.MixerCIdeal.nD → PrngReg), Pre_MixerCIdeal m →
    θ_run (Cert.MixerCIdeal.defs (F := Ideal)) (onTc (τ := Cert.MixerCIdeal.τ) (Cert.MixerCIdeal.main (F := Ideal))) ⟨m, fun _ => 0, g⟩ (fun r => (∀ c : Dev Cert.MixerCIdeal.nD,
      r.2.mem ((c.tc : Thread Cert.MixerCIdeal.nD Cert.MixerCIdeal.τ).loc Cert.MixerCIdeal.main_arg0) = m ((c.tc : Thread Cert.MixerCIdeal.nD Cert.MixerCIdeal.τ).loc Cert.MixerCIdeal.main_arg0)
      ∧ r.2.mem ((c.tc : Thread Cert.MixerCIdeal.nD Cert.MixerCIdeal.τ).loc Cert.MixerCIdeal.main_arg1) = m ((c.tc : Thread Cert.MixerCIdeal.nD Cert.MixerCIdeal.τ).loc Cert.MixerCIdeal.main_arg1)
      ∧ r.2.mem ((c.tc : Thread Cert.MixerCIdeal.nD Cert.MixerCIdeal.τ).loc Cert.MixerCIdeal.main_arg2) = m ((c.tc : Thread Cert.MixerCIdeal.nD Cert.MixerCIdeal.τ).loc Cert.MixerCIdeal.main_arg2)
      ∧ r.2.mem ((c.tc : Thread Cert.MixerCIdeal.nD Cert.MixerCIdeal.τ).loc Cert.MixerCIdeal.main_arg3) = m ((c.tc : Thread Cert.MixerCIdeal.nD Cert.MixerCIdeal.τ).loc Cert.MixerCIdeal.main_arg3)
      ∧ r.2.mem ((c.tc : Thread Cert.MixerCIdeal.nD Cert.MixerCIdeal.τ).loc Cert.MixerCIdeal.main_arg4) = m ((c.tc : Thread Cert.MixerCIdeal.nD Cert.MixerCIdeal.τ).loc Cert.MixerCIdeal.main_arg4))
      ∧ r.2.sem = fun _ => 0)

def quiescent_MixerCIdeal_pre_finite_scores [hMixerCIdeal : Cert.MixerCIdeal.Facts] [hPre_finite_scores : Cert.Pre_finite_scores.Facts] : Prop :=
  ∀ (m : (ℓ : Loc Cert.MixerCIdeal.nD Cert.MixerCIdeal.τ Cert.MixerCIdeal.sig) → Buf (Elt Ideal) ℓ) (g : Dev Cert.MixerCIdeal.nD → PrngReg), Pre_MixerCIdeal_finite_scores m →
    θ_run (Cert.MixerCIdeal.defs (F := Ideal)) (onTc (τ := Cert.MixerCIdeal.τ) (Cert.MixerCIdeal.main (F := Ideal))) ⟨m, fun _ => 0, g⟩ (fun r => (∀ c : Dev Cert.MixerCIdeal.nD,
      r.2.mem ((c.tc : Thread Cert.MixerCIdeal.nD Cert.MixerCIdeal.τ).loc Cert.MixerCIdeal.main_arg0) = m ((c.tc : Thread Cert.MixerCIdeal.nD Cert.MixerCIdeal.τ).loc Cert.MixerCIdeal.main_arg0)
      ∧ r.2.mem ((c.tc : Thread Cert.MixerCIdeal.nD Cert.MixerCIdeal.τ).loc Cert.MixerCIdeal.main_arg1) = m ((c.tc : Thread Cert.MixerCIdeal.nD Cert.MixerCIdeal.τ).loc Cert.MixerCIdeal.main_arg1)
      ∧ r.2.mem ((c.tc : Thread Cert.MixerCIdeal.nD Cert.MixerCIdeal.τ).loc Cert.MixerCIdeal.main_arg2) = m ((c.tc : Thread Cert.MixerCIdeal.nD Cert.MixerCIdeal.τ).loc Cert.MixerCIdeal.main_arg2)
      ∧ r.2.mem ((c.tc : Thread Cert.MixerCIdeal.nD Cert.MixerCIdeal.τ).loc Cert.MixerCIdeal.main_arg3) = m ((c.tc : Thread Cert.MixerCIdeal.nD Cert.MixerCIdeal.τ).loc Cert.MixerCIdeal.main_arg3)
      ∧ r.2.mem ((c.tc : Thread Cert.MixerCIdeal.nD Cert.MixerCIdeal.τ).loc Cert.MixerCIdeal.main_arg4) = m ((c.tc : Thread Cert.MixerCIdeal.nD Cert.MixerCIdeal.τ).loc Cert.MixerCIdeal.main_arg4))
      ∧ r.2.sem = fun _ => 0)

def quiescent_MixerCReferenceIdeal [hMixerCReferenceIdeal : Cert.MixerCReferenceIdeal.Facts] : Prop :=
  ∀ (m : (ℓ : Loc Cert.MixerCReferenceIdeal.nD Cert.MixerCReferenceIdeal.τ Cert.MixerCReferenceIdeal.sig) → Buf (Elt Ideal) ℓ) (g : Dev Cert.MixerCReferenceIdeal.nD → PrngReg), Pre_MixerCReferenceIdeal m →
    θ_run (Cert.MixerCReferenceIdeal.defs (F := Ideal)) (onTc (τ := Cert.MixerCReferenceIdeal.τ) (Cert.MixerCReferenceIdeal.main (F := Ideal))) ⟨m, fun _ => 0, g⟩ (fun r => (∀ c : Dev Cert.MixerCReferenceIdeal.nD,
      r.2.mem ((c.tc : Thread Cert.MixerCReferenceIdeal.nD Cert.MixerCReferenceIdeal.τ).loc Cert.MixerCReferenceIdeal.main_arg0) = m ((c.tc : Thread Cert.MixerCReferenceIdeal.nD Cert.MixerCReferenceIdeal.τ).loc Cert.MixerCReferenceIdeal.main_arg0)
      ∧ r.2.mem ((c.tc : Thread Cert.MixerCReferenceIdeal.nD Cert.MixerCReferenceIdeal.τ).loc Cert.MixerCReferenceIdeal.main_arg1) = m ((c.tc : Thread Cert.MixerCReferenceIdeal.nD Cert.MixerCReferenceIdeal.τ).loc Cert.MixerCReferenceIdeal.main_arg1)
      ∧ r.2.mem ((c.tc : Thread Cert.MixerCReferenceIdeal.nD Cert.MixerCReferenceIdeal.τ).loc Cert.MixerCReferenceIdeal.main_arg2) = m ((c.tc : Thread Cert.MixerCReferenceIdeal.nD Cert.MixerCReferenceIdeal.τ).loc Cert.MixerCReferenceIdeal.main_arg2)
      ∧ r.2.mem ((c.tc : Thread Cert.MixerCReferenceIdeal.nD Cert.MixerCReferenceIdeal.τ).loc Cert.MixerCReferenceIdeal.main_arg3) = m ((c.tc : Thread Cert.MixerCReferenceIdeal.nD Cert.MixerCReferenceIdeal.τ).loc Cert.MixerCReferenceIdeal.main_arg3)
      ∧ r.2.mem ((c.tc : Thread Cert.MixerCReferenceIdeal.nD Cert.MixerCReferenceIdeal.τ).loc Cert.MixerCReferenceIdeal.main_arg4) = m ((c.tc : Thread Cert.MixerCReferenceIdeal.nD Cert.MixerCReferenceIdeal.τ).loc Cert.MixerCReferenceIdeal.main_arg4))
      ∧ r.2.sem = fun _ => 0)

def quiescent_MixerCReferenceIdeal_pre_finite_scores [hMixerCReferenceIdeal : Cert.MixerCReferenceIdeal.Facts] [hPre_finite_scores : Cert.Pre_finite_scores.Facts] : Prop :=
  ∀ (m : (ℓ : Loc Cert.MixerCReferenceIdeal.nD Cert.MixerCReferenceIdeal.τ Cert.MixerCReferenceIdeal.sig) → Buf (Elt Ideal) ℓ) (g : Dev Cert.MixerCReferenceIdeal.nD → PrngReg), Pre_MixerCReferenceIdeal_finite_scores m →
    θ_run (Cert.MixerCReferenceIdeal.defs (F := Ideal)) (onTc (τ := Cert.MixerCReferenceIdeal.τ) (Cert.MixerCReferenceIdeal.main (F := Ideal))) ⟨m, fun _ => 0, g⟩ (fun r => (∀ c : Dev Cert.MixerCReferenceIdeal.nD,
      r.2.mem ((c.tc : Thread Cert.MixerCReferenceIdeal.nD Cert.MixerCReferenceIdeal.τ).loc Cert.MixerCReferenceIdeal.main_arg0) = m ((c.tc : Thread Cert.MixerCReferenceIdeal.nD Cert.MixerCReferenceIdeal.τ).loc Cert.MixerCReferenceIdeal.main_arg0)
      ∧ r.2.mem ((c.tc : Thread Cert.MixerCReferenceIdeal.nD Cert.MixerCReferenceIdeal.τ).loc Cert.MixerCReferenceIdeal.main_arg1) = m ((c.tc : Thread Cert.MixerCReferenceIdeal.nD Cert.MixerCReferenceIdeal.τ).loc Cert.MixerCReferenceIdeal.main_arg1)
      ∧ r.2.mem ((c.tc : Thread Cert.MixerCReferenceIdeal.nD Cert.MixerCReferenceIdeal.τ).loc Cert.MixerCReferenceIdeal.main_arg2) = m ((c.tc : Thread Cert.MixerCReferenceIdeal.nD Cert.MixerCReferenceIdeal.τ).loc Cert.MixerCReferenceIdeal.main_arg2)
      ∧ r.2.mem ((c.tc : Thread Cert.MixerCReferenceIdeal.nD Cert.MixerCReferenceIdeal.τ).loc Cert.MixerCReferenceIdeal.main_arg3) = m ((c.tc : Thread Cert.MixerCReferenceIdeal.nD Cert.MixerCReferenceIdeal.τ).loc Cert.MixerCReferenceIdeal.main_arg3)
      ∧ r.2.mem ((c.tc : Thread Cert.MixerCReferenceIdeal.nD Cert.MixerCReferenceIdeal.τ).loc Cert.MixerCReferenceIdeal.main_arg4) = m ((c.tc : Thread Cert.MixerCReferenceIdeal.nD Cert.MixerCReferenceIdeal.τ).loc Cert.MixerCReferenceIdeal.main_arg4))
      ∧ r.2.sem = fun _ => 0)

def preserves_Kernel_KernelIdeal : Prop :=
  IdealRules.named_const.Statement Cert.KernelIdeal.κ "log2_scale" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Rows_RowsIdeal : Prop :=
  True

def algebraic_RowsIdeal_RowsReferenceIdeal [hRowsIdeal : Cert.RowsIdeal.Facts] [hRowsReferenceIdeal : Cert.RowsReferenceIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsReferenceIdeal.nD Cert.RowsReferenceIdeal.τ Cert.RowsReferenceIdeal.sig) → Buf (Elt Ideal) ℓ) (g' : Dev Cert.RowsReferenceIdeal.nD → PrngReg), Pre_RowsIdeal m →
    (∀ c : Dev Cert.RowsIdeal.nD,
      m' ((c.tc : Thread Cert.RowsReferenceIdeal.nD Cert.RowsReferenceIdeal.τ).loc Cert.RowsReferenceIdeal.main_arg0) = m ((c.tc : Thread Cert.RowsIdeal.nD Cert.RowsIdeal.τ).loc Cert.RowsIdeal.main_arg0)
      ∧ m' ((c.tc : Thread Cert.RowsReferenceIdeal.nD Cert.RowsReferenceIdeal.τ).loc Cert.RowsReferenceIdeal.main_arg1) = m ((c.tc : Thread Cert.RowsIdeal.nD Cert.RowsIdeal.τ).loc Cert.RowsIdeal.main_arg1)) →
    ∃ (v0 : (c : Dev Cert.RowsIdeal.nD) → Buf (Elt Ideal) ((c.tc : Thread Cert.RowsIdeal.nD Cert.RowsIdeal.τ).loc Cert.RowsIdeal.main_v6)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v6) = v0 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ θ_run (Cert.RowsReferenceIdeal.defs (F := Ideal)) (onTc (τ := Cert.RowsReferenceIdeal.τ) (Cert.RowsReferenceIdeal.main (F := Ideal))) ⟨m', fun _ => 0, g'⟩ (fun r => ∀ c : Dev Cert.RowsReferenceIdeal.nD,
          r.2.mem ((c.tc : Thread Cert.RowsReferenceIdeal.nD Cert.RowsReferenceIdeal.τ).loc Cert.RowsReferenceIdeal.main_v11) = v0 c
          ∧ r.2.mem ((c.tc : Thread Cert.RowsReferenceIdeal.nD Cert.RowsReferenceIdeal.τ).loc Cert.RowsReferenceIdeal.main_arg0) = m' ((c.tc : Thread Cert.RowsReferenceIdeal.nD Cert.RowsReferenceIdeal.τ).loc Cert.RowsReferenceIdeal.main_arg0)
          ∧ r.2.mem ((c.tc : Thread Cert.RowsReferenceIdeal.nD Cert.RowsReferenceIdeal.τ).loc Cert.RowsReferenceIdeal.main_arg1) = m' ((c.tc : Thread Cert.RowsReferenceIdeal.nD Cert.RowsReferenceIdeal.τ).loc Cert.RowsReferenceIdeal.main_arg1))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v4)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v4) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v10) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1))

def preserves_Values_ValuesIdeal : Prop :=
  True

def algebraic_ValuesIdeal_ValuesReferenceIdeal [hValuesIdeal : Cert.ValuesIdeal.Facts] [hValuesReferenceIdeal : Cert.ValuesReferenceIdeal.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.ValuesReferenceIdeal.nD Cert.ValuesReferenceIdeal.τ Cert.ValuesReferenceIdeal.sig) → Buf (Elt Ideal) ℓ) (g' : Dev Cert.ValuesReferenceIdeal.nD → PrngReg), Pre_ValuesIdeal m →
    (∀ c : Dev Cert.ValuesIdeal.nD,
      m' ((c.tc : Thread Cert.ValuesReferenceIdeal.nD Cert.ValuesReferenceIdeal.τ).loc Cert.ValuesReferenceIdeal.main_arg0) = m ((c.tc : Thread Cert.ValuesIdeal.nD Cert.ValuesIdeal.τ).loc Cert.ValuesIdeal.main_arg0)
      ∧ m' ((c.tc : Thread Cert.ValuesReferenceIdeal.nD Cert.ValuesReferenceIdeal.τ).loc Cert.ValuesReferenceIdeal.main_arg1) = m ((c.tc : Thread Cert.ValuesIdeal.nD Cert.ValuesIdeal.τ).loc Cert.ValuesIdeal.main_arg1)) →
    ∃ (v0 : (c : Dev Cert.ValuesIdeal.nD) → Buf (Elt Ideal) ((c.tc : Thread Cert.ValuesIdeal.nD Cert.ValuesIdeal.τ).loc Cert.ValuesIdeal.main_v5)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          r.2.mem ((c.tc : Thread Cert.ValuesIdeal.nD Cert.ValuesIdeal.τ).loc Cert.ValuesIdeal.main_v5) = v0 c
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ θ_run (Cert.ValuesReferenceIdeal.defs (F := Ideal)) (onTc (τ := Cert.ValuesReferenceIdeal.τ) (Cert.ValuesReferenceIdeal.main (F := Ideal))) ⟨m', fun _ => 0, g'⟩ (fun r => ∀ c : Dev Cert.ValuesReferenceIdeal.nD,
          r.2.mem ((c.tc : Thread Cert.ValuesReferenceIdeal.nD Cert.ValuesReferenceIdeal.τ).loc Cert.ValuesReferenceIdeal.main_v12) = v0 c
          ∧ r.2.mem ((c.tc : Thread Cert.ValuesReferenceIdeal.nD Cert.ValuesReferenceIdeal.τ).loc Cert.ValuesReferenceIdeal.main_arg0) = m' ((c.tc : Thread Cert.ValuesReferenceIdeal.nD Cert.ValuesReferenceIdeal.τ).loc Cert.ValuesReferenceIdeal.main_arg0)
          ∧ r.2.mem ((c.tc : Thread Cert.ValuesReferenceIdeal.nD Cert.ValuesReferenceIdeal.τ).loc Cert.ValuesReferenceIdeal.main_arg1) = m' ((c.tc : Thread Cert.ValuesReferenceIdeal.nD Cert.ValuesReferenceIdeal.τ).loc Cert.ValuesReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v16) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4))

def preserves_OddRows_OddRowsIdeal : Prop :=
  True

def algebraic_OddRowsIdeal_OddRowsReferenceIdeal [hOddRowsIdeal : Cert.OddRowsIdeal.Facts] [hOddRowsReferenceIdeal : Cert.OddRowsReferenceIdeal.Facts] : Prop :=
  ∀ (m : (ℓ : Loc Cert.OddRowsIdeal.nD Cert.OddRowsIdeal.τ Cert.OddRowsIdeal.sig) → Buf (Elt Ideal) ℓ) (g : Dev Cert.OddRowsIdeal.nD → PrngReg)
    (m' : (ℓ : Loc Cert.OddRowsReferenceIdeal.nD Cert.OddRowsReferenceIdeal.τ Cert.OddRowsReferenceIdeal.sig) → Buf (Elt Ideal) ℓ) (g' : Dev Cert.OddRowsReferenceIdeal.nD → PrngReg), Pre_OddRowsIdeal m →
    (∀ c : Dev Cert.OddRowsIdeal.nD,
      m' ((c.tc : Thread Cert.OddRowsReferenceIdeal.nD Cert.OddRowsReferenceIdeal.τ).loc Cert.OddRowsReferenceIdeal.main_arg0) = m ((c.tc : Thread Cert.OddRowsIdeal.nD Cert.OddRowsIdeal.τ).loc Cert.OddRowsIdeal.main_arg0)
      ∧ m' ((c.tc : Thread Cert.OddRowsReferenceIdeal.nD Cert.OddRowsReferenceIdeal.τ).loc Cert.OddRowsReferenceIdeal.main_arg1) = m ((c.tc : Thread Cert.OddRowsIdeal.nD Cert.OddRowsIdeal.τ).loc Cert.OddRowsIdeal.main_arg1)) →
    ∃ (v0 : (c : Dev Cert.OddRowsIdeal.nD) → Buf (Elt Ideal) ((c.tc : Thread Cert.OddRowsIdeal.nD Cert.OddRowsIdeal.τ).loc Cert.OddRowsIdeal.main_v4)),
      θ_run (Cert.OddRowsIdeal.defs (F := Ideal)) (onTc (τ := Cert.OddRowsIdeal.τ) (Cert.OddRowsIdeal.main (F := Ideal))) ⟨m, fun _ => 0, g⟩ (fun r => ∀ c : Dev Cert.OddRowsIdeal.nD,
          r.2.mem ((c.tc : Thread Cert.OddRowsIdeal.nD Cert.OddRowsIdeal.τ).loc Cert.OddRowsIdeal.main_v4) = v0 c
          ∧ r.2.mem ((c.tc : Thread Cert.OddRowsIdeal.nD Cert.OddRowsIdeal.τ).loc Cert.OddRowsIdeal.main_arg0) = m ((c.tc : Thread Cert.OddRowsIdeal.nD Cert.OddRowsIdeal.τ).loc Cert.OddRowsIdeal.main_arg0)
          ∧ r.2.mem ((c.tc : Thread Cert.OddRowsIdeal.nD Cert.OddRowsIdeal.τ).loc Cert.OddRowsIdeal.main_arg1) = m ((c.tc : Thread Cert.OddRowsIdeal.nD Cert.OddRowsIdeal.τ).loc Cert.OddRowsIdeal.main_arg1))
      ∧ θ_run (Cert.OddRowsReferenceIdeal.defs (F := Ideal)) (onTc (τ := Cert.OddRowsReferenceIdeal.τ) (Cert.OddRowsReferenceIdeal.main (F := Ideal))) ⟨m', fun _ => 0, g'⟩ (fun r => ∀ c : Dev Cert.OddRowsReferenceIdeal.nD,
          r.2.mem ((c.tc : Thread Cert.OddRowsReferenceIdeal.nD Cert.OddRowsReferenceIdeal.τ).loc Cert.OddRowsReferenceIdeal.main_v3) = v0 c
          ∧ r.2.mem ((c.tc : Thread Cert.OddRowsReferenceIdeal.nD Cert.OddRowsReferenceIdeal.τ).loc Cert.OddRowsReferenceIdeal.main_arg0) = m' ((c.tc : Thread Cert.OddRowsReferenceIdeal.nD Cert.OddRowsReferenceIdeal.τ).loc Cert.OddRowsReferenceIdeal.main_arg0)
          ∧ r.2.mem ((c.tc : Thread Cert.OddRowsReferenceIdeal.nD Cert.OddRowsReferenceIdeal.τ).loc Cert.OddRowsReferenceIdeal.main_arg1) = m' ((c.tc : Thread Cert.OddRowsReferenceIdeal.nD Cert.OddRowsReferenceIdeal.τ).loc Cert.OddRowsReferenceIdeal.main_arg1))

def preserves_OddGates_OddGatesIdeal : Prop :=
  True

def algebraic_OddGatesIdeal_OddGatesReferenceIdeal [hOddGatesIdeal : Cert.OddGatesIdeal.Facts] [hOddGatesReferenceIdeal : Cert.OddGatesReferenceIdeal.Facts] : Prop :=
  ∀ (m : (ℓ : Loc Cert.OddGatesIdeal.nD Cert.OddGatesIdeal.τ Cert.OddGatesIdeal.sig) → Buf (Elt Ideal) ℓ) (g : Dev Cert.OddGatesIdeal.nD → PrngReg)
    (m' : (ℓ : Loc Cert.OddGatesReferenceIdeal.nD Cert.OddGatesReferenceIdeal.τ Cert.OddGatesReferenceIdeal.sig) → Buf (Elt Ideal) ℓ) (g' : Dev Cert.OddGatesReferenceIdeal.nD → PrngReg), Pre_OddGatesIdeal m →
    (∀ c : Dev Cert.OddGatesIdeal.nD,
      m' ((c.tc : Thread Cert.OddGatesReferenceIdeal.nD Cert.OddGatesReferenceIdeal.τ).loc Cert.OddGatesReferenceIdeal.main_arg0) = m ((c.tc : Thread Cert.OddGatesIdeal.nD Cert.OddGatesIdeal.τ).loc Cert.OddGatesIdeal.main_arg0)
      ∧ m' ((c.tc : Thread Cert.OddGatesReferenceIdeal.nD Cert.OddGatesReferenceIdeal.τ).loc Cert.OddGatesReferenceIdeal.main_arg1) = m ((c.tc : Thread Cert.OddGatesIdeal.nD Cert.OddGatesIdeal.τ).loc Cert.OddGatesIdeal.main_arg1)) →
    ∃ (v0 : (c : Dev Cert.OddGatesIdeal.nD) → Buf (Elt Ideal) ((c.tc : Thread Cert.OddGatesIdeal.nD Cert.OddGatesIdeal.τ).loc Cert.OddGatesIdeal.main_v4)),
      θ_run (Cert.OddGatesIdeal.defs (F := Ideal)) (onTc (τ := Cert.OddGatesIdeal.τ) (Cert.OddGatesIdeal.main (F := Ideal))) ⟨m, fun _ => 0, g⟩ (fun r => ∀ c : Dev Cert.OddGatesIdeal.nD,
          r.2.mem ((c.tc : Thread Cert.OddGatesIdeal.nD Cert.OddGatesIdeal.τ).loc Cert.OddGatesIdeal.main_v4) = v0 c
          ∧ r.2.mem ((c.tc : Thread Cert.OddGatesIdeal.nD Cert.OddGatesIdeal.τ).loc Cert.OddGatesIdeal.main_arg0) = m ((c.tc : Thread Cert.OddGatesIdeal.nD Cert.OddGatesIdeal.τ).loc Cert.OddGatesIdeal.main_arg0)
          ∧ r.2.mem ((c.tc : Thread Cert.OddGatesIdeal.nD Cert.OddGatesIdeal.τ).loc Cert.OddGatesIdeal.main_arg1) = m ((c.tc : Thread Cert.OddGatesIdeal.nD Cert.OddGatesIdeal.τ).loc Cert.OddGatesIdeal.main_arg1))
      ∧ θ_run (Cert.OddGatesReferenceIdeal.defs (F := Ideal)) (onTc (τ := Cert.OddGatesReferenceIdeal.τ) (Cert.OddGatesReferenceIdeal.main (F := Ideal))) ⟨m', fun _ => 0, g'⟩ (fun r => ∀ c : Dev Cert.OddGatesReferenceIdeal.nD,
          r.2.mem ((c.tc : Thread Cert.OddGatesReferenceIdeal.nD Cert.OddGatesReferenceIdeal.τ).loc Cert.OddGatesReferenceIdeal.main_v4) = v0 c
          ∧ r.2.mem ((c.tc : Thread Cert.OddGatesReferenceIdeal.nD Cert.OddGatesReferenceIdeal.τ).loc Cert.OddGatesReferenceIdeal.main_arg0) = m' ((c.tc : Thread Cert.OddGatesReferenceIdeal.nD Cert.OddGatesReferenceIdeal.τ).loc Cert.OddGatesReferenceIdeal.main_arg0)
          ∧ r.2.mem ((c.tc : Thread Cert.OddGatesReferenceIdeal.nD Cert.OddGatesReferenceIdeal.τ).loc Cert.OddGatesReferenceIdeal.main_arg1) = m' ((c.tc : Thread Cert.OddGatesReferenceIdeal.nD Cert.OddGatesReferenceIdeal.τ).loc Cert.OddGatesReferenceIdeal.main_arg1))

def preserves_OddValues_OddValuesIdeal : Prop :=
  True

def algebraic_OddValuesIdeal_OddValuesReferenceIdeal [hOddValuesIdeal : Cert.OddValuesIdeal.Facts] [hOddValuesReferenceIdeal : Cert.OddValuesReferenceIdeal.Facts] : Prop :=
  ∀ (m : (ℓ : Loc Cert.OddValuesIdeal.nD Cert.OddValuesIdeal.τ Cert.OddValuesIdeal.sig) → Buf (Elt Ideal) ℓ) (g : Dev Cert.OddValuesIdeal.nD → PrngReg)
    (m' : (ℓ : Loc Cert.OddValuesReferenceIdeal.nD Cert.OddValuesReferenceIdeal.τ Cert.OddValuesReferenceIdeal.sig) → Buf (Elt Ideal) ℓ) (g' : Dev Cert.OddValuesReferenceIdeal.nD → PrngReg), Pre_OddValuesIdeal m →
    (∀ c : Dev Cert.OddValuesIdeal.nD,
      m' ((c.tc : Thread Cert.OddValuesReferenceIdeal.nD Cert.OddValuesReferenceIdeal.τ).loc Cert.OddValuesReferenceIdeal.main_arg0) = m ((c.tc : Thread Cert.OddValuesIdeal.nD Cert.OddValuesIdeal.τ).loc Cert.OddValuesIdeal.main_arg0)
      ∧ m' ((c.tc : Thread Cert.OddValuesReferenceIdeal.nD Cert.OddValuesReferenceIdeal.τ).loc Cert.OddValuesReferenceIdeal.main_arg1) = m ((c.tc : Thread Cert.OddValuesIdeal.nD Cert.OddValuesIdeal.τ).loc Cert.OddValuesIdeal.main_arg1)) →
    ∃ (v0 : (c : Dev Cert.OddValuesIdeal.nD) → Buf (Elt Ideal) ((c.tc : Thread Cert.OddValuesIdeal.nD Cert.OddValuesIdeal.τ).loc Cert.OddValuesIdeal.main_v5)),
      θ_run (Cert.OddValuesIdeal.defs (F := Ideal)) (onTc (τ := Cert.OddValuesIdeal.τ) (Cert.OddValuesIdeal.main (F := Ideal))) ⟨m, fun _ => 0, g⟩ (fun r => ∀ c : Dev Cert.OddValuesIdeal.nD,
          r.2.mem ((c.tc : Thread Cert.OddValuesIdeal.nD Cert.OddValuesIdeal.τ).loc Cert.OddValuesIdeal.main_v5) = v0 c
          ∧ r.2.mem ((c.tc : Thread Cert.OddValuesIdeal.nD Cert.OddValuesIdeal.τ).loc Cert.OddValuesIdeal.main_arg0) = m ((c.tc : Thread Cert.OddValuesIdeal.nD Cert.OddValuesIdeal.τ).loc Cert.OddValuesIdeal.main_arg0)
          ∧ r.2.mem ((c.tc : Thread Cert.OddValuesIdeal.nD Cert.OddValuesIdeal.τ).loc Cert.OddValuesIdeal.main_arg1) = m ((c.tc : Thread Cert.OddValuesIdeal.nD Cert.OddValuesIdeal.τ).loc Cert.OddValuesIdeal.main_arg1))
      ∧ θ_run (Cert.OddValuesReferenceIdeal.defs (F := Ideal)) (onTc (τ := Cert.OddValuesReferenceIdeal.τ) (Cert.OddValuesReferenceIdeal.main (F := Ideal))) ⟨m', fun _ => 0, g'⟩ (fun r => ∀ c : Dev Cert.OddValuesReferenceIdeal.nD,
          r.2.mem ((c.tc : Thread Cert.OddValuesReferenceIdeal.nD Cert.OddValuesReferenceIdeal.τ).loc Cert.OddValuesReferenceIdeal.main_v6) = v0 c
          ∧ r.2.mem ((c.tc : Thread Cert.OddValuesReferenceIdeal.nD Cert.OddValuesReferenceIdeal.τ).loc Cert.OddValuesReferenceIdeal.main_arg0) = m' ((c.tc : Thread Cert.OddValuesReferenceIdeal.nD Cert.OddValuesReferenceIdeal.τ).loc Cert.OddValuesReferenceIdeal.main_arg0)
          ∧ r.2.mem ((c.tc : Thread Cert.OddValuesReferenceIdeal.nD Cert.OddValuesReferenceIdeal.τ).loc Cert.OddValuesReferenceIdeal.main_arg1) = m' ((c.tc : Thread Cert.OddValuesReferenceIdeal.nD Cert.OddValuesReferenceIdeal.τ).loc Cert.OddValuesReferenceIdeal.main_arg1))

def preserves_OddQk_OddQkIdeal : Prop :=
  True

def algebraic_OddQkIdeal_OddQkReferenceIdeal [hOddQkIdeal : Cert.OddQkIdeal.Facts] [hOddQkReferenceIdeal : Cert.OddQkReferenceIdeal.Facts] : Prop :=
  ∀ (m : (ℓ : Loc Cert.OddQkIdeal.nD Cert.OddQkIdeal.τ Cert.OddQkIdeal.sig) → Buf (Elt Ideal) ℓ) (g : Dev Cert.OddQkIdeal.nD → PrngReg)
    (m' : (ℓ : Loc Cert.OddQkReferenceIdeal.nD Cert.OddQkReferenceIdeal.τ Cert.OddQkReferenceIdeal.sig) → Buf (Elt Ideal) ℓ) (g' : Dev Cert.OddQkReferenceIdeal.nD → PrngReg), Pre_OddQkIdeal m →
    (∀ c : Dev Cert.OddQkIdeal.nD,
      m' ((c.tc : Thread Cert.OddQkReferenceIdeal.nD Cert.OddQkReferenceIdeal.τ).loc Cert.OddQkReferenceIdeal.main_arg0) = m ((c.tc : Thread Cert.OddQkIdeal.nD Cert.OddQkIdeal.τ).loc Cert.OddQkIdeal.main_arg0)
      ∧ m' ((c.tc : Thread Cert.OddQkReferenceIdeal.nD Cert.OddQkReferenceIdeal.τ).loc Cert.OddQkReferenceIdeal.main_arg1) = m ((c.tc : Thread Cert.OddQkIdeal.nD Cert.OddQkIdeal.τ).loc Cert.OddQkIdeal.main_arg1)) →
    ∃ (v0 : (c : Dev Cert.OddQkIdeal.nD) → Buf (Elt Ideal) ((c.tc : Thread Cert.OddQkIdeal.nD Cert.OddQkIdeal.τ).loc Cert.OddQkIdeal.main_v16)),
      θ_run (Cert.OddQkIdeal.defs (F := Ideal)) (onTc (τ := Cert.OddQkIdeal.τ) (Cert.OddQkIdeal.main (F := Ideal))) ⟨m, fun _ => 0, g⟩ (fun r => ∀ c : Dev Cert.OddQkIdeal.nD,
          r.2.mem ((c.tc : Thread Cert.OddQkIdeal.nD Cert.OddQkIdeal.τ).loc Cert.OddQkIdeal.main_v16) = v0 c
          ∧ r.2.mem ((c.tc : Thread Cert.OddQkIdeal.nD Cert.OddQkIdeal.τ).loc Cert.OddQkIdeal.main_arg0) = m ((c.tc : Thread Cert.OddQkIdeal.nD Cert.OddQkIdeal.τ).loc Cert.OddQkIdeal.main_arg0)
          ∧ r.2.mem ((c.tc : Thread Cert.OddQkIdeal.nD Cert.OddQkIdeal.τ).loc Cert.OddQkIdeal.main_arg1) = m ((c.tc : Thread Cert.OddQkIdeal.nD Cert.OddQkIdeal.τ).loc Cert.OddQkIdeal.main_arg1))
      ∧ θ_run (Cert.OddQkReferenceIdeal.defs (F := Ideal)) (onTc (τ := Cert.OddQkReferenceIdeal.τ) (Cert.OddQkReferenceIdeal.main (F := Ideal))) ⟨m', fun _ => 0, g'⟩ (fun r => ∀ c : Dev Cert.OddQkReferenceIdeal.nD,
          r.2.mem ((c.tc : Thread Cert.OddQkReferenceIdeal.nD Cert.OddQkReferenceIdeal.τ).loc Cert.OddQkReferenceIdeal.main_v14) = v0 c
          ∧ r.2.mem ((c.tc : Thread Cert.OddQkReferenceIdeal.nD Cert.OddQkReferenceIdeal.τ).loc Cert.OddQkReferenceIdeal.main_arg0) = m' ((c.tc : Thread Cert.OddQkReferenceIdeal.nD Cert.OddQkReferenceIdeal.τ).loc Cert.OddQkReferenceIdeal.main_arg0)
          ∧ r.2.mem ((c.tc : Thread Cert.OddQkReferenceIdeal.nD Cert.OddQkReferenceIdeal.τ).loc Cert.OddQkReferenceIdeal.main_arg1) = m' ((c.tc : Thread Cert.OddQkReferenceIdeal.nD Cert.OddQkReferenceIdeal.τ).loc Cert.OddQkReferenceIdeal.main_arg1))

def preserves_MixerC_MixerCIdeal : Prop :=
  IdealRules.named_const.Statement Cert.MixerCIdeal.κ "log2_scale" .f32 0x3E0293EE#32 (((Real.sqrt 128)⁻¹ * (Real.log 2)⁻¹ : ℝ) : EReal)

def algebraic_MixerCIdeal_MixerCReferenceIdeal_pre_finite_scores [hMixerCIdeal : Cert.MixerCIdeal.Facts] [hMixerCReferenceIdeal : Cert.MixerCReferenceIdeal.Facts] [hPre_finite_scores : Cert.Pre_finite_scores.Facts] : Prop :=
  ∀ (m : (ℓ : Loc Cert.MixerCIdeal.nD Cert.MixerCIdeal.τ Cert.MixerCIdeal.sig) → Buf (Elt Ideal) ℓ) (g : Dev Cert.MixerCIdeal.nD → PrngReg)
    (m' : (ℓ : Loc Cert.MixerCReferenceIdeal.nD Cert.MixerCReferenceIdeal.τ Cert.MixerCReferenceIdeal.sig) → Buf (Elt Ideal) ℓ) (g' : Dev Cert.MixerCReferenceIdeal.nD → PrngReg), Pre_MixerCIdeal_finite_scores m →
    (∀ c : Dev Cert.MixerCIdeal.nD,
      m' ((c.tc : Thread Cert.MixerCReferenceIdeal.nD Cert.MixerCReferenceIdeal.τ).loc Cert.MixerCReferenceIdeal.main_arg0) = m ((c.tc : Thread Cert.MixerCIdeal.nD Cert.MixerCIdeal.τ).loc Cert.MixerCIdeal.main_arg0)
      ∧ m' ((c.tc : Thread Cert.MixerCReferenceIdeal.nD Cert.MixerCReferenceIdeal.τ).loc Cert.MixerCReferenceIdeal.main_arg1) = m ((c.tc : Thread Cert.MixerCIdeal.nD Cert.MixerCIdeal.τ).loc Cert.MixerCIdeal.main_arg1)
      ∧ m' ((c.tc : Thread Cert.MixerCReferenceIdeal.nD Cert.MixerCReferenceIdeal.τ).loc Cert.MixerCReferenceIdeal.main_arg2) = m ((c.tc : Thread Cert.MixerCIdeal.nD Cert.MixerCIdeal.τ).loc Cert.MixerCIdeal.main_arg2)
      ∧ m' ((c.tc : Thread Cert.MixerCReferenceIdeal.nD Cert.MixerCReferenceIdeal.τ).loc Cert.MixerCReferenceIdeal.main_arg3) = m ((c.tc : Thread Cert.MixerCIdeal.nD Cert.MixerCIdeal.τ).loc Cert.MixerCIdeal.main_arg3)
      ∧ m' ((c.tc : Thread Cert.MixerCReferenceIdeal.nD Cert.MixerCReferenceIdeal.τ).loc Cert.MixerCReferenceIdeal.main_arg4) = m ((c.tc : Thread Cert.MixerCIdeal.nD Cert.MixerCIdeal.τ).loc Cert.MixerCIdeal.main_arg4)) →
    ∃ (v0 : (c : Dev Cert.MixerCIdeal.nD) → Buf (Elt Ideal) ((c.tc : Thread Cert.MixerCIdeal.nD Cert.MixerCIdeal.τ).loc Cert.MixerCIdeal.main_v0)),
      θ_run (Cert.MixerCIdeal.defs (F := Ideal)) (onTc (τ := Cert.MixerCIdeal.τ) (Cert.MixerCIdeal.main (F := Ideal))) ⟨m, fun _ => 0, g⟩ (fun r => ∀ c : Dev Cert.MixerCIdeal.nD,
          r.2.mem ((c.tc : Thread Cert.MixerCIdeal.nD Cert.MixerCIdeal.τ).loc Cert.MixerCIdeal.main_v0) = v0 c
          ∧ r.2.mem ((c.tc : Thread Cert.MixerCIdeal.nD Cert.MixerCIdeal.τ).loc Cert.MixerCIdeal.main_arg0) = m ((c.tc : Thread Cert.MixerCIdeal.nD Cert.MixerCIdeal.τ).loc Cert.MixerCIdeal.main_arg0)
          ∧ r.2.mem ((c.tc : Thread Cert.MixerCIdeal.nD Cert.MixerCIdeal.τ).loc Cert.MixerCIdeal.main_arg1) = m ((c.tc : Thread Cert.MixerCIdeal.nD Cert.MixerCIdeal.τ).loc Cert.MixerCIdeal.main_arg1)
          ∧ r.2.mem ((c.tc : Thread Cert.MixerCIdeal.nD Cert.MixerCIdeal.τ).loc Cert.MixerCIdeal.main_arg2) = m ((c.tc : Thread Cert.MixerCIdeal.nD Cert.MixerCIdeal.τ).loc Cert.MixerCIdeal.main_arg2)
          ∧ r.2.mem ((c.tc : Thread Cert.MixerCIdeal.nD Cert.MixerCIdeal.τ).loc Cert.MixerCIdeal.main_arg3) = m ((c.tc : Thread Cert.MixerCIdeal.nD Cert.MixerCIdeal.τ).loc Cert.MixerCIdeal.main_arg3)
          ∧ r.2.mem ((c.tc : Thread Cert.MixerCIdeal.nD Cert.MixerCIdeal.τ).loc Cert.MixerCIdeal.main_arg4) = m ((c.tc : Thread Cert.MixerCIdeal.nD Cert.MixerCIdeal.τ).loc Cert.MixerCIdeal.main_arg4))
      ∧ θ_run (Cert.MixerCReferenceIdeal.defs (F := Ideal)) (onTc (τ := Cert.MixerCReferenceIdeal.τ) (Cert.MixerCReferenceIdeal.main (F := Ideal))) ⟨m', fun _ => 0, g'⟩ (fun r => ∀ c : Dev Cert.MixerCReferenceIdeal.nD,
          r.2.mem ((c.tc : Thread Cert.MixerCReferenceIdeal.nD Cert.MixerCReferenceIdeal.τ).loc Cert.MixerCReferenceIdeal.main_v52) = v0 c
          ∧ r.2.mem ((c.tc : Thread Cert.MixerCReferenceIdeal.nD Cert.MixerCReferenceIdeal.τ).loc Cert.MixerCReferenceIdeal.main_arg0) = m' ((c.tc : Thread Cert.MixerCReferenceIdeal.nD Cert.MixerCReferenceIdeal.τ).loc Cert.MixerCReferenceIdeal.main_arg0)
          ∧ r.2.mem ((c.tc : Thread Cert.MixerCReferenceIdeal.nD Cert.MixerCReferenceIdeal.τ).loc Cert.MixerCReferenceIdeal.main_arg1) = m' ((c.tc : Thread Cert.MixerCReferenceIdeal.nD Cert.MixerCReferenceIdeal.τ).loc Cert.MixerCReferenceIdeal.main_arg1)
          ∧ r.2.mem ((c.tc : Thread Cert.MixerCReferenceIdeal.nD Cert.MixerCReferenceIdeal.τ).loc Cert.MixerCReferenceIdeal.main_arg2) = m' ((c.tc : Thread Cert.MixerCReferenceIdeal.nD Cert.MixerCReferenceIdeal.τ).loc Cert.MixerCReferenceIdeal.main_arg2)
          ∧ r.2.mem ((c.tc : Thread Cert.MixerCReferenceIdeal.nD Cert.MixerCReferenceIdeal.τ).loc Cert.MixerCReferenceIdeal.main_arg3) = m' ((c.tc : Thread Cert.MixerCReferenceIdeal.nD Cert.MixerCReferenceIdeal.τ).loc Cert.MixerCReferenceIdeal.main_arg3)
          ∧ r.2.mem ((c.tc : Thread Cert.MixerCReferenceIdeal.nD Cert.MixerCReferenceIdeal.τ).loc Cert.MixerCReferenceIdeal.main_arg4) = m' ((c.tc : Thread Cert.MixerCReferenceIdeal.nD Cert.MixerCReferenceIdeal.τ).loc Cert.MixerCReferenceIdeal.main_arg4))

def Claim : Prop :=
  ∃ (hKernel : Cert.Kernel.Facts) (hKernelIdeal : Cert.KernelIdeal.Facts) (hReferenceIdeal : Cert.ReferenceIdeal.Facts) (hRows : Cert.Rows.Facts) (hRowsIdeal : Cert.RowsIdeal.Facts) (hRowsReferenceIdeal : Cert.RowsReferenceIdeal.Facts) (hGates : Cert.Gates.Facts) (hGatesIdeal : Cert.GatesIdeal.Facts) (hGatesReferenceIdeal : Cert.GatesReferenceIdeal.Facts) (hValues : Cert.Values.Facts) (hValuesIdeal : Cert.ValuesIdeal.Facts) (hValuesReferenceIdeal : Cert.ValuesReferenceIdeal.Facts) (hOutProj : Cert.OutProj.Facts) (hOutProjIdeal : Cert.OutProjIdeal.Facts) (hOutProjReferenceIdeal : Cert.OutProjReferenceIdeal.Facts) (hOddRows : Cert.OddRows.Facts) (hOddRowsIdeal : Cert.OddRowsIdeal.Facts) (hOddRowsReferenceIdeal : Cert.OddRowsReferenceIdeal.Facts) (hOddGates : Cert.OddGates.Facts) (hOddGatesIdeal : Cert.OddGatesIdeal.Facts) (hOddGatesReferenceIdeal : Cert.OddGatesReferenceIdeal.Facts) (hOddValues : Cert.OddValues.Facts) (hOddValuesIdeal : Cert.OddValuesIdeal.Facts) (hOddValuesReferenceIdeal : Cert.OddValuesReferenceIdeal.Facts) (hOddQk : Cert.OddQk.Facts) (hOddQkIdeal : Cert.OddQkIdeal.Facts) (hOddQkReferenceIdeal : Cert.OddQkReferenceIdeal.Facts) (hMixerC : Cert.MixerC.Facts) (hMixerCIdeal : Cert.MixerCIdeal.Facts) (hMixerCReferenceIdeal : Cert.MixerCReferenceIdeal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Rows (hRows := hRows)
    ∧ quiescent_RowsIdeal (hRowsIdeal := hRowsIdeal)
    ∧ quiescent_RowsReferenceIdeal (hRowsReferenceIdeal := hRowsReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Values (hValues := hValues)
    ∧ quiescent_ValuesIdeal (hValuesIdeal := hValuesIdeal)
    ∧ quiescent_ValuesReferenceIdeal (hValuesReferenceIdeal := hValuesReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_OddRows (hOddRows := hOddRows)
    ∧ quiescent_OddRowsIdeal (hOddRowsIdeal := hOddRowsIdeal)
    ∧ quiescent_OddRowsReferenceIdeal (hOddRowsReferenceIdeal := hOddRowsReferenceIdeal)
    ∧ quiescent_OddGates (hOddGates := hOddGates)
    ∧ quiescent_OddGatesIdeal (hOddGatesIdeal := hOddGatesIdeal)
    ∧ quiescent_OddGatesReferenceIdeal (hOddGatesReferenceIdeal := hOddGatesReferenceIdeal)
    ∧ quiescent_OddValues (hOddValues := hOddValues)
    ∧ quiescent_OddValuesIdeal (hOddValuesIdeal := hOddValuesIdeal)
    ∧ quiescent_OddValuesReferenceIdeal (hOddValuesReferenceIdeal := hOddValuesReferenceIdeal)
    ∧ quiescent_OddQk (hOddQk := hOddQk)
    ∧ quiescent_OddQkIdeal (hOddQkIdeal := hOddQkIdeal)
    ∧ quiescent_OddQkReferenceIdeal (hOddQkReferenceIdeal := hOddQkReferenceIdeal)
    ∧ quiescent_MixerC (hMixerC := hMixerC)
    ∧ quiescent_MixerCIdeal (hMixerCIdeal := hMixerCIdeal)
    ∧ quiescent_MixerCIdeal_pre_finite_scores (hMixerCIdeal := hMixerCIdeal) (hPre_finite_scores := hPre_finite_scores)
    ∧ quiescent_MixerCReferenceIdeal (hMixerCReferenceIdeal := hMixerCReferenceIdeal)
    ∧ quiescent_MixerCReferenceIdeal_pre_finite_scores (hMixerCReferenceIdeal := hMixerCReferenceIdeal) (hPre_finite_scores := hPre_finite_scores)
    ∧ preserves_Kernel_KernelIdeal
    ∧ algebraic_KernelIdeal_ReferenceIdeal_pre_finite (hKernelIdeal := hKernelIdeal) (hReferenceIdeal := hReferenceIdeal) (hPre_finite := hPre_finite)
    ∧ preserves_Rows_RowsIdeal
    ∧ algebraic_RowsIdeal_RowsReferenceIdeal (hRowsIdeal := hRowsIdeal) (hRowsReferenceIdeal := hRowsReferenceIdeal)
    ∧ preserves_Gates_GatesIdeal
    ∧ algebraic_GatesIdeal_GatesReferenceIdeal (hGatesIdeal := hGatesIdeal) (hGatesReferenceIdeal := hGatesReferenceIdeal)
    ∧ preserves_Values_ValuesIdeal
    ∧ algebraic_ValuesIdeal_ValuesReferenceIdeal (hValuesIdeal := hValuesIdeal) (hValuesReferenceIdeal := hValuesReferenceIdeal)
    ∧ preserves_OutProj_OutProjIdeal
    ∧ algebraic_OutProjIdeal_OutProjReferenceIdeal (hOutProjIdeal := hOutProjIdeal) (hOutProjReferenceIdeal := hOutProjReferenceIdeal)
    ∧ preserves_OddRows_OddRowsIdeal
    ∧ algebraic_OddRowsIdeal_OddRowsReferenceIdeal (hOddRowsIdeal := hOddRowsIdeal) (hOddRowsReferenceIdeal := hOddRowsReferenceIdeal)
    ∧ preserves_OddGates_OddGatesIdeal
    ∧ algebraic_OddGatesIdeal_OddGatesReferenceIdeal (hOddGatesIdeal := hOddGatesIdeal) (hOddGatesReferenceIdeal := hOddGatesReferenceIdeal)
    ∧ preserves_OddValues_OddValuesIdeal
    ∧ algebraic_OddValuesIdeal_OddValuesReferenceIdeal (hOddValuesIdeal := hOddValuesIdeal) (hOddValuesReferenceIdeal := hOddValuesReferenceIdeal)
    ∧ preserves_OddQk_OddQkIdeal
    ∧ algebraic_OddQkIdeal_OddQkReferenceIdeal (hOddQkIdeal := hOddQkIdeal) (hOddQkReferenceIdeal := hOddQkReferenceIdeal)
    ∧ preserves_MixerC_MixerCIdeal
    ∧ algebraic_MixerCIdeal_MixerCReferenceIdeal_pre_finite_scores (hMixerCIdeal := hMixerCIdeal) (hMixerCReferenceIdeal := hMixerCReferenceIdeal) (hPre_finite_scores := hPre_finite_scores)
-- ==== Pre_finite.lean ====
abbrev S16384x8192 : Shape := ⟨2, ![16384, 8192]⟩
abbrev S16384x3072 : Shape := ⟨2, ![16384, 3072]⟩
abbrev S_ : Shape := ⟨0, ![]⟩

class Facts : Prop where
  slices_S16384x8192_S16384x3072_0_4096 : S16384x8192.Slices ![0, 4096] S16384x3072
  bcast_S_S16384x3072 : S_.BroadcastsInDim S16384x3072 (![] : Fin 0 → Fin S16384x3072.rank)
  reducesTo_S16384x3072_S_d0_1 : S16384x3072.ReducesTo [0, 1] S_
  h_S_ : 0 < S_.numel

variable [Facts]

def fn {F : FTy → Type} [FloatOps F] (main_arg0 : FVec F S16384x8192 .f32) : IVec S_ 1 :=
  let main_v0 : FVec F S16384x3072 .f32 := (extractStridedSlice S16384x3072 ![0, 4096] · slices_S16384x8192_S16384x3072_0_4096) main_arg0
  let main_v1 : FVec F S16384x3072 .f32 := Host.absf main_v0
  let main_cst : FVec F S_ .f32 := constant S_ .f32 0x7F800000#32
  let main_v2 : FVec F S16384x3072 .f32 := broadcastInDim S16384x3072 ![] bcast_S_S16384x3072 main_cst
  let main_v3 : IVec S16384x3072 1 := cmpf .olt main_v1 main_v2
  let main_c : IVec S_ 1 := constantI S_ 1 1#1
  let main_v4 : IVec S_ 1 := (fun x v => Host.reduce IntOp.andi x v reducesTo_S16384x3072_S_d0_1 h_S_) main_v3 main_c
  main_v4
-- ==== Pre_finite_scores.lean ====
abbrev S16384x2048 : Shape := ⟨2, ![16384, 2048]⟩
abbrev S16384x1024 : Shape := ⟨2, ![16384, 1024]⟩
abbrev S2048x16384 : Shape := ⟨2, ![2048, 16384]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_

variable [Facts]

def fn {F : FTy → Type} [FloatOps F] (main_arg0 : FVec F S16384x2048 .bf16) (main_arg1 : FVec F S16384x1024 .bf16) (main_arg2 : FVec F S16384x1024 .bf16) (main_arg3 : FVec F S2048x16384 .bf16) (main_arg4 : FVec F S16384x2048 .f32) : IVec S_ 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_c : IVec S_ 1 := constantI S_ 1 1#1
  let main_v4 : IVec S_ 1 := (fun x v => Host.reduce IntOp.andi x v reducesTo_S16384x2048_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : FVec F S16384x1024 .f32 := (extf .f32 · bitsLt_bf16_f32) main_arg2
  let main_v11 : FVec F S16384x1024 .f32 := Host.absf main_v10
  let main_cst_2 : FVec F S_ .f32 := constant S_ .f32 0x7F800000#32
  let main_v12 : FVec F S16384x1024 .f32 := broadcastInDim S16384x1024 ![] bcast_S_S16384x1024 main_cst_2
  let main_v13 : IVec S16384x1024 1 := cmpf .olt main_v11 main_v12
  let main_c_3 : IVec S_ 1 := constantI S_ 1 1#1
  let main_v14 : IVec S_ 1 := (fun x v => Host.reduce IntOp.andi x v reducesTo_S16384x1024_S_d0_1 h_S_) main_v13 main_c_3
  let main_v15 : IVec S_ 1 := andi main_v4 main_v9
  let main_v16 : IVec S_ 1 := andi main_v15 main_v14
  main_v16
-- ==== Kernel.lean ====
abbrev S16384x8192 : Shape := ⟨2, ![16384, 8192]⟩
abbrev S16384x1024 : Shape := ⟨2, ![16384, 1024]⟩
abbrev S16384x4096 : Shape := ⟨2, ![16384, 4096]⟩
abbrev S16384x2048 : Shape := ⟨2, ![16384, 2048]⟩
abbrev S2048x16384 : Shape := ⟨2, ![2048, 16384]⟩
abbrev S512x128 : Shape := ⟨2, ![512, 128]⟩
abbrev S16384x128 : Shape := ⟨2, ![16384, 128]⟩
abbrev S128x16384 : Shape := ⟨2, ![128, 16384]⟩
abbrev S128x512 : Shape := ⟨2, ![128, 512]⟩
abbrev S1x512 : Shape := ⟨2, ![1, 512]⟩
abbrev S256x512 : Shape := ⟨2, ![256, 512]⟩
abbrev S272x256 : Shape := ⟨2, ![272, 256]⟩
abbrev S256x128 : Shape := ⟨2, ![256, 128]⟩
abbrev S272x512 : Shape := ⟨2, ![272, 512]⟩
abbrev S128x256 : Shape := ⟨2, ![128, 256]⟩

abbrev nBuf : Space → Nat
  | .hbm => 16
  | .vmem => 18
  | .smem => 0
  | _ => 0

abbrev bufTy : (tb : Table) → Fin (tcTables nBuf tb) → BufTy
  | .hbm, ⟨0, _⟩ => ⟨S16384x8192, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x4096, .f32⟩
  | .hbm, ⟨6, _⟩ => ⟨S16384x4096, .bf16⟩
  | .hbm, ⟨7, _⟩ => ⟨S16384x1024, .f32⟩
  | .hbm, ⟨8, _⟩ => ⟨S16384x1024, .f32⟩
  | .hbm, ⟨9, _⟩ => ⟨S16384x2048, .f32⟩
  | .hbm, ⟨10, _⟩ => ⟨S16384x1024, .f32⟩
  | .hbm, ⟨11, _⟩ => ⟨S16384x1024, .f32⟩
  | .hbm, ⟨12, _⟩ => ⟨S16384x2048, .f32⟩
  | .hbm, ⟨13, _⟩ => ⟨S2048x16384, .f32⟩
  | .hbm, ⟨14, _⟩ => ⟨S2048x16384, .bf16⟩
  | .hbm, ⟨15, _⟩ => ⟨S16384x1024, .bf16⟩
  | .local _ .vmem, ⟨0, _⟩ => ⟨S512x128, .bf16⟩
  | .local _ .vmem, ⟨1, _⟩ => ⟨S512x128, .bf16⟩
  | .local _ .vmem, ⟨2, _⟩ => ⟨S16384x128, .bf16⟩
  | .local _ .vmem, ⟨3, _⟩ => ⟨S16384x128, .bf16⟩
  | .local _ .vmem, ⟨4, _⟩ => ⟨S128x16384, .bf16⟩
  | .local _ .vmem, ⟨5, _⟩ => ⟨S128x16384, .bf16⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | .local _ .vmem, ⟨10, _⟩ => ⟨S128x512, .f32⟩
  | .local _ .vmem, ⟨11, _⟩ => ⟨S1x512, .f32⟩
  | .local _ .vmem, ⟨12, _⟩ => ⟨S256x512, .f32⟩
  | .local _ .vmem, ⟨13, _⟩ => ⟨S256x512, .f32⟩
  | .local _ .vmem, ⟨14, _⟩ => ⟨S256x512, .bf16⟩
  | .local _ .vmem, ⟨15, _⟩ => ⟨S1x512, .f32⟩
  | .local _ .vmem, ⟨16, _⟩ => ⟨S256x512, .bf16⟩
  | .local _ .vmem, ⟨17, _⟩ => ⟨S1x512, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let c2_i32 : BitVec 32 := 2#32
  let arg1 : BitVec 32 := BitVec.ofNat 32 (i 1).val
  let v24 : BitVec 32 := Scalar.muli c2_i32 arg1
  let c1_i32 : BitVec 32 := 1#32
  let v25 : BitVec 32 := Scalar.addi v24 c1_i32
  let c256_i32_11 : BitVec 32 := 256#32
  let v29 : BitVec 32 := Scalar.muli v25 c256_i32_11
  v29
def k0_off1 (i : grid0.Coords) (c1_i32 : BitVec 32) : Fin 2 → Nat :=
  let c2_i32 : BitVec 32 := 2#32
  let arg1 : BitVec 32 := BitVec.ofNat 32 (i 1).val
  let v24 : BitVec 32 := Scalar.muli c2_i32 arg1
  let v25 : BitVec 32 := Scalar.addi v24 c1_i32
  let c256_i32_11 : BitVec 32 := 256#32
  let v29 : BitVec 32 := Scalar.muli v25 c256_i32_11
  let v30 : BitVec 32 := v29
  let v31 : Index := Scalar.indexCast v30
  let c0_12 : Index := 0#32
  ![v31.toNat, 0]
def k0_mult2 (i : grid0.Coords) : BitVec 32 :=
  let c2_i32_9 : BitVec 32 := 2#32
  let arg1 : BitVec 32 := BitVec.ofNat 32 (i 1).val
  let v26 : BitVec 32 := Scalar.muli c2_i32_9 arg1
  let c0_i32 : BitVec 32 := 0#32
  let v27 : BitVec 32 := Scalar.addi v26 c0_i32
  let c256_i32_16 : BitVec 32 := 256#32
  let v38 : BitVec 32 := Scalar.muli v27 c256_i32_16
  v38
def k0_mult3 (i : grid0.Coords) : BitVec 32 :=
  let c2_i32_44 : BitVec 32 := 2#32
  let arg1 : BitVec 32 := BitVec.ofNat 32 (i 1).val
  let v93 : BitVec 32 := Scalar.muli c2_i32_44 arg1
  let c0_i32_45 : BitVec 32 := 0#32
  let c2_i32_41 : BitVec 32 := 2#32
  let v90 : BitVec 32 := Scalar.muli c2_i32_41 arg1
  let c1_i32_42 : BitVec 32 := 1#32
  let v91 : BitVec 32 := Scalar.subi v90 c1_i32_42
  let c0_i32_43 : BitVec 32 := 0#32
  let v92 : BitVec 32 := Scalar.subi v91 c0_i32_43
  let v94 : BitVec 32 := Scalar.maxsi c0_i32_45 v92
  let v95 : BitVec 32 := Scalar.minsi v93 v94
  let c256_i32_46 : BitVec 32 := 256#32
  let v96 : BitVec 32 := Scalar.muli v95 c256_i32_46
  v96
def k0_off2 (i : grid0.Coords) : Fin 2 → Nat :=
  let c2_i32_44 : BitVec 32 := 2#32
  let arg1 : BitVec 32 := BitVec.ofNat 32 (i 1).val
  let v93 : BitVec 32 := Scalar.muli c2_i32_44 arg1
  let c0_i32_45 : BitVec 32 := 0#32
  let c2_i32_41 : BitVec 32 := 2#32
  let v90 : BitVec 32 := Scalar.muli c2_i32_41 arg1
  let c1_i32_42 : BitVec 32 := 1#32
  let v91 : BitVec 32 := Scalar.subi v90 c1_i32_42
  let c0_i32_43 : BitVec 32 := 0#32
  let v92 : BitVec 32 := Scalar.subi v91 c0_i32_43
  let v94 : BitVec 32 := Scalar.maxsi c0_i32_45 v92
  let v95 : BitVec 32 := Scalar.minsi v93 v94
  let c256_i32_46 : BitVec 32 := 256#32
  let v96 : BitVec 32 := Scalar.muli v95 c256_i32_46
  let v97 : BitVec 32 := v96
  let v98 : Index := Scalar.indexCast v97
  let c0_47 : Index := 0#32
  ![v98.toNat, 0]
def k0_mult4 (i : grid0.Coords) : BitVec 32 :=
  let c2_i32 : BitVec 32 := 2#32
  let arg1 : BitVec 32 := BitVec.ofNat 32 (i 1).val
  let v24 : BitVec 32 := Scalar.muli c2_i32 arg1
  let c1_i32 : BitVec 32 := 1#32
  let v25 : BitVec 32 := Scalar.addi v24 c1_i32
  let c256_i32_71 : BitVec 32 := 256#32
  let v148 : BitVec 32 := Scalar.muli v25 c256_i32_71
  v148
def k0_off3 (i : grid0.Coords) : Fin 2 → Nat :=
  let c0_76 : Index := 0#32
  let c2_i32 : BitVec 32 := 2#32
  let arg1 : BitVec 32 := BitVec.ofNat 32 (i 1).val
  let v24 : BitVec 32 := Scalar.muli c2_i32 arg1
  let c1_i32 : BitVec 32 := 1#32
  let v25 : BitVec 32 := Scalar.addi v24 c1_i32
  let c256_i32_71 : BitVec 32 := 256#32
  let v148 : BitVec 32 := Scalar.muli v25 c256_i32_71
  let v149 : BitVec 32 := v148
  let v152 : Index := Scalar.indexCast v149
  ![0, v152.toNat]
@[reducible] def k0_t1_loop (i : grid0.Coords) : Scf.Loop 32 :=
  let c0_i32_89 : BitVec 32 := 0#32
  let c2_i32_10 : BitVec 32 := 2#32
  let arg1 : BitVec 32 := BitVec.ofNat 32 (i 1).val
  let v28 : BitVec 32 := Scalar.muli c2_i32_10 arg1
  let c0_i32_82 : BitVec 32 := 0#32
  let v163 : BitVec 32 := Scalar.subi v28 c0_i32_82
  let c0_i32_83 : BitVec 32 := 0#32
  let v165 : BitVec 1 := Scalar.cmpi .sgt v163 c0_i32_83
  let v166 : BitVec 32 := Scalar.extui v165
  let c0_i32_84 : BitVec 32 := 0#32
  let v167 : BitVec 1 := Scalar.cmpi .slt v163 c0_i32_84
  let v168 : BitVec 32 := Scalar.extui v167
  let v169 : BitVec 32 := Scalar.subi v166 v168
  let c8_i32 : BitVec 32 := 8#32
  let c0_i32_85 : BitVec 32 := 0#32
  let v170 : BitVec 1 := Scalar.cmpi .sgt c8_i32 c0_i32_85
  let v171 : BitVec 32 := Scalar.extui v170
  let c0_i32_86 : BitVec 32 := 0#32
  let v172 : BitVec 1 := Scalar.cmpi .slt c8_i32 c0_i32_86
  let v173 : BitVec 32 := Scalar.extui v172
  let v174 : BitVec 32 := Scalar.subi v171 v173
  let v175 : BitVec 1 := Scalar.cmpi .ne v169 v174
  let v176 : BitVec 32 := Scalar.remsi v163 c8_i32
  let c0_i32_87 : BitVec 32 := 0#32
  let v177 : BitVec 1 := Scalar.cmpi .ne v176 c0_i32_87
  let v178 : BitVec 1 := Scalar.andi v175 v177
  let v164 : BitVec 32 := Scalar.divsi v163 c8_i32
  let c1_i32_88 : BitVec 32 := 1#32
  let v179 : BitVec 32 := Scalar.subi v164 c1_i32_88
  let v180 : BitVec 32 := Scalar.select v178 v179 v164
  let v181 : BitVec 32 := Scalar.subi v180 c0_i32_89
  let c1_i32_91 : BitVec 32 := 1#32
  let v183 : BitVec 32 := Scalar.divsi v181 c1_i32_91
  let v184 : BitVec 32 := Scalar.muli v183 c1_i32_91
  let v185 : BitVec 32 := Scalar.addi c0_i32_89 v184
  let c1_i32_92 : BitVec 32 := 1#32
  ⟨c0_i32_89, v185, c1_i32_92⟩
def k0_mult5 (i : grid0.Coords) (arg16 : BitVec 32) : BitVec 32 :=
  let c2_i32_152 : BitVec 32 := 2#32
  let arg1 : BitVec 32 := BitVec.ofNat 32 (i 1).val
  let v291 : BitVec 32 := Scalar.muli c2_i32_152 arg1
  let c0_i32_153 : BitVec 32 := 0#32
  let c2_i32_150 : BitVec 32 := 2#32
  let v288 : BitVec 32 := Scalar.muli c2_i32_150 arg1
  let c1_i32_151 : BitVec 32 := 1#32
  let v289 : BitVec 32 := Scalar.subi v288 c1_i32_151
  let c0_i32_138 : BitVec 32 := 0#32
  let v271 : BitVec 32 := Scalar.addi arg16 c0_i32_138
  let c1_i32_149 : BitVec 32 := 1#32
  let v287 : BitVec 32 := Scalar.addi v271 c1_i32_149
  let v290 : BitVec 32 := Scalar.subi v289 v287
  let v292 : BitVec 32 := Scalar.maxsi c0_i32_153 v290
  let v293 : BitVec 32 := Scalar.minsi v291 v292
  let c256_i32_154 : BitVec 32 := 256#32
  let v294 : BitVec 32 := Scalar.muli v293 c256_i32_154
  v294

def k0_off4 (i : grid0.Coords) (arg16 : BitVec 32) (c0_i32_138 : BitVec 32) : Fin 2 → Nat :=
  let c2_i32_152 : BitVec 32 := 2#32
  let arg1 : BitVec 32 := BitVec.ofNat 32 (i 1).val
  let v291 : BitVec 32 := Scalar.muli c2_i32_152 arg1
  let c0_i32_153 : BitVec 32 := 0#32
  let c2_i32_150 : BitVec 32 := 2#32
  let v288 : BitVec 32 := Scalar.muli c2_i32_150 arg1
  let c1_i32_151 : BitVec 32 := 1#32
  let v289 : BitVec 32 := Scalar.subi v288 c1_i32_151
  let v271 : BitVec 32 := Scalar.addi arg16 c0_i32_138
  let c1_i32_149 : BitVec 32 := 1#32
  let v287 : BitVec 32 := Scalar.addi v271 c1_i32_149
  let v290 : BitVec 32 := Scalar.subi v289 v287
  let v292 : BitVec 32 := Scalar.maxsi c0_i32_153 v290
  let v293 : BitVec 32 := Scalar.minsi v291 v292
  let c256_i32_154 : BitVec 32 := 256#32
  let v294 : BitVec 32 := Scalar.muli v293 c256_i32_154
  let v295 : BitVec 32 := v294
  let v296 : Index := Scalar.indexCast v295
  let c0_155 : Index := 0#32
  ![v296.toNat, 0]
def k0_mult6 (i : grid0.Coords) (arg16 : BitVec 32) : BitVec 32 :=
  let c0_i32_138 : BitVec 32 := 0#32
  let v271 : BitVec 32 := Scalar.addi arg16 c0_i32_138
  let c0_i32_143 : BitVec 32 := 0#32
  let v278 : BitVec 1 := Scalar.cmpi .eq v271 c0_i32_143
  let c2_i32_9 : BitVec 32 := 2#32
  let arg1 : BitVec 32 := BitVec.ofNat 32 (i 1).val
  let v26 : BitVec 32 := Scalar.muli c2_i32_9 arg1
  let c0_i32 : BitVec 32 := 0#32
  let v27 : BitVec 32 := Scalar.addi v26 c0_i32
  let c2_i32_147 : BitVec 32 := 2#32
  let v283 : BitVec 32 := Scalar.muli c2_i32_147 arg1
  let c0_i32_148 : BitVec 32 := 0#32
  let c2_i32_145 : BitVec 32 := 2#32
  let v280 : BitVec 32 := Scalar.muli c2_i32_145 arg1
  let c1_i32_146 : BitVec 32 := 1#32
  let v281 : BitVec 32 := Scalar.subi v280 c1_i32_146
  let c1_i32_144 : BitVec 32 := 1#32
  let v279 : BitVec 32 := Scalar.subi v271 c1_i32_144
  let v282 : BitVec 32 := Scalar.subi v281 v279
  let v284 : BitVec 32 := Scalar.maxsi c0_i32_148 v282
  let v285 : BitVec 32 := Scalar.minsi v283 v284
  let v286 : BitVec 32 := Scalar.select v278 v27 v285
  let c256_i32_176 : BitVec 32 := 256#32
  let v337 : BitVec 32 := Scalar.muli v286 c256_i32_176
  v337
def k0_off5 (i : grid0.Coords) (arg16 : BitVec 32) : Fin 2 → Nat :=
  let c0_181 : Index := 0#32
  let c0_i32_138 : BitVec 32 := 0#32
  let v271 : BitVec 32 := Scalar.addi arg16 c0_i32_138
  let c0_i32_143 : BitVec 32 := 0#32
  let v278 : BitVec 1 := Scalar.cmpi .eq v271 c0_i32_143
  let c2_i32_9 : BitVec 32 := 2#32
  let arg1 : BitVec 32 := BitVec.ofNat 32 (i 1).val
  let v26 : BitVec 32 := Scalar.muli c2_i32_9 arg1
  let c0_i32 : BitVec 32 := 0#32
  let v27 : BitVec 32 := Scalar.addi v26 c0_i32
  let c2_i32_147 : BitVec 32 := 2#32
  let v283 : BitVec 32 := Scalar.muli c2_i32_147 arg1
  let c0_i32_148 : BitVec 32 := 0#32
  let c2_i32_145 : BitVec 32 := 2#32
  let v280 : BitVec 32 := Scalar.muli c2_i32_145 arg1
  let c1_i32_146 : BitVec 32 := 1#32
  let v281 : BitVec 32 := Scalar.subi v280 c1_i32_146
  let c1_i32_144 : BitVec 32 := 1#32
  let v279 : BitVec 32 := Scalar.subi v271 c1_i32_144
  let v282 : BitVec 32 := Scalar.subi v281 v279
  let v284 : BitVec 32 := Scalar.maxsi c0_i32_148 v282
  let v285 : BitVec 32 := Scalar.minsi v283 v284
  let v286 : BitVec 32 := Scalar.select v278 v27 v285
  let c256_i32_176 : BitVec 32 := 256#32
  let v337 : BitVec 32 := Scalar.muli v286 c256_i32_176
  let v338 : BitVec 32 := v337
  let v341 : Index := Scalar.indexCast v338
  ![0, v341.toNat]
def k0_mult7 (i : grid0.Coords) (arg16 : BitVec 32) : BitVec 32 :=
  let c2_i32_200 : BitVec 32 := 2#32
  let arg1 : BitVec 32 := BitVec.ofNat 32 (i 1).val
  let v370 : BitVec 32 := Scalar.muli c2_i32_200 arg1
  let c0_i32_201 : BitVec 32 := 0#32
  let c2_i32_198 : BitVec 32 := 2#32
  let v367 : BitVec 32 := Scalar.muli c2_i32_198 arg1
  let c1_i32_199 : BitVec 32 := 1#32
  let v368 : BitVec 32 := Scalar.subi v367 c1_i32_199
  let c1_i32_187 : BitVec 32 := 1#32
  let v352 : BitVec 32 := Scalar.addi arg16 c1_i32_187
  let c1_i32_197 : BitVec 32 := 1#32
  let v366 : BitVec 32 := Scalar.addi v352 c1_i32_197
  let v369 : BitVec 32 := Scalar.subi v368 v366
  let v371 : BitVec 32 := Scalar.maxsi c0_i32_201 v369
  let v372 : BitVec 32 := Scalar.minsi v370 v371
  let c256_i32_202 : BitVec 32 := 256#32
  let v373 : BitVec 32 := Scalar.muli v372 c256_i32_202
  v373
def k0_mult8 (i : grid0.Coords) (arg16 : BitVec 32) : BitVec 32 :=
  let c2_i32_195 : BitVec 32 := 2#32
  let arg1 : BitVec 32 := BitVec.ofNat 32 (i 1).val
  let v363 : BitVec 32 := Scalar.muli c2_i32_195 arg1
  let c0_i32_196 : BitVec 32 := 0#32
  let c2_i32_193 : BitVec 32 := 2#32
  let v360 : BitVec 32 := Scalar.muli c2_i32_193 arg1
  let c1_i32_194 : BitVec 32 := 1#32
  let v361 : BitVec 32 := Scalar.subi v360 c1_i32_194
  let c1_i32_187 : BitVec 32 := 1#32
  let v352 : BitVec 32 := Scalar.addi arg16 c1_i32_187
  let c1_i32_192 : BitVec 32 := 1#32
  let v359 : BitVec 32 := Scalar.subi v352 c1_i32_192
  let v362 : BitVec 32 := Scalar.subi v361 v359
  let v364 : BitVec 32 := Scalar.maxsi c0_i32_196 v362
  let v365 : BitVec 32 := Scalar.minsi v363 v364
  let c256_i32_224 : BitVec 32 := 256#32
  let v416 : BitVec 32 := Scalar.muli v365 c256_i32_224
  v416
def k0_off6 (i : grid0.Coords) (arg16 : BitVec 32) (c1_i32_187 : BitVec 32) : Fin 2 → Nat :=
  let c0_229 : Index := 0#32
  let c2_i32_195 : BitVec 32 := 2#32
  let arg1 : BitVec 32 := BitVec.ofNat 32 (i 1).val
  let v363 : BitVec 32 := Scalar.muli c2_i32_195 arg1
  let c0_i32_196 : BitVec 32 := 0#32
  let c2_i32_193 : BitVec 32 := 2#32
  let v360 : BitVec 32 := Scalar.muli c2_i32_193 arg1
  let c1_i32_194 : BitVec 32 := 1#32
  let v361 : BitVec 32 := Scalar.subi v360 c1_i32_194
  let v352 : BitVec 32 := Scalar.addi arg16 c1_i32_187
  let c1_i32_192 : BitVec 32 := 1#32
  let v359 : BitVec 32 := Scalar.subi v352 c1_i32_192
  let v362 : BitVec 32 := Scalar.subi v361 v359
  let v364 : BitVec 32 := Scalar.maxsi c0_i32_196 v362
  let v365 : BitVec 32 := Scalar.minsi v363 v364
  let c256_i32_224 : BitVec 32 := 256#32
  let v416 : BitVec 32 := Scalar.muli v365 c256_i32_224
  let v417 : BitVec 32 := v416
  let v420 : Index := Scalar.indexCast v417
  ![0, v420.toNat]
def k0_mult9 (i : grid0.Coords) (arg16 : BitVec 32) : BitVec 32 :=
  let c2_i32_248 : BitVec 32 := 2#32
  let arg1 : BitVec 32 := BitVec.ofNat 32 (i 1).val
  let v449 : BitVec 32 := Scalar.muli c2_i32_248 arg1
  let c0_i32_249 : BitVec 32 := 0#32
  let c2_i32_246 : BitVec 32 := 2#32
  let v446 : BitVec 32 := Scalar.muli c2_i32_246 arg1
  let c1_i32_247 : BitVec 32 := 1#32
  let v447 : BitVec 32 := Scalar.subi v446 c1_i32_247
  let c2_i32_235 : BitVec 32 := 2#32
  let v431 : BitVec 32 := Scalar.addi arg16 c2_i32_235
  let c1_i32_245 : BitVec 32 := 1#32
  let v445 : BitVec 32 := Scalar.addi v431 c1_i32_245
  let v448 : BitVec 32 := Scalar.subi v447 v445
  let v450 : BitVec 32 := Scalar.maxsi c0_i32_249 v448
  let v451 : BitVec 32 := Scalar.minsi v449 v450
  let c256_i32_250 : BitVec 32 := 256#32
  let v452 : BitVec 32 := Scalar.muli v451 c256_i32_250
  v452
def k0_mult10 (i : grid0.Coords) (arg16 : BitVec 32) : BitVec 32 :=
  let c2_i32_243 : BitVec 32 := 2#32
  let arg1 : BitVec 32 := BitVec.ofNat 32 (i 1).val
  let v442 : BitVec 32 := Scalar.muli c2_i32_243 arg1
  let c0_i32_244 : BitVec 32 := 0#32
  let c2_i32_241 : BitVec 32 := 2#32
  let v439 : BitVec 32 := Scalar.muli c2_i32_241 arg1
  let c1_i32_242 : BitVec 32 := 1#32
  let v440 : BitVec 32 := Scalar.subi v439 c1_i32_242
  let c2_i32_235 : BitVec 32 := 2#32
  let v431 : BitVec 32 := Scalar.addi arg16 c2_i32_235
  let c1_i32_240 : BitVec 32 := 1#32
  let v438 : BitVec 32 := Scalar.subi v431 c1_i32_240
  let v441 : BitVec 32 := Scalar.subi v440 v438
  let v443 : BitVec 32 := Scalar.maxsi c0_i32_244 v441
  let v444 : BitVec 32 := Scalar.minsi v442 v443
  let c256_i32_272 : BitVec 32 := 256#32
  let v495 : BitVec 32 := Scalar.muli v444 c256_i32_272
  v495
def k0_mult11 (i : grid0.Coords) (arg16 : BitVec 32) : BitVec 32 :=
  let c2_i32_295 : BitVec 32 := 2#32
  let arg1 : BitVec 32 := BitVec.ofNat 32 (i 1).val
  let v528 : BitVec 32 := Scalar.muli c2_i32_295 arg1
  let c0_i32_296 : BitVec 32 := 0#32
  let c2_i32_293 : BitVec 32 := 2#32
  let v525 : BitVec 32 := Scalar.muli c2_i32_293 arg1
  let c1_i32_294 : BitVec 32 := 1#32
  let v526 : BitVec 32 := Scalar.subi v525 c1_i32_294
  let c3_i32 : BitVec 32 := 3#32
  let v510 : BitVec 32 := Scalar.addi arg16 c3_i32
  let c1_i32_292 : BitVec 32 := 1#32
  let v524 : BitVec 32 := Scalar.addi v510 c1_i32_292
  let v527 : BitVec 32 := Scalar.subi v526 v524
  let v529 : BitVec 32 := Scalar.maxsi c0_i32_296 v527
  let v530 : BitVec 32 := Scalar.minsi v528 v529
  let c256_i32_297 : BitVec 32 := 256#32
  let v531 : BitVec 32 := Scalar.muli v530 c256_i32_297
  v531
def k0_mult12 (i : grid0.Coords) (arg16 : BitVec 32) : BitVec 32 :=
  let c2_i32_290 : BitVec 32 := 2#32
  let arg1 : BitVec 32 := BitVec.ofNat 32 (i 1).val
  let v521 : BitVec 32 := Scalar.muli c2_i32_290 arg1
  let c0_i32_291 : BitVec 32 := 0#32
  let c2_i32_288 : BitVec 32 := 2#32
  let v518 : BitVec 32 := Scalar.muli c2_i32_288 arg1
  let c1_i32_289 : BitVec 32 := 1#32
  let v519 : BitVec 32 := Scalar.subi v518 c1_i32_289
  let c3_i32 : BitVec 32 := 3#32
  let v510 : BitVec 32 := Scalar.addi arg16 c3_i32
  let c1_i32_287 : BitVec 32 := 1#32
  let v517 : BitVec 32 := Scalar.subi v510 c1_i32_287
  let v520 : BitVec 32 := Scalar.subi v519 v517
  let v522 : BitVec 32 := Scalar.maxsi c0_i32_291 v520
  let v523 : BitVec 32 := Scalar.minsi v521 v522
  let c256_i32_319 : BitVec 32 := 256#32
  let v574 : BitVec 32 := Scalar.muli v523 c256_i32_319
  v574
def k0_mult13 (i : grid0.Coords) (arg16 : BitVec 32) : BitVec 32 :=
  let c2_i32_343 : BitVec 32 := 2#32
  let arg1 : BitVec 32 := BitVec.ofNat 32 (i 1).val
  let v607 : BitVec 32 := Scalar.muli c2_i32_343 arg1
  let c0_i32_344 : BitVec 32 := 0#32
  let c2_i32_341 : BitVec 32 := 2#32
  let v604 : BitVec 32 := Scalar.muli c2_i32_341 arg1
  let c1_i32_342 : BitVec 32 := 1#32
  let v605 : BitVec 32 := Scalar.subi v604 c1_i32_342
  let c4_i32_330 : BitVec 32 := 4#32
  let v589 : BitVec 32 := Scalar.addi arg16 c4_i32_330
  let c1_i32_340 : BitVec 32 := 1#32
  let v603 : BitVec 32 := Scalar.addi v589 c1_i32_340
  let v606 : BitVec 32 := Scalar.subi v605 v603
  let v608 : BitVec 32 := Scalar.maxsi c0_i32_344 v606
  let v609 : BitVec 32 := Scalar.minsi v607 v608
  let c256_i32_345 : BitVec 32 := 256#32
  let v610 : BitVec 32 := Scalar.muli v609 c256_i32_345
  v610
def k0_mult14 (i : grid0.Coords) (arg16 : BitVec 32) : BitVec 32 :=
  let c2_i32_338 : BitVec 32 := 2#32
  let arg1 : BitVec 32 := BitVec.ofNat 32 (i 1).val
  let v600 : BitVec 32 := Scalar.muli c2_i32_338 arg1
  let c0_i32_339 : BitVec 32 := 0#32
  let c2_i32_336 : BitVec 32 := 2#32
  let v597 : BitVec 32 := Scalar.muli c2_i32_336 arg1
  let c1_i32_337 : BitVec 32 := 1#32
  let v598 : BitVec 32 := Scalar.subi v597 c1_i32_337
  let c4_i32_330 : BitVec 32 := 4#32
  let v589 : BitVec 32 := Scalar.addi arg16 c4_i32_330
  let c1_i32_335 : BitVec 32 := 1#32
  let v596 : BitVec 32 := Scalar.subi v589 c1_i32_335
  let v599 : BitVec 32 := Scalar.subi v598 v596
  let v601 : BitVec 32 := Scalar.maxsi c0_i32_339 v599
  let v602 : BitVec 32 := Scalar.minsi v600 v601
  let c256_i32_367 : BitVec 32 := 256#32
  let v653 : BitVec 32 := Scalar.muli v602 c256_i32_367
  v653
def k0_mult15 (i : grid0.Coords) (arg16 : BitVec 32) : BitVec 32 :=
  let c2_i32_390 : BitVec 32 := 2#32
  let arg1 : BitVec 32 := BitVec.ofNat 32 (i 1).val
  let v686 : BitVec 32 := Scalar.muli c2_i32_390 arg1
  let c0_i32_391 : BitVec 32 := 0#32
  let c2_i32_388 : BitVec 32 := 2#32
  let v683 : BitVec 32 := Scalar.muli c2_i32_388 arg1
  let c1_i32_389 : BitVec 32 := 1#32
  let v684 : BitVec 32 := Scalar.subi v683 c1_i32_389
  let c5_i32 : BitVec 32 := 5#32
  let v668 : BitVec 32 := Scalar.addi arg16 c5_i32
  let c1_i32_387 : BitVec 32 := 1#32
  let v682 : BitVec 32 := Scalar.addi v668 c1_i32_387
  let v685 : BitVec 32 := Scalar.subi v684 v682
  let v687 : BitVec 32 := Scalar.maxsi c0_i32_391 v685
  let v688 : BitVec 32 := Scalar.minsi v686 v687
  let c256_i32_392 : BitVec 32 := 256#32
  let v689 : BitVec 32 := Scalar.muli v688 c256_i32_392
  v689
def k0_mult16 (i : grid0.Coords) (arg16 : BitVec 32) : BitVec 32 :=
  let c2_i32_385 : BitVec 32 := 2#32
  let arg1 : BitVec 32 := BitVec.ofNat 32 (i 1).val
  let v679 : BitVec 32 := Scalar.muli c2_i32_385 arg1
  let c0_i32_386 : BitVec 32 := 0#32
  let c2_i32_383 : BitVec 32 := 2#32
  let v676 : BitVec 32 := Scalar.muli c2_i32_383 arg1
  let c1_i32_384 : BitVec 32 := 1#32
  let v677 : BitVec 32 := Scalar.subi v676 c1_i32_384
  let c5_i32 : BitVec 32 := 5#32
  let v668 : BitVec 32 := Scalar.addi arg16 c5_i32
  let c1_i32_382 : BitVec 32 := 1#32
  let v675 : BitVec 32 := Scalar.subi v668 c1_i32_382
  let v678 : BitVec 32 := Scalar.subi v677 v675
  let v680 : BitVec 32 := Scalar.maxsi c0_i32_386 v678
  let v681 : BitVec 32 := Scalar.minsi v679 v680
  let c256_i32_414 : BitVec 32 := 256#32
  let v732 : BitVec 32 := Scalar.muli v681 c256_i32_414
  v732
def k0_mult17 (i : grid0.Coords) (arg16 : BitVec 32) : BitVec 32 :=
  let c2_i32_437 : BitVec 32 := 2#32
  let arg1 : BitVec 32 := BitVec.ofNat 32 (i 1).val
  let v765 : BitVec 32 := Scalar.muli c2_i32_437 arg1
  let c0_i32_438 : BitVec 32 := 0#32
  let c2_i32_435 : BitVec 32 := 2#32
  let v762 : BitVec 32 := Scalar.muli c2_i32_435 arg1
  let c1_i32_436 : BitVec 32 := 1#32
  let v763 : BitVec 32 := Scalar.subi v762 c1_i32_436
  let c6_i32 : BitVec 32 := 6#32
  let v747 : BitVec 32 := Scalar.addi arg16 c6_i32
  let c1_i32_434 : BitVec 32 := 1#32
  let v761 : BitVec 32 := Scalar.addi v747 c1_i32_434
  let v764 : BitVec 32 := Scalar.subi v763 v761
  let v766 : BitVec 32 := Scalar.maxsi c0_i32_438 v764
  let v767 : BitVec 32 := Scalar.minsi v765 v766
  let c256_i32_439 : BitVec 32 := 256#32
  let v768 : BitVec 32 := Scalar.muli v767 c256_i32_439
  v768
def k0_mult18 (i : grid0.Coords) (arg16 : BitVec 32) : BitVec 32 :=
  let c2_i32_432 : BitVec 32 := 2#32
  let arg1 : BitVec 32 := BitVec.ofNat 32 (i 1).val
  let v758 : BitVec 32 := Scalar.muli c2_i32_432 arg1
  let c0_i32_433 : BitVec 32 := 0#32
  let c2_i32_430 : BitVec 32 := 2#32
  let v755 : BitVec 32 := Scalar.muli c2_i32_430 arg1
  let c1_i32_431 : BitVec 32 := 1#32
  let v756 : BitVec 32 := Scalar.subi v755 c1_i32_431
  let c6_i32 : BitVec 32 := 6#32
  let v747 : BitVec 32 := Scalar.addi arg16 c6_i32
  let c1_i32_429 : BitVec 32 := 1#32
  let v754 : BitVec 32 := Scalar.subi v747 c1_i32_429
  let v757 : BitVec 32 := Scalar.subi v756 v754
  let v759 : BitVec 32 := Scalar.maxsi c0_i32_433 v757
  let v760 : BitVec 32 := Scalar.minsi v758 v759
  let c256_i32_461 : BitVec 32 := 256#32
  let v811 : BitVec 32 := Scalar.muli v760 c256_i32_461
  v811
def k0_mult19 (i : grid0.Coords) (arg16 : BitVec 32) : BitVec 32 :=
  let c2_i32_484 : BitVec 32 := 2#32
  let arg1 : BitVec 32 := BitVec.ofNat 32 (i 1).val
  let v844 : BitVec 32 := Scalar.muli c2_i32_484 arg1
  let c0_i32_485 : BitVec 32 := 0#32
  let c2_i32_482 : BitVec 32 := 2#32
  let v841 : BitVec 32 := Scalar.muli c2_i32_482 arg1
  let c1_i32_483 : BitVec 32 := 1#32
  let v842 : BitVec 32 := Scalar.subi v841 c1_i32_483
  let c7_i32 : BitVec 32 := 7#32
  let v826 : BitVec 32 := Scalar.addi arg16 c7_i32
  let c1_i32_481 : BitVec 32 := 1#32
  let v840 : BitVec 32 := Scalar.addi v826 c1_i32_481
  let v843 : BitVec 32 := Scalar.subi v842 v840
  let v845 : BitVec 32 := Scalar.maxsi c0_i32_485 v843
  let v846 : BitVec 32 := Scalar.minsi v844 v845
  let c256_i32_486 : BitVec 32 := 256#32
  let v847 : BitVec 32 := Scalar.muli v846 c256_i32_486
  v847
def k0_mult20 (i : grid0.Coords) (arg16 : BitVec 32) : BitVec 32 :=
  let c2_i32_479 : BitVec 32 := 2#32
  let arg1 : BitVec 32 := BitVec.ofNat 32 (i 1).val
  let v837 : BitVec 32 := Scalar.muli c2_i32_479 arg1
  let c0_i32_480 : BitVec 32 := 0#32
  let c2_i32_477 : BitVec 32 := 2#32
  let v834 : BitVec 32 := Scalar.muli c2_i32_477 arg1
  let c1_i32_478 : BitVec 32 := 1#32
  let v835 : BitVec 32 := Scalar.subi v834 c1_i32_478
  let c7_i32 : BitVec 32 := 7#32
  let v826 : BitVec 32 := Scalar.addi arg16 c7_i32
  let c1_i32_476 : BitVec 32 := 1#32
  let v833 : BitVec 32 := Scalar.subi v826 c1_i32_476
  let v836 : BitVec 32 := Scalar.subi v835 v833
  let v838 : BitVec 32 := Scalar.maxsi c0_i32_480 v836
  let v839 : BitVec 32 := Scalar.minsi v837 v838
  let c256_i32_508 : BitVec 32 := 256#32
  let v890 : BitVec 32 := Scalar.muli v839 c256_i32_508
  v890

def k0_chk1 (i : grid0.Coords) (k0_t1 : Fin (k0_t1_loop i).trips) (arg16 : BitVec 32) : Prop :=
  (256 ∣ (k0_mult5 i arg16).toNat) ∧
  (∀ (r : Fin 8), ∀ a, (k0_off4 i arg16 (BitVec.ofNat 32 r.val)) a + S256x128.size a ≤ S16384x128.size a) ∧
  (256 ∣ (k0_mult6 i arg16).toNat) ∧
  (∀ a, (k0_off5 i arg16) a + S128x256.size a ≤ S128x16384.size a) ∧
  (256 ∣ (k0_mult7 i arg16).toNat) ∧
  (256 ∣ (k0_mult8 i arg16).toNat) ∧
  (∀ (r : Fin 7), ∀ a, (k0_off6 i arg16 (BitVec.ofNat 32 (1 + r.val))) a + S128x256.size a ≤ S128x16384.size a) ∧
  (256 ∣ (k0_mult9 i arg16).toNat) ∧
  (256 ∣ (k0_mult10 i arg16).toNat) ∧
  (256 ∣ (k0_mult11 i arg16).toNat) ∧
  (256 ∣ (k0_mult12 i arg16).toNat) ∧
  (256 ∣ (k0_mult13 i arg16).toNat) ∧
  (256 ∣ (k0_mult14 i arg16).toNat) ∧
  (256 ∣ (k0_mult15 i arg16).toNat) ∧
  (256 ∣ (k0_mult16 i arg16).toNat) ∧
  (256 ∣ (k0_mult17 i arg16).toNat) ∧
  (256 ∣ (k0_mult18 i arg16).toNat) ∧
  (256 ∣ (k0_mult19 i arg16).toNat) ∧
  (256 ∣ (k0_mult20 i arg16).toNat)
theorem k0_mult5_dvd : ∀ (i : grid0.Coords) (k0_t1 : Fin (k0_t1_loop i).trips) (arg16 : BitVec 32) (k0_hw1 : k0_chk1 i k0_t1 arg16), 256 ∣ (k0_mult5 i arg16).toNat := fun i k0_t1 arg16 k0_hw1 => k0_hw1.1
theorem k0_off4_inb : ∀ (i : grid0.Coords) (k0_t1 : Fin (k0_t1_loop i).trips) (arg16 : BitVec 32) (k0_hw1 : k0_chk1 i k0_t1 arg16), ∀ (r : Fin 8), ∀ a, (k0_off4 i arg16 (BitVec.ofNat 32 r.val)) a + S256x128.size a ≤ S16384x128.size a := fun i k0_t1 arg16 k0_hw1 r => k0_hw1.2.1 r
theorem k0_mult6_dvd : ∀ (i : grid0.Coords) (k0_t1 : Fin (k0_t1_loop i).trips) (arg16 : BitVec 32) (k0_hw1 : k0_chk1 i k0_t1 arg16), 256 ∣ (k0_mult6 i arg16).toNat := fun i k0_t1 arg16 k0_hw1 => k0_hw1.2.2.1
theorem k0_off5_inb : ∀ (i : grid0.Coords) (k0_t1 : Fin (k0_t1_loop i).trips) (arg16 : BitVec 32) (k0_hw1 : k0_chk1 i k0_t1 arg16), ∀ a, (k0_off5 i arg16) a + S128x256.size a ≤ S128x16384.size a := fun i k0_t1 arg16 k0_hw1 => k0_hw1.2.2.2.1
theorem k0_mult7_dvd : ∀ (i : grid0.Coords) (k0_t1 : Fin (k0_t1_loop i).trips) (arg16 : BitVec 32) (k0_hw1 : k0_chk1 i k0_t1 arg16), 256 ∣ (k0_mult7 i arg16).toNat := fun i k0_t1 arg16 k0_hw1 => k0_hw1.2.2.2.2.1
theorem k0_mult8_dvd : ∀ (i : grid0.Coords) (k0_t1 : Fin (k0_t1_loop i).trips) (arg16 : BitVec 32) (k0_hw1 : k0_chk1 i k0_t1 arg16), 256 ∣ (k0_mult8 i arg16).toNat := fun i k0_t1 arg16 k0_hw1 => k0_hw1.2.2.2.2.2.1
theorem k0_off6_inb : ∀ (i : grid0.Coords) (k0_t1 : Fin (k0_t1_loop i).trips) (arg16 : BitVec 32) (k0_hw1 : k0_chk1 i k0_t1 arg16), ∀ (r : Fin 7), ∀ a, (k0_off6 i arg16 (BitVec.ofNat 32 (1 + r.val))) a + S128x256.size a ≤ S128x16384.size a := fun i k0_t1 arg16 k0_hw1 r => k0_hw1.2.2.2.2.2.2.1 r
theorem k0_mult9_dvd : ∀ (i : grid0.Coords) (k0_t1 : Fin (k0_t1_loop i).trips) (arg16 : BitVec 32) (k0_hw1 : k0_chk1 i k0_t1 arg16), 256 ∣ (k0_mult9 i arg16).toNat := fun i k0_t1 arg16 k0_hw1 => k0_hw1.2.2.2.2.2.2.2.1
theorem k0_mult10_dvd : ∀ (i : grid0.Coords) (k0_t1 : Fin (k0_t1_loop i).trips) (arg16 : BitVec 32) (k0_hw1 : k0_chk1 i k0_t1 arg16), 256 ∣ (k0_mult10 i arg16).toNat := fun i k0_t1 arg16 k0_hw1 => k0_hw1.2.2.2.2.2.2.2.2.1
theorem k0_mult11_dvd : ∀ (i : grid0.Coords) (k0_t1 : Fin (k0_t1_loop i).trips) (arg16 : BitVec 32) (k0_hw1 : k0_chk1 i k0_t1 arg16), 256 ∣ (k0_mult11 i arg16).toNat := fun i k0_t1 arg16 k0_hw1 => k0_hw1.2.2.2.2.2.2.2.2.2.1
theorem k0_mult12_dvd : ∀ (i : grid0.Coords) (k0_t1 : Fin (k0_t1_loop i).trips) (arg16 : BitVec 32) (k0_hw1 : k0_chk1 i k0_t1 arg16), 256 ∣ (k0_mult12 i arg16).toNat := fun i k0_t1 arg16 k0_hw1 => k0_hw1.2.2.2.2.2.2.2.2.2.2.1
theorem k0_mult13_dvd : ∀ (i : grid0.Coords) (k0_t1 : Fin (k0_t1_loop i).trips) (arg16 : BitVec 32) (k0_hw1 : k0_chk1 i k0_t1 arg16), 256 ∣ (k0_mult13 i arg16).toNat := fun i k0_t1 arg16 k0_hw1 => k0_hw1.2.2.2.2.2.2.2.2.2.2.2.1
theorem k0_mult14_dvd : ∀ (i : grid0.Coords) (k0_t1 : Fin (k0_t1_loop i).trips) (arg16 : BitVec 32) (k0_hw1 : k0_chk1 i k0_t1 arg16), 256 ∣ (k0_mult14 i arg16).toNat := fun i k0_t1 arg16 k0_hw1 => k0_hw1.2.2.2.2.2.2.2.2.2.2.2.2.1
theorem k0_mult15_dvd : ∀ (i : grid0.Coords) (k0_t1 : Fin (k0_t1_loop i).trips) (arg16 : BitVec 32) (k0_hw1 : k0_chk1 i k0_t1 arg16), 256 ∣ (k0_mult15 i arg16).toNat := fun i k0_t1 arg16 k0_hw1 => k0_hw1.2.2.2.2.2.2.2.2.2.2.2.2.2.1
theorem k0_mult16_dvd : ∀ (i : grid0.Coords) (k0_t1 : Fin (k0_t1_loop i).trips) (arg16 : BitVec 32) (k0_hw1 : k0_chk1 i k0_t1 arg16), 256 ∣ (k0_mult16 i arg16).toNat := fun i k0_t1 arg16 k0_hw1 => k0_hw1.2.2.2.2.2.2.2.2.2.2.2.2.2.2.1
theorem k0_mult17_dvd : ∀ (i : grid0.Coords) (k0_t1 : Fin (k0_t1_loop i).trips) (arg16 : BitVec 32) (k0_hw1 : k0_chk1 i k0_t1 arg16), 256 ∣ (k0_mult17 i arg16).toNat := fun i k0_t1 arg16 k0_hw1 => k0_hw1.2.2.2.2.2.2.2.2.2.2.2.2.2.2.2.1
theorem k0_mult18_dvd : ∀ (i : grid0.Coords) (k0_t1 : Fin (k0_t1_loop i).trips) (arg16 : BitVec 32) (k0_hw1 : k0_chk1 i k0_t1 arg16), 256 ∣ (k0_mult18 i arg16).toNat := fun i k0_t1 arg16 k0_hw1 => k0_hw1.2.2.2.2.2.2.2.2.2.2.2.2.2.2.2.2.1
theorem k0_mult19_dvd : ∀ (i : grid0.Coords) (k0_t1 : Fin (k0_t1_loop i).trips) (arg16 : BitVec 32) (k0_hw1 : k0_chk1 i k0_t1 arg16), 256 ∣ (k0_mult19 i arg16).toNat := fun i k0_t1 arg16 k0_hw1 => k0_hw1.2.2.2.2.2.2.2.2.2.2.2.2.2.2.2.2.2.1
theorem k0_mult20_dvd : ∀ (i : grid0.Coords) (k0_t1 : Fin (k0_t1_loop i).trips) (arg16 : BitVec 32) (k0_hw1 : k0_chk1 i k0_t1 arg16), 256 ∣ (k0_mult20 i arg16).toNat := fun i k0_t1 arg16 k0_hw1 => k0_hw1.2.2.2.2.2.2.2.2.2.2.2.2.2.2.2.2.2.2

@[reducible] def k0_t2_loop (i : grid0.Coords) : Scf.Loop 32 :=
  let c0_i32_89 : BitVec 32 := 0#32
  let c2_i32_10 : BitVec 32 := 2#32
  let arg1 : BitVec 32 := BitVec.ofNat 32 (i 1).val
  let v28 : BitVec 32 := Scalar.muli c2_i32_10 arg1
  let c0_i32_82 : BitVec 32 := 0#32
  let v163 : BitVec 32 := Scalar.subi v28 c0_i32_82
  let c0_i32_83 : BitVec 32 := 0#32
  let v165 : BitVec 1 := Scalar.cmpi .sgt v163 c0_i32_83
  let v166 : BitVec 32 := Scalar.extui v165
  let c0_i32_84 : BitVec 32 := 0#32
  let v167 : BitVec 1 := Scalar.cmpi .slt v163 c0_i32_84
  let v168 : BitVec 32 := Scalar.extui v167
  let v169 : BitVec 32 := Scalar.subi v166 v168
  let c8_i32 : BitVec 32 := 8#32
  let c0_i32_85 : BitVec 32 := 0#32
  let v170 : BitVec 1 := Scalar.cmpi .sgt c8_i32 c0_i32_85
  let v171 : BitVec 32 := Scalar.extui v170
  let c0_i32_86 : BitVec 32 := 0#32
  let v172 : BitVec 1 := Scalar.cmpi .slt c8_i32 c0_i32_86
  let v173 : BitVec 32 := Scalar.extui v172
  let v174 : BitVec 32 := Scalar.subi v171 v173
  let v175 : BitVec 1 := Scalar.cmpi .ne v169 v174
  let v176 : BitVec 32 := Scalar.remsi v163 c8_i32
  let c0_i32_87 : BitVec 32 := 0#32
  let v177 : BitVec 1 := Scalar.cmpi .ne v176 c0_i32_87
  let v178 : BitVec 1 := Scalar.andi v175 v177
  let v164 : BitVec 32 := Scalar.divsi v163 c8_i32
  let c1_i32_88 : BitVec 32 := 1#32
  let v179 : BitVec 32 := Scalar.subi v164 c1_i32_88
  let v180 : BitVec 32 := Scalar.select v178 v179 v164
  let v181 : BitVec 32 := Scalar.subi v180 c0_i32_89
  let c1_i32_91 : BitVec 32 := 1#32
  let v183 : BitVec 32 := Scalar.divsi v181 c1_i32_91
  let v184 : BitVec 32 := Scalar.muli v183 c1_i32_91
  let v185 : BitVec 32 := Scalar.addi c0_i32_89 v184
  let v182 : BitVec 32 := Scalar.addi c0_i32_89 v181
  let c1_i32_93 : BitVec 32 := 1#32
  ⟨v185, v182, c1_i32_93⟩
def k0_mult21 (i : grid0.Coords) (arg16 : BitVec 32) : BitVec 32 :=
  let c2_i32_152 : BitVec 32 := 2#32
  let arg1 : BitVec 32 := BitVec.ofNat 32 (i 1).val
  let v291 : BitVec 32 := Scalar.muli c2_i32_152 arg1
  let c0_i32_153 : BitVec 32 := 0#32
  let c2_i32_150 : BitVec 32 := 2#32
  let v288 : BitVec 32 := Scalar.muli c2_i32_150 arg1
  let c1_i32_151 : BitVec 32 := 1#32
  let v289 : BitVec 32 := Scalar.subi v288 c1_i32_151
  let c0_i32_138 : BitVec 32 := 0#32
  let v271 : BitVec 32 := Scalar.addi arg16 c0_i32_138
  let c1_i32_149 : BitVec 32 := 1#32
  let v287 : BitVec 32 := Scalar.addi v271 c1_i32_149
  let v290 : BitVec 32 := Scalar.subi v289 v287
  let v292 : BitVec 32 := Scalar.maxsi c0_i32_153 v290
  let v293 : BitVec 32 := Scalar.minsi v291 v292
  let c256_i32_154 : BitVec 32 := 256#32
  let v294 : BitVec 32 := Scalar.muli v293 c256_i32_154
  v294

def k0_off7 (i : grid0.Coords) (arg16 : BitVec 32) (c0_i32_138 : BitVec 32) : Fin 2 → Nat :=
  let c2_i32_152 : BitVec 32 := 2#32
  let arg1 : BitVec 32 := BitVec.ofNat 32 (i 1).val
  let v291 : BitVec 32 := Scalar.muli c2_i32_152 arg1
  let c0_i32_153 : BitVec 32 := 0#32
  let c2_i32_150 : BitVec 32 := 2#32
  let v288 : BitVec 32 := Scalar.muli c2_i32_150 arg1
  let c1_i32_151 : BitVec 32 := 1#32
  let v289 : BitVec 32 := Scalar.subi v288 c1_i32_151
  let v271 : BitVec 32 := Scalar.addi arg16 c0_i32_138
  let c1_i32_149 : BitVec 32 := 1#32
  let v287 : BitVec 32 := Scalar.addi v271 c1_i32_149
  let v290 : BitVec 32 := Scalar.subi v289 v287
  let v292 : BitVec 32 := Scalar.maxsi c0_i32_153 v290
  let v293 : BitVec 32 := Scalar.minsi v291 v292
  let c256_i32_154 : BitVec 32 := 256#32
  let v294 : BitVec 32 := Scalar.muli v293 c256_i32_154
  let v295 : BitVec 32 := v294
  let v296 : Index := Scalar.indexCast v295
  let c0_155 : Index := 0#32
  ![v296.toNat, 0]
def k0_mult22 (i : grid0.Coords) (arg16 : BitVec 32) : BitVec 32 :=
  let c0_i32_138 : BitVec 32 := 0#32
  let v271 : BitVec 32 := Scalar.addi arg16 c0_i32_138
  let c0_i32_143 : BitVec 32 := 0#32
  let v278 : BitVec 1 := Scalar.cmpi .eq v271 c0_i32_143
  let c2_i32_9 : BitVec 32 := 2#32
  let arg1 : BitVec 32 := BitVec.ofNat 32 (i 1).val
  let v26 : BitVec 32 := Scalar.muli c2_i32_9 arg1
  let c0_i32 : BitVec 32 := 0#32
  let v27 : BitVec 32 := Scalar.addi v26 c0_i32
  let c2_i32_147 : BitVec 32 := 2#32
  let v283 : BitVec 32 := Scalar.muli c2_i32_147 arg1
  let c0_i32_148 : BitVec 32 := 0#32
  let c2_i32_145 : BitVec 32 := 2#32
  let v280 : BitVec 32 := Scalar.muli c2_i32_145 arg1
  let c1_i32_146 : BitVec 32 := 1#32
  let v281 : BitVec 32 := Scalar.subi v280 c1_i32_146
  let c1_i32_144 : BitVec 32 := 1#32
  let v279 : BitVec 32 := Scalar.subi v271 c1_i32_144
  let v282 : BitVec 32 := Scalar.subi v281 v279
  let v284 : BitVec 32 := Scalar.maxsi c0_i32_148 v282
  let v285 : BitVec 32 := Scalar.minsi v283 v284
  let v286 : BitVec 32 := Scalar.select v278 v27 v285
  let c256_i32_176 : BitVec 32 := 256#32
  let v337 : BitVec 32 := Scalar.muli v286 c256_i32_176
  v337
def k0_off8 (i : grid0.Coords) (arg16 : BitVec 32) : Fin 2 → Nat :=
  let c0_181 : Index := 0#32
  let c0_i32_138 : BitVec 32 := 0#32
  let v271 : BitVec 32 := Scalar.addi arg16 c0_i32_138
  let c0_i32_143 : BitVec 32 := 0#32
  let v278 : BitVec 1 := Scalar.cmpi .eq v271 c0_i32_143
  let c2_i32_9 : BitVec 32 := 2#32
  let arg1 : BitVec 32 := BitVec.ofNat 32 (i 1).val
  let v26 : BitVec 32 := Scalar.muli c2_i32_9 arg1
  let c0_i32 : BitVec 32 := 0#32
  let v27 : BitVec 32 := Scalar.addi v26 c0_i32
  let c2_i32_147 : BitVec 32 := 2#32
  let v283 : BitVec 32 := Scalar.muli c2_i32_147 arg1
  let c0_i32_148 : BitVec 32 := 0#32
  let c2_i32_145 : BitVec 32 := 2#32
  let v280 : BitVec 32 := Scalar.muli c2_i32_145 arg1
  let c1_i32_146 : BitVec 32 := 1#32
  let v281 : BitVec 32 := Scalar.subi v280 c1_i32_146
  let c1_i32_144 : BitVec 32 := 1#32
  let v279 : BitVec 32 := Scalar.subi v271 c1_i32_144
  let v282 : BitVec 32 := Scalar.subi v281 v279
  let v284 : BitVec 32 := Scalar.maxsi c0_i32_148 v282
  let v285 : BitVec 32 := Scalar.minsi v283 v284
  let v286 : BitVec 32 := Scalar.select v278 v27 v285
  let c256_i32_176 : BitVec 32 := 256#32
  let v337 : BitVec 32 := Scalar.muli v286 c256_i32_176
  let v338 : BitVec 32 := v337
  let v341 : Index := Scalar.indexCast v338
  ![0, v341.toNat]
def k0_mult23 (i : grid0.Coords) (arg16 : BitVec 32) : BitVec 32 :=
  let c2_i32_200 : BitVec 32 := 2#32
  let arg1 : BitVec 32 := BitVec.ofNat 32 (i 1).val
  let v370 : BitVec 32 := Scalar.muli c2_i32_200 arg1
  let c0_i32_201 : BitVec 32 := 0#32
  let c2_i32_198 : BitVec 32 := 2#32
  let v367 : BitVec 32 := Scalar.muli c2_i32_198 arg1
  let c1_i32_199 : BitVec 32 := 1#32
  let v368 : BitVec 32 := Scalar.subi v367 c1_i32_199
  let c1_i32_187 : BitVec 32 := 1#32
  let v352 : BitVec 32 := Scalar.addi arg16 c1_i32_187
  let c1_i32_197 : BitVec 32 := 1#32
  let v366 : BitVec 32 := Scalar.addi v352 c1_i32_197
  let v369 : BitVec 32 := Scalar.subi v368 v366
  let v371 : BitVec 32 := Scalar.maxsi c0_i32_201 v369
  let v372 : BitVec 32 := Scalar.minsi v370 v371
  let c256_i32_202 : BitVec 32 := 256#32
  let v373 : BitVec 32 := Scalar.muli v372 c256_i32_202
  v373
def k0_mult24 (i : grid0.Coords) (arg16 : BitVec 32) : BitVec 32 :=
  let c2_i32_195 : BitVec 32 := 2#32
  let arg1 : BitVec 32 := BitVec.ofNat 32 (i 1).val
  let v363 : BitVec 32 := Scalar.muli c2_i32_195 arg1
  let c0_i32_196 : BitVec 32 := 0#32
  let c2_i32_193 : BitVec 32 := 2#32
  let v360 : BitVec 32 := Scalar.muli c2_i32_193 arg1
  let c1_i32_194 : BitVec 32 := 1#32
  let v361 : BitVec 32 := Scalar.subi v360 c1_i32_194
  let c1_i32_187 : BitVec 32 := 1#32
  let v352 : BitVec 32 := Scalar.addi arg16 c1_i32_187
  let c1_i32_192 : BitVec 32 := 1#32
  let v359 : BitVec 32 := Scalar.subi v352 c1_i32_192
  let v362 : BitVec 32 := Scalar.subi v361 v359
  let v364 : BitVec 32 := Scalar.maxsi c0_i32_196 v362
  let v365 : BitVec 32 := Scalar.minsi v363 v364
  let c256_i32_224 : BitVec 32 := 256#32
  let v416 : BitVec 32 := Scalar.muli v365 c256_i32_224
  v416
def k0_off9 (i : grid0.Coords) (arg16 : BitVec 32) (c1_i32_187 : BitVec 32) : Fin 2 → Nat :=
  let c0_229 : Index := 0#32
  let c2_i32_195 : BitVec 32 := 2#32
  let arg1 : BitVec 32 := BitVec.ofNat 32 (i 1).val
  let v363 : BitVec 32 := Scalar.muli c2_i32_195 arg1
  let c0_i32_196 : BitVec 32 := 0#32
  let c2_i32_193 : BitVec 32 := 2#32
  let v360 : BitVec 32 := Scalar.muli c2_i32_193 arg1
  let c1_i32_194 : BitVec 32 := 1#32
  let v361 : BitVec 32 := Scalar.subi v360 c1_i32_194
  let v352 : BitVec 32 := Scalar.addi arg16 c1_i32_187
  let c1_i32_192 : BitVec 32 := 1#32
  let v359 : BitVec 32 := Scalar.subi v352 c1_i32_192
  let v362 : BitVec 32 := Scalar.subi v361 v359
  let v364 : BitVec 32 := Scalar.maxsi c0_i32_196 v362
  let v365 : BitVec 32 := Scalar.minsi v363 v364
  let c256_i32_224 : BitVec 32 := 256#32
  let v416 : BitVec 32 := Scalar.muli v365 c256_i32_224
  let v417 : BitVec 32 := v416
  let v420 : Index := Scalar.indexCast v417
  ![0, v420.toNat]
def k0_mult25 (i : grid0.Coords) (arg16 : BitVec 32) : BitVec 32 :=
  let c2_i32_248 : BitVec 32 := 2#32
  let arg1 : BitVec 32 := BitVec.ofNat 32 (i 1).val
  let v449 : BitVec 32 := Scalar.muli c2_i32_248 arg1
  let c0_i32_249 : BitVec 32 := 0#32
  let c2_i32_246 : BitVec 32 := 2#32
  let v446 : BitVec 32 := Scalar.muli c2_i32_246 arg1
  let c1_i32_247 : BitVec 32 := 1#32
  let v447 : BitVec 32 := Scalar.subi v446 c1_i32_247
  let c2_i32_235 : BitVec 32 := 2#32
  let v431 : BitVec 32 := Scalar.addi arg16 c2_i32_235
  let c1_i32_245 : BitVec 32 := 1#32
  let v445 : BitVec 32 := Scalar.addi v431 c1_i32_245
  let v448 : BitVec 32 := Scalar.subi v447 v445
  let v450 : BitVec 32 := Scalar.maxsi c0_i32_249 v448
  let v451 : BitVec 32 := Scalar.minsi v449 v450
  let c256_i32_250 : BitVec 32 := 256#32
  let v452 : BitVec 32 := Scalar.muli v451 c256_i32_250
  v452
def k0_mult26 (i : grid0.Coords) (arg16 : BitVec 32) : BitVec 32 :=
  let c2_i32_243 : BitVec 32 := 2#32
  let arg1 : BitVec 32 := BitVec.ofNat 32 (i 1).val
  let v442 : BitVec 32 := Scalar.muli c2_i32_243 arg1
  let c0_i32_244 : BitVec 32 := 0#32
  let c2_i32_241 : BitVec 32 := 2#32
  let v439 : BitVec 32 := Scalar.muli c2_i32_241 arg1
  let c1_i32_242 : BitVec 32 := 1#32
  let v440 : BitVec 32 := Scalar.subi v439 c1_i32_242
  let c2_i32_235 : BitVec 32 := 2#32
  let v431 : BitVec 32 := Scalar.addi arg16 c2_i32_235
  let c1_i32_240 : BitVec 32 := 1#32
  let v438 : BitVec 32 := Scalar.subi v431 c1_i32_240
  let v441 : BitVec 32 := Scalar.subi v440 v438
  let v443 : BitVec 32 := Scalar.maxsi c0_i32_244 v441
  let v444 : BitVec 32 := Scalar.minsi v442 v443
  let c256_i32_272 : BitVec 32 := 256#32
  let v495 : BitVec 32 := Scalar.muli v444 c256_i32_272
  v495
def k0_mult27 (i : grid0.Coords) (arg16 : BitVec 32) : BitVec 32 :=
  let c2_i32_295 : BitVec 32 := 2#32
  let arg1 : BitVec 32 := BitVec.ofNat 32 (i 1).val
  let v528 : BitVec 32 := Scalar.muli c2_i32_295 arg1
  let c0_i32_296 : BitVec 32 := 0#32
  let c2_i32_293 : BitVec 32 := 2#32
  let v525 : BitVec 32 := Scalar.muli c2_i32_293 arg1
  let c1_i32_294 : BitVec 32 := 1#32
  let v526 : BitVec 32 := Scalar.subi v525 c1_i32_294
  let c3_i32 : BitVec 32 := 3#32
  let v510 : BitVec 32 := Scalar.addi arg16 c3_i32
  let c1_i32_292 : BitVec 32 := 1#32
  let v524 : BitVec 32 := Scalar.addi v510 c1_i32_292
  let v527 : BitVec 32 := Scalar.subi v526 v524
  let v529 : BitVec 32 := Scalar.maxsi c0_i32_296 v527
  let v530 : BitVec 32 := Scalar.minsi v528 v529
  let c256_i32_297 : BitVec 32 := 256#32
  let v531 : BitVec 32 := Scalar.muli v530 c256_i32_297
  v531
def k0_mult28 (i : grid0.Coords) (arg16 : BitVec 32) : BitVec 32 :=
  let c2_i32_290 : BitVec 32 := 2#32
  let arg1 : BitVec 32 := BitVec.ofNat 32 (i 1).val
  let v521 : BitVec 32 := Scalar.muli c2_i32_290 arg1
  let c0_i32_291 : BitVec 32 := 0#32
  let c2_i32_288 : BitVec 32 := 2#32
  let v518 : BitVec 32 := Scalar.muli c2_i32_288 arg1
  let c1_i32_289 : BitVec 32 := 1#32
  let v519 : BitVec 32 := Scalar.subi v518 c1_i32_289
  let c3_i32 : BitVec 32 := 3#32
  let v510 : BitVec 32 := Scalar.addi arg16 c3_i32
  let c1_i32_287 : BitVec 32 := 1#32
  let v517 : BitVec 32 := Scalar.subi v510 c1_i32_287
  let v520 : BitVec 32 := Scalar.subi v519 v517
  let v522 : BitVec 32 := Scalar.maxsi c0_i32_291 v520
  let v523 : BitVec 32 := Scalar.minsi v521 v522
  let c256_i32_319 : BitVec 32 := 256#32
  let v574 : BitVec 32 := Scalar.muli v523 c256_i32_319
  v574
def k0_mult29 (i : grid0.Coords) (arg16 : BitVec 32) : BitVec 32 :=
  let c2_i32_343 : BitVec 32 := 2#32
  let arg1 : BitVec 32 := BitVec.ofNat 32 (i 1).val
  let v607 : BitVec 32 := Scalar.muli c2_i32_343 arg1
  let c0_i32_344 : BitVec 32 := 0#32
  let c2_i32_341 : BitVec 32 := 2#32
  let v604 : BitVec 32 := Scalar.muli c2_i32_341 arg1
  let c1_i32_342 : BitVec 32 := 1#32
  let v605 : BitVec 32 := Scalar.subi v604 c1_i32_342
  let c4_i32_330 : BitVec 32 := 4#32
  let v589 : BitVec 32 := Scalar.addi arg16 c4_i32_330
  let c1_i32_340 : BitVec 32 := 1#32
  let v603 : BitVec 32 := Scalar.addi v589 c1_i32_340
  let v606 : BitVec 32 := Scalar.subi v605 v603
  let v608 : BitVec 32 := Scalar.maxsi c0_i32_344 v606
  let v609 : BitVec 32 := Scalar.minsi v607 v608
  let c256_i32_345 : BitVec 32 := 256#32
  let v610 : BitVec 32 := Scalar.muli v609 c256_i32_345
  v610
def k0_mult30 (i : grid0.Coords) (arg16 : BitVec 32) : BitVec 32 :=
  let c2_i32_338 : BitVec 32 := 2#32
  let arg1 : BitVec 32 := BitVec.ofNat 32 (i 1).val
  let v600 : BitVec 32 := Scalar.muli c2_i32_338 arg1
  let c0_i32_339 : BitVec 32 := 0#32
  let c2_i32_336 : BitVec 32 := 2#32
  let v597 : BitVec 32 := Scalar.muli c2_i32_336 arg1
  let c1_i32_337 : BitVec 32 := 1#32
  let v598 : BitVec 32 := Scalar.subi v597 c1_i32_337
  let c4_i32_330 : BitVec 32 := 4#32
  let v589 : BitVec 32 := Scalar.addi arg16 c4_i32_330
  let c1_i32_335 : BitVec 32 := 1#32
  let v596 : BitVec 32 := Scalar.subi v589 c1_i32_335
  let v599 : BitVec 32 := Scalar.subi v598 v596
  let v601 : BitVec 32 := Scalar.maxsi c0_i32_339 v599
  let v602 : BitVec 32 := Scalar.minsi v600 v601
  let c256_i32_367 : BitVec 32 := 256#32
  let v653 : BitVec 32 := Scalar.muli v602 c256_i32_367
  v653
def k0_mult31 (i : grid0.Coords) (arg16 : BitVec 32) : BitVec 32 :=
  let c2_i32_390 : BitVec 32 := 2#32
  let arg1 : BitVec 32 := BitVec.ofNat 32 (i 1).val
  let v686 : BitVec 32 := Scalar.muli c2_i32_390 arg1
  let c0_i32_391 : BitVec 32 := 0#32
  let c2_i32_388 : BitVec 32 := 2#32
  let v683 : BitVec 32 := Scalar.muli c2_i32_388 arg1
  let c1_i32_389 : BitVec 32 := 1#32
  let v684 : BitVec 32 := Scalar.subi v683 c1_i32_389
  let c5_i32 : BitVec 32 := 5#32
  let v668 : BitVec 32 := Scalar.addi arg16 c5_i32
  let c1_i32_387 : BitVec 32 := 1#32
  let v682 : BitVec 32 := Scalar.addi v668 c1_i32_387
  let v685 : BitVec 32 := Scalar.subi v684 v682
  let v687 : BitVec 32 := Scalar.maxsi c0_i32_391 v685
  let v688 : BitVec 32 := Scalar.minsi v686 v687
  let c256_i32_392 : BitVec 32 := 256#32
  let v689 : BitVec 32 := Scalar.muli v688 c256_i32_392
  v689
def k0_mult32 (i : grid0.Coords) (arg16 : BitVec 32) : BitVec 32 :=
  let c2_i32_385 : BitVec 32 := 2#32
  let arg1 : BitVec 32 := BitVec.ofNat 32 (i 1).val
  let v679 : BitVec 32 := Scalar.muli c2_i32_385 arg1
  let c0_i32_386 : BitVec 32 := 0#32
  let c2_i32_383 : BitVec 32 := 2#32
  let v676 : BitVec 32 := Scalar.muli c2_i32_383 arg1
  let c1_i32_384 : BitVec 32 := 1#32
  let v677 : BitVec 32 := Scalar.subi v676 c1_i32_384
  let c5_i32 : BitVec 32 := 5#32
  let v668 : BitVec 32 := Scalar.addi arg16 c5_i32
  let c1_i32_382 : BitVec 32 := 1#32
  let v675 : BitVec 32 := Scalar.subi v668 c1_i32_382
  let v678 : BitVec 32 := Scalar.subi v677 v675
  let v680 : BitVec 32 := Scalar.maxsi c0_i32_386 v678
  let v681 : BitVec 32 := Scalar.minsi v679 v680
  let c256_i32_414 : BitVec 32 := 256#32
  let v732 : BitVec 32 := Scalar.muli v681 c256_i32_414
  v732
def k0_mult33 (i : grid0.Coords) (arg16 : BitVec 32) : BitVec 32 :=
  let c2_i32_437 : BitVec 32 := 2#32
  let arg1 : BitVec 32 := BitVec.ofNat 32 (i 1).val
  let v765 : BitVec 32 := Scalar.muli c2_i32_437 arg1
  let c0_i32_438 : BitVec 32 := 0#32
  let c2_i32_435 : BitVec 32 := 2#32
  let v762 : BitVec 32 := Scalar.muli c2_i32_435 arg1
  let c1_i32_436 : BitVec 32 := 1#32
  let v763 : BitVec 32 := Scalar.subi v762 c1_i32_436
  let c6_i32 : BitVec 32 := 6#32
  let v747 : BitVec 32 := Scalar.addi arg16 c6_i32
  let c1_i32_434 : BitVec 32 := 1#32
  let v761 : BitVec 32 := Scalar.addi v747 c1_i32_434
  let v764 : BitVec 32 := Scalar.subi v763 v761
  let v766 : BitVec 32 := Scalar.maxsi c0_i32_438 v764
  let v767 : BitVec 32 := Scalar.minsi v765 v766
  let c256_i32_439 : BitVec 32 := 256#32
  let v768 : BitVec 32 := Scalar.muli v767 c256_i32_439
  v768
def k0_mult34 (i : grid0.Coords) (arg16 : BitVec 32) : BitVec 32 :=
  let c2_i32_432 : BitVec 32 := 2#32
  let arg1 : BitVec 32 := BitVec.ofNat 32 (i 1).val
  let v758 : BitVec 32 := Scalar.muli c2_i32_432 arg1
  let c0_i32_433 : BitVec 32 := 0#32
  let c2_i32_430 : BitVec 32 := 2#32
  let v755 : BitVec 32 := Scalar.muli c2_i32_430 arg1
  let c1_i32_431 : BitVec 32 := 1#32
  let v756 : BitVec 32 := Scalar.subi v755 c1_i32_431
  let c6_i32 : BitVec 32 := 6#32
  let v747 : BitVec 32 := Scalar.addi arg16 c6_i32
  let c1_i32_429 : BitVec 32 := 1#32
  let v754 : BitVec 32 := Scalar.subi v747 c1_i32_429
  let v757 : BitVec 32 := Scalar.subi v756 v754
  let v759 : BitVec 32 := Scalar.maxsi c0_i32_433 v757
  let v760 : BitVec 32 := Scalar.minsi v758 v759
  let c256_i32_461 : BitVec 32 := 256#32
  let v811 : BitVec 32 := Scalar.muli v760 c256_i32_461
  v811
def k0_mult35 (i : grid0.Coords) (arg16 : BitVec 32) : BitVec 32 :=
  let c2_i32_484 : BitVec 32 := 2#32
  let arg1 : BitVec 32 := BitVec.ofNat 32 (i 1).val
  let v844 : BitVec 32 := Scalar.muli c2_i32_484 arg1
  let c0_i32_485 : BitVec 32 := 0#32
  let c2_i32_482 : BitVec 32 := 2#32
  let v841 : BitVec 32 := Scalar.muli c2_i32_482 arg1
  let c1_i32_483 : BitVec 32 := 1#32
  let v842 : BitVec 32 := Scalar.subi v841 c1_i32_483
  let c7_i32 : BitVec 32 := 7#32
  let v826 : BitVec 32 := Scalar.addi arg16 c7_i32
  let c1_i32_481 : BitVec 32 := 1#32
  let v840 : BitVec 32 := Scalar.addi v826 c1_i32_481
  let v843 : BitVec 32 := Scalar.subi v842 v840
  let v845 : BitVec 32 := Scalar.maxsi c0_i32_485 v843
  let v846 : BitVec 32 := Scalar.minsi v844 v845
  let c256_i32_486 : BitVec 32 := 256#32
  let v847 : BitVec 32 := Scalar.muli v846 c256_i32_486
  v847
def k0_mult36 (i : grid0.Coords) (arg16 : BitVec 32) : BitVec 32 :=
  let c2_i32_479 : BitVec 32 := 2#32
  let arg1 : BitVec 32 := BitVec.ofNat 32 (i 1).val
  let v837 : BitVec 32 := Scalar.muli c2_i32_479 arg1
  let c0_i32_480 : BitVec 32 := 0#32
  let c2_i32_477 : BitVec 32 := 2#32
  let v834 : BitVec 32 := Scalar.muli c2_i32_477 arg1
  let c1_i32_478 : BitVec 32 := 1#32
  let v835 : BitVec 32 := Scalar.subi v834 c1_i32_478
  let c7_i32 : BitVec 32 := 7#32
  let v826 : BitVec 32 := Scalar.addi arg16 c7_i32
  let c1_i32_476 : BitVec 32 := 1#32
  let v833 : BitVec 32 := Scalar.subi v826 c1_i32_476
  let v836 : BitVec 32 := Scalar.subi v835 v833
  let v838 : BitVec 32 := Scalar.maxsi c0_i32_480 v836
  let v839 : BitVec 32 := Scalar.minsi v837 v838
  let c256_i32_508 : BitVec 32 := 256#32
  let v890 : BitVec 32 := Scalar.muli v839 c256_i32_508
  v890

def k0_chk2 (i : grid0.Coords) (k0_t2 : Fin (k0_t2_loop i).trips) (arg16 : BitVec 32) : Prop :=
  (256 ∣ (k0_mult21 i arg16).toNat) ∧
  (∀ (r : Fin 8), ∀ a, (k0_off7 i arg16 (BitVec.ofNat 32 r.val)) a + S256x128.size a ≤ S16384x128.size a) ∧
  (256 ∣ (k0_mult22 i arg16).toNat) ∧
  (∀ a, (k0_off8 i arg16) a + S128x256.size a ≤ S128x16384.size a) ∧
  (256 ∣ (k0_mult23 i arg16).toNat) ∧
  (256 ∣ (k0_mult24 i arg16).toNat) ∧
  (∀ (r : Fin 7), ∀ a, (k0_off9 i arg16 (BitVec.ofNat 32 (1 + r.val))) a + S128x256.size a ≤ S128x16384.size a) ∧
  (256 ∣ (k0_mult25 i arg16).toNat) ∧
  (256 ∣ (k0_mult26 i arg16).toNat) ∧
  (256 ∣ (k0_mult27 i arg16).toNat) ∧
  (256 ∣ (k0_mult28 i arg16).toNat) ∧
  (256 ∣ (k0_mult29 i arg16).toNat) ∧
  (256 ∣ (k0_mult30 i arg16).toNat) ∧
  (256 ∣ (k0_mult31 i arg16).toNat) ∧
  (256 ∣ (k0_mult32 i arg16).toNat) ∧
  (256 ∣ (k0_mult33 i arg16).toNat) ∧
  (256 ∣ (k0_mult34 i arg16).toNat) ∧
  (256 ∣ (k0_mult35 i arg16).toNat) ∧
  (256 ∣ (k0_mult36 i arg16).toNat)
theorem k0_mult21_dvd : ∀ (i : grid0.Coords) (k0_t2 : Fin (k0_t2_loop i).trips) (arg16 : BitVec 32) (k0_hw2 : k0_chk2 i k0_t2 arg16), 256 ∣ (k0_mult21 i arg16).toNat := fun i k0_t2 arg16 k0_hw2 => k0_hw2.1
theorem k0_off7_inb : ∀ (i : grid0.Coords) (k0_t2 : Fin (k0_t2_loop i).trips) (arg16 : BitVec 32) (k0_hw2 : k0_chk2 i k0_t2 arg16), ∀ (r : Fin 8), ∀ a, (k0_off7 i arg16 (BitVec.ofNat 32 r.val)) a + S256x128.size a ≤ S16384x128.size a := fun i k0_t2 arg16 k0_hw2 r => k0_hw2.2.1 r
theorem k0_mult22_dvd : ∀ (i : grid0.Coords) (k0_t2 : Fin (k0_t2_loop i).trips) (arg16 : BitVec 32) (k0_hw2 : k0_chk2 i k0_t2 arg16), 256 ∣ (k0_mult22 i arg16).toNat := fun i k0_t2 arg16 k0_hw2 => k0_hw2.2.2.1
theorem k0_off8_inb : ∀ (i : grid0.Coords) (k0_t2 : Fin (k0_t2_loop i).trips) (arg16 : BitVec 32) (k0_hw2 : k0_chk2 i k0_t2 arg16), ∀ a, (k0_off8 i arg16) a + S128x256.size a ≤ S128x16384.size a := fun i k0_t2 arg16 k0_hw2 => k0_hw2.2.2.2.1
theorem k0_mult23_dvd : ∀ (i : grid0.Coords) (k0_t2 : Fin (k0_t2_loop i).trips) (arg16 : BitVec 32) (k0_hw2 : k0_chk2 i k0_t2 arg16), 256 ∣ (k0_mult23 i arg16).toNat := fun i k0_t2 arg16 k0_hw2 => k0_hw2.2.2.2.2.1
theorem k0_mult24_dvd : ∀ (i : grid0.Coords) (k0_t2 : Fin (k0_t2_loop i).trips) (arg16 : BitVec 32) (k0_hw2 : k0_chk2 i k0_t2 arg16), 256 ∣ (k0_mult24 i arg16).toNat := fun i k0_t2 arg16 k0_hw2 => k0_hw2.2.2.2.2.2.1
theorem k0_off9_inb : ∀ (i : grid0.Coords) (k0_t2 : Fin (k0_t2_loop i).trips) (arg16 : BitVec 32) (k0_hw2 : k0_chk2 i k0_t2 arg16), ∀ (r : Fin 7), ∀ a, (k0_off9 i arg16 (BitVec.ofNat 32 (1 + r.val))) a + S128x256.size a ≤ S128x16384.size a := fun i k0_t2 arg16 k0_hw2 r => k0_hw2.2.2.2.2.2.2.1 r
theorem k0_mult25_dvd : ∀ (i : grid0.Coords) (k0_t2 : Fin (k0_t2_loop i).trips) (arg16 : BitVec 32) (k0_hw2 : k0_chk2 i k0_t2 arg16), 256 ∣ (k0_mult25 i arg16).toNat := fun i k0_t2 arg16 k0_hw2 => k0_hw2.2.2.2.2.2.2.2.1
theorem k0_mult26_dvd : ∀ (i : grid0.Coords) (k0_t2 : Fin (k0_t2_loop i).trips) (arg16 : BitVec 32) (k0_hw2 : k0_chk2 i k0_t2 arg16), 256 ∣ (k0_mult26 i arg16).toNat := fun i k0_t2 arg16 k0_hw2 => k0_hw2.2.2.2.2.2.2.2.2.1
theorem k0_mult27_dvd : ∀ (i : grid0.Coords) (k0_t2 : Fin (k0_t2_loop i).trips) (arg16 : BitVec 32) (k0_hw2 : k0_chk2 i k0_t2 arg16), 256 ∣ (k0_mult27 i arg16).toNat := fun i k0_t2 arg16 k0_hw2 => k0_hw2.2.2.2.2.2.2.2.2.2.1
theorem k0_mult28_dvd : ∀ (i : grid0.Coords) (k0_t2 : Fin (k0_t2_loop i).trips) (arg16 : BitVec 32) (k0_hw2 : k0_chk2 i k0_t2 arg16), 256 ∣ (k0_mult28 i arg16).toNat := fun i k0_t2 arg16 k0_hw2 => k0_hw2.2.2.2.2.2.2.2.2.2.2.1
theorem k0_mult29_dvd : ∀ (i : grid0.Coords) (k0_t2 : Fin (k0_t2_loop i).trips) (arg16 : BitVec 32) (k0_hw2 : k0_chk2 i k0_t2 arg16), 256 ∣ (k0_mult29 i arg16).toNat := fun i k0_t2 arg16 k0_hw2 => k0_hw2.2.2.2.2.2.2.2.2.2.2.2.1
theorem k0_mult30_dvd : ∀ (i : grid0.Coords) (k0_t2 : Fin (k0_t2_loop i).trips) (arg16 : BitVec 32) (k0_hw2 : k0_chk2 i k0_t2 arg16), 256 ∣ (k0_mult30 i arg16).toNat := fun i k0_t2 arg16 k0_hw2 => k0_hw2.2.2.2.2.2.2.2.2.2.2.2.2.1
theorem k0_mult31_dvd : ∀ (i : grid0.Coords) (k0_t2 : Fin (k0_t2_loop i).trips) (arg16 : BitVec 32) (k0_hw2 : k0_chk2 i k0_t2 arg16), 256 ∣ (k0_mult31 i arg16).toNat := fun i k0_t2 arg16 k0_hw2 => k0_hw2.2.2.2.2.2.2.2.2.2.2.2.2.2.1
theorem k0_mult32_dvd : ∀ (i : grid0.Coords) (k0_t2 : Fin (k0_t2_loop i).trips) (arg16 : BitVec 32) (k0_hw2 : k0_chk2 i k0_t2 arg16), 256 ∣ (k0_mult32 i arg16).toNat := fun i k0_t2 arg16 k0_hw2 => k0_hw2.2.2.2.2.2.2.2.2.2.2.2.2.2.2.1
theorem k0_mult33_dvd : ∀ (i : grid0.Coords) (k0_t2 : Fin (k0_t2_loop i).trips) (arg16 : BitVec 32) (k0_hw2 : k0_chk2 i k0_t2 arg16), 256 ∣ (k0_mult33 i arg16).toNat := fun i k0_t2 arg16 k0_hw2 => k0_hw2.2.2.2.2.2.2.2.2.2.2.2.2.2.2.2.1
theorem k0_mult34_dvd : ∀ (i : grid0.Coords) (k0_t2 : Fin (k0_t2_loop i).trips) (arg16 : BitVec 32) (k0_hw2 : k0_chk2 i k0_t2 arg16), 256 ∣ (k0_mult34 i arg16).toNat := fun i k0_t2 arg16 k0_hw2 => k0_hw2.2.2.2.2.2.2.2.2.2.2.2.2.2.2.2.2.1
theorem k0_mult35_dvd : ∀ (i : grid0.Coords) (k0_t2 : Fin (k0_t2_loop i).trips) (arg16 : BitVec 32) (k0_hw2 : k0_chk2 i k0_t2 arg16), 256 ∣ (k0_mult35 i arg16).toNat := fun i k0_t2 arg16 k0_hw2 => k0_hw2.2.2.2.2.2.2.2.2.2.2.2.2.2.2.2.2.2.1
theorem k0_mult36_dvd : ∀ (i : grid0.Coords) (k0_t2 : Fin (k0_t2_loop i).trips) (arg16 : BitVec 32) (k0_hw2 : k0_chk2 i k0_t2 arg16), 256 ∣ (k0_mult36 i arg16).toNat := fun i k0_t2 arg16 k0_hw2 => k0_hw2.2.2.2.2.2.2.2.2.2.2.2.2.2.2.2.2.2.2

@[reducible] def k0_t3_loop (i : grid0.Coords) (v187 : BitVec 32) : Scf.Loop 32 :=
  let c0_i32_100 : BitVec 32 := 0#32
  let c2_i32_10 : BitVec 32 := 2#32
  let arg1 : BitVec 32 := BitVec.ofNat 32 (i 1).val
  let v28 : BitVec 32 := Scalar.muli c2_i32_10 arg1
  let v188 : BitVec 32 := Scalar.subi v28 v187
  let c0_i32_94 : BitVec 32 := 0#32
  let v190 : BitVec 1 := Scalar.cmpi .sgt v188 c0_i32_94
  let v191 : BitVec 32 := Scalar.extui v190
  let c0_i32_95 : BitVec 32 := 0#32
  let v192 : BitVec 1 := Scalar.cmpi .slt v188 c0_i32_95
  let v193 : BitVec 32 := Scalar.extui v192
  let v194 : BitVec 32 := Scalar.subi v191 v193
  let c4_i32 : BitVec 32 := 4#32
  let c0_i32_96 : BitVec 32 := 0#32
  let v195 : BitVec 1 := Scalar.cmpi .sgt c4_i32 c0_i32_96
  let v196 : BitVec 32 := Scalar.extui v195
  let c0_i32_97 : BitVec 32 := 0#32
  let v197 : BitVec 1 := Scalar.cmpi .slt c4_i32 c0_i32_97
  let v198 : BitVec 32 := Scalar.extui v197
  let v199 : BitVec 32 := Scalar.subi v196 v198
  let v200 : BitVec 1 := Scalar.cmpi .ne v194 v199
  let v201 : BitVec 32 := Scalar.remsi v188 c4_i32
  let c0_i32_98 : BitVec 32 := 0#32
  let v202 : BitVec 1 := Scalar.cmpi .ne v201 c0_i32_98
  let v203 : BitVec 1 := Scalar.andi v200 v202
  let v189 : BitVec 32 := Scalar.divsi v188 c4_i32
  let c1_i32_99 : BitVec 32 := 1#32
  let v204 : BitVec 32 := Scalar.subi v189 c1_i32_99
  let v205 : BitVec 32 := Scalar.select v203 v204 v189
  let v206 : BitVec 32 := Scalar.subi v205 c0_i32_100
  let c1_i32_101 : BitVec 32 := 1#32
  let v208 : BitVec 32 := Scalar.divsi v206 c1_i32_101
  let v209 : BitVec 32 := Scalar.muli v208 c1_i32_101
  let v210 : BitVec 32 := Scalar.addi c0_i32_100 v209
  let c1_i32_102 : BitVec 32 := 1#32
  ⟨c0_i32_100, v210, c1_i32_102⟩

def k0_mult37 (i : grid0.Coords) (arg16 : BitVec 32) : BitVec 32 :=
  let c2_i32_152 : BitVec 32 := 2#32
  let arg1 : BitVec 32 := BitVec.ofNat 32 (i 1).val
  let v291 : BitVec 32 := Scalar.muli c2_i32_152 arg1
  let c0_i32_153 : BitVec 32 := 0#32
  let c2_i32_150 : BitVec 32 := 2#32
  let v288 : BitVec 32 := Scalar.muli c2_i32_150 arg1
  let c1_i32_151 : BitVec 32 := 1#32
  let v289 : BitVec 32 := Scalar.subi v288 c1_i32_151
  let c0_i32_138 : BitVec 32 := 0#32
  let v271 : BitVec 32 := Scalar.addi arg16 c0_i32_138
  let c1_i32_149 : BitVec 32 := 1#32
  let v287 : BitVec 32 := Scalar.addi v271 c1_i32_149
  let v290 : BitVec 32 := Scalar.subi v289 v287
  let v292 : BitVec 32 := Scalar.maxsi c0_i32_153 v290
  let v293 : BitVec 32 := Scalar.minsi v291 v292
  let c256_i32_154 : BitVec 32 := 256#32
  let v294 : BitVec 32 := Scalar.muli v293 c256_i32_154
  v294

def k0_off10 (i : grid0.Coords) (arg16 : BitVec 32) (c0_i32_138 : BitVec 32) : Fin 2 → Nat :=
  let c2_i32_152 : BitVec 32 := 2#32
  let arg1 : BitVec 32 := BitVec.ofNat 32 (i 1).val
  let v291 : BitVec 32 := Scalar.muli c2_i32_152 arg1
  let c0_i32_153 : BitVec 32 := 0#32
  let c2_i32_150 : BitVec 32 := 2#32
  let v288 : BitVec 32 := Scalar.muli c2_i32_150 arg1
  let c1_i32_151 : BitVec 32 := 1#32
  let v289 : BitVec 32 := Scalar.subi v288 c1_i32_151
  let v271 : BitVec 32 := Scalar.addi arg16 c0_i32_138
  let c1_i32_149 : BitVec 32 := 1#32
  let v287 : BitVec 32 := Scalar.addi v271 c1_i32_149
  let v290 : BitVec 32 := Scalar.subi v289 v287
  let v292 : BitVec 32 := Scalar.maxsi c0_i32_153 v290
  let v293 : BitVec 32 := Scalar.minsi v291 v292
  let c256_i32_154 : BitVec 32 := 256#32
  let v294 : BitVec 32 := Scalar.muli v293 c256_i32_154
  let v295 : BitVec 32 := v294
  let v296 : Index := Scalar.indexCast v295
  let c0_155 : Index := 0#32
  ![v296.toNat, 0]
def k0_mult38 (i : grid0.Coords) (arg16 : BitVec 32) : BitVec 32 :=
  let c0_i32_138 : BitVec 32 := 0#32
  let v271 : BitVec 32 := Scalar.addi arg16 c0_i32_138
  let c0_i32_143 : BitVec 32 := 0#32
  let v278 : BitVec 1 := Scalar.cmpi .eq v271 c0_i32_143
  let c2_i32_9 : BitVec 32 := 2#32
  let arg1 : BitVec 32 := BitVec.ofNat 32 (i 1).val
  let v26 : BitVec 32 := Scalar.muli c2_i32_9 arg1
  let c0_i32 : BitVec 32 := 0#32
  let v27 : BitVec 32 := Scalar.addi v26 c0_i32
  let c2_i32_147 : BitVec 32 := 2#32
  let v283 : BitVec 32 := Scalar.muli c2_i32_147 arg1
  let c0_i32_148 : BitVec 32 := 0#32
  let c2_i32_145 : BitVec 32 := 2#32
  let v280 : BitVec 32 := Scalar.muli c2_i32_145 arg1
  let c1_i32_146 : BitVec 32 := 1#32
  let v281 : BitVec 32 := Scalar.subi v280 c1_i32_146
  let c1_i32_144 : BitVec 32 := 1#32
  let v279 : BitVec 32 := Scalar.subi v271 c1_i32_144
  let v282 : BitVec 32 := Scalar.subi v281 v279
  let v284 : BitVec 32 := Scalar.maxsi c0_i32_148 v282
  let v285 : BitVec 32 := Scalar.minsi v283 v284
  let v286 : BitVec 32 := Scalar.select v278 v27 v285
  let c256_i32_176 : BitVec 32 := 256#32
  let v337 : BitVec 32 := Scalar.muli v286 c256_i32_176
  v337
def k0_off11 (i : grid0.Coords) (arg16 : BitVec 32) : Fin 2 → Nat :=
  let c0_181 : Index := 0#32
  let c0_i32_138 : BitVec 32 := 0#32
  let v271 : BitVec 32 := Scalar.addi arg16 c0_i32_138
  let c0_i32_143 : BitVec 32 := 0#32
  let v278 : BitVec 1 := Scalar.cmpi .eq v271 c0_i32_143
  let c2_i32_9 : BitVec 32 := 2#32
  let arg1 : BitVec 32 := BitVec.ofNat 32 (i 1).val
  let v26 : BitVec 32 := Scalar.muli c2_i32_9 arg1
  let c0_i32 : BitVec 32 := 0#32
  let v27 : BitVec 32 := Scalar.addi v26 c0_i32
  let c2_i32_147 : BitVec 32 := 2#32
  let v283 : BitVec 32 := Scalar.muli c2_i32_147 arg1
  let c0_i32_148 : BitVec 32 := 0#32
  let c2_i32_145 : BitVec 32 := 2#32
  let v280 : BitVec 32 := Scalar.muli c2_i32_145 arg1
  let c1_i32_146 : BitVec 32 := 1#32
  let v281 : BitVec 32 := Scalar.subi v280 c1_i32_146
  let c1_i32_144 : BitVec 32 := 1#32
  let v279 : BitVec 32 := Scalar.subi v271 c1_i32_144
  let v282 : BitVec 32 := Scalar.subi v281 v279
  let v284 : BitVec 32 := Scalar.maxsi c0_i32_148 v282
  let v285 : BitVec 32 := Scalar.minsi v283 v284
  let v286 : BitVec 32 := Scalar.select v278 v27 v285
  let c256_i32_176 : BitVec 32 := 256#32
  let v337 : BitVec 32 := Scalar.muli v286 c256_i32_176
  let v338 : BitVec 32 := v337
  let v341 : Index := Scalar.indexCast v338
  ![0, v341.toNat]
def k0_mult39 (i : grid0.Coords) (arg16 : BitVec 32) : BitVec 32 :=
  let c2_i32_200 : BitVec 32 := 2#32
  let arg1 : BitVec 32 := BitVec.ofNat 32 (i 1).val
  let v370 : BitVec 32 := Scalar.muli c2_i32_200 arg1
  let c0_i32_201 : BitVec 32 := 0#32
  let c2_i32_198 : BitVec 32 := 2#32
  let v367 : BitVec 32 := Scalar.muli c2_i32_198 arg1
  let c1_i32_199 : BitVec 32 := 1#32
  let v368 : BitVec 32 := Scalar.subi v367 c1_i32_199
  let c1_i32_187 : BitVec 32 := 1#32
  let v352 : BitVec 32 := Scalar.addi arg16 c1_i32_187
  let c1_i32_197 : BitVec 32 := 1#32
  let v366 : BitVec 32 := Scalar.addi v352 c1_i32_197
  let v369 : BitVec 32 := Scalar.subi v368 v366
  let v371 : BitVec 32 := Scalar.maxsi c0_i32_201 v369
  let v372 : BitVec 32 := Scalar.minsi v370 v371
  let c256_i32_202 : BitVec 32 := 256#32
  let v373 : BitVec 32 := Scalar.muli v372 c256_i32_202
  v373
def k0_mult40 (i : grid0.Coords) (arg16 : BitVec 32) : BitVec 32 :=
  let c2_i32_195 : BitVec 32 := 2#32
  let arg1 : BitVec 32 := BitVec.ofNat 32 (i 1).val
  let v363 : BitVec 32 := Scalar.muli c2_i32_195 arg1
  let c0_i32_196 : BitVec 32 := 0#32
  let c2_i32_193 : BitVec 32 := 2#32
  let v360 : BitVec 32 := Scalar.muli c2_i32_193 arg1
  let c1_i32_194 : BitVec 32 := 1#32
  let v361 : BitVec 32 := Scalar.subi v360 c1_i32_194
  let c1_i32_187 : BitVec 32 := 1#32
  let v352 : BitVec 32 := Scalar.addi arg16 c1_i32_187
  let c1_i32_192 : BitVec 32 := 1#32
  let v359 : BitVec 32 := Scalar.subi v352 c1_i32_192
  let v362 : BitVec 32 := Scalar.subi v361 v359
  let v364 : BitVec 32 := Scalar.maxsi c0_i32_196 v362
  let v365 : BitVec 32 := Scalar.minsi v363 v364
  let c256_i32_224 : BitVec 32 := 256#32
  let v416 : BitVec 32 := Scalar.muli v365 c256_i32_224
  v416
def k0_off12 (i : grid0.Coords) (arg16 : BitVec 32) (c1_i32_187 : BitVec 32) : Fin 2 → Nat :=
  let c0_229 : Index := 0#32
  let c2_i32_195 : BitVec 32 := 2#32
  let arg1 : BitVec 32 := BitVec.ofNat 32 (i 1).val
  let v363 : BitVec 32 := Scalar.muli c2_i32_195 arg1
  let c0_i32_196 : BitVec 32 := 0#32
  let c2_i32_193 : BitVec 32 := 2#32
  let v360 : BitVec 32 := Scalar.muli c2_i32_193 arg1
  let c1_i32_194 : BitVec 32 := 1#32
  let v361 : BitVec 32 := Scalar.subi v360 c1_i32_194
  let v352 : BitVec 32 := Scalar.addi arg16 c1_i32_187
  let c1_i32_192 : BitVec 32 := 1#32
  let v359 : BitVec 32 := Scalar.subi v352 c1_i32_192
  let v362 : BitVec 32 := Scalar.subi v361 v359
  let v364 : BitVec 32 := Scalar.maxsi c0_i32_196 v362
  let v365 : BitVec 32 := Scalar.minsi v363 v364
  let c256_i32_224 : BitVec 32 := 256#32
  let v416 : BitVec 32 := Scalar.muli v365 c256_i32_224
  let v417 : BitVec 32 := v416
  let v420 : Index := Scalar.indexCast v417
  ![0, v420.toNat]
def k0_mult41 (i : grid0.Coords) (arg16 : BitVec 32) : BitVec 32 :=
  let c2_i32_248 : BitVec 32 := 2#32
  let arg1 : BitVec 32 := BitVec.ofNat 32 (i 1).val
  let v449 : BitVec 32 := Scalar.muli c2_i32_248 arg1
  let c0_i32_249 : BitVec 32 := 0#32
  let c2_i32_246 : BitVec 32 := 2#32
  let v446 : BitVec 32 := Scalar.muli c2_i32_246 arg1
  let c1_i32_247 : BitVec 32 := 1#32
  let v447 : BitVec 32 := Scalar.subi v446 c1_i32_247
  let c2_i32_235 : BitVec 32 := 2#32
  let v431 : BitVec 32 := Scalar.addi arg16 c2_i32_235
  let c1_i32_245 : BitVec 32 := 1#32
  let v445 : BitVec 32 := Scalar.addi v431 c1_i32_245
  let v448 : BitVec 32 := Scalar.subi v447 v445
  let v450 : BitVec 32 := Scalar.maxsi c0_i32_249 v448
  let v451 : BitVec 32 := Scalar.minsi v449 v450
  let c256_i32_250 : BitVec 32 := 256#32
  let v452 : BitVec 32 := Scalar.muli v451 c256_i32_250
  v452
def k0_mult42 (i : grid0.Coords) (arg16 : BitVec 32) : BitVec 32 :=
  let c2_i32_243 : BitVec 32 := 2#32
  let arg1 : BitVec 32 := BitVec.ofNat 32 (i 1).val
  let v442 : BitVec 32 := Scalar.muli c2_i32_243 arg1
  let c0_i32_244 : BitVec 32 := 0#32
  let c2_i32_241 : BitVec 32 := 2#32
  let v439 : BitVec 32 := Scalar.muli c2_i32_241 arg1
  let c1_i32_242 : BitVec 32 := 1#32
  let v440 : BitVec 32 := Scalar.subi v439 c1_i32_242
  let c2_i32_235 : BitVec 32 := 2#32
  let v431 : BitVec 32 := Scalar.addi arg16 c2_i32_235
  let c1_i32_240 : BitVec 32 := 1#32
  let v438 : BitVec 32 := Scalar.subi v431 c1_i32_240
  let v441 : BitVec 32 := Scalar.subi v440 v438
  let v443 : BitVec 32 := Scalar.maxsi c0_i32_244 v441
  let v444 : BitVec 32 := Scalar.minsi v442 v443
  let c256_i32_272 : BitVec 32 := 256#32
  let v495 : BitVec 32 := Scalar.muli v444 c256_i32_272
  v495
def k0_mult43 (i : grid0.Coords) (arg16 : BitVec 32) : BitVec 32 :=
  let c2_i32_295 : BitVec 32 := 2#32
  let arg1 : BitVec 32 := BitVec.ofNat 32 (i 1).val
  let v528 : BitVec 32 := Scalar.muli c2_i32_295 arg1
  let c0_i32_296 : BitVec 32 := 0#32
  let c2_i32_293 : BitVec 32 := 2#32
  let v525 : BitVec 32 := Scalar.muli c2_i32_293 arg1
  let c1_i32_294 : BitVec 32 := 1#32
  let v526 : BitVec 32 := Scalar.subi v525 c1_i32_294
  let c3_i32 : BitVec 32 := 3#32
  let v510 : BitVec 32 := Scalar.addi arg16 c3_i32
  let c1_i32_292 : BitVec 32 := 1#32
  let v524 : BitVec 32 := Scalar.addi v510 c1_i32_292
  let v527 : BitVec 32 := Scalar.subi v526 v524
  let v529 : BitVec 32 := Scalar.maxsi c0_i32_296 v527
  let v530 : BitVec 32 := Scalar.minsi v528 v529
  let c256_i32_297 : BitVec 32 := 256#32
  let v531 : BitVec 32 := Scalar.muli v530 c256_i32_297
  v531
def k0_mult44 (i : grid0.Coords) (arg16 : BitVec 32) : BitVec 32 :=
  let c2_i32_290 : BitVec 32 := 2#32
  let arg1 : BitVec 32 := BitVec.ofNat 32 (i 1).val
  let v521 : BitVec 32 := Scalar.muli c2_i32_290 arg1
  let c0_i32_291 : BitVec 32 := 0#32
  let c2_i32_288 : BitVec 32 := 2#32
  let v518 : BitVec 32 := Scalar.muli c2_i32_288 arg1
  let c1_i32_289 : BitVec 32 := 1#32
  let v519 : BitVec 32 := Scalar.subi v518 c1_i32_289
  let c3_i32 : BitVec 32 := 3#32
  let v510 : BitVec 32 := Scalar.addi arg16 c3_i32
  let c1_i32_287 : BitVec 32 := 1#32
  let v517 : BitVec 32 := Scalar.subi v510 c1_i32_287
  let v520 : BitVec 32 := Scalar.subi v519 v517
  let v522 : BitVec 32 := Scalar.maxsi c0_i32_291 v520
  let v523 : BitVec 32 := Scalar.minsi v521 v522
  let c256_i32_319 : BitVec 32 := 256#32
  let v574 : BitVec 32 := Scalar.muli v523 c256_i32_319
  v574

def k0_chk4 (i : grid0.Coords) (arg16 : BitVec 32) : Prop :=
  (256 ∣ (k0_mult37 i arg16).toNat) ∧
  (∀ (r : Fin 4), ∀ a, (k0_off10 i arg16 (BitVec.ofNat 32 r.val)) a + S256x128.size a ≤ S16384x128.size a) ∧
  (256 ∣ (k0_mult38 i arg16).toNat) ∧
  (∀ a, (k0_off11 i arg16) a + S128x256.size a ≤ S128x16384.size a) ∧
  (256 ∣ (k0_mult39 i arg16).toNat) ∧
  (256 ∣ (k0_mult40 i arg16).toNat) ∧
  (∀ (r : Fin 3), ∀ a, (k0_off12 i arg16 (BitVec.ofNat 32 (1 + r.val))) a + S128x256.size a ≤ S128x16384.size a) ∧
  (256 ∣ (k0_mult41 i arg16).toNat) ∧
  (256 ∣ (k0_mult42 i arg16).toNat) ∧
  (256 ∣ (k0_mult43 i arg16).toNat) ∧
  (256 ∣ (k0_mult44 i arg16).toNat)
theorem k0_mult37_dvd : ∀ (i : grid0.Coords) (arg16 : BitVec 32) (k0_hw4 : k0_chk4 i arg16), 256 ∣ (k0_mult37 i arg16).toNat := fun i arg16 k0_hw4 => k0_hw4.1
theorem k0_off10_inb : ∀ (i : grid0.Coords) (arg16 : BitVec 32) (k0_hw4 : k0_chk4 i arg16), ∀ (r : Fin 4), ∀ a, (k0_off10 i arg16 (BitVec.ofNat 32 r.val)) a + S256x128.size a ≤ S16384x128.size a := fun i arg16 k0_hw4 r => k0_hw4.2.1 r
theorem k0_mult38_dvd : ∀ (i : grid0.Coords) (arg16 : BitVec 32) (k0_hw4 : k0_chk4 i arg16), 256 ∣ (k0_mult38 i arg16).toNat := fun i arg16 k0_hw4 => k0_hw4.2.2.1
theorem k0_off11_inb : ∀ (i : grid0.Coords) (arg16 : BitVec 32) (k0_hw4 : k0_chk4 i arg16), ∀ a, (k0_off11 i arg16) a + S128x256.size a ≤ S128x16384.size a := fun i arg16 k0_hw4 => k0_hw4.2.2.2.1
theorem k0_mult39_dvd : ∀ (i : grid0.Coords) (arg16 : BitVec 32) (k0_hw4 : k0_chk4 i arg16), 256 ∣ (k0_mult39 i arg16).toNat := fun i arg16 k0_hw4 => k0_hw4.2.2.2.2.1
theorem k0_mult40_dvd : ∀ (i : grid0.Coords) (arg16 : BitVec 32) (k0_hw4 : k0_chk4 i arg16), 256 ∣ (k0_mult40 i arg16).toNat := fun i arg16 k0_hw4 => k0_hw4.2.2.2.2.2.1
theorem k0_off12_inb : ∀ (i : grid0.Coords) (arg16 : BitVec 32) (k0_hw4 : k0_chk4 i arg16), ∀ (r : Fin 3), ∀ a, (k0_off12 i arg16 (BitVec.ofNat 32 (1 + r.val))) a + S128x256.size a ≤ S128x16384.size a := fun i arg16 k0_hw4 r => k0_hw4.2.2.2.2.2.2.1 r
theorem k0_mult41_dvd : ∀ (i : grid0.Coords) (arg16 : BitVec 32) (k0_hw4 : k0_chk4 i arg16), 256 ∣ (k0_mult41 i arg16).toNat := fun i arg16 k0_hw4 => k0_hw4.2.2.2.2.2.2.2.1
theorem k0_mult42_dvd : ∀ (i : grid0.Coords) (arg16 : BitVec 32) (k0_hw4 : k0_chk4 i arg16), 256 ∣ (k0_mult42 i arg16).toNat := fun i arg16 k0_hw4 => k0_hw4.2.2.2.2.2.2.2.2.1
theorem k0_mult43_dvd : ∀ (i : grid0.Coords) (arg16 : BitVec 32) (k0_hw4 : k0_chk4 i arg16), 256 ∣ (k0_mult43 i arg16).toNat := fun i arg16 k0_hw4 => k0_hw4.2.2.2.2.2.2.2.2.2.1
theorem k0_mult44_dvd : ∀ (i : grid0.Coords) (arg16 : BitVec 32) (k0_hw4 : k0_chk4 i arg16), 256 ∣ (k0_mult44 i arg16).toNat := fun i arg16 k0_hw4 => k0_hw4.2.2.2.2.2.2.2.2.2.2

@[reducible] def k0_t4_loop (i : grid0.Coords) (v187 : BitVec 32) : Scf.Loop 32 :=
  let c0_i32_100 : BitVec 32 := 0#32
  let c2_i32_10 : BitVec 32 := 2#32
  let arg1 : BitVec 32 := BitVec.ofNat 32 (i 1).val
  let v28 : BitVec 32 := Scalar.muli c2_i32_10 arg1
  let v188 : BitVec 32 := Scalar.subi v28 v187
  let c0_i32_94 : BitVec 32 := 0#32
  let v190 : BitVec 1 := Scalar.cmpi .sgt v188 c0_i32_94
  let v191 : BitVec 32 := Scalar.extui v190
  let c0_i32_95 : BitVec 32 := 0#32
  let v192 : BitVec 1 := Scalar.cmpi .slt v188 c0_i32_95
  let v193 : BitVec 32 := Scalar.extui v192
  let v194 : BitVec 32 := Scalar.subi v191 v193
  let c4_i32 : BitVec 32 := 4#32
  let c0_i32_96 : BitVec 32 := 0#32
  let v195 : BitVec 1 := Scalar.cmpi .sgt c4_i32 c0_i32_96
  let v196 : BitVec 32 := Scalar.extui v195
  let c0_i32_97 : BitVec 32 := 0#32
  let v197 : BitVec 1 := Scalar.cmpi .slt c4_i32 c0_i32_97
  let v198 : BitVec 32 := Scalar.extui v197
  let v199 : BitVec 32 := Scalar.subi v196 v198
  let v200 : BitVec 1 := Scalar.cmpi .ne v194 v199
  let v201 : BitVec 32 := Scalar.remsi v188 c4_i32
  let c0_i32_98 : BitVec 32 := 0#32
  let v202 : BitVec 1 := Scalar.cmpi .ne v201 c0_i32_98
  let v203 : BitVec 1 := Scalar.andi v200 v202
  let v189 : BitVec 32 := Scalar.divsi v188 c4_i32
  let c1_i32_99 : BitVec 32 := 1#32
  let v204 : BitVec 32 := Scalar.subi v189 c1_i32_99
  let v205 : BitVec 32 := Scalar.select v203 v204 v189
  let v206 : BitVec 32 := Scalar.subi v205 c0_i32_100
  let c1_i32_101 : BitVec 32 := 1#32
  let v208 : BitVec 32 := Scalar.divsi v206 c1_i32_101
  let v209 : BitVec 32 := Scalar.muli v208 c1_i32_101
  let v210 : BitVec 32 := Scalar.addi c0_i32_100 v209
  let v207 : BitVec 32 := Scalar.addi c0_i32_100 v206
  let c1_i32_103 : BitVec 32 := 1#32
  ⟨v210, v207, c1_i32_103⟩

def k0_chk3 (i : grid0.Coords) (v187 : BitVec 32) : Prop :=
  ((k0_t3_loop i v187).OK) ∧
  ((k0_t4_loop i v187).OK)
theorem k0_t3_ok : ∀ (i : grid0.Coords) (v187 : BitVec 32) (k0_hw3 : k0_chk3 i v187), (k0_t3_loop i v187).OK := fun i v187 k0_hw3 => k0_hw3.1
theorem k0_t4_ok : ∀ (i : grid0.Coords) (v187 : BitVec 32) (k0_hw3 : k0_chk3 i v187), (k0_t4_loop i v187).OK := fun i v187 k0_hw3 => k0_hw3.2

def k0_mult45 (i : grid0.Coords) (arg16 : BitVec 32) : BitVec 32 :=
  let c2_i32_152 : BitVec 32 := 2#32
  let arg1 : BitVec 32 := BitVec.ofNat 32 (i 1).val
  let v291 : BitVec 32 := Scalar.muli c2_i32_152 arg1
  let c0_i32_153 : BitVec 32 := 0#32
  let c2_i32_150 : BitVec 32 := 2#32
  let v288 : BitVec 32 := Scalar.muli c2_i32_150 arg1
  let c1_i32_151 : BitVec 32 := 1#32
  let v289 : BitVec 32 := Scalar.subi v288 c1_i32_151
  let c0_i32_138 : BitVec 32 := 0#32
  let v271 : BitVec 32 := Scalar.addi arg16 c0_i32_138
  let c1_i32_149 : BitVec 32 := 1#32
  let v287 : BitVec 32 := Scalar.addi v271 c1_i32_149
  let v290 : BitVec 32 := Scalar.subi v289 v287
  let v292 : BitVec 32 := Scalar.maxsi c0_i32_153 v290
  let v293 : BitVec 32 := Scalar.minsi v291 v292
  let c256_i32_154 : BitVec 32 := 256#32
  let v294 : BitVec 32 := Scalar.muli v293 c256_i32_154
  v294

def k0_off13 (i : grid0.Coords) (arg16 : BitVec 32) (c0_i32_138 : BitVec 32) : Fin 2 → Nat :=
  let c2_i32_152 : BitVec 32 := 2#32
  let arg1 : BitVec 32 := BitVec.ofNat 32 (i 1).val
  let v291 : BitVec 32 := Scalar.muli c2_i32_152 arg1
  let c0_i32_153 : BitVec 32 := 0#32
  let c2_i32_150 : BitVec 32 := 2#32
  let v288 : BitVec 32 := Scalar.muli c2_i32_150 arg1
  let c1_i32_151 : BitVec 32 := 1#32
  let v289 : BitVec 32 := Scalar.subi v288 c1_i32_151
  let v271 : BitVec 32 := Scalar.addi arg16 c0_i32_138
  let c1_i32_149 : BitVec 32 := 1#32
  let v287 : BitVec 32 := Scalar.addi v271 c1_i32_149
  let v290 : BitVec 32 := Scalar.subi v289 v287
  let v292 : BitVec 32 := Scalar.maxsi c0_i32_153 v290
  let v293 : BitVec 32 := Scalar.minsi v291 v292
  let c256_i32_154 : BitVec 32 := 256#32
  let v294 : BitVec 32 := Scalar.muli v293 c256_i32_154
  let v295 : BitVec 32 := v294
  let v296 : Index := Scalar.indexCast v295
  let c0_155 : Index := 0#32
  ![v296.toNat, 0]
def k0_mult46 (i : grid0.Coords) (arg16 : BitVec 32) : BitVec 32 :=
  let c0_i32_138 : BitVec 32 := 0#32
  let v271 : BitVec 32 := Scalar.addi arg16 c0_i32_138
  let c0_i32_143 : BitVec 32 := 0#32
  let v278 : BitVec 1 := Scalar.cmpi .eq v271 c0_i32_143
  let c2_i32_9 : BitVec 32 := 2#32
  let arg1 : BitVec 32 := BitVec.ofNat 32 (i 1).val
  let v26 : BitVec 32 := Scalar.muli c2_i32_9 arg1
  let c0_i32 : BitVec 32 := 0#32
  let v27 : BitVec 32 := Scalar.addi v26 c0_i32
  let c2_i32_147 : BitVec 32 := 2#32
  let v283 : BitVec 32 := Scalar.muli c2_i32_147 arg1
  let c0_i32_148 : BitVec 32 := 0#32
  let c2_i32_145 : BitVec 32 := 2#32
  let v280 : BitVec 32 := Scalar.muli c2_i32_145 arg1
  let c1_i32_146 : BitVec 32 := 1#32
  let v281 : BitVec 32 := Scalar.subi v280 c1_i32_146
  let c1_i32_144 : BitVec 32 := 1#32
  let v279 : BitVec 32 := Scalar.subi v271 c1_i32_144
  let v282 : BitVec 32 := Scalar.subi v281 v279
  let v284 : BitVec 32 := Scalar.maxsi c0_i32_148 v282
  let v285 : BitVec 32 := Scalar.minsi v283 v284
  let v286 : BitVec 32 := Scalar.select v278 v27 v285
  let c256_i32_176 : BitVec 32 := 256#32
  let v337 : BitVec 32 := Scalar.muli v286 c256_i32_176
  v337
def k0_off14 (i : grid0.Coords) (arg16 : BitVec 32) : Fin 2 → Nat :=
  let c0_181 : Index := 0#32
  let c0_i32_138 : BitVec 32 := 0#32
  let v271 : BitVec 32 := Scalar.addi arg16 c0_i32_138
  let c0_i32_143 : BitVec 32 := 0#32
  let v278 : BitVec 1 := Scalar.cmpi .eq v271 c0_i32_143
  let c2_i32_9 : BitVec 32 := 2#32
  let arg1 : BitVec 32 := BitVec.ofNat 32 (i 1).val
  let v26 : BitVec 32 := Scalar.muli c2_i32_9 arg1
  let c0_i32 : BitVec 32 := 0#32
  let v27 : BitVec 32 := Scalar.addi v26 c0_i32
  let c2_i32_147 : BitVec 32 := 2#32
  let v283 : BitVec 32 := Scalar.muli c2_i32_147 arg1
  let c0_i32_148 : BitVec 32 := 0#32
  let c2_i32_145 : BitVec 32 := 2#32
  let v280 : BitVec 32 := Scalar.muli c2_i32_145 arg1
  let c1_i32_146 : BitVec 32 := 1#32
  let v281 : BitVec 32 := Scalar.subi v280 c1_i32_146
  let c1_i32_144 : BitVec 32 := 1#32
  let v279 : BitVec 32 := Scalar.subi v271 c1_i32_144
  let v282 : BitVec 32 := Scalar.subi v281 v279
  let v284 : BitVec 32 := Scalar.maxsi c0_i32_148 v282
  let v285 : BitVec 32 := Scalar.minsi v283 v284
  let v286 : BitVec 32 := Scalar.select v278 v27 v285
  let c256_i32_176 : BitVec 32 := 256#32
  let v337 : BitVec 32 := Scalar.muli v286 c256_i32_176
  let v338 : BitVec 32 := v337
  let v341 : Index := Scalar.indexCast v338
  ![0, v341.toNat]
def k0_mult47 (i : grid0.Coords) (arg16 : BitVec 32) : BitVec 32 :=
  let c2_i32_200 : BitVec 32 := 2#32
  let arg1 : BitVec 32 := BitVec.ofNat 32 (i 1).val
  let v370 : BitVec 32 := Scalar.muli c2_i32_200 arg1
  let c0_i32_201 : BitVec 32 := 0#32
  let c2_i32_198 : BitVec 32 := 2#32
  let v367 : BitVec 32 := Scalar.muli c2_i32_198 arg1
  let c1_i32_199 : BitVec 32 := 1#32
  let v368 : BitVec 32 := Scalar.subi v367 c1_i32_199
  let c1_i32_187 : BitVec 32 := 1#32
  let v352 : BitVec 32 := Scalar.addi arg16 c1_i32_187
  let c1_i32_197 : BitVec 32 := 1#32
  let v366 : BitVec 32 := Scalar.addi v352 c1_i32_197
  let v369 : BitVec 32 := Scalar.subi v368 v366
  let v371 : BitVec 32 := Scalar.maxsi c0_i32_201 v369
  let v372 : BitVec 32 := Scalar.minsi v370 v371
  let c256_i32_202 : BitVec 32 := 256#32
  let v373 : BitVec 32 := Scalar.muli v372 c256_i32_202
  v373
def k0_mult48 (i : grid0.Coords) (arg16 : BitVec 32) : BitVec 32 :=
  let c2_i32_195 : BitVec 32 := 2#32
  let arg1 : BitVec 32 := BitVec.ofNat 32 (i 1).val
  let v363 : BitVec 32 := Scalar.muli c2_i32_195 arg1
  let c0_i32_196 : BitVec 32 := 0#32
  let c2_i32_193 : BitVec 32 := 2#32
  let v360 : BitVec 32 := Scalar.muli c2_i32_193 arg1
  let c1_i32_194 : BitVec 32 := 1#32
  let v361 : BitVec 32 := Scalar.subi v360 c1_i32_194
  let c1_i32_187 : BitVec 32 := 1#32
  let v352 : BitVec 32 := Scalar.addi arg16 c1_i32_187
  let c1_i32_192 : BitVec 32 := 1#32
  let v359 : BitVec 32 := Scalar.subi v352 c1_i32_192
  let v362 : BitVec 32 := Scalar.subi v361 v359
  let v364 : BitVec 32 := Scalar.maxsi c0_i32_196 v362
  let v365 : BitVec 32 := Scalar.minsi v363 v364
  let c256_i32_224 : BitVec 32 := 256#32
  let v416 : BitVec 32 := Scalar.muli v365 c256_i32_224
  v416
def k0_off15 (i : grid0.Coords) (arg16 : BitVec 32) (c1_i32_187 : BitVec 32) : Fin 2 → Nat :=
  let c0_229 : Index := 0#32
  let c2_i32_195 : BitVec 32 := 2#32
  let arg1 : BitVec 32 := BitVec.ofNat 32 (i 1).val
  let v363 : BitVec 32 := Scalar.muli c2_i32_195 arg1
  let c0_i32_196 : BitVec 32 := 0#32
  let c2_i32_193 : BitVec 32 := 2#32
  let v360 : BitVec 32 := Scalar.muli c2_i32_193 arg1
  let c1_i32_194 : BitVec 32 := 1#32
  let v361 : BitVec 32 := Scalar.subi v360 c1_i32_194
  let v352 : BitVec 32 := Scalar.addi arg16 c1_i32_187
  let c1_i32_192 : BitVec 32 := 1#32
  let v359 : BitVec 32 := Scalar.subi v352 c1_i32_192
  let v362 : BitVec 32 := Scalar.subi v361 v359
  let v364 : BitVec 32 := Scalar.maxsi c0_i32_196 v362
  let v365 : BitVec 32 := Scalar.minsi v363 v364
  let c256_i32_224 : BitVec 32 := 256#32
  let v416 : BitVec 32 := Scalar.muli v365 c256_i32_224
  let v417 : BitVec 32 := v416
  let v420 : Index := Scalar.indexCast v417
  ![0, v420.toNat]
def k0_mult49 (i : grid0.Coords) (arg16 : BitVec 32) : BitVec 32 :=
  let c2_i32_248 : BitVec 32 := 2#32
  let arg1 : BitVec 32 := BitVec.ofNat 32 (i 1).val
  let v449 : BitVec 32 := Scalar.muli c2_i32_248 arg1
  let c0_i32_249 : BitVec 32 := 0#32
  let c2_i32_246 : BitVec 32 := 2#32
  let v446 : BitVec 32 := Scalar.muli c2_i32_246 arg1
  let c1_i32_247 : BitVec 32 := 1#32
  let v447 : BitVec 32 := Scalar.subi v446 c1_i32_247
  let c2_i32_235 : BitVec 32 := 2#32
  let v431 : BitVec 32 := Scalar.addi arg16 c2_i32_235
  let c1_i32_245 : BitVec 32 := 1#32
  let v445 : BitVec 32 := Scalar.addi v431 c1_i32_245
  let v448 : BitVec 32 := Scalar.subi v447 v445
  let v450 : BitVec 32 := Scalar.maxsi c0_i32_249 v448
  let v451 : BitVec 32 := Scalar.minsi v449 v450
  let c256_i32_250 : BitVec 32 := 256#32
  let v452 : BitVec 32 := Scalar.muli v451 c256_i32_250
  v452
def k0_mult50 (i : grid0.Coords) (arg16 : BitVec 32) : BitVec 32 :=
  let c2_i32_243 : BitVec 32 := 2#32
  let arg1 : BitVec 32 := BitVec.ofNat 32 (i 1).val
  let v442 : BitVec 32 := Scalar.muli c2_i32_243 arg1
  let c0_i32_244 : BitVec 32 := 0#32
  let c2_i32_241 : BitVec 32 := 2#32
  let v439 : BitVec 32 := Scalar.muli c2_i32_241 arg1
  let c1_i32_242 : BitVec 32 := 1#32
  let v440 : BitVec 32 := Scalar.subi v439 c1_i32_242
  let c2_i32_235 : BitVec 32 := 2#32
  let v431 : BitVec 32 := Scalar.addi arg16 c2_i32_235
  let c1_i32_240 : BitVec 32 := 1#32
  let v438 : BitVec 32 := Scalar.subi v431 c1_i32_240
  let v441 : BitVec 32 := Scalar.subi v440 v438
  let v443 : BitVec 32 := Scalar.maxsi c0_i32_244 v441
  let v444 : BitVec 32 := Scalar.minsi v442 v443
  let c256_i32_272 : BitVec 32 := 256#32
  let v495 : BitVec 32 := Scalar.muli v444 c256_i32_272
  v495
def k0_mult51 (i : grid0.Coords) (arg16 : BitVec 32) : BitVec 32 :=
  let c2_i32_295 : BitVec 32 := 2#32
  let arg1 : BitVec 32 := BitVec.ofNat 32 (i 1).val
  let v528 : BitVec 32 := Scalar.muli c2_i32_295 arg1
  let c0_i32_296 : BitVec 32 := 0#32
  let c2_i32_293 : BitVec 32 := 2#32
  let v525 : BitVec 32 := Scalar.muli c2_i32_293 arg1
  let c1_i32_294 : BitVec 32 := 1#32
  let v526 : BitVec 32 := Scalar.subi v525 c1_i32_294
  let c3_i32 : BitVec 32 := 3#32
  let v510 : BitVec 32 := Scalar.addi arg16 c3_i32
  let c1_i32_292 : BitVec 32 := 1#32
  let v524 : BitVec 32 := Scalar.addi v510 c1_i32_292
  let v527 : BitVec 32 := Scalar.subi v526 v524
  let v529 : BitVec 32 := Scalar.maxsi c0_i32_296 v527
  let v530 : BitVec 32 := Scalar.minsi v528 v529
  let c256_i32_297 : BitVec 32 := 256#32
  let v531 : BitVec 32 := Scalar.muli v530 c256_i32_297
  v531
def k0_mult52 (i : grid0.Coords) (arg16 : BitVec 32) : BitVec 32 :=
  let c2_i32_290 : BitVec 32 := 2#32
  let arg1 : BitVec 32 := BitVec.ofNat 32 (i 1).val
  let v521 : BitVec 32 := Scalar.muli c2_i32_290 arg1
  let c0_i32_291 : BitVec 32 := 0#32
  let c2_i32_288 : BitVec 32 := 2#32
  let v518 : BitVec 32 := Scalar.muli c2_i32_288 arg1
  let c1_i32_289 : BitVec 32 := 1#32
  let v519 : BitVec 32 := Scalar.subi v518 c1_i32_289
  let c3_i32 : BitVec 32 := 3#32
  let v510 : BitVec 32 := Scalar.addi arg16 c3_i32
  let c1_i32_287 : BitVec 32 := 1#32
  let v517 : BitVec 32 := Scalar.subi v510 c1_i32_287
  let v520 : BitVec 32 := Scalar.subi v519 v517
  let v522 : BitVec 32 := Scalar.maxsi c0_i32_291 v520
  let v523 : BitVec 32 := Scalar.minsi v521 v522
  let c256_i32_319 : BitVec 32 := 256#32
  let v574 : BitVec 32 := Scalar.muli v523 c256_i32_319
  v574

def k0_chk5 (i : grid0.Coords) (arg16 : BitVec 32) : Prop :=
  (256 ∣ (k0_mult45 i arg16).toNat) ∧
  (∀ (r : Fin 4), ∀ a, (k0_off13 i arg16 (BitVec.ofNat 32 r.val)) a + S256x128.size a ≤ S16384x128.size a) ∧
  (256 ∣ (k0_mult46 i arg16).toNat) ∧
  (∀ a, (k0_off14 i arg16) a + S128x256.size a ≤ S128x16384.size a) ∧
  (256 ∣ (k0_mult47 i arg16).toNat) ∧
  (256 ∣ (k0_mult48 i arg16).toNat) ∧
  (∀ (r : Fin 3), ∀ a, (k0_off15 i arg16 (BitVec.ofNat 32 (1 + r.val))) a + S128x256.size a ≤ S128x16384.size a) ∧
  (256 ∣ (k0_mult49 i arg16).toNat) ∧
  (256 ∣ (k0_mult50 i arg16).toNat) ∧
  (256 ∣ (k0_mult51 i arg16).toNat) ∧
  (256 ∣ (k0_mult52 i arg16).toNat)
theorem k0_mult45_dvd : ∀ (i : grid0.Coords) (arg16 : BitVec 32) (k0_hw5 : k0_chk5 i arg16), 256 ∣ (k0_mult45 i arg16).toNat := fun i arg16 k0_hw5 => k0_hw5.1
theorem k0_off13_inb : ∀ (i : grid0.Coords) (arg16 : BitVec 32) (k0_hw5 : k0_chk5 i arg16), ∀ (r : Fin 4), ∀ a, (k0_off13 i arg16 (BitVec.ofNat 32 r.val)) a + S256x128.size a ≤ S16384x128.size a := fun i arg16 k0_hw5 r => k0_hw5.2.1 r
theorem k0_mult46_dvd : ∀ (i : grid0.Coords) (arg16 : BitVec 32) (k0_hw5 : k0_chk5 i arg16), 256 ∣ (k0_mult46 i arg16).toNat := fun i arg16 k0_hw5 => k0_hw5.2.2.1
theorem k0_off14_inb : ∀ (i : grid0.Coords) (arg16 : BitVec 32) (k0_hw5 : k0_chk5 i arg16), ∀ a, (k0_off14 i arg16) a + S128x256.size a ≤ S128x16384.size a := fun i arg16 k0_hw5 => k0_hw5.2.2.2.1
theorem k0_mult47_dvd : ∀ (i : grid0.Coords) (arg16 : BitVec 32) (k0_hw5 : k0_chk5 i arg16), 256 ∣ (k0_mult47 i arg16).toNat := fun i arg16 k0_hw5 => k0_hw5.2.2.2.2.1
theorem k0_mult48_dvd : ∀ (i : grid0.Coords) (arg16 : BitVec 32) (k0_hw5 : k0_chk5 i arg16), 256 ∣ (k0_mult48 i arg16).toNat := fun i arg16 k0_hw5 => k0_hw5.2.2.2.2.2.1
theorem k0_off15_inb : ∀ (i : grid0.Coords) (arg16 : BitVec 32) (k0_hw5 : k0_chk5 i arg16), ∀ (r : Fin 3), ∀ a, (k0_off15 i arg16 (BitVec.ofNat 32 (1 + r.val))) a + S128x256.size a ≤ S128x16384.size a := fun i arg16 k0_hw5 r => k0_hw5.2.2.2.2.2.2.1 r
theorem k0_mult49_dvd : ∀ (i : grid0.Coords) (arg16 : BitVec 32) (k0_hw5 : k0_chk5 i arg16), 256 ∣ (k0_mult49 i arg16).toNat := fun i arg16 k0_hw5 => k0_hw5.2.2.2.2.2.2.2.1
theorem k0_mult50_dvd : ∀ (i : grid0.Coords) (arg16 : BitVec 32) (k0_hw5 : k0_chk5 i arg16), 256 ∣ (k0_mult50 i arg16).toNat := fun i arg16 k0_hw5 => k0_hw5.2.2.2.2.2.2.2.2.1
theorem k0_mult51_dvd : ∀ (i : grid0.Coords) (arg16 : BitVec 32) (k0_hw5 : k0_chk5 i arg16), 256 ∣ (k0_mult51 i arg16).toNat := fun i arg16 k0_hw5 => k0_hw5.2.2.2.2.2.2.2.2.2.1
theorem k0_mult52_dvd : ∀ (i : grid0.Coords) (arg16 : BitVec 32) (k0_hw5 : k0_chk5 i arg16), 256 ∣ (k0_mult52 i arg16).toNat := fun i arg16 k0_hw5 => k0_hw5.2.2.2.2.2.2.2.2.2.2

@[reducible] def k0_t5_loop (i : grid0.Coords) (v212 : BitVec 32) : Scf.Loop 32 :=
  let c0_i32_111 : BitVec 32 := 0#32
  let c2_i32_10 : BitVec 32 := 2#32
  let arg1 : BitVec 32 := BitVec.ofNat 32 (i 1).val
  let v28 : BitVec 32 := Scalar.muli c2_i32_10 arg1
  let v213 : BitVec 32 := Scalar.subi v28 v212
  let c0_i32_105 : BitVec 32 := 0#32
  let v215 : BitVec 1 := Scalar.cmpi .sgt v213 c0_i32_105
  let v216 : BitVec 32 := Scalar.extui v215
  let c0_i32_106 : BitVec 32 := 0#32
  let v217 : BitVec 1 := Scalar.cmpi .slt v213 c0_i32_106
  let v218 : BitVec 32 := Scalar.extui v217
  let v219 : BitVec 32 := Scalar.subi v216 v218
  let c2_i32_104 : BitVec 32 := 2#32
  let c0_i32_107 : BitVec 32 := 0#32
  let v220 : BitVec 1 := Scalar.cmpi .sgt c2_i32_104 c0_i32_107
  let v221 : BitVec 32 := Scalar.extui v220
  let c0_i32_108 : BitVec 32 := 0#32
  let v222 : BitVec 1 := Scalar.cmpi .slt c2_i32_104 c0_i32_108
  let v223 : BitVec 32 := Scalar.extui v222
  let v224 : BitVec 32 := Scalar.subi v221 v223
  let v225 : BitVec 1 := Scalar.cmpi .ne v219 v224
  let v226 : BitVec 32 := Scalar.remsi v213 c2_i32_104
  let c0_i32_109 : BitVec 32 := 0#32
  let v227 : BitVec 1 := Scalar.cmpi .ne v226 c0_i32_109
  let v228 : BitVec 1 := Scalar.andi v225 v227
  let v214 : BitVec 32 := Scalar.divsi v213 c2_i32_104
  let c1_i32_110 : BitVec 32 := 1#32
  let v229 : BitVec 32 := Scalar.subi v214 c1_i32_110
  let v230 : BitVec 32 := Scalar.select v228 v229 v214
  let v231 : BitVec 32 := Scalar.subi v230 c0_i32_111
  let c1_i32_112 : BitVec 32 := 1#32
  let v233 : BitVec 32 := Scalar.divsi v231 c1_i32_112
  let v234 : BitVec 32 := Scalar.muli v233 c1_i32_112
  let v235 : BitVec 32 := Scalar.addi c0_i32_111 v234
  let c1_i32_113 : BitVec 32 := 1#32
  ⟨c0_i32_111, v235, c1_i32_113⟩

def k0_mult53 (i : grid0.Coords) (arg16 : BitVec 32) : BitVec 32 :=
  let c2_i32_152 : BitVec 32 := 2#32
  let arg1 : BitVec 32 := BitVec.ofNat 32 (i 1).val
  let v291 : BitVec 32 := Scalar.muli c2_i32_152 arg1
  let c0_i32_153 : BitVec 32 := 0#32
  let c2_i32_150 : BitVec 32 := 2#32
  let v288 : BitVec 32 := Scalar.muli c2_i32_150 arg1
  let c1_i32_151 : BitVec 32 := 1#32
  let v289 : BitVec 32 := Scalar.subi v288 c1_i32_151
  let c0_i32_138 : BitVec 32 := 0#32
  let v271 : BitVec 32 := Scalar.addi arg16 c0_i32_138
  let c1_i32_149 : BitVec 32 := 1#32
  let v287 : BitVec 32 := Scalar.addi v271 c1_i32_149
  let v290 : BitVec 32 := Scalar.subi v289 v287
  let v292 : BitVec 32 := Scalar.maxsi c0_i32_153 v290
  let v293 : BitVec 32 := Scalar.minsi v291 v292
  let c256_i32_154 : BitVec 32 := 256#32
  let v294 : BitVec 32 := Scalar.muli v293 c256_i32_154
  v294

def k0_off16 (i : grid0.Coords) (arg16 : BitVec 32) (c0_i32_138 : BitVec 32) : Fin 2 → Nat :=
  let c2_i32_152 : BitVec 32 := 2#32
  let arg1 : BitVec 32 := BitVec.ofNat 32 (i 1).val
  let v291 : BitVec 32 := Scalar.muli c2_i32_152 arg1
  let c0_i32_153 : BitVec 32 := 0#32
  let c2_i32_150 : BitVec 32 := 2#32
  let v288 : BitVec 32 := Scalar.muli c2_i32_150 arg1
  let c1_i32_151 : BitVec 32 := 1#32
  let v289 : BitVec 32 := Scalar.subi v288 c1_i32_151
  let v271 : BitVec 32 := Scalar.addi arg16 c0_i32_138
  let c1_i32_149 : BitVec 32 := 1#32
  let v287 : BitVec 32 := Scalar.addi v271 c1_i32_149
  let v290 : BitVec 32 := Scalar.subi v289 v287
  let v292 : BitVec 32 := Scalar.maxsi c0_i32_153 v290
  let v293 : BitVec 32 := Scalar.minsi v291 v292
  let c256_i32_154 : BitVec 32 := 256#32
  let v294 : BitVec 32 := Scalar.muli v293 c256_i32_154
  let v295 : BitVec 32 := v294
  let v296 : Index := Scalar.indexCast v295
  let c0_155 : Index := 0#32
  ![v296.toNat, 0]
def k0_mult54 (i : grid0.Coords) (arg16 : BitVec 32) : BitVec 32 :=
  let c0_i32_138 : BitVec 32 := 0#32
  let v271 : BitVec 32 := Scalar.addi arg16 c0_i32_138
  let c0_i32_143 : BitVec 32 := 0#32
  let v278 : BitVec 1 := Scalar.cmpi .eq v271 c0_i32_143
  let c2_i32_9 : BitVec 32 := 2#32
  let arg1 : BitVec 32 := BitVec.ofNat 32 (i 1).val
  let v26 : BitVec 32 := Scalar.muli c2_i32_9 arg1
  let c0_i32 : BitVec 32 := 0#32
  let v27 : BitVec 32 := Scalar.addi v26 c0_i32
  let c2_i32_147 : BitVec 32 := 2#32
  let v283 : BitVec 32 := Scalar.muli c2_i32_147 arg1
  let c0_i32_148 : BitVec 32 := 0#32
  let c2_i32_145 : BitVec 32 := 2#32
  let v280 : BitVec 32 := Scalar.muli c2_i32_145 arg1
  let c1_i32_146 : BitVec 32 := 1#32
  let v281 : BitVec 32 := Scalar.subi v280 c1_i32_146
  let c1_i32_144 : BitVec 32 := 1#32
  let v279 : BitVec 32 := Scalar.subi v271 c1_i32_144
  let v282 : BitVec 32 := Scalar.subi v281 v279
  let v284 : BitVec 32 := Scalar.maxsi c0_i32_148 v282
  let v285 : BitVec 32 := Scalar.minsi v283 v284
  let v286 : BitVec 32 := Scalar.select v278 v27 v285
  let c256_i32_176 : BitVec 32 := 256#32
  let v337 : BitVec 32 := Scalar.muli v286 c256_i32_176
  v337
def k0_off17 (i : grid0.Coords) (arg16 : BitVec 32) : Fin 2 → Nat :=
  let c0_181 : Index := 0#32
  let c0_i32_138 : BitVec 32 := 0#32
  let v271 : BitVec 32 := Scalar.addi arg16 c0_i32_138
  let c0_i32_143 : BitVec 32 := 0#32
  let v278 : BitVec 1 := Scalar.cmpi .eq v271 c0_i32_143
  let c2_i32_9 : BitVec 32 := 2#32
  let arg1 : BitVec 32 := BitVec.ofNat 32 (i 1).val
  let v26 : BitVec 32 := Scalar.muli c2_i32_9 arg1
  let c0_i32 : BitVec 32 := 0#32
  let v27 : BitVec 32 := Scalar.addi v26 c0_i32
  let c2_i32_147 : BitVec 32 := 2#32
  let v283 : BitVec 32 := Scalar.muli c2_i32_147 arg1
  let c0_i32_148 : BitVec 32 := 0#32
  let c2_i32_145 : BitVec 32 := 2#32
  let v280 : BitVec 32 := Scalar.muli c2_i32_145 arg1
  let c1_i32_146 : BitVec 32 := 1#32
  let v281 : BitVec 32 := Scalar.subi v280 c1_i32_146
  let c1_i32_144 : BitVec 32 := 1#32
  let v279 : BitVec 32 := Scalar.subi v271 c1_i32_144
  let v282 : BitVec 32 := Scalar.subi v281 v279
  let v284 : BitVec 32 := Scalar.maxsi c0_i32_148 v282
  let v285 : BitVec 32 := Scalar.minsi v283 v284
  let v286 : BitVec 32 := Scalar.select v278 v27 v285
  let c256_i32_176 : BitVec 32 := 256#32
  let v337 : BitVec 32 := Scalar.muli v286 c256_i32_176
  let v338 : BitVec 32 := v337
  let v341 : Index := Scalar.indexCast v338
  ![0, v341.toNat]
def k0_mult55 (i : grid0.Coords) (arg16 : BitVec 32) : BitVec 32 :=
  let c2_i32_200 : BitVec 32 := 2#32
  let arg1 : BitVec 32 := BitVec.ofNat 32 (i 1).val
  let v370 : BitVec 32 := Scalar.muli c2_i32_200 arg1
  let c0_i32_201 : BitVec 32 := 0#32
  let c2_i32_198 : BitVec 32 := 2#32
  let v367 : BitVec 32 := Scalar.muli c2_i32_198 arg1
  let c1_i32_199 : BitVec 32 := 1#32
  let v368 : BitVec 32 := Scalar.subi v367 c1_i32_199
  let c1_i32_187 : BitVec 32 := 1#32
  let v352 : BitVec 32 := Scalar.addi arg16 c1_i32_187
  let c1_i32_197 : BitVec 32 := 1#32
  let v366 : BitVec 32 := Scalar.addi v352 c1_i32_197
  let v369 : BitVec 32 := Scalar.subi v368 v366
  let v371 : BitVec 32 := Scalar.maxsi c0_i32_201 v369
  let v372 : BitVec 32 := Scalar.minsi v370 v371
  let c256_i32_202 : BitVec 32 := 256#32
  let v373 : BitVec 32 := Scalar.muli v372 c256_i32_202
  v373
def k0_mult56 (i : grid0.Coords) (arg16 : BitVec 32) : BitVec 32 :=
  let c2_i32_195 : BitVec 32 := 2#32
  let arg1 : BitVec 32 := BitVec.ofNat 32 (i 1).val
  let v363 : BitVec 32 := Scalar.muli c2_i32_195 arg1
  let c0_i32_196 : BitVec 32 := 0#32
  let c2_i32_193 : BitVec 32 := 2#32
  let v360 : BitVec 32 := Scalar.muli c2_i32_193 arg1
  let c1_i32_194 : BitVec 32 := 1#32
  let v361 : BitVec 32 := Scalar.subi v360 c1_i32_194
  let c1_i32_187 : BitVec 32 := 1#32
  let v352 : BitVec 32 := Scalar.addi arg16 c1_i32_187
  let c1_i32_192 : BitVec 32 := 1#32
  let v359 : BitVec 32 := Scalar.subi v352 c1_i32_192
  let v362 : BitVec 32 := Scalar.subi v361 v359
  let v364 : BitVec 32 := Scalar.maxsi c0_i32_196 v362
  let v365 : BitVec 32 := Scalar.minsi v363 v364
  let c256_i32_224 : BitVec 32 := 256#32
  let v416 : BitVec 32 := Scalar.muli v365 c256_i32_224
  v416
def k0_off18 (i : grid0.Coords) (arg16 : BitVec 32) : Fin 2 → Nat :=
  let c0_229 : Index := 0#32
  let c2_i32_195 : BitVec 32 := 2#32
  let arg1 : BitVec 32 := BitVec.ofNat 32 (i 1).val
  let v363 : BitVec 32 := Scalar.muli c2_i32_195 arg1
  let c0_i32_196 : BitVec 32 := 0#32
  let c2_i32_193 : BitVec 32 := 2#32
  let v360 : BitVec 32 := Scalar.muli c2_i32_193 arg1
  let c1_i32_194 : BitVec 32 := 1#32
  let v361 : BitVec 32 := Scalar.subi v360 c1_i32_194
  let c1_i32_187 : BitVec 32 := 1#32
  let v352 : BitVec 32 := Scalar.addi arg16 c1_i32_187
  let c1_i32_192 : BitVec 32 := 1#32
  let v359 : BitVec 32 := Scalar.subi v352 c1_i32_192
  let v362 : BitVec 32 := Scalar.subi v361 v359
  let v364 : BitVec 32 := Scalar.maxsi c0_i32_196 v362
  let v365 : BitVec 32 := Scalar.minsi v363 v364
  let c256_i32_224 : BitVec 32 := 256#32
  let v416 : BitVec 32 := Scalar.muli v365 c256_i32_224
  let v417 : BitVec 32 := v416
  let v420 : Index := Scalar.indexCast v417
  ![0, v420.toNat]

def k0_chk7 (i : grid0.Coords) (arg16 : BitVec 32) : Prop :=
  (256 ∣ (k0_mult53 i arg16).toNat) ∧
  (∀ (r : Fin 2), ∀ a, (k0_off16 i arg16 (BitVec.ofNat 32 r.val)) a + S256x128.size a ≤ S16384x128.size a) ∧
  (256 ∣ (k0_mult54 i arg16).toNat) ∧
  (∀ a, (k0_off17 i arg16) a + S128x256.size a ≤ S128x16384.size a) ∧
  (256 ∣ (k0_mult55 i arg16).toNat) ∧
  (256 ∣ (k0_mult56 i arg16).toNat) ∧
  (∀ a, (k0_off18 i arg16) a + S128x256.size a ≤ S128x16384.size a)
theorem k0_mult53_dvd : ∀ (i : grid0.Coords) (arg16 : BitVec 32) (k0_hw7 : k0_chk7 i arg16), 256 ∣ (k0_mult53 i arg16).toNat := fun i arg16 k0_hw7 => k0_hw7.1
theorem k0_off16_inb : ∀ (i : grid0.Coords) (arg16 : BitVec 32) (k0_hw7 : k0_chk7 i arg16), ∀ (r : Fin 2), ∀ a, (k0_off16 i arg16 (BitVec.ofNat 32 r.val)) a + S256x128.size a ≤ S16384x128.size a := fun i arg16 k0_hw7 r => k0_hw7.2.1 r
theorem k0_mult54_dvd : ∀ (i : grid0.Coords) (arg16 : BitVec 32) (k0_hw7 : k0_chk7 i arg16), 256 ∣ (k0_mult54 i arg16).toNat := fun i arg16 k0_hw7 => k0_hw7.2.2.1
theorem k0_off17_inb : ∀ (i : grid0.Coords) (arg16 : BitVec 32) (k0_hw7 : k0_chk7 i arg16), ∀ a, (k0_off17 i arg16) a + S128x256.size a ≤ S128x16384.size a := fun i arg16 k0_hw7 => k0_hw7.2.2.2.1
theorem k0_mult55_dvd : ∀ (i : grid0.Coords) (arg16 : BitVec 32) (k0_hw7 : k0_chk7 i arg16), 256 ∣ (k0_mult55 i arg16).toNat := fun i arg16 k0_hw7 => k0_hw7.2.2.2.2.1
theorem k0_mult56_dvd : ∀ (i : grid0.Coords) (arg16 : BitVec 32) (k0_hw7 : k0_chk7 i arg16), 256 ∣ (k0_mult56 i arg16).toNat := fun i arg16 k0_hw7 => k0_hw7.2.2.2.2.2.1
theorem k0_off18_inb : ∀ (i : grid0.Coords) (arg16 : BitVec 32) (k0_hw7 : k0_chk7 i arg16), ∀ a, (k0_off18 i arg16) a + S128x256.size a ≤ S128x16384.size a := fun i arg16 k0_hw7 => k0_hw7.2.2.2.2.2.2

@[reducible] def k0_t6_loop (i : grid0.Coords) (v212 : BitVec 32) : Scf.Loop 32 :=
  let c0_i32_111 : BitVec 32 := 0#32
  let c2_i32_10 : BitVec 32 := 2#32
  let arg1 : BitVec 32 := BitVec.ofNat 32 (i 1).val
  let v28 : BitVec 32 := Scalar.muli c2_i32_10 arg1
  let v213 : BitVec 32 := Scalar.subi v28 v212
  let c0_i32_105 : BitVec 32 := 0#32
  let v215 : BitVec 1 := Scalar.cmpi .sgt v213 c0_i32_105
  let v216 : BitVec 32 := Scalar.extui v215
  let c0_i32_106 : BitVec 32 := 0#32
  let v217 : BitVec 1 := Scalar.cmpi .slt v213 c0_i32_106
  let v218 : BitVec 32 := Scalar.extui v217
  let v219 : BitVec 32 := Scalar.subi v216 v218
  let c2_i32_104 : BitVec 32 := 2#32
  let c0_i32_107 : BitVec 32 := 0#32
  let v220 : BitVec 1 := Scalar.cmpi .sgt c2_i32_104 c0_i32_107
  let v221 : BitVec 32 := Scalar.extui v220
  let c0_i32_108 : BitVec 32 := 0#32
  let v222 : BitVec 1 := Scalar.cmpi .slt c2_i32_104 c0_i32_108
  let v223 : BitVec 32 := Scalar.extui v222
  let v224 : BitVec 32 := Scalar.subi v221 v223
  let v225 : BitVec 1 := Scalar.cmpi .ne v219 v224
  let v226 : BitVec 32 := Scalar.remsi v213 c2_i32_104
  let c0_i32_109 : BitVec 32 := 0#32
  let v227 : BitVec 1 := Scalar.cmpi .ne v226 c0_i32_109
  let v228 : BitVec 1 := Scalar.andi v225 v227
  let v214 : BitVec 32 := Scalar.divsi v213 c2_i32_104
  let c1_i32_110 : BitVec 32 := 1#32
  let v229 : BitVec 32 := Scalar.subi v214 c1_i32_110
  let v230 : BitVec 32 := Scalar.select v228 v229 v214
  let v231 : BitVec 32 := Scalar.subi v230 c0_i32_111
  let c1_i32_112 : BitVec 32 := 1#32
  let v233 : BitVec 32 := Scalar.divsi v231 c1_i32_112
  let v234 : BitVec 32 := Scalar.muli v233 c1_i32_112
  let v235 : BitVec 32 := Scalar.addi c0_i32_111 v234
  let v232 : BitVec 32 := Scalar.addi c0_i32_111 v231
  let c1_i32_114 : BitVec 32 := 1#32
  ⟨v235, v232, c1_i32_114⟩

def k0_chk6 (i : grid0.Coords) (v212 : BitVec 32) : Prop :=
  ((k0_t5_loop i v212).OK) ∧
  ((k0_t6_loop i v212).OK)
theorem k0_t5_ok : ∀ (i : grid0.Coords) (v212 : BitVec 32) (k0_hw6 : k0_chk6 i v212), (k0_t5_loop i v212).OK := fun i v212 k0_hw6 => k0_hw6.1
theorem k0_t6_ok : ∀ (i : grid0.Coords) (v212 : BitVec 32) (k0_hw6 : k0_chk6 i v212), (k0_t6_loop i v212).OK := fun i v212 k0_hw6 => k0_hw6.2

def k0_mult57 (i : grid0.Coords) (arg16 : BitVec 32) : BitVec 32 :=
  let c2_i32_152 : BitVec 32 := 2#32
  let arg1 : BitVec 32 := BitVec.ofNat 32 (i 1).val
  let v291 : BitVec 32 := Scalar.muli c2_i32_152 arg1
  let c0_i32_153 : BitVec 32 := 0#32
  let c2_i32_150 : BitVec 32 := 2#32
  let v288 : BitVec 32 := Scalar.muli c2_i32_150 arg1
  let c1_i32_151 : BitVec 32 := 1#32
  let v289 : BitVec 32 := Scalar.subi v288 c1_i32_151
  let c0_i32_138 : BitVec 32 := 0#32
  let v271 : BitVec 32 := Scalar.addi arg16 c0_i32_138
  let c1_i32_149 : BitVec 32 := 1#32
  let v287 : BitVec 32 := Scalar.addi v271 c1_i32_149
  let v290 : BitVec 32 := Scalar.subi v289 v287
  let v292 : BitVec 32 := Scalar.maxsi c0_i32_153 v290
  let v293 : BitVec 32 := Scalar.minsi v291 v292
  let c256_i32_154 : BitVec 32 := 256#32
  let v294 : BitVec 32 := Scalar.muli v293 c256_i32_154
  v294

def k0_off19 (i : grid0.Coords) (arg16 : BitVec 32) (c0_i32_138 : BitVec 32) : Fin 2 → Nat :=
  let c2_i32_152 : BitVec 32 := 2#32
  let arg1 : BitVec 32 := BitVec.ofNat 32 (i 1).val
  let v291 : BitVec 32 := Scalar.muli c2_i32_152 arg1
  let c0_i32_153 : BitVec 32 := 0#32
  let c2_i32_150 : BitVec 32 := 2#32
  let v288 : BitVec 32 := Scalar.muli c2_i32_150 arg1
  let c1_i32_151 : BitVec 32 := 1#32
  let v289 : BitVec 32 := Scalar.subi v288 c1_i32_151
  let v271 : BitVec 32 := Scalar.addi arg16 c0_i32_138
  let c1_i32_149 : BitVec 32 := 1#32
  let v287 : BitVec 32 := Scalar.addi v271 c1_i32_149
  let v290 : BitVec 32 := Scalar.subi v289 v287
  let v292 : BitVec 32 := Scalar.maxsi c0_i32_153 v290
  let v293 : BitVec 32 := Scalar.minsi v291 v292
  let c256_i32_154 : BitVec 32 := 256#32
  let v294 : BitVec 32 := Scalar.muli v293 c256_i32_154
  let v295 : BitVec 32 := v294
  let v296 : Index := Scalar.indexCast v295
  let c0_155 : Index := 0#32
  ![v296.toNat, 0]
def k0_mult58 (i : grid0.Coords) (arg16 : BitVec 32) : BitVec 32 :=
  let c0_i32_138 : BitVec 32 := 0#32
  let v271 : BitVec 32 := Scalar.addi arg16 c0_i32_138
  let c0_i32_143 : BitVec 32 := 0#32
  let v278 : BitVec 1 := Scalar.cmpi .eq v271 c0_i32_143
  let c2_i32_9 : BitVec 32 := 2#32
  let arg1 : BitVec 32 := BitVec.ofNat 32 (i 1).val
  let v26 : BitVec 32 := Scalar.muli c2_i32_9 arg1
  let c0_i32 : BitVec 32 := 0#32
  let v27 : BitVec 32 := Scalar.addi v26 c0_i32
  let c2_i32_147 : BitVec 32 := 2#32
  let v283 : BitVec 32 := Scalar.muli c2_i32_147 arg1
  let c0_i32_148 : BitVec 32 := 0#32
  let c2_i32_145 : BitVec 32 := 2#32
  let v280 : BitVec 32 := Scalar.muli c2_i32_145 arg1
  let c1_i32_146 : BitVec 32 := 1#32
  let v281 : BitVec 32 := Scalar.subi v280 c1_i32_146
  let c1_i32_144 : BitVec 32 := 1#32
  let v279 : BitVec 32 := Scalar.subi v271 c1_i32_144
  let v282 : BitVec 32 := Scalar.subi v281 v279
  let v284 : BitVec 32 := Scalar.maxsi c0_i32_148 v282
  let v285 : BitVec 32 := Scalar.minsi v283 v284
  let v286 : BitVec 32 := Scalar.select v278 v27 v285
  let c256_i32_176 : BitVec 32 := 256#32
  let v337 : BitVec 32 := Scalar.muli v286 c256_i32_176
  v337
def k0_off20 (i : grid0.Coords) (arg16 : BitVec 32) : Fin 2 → Nat :=
  let c0_181 : Index := 0#32
  let c0_i32_138 : BitVec 32 := 0#32
  let v271 : BitVec 32 := Scalar.addi arg16 c0_i32_138
  let c0_i32_143 : BitVec 32 := 0#32
  let v278 : BitVec 1 := Scalar.cmpi .eq v271 c0_i32_143
  let c2_i32_9 : BitVec 32 := 2#32
  let arg1 : BitVec 32 := BitVec.ofNat 32 (i 1).val
  let v26 : BitVec 32 := Scalar.muli c2_i32_9 arg1
  let c0_i32 : BitVec 32 := 0#32
  let v27 : BitVec 32 := Scalar.addi v26 c0_i32
  let c2_i32_147 : BitVec 32 := 2#32
  let v283 : BitVec 32 := Scalar.muli c2_i32_147 arg1
  let c0_i32_148 : BitVec 32 := 0#32
  let c2_i32_145 : BitVec 32 := 2#32
  let v280 : BitVec 32 := Scalar.muli c2_i32_145 arg1
  let c1_i32_146 : BitVec 32 := 1#32
  let v281 : BitVec 32 := Scalar.subi v280 c1_i32_146
  let c1_i32_144 : BitVec 32 := 1#32
  let v279 : BitVec 32 := Scalar.subi v271 c1_i32_144
  let v282 : BitVec 32 := Scalar.subi v281 v279
  let v284 : BitVec 32 := Scalar.maxsi c0_i32_148 v282
  let v285 : BitVec 32 := Scalar.minsi v283 v284
  let v286 : BitVec 32 := Scalar.select v278 v27 v285
  let c256_i32_176 : BitVec 32 := 256#32
  let v337 : BitVec 32 := Scalar.muli v286 c256_i32_176
  let v338 : BitVec 32 := v337
  let v341 : Index := Scalar.indexCast v338
  ![0, v341.toNat]
def k0_mult59 (i : grid0.Coords) (arg16 : BitVec 32) : BitVec 32 :=
  let c2_i32_200 : BitVec 32 := 2#32
  let arg1 : BitVec 32 := BitVec.ofNat 32 (i 1).val
  let v370 : BitVec 32 := Scalar.muli c2_i32_200 arg1
  let c0_i32_201 : BitVec 32 := 0#32
  let c2_i32_198 : BitVec 32 := 2#32
  let v367 : BitVec 32 := Scalar.muli c2_i32_198 arg1
  let c1_i32_199 : BitVec 32 := 1#32
  let v368 : BitVec 32 := Scalar.subi v367 c1_i32_199
  let c1_i32_187 : BitVec 32 := 1#32
  let v352 : BitVec 32 := Scalar.addi arg16 c1_i32_187
  let c1_i32_197 : BitVec 32 := 1#32
  let v366 : BitVec 32 := Scalar.addi v352 c1_i32_197
  let v369 : BitVec 32 := Scalar.subi v368 v366
  let v371 : BitVec 32 := Scalar.maxsi c0_i32_201 v369
  let v372 : BitVec 32 := Scalar.minsi v370 v371
  let c256_i32_202 : BitVec 32 := 256#32
  let v373 : BitVec 32 := Scalar.muli v372 c256_i32_202
  v373
def k0_mult60 (i : grid0.Coords) (arg16 : BitVec 32) : BitVec 32 :=
  let c2_i32_195 : BitVec 32 := 2#32
  let arg1 : BitVec 32 := BitVec.ofNat 32 (i 1).val
  let v363 : BitVec 32 := Scalar.muli c2_i32_195 arg1
  let c0_i32_196 : BitVec 32 := 0#32
  let c2_i32_193 : BitVec 32 := 2#32
  let v360 : BitVec 32 := Scalar.muli c2_i32_193 arg1
  let c1_i32_194 : BitVec 32 := 1#32
  let v361 : BitVec 32 := Scalar.subi v360 c1_i32_194
  let c1_i32_187 : BitVec 32 := 1#32
  let v352 : BitVec 32 := Scalar.addi arg16 c1_i32_187
  let c1_i32_192 : BitVec 32 := 1#32
  let v359 : BitVec 32 := Scalar.subi v352 c1_i32_192
  let v362 : BitVec 32 := Scalar.subi v361 v359
  let v364 : BitVec 32 := Scalar.maxsi c0_i32_196 v362
  let v365 : BitVec 32 := Scalar.minsi v363 v364
  let c256_i32_224 : BitVec 32 := 256#32
  let v416 : BitVec 32 := Scalar.muli v365 c256_i32_224
  v416
def k0_off21 (i : grid0.Coords) (arg16 : BitVec 32) : Fin 2 → Nat :=
  let c0_229 : Index := 0#32
  let c2_i32_195 : BitVec 32 := 2#32
  let arg1 : BitVec 32 := BitVec.ofNat 32 (i 1).val
  let v363 : BitVec 32 := Scalar.muli c2_i32_195 arg1
  let c0_i32_196 : BitVec 32 := 0#32
  let c2_i32_193 : BitVec 32 := 2#32
  let v360 : BitVec 32 := Scalar.muli c2_i32_193 arg1
  let c1_i32_194 : BitVec 32 := 1#32
  let v361 : BitVec 32 := Scalar.subi v360 c1_i32_194
  let c1_i32_187 : BitVec 32 := 1#32
  let v352 : BitVec 32 := Scalar.addi arg16 c1_i32_187
  let c1_i32_192 : BitVec 32 := 1#32
  let v359 : BitVec 32 := Scalar.subi v352 c1_i32_192
  let v362 : BitVec 32 := Scalar.subi v361 v359
  let v364 : BitVec 32 := Scalar.maxsi c0_i32_196 v362
  let v365 : BitVec 32 := Scalar.minsi v363 v364
  let c256_i32_224 : BitVec 32 := 256#32
  let v416 : BitVec 32 := Scalar.muli v365 c256_i32_224
  let v417 : BitVec 32 := v416
  let v420 : Index := Scalar.indexCast v417
  ![0, v420.toNat]

def k0_chk8 (i : grid0.Coords) (arg16 : BitVec 32) : Prop :=
  (256 ∣ (k0_mult57 i arg16).toNat) ∧
  (∀ (r : Fin 2), ∀ a, (k0_off19 i arg16 (BitVec.ofNat 32 r.val)) a + S256x128.size a ≤ S16384x128.size a) ∧
  (256 ∣ (k0_mult58 i arg16).toNat) ∧
  (∀ a, (k0_off20 i arg16) a + S128x256.size a ≤ S128x16384.size a) ∧
  (256 ∣ (k0_mult59 i arg16).toNat) ∧
  (256 ∣ (k0_mult60 i arg16).toNat) ∧
  (∀ a, (k0_off21 i arg16) a + S128x256.size a ≤ S128x16384.size a)
theorem k0_mult57_dvd : ∀ (i : grid0.Coords) (arg16 : BitVec 32) (k0_hw8 : k0_chk8 i arg16), 256 ∣ (k0_mult57 i arg16).toNat := fun i arg16 k0_hw8 => k0_hw8.1
theorem k0_off19_inb : ∀ (i : grid0.Coords) (arg16 : BitVec 32) (k0_hw8 : k0_chk8 i arg16), ∀ (r : Fin 2), ∀ a, (k0_off19 i arg16 (BitVec.ofNat 32 r.val)) a + S256x128.size a ≤ S16384x128.size a := fun i arg16 k0_hw8 r => k0_hw8.2.1 r
theorem k0_mult58_dvd : ∀ (i : grid0.Coords) (arg16 : BitVec 32) (k0_hw8 : k0_chk8 i arg16), 256 ∣ (k0_mult58 i arg16).toNat := fun i arg16 k0_hw8 => k0_hw8.2.2.1
theorem k0_off20_inb : ∀ (i : grid0.Coords) (arg16 : BitVec 32) (k0_hw8 : k0_chk8 i arg16), ∀ a, (k0_off20 i arg16) a + S128x256.size a ≤ S128x16384.size a := fun i arg16 k0_hw8 => k0_hw8.2.2.2.1
theorem k0_mult59_dvd : ∀ (i : grid0.Coords) (arg16 : BitVec 32) (k0_hw8 : k0_chk8 i arg16), 256 ∣ (k0_mult59 i arg16).toNat := fun i arg16 k0_hw8 => k0_hw8.2.2.2.2.1
theorem k0_mult60_dvd : ∀ (i : grid0.Coords) (arg16 : BitVec 32) (k0_hw8 : k0_chk8 i arg16), 256 ∣ (k0_mult60 i arg16).toNat := fun i arg16 k0_hw8 => k0_hw8.2.2.2.2.2.1
theorem k0_off21_inb : ∀ (i : grid0.Coords) (arg16 : BitVec 32) (k0_hw8 : k0_chk8 i arg16), ∀ a, (k0_off21 i arg16) a + S128x256.size a ≤ S128x16384.size a := fun i arg16 k0_hw8 => k0_hw8.2.2.2.2.2.2

def k0_mult61 (i : grid0.Coords) : BitVec 32 :=
  let c2_i32_10 : BitVec 32 := 2#32
  let arg1 : BitVec 32 := BitVec.ofNat 32 (i 1).val
  let v28 : BitVec 32 := Scalar.muli c2_i32_10 arg1
  let c0_i32_115 : BitVec 32 := 0#32
  let v238 : BitVec 1 := Scalar.cmpi .eq v28 c0_i32_115
  let c2_i32_9 : BitVec 32 := 2#32
  let v26 : BitVec 32 := Scalar.muli c2_i32_9 arg1
  let c0_i32 : BitVec 32 := 0#32
  let v27 : BitVec 32 := Scalar.addi v26 c0_i32
  let c2_i32_119 : BitVec 32 := 2#32
  let v243 : BitVec 32 := Scalar.muli c2_i32_119 arg1
  let c0_i32_120 : BitVec 32 := 0#32
  let c2_i32_117 : BitVec 32 := 2#32
  let v240 : BitVec 32 := Scalar.muli c2_i32_117 arg1
  let c1_i32_118 : BitVec 32 := 1#32
  let v241 : BitVec 32 := Scalar.subi v240 c1_i32_118
  let c1_i32_116 : BitVec 32 := 1#32
  let v239 : BitVec 32 := Scalar.subi v28 c1_i32_116
  let v242 : BitVec 32 := Scalar.subi v241 v239
  let v244 : BitVec 32 := Scalar.maxsi c0_i32_120 v242
  let v245 : BitVec 32 := Scalar.minsi v243 v244
  let v246 : BitVec 32 := Scalar.select v238 v27 v245
  let c256_i32_121 : BitVec 32 := 256#32
  let v247 : BitVec 32 := Scalar.muli v246 c256_i32_121
  v247
def k0_off22 (i : grid0.Coords) : Fin 2 → Nat :=
  let c0_126 : Index := 0#32
  let c2_i32_10 : BitVec 32 := 2#32
  let arg1 : BitVec 32 := BitVec.ofNat 32 (i 1).val
  let v28 : BitVec 32 := Scalar.muli c2_i32_10 arg1
  let c0_i32_115 : BitVec 32 := 0#32
  let v238 : BitVec 1 := Scalar.cmpi .eq v28 c0_i32_115
  let c2_i32_9 : BitVec 32 := 2#32
  let v26 : BitVec 32 := Scalar.muli c2_i32_9 arg1
  let c0_i32 : BitVec 32 := 0#32
  let v27 : BitVec 32 := Scalar.addi v26 c0_i32
  let c2_i32_119 : BitVec 32 := 2#32
  let v243 : BitVec 32 := Scalar.muli c2_i32_119 arg1
  let c0_i32_120 : BitVec 32 := 0#32
  let c2_i32_117 : BitVec 32 := 2#32
  let v240 : BitVec 32 := Scalar.muli c2_i32_117 arg1
  let c1_i32_118 : BitVec 32 := 1#32
  let v241 : BitVec 32 := Scalar.subi v240 c1_i32_118
  let c1_i32_116 : BitVec 32 := 1#32
  let v239 : BitVec 32 := Scalar.subi v28 c1_i32_116
  let v242 : BitVec 32 := Scalar.subi v241 v239
  let v244 : BitVec 32 := Scalar.maxsi c0_i32_120 v242
  let v245 : BitVec 32 := Scalar.minsi v243 v244
  let v246 : BitVec 32 := Scalar.select v238 v27 v245
  let c256_i32_121 : BitVec 32 := 256#32
  let v247 : BitVec 32 := Scalar.muli v246 c256_i32_121
  let v248 : BitVec 32 := v247
  let v251 : Index := Scalar.indexCast v248
  ![0, v251.toNat]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2_scale" => some (((Real.sqrt 128)⁻¹ * (Real.log 2)⁻¹ : ℝ) : EReal)
  | "log2e" => some (((Real.log 2)⁻¹ : ℝ) : EReal)
  | _ => none
-- ==== ReferenceIdeal.lean ====
abbrev S16384x8192 : Shape := ⟨2, ![16384, 8192]⟩
abbrev S16384x1024 : Shape := ⟨2, ![16384, 1024]⟩
abbrev S16384x8x128 : Shape := ⟨3, ![16384, 8, 128]⟩
abbrev S8x16384x128 : Shape := ⟨3, ![8, 16384, 128]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩

abbrev nBuf : Space → Nat
  | .hbm => 85
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x8x128, .f32⟩
  | .hbm, ⟨6, _⟩ => ⟨S8x16384x128, .f32⟩
  | .hbm, ⟨7, _⟩ => ⟨S16384x8x128, .f32⟩
  | .hbm, ⟨8, _⟩ => ⟨S8x16384x128, .f32⟩
  | .hbm, ⟨9, _⟩ => ⟨S16384x8x128, .f32⟩
  | .hbm, ⟨10, _⟩ => ⟨S8x16384x128, .f32⟩
  | .hbm, ⟨11, _⟩ => ⟨S8x16384x16384, .f32⟩
  | .hbm, ⟨12, _⟩ => ⟨S_, .f32⟩
  | .hbm, ⟨13, _⟩ => ⟨S_, .f32⟩
  | .hbm, ⟨14, _⟩ => ⟨S8x16384x16384, .f32⟩
  | .hbm, ⟨15, _⟩ => ⟨S8x16384x16384, .f32⟩
  | .hbm, ⟨16, _⟩ => ⟨S16384, .i32⟩
  | .hbm, ⟨17, _⟩ => ⟨S1x16384, .i32⟩
  | .hbm, ⟨18, _⟩ => ⟨S16384x1, .i32⟩
  | .hbm, ⟨19, _⟩ => ⟨S16384x16384, .i32⟩
  | .hbm, ⟨20, _⟩ => ⟨S16384x16384, .i32⟩
  | .hbm, ⟨21, _⟩ => ⟨S16384x16384, .i1⟩
  | .hbm, ⟨22, _⟩ => ⟨S8x16384x16384, .f32⟩
  | .hbm, ⟨23, _⟩ => ⟨S8x16384x16384, .f32⟩
  | .hbm, ⟨24, _⟩ => ⟨S_, .f32⟩
  | .hbm, ⟨25, _⟩ => ⟨S8x16384x16384, .f32⟩
  | .hbm, ⟨26, _⟩ => ⟨S8x16384x16384, .f32⟩
  | .hbm, ⟨27, _⟩ => ⟨S8x16384x16384, .f32⟩
  | .hbm, ⟨28, _⟩ => ⟨S8x16384x16384, .f32⟩
  | .hbm, ⟨29, _⟩ => ⟨S8x16384x16384, .i1⟩
  | .hbm, ⟨30, _⟩ => ⟨S8x16384x16384, .f32⟩
  | .hbm, ⟨31, _⟩ => ⟨S8x16384x16384, .f32⟩
  | .hbm, ⟨32, _⟩ => ⟨S8x16384x16384, .f32⟩
  | .hbm, ⟨33, _⟩ => ⟨S8x16384x16384, .f32⟩
  | .hbm, ⟨34, _⟩ => ⟨S8x16384x16384, .f32⟩
  | .hbm, ⟨35, _⟩ => ⟨S8x16384x16384, .f32⟩
  | .hbm, ⟨36, _⟩ => ⟨S8x16384x16384, .f32⟩
  | .hbm, ⟨37, _⟩ => ⟨S8x16384x16384, .f32⟩
  | .hbm, ⟨38, _⟩ => ⟨S8x16384x16384, .f32⟩
  | .hbm, ⟨39, _⟩ => ⟨S_, .f32⟩
  | .hbm, ⟨40, _⟩ => ⟨S_, .f32⟩
  | .hbm, ⟨41, _⟩ => ⟨S8x16384x16384, .i1⟩
  | .hbm, ⟨42, _⟩ => ⟨S8x16384x16384, .f32⟩
  | .hbm, ⟨43, _⟩ => ⟨S8x16384x16384, .f32⟩
  | .hbm, ⟨44, _⟩ => ⟨S_, .f32⟩
  | .hbm, ⟨45, _⟩ => ⟨S_, .f32⟩
  | .hbm, ⟨46, _⟩ => ⟨S8x16384x16384, .f32⟩
  | .hbm, ⟨47, _⟩ => ⟨S8x16384x16384, .f32⟩
  | .hbm, ⟨48, _⟩ => ⟨S8x16384x16384, .f32⟩
  | .hbm, ⟨49, _⟩ => ⟨S_, .f32⟩
  | .hbm, ⟨50, _⟩ => ⟨S8x16384x16384, .f32⟩
  | .hbm, ⟨51, _⟩ => ⟨S8x16384x16384, .f32⟩
  | .hbm, ⟨52, _⟩ => ⟨S8x16384x16384, .f32⟩
  | .hbm, ⟨53, _⟩ => ⟨S8x16384x16384, .f32⟩
  | .hbm, ⟨54, _⟩ => ⟨S8x16384x16384, .i1⟩
  | .hbm, ⟨55, _⟩ => ⟨S8x16384x16384, .f32⟩
  | .hbm, ⟨56, _⟩ => ⟨S8x16384x16384, .f32⟩
  | .hbm, ⟨57, _⟩ => ⟨S8x16384x16384, .f32⟩
  | .hbm, ⟨58, _⟩ => ⟨S8x16384x16384, .f32⟩
  | .hbm, ⟨59, _⟩ => ⟨S8x16384x16384, .f32⟩
  | .hbm, ⟨60, _⟩ => ⟨S8x16384x16384, .f32⟩
  | .hbm, ⟨61, _⟩ => ⟨S8x16384x16384, .f32⟩
  | .hbm, ⟨62, _⟩ => ⟨S8x16384x16384, .f32⟩
  | .hbm, ⟨63, _⟩ => ⟨S8x16384x16384, .f32⟩
  | .hbm, ⟨64, _⟩ => ⟨S8x16384x16384, .f32⟩
  | .hbm, ⟨65, _⟩ => ⟨S8x16384x16384, .f32⟩
  | .hbm, ⟨66, _⟩ => ⟨S_, .f32⟩
  | .hbm, ⟨67, _⟩ => ⟨S_, .f32⟩
  | .hbm, ⟨68, _⟩ => ⟨S8x16384x16384, .i1⟩
  | .hbm, ⟨69, _⟩ => ⟨S8x16384x16384, .f32⟩
  | .hbm, ⟨70, _⟩ => ⟨S8x16384x16384, .f32⟩
  | .hbm, ⟨71, _⟩ => ⟨S8x16384x128, .f32⟩
  | .hbm, ⟨72, _⟩ => ⟨S16384x8x128, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S_, .f32⟩
  | .hbm, ⟨77, _⟩ => ⟨S16384x1024, .f32⟩
  | .hbm, ⟨78, _⟩ => ⟨S16384x1024, .f32⟩
  | .hbm, ⟨79, _⟩ => ⟨S_, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1024, .bf16⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v21 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v22 : Ref sig .tc := ⟨.hbm, 43, rfl⟩
abbrev main_call2_cst : Ref sig .tc := ⟨.hbm, 44, rfl⟩
abbrev main_call2_v0 : Ref sig .tc := ⟨.hbm, 45, rfl⟩
abbrev main_v23 : Ref sig .tc := ⟨.hbm, 46, rfl⟩
abbrev main_v24 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_call5_v0 : Ref sig .tc := ⟨.hbm, 74, rfl⟩
abbrev main_call5_v1 : Ref sig .tc := ⟨.hbm, 75, rfl⟩
abbrev main_call5_cst : Ref sig .tc := ⟨.hbm, 76, rfl⟩
abbrev main_call5_v2 : Ref sig .tc := ⟨.hbm, 77, rfl⟩
abbrev main_call5_v3 : Ref sig .tc := ⟨.hbm, 78, rfl⟩
abbrev main_call5_cst_0 : Ref sig .tc := ⟨.hbm, 79, rfl⟩
abbrev main_call5_v4 : Ref sig .tc := ⟨.hbm, 80, rfl⟩
abbrev main_call5_v5 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩

abbrev nD : Nat := 1
abbrev τ : Topo := Topo.v7x

variable {F : FTy → Type} [FloatOps F]
-- ==== Rows.lean ====
abbrev S16384x2048 : Shape := ⟨2, ![16384, 2048]⟩
abbrev S2048x8192 : Shape := ⟨2, ![2048, 8192]⟩
abbrev S2048x1024 : Shape := ⟨2, ![2048, 1024]⟩
abbrev S2048x4096 : Shape := ⟨2, ![2048, 4096]⟩
abbrev S16384x4096 : Shape := ⟨2, ![16384, 4096]⟩
abbrev S1024x2048 : Shape := ⟨2, ![1024, 2048]⟩
abbrev S2048x2048 : Shape := ⟨2, ![2048, 2048]⟩

abbrev nBuf : Space → Nat
  | .hbm => 9
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x8192, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x4096, .f32⟩
  | .hbm, ⟨7, _⟩ => ⟨S2048x4096, .bf16⟩
  | .hbm, ⟨8, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RowsReferenceIdeal.lean ====
abbrev S16384x2048 : Shape := ⟨2, ![16384, 2048]⟩
abbrev S2048x8192 : Shape := ⟨2, ![2048, 8192]⟩
abbrev S16384x8192 : Shape := ⟨2, ![16384, 8192]⟩
abbrev S16384x1024 : Shape := ⟨2, ![16384, 1024]⟩
abbrev S16384x4096 : Shape := ⟨2, ![16384, 4096]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x8192, .f32⟩
  | .hbm, ⟨2, _⟩ => ⟨S16384x2048, .f32⟩
  | .hbm, ⟨3, _⟩ => ⟨S16384x8192, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x4096, .f32⟩
  | .hbm, ⟨13, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Gates.lean ====
abbrev S16384x2048 : Shape := ⟨2, ![16384, 2048]⟩
abbrev S2048x8192 : Shape := ⟨2, ![2048, 8192]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 7
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x8192, .f32⟩
  | .hbm, ⟨2, _⟩ => ⟨S2048x1024, .f32⟩
  | .hbm, ⟨3, _⟩ => ⟨S2048x1024, .f32⟩
  | .hbm, ⟨4, _⟩ => ⟨S2048x2048, .f32⟩
  | .hbm, ⟨5, _⟩ => ⟨S2048x2048, .bf16⟩
  | .hbm, ⟨6, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesReferenceIdeal.lean ====
abbrev S16384x2048 : Shape := ⟨2, ![16384, 2048]⟩
abbrev S2048x8192 : Shape := ⟨2, ![2048, 8192]⟩
abbrev S16384x8192 : Shape := ⟨2, ![16384, 8192]⟩
abbrev S16384x1024 : Shape := ⟨2, ![16384, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x8192, .f32⟩
  | .hbm, ⟨2, _⟩ => ⟨S16384x2048, .f32⟩
  | .hbm, ⟨3, _⟩ => ⟨S16384x8192, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Values.lean ====
abbrev S16384x2048 : Shape := ⟨2, ![16384, 2048]⟩
abbrev S2048x8192 : Shape := ⟨2, ![2048, 8192]⟩
abbrev S2048x1024 : Shape := ⟨2, ![2048, 1024]⟩
abbrev S2048x2048 : Shape := ⟨2, ![2048, 2048]⟩
abbrev S2048x16384 : Shape := ⟨2, ![2048, 16384]⟩
abbrev S1024x2048 : Shape := ⟨2, ![1024, 2048]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x8192, .f32⟩
  | .hbm, ⟨2, _⟩ => ⟨S2048x1024, .f32⟩
  | .hbm, ⟨3, _⟩ => ⟨S2048x1024, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S2048x16384, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValuesReferenceIdeal.lean ====
abbrev S16384x2048 : Shape := ⟨2, ![16384, 2048]⟩
abbrev S2048x8192 : Shape := ⟨2, ![2048, 8192]⟩
abbrev S16384x8192 : Shape := ⟨2, ![16384, 8192]⟩
abbrev S16384x1024 : Shape := ⟨2, ![16384, 1024]⟩
abbrev S2048x16384 : Shape := ⟨2, ![2048, 16384]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x8192, .f32⟩
  | .hbm, ⟨2, _⟩ => ⟨S16384x2048, .f32⟩
  | .hbm, ⟨3, _⟩ => ⟨S16384x8192, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x2048, .f32⟩
  | .hbm, ⟨13, _⟩ => ⟨S2048x16384, .f32⟩
  | .hbm, ⟨14, _⟩ => ⟨S2048x16384, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== OutProj.lean ====
abbrev S16384x1024 : Shape := ⟨2, ![16384, 1024]⟩
abbrev S2048x2048 : Shape := ⟨2, ![2048, 2048]⟩
abbrev S16384x2048 : Shape := ⟨2, ![16384, 2048]⟩
abbrev S2048 : Shape := ⟨1, ![2048]⟩
abbrev S1x2048 : Shape := ⟨2, ![1, 2048]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjReferenceIdeal.lean ====
abbrev S16384x1024 : Shape := ⟨2, ![16384, 1024]⟩
abbrev S2048x2048 : Shape := ⟨2, ![2048, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S2048, .f32⟩
  | .hbm, ⟨5, _⟩ => ⟨S16384x2048, .bf16⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== OddRows.lean ====
abbrev S16384x2048 : Shape := ⟨2, ![16384, 2048]⟩
abbrev S2048x8200 : Shape := ⟨2, ![2048, 8200]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 7
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x8200, .f32⟩
  | .hbm, ⟨2, _⟩ => ⟨S2048x1024, .f32⟩
  | .hbm, ⟨3, _⟩ => ⟨S2048x1024, .f32⟩
  | .hbm, ⟨4, _⟩ => ⟨S2048x2048, .f32⟩
  | .hbm, ⟨5, _⟩ => ⟨S2048x2048, .bf16⟩
  | .hbm, ⟨6, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddRowsReferenceIdeal.lean ====
abbrev S16384x2048 : Shape := ⟨2, ![16384, 2048]⟩
abbrev S2048x8200 : Shape := ⟨2, ![2048, 8200]⟩
abbrev S16384x8200 : Shape := ⟨2, ![16384, 8200]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x8200, .f32⟩
  | .hbm, ⟨2, _⟩ => ⟨S16384x2048, .f32⟩
  | .hbm, ⟨3, _⟩ => ⟨S16384x8200, .f32⟩
  | .hbm, ⟨4, _⟩ => ⟨S16384x2048, .f32⟩
  | .hbm, ⟨5, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OddGates.lean ====
abbrev S16384x2048 : Shape := ⟨2, ![16384, 2048]⟩
abbrev S2048x8200 : Shape := ⟨2, ![2048, 8200]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 7
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x8200, .f32⟩
  | .hbm, ⟨2, _⟩ => ⟨S2048x1024, .f32⟩
  | .hbm, ⟨3, _⟩ => ⟨S2048x1024, .f32⟩
  | .hbm, ⟨4, _⟩ => ⟨S2048x2048, .f32⟩
  | .hbm, ⟨5, _⟩ => ⟨S2048x2048, .bf16⟩
  | .hbm, ⟨6, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddGatesReferenceIdeal.lean ====
abbrev S16384x2048 : Shape := ⟨2, ![16384, 2048]⟩
abbrev S2048x8200 : Shape := ⟨2, ![2048, 8200]⟩
abbrev S16384x8200 : Shape := ⟨2, ![16384, 8200]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x8200, .f32⟩
  | .hbm, ⟨2, _⟩ => ⟨S16384x2048, .f32⟩
  | .hbm, ⟨3, _⟩ => ⟨S16384x8200, .f32⟩
  | .hbm, ⟨4, _⟩ => ⟨S16384x1024, .f32⟩
  | .hbm, ⟨5, _⟩ => ⟨S16384x1024, .f32⟩
  | .hbm, ⟨6, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OddValues.lean ====
abbrev S16384x2048 : Shape := ⟨2, ![16384, 2048]⟩
abbrev S2048x8200 : Shape := ⟨2, ![2048, 8200]⟩
abbrev S2048x1024 : Shape := ⟨2, ![2048, 1024]⟩
abbrev S2048x2048 : Shape := ⟨2, ![2048, 2048]⟩
abbrev S2048x16384 : Shape := ⟨2, ![2048, 16384]⟩
abbrev S1024x2048 : Shape := ⟨2, ![1024, 2048]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x8200, .f32⟩
  | .hbm, ⟨2, _⟩ => ⟨S2048x1024, .f32⟩
  | .hbm, ⟨3, _⟩ => ⟨S2048x1024, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S2048x16384, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddValuesReferenceIdeal.lean ====
abbrev S16384x2048 : Shape := ⟨2, ![16384, 2048]⟩
abbrev S2048x8200 : Shape := ⟨2, ![2048, 8200]⟩
abbrev S16384x8200 : Shape := ⟨2, ![16384, 8200]⟩
abbrev S16384x1024 : Shape := ⟨2, ![16384, 1024]⟩
abbrev S2048x16384 : Shape := ⟨2, ![2048, 16384]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x8200, .f32⟩
  | .hbm, ⟨2, _⟩ => ⟨S16384x2048, .f32⟩
  | .hbm, ⟨3, _⟩ => ⟨S16384x8200, .f32⟩
  | .hbm, ⟨4, _⟩ => ⟨S16384x1024, .f32⟩
  | .hbm, ⟨5, _⟩ => ⟨S16384x1024, .f32⟩
  | .hbm, ⟨6, _⟩ => ⟨S16384x2048, .f32⟩
  | .hbm, ⟨7, _⟩ => ⟨S2048x16384, .f32⟩
  | .hbm, ⟨8, _⟩ => ⟨S2048x16384, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== OddQk.lean ====
abbrev S16384x2048 : Shape := ⟨2, ![16384, 2048]⟩
abbrev S2048x8200 : Shape := ⟨2, ![2048, 8200]⟩
abbrev S2048x2048 : Shape := ⟨2, ![2048, 2048]⟩
abbrev S2048x4x8x64 : Shape := ⟨4, ![2048, 4, 8, 64]⟩
abbrev S2048x1x8x64 : Shape := ⟨4, ![2048, 1, 8, 64]⟩
abbrev S2048x8x64 : Shape := ⟨3, ![2048, 8, 64]⟩
abbrev S2048x8x128 : Shape := ⟨3, ![2048, 8, 128]⟩
abbrev S2048x1024 : Shape := ⟨2, ![2048, 1024]⟩
abbrev S1024x2048 : Shape := ⟨2, ![1024, 2048]⟩

abbrev nBuf : Space → Nat
  | .hbm => 19
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x8200, .f32⟩
  | .hbm, ⟨2, _⟩ => ⟨S2048x2048, .f32⟩
  | .hbm, ⟨3, _⟩ => ⟨S2048x4x8x64, .f32⟩
  | .hbm, ⟨4, _⟩ => ⟨S2048x1x8x64, .f32⟩
  | .hbm, ⟨5, _⟩ => ⟨S2048x8x64, .f32⟩
  | .hbm, ⟨6, _⟩ => ⟨S2048x1x8x64, .f32⟩
  | .hbm, ⟨7, _⟩ => ⟨S2048x8x64, .f32⟩
  | .hbm, ⟨8, _⟩ => ⟨S2048x8x128, .f32⟩
  | .hbm, ⟨9, _⟩ => ⟨S2048x1024, .f32⟩
  | .hbm, ⟨10, _⟩ => ⟨S2048x1x8x64, .f32⟩
  | .hbm, ⟨11, _⟩ => ⟨S2048x8x64, .f32⟩
  | .hbm, ⟨12, _⟩ => ⟨S2048x1x8x64, .f32⟩
  | .hbm, ⟨13, _⟩ => ⟨S2048x8x64, .f32⟩
  | .hbm, ⟨14, _⟩ => ⟨S2048x8x128, .f32⟩
  | .hbm, ⟨15, _⟩ => ⟨S2048x1024, .f32⟩
  | .hbm, ⟨16, _⟩ => ⟨S2048x2048, .f32⟩
  | .hbm, ⟨17, _⟩ => ⟨S2048x2048, .bf16⟩
  | .hbm, ⟨18, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddQkReferenceIdeal.lean ====
abbrev S16384x2048 : Shape := ⟨2, ![16384, 2048]⟩
abbrev S2048x8200 : Shape := ⟨2, ![2048, 8200]⟩
abbrev S16384x8200 : Shape := ⟨2, ![16384, 8200]⟩
abbrev S16384x512 : Shape := ⟨2, ![16384, 512]⟩
abbrev S16384x8x64 : Shape := ⟨3, ![16384, 8, 64]⟩
abbrev S16384x8x128 : Shape := ⟨3, ![16384, 8, 128]⟩
abbrev S16384x1024 : Shape := ⟨2, ![16384, 1024]⟩

abbrev nBuf : Space → Nat
  | .hbm => 17
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x8200, .f32⟩
  | .hbm, ⟨2, _⟩ => ⟨S16384x2048, .f32⟩
  | .hbm, ⟨3, _⟩ => ⟨S16384x8200, .f32⟩
  | .hbm, ⟨4, _⟩ => ⟨S16384x512, .f32⟩
  | .hbm, ⟨5, _⟩ => ⟨S16384x8x64, .f32⟩
  | .hbm, ⟨6, _⟩ => ⟨S16384x512, .f32⟩
  | .hbm, ⟨7, _⟩ => ⟨S16384x8x64, .f32⟩
  | .hbm, ⟨8, _⟩ => ⟨S16384x512, .f32⟩
  | .hbm, ⟨9, _⟩ => ⟨S16384x8x64, .f32⟩
  | .hbm, ⟨10, _⟩ => ⟨S16384x512, .f32⟩
  | .hbm, ⟨11, _⟩ => ⟨S16384x8x64, .f32⟩
  | .hbm, ⟨12, _⟩ => ⟨S16384x8x128, .f32⟩
  | .hbm, ⟨13, _⟩ => ⟨S16384x8x128, .f32⟩
  | .hbm, ⟨14, _⟩ => ⟨S16384x1024, .f32⟩
  | .hbm, ⟨15, _⟩ => ⟨S16384x1024, .f32⟩
  | .hbm, ⟨16, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== MixerC.lean ====
abbrev S16384x2048 : Shape := ⟨2, ![16384, 2048]⟩
abbrev S16384x1024 : Shape := ⟨2, ![16384, 1024]⟩
abbrev S2048x16384 : Shape := ⟨2, ![2048, 16384]⟩
abbrev S512x128 : Shape := ⟨2, ![512, 128]⟩
abbrev S16384x128 : Shape := ⟨2, ![16384, 128]⟩
abbrev S128x16384 : Shape := ⟨2, ![128, 16384]⟩
abbrev S1x512 : Shape := ⟨2, ![1, 512]⟩
abbrev S144x512 : Shape := ⟨2, ![144, 512]⟩
abbrev S512x512 : Shape := ⟨2, ![512, 512]⟩
abbrev S512x256 : Shape := ⟨2, ![512, 256]⟩
abbrev S16x512 : Shape := ⟨2, ![16, 512]⟩
abbrev S128x512 : Shape := ⟨2, ![128, 512]⟩
abbrev S512 : Shape := ⟨1, ![512]⟩

abbrev nBuf : Space → Nat
  | .hbm => 6
  | .vmem => 18
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x1024, .bf16⟩
  | .hbm, ⟨3, _⟩ => ⟨S2048x16384, .bf16⟩
  | .hbm, ⟨4, _⟩ => ⟨S16384x2048, .f32⟩
  | .hbm, ⟨5, _⟩ => ⟨S16384x1024, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S16384x128, .bf16⟩
  | .local _ .vmem, ⟨5, _⟩ => ⟨S16384x128, .bf16⟩
  | .local _ .vmem, ⟨6, _⟩ => ⟨S16384x128, .bf16⟩
  | .local _ .vmem, ⟨7, _⟩ => ⟨S16384x128, .bf16⟩
  | .local _ .vmem, ⟨8, _⟩ => ⟨S128x16384, .bf16⟩
  | .local _ .vmem, ⟨9, _⟩ => ⟨S128x16384, .bf16⟩
  | .local _ .vmem, ⟨10, _⟩ => ⟨S512x128, .f32⟩
  | .local _ .vmem, ⟨11, _⟩ => ⟨S512x128, .f32⟩
  | .local _ .vmem, ⟨12, _⟩ => ⟨S512x128, .bf16⟩
  | .local _ .vmem, ⟨13, _⟩ => ⟨S512x128, .bf16⟩
  | .local _ .vmem, ⟨14, _⟩ => ⟨S1x512, .f32⟩
  | .local _ .vmem, ⟨15, _⟩ => ⟨S144x512, .f32⟩
  | .local _ .vmem, ⟨16, _⟩ => ⟨S512x512, .f32⟩
  | .local _ .vmem, ⟨17, _⟩ => ⟨S512x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let c1_i32 : BitVec 32 := 1#32
  let arg1 : BitVec 32 := BitVec.ofNat 32 (i 1).val
  let v16 : BitVec 32 := Scalar.muli c1_i32 arg1
  let c0_i32 : BitVec 32 := 0#32
  let v17 : BitVec 32 := Scalar.addi v16 c0_i32
  let c512_i32 : BitVec 32 := 512#32
  let v24 : BitVec 32 := Scalar.muli v17 c512_i32
  v24
def k0_off1 (i : grid0.Coords) : Fin 2 → Nat :=
  let c1_i32 : BitVec 32 := 1#32
  let arg1 : BitVec 32 := BitVec.ofNat 32 (i 1).val
  let v16 : BitVec 32 := Scalar.muli c1_i32 arg1
  let c0_i32 : BitVec 32 := 0#32
  let v17 : BitVec 32 := Scalar.addi v16 c0_i32
  let c512_i32 : BitVec 32 := 512#32
  let v24 : BitVec 32 := Scalar.muli v17 c512_i32
  let v25 : BitVec 32 := v24
  let v26 : Index := Scalar.indexCast v25
  let c0_12 : Index := 0#32
  ![v26.toNat, 0]
def k0_mult2 (i : grid0.Coords) : BitVec 32 :=
  let c1_i32_17 : BitVec 32 := 1#32
  let arg1 : BitVec 32 := BitVec.ofNat 32 (i 1).val
  let v35 : BitVec 32 := Scalar.muli c1_i32_17 arg1
  let c0_i32_19 : BitVec 32 := 0#32
  let c0_i32_18 : BitVec 32 := 0#32
  let v36 : BitVec 32 := Scalar.maxsi c0_i32_19 c0_i32_18
  let v37 : BitVec 32 := Scalar.minsi v35 v36
  let c512_i32_20 : BitVec 32 := 512#32
  let v38 : BitVec 32 := Scalar.muli v37 c512_i32_20
  v38
def k0_off2 (i : grid0.Coords) : Fin 2 → Nat :=
  let c1_i32_17 : BitVec 32 := 1#32
  let arg1 : BitVec 32 := BitVec.ofNat 32 (i 1).val
  let v35 : BitVec 32 := Scalar.muli c1_i32_17 arg1
  let c0_i32_19 : BitVec 32 := 0#32
  let c0_i32_18 : BitVec 32 := 0#32
  let v36 : BitVec 32 := Scalar.maxsi c0_i32_19 c0_i32_18
  let v37 : BitVec 32 := Scalar.minsi v35 v36
  let c512_i32_20 : BitVec 32 := 512#32
  let v38 : BitVec 32 := Scalar.muli v37 c512_i32_20
  let v39 : BitVec 32 := v38
  let v40 : Index := Scalar.indexCast v39
  let c0_21 : Index := 0#32
  ![v40.toNat, 0]
def k0_mult3 (i : grid0.Coords) : BitVec 32 :=
  let c1_i32 : BitVec 32 := 1#32
  let arg1 : BitVec 32 := BitVec.ofNat 32 (i 1).val
  let v16 : BitVec 32 := Scalar.muli c1_i32 arg1
  let c0_i32 : BitVec 32 := 0#32
  let v17 : BitVec 32 := Scalar.addi v16 c0_i32
  let c512_i32_26 : BitVec 32 := 512#32
  let v49 : BitVec 32 := Scalar.muli v17 c512_i32_26
  v49
def k0_off3 (i : grid0.Coords) : Fin 2 → Nat :=
  let c0_27 : Index := 0#32
  let c1_i32 : BitVec 32 := 1#32
  let arg1 : BitVec 32 := BitVec.ofNat 32 (i 1).val
  let v16 : BitVec 32 := Scalar.muli c1_i32 arg1
  let c0_i32 : BitVec 32 := 0#32
  let v17 : BitVec 32 := Scalar.addi v16 c0_i32
  let c512_i32_26 : BitVec 32 := 512#32
  let v49 : BitVec 32 := Scalar.muli v17 c512_i32_26
  let v50 : BitVec 32 := v49
  let v51 : Index := Scalar.indexCast v50
  ![0, v51.toNat]
@[reducible] def k0_t1_loop (i : grid0.Coords) : Scf.Loop 32 :=
  let c0_i32_48 : BitVec 32 := 0#32
  let c1_i32_11 : BitVec 32 := 1#32
  let arg1 : BitVec 32 := BitVec.ofNat 32 (i 1).val
  let v23 : BitVec 32 := Scalar.muli c1_i32_11 arg1
  let c0_i32_41 : BitVec 32 := 0#32
  let v78 : BitVec 32 := Scalar.subi v23 c0_i32_41
  let c0_i32_42 : BitVec 32 := 0#32
  let v80 : BitVec 1 := Scalar.cmpi .sgt v78 c0_i32_42
  let v81 : BitVec 32 := Scalar.extui v80
  let c0_i32_43 : BitVec 32 := 0#32
  let v82 : BitVec 1 := Scalar.cmpi .slt v78 c0_i32_43
  let v83 : BitVec 32 := Scalar.extui v82
  let v84 : BitVec 32 := Scalar.subi v81 v83
  let c8_i32 : BitVec 32 := 8#32
  let c0_i32_44 : BitVec 32 := 0#32
  let v85 : BitVec 1 := Scalar.cmpi .sgt c8_i32 c0_i32_44
  let v86 : BitVec 32 := Scalar.extui v85
  let c0_i32_45 : BitVec 32 := 0#32
  let v87 : BitVec 1 := Scalar.cmpi .slt c8_i32 c0_i32_45
  let v88 : BitVec 32 := Scalar.extui v87
  let v89 : BitVec 32 := Scalar.subi v86 v88
  let v90 : BitVec 1 := Scalar.cmpi .ne v84 v89
  let v91 : BitVec 32 := Scalar.remsi v78 c8_i32
  let c0_i32_46 : BitVec 32 := 0#32
  let v92 : BitVec 1 := Scalar.cmpi .ne v91 c0_i32_46
  let v93 : BitVec 1 := Scalar.andi v90 v92
  let v79 : BitVec 32 := Scalar.divsi v78 c8_i32
  let c1_i32_47 : BitVec 32 := 1#32
  let v94 : BitVec 32 := Scalar.subi v79 c1_i32_47
  let v95 : BitVec 32 := Scalar.select v93 v94 v79
  let v96 : BitVec 32 := Scalar.subi v95 c0_i32_48
  let c1_i32_50 : BitVec 32 := 1#32
  let v98 : BitVec 32 := Scalar.divsi v96 c1_i32_50
  let v99 : BitVec 32 := Scalar.muli v98 c1_i32_50
  let v100 : BitVec 32 := Scalar.addi c0_i32_48 v99
  let c1_i32_51 : BitVec 32 := 1#32
  ⟨c0_i32_48, v100, c1_i32_51⟩
def k0_mult4 (i : grid0.Coords) (arg14 : BitVec 32) : BitVec 32 :=
  let c1_i32_95 : BitVec 32 := 1#32
  let arg1 : BitVec 32 := BitVec.ofNat 32 (i 1).val
  let v189 : BitVec 32 := Scalar.muli c1_i32_95 arg1
  let c0_i32_96 : BitVec 32 := 0#32
  let c0_i32_87 : BitVec 32 := 0#32
  let v178 : BitVec 32 := Scalar.addi arg14 c0_i32_87
  let c1_i32_94 : BitVec 32 := 1#32
  let v188 : BitVec 32 := Scalar.addi v178 c1_i32_94
  let v190 : BitVec 32 := Scalar.maxsi c0_i32_96 v188
  let v191 : BitVec 32 := Scalar.minsi v189 v190
  let c512_i32_97 : BitVec 32 := 512#32
  let v192 : BitVec 32 := Scalar.muli v191 c512_i32_97
  v192

def k0_off4 (i : grid0.Coords) (arg14 : BitVec 32) (c0_i32_87 : BitVec 32) : Fin 2 → Nat :=
  let c1_i32_95 : BitVec 32 := 1#32
  let arg1 : BitVec 32 := BitVec.ofNat 32 (i 1).val
  let v189 : BitVec 32 := Scalar.muli c1_i32_95 arg1
  let c0_i32_96 : BitVec 32 := 0#32
  let v178 : BitVec 32 := Scalar.addi arg14 c0_i32_87
  let c1_i32_94 : BitVec 32 := 1#32
  let v188 : BitVec 32 := Scalar.addi v178 c1_i32_94
  let v190 : BitVec 32 := Scalar.maxsi c0_i32_96 v188
  let v191 : BitVec 32 := Scalar.minsi v189 v190
  let c512_i32_97 : BitVec 32 := 512#32
  let v192 : BitVec 32 := Scalar.muli v191 c512_i32_97
  let v193 : BitVec 32 := v192
  let v194 : Index := Scalar.indexCast v193
  let c0_98 : Index := 0#32
  ![v194.toNat, 0]
def k0_mult5 (i : grid0.Coords) (arg14 : BitVec 32) : BitVec 32 :=
  let c1_i32_88 : BitVec 32 := 1#32
  let arg1 : BitVec 32 := BitVec.ofNat 32 (i 1).val
  let v179 : BitVec 32 := Scalar.muli c1_i32_88 arg1
  let c0_i32_89 : BitVec 32 := 0#32
  let c0_i32_87 : BitVec 32 := 0#32
  let v178 : BitVec 32 := Scalar.addi arg14 c0_i32_87
  let v180 : BitVec 32 := Scalar.maxsi c0_i32_89 v178
  let v181 : BitVec 32 := Scalar.minsi v179 v180
  let c512_i32_103 : BitVec 32 := 512#32
  let v203 : BitVec 32 := Scalar.muli v181 c512_i32_103
  v203
def k0_off5 (i : grid0.Coords) (arg14 : BitVec 32) (c0_i32_87 : BitVec 32) : Fin 2 → Nat :=
  let c0_104 : Index := 0#32
  let c1_i32_88 : BitVec 32 := 1#32
  let arg1 : BitVec 32 := BitVec.ofNat 32 (i 1).val
  let v179 : BitVec 32 := Scalar.muli c1_i32_88 arg1
  let c0_i32_89 : BitVec 32 := 0#32
  let v178 : BitVec 32 := Scalar.addi arg14 c0_i32_87
  let v180 : BitVec 32 := Scalar.maxsi c0_i32_89 v178
  let v181 : BitVec 32 := Scalar.minsi v179 v180
  let c512_i32_103 : BitVec 32 := 512#32
  let v203 : BitVec 32 := Scalar.muli v181 c512_i32_103
  let v204 : BitVec 32 := v203
  let v205 : Index := Scalar.indexCast v204
  ![0, v205.toNat]
def k0_mult6 (i : grid0.Coords) (arg14 : BitVec 32) : BitVec 32 :=
  let c1_i32_124 : BitVec 32 := 1#32
  let arg1 : BitVec 32 := BitVec.ofNat 32 (i 1).val
  let v239 : BitVec 32 := Scalar.muli c1_i32_124 arg1
  let c0_i32_125 : BitVec 32 := 0#32
  let c1_i32_117 : BitVec 32 := 1#32
  let v230 : BitVec 32 := Scalar.addi arg14 c1_i32_117
  let c1_i32_123 : BitVec 32 := 1#32
  let v238 : BitVec 32 := Scalar.addi v230 c1_i32_123
  let v240 : BitVec 32 := Scalar.maxsi c0_i32_125 v238
  let v241 : BitVec 32 := Scalar.minsi v239 v240
  let c512_i32_126 : BitVec 32 := 512#32
  let v242 : BitVec 32 := Scalar.muli v241 c512_i32_126
  v242
def k0_mult7 (i : grid0.Coords) (arg14 : BitVec 32) : BitVec 32 :=
  let c1_i32_118 : BitVec 32 := 1#32
  let arg1 : BitVec 32 := BitVec.ofNat 32 (i 1).val
  let v231 : BitVec 32 := Scalar.muli c1_i32_118 arg1
  let c0_i32_119 : BitVec 32 := 0#32
  let c1_i32_117 : BitVec 32 := 1#32
  let v230 : BitVec 32 := Scalar.addi arg14 c1_i32_117
  let v232 : BitVec 32 := Scalar.maxsi c0_i32_119 v230
  let v233 : BitVec 32 := Scalar.minsi v231 v232
  let c512_i32_132 : BitVec 32 := 512#32
  let v253 : BitVec 32 := Scalar.muli v233 c512_i32_132
  v253
def k0_mult8 (i : grid0.Coords) (arg14 : BitVec 32) : BitVec 32 :=
  let c1_i32_153 : BitVec 32 := 1#32
  let arg1 : BitVec 32 := BitVec.ofNat 32 (i 1).val
  let v289 : BitVec 32 := Scalar.muli c1_i32_153 arg1
  let c0_i32_154 : BitVec 32 := 0#32
  let c2_i32_146 : BitVec 32 := 2#32
  let v280 : BitVec 32 := Scalar.addi arg14 c2_i32_146
  let c1_i32_152 : BitVec 32 := 1#32
  let v288 : BitVec 32 := Scalar.addi v280 c1_i32_152
  let v290 : BitVec 32 := Scalar.maxsi c0_i32_154 v288
  let v291 : BitVec 32 := Scalar.minsi v289 v290
  let c512_i32_155 : BitVec 32 := 512#32
  let v292 : BitVec 32 := Scalar.muli v291 c512_i32_155
  v292
def k0_mult9 (i : grid0.Coords) (arg14 : BitVec 32) : BitVec 32 :=
  let c1_i32_147 : BitVec 32 := 1#32
  let arg1 : BitVec 32 := BitVec.ofNat 32 (i 1).val
  let v281 : BitVec 32 := Scalar.muli c1_i32_147 arg1
  let c0_i32_148 : BitVec 32 := 0#32
  let c2_i32_146 : BitVec 32 := 2#32
  let v280 : BitVec 32 := Scalar.addi arg14 c2_i32_146
  let v282 : BitVec 32 := Scalar.maxsi c0_i32_148 v280
  let v283 : BitVec 32 := Scalar.minsi v281 v282
  let c512_i32_161 : BitVec 32 := 512#32
  let v303 : BitVec 32 := Scalar.muli v283 c512_i32_161
  v303
def k0_mult10 (i : grid0.Coords) (arg14 : BitVec 32) : BitVec 32 :=
  let c1_i32_181 : BitVec 32 := 1#32
  let arg1 : BitVec 32 := BitVec.ofNat 32 (i 1).val
  let v339 : BitVec 32 := Scalar.muli c1_i32_181 arg1
  let c0_i32_182 : BitVec 32 := 0#32
  let c3_i32 : BitVec 32 := 3#32
  let v330 : BitVec 32 := Scalar.addi arg14 c3_i32
  let c1_i32_180 : BitVec 32 := 1#32
  let v338 : BitVec 32 := Scalar.addi v330 c1_i32_180
  let v340 : BitVec 32 := Scalar.maxsi c0_i32_182 v338
  let v341 : BitVec 32 := Scalar.minsi v339 v340
  let c512_i32_183 : BitVec 32 := 512#32
  let v342 : BitVec 32 := Scalar.muli v341 c512_i32_183
  v342
def k0_mult11 (i : grid0.Coords) (arg14 : BitVec 32) : BitVec 32 :=
  let c1_i32_175 : BitVec 32 := 1#32
  let arg1 : BitVec 32 := BitVec.ofNat 32 (i 1).val
  let v331 : BitVec 32 := Scalar.muli c1_i32_175 arg1
  let c0_i32_176 : BitVec 32 := 0#32
  let c3_i32 : BitVec 32 := 3#32
  let v330 : BitVec 32 := Scalar.addi arg14 c3_i32
  let v332 : BitVec 32 := Scalar.maxsi c0_i32_176 v330
  let v333 : BitVec 32 := Scalar.minsi v331 v332
  let c512_i32_189 : BitVec 32 := 512#32
  let v353 : BitVec 32 := Scalar.muli v333 c512_i32_189
  v353
def k0_mult12 (i : grid0.Coords) (arg14 : BitVec 32) : BitVec 32 :=
  let c1_i32_210 : BitVec 32 := 1#32
  let arg1 : BitVec 32 := BitVec.ofNat 32 (i 1).val
  let v389 : BitVec 32 := Scalar.muli c1_i32_210 arg1
  let c0_i32_211 : BitVec 32 := 0#32
  let c4_i32_203 : BitVec 32 := 4#32
  let v380 : BitVec 32 := Scalar.addi arg14 c4_i32_203
  let c1_i32_209 : BitVec 32 := 1#32
  let v388 : BitVec 32 := Scalar.addi v380 c1_i32_209
  let v390 : BitVec 32 := Scalar.maxsi c0_i32_211 v388
  let v391 : BitVec 32 := Scalar.minsi v389 v390
  let c512_i32_212 : BitVec 32 := 512#32
  let v392 : BitVec 32 := Scalar.muli v391 c512_i32_212
  v392
def k0_mult13 (i : grid0.Coords) (arg14 : BitVec 32) : BitVec 32 :=
  let c1_i32_204 : BitVec 32 := 1#32
  let arg1 : BitVec 32 := BitVec.ofNat 32 (i 1).val
  let v381 : BitVec 32 := Scalar.muli c1_i32_204 arg1
  let c0_i32_205 : BitVec 32 := 0#32
  let c4_i32_203 : BitVec 32 := 4#32
  let v380 : BitVec 32 := Scalar.addi arg14 c4_i32_203
  let v382 : BitVec 32 := Scalar.maxsi c0_i32_205 v380
  let v383 : BitVec 32 := Scalar.minsi v381 v382
  let c512_i32_218 : BitVec 32 := 512#32
  let v403 : BitVec 32 := Scalar.muli v383 c512_i32_218
  v403
def k0_mult14 (i : grid0.Coords) (arg14 : BitVec 32) : BitVec 32 :=
  let c1_i32_238 : BitVec 32 := 1#32
  let arg1 : BitVec 32 := BitVec.ofNat 32 (i 1).val
  let v439 : BitVec 32 := Scalar.muli c1_i32_238 arg1
  let c0_i32_239 : BitVec 32 := 0#32
  let c5_i32 : BitVec 32 := 5#32
  let v430 : BitVec 32 := Scalar.addi arg14 c5_i32
  let c1_i32_237 : BitVec 32 := 1#32
  let v438 : BitVec 32 := Scalar.addi v430 c1_i32_237
  let v440 : BitVec 32 := Scalar.maxsi c0_i32_239 v438
  let v441 : BitVec 32 := Scalar.minsi v439 v440
  let c512_i32_240 : BitVec 32 := 512#32
  let v442 : BitVec 32 := Scalar.muli v441 c512_i32_240
  v442
def k0_mult15 (i : grid0.Coords) (arg14 : BitVec 32) : BitVec 32 :=
  let c1_i32_232 : BitVec 32 := 1#32
  let arg1 : BitVec 32 := BitVec.ofNat 32 (i 1).val
  let v431 : BitVec 32 := Scalar.muli c1_i32_232 arg1
  let c0_i32_233 : BitVec 32 := 0#32
  let c5_i32 : BitVec 32 := 5#32
  let v430 : BitVec 32 := Scalar.addi arg14 c5_i32
  let v432 : BitVec 32 := Scalar.maxsi c0_i32_233 v430
  let v433 : BitVec 32 := Scalar.minsi v431 v432
  let c512_i32_246 : BitVec 32 := 512#32
  let v453 : BitVec 32 := Scalar.muli v433 c512_i32_246
  v453
def k0_mult16 (i : grid0.Coords) (arg14 : BitVec 32) : BitVec 32 :=
  let c1_i32_266 : BitVec 32 := 1#32
  let arg1 : BitVec 32 := BitVec.ofNat 32 (i 1).val
  let v489 : BitVec 32 := Scalar.muli c1_i32_266 arg1
  let c0_i32_267 : BitVec 32 := 0#32
  let c6_i32 : BitVec 32 := 6#32
  let v480 : BitVec 32 := Scalar.addi arg14 c6_i32
  let c1_i32_265 : BitVec 32 := 1#32
  let v488 : BitVec 32 := Scalar.addi v480 c1_i32_265
  let v490 : BitVec 32 := Scalar.maxsi c0_i32_267 v488
  let v491 : BitVec 32 := Scalar.minsi v489 v490
  let c512_i32_268 : BitVec 32 := 512#32
  let v492 : BitVec 32 := Scalar.muli v491 c512_i32_268
  v492
def k0_mult17 (i : grid0.Coords) (arg14 : BitVec 32) : BitVec 32 :=
  let c1_i32_260 : BitVec 32 := 1#32
  let arg1 : BitVec 32 := BitVec.ofNat 32 (i 1).val
  let v481 : BitVec 32 := Scalar.muli c1_i32_260 arg1
  let c0_i32_261 : BitVec 32 := 0#32
  let c6_i32 : BitVec 32 := 6#32
  let v480 : BitVec 32 := Scalar.addi arg14 c6_i32
  let v482 : BitVec 32 := Scalar.maxsi c0_i32_261 v480
  let v483 : BitVec 32 := Scalar.minsi v481 v482
  let c512_i32_274 : BitVec 32 := 512#32
  let v503 : BitVec 32 := Scalar.muli v483 c512_i32_274
  v503
def k0_mult18 (i : grid0.Coords) (arg14 : BitVec 32) : BitVec 32 :=
  let c1_i32_294 : BitVec 32 := 1#32
  let arg1 : BitVec 32 := BitVec.ofNat 32 (i 1).val
  let v539 : BitVec 32 := Scalar.muli c1_i32_294 arg1
  let c0_i32_295 : BitVec 32 := 0#32
  let c7_i32 : BitVec 32 := 7#32
  let v530 : BitVec 32 := Scalar.addi arg14 c7_i32
  let c1_i32_293 : BitVec 32 := 1#32
  let v538 : BitVec 32 := Scalar.addi v530 c1_i32_293
  let v540 : BitVec 32 := Scalar.maxsi c0_i32_295 v538
  let v541 : BitVec 32 := Scalar.minsi v539 v540
  let c512_i32_296 : BitVec 32 := 512#32
  let v542 : BitVec 32 := Scalar.muli v541 c512_i32_296
  v542
def k0_mult19 (i : grid0.Coords) (arg14 : BitVec 32) : BitVec 32 :=
  let c1_i32_288 : BitVec 32 := 1#32
  let arg1 : BitVec 32 := BitVec.ofNat 32 (i 1).val
  let v531 : BitVec 32 := Scalar.muli c1_i32_288 arg1
  let c0_i32_289 : BitVec 32 := 0#32
  let c7_i32 : BitVec 32 := 7#32
  let v530 : BitVec 32 := Scalar.addi arg14 c7_i32
  let v532 : BitVec 32 := Scalar.maxsi c0_i32_289 v530
  let v533 : BitVec 32 := Scalar.minsi v531 v532
  let c512_i32_302 : BitVec 32 := 512#32
  let v553 : BitVec 32 := Scalar.muli v533 c512_i32_302
  v553

def k0_chk1 (i : grid0.Coords) (k0_t1 : Fin (k0_t1_loop i).trips) (arg14 : BitVec 32) : Prop :=
  (512 ∣ (k0_mult4 i arg14).toNat) ∧
  (∀ (r : Fin 8), ∀ a, (k0_off4 i arg14 (BitVec.ofNat 32 r.val)) a + S512x128.size a ≤ S16384x128.size a) ∧
  (512 ∣ (k0_mult5 i arg14).toNat) ∧
  (∀ (r : Fin 8), ∀ a, (k0_off5 i arg14 (BitVec.ofNat 32 r.val)) a + S128x512.size a ≤ S128x16384.size a) ∧
  (512 ∣ (k0_mult6 i arg14).toNat) ∧
  (512 ∣ (k0_mult7 i arg14).toNat) ∧
  (512 ∣ (k0_mult8 i arg14).toNat) ∧
  (512 ∣ (k0_mult9 i arg14).toNat) ∧
  (512 ∣ (k0_mult10 i arg14).toNat) ∧
  (512 ∣ (k0_mult11 i arg14).toNat) ∧
  (512 ∣ (k0_mult12 i arg14).toNat) ∧
  (512 ∣ (k0_mult13 i arg14).toNat) ∧
  (512 ∣ (k0_mult14 i arg14).toNat) ∧
  (512 ∣ (k0_mult15 i arg14).toNat) ∧
  (512 ∣ (k0_mult16 i arg14).toNat) ∧
  (512 ∣ (k0_mult17 i arg14).toNat) ∧
  (512 ∣ (k0_mult18 i arg14).toNat) ∧
  (512 ∣ (k0_mult19 i arg14).toNat)
theorem k0_mult4_dvd : ∀ (i : grid0.Coords) (k0_t1 : Fin (k0_t1_loop i).trips) (arg14 : BitVec 32) (k0_hw1 : k0_chk1 i k0_t1 arg14), 512 ∣ (k0_mult4 i arg14).toNat := fun i k0_t1 arg14 k0_hw1 => k0_hw1.1
theorem k0_off4_inb : ∀ (i : grid0.Coords) (k0_t1 : Fin (k0_t1_loop i).trips) (arg14 : BitVec 32) (k0_hw1 : k0_chk1 i k0_t1 arg14), ∀ (r : Fin 8), ∀ a, (k0_off4 i arg14 (BitVec.ofNat 32 r.val)) a + S512x128.size a ≤ S16384x128.size a := fun i k0_t1 arg14 k0_hw1 r => k0_hw1.2.1 r
theorem k0_mult5_dvd : ∀ (i : grid0.Coords) (k0_t1 : Fin (k0_t1_loop i).trips) (arg14 : BitVec 32) (k0_hw1 : k0_chk1 i k0_t1 arg14), 512 ∣ (k0_mult5 i arg14).toNat := fun i k0_t1 arg14 k0_hw1 => k0_hw1.2.2.1
theorem k0_off5_inb : ∀ (i : grid0.Coords) (k0_t1 : Fin (k0_t1_loop i).trips) (arg14 : BitVec 32) (k0_hw1 : k0_chk1 i k0_t1 arg14), ∀ (r : Fin 8), ∀ a, (k0_off5 i arg14 (BitVec.ofNat 32 r.val)) a + S128x512.size a ≤ S128x16384.size a := fun i k0_t1 arg14 k0_hw1 r => k0_hw1.2.2.2.1 r
theorem k0_mult6_dvd : ∀ (i : grid0.Coords) (k0_t1 : Fin (k0_t1_loop i).trips) (arg14 : BitVec 32) (k0_hw1 : k0_chk1 i k0_t1 arg14), 512 ∣ (k0_mult6 i arg14).toNat := fun i k0_t1 arg14 k0_hw1 => k0_hw1.2.2.2.2.1
theorem k0_mult7_dvd : ∀ (i : grid0.Coords) (k0_t1 : Fin (k0_t1_loop i).trips) (arg14 : BitVec 32) (k0_hw1 : k0_chk1 i k0_t1 arg14), 512 ∣ (k0_mult7 i arg14).toNat := fun i k0_t1 arg14 k0_hw1 => k0_hw1.2.2.2.2.2.1
theorem k0_mult8_dvd : ∀ (i : grid0.Coords) (k0_t1 : Fin (k0_t1_loop i).trips) (arg14 : BitVec 32) (k0_hw1 : k0_chk1 i k0_t1 arg14), 512 ∣ (k0_mult8 i arg14).toNat := fun i k0_t1 arg14 k0_hw1 => k0_hw1.2.2.2.2.2.2.1
theorem k0_mult9_dvd : ∀ (i : grid0.Coords) (k0_t1 : Fin (k0_t1_loop i).trips) (arg14 : BitVec 32) (k0_hw1 : k0_chk1 i k0_t1 arg14), 512 ∣ (k0_mult9 i arg14).toNat := fun i k0_t1 arg14 k0_hw1 => k0_hw1.2.2.2.2.2.2.2.1
theorem k0_mult10_dvd : ∀ (i : grid0.Coords) (k0_t1 : Fin (k0_t1_loop i).trips) (arg14 : BitVec 32) (k0_hw1 : k0_chk1 i k0_t1 arg14), 512 ∣ (k0_mult10 i arg14).toNat := fun i k0_t1 arg14 k0_hw1 => k0_hw1.2.2.2.2.2.2.2.2.1
theorem k0_mult11_dvd : ∀ (i : grid0.Coords) (k0_t1 : Fin (k0_t1_loop i).trips) (arg14 : BitVec 32) (k0_hw1 : k0_chk1 i k0_t1 arg14), 512 ∣ (k0_mult11 i arg14).toNat := fun i k0_t1 arg14 k0_hw1 => k0_hw1.2.2.2.2.2.2.2.2.2.1
theorem k0_mult12_dvd : ∀ (i : grid0.Coords) (k0_t1 : Fin (k0_t1_loop i).trips) (arg14 : BitVec 32) (k0_hw1 : k0_chk1 i k0_t1 arg14), 512 ∣ (k0_mult12 i arg14).toNat := fun i k0_t1 arg14 k0_hw1 => k0_hw1.2.2.2.2.2.2.2.2.2.2.1
theorem k0_mult13_dvd : ∀ (i : grid0.Coords) (k0_t1 : Fin (k0_t1_loop i).trips) (arg14 : BitVec 32) (k0_hw1 : k0_chk1 i k0_t1 arg14), 512 ∣ (k0_mult13 i arg14).toNat := fun i k0_t1 arg14 k0_hw1 => k0_hw1.2.2.2.2.2.2.2.2.2.2.2.1
theorem k0_mult14_dvd : ∀ (i : grid0.Coords) (k0_t1 : Fin (k0_t1_loop i).trips) (arg14 : BitVec 32) (k0_hw1 : k0_chk1 i k0_t1 arg14), 512 ∣ (k0_mult14 i arg14).toNat := fun i k0_t1 arg14 k0_hw1 => k0_hw1.2.2.2.2.2.2.2.2.2.2.2.2.1
theorem k0_mult15_dvd : ∀ (i : grid0.Coords) (k0_t1 : Fin (k0_t1_loop i).trips) (arg14 : BitVec 32) (k0_hw1 : k0_chk1 i k0_t1 arg14), 512 ∣ (k0_mult15 i arg14).toNat := fun i k0_t1 arg14 k0_hw1 => k0_hw1.2.2.2.2.2.2.2.2.2.2.2.2.2.1
theorem k0_mult16_dvd : ∀ (i : grid0.Coords) (k0_t1 : Fin (k0_t1_loop i).trips) (arg14 : BitVec 32) (k0_hw1 : k0_chk1 i k0_t1 arg14), 512 ∣ (k0_mult16 i arg14).toNat := fun i k0_t1 arg14 k0_hw1 => k0_hw1.2.2.2.2.2.2.2.2.2.2.2.2.2.2.1
theorem k0_mult17_dvd : ∀ (i : grid0.Coords) (k0_t1 : Fin (k0_t1_loop i).trips) (arg14 : BitVec 32) (k0_hw1 : k0_chk1 i k0_t1 arg14), 512 ∣ (k0_mult17 i arg14).toNat := fun i k0_t1 arg14 k0_hw1 => k0_hw1.2.2.2.2.2.2.2.2.2.2.2.2.2.2.2.1
theorem k0_mult18_dvd : ∀ (i : grid0.Coords) (k0_t1 : Fin (k0_t1_loop i).trips) (arg14 : BitVec 32) (k0_hw1 : k0_chk1 i k0_t1 arg14), 512 ∣ (k0_mult18 i arg14).toNat := fun i k0_t1 arg14 k0_hw1 => k0_hw1.2.2.2.2.2.2.2.2.2.2.2.2.2.2.2.2.1
theorem k0_mult19_dvd : ∀ (i : grid0.Coords) (k0_t1 : Fin (k0_t1_loop i).trips) (arg14 : BitVec 32) (k0_hw1 : k0_chk1 i k0_t1 arg14), 512 ∣ (k0_mult19 i arg14).toNat := fun i k0_t1 arg14 k0_hw1 => k0_hw1.2.2.2.2.2.2.2.2.2.2.2.2.2.2.2.2.2

@[reducible] def k0_t2_loop (i : grid0.Coords) : Scf.Loop 32 :=
  let c0_i32_48 : BitVec 32 := 0#32
  let c1_i32_11 : BitVec 32 := 1#32
  let arg1 : BitVec 32 := BitVec.ofNat 32 (i 1).val
  let v23 : BitVec 32 := Scalar.muli c1_i32_11 arg1
  let c0_i32_41 : BitVec 32 := 0#32
  let v78 : BitVec 32 := Scalar.subi v23 c0_i32_41
  let c0_i32_42 : BitVec 32 := 0#32
  let v80 : BitVec 1 := Scalar.cmpi .sgt v78 c0_i32_42
  let v81 : BitVec 32 := Scalar.extui v80
  let c0_i32_43 : BitVec 32 := 0#32
  let v82 : BitVec 1 := Scalar.cmpi .slt v78 c0_i32_43
  let v83 : BitVec 32 := Scalar.extui v82
  let v84 : BitVec 32 := Scalar.subi v81 v83
  let c8_i32 : BitVec 32 := 8#32
  let c0_i32_44 : BitVec 32 := 0#32
  let v85 : BitVec 1 := Scalar.cmpi .sgt c8_i32 c0_i32_44
  let v86 : BitVec 32 := Scalar.extui v85
  let c0_i32_45 : BitVec 32 := 0#32
  let v87 : BitVec 1 := Scalar.cmpi .slt c8_i32 c0_i32_45
  let v88 : BitVec 32 := Scalar.extui v87
  let v89 : BitVec 32 := Scalar.subi v86 v88
  let v90 : BitVec 1 := Scalar.cmpi .ne v84 v89
  let v91 : BitVec 32 := Scalar.remsi v78 c8_i32
  let c0_i32_46 : BitVec 32 := 0#32
  let v92 : BitVec 1 := Scalar.cmpi .ne v91 c0_i32_46
  let v93 : BitVec 1 := Scalar.andi v90 v92
  let v79 : BitVec 32 := Scalar.divsi v78 c8_i32
  let c1_i32_47 : BitVec 32 := 1#32
  let v94 : BitVec 32 := Scalar.subi v79 c1_i32_47
  let v95 : BitVec 32 := Scalar.select v93 v94 v79
  let v96 : BitVec 32 := Scalar.subi v95 c0_i32_48
  let c1_i32_50 : BitVec 32 := 1#32
  let v98 : BitVec 32 := Scalar.divsi v96 c1_i32_50
  let v99 : BitVec 32 := Scalar.muli v98 c1_i32_50
  let v100 : BitVec 32 := Scalar.addi c0_i32_48 v99
  let v97 : BitVec 32 := Scalar.addi c0_i32_48 v96
  let c1_i32_52 : BitVec 32 := 1#32
  ⟨v100, v97, c1_i32_52⟩
def k0_mult20 (i : grid0.Coords) (arg14 : BitVec 32) : BitVec 32 :=
  let c1_i32_95 : BitVec 32 := 1#32
  let arg1 : BitVec 32 := BitVec.ofNat 32 (i 1).val
  let v189 : BitVec 32 := Scalar.muli c1_i32_95 arg1
  let c0_i32_96 : BitVec 32 := 0#32
  let c0_i32_87 : BitVec 32 := 0#32
  let v178 : BitVec 32 := Scalar.addi arg14 c0_i32_87
  let c1_i32_94 : BitVec 32 := 1#32
  let v188 : BitVec 32 := Scalar.addi v178 c1_i32_94
  let v190 : BitVec 32 := Scalar.maxsi c0_i32_96 v188
  let v191 : BitVec 32 := Scalar.minsi v189 v190
  let c512_i32_97 : BitVec 32 := 512#32
  let v192 : BitVec 32 := Scalar.muli v191 c512_i32_97
  v192

def k0_off6 (i : grid0.Coords) (arg14 : BitVec 32) (c0_i32_87 : BitVec 32) : Fin 2 → Nat :=
  let c1_i32_95 : BitVec 32 := 1#32
  let arg1 : BitVec 32 := BitVec.ofNat 32 (i 1).val
  let v189 : BitVec 32 := Scalar.muli c1_i32_95 arg1
  let c0_i32_96 : BitVec 32 := 0#32
  let v178 : BitVec 32 := Scalar.addi arg14 c0_i32_87
  let c1_i32_94 : BitVec 32 := 1#32
  let v188 : BitVec 32 := Scalar.addi v178 c1_i32_94
  let v190 : BitVec 32 := Scalar.maxsi c0_i32_96 v188
  let v191 : BitVec 32 := Scalar.minsi v189 v190
  let c512_i32_97 : BitVec 32 := 512#32
  let v192 : BitVec 32 := Scalar.muli v191 c512_i32_97
  let v193 : BitVec 32 := v192
  let v194 : Index := Scalar.indexCast v193
  let c0_98 : Index := 0#32
  ![v194.toNat, 0]
def k0_mult21 (i : grid0.Coords) (arg14 : BitVec 32) : BitVec 32 :=
  let c1_i32_88 : BitVec 32 := 1#32
  let arg1 : BitVec 32 := BitVec.ofNat 32 (i 1).val
  let v179 : BitVec 32 := Scalar.muli c1_i32_88 arg1
  let c0_i32_89 : BitVec 32 := 0#32
  let c0_i32_87 : BitVec 32 := 0#32
  let v178 : BitVec 32 := Scalar.addi arg14 c0_i32_87
  let v180 : BitVec 32 := Scalar.maxsi c0_i32_89 v178
  let v181 : BitVec 32 := Scalar.minsi v179 v180
  let c512_i32_103 : BitVec 32 := 512#32
  let v203 : BitVec 32 := Scalar.muli v181 c512_i32_103
  v203
def k0_off7 (i : grid0.Coords) (arg14 : BitVec 32) (c0_i32_87 : BitVec 32) : Fin 2 → Nat :=
  let c0_104 : Index := 0#32
  let c1_i32_88 : BitVec 32 := 1#32
  let arg1 : BitVec 32 := BitVec.ofNat 32 (i 1).val
  let v179 : BitVec 32 := Scalar.muli c1_i32_88 arg1
  let c0_i32_89 : BitVec 32 := 0#32
  let v178 : BitVec 32 := Scalar.addi arg14 c0_i32_87
  let v180 : BitVec 32 := Scalar.maxsi c0_i32_89 v178
  let v181 : BitVec 32 := Scalar.minsi v179 v180
  let c512_i32_103 : BitVec 32 := 512#32
  let v203 : BitVec 32 := Scalar.muli v181 c512_i32_103
  let v204 : BitVec 32 := v203
  let v205 : Index := Scalar.indexCast v204
  ![0, v205.toNat]
def k0_mult22 (i : grid0.Coords) (arg14 : BitVec 32) : BitVec 32 :=
  let c1_i32_124 : BitVec 32 := 1#32
  let arg1 : BitVec 32 := BitVec.ofNat 32 (i 1).val
  let v239 : BitVec 32 := Scalar.muli c1_i32_124 arg1
  let c0_i32_125 : BitVec 32 := 0#32
  let c1_i32_117 : BitVec 32 := 1#32
  let v230 : BitVec 32 := Scalar.addi arg14 c1_i32_117
  let c1_i32_123 : BitVec 32 := 1#32
  let v238 : BitVec 32 := Scalar.addi v230 c1_i32_123
  let v240 : BitVec 32 := Scalar.maxsi c0_i32_125 v238
  let v241 : BitVec 32 := Scalar.minsi v239 v240
  let c512_i32_126 : BitVec 32 := 512#32
  let v242 : BitVec 32 := Scalar.muli v241 c512_i32_126
  v242
def k0_mult23 (i : grid0.Coords) (arg14 : BitVec 32) : BitVec 32 :=
  let c1_i32_118 : BitVec 32 := 1#32
  let arg1 : BitVec 32 := BitVec.ofNat 32 (i 1).val
  let v231 : BitVec 32 := Scalar.muli c1_i32_118 arg1
  let c0_i32_119 : BitVec 32 := 0#32
  let c1_i32_117 : BitVec 32 := 1#32
  let v230 : BitVec 32 := Scalar.addi arg14 c1_i32_117
  let v232 : BitVec 32 := Scalar.maxsi c0_i32_119 v230
  let v233 : BitVec 32 := Scalar.minsi v231 v232
  let c512_i32_132 : BitVec 32 := 512#32
  let v253 : BitVec 32 := Scalar.muli v233 c512_i32_132
  v253
def k0_mult24 (i : grid0.Coords) (arg14 : BitVec 32) : BitVec 32 :=
  let c1_i32_153 : BitVec 32 := 1#32
  let arg1 : BitVec 32 := BitVec.ofNat 32 (i 1).val
  let v289 : BitVec 32 := Scalar.muli c1_i32_153 arg1
  let c0_i32_154 : BitVec 32 := 0#32
  let c2_i32_146 : BitVec 32 := 2#32
  let v280 : BitVec 32 := Scalar.addi arg14 c2_i32_146
  let c1_i32_152 : BitVec 32 := 1#32
  let v288 : BitVec 32 := Scalar.addi v280 c1_i32_152
  let v290 : BitVec 32 := Scalar.maxsi c0_i32_154 v288
  let v291 : BitVec 32 := Scalar.minsi v289 v290
  let c512_i32_155 : BitVec 32 := 512#32
  let v292 : BitVec 32 := Scalar.muli v291 c512_i32_155
  v292
def k0_mult25 (i : grid0.Coords) (arg14 : BitVec 32) : BitVec 32 :=
  let c1_i32_147 : BitVec 32 := 1#32
  let arg1 : BitVec 32 := BitVec.ofNat 32 (i 1).val
  let v281 : BitVec 32 := Scalar.muli c1_i32_147 arg1
  let c0_i32_148 : BitVec 32 := 0#32
  let c2_i32_146 : BitVec 32 := 2#32
  let v280 : BitVec 32 := Scalar.addi arg14 c2_i32_146
  let v282 : BitVec 32 := Scalar.maxsi c0_i32_148 v280
  let v283 : BitVec 32 := Scalar.minsi v281 v282
  let c512_i32_161 : BitVec 32 := 512#32
  let v303 : BitVec 32 := Scalar.muli v283 c512_i32_161
  v303
def k0_mult26 (i : grid0.Coords) (arg14 : BitVec 32) : BitVec 32 :=
  let c1_i32_181 : BitVec 32 := 1#32
  let arg1 : BitVec 32 := BitVec.ofNat 32 (i 1).val
  let v339 : BitVec 32 := Scalar.muli c1_i32_181 arg1
  let c0_i32_182 : BitVec 32 := 0#32
  let c3_i32 : BitVec 32 := 3#32
  let v330 : BitVec 32 := Scalar.addi arg14 c3_i32
  let c1_i32_180 : BitVec 32 := 1#32
  let v338 : BitVec 32 := Scalar.addi v330 c1_i32_180
  let v340 : BitVec 32 := Scalar.maxsi c0_i32_182 v338
  let v341 : BitVec 32 := Scalar.minsi v339 v340
  let c512_i32_183 : BitVec 32 := 512#32
  let v342 : BitVec 32 := Scalar.muli v341 c512_i32_183
  v342
def k0_mult27 (i : grid0.Coords) (arg14 : BitVec 32) : BitVec 32 :=
  let c1_i32_175 : BitVec 32 := 1#32
  let arg1 : BitVec 32 := BitVec.ofNat 32 (i 1).val
  let v331 : BitVec 32 := Scalar.muli c1_i32_175 arg1
  let c0_i32_176 : BitVec 32 := 0#32
  let c3_i32 : BitVec 32 := 3#32
  let v330 : BitVec 32 := Scalar.addi arg14 c3_i32
  let v332 : BitVec 32 := Scalar.maxsi c0_i32_176 v330
  let v333 : BitVec 32 := Scalar.minsi v331 v332
  let c512_i32_189 : BitVec 32 := 512#32
  let v353 : BitVec 32 := Scalar.muli v333 c512_i32_189
  v353
def k0_mult28 (i : grid0.Coords) (arg14 : BitVec 32) : BitVec 32 :=
  let c1_i32_210 : BitVec 32 := 1#32
  let arg1 : BitVec 32 := BitVec.ofNat 32 (i 1).val
  let v389 : BitVec 32 := Scalar.muli c1_i32_210 arg1
  let c0_i32_211 : BitVec 32 := 0#32
  let c4_i32_203 : BitVec 32 := 4#32
  let v380 : BitVec 32 := Scalar.addi arg14 c4_i32_203
  let c1_i32_209 : BitVec 32 := 1#32
  let v388 : BitVec 32 := Scalar.addi v380 c1_i32_209
  let v390 : BitVec 32 := Scalar.maxsi c0_i32_211 v388
  let v391 : BitVec 32 := Scalar.minsi v389 v390
  let c512_i32_212 : BitVec 32 := 512#32
  let v392 : BitVec 32 := Scalar.muli v391 c512_i32_212
  v392
def k0_mult29 (i : grid0.Coords) (arg14 : BitVec 32) : BitVec 32 :=
  let c1_i32_204 : BitVec 32 := 1#32
  let arg1 : BitVec 32 := BitVec.ofNat 32 (i 1).val
  let v381 : BitVec 32 := Scalar.muli c1_i32_204 arg1
  let c0_i32_205 : BitVec 32 := 0#32
  let c4_i32_203 : BitVec 32 := 4#32
  let v380 : BitVec 32 := Scalar.addi arg14 c4_i32_203
  let v382 : BitVec 32 := Scalar.maxsi c0_i32_205 v380
  let v383 : BitVec 32 := Scalar.minsi v381 v382
  let c512_i32_218 : BitVec 32 := 512#32
  let v403 : BitVec 32 := Scalar.muli v383 c512_i32_218
  v403
def k0_mult30 (i : grid0.Coords) (arg14 : BitVec 32) : BitVec 32 :=
  let c1_i32_238 : BitVec 32 := 1#32
  let arg1 : BitVec 32 := BitVec.ofNat 32 (i 1).val
  let v439 : BitVec 32 := Scalar.muli c1_i32_238 arg1
  let c0_i32_239 : BitVec 32 := 0#32
  let c5_i32 : BitVec 32 := 5#32
  let v430 : BitVec 32 := Scalar.addi arg14 c5_i32
  let c1_i32_237 : BitVec 32 := 1#32
  let v438 : BitVec 32 := Scalar.addi v430 c1_i32_237
  let v440 : BitVec 32 := Scalar.maxsi c0_i32_239 v438
  let v441 : BitVec 32 := Scalar.minsi v439 v440
  let c512_i32_240 : BitVec 32 := 512#32
  let v442 : BitVec 32 := Scalar.muli v441 c512_i32_240
  v442
def k0_mult31 (i : grid0.Coords) (arg14 : BitVec 32) : BitVec 32 :=
  let c1_i32_232 : BitVec 32 := 1#32
  let arg1 : BitVec 32 := BitVec.ofNat 32 (i 1).val
  let v431 : BitVec 32 := Scalar.muli c1_i32_232 arg1
  let c0_i32_233 : BitVec 32 := 0#32
  let c5_i32 : BitVec 32 := 5#32
  let v430 : BitVec 32 := Scalar.addi arg14 c5_i32
  let v432 : BitVec 32 := Scalar.maxsi c0_i32_233 v430
  let v433 : BitVec 32 := Scalar.minsi v431 v432
  let c512_i32_246 : BitVec 32 := 512#32
  let v453 : BitVec 32 := Scalar.muli v433 c512_i32_246
  v453
def k0_mult32 (i : grid0.Coords) (arg14 : BitVec 32) : BitVec 32 :=
  let c1_i32_266 : BitVec 32 := 1#32
  let arg1 : BitVec 32 := BitVec.ofNat 32 (i 1).val
  let v489 : BitVec 32 := Scalar.muli c1_i32_266 arg1
  let c0_i32_267 : BitVec 32 := 0#32
  let c6_i32 : BitVec 32 := 6#32
  let v480 : BitVec 32 := Scalar.addi arg14 c6_i32
  let c1_i32_265 : BitVec 32 := 1#32
  let v488 : BitVec 32 := Scalar.addi v480 c1_i32_265
  let v490 : BitVec 32 := Scalar.maxsi c0_i32_267 v488
  let v491 : BitVec 32 := Scalar.minsi v489 v490
  let c512_i32_268 : BitVec 32 := 512#32
  let v492 : BitVec 32 := Scalar.muli v491 c512_i32_268
  v492
def k0_mult33 (i : grid0.Coords) (arg14 : BitVec 32) : BitVec 32 :=
  let c1_i32_260 : BitVec 32 := 1#32
  let arg1 : BitVec 32 := BitVec.ofNat 32 (i 1).val
  let v481 : BitVec 32 := Scalar.muli c1_i32_260 arg1
  let c0_i32_261 : BitVec 32 := 0#32
  let c6_i32 : BitVec 32 := 6#32
  let v480 : BitVec 32 := Scalar.addi arg14 c6_i32
  let v482 : BitVec 32 := Scalar.maxsi c0_i32_261 v480
  let v483 : BitVec 32 := Scalar.minsi v481 v482
  let c512_i32_274 : BitVec 32 := 512#32
  let v503 : BitVec 32 := Scalar.muli v483 c512_i32_274
  v503
def k0_mult34 (i : grid0.Coords) (arg14 : BitVec 32) : BitVec 32 :=
  let c1_i32_294 : BitVec 32 := 1#32
  let arg1 : BitVec 32 := BitVec.ofNat 32 (i 1).val
  let v539 : BitVec 32 := Scalar.muli c1_i32_294 arg1
  let c0_i32_295 : BitVec 32 := 0#32
  let c7_i32 : BitVec 32 := 7#32
  let v530 : BitVec 32 := Scalar.addi arg14 c7_i32
  let c1_i32_293 : BitVec 32 := 1#32
  let v538 : BitVec 32 := Scalar.addi v530 c1_i32_293
  let v540 : BitVec 32 := Scalar.maxsi c0_i32_295 v538
  let v541 : BitVec 32 := Scalar.minsi v539 v540
  let c512_i32_296 : BitVec 32 := 512#32
  let v542 : BitVec 32 := Scalar.muli v541 c512_i32_296
  v542
def k0_mult35 (i : grid0.Coords) (arg14 : BitVec 32) : BitVec 32 :=
  let c1_i32_288 : BitVec 32 := 1#32
  let arg1 : BitVec 32 := BitVec.ofNat 32 (i 1).val
  let v531 : BitVec 32 := Scalar.muli c1_i32_288 arg1
  let c0_i32_289 : BitVec 32 := 0#32
  let c7_i32 : BitVec 32 := 7#32
  let v530 : BitVec 32 := Scalar.addi arg14 c7_i32
  let v532 : BitVec 32 := Scalar.maxsi c0_i32_289 v530
  let v533 : BitVec 32 := Scalar.minsi v531 v532
  let c512_i32_302 : BitVec 32 := 512#32
  let v553 : BitVec 32 := Scalar.muli v533 c512_i32_302
  v553

def k0_chk2 (i : grid0.Coords) (k0_t2 : Fin (k0_t2_loop i).trips) (arg14 : BitVec 32) : Prop :=
  (512 ∣ (k0_mult20 i arg14).toNat) ∧
  (∀ (r : Fin 8), ∀ a, (k0_off6 i arg14 (BitVec.ofNat 32 r.val)) a + S512x128.size a ≤ S16384x128.size a) ∧
  (512 ∣ (k0_mult21 i arg14).toNat) ∧
  (∀ (r : Fin 8), ∀ a, (k0_off7 i arg14 (BitVec.ofNat 32 r.val)) a + S128x512.size a ≤ S128x16384.size a) ∧
  (512 ∣ (k0_mult22 i arg14).toNat) ∧
  (512 ∣ (k0_mult23 i arg14).toNat) ∧
  (512 ∣ (k0_mult24 i arg14).toNat) ∧
  (512 ∣ (k0_mult25 i arg14).toNat) ∧
  (512 ∣ (k0_mult26 i arg14).toNat) ∧
  (512 ∣ (k0_mult27 i arg14).toNat) ∧
  (512 ∣ (k0_mult28 i arg14).toNat) ∧
  (512 ∣ (k0_mult29 i arg14).toNat) ∧
  (512 ∣ (k0_mult30 i arg14).toNat) ∧
  (512 ∣ (k0_mult31 i arg14).toNat) ∧
  (512 ∣ (k0_mult32 i arg14).toNat) ∧
  (512 ∣ (k0_mult33 i arg14).toNat) ∧
  (512 ∣ (k0_mult34 i arg14).toNat) ∧
  (512 ∣ (k0_mult35 i arg14).toNat)
theorem k0_mult20_dvd : ∀ (i : grid0.Coords) (k0_t2 : Fin (k0_t2_loop i).trips) (arg14 : BitVec 32) (k0_hw2 : k0_chk2 i k0_t2 arg14), 512 ∣ (k0_mult20 i arg14).toNat := fun i k0_t2 arg14 k0_hw2 => k0_hw2.1
theorem k0_off6_inb : ∀ (i : grid0.Coords) (k0_t2 : Fin (k0_t2_loop i).trips) (arg14 : BitVec 32) (k0_hw2 : k0_chk2 i k0_t2 arg14), ∀ (r : Fin 8), ∀ a, (k0_off6 i arg14 (BitVec.ofNat 32 r.val)) a + S512x128.size a ≤ S16384x128.size a := fun i k0_t2 arg14 k0_hw2 r => k0_hw2.2.1 r
theorem k0_mult21_dvd : ∀ (i : grid0.Coords) (k0_t2 : Fin (k0_t2_loop i).trips) (arg14 : BitVec 32) (k0_hw2 : k0_chk2 i k0_t2 arg14), 512 ∣ (k0_mult21 i arg14).toNat := fun i k0_t2 arg14 k0_hw2 => k0_hw2.2.2.1
theorem k0_off7_inb : ∀ (i : grid0.Coords) (k0_t2 : Fin (k0_t2_loop i).trips) (arg14 : BitVec 32) (k0_hw2 : k0_chk2 i k0_t2 arg14), ∀ (r : Fin 8), ∀ a, (k0_off7 i arg14 (BitVec.ofNat 32 r.val)) a + S128x512.size a ≤ S128x16384.size a := fun i k0_t2 arg14 k0_hw2 r => k0_hw2.2.2.2.1 r
theorem k0_mult22_dvd : ∀ (i : grid0.Coords) (k0_t2 : Fin (k0_t2_loop i).trips) (arg14 : BitVec 32) (k0_hw2 : k0_chk2 i k0_t2 arg14), 512 ∣ (k0_mult22 i arg14).toNat := fun i k0_t2 arg14 k0_hw2 => k0_hw2.2.2.2.2.1
theorem k0_mult23_dvd : ∀ (i : grid0.Coords) (k0_t2 : Fin (k0_t2_loop i).trips) (arg14 : BitVec 32) (k0_hw2 : k0_chk2 i k0_t2 arg14), 512 ∣ (k0_mult23 i arg14).toNat := fun i k0_t2 arg14 k0_hw2 => k0_hw2.2.2.2.2.2.1
theorem k0_mult24_dvd : ∀ (i : grid0.Coords) (k0_t2 : Fin (k0_t2_loop i).trips) (arg14 : BitVec 32) (k0_hw2 : k0_chk2 i k0_t2 arg14), 512 ∣ (k0_mult24 i arg14).toNat := fun i k0_t2 arg14 k0_hw2 => k0_hw2.2.2.2.2.2.2.1
theorem k0_mult25_dvd : ∀ (i : grid0.Coords) (k0_t2 : Fin (k0_t2_loop i).trips) (arg14 : BitVec 32) (k0_hw2 : k0_chk2 i k0_t2 arg14), 512 ∣ (k0_mult25 i arg14).toNat := fun i k0_t2 arg14 k0_hw2 => k0_hw2.2.2.2.2.2.2.2.1
theorem k0_mult26_dvd : ∀ (i : grid0.Coords) (k0_t2 : Fin (k0_t2_loop i).trips) (arg14 : BitVec 32) (k0_hw2 : k0_chk2 i k0_t2 arg14), 512 ∣ (k0_mult26 i arg14).toNat := fun i k0_t2 arg14 k0_hw2 => k0_hw2.2.2.2.2.2.2.2.2.1
theorem k0_mult27_dvd : ∀ (i : grid0.Coords) (k0_t2 : Fin (k0_t2_loop i).trips) (arg14 : BitVec 32) (k0_hw2 : k0_chk2 i k0_t2 arg14), 512 ∣ (k0_mult27 i arg14).toNat := fun i k0_t2 arg14 k0_hw2 => k0_hw2.2.2.2.2.2.2.2.2.2.1
theorem k0_mult28_dvd : ∀ (i : grid0.Coords) (k0_t2 : Fin (k0_t2_loop i).trips) (arg14 : BitVec 32) (k0_hw2 : k0_chk2 i k0_t2 arg14), 512 ∣ (k0_mult28 i arg14).toNat := fun i k0_t2 arg14 k0_hw2 => k0_hw2.2.2.2.2.2.2.2.2.2.2.1
theorem k0_mult29_dvd : ∀ (i : grid0.Coords) (k0_t2 : Fin (k0_t2_loop i).trips) (arg14 : BitVec 32) (k0_hw2 : k0_chk2 i k0_t2 arg14), 512 ∣ (k0_mult29 i arg14).toNat := fun i k0_t2 arg14 k0_hw2 => k0_hw2.2.2.2.2.2.2.2.2.2.2.2.1
theorem k0_mult30_dvd : ∀ (i : grid0.Coords) (k0_t2 : Fin (k0_t2_loop i).trips) (arg14 : BitVec 32) (k0_hw2 : k0_chk2 i k0_t2 arg14), 512 ∣ (k0_mult30 i arg14).toNat := fun i k0_t2 arg14 k0_hw2 => k0_hw2.2.2.2.2.2.2.2.2.2.2.2.2.1
theorem k0_mult31_dvd : ∀ (i : grid0.Coords) (k0_t2 : Fin (k0_t2_loop i).trips) (arg14 : BitVec 32) (k0_hw2 : k0_chk2 i k0_t2 arg14), 512 ∣ (k0_mult31 i arg14).toNat := fun i k0_t2 arg14 k0_hw2 => k0_hw2.2.2.2.2.2.2.2.2.2.2.2.2.2.1
theorem k0_mult32_dvd : ∀ (i : grid0.Coords) (k0_t2 : Fin (k0_t2_loop i).trips) (arg14 : BitVec 32) (k0_hw2 : k0_chk2 i k0_t2 arg14), 512 ∣ (k0_mult32 i arg14).toNat := fun i k0_t2 arg14 k0_hw2 => k0_hw2.2.2.2.2.2.2.2.2.2.2.2.2.2.2.1
theorem k0_mult33_dvd : ∀ (i : grid0.Coords) (k0_t2 : Fin (k0_t2_loop i).trips) (arg14 : BitVec 32) (k0_hw2 : k0_chk2 i k0_t2 arg14), 512 ∣ (k0_mult33 i arg14).toNat := fun i k0_t2 arg14 k0_hw2 => k0_hw2.2.2.2.2.2.2.2.2.2.2.2.2.2.2.2.1
theorem k0_mult34_dvd : ∀ (i : grid0.Coords) (k0_t2 : Fin (k0_t2_loop i).trips) (arg14 : BitVec 32) (k0_hw2 : k0_chk2 i k0_t2 arg14), 512 ∣ (k0_mult34 i arg14).toNat := fun i k0_t2 arg14 k0_hw2 => k0_hw2.2.2.2.2.2.2.2.2.2.2.2.2.2.2.2.2.1
theorem k0_mult35_dvd : ∀ (i : grid0.Coords) (k0_t2 : Fin (k0_t2_loop i).trips) (arg14 : BitVec 32) (k0_hw2 : k0_chk2 i k0_t2 arg14), 512 ∣ (k0_mult35 i arg14).toNat := fun i k0_t2 arg14 k0_hw2 => k0_hw2.2.2.2.2.2.2.2.2.2.2.2.2.2.2.2.2.2

@[reducible] def k0_t3_loop (i : grid0.Coords) (v102 : BitVec 32) : Scf.Loop 32 :=
  let c0_i32_59 : BitVec 32 := 0#32
  let c1_i32_11 : BitVec 32 := 1#32
  let arg1 : BitVec 32 := BitVec.ofNat 32 (i 1).val
  let v23 : BitVec 32 := Scalar.muli c1_i32_11 arg1
  let v103 : BitVec 32 := Scalar.subi v23 v102
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32 : BitVec 32 := 4#32
  let c0_i32_55 : BitVec 32 := 0#32
  let v110 : BitVec 1 := Scalar.cmpi .sgt c4_i32 c0_i32_55
  let v111 : BitVec 32 := Scalar.extui v110
  let c0_i32_56 : BitVec 32 := 0#32
  let v112 : BitVec 1 := Scalar.cmpi .slt c4_i32 c0_i32_56
  let v113 : BitVec 32 := Scalar.extui v112
  let v114 : BitVec 32 := Scalar.subi v111 v113
  let v115 : BitVec 1 := Scalar.cmpi .ne v109 v114
  let v116 : BitVec 32 := Scalar.remsi v103 c4_i32
  let c0_i32_57 : BitVec 32 := 0#32
  let v117 : BitVec 1 := Scalar.cmpi .ne v116 c0_i32_57
  let v118 : BitVec 1 := Scalar.andi v115 v117
  let v104 : BitVec 32 := Scalar.divsi v103 c4_i32
  let c1_i32_58 : BitVec 32 := 1#32
  let v119 : BitVec 32 := Scalar.subi v104 c1_i32_58
  let v120 : BitVec 32 := Scalar.select v118 v119 v104
  let v121 : BitVec 32 := Scalar.subi v120 c0_i32_59
  let c1_i32_60 : BitVec 32 := 1#32
  let v123 : BitVec 32 := Scalar.divsi v121 c1_i32_60
  let v124 : BitVec 32 := Scalar.muli v123 c1_i32_60
  let v125 : BitVec 32 := Scalar.addi c0_i32_59 v124
  let c1_i32_61 : BitVec 32 := 1#32
  ⟨c0_i32_59, v125, c1_i32_61⟩

def k0_mult36 (i : grid0.Coords) (arg14 : BitVec 32) : BitVec 32 :=
  let c1_i32_95 : BitVec 32 := 1#32
  let arg1 : BitVec 32 := BitVec.ofNat 32 (i 1).val
  let v189 : BitVec 32 := Scalar.muli c1_i32_95 arg1
  let c0_i32_96 : BitVec 32 := 0#32
  let c0_i32_87 : BitVec 32 := 0#32
  let v178 : BitVec 32 := Scalar.addi arg14 c0_i32_87
  let c1_i32_94 : BitVec 32 := 1#32
  let v188 : BitVec 32 := Scalar.addi v178 c1_i32_94
  let v190 : BitVec 32 := Scalar.maxsi c0_i32_96 v188
  let v191 : BitVec 32 := Scalar.minsi v189 v190
  let c512_i32_97 : BitVec 32 := 512#32
  let v192 : BitVec 32 := Scalar.muli v191 c512_i32_97
  v192

def k0_off8 (i : grid0.Coords) (arg14 : BitVec 32) (c0_i32_87 : BitVec 32) : Fin 2 → Nat :=
  let c1_i32_95 : BitVec 32 := 1#32
  let arg1 : BitVec 32 := BitVec.ofNat 32 (i 1).val
  let v189 : BitVec 32 := Scalar.muli c1_i32_95 arg1
  let c0_i32_96 : BitVec 32 := 0#32
  let v178 : BitVec 32 := Scalar.addi arg14 c0_i32_87
  let c1_i32_94 : BitVec 32 := 1#32
  let v188 : BitVec 32 := Scalar.addi v178 c1_i32_94
  let v190 : BitVec 32 := Scalar.maxsi c0_i32_96 v188
  let v191 : BitVec 32 := Scalar.minsi v189 v190
  let c512_i32_97 : BitVec 32 := 512#32
  let v192 : BitVec 32 := Scalar.muli v191 c512_i32_97
  let v193 : BitVec 32 := v192
  let v194 : Index := Scalar.indexCast v193
  let c0_98 : Index := 0#32
  ![v194.toNat, 0]
def k0_mult37 (i : grid0.Coords) (arg14 : BitVec 32) : BitVec 32 :=
  let c1_i32_88 : BitVec 32 := 1#32
  let arg1 : BitVec 32 := BitVec.ofNat 32 (i 1).val
  let v179 : BitVec 32 := Scalar.muli c1_i32_88 arg1
  let c0_i32_89 : BitVec 32 := 0#32
  let c0_i32_87 : BitVec 32 := 0#32
  let v178 : BitVec 32 := Scalar.addi arg14 c0_i32_87
  let v180 : BitVec 32 := Scalar.maxsi c0_i32_89 v178
  let v181 : BitVec 32 := Scalar.minsi v179 v180
  let c512_i32_103 : BitVec 32 := 512#32
  let v203 : BitVec 32 := Scalar.muli v181 c512_i32_103
  v203
def k0_off9 (i : grid0.Coords) (arg14 : BitVec 32) (c0_i32_87 : BitVec 32) : Fin 2 → Nat :=
  let c0_104 : Index := 0#32
  let c1_i32_88 : BitVec 32 := 1#32
  let arg1 : BitVec 32 := BitVec.ofNat 32 (i 1).val
  let v179 : BitVec 32 := Scalar.muli c1_i32_88 arg1
  let c0_i32_89 : BitVec 32 := 0#32
  let v178 : BitVec 32 := Scalar.addi arg14 c0_i32_87
  let v180 : BitVec 32 := Scalar.maxsi c0_i32_89 v178
  let v181 : BitVec 32 := Scalar.minsi v179 v180
  let c512_i32_103 : BitVec 32 := 512#32
  let v203 : BitVec 32 := Scalar.muli v181 c512_i32_103
  let v204 : BitVec 32 := v203
  let v205 : Index := Scalar.indexCast v204
  ![0, v205.toNat]
def k0_mult38 (i : grid0.Coords) (arg14 : BitVec 32) : BitVec 32 :=
  let c1_i32_124 : BitVec 32 := 1#32
  let arg1 : BitVec 32 := BitVec.ofNat 32 (i 1).val
  let v239 : BitVec 32 := Scalar.muli c1_i32_124 arg1
  let c0_i32_125 : BitVec 32 := 0#32
  let c1_i32_117 : BitVec 32 := 1#32
  let v230 : BitVec 32 := Scalar.addi arg14 c1_i32_117
  let c1_i32_123 : BitVec 32 := 1#32
  let v238 : BitVec 32 := Scalar.addi v230 c1_i32_123
  let v240 : BitVec 32 := Scalar.maxsi c0_i32_125 v238
  let v241 : BitVec 32 := Scalar.minsi v239 v240
  let c512_i32_126 : BitVec 32 := 512#32
  let v242 : BitVec 32 := Scalar.muli v241 c512_i32_126
  v242
def k0_mult39 (i : grid0.Coords) (arg14 : BitVec 32) : BitVec 32 :=
  let c1_i32_118 : BitVec 32 := 1#32
  let arg1 : BitVec 32 := BitVec.ofNat 32 (i 1).val
  let v231 : BitVec 32 := Scalar.muli c1_i32_118 arg1
  let c0_i32_119 : BitVec 32 := 0#32
  let c1_i32_117 : BitVec 32 := 1#32
  let v230 : BitVec 32 := Scalar.addi arg14 c1_i32_117
  let v232 : BitVec 32 := Scalar.maxsi c0_i32_119 v230
  let v233 : BitVec 32 := Scalar.minsi v231 v232
  let c512_i32_132 : BitVec 32 := 512#32
  let v253 : BitVec 32 := Scalar.muli v233 c512_i32_132
  v253
def k0_mult40 (i : grid0.Coords) (arg14 : BitVec 32) : BitVec 32 :=
  let c1_i32_153 : BitVec 32 := 1#32
  let arg1 : BitVec 32 := BitVec.ofNat 32 (i 1).val
  let v289 : BitVec 32 := Scalar.muli c1_i32_153 arg1
  let c0_i32_154 : BitVec 32 := 0#32
  let c2_i32_146 : BitVec 32 := 2#32
  let v280 : BitVec 32 := Scalar.addi arg14 c2_i32_146
  let c1_i32_152 : BitVec 32 := 1#32
  let v288 : BitVec 32 := Scalar.addi v280 c1_i32_152
  let v290 : BitVec 32 := Scalar.maxsi c0_i32_154 v288
  let v291 : BitVec 32 := Scalar.minsi v289 v290
  let c512_i32_155 : BitVec 32 := 512#32
  let v292 : BitVec 32 := Scalar.muli v291 c512_i32_155
  v292
def k0_mult41 (i : grid0.Coords) (arg14 : BitVec 32) : BitVec 32 :=
  let c1_i32_147 : BitVec 32 := 1#32
  let arg1 : BitVec 32 := BitVec.ofNat 32 (i 1).val
  let v281 : BitVec 32 := Scalar.muli c1_i32_147 arg1
  let c0_i32_148 : BitVec 32 := 0#32
  let c2_i32_146 : BitVec 32 := 2#32
  let v280 : BitVec 32 := Scalar.addi arg14 c2_i32_146
  let v282 : BitVec 32 := Scalar.maxsi c0_i32_148 v280
  let v283 : BitVec 32 := Scalar.minsi v281 v282
  let c512_i32_161 : BitVec 32 := 512#32
  let v303 : BitVec 32 := Scalar.muli v283 c512_i32_161
  v303
def k0_mult42 (i : grid0.Coords) (arg14 : BitVec 32) : BitVec 32 :=
  let c1_i32_181 : BitVec 32 := 1#32
  let arg1 : BitVec 32 := BitVec.ofNat 32 (i 1).val
  let v339 : BitVec 32 := Scalar.muli c1_i32_181 arg1
  let c0_i32_182 : BitVec 32 := 0#32
  let c3_i32 : BitVec 32 := 3#32
  let v330 : BitVec 32 := Scalar.addi arg14 c3_i32
  let c1_i32_180 : BitVec 32 := 1#32
  let v338 : BitVec 32 := Scalar.addi v330 c1_i32_180
  let v340 : BitVec 32 := Scalar.maxsi c0_i32_182 v338
  let v341 : BitVec 32 := Scalar.minsi v339 v340
  let c512_i32_183 : BitVec 32 := 512#32
  let v342 : BitVec 32 := Scalar.muli v341 c512_i32_183
  v342
def k0_mult43 (i : grid0.Coords) (arg14 : BitVec 32) : BitVec 32 :=
  let c1_i32_175 : BitVec 32 := 1#32
  let arg1 : BitVec 32 := BitVec.ofNat 32 (i 1).val
  let v331 : BitVec 32 := Scalar.muli c1_i32_175 arg1
  let c0_i32_176 : BitVec 32 := 0#32
  let c3_i32 : BitVec 32 := 3#32
  let v330 : BitVec 32 := Scalar.addi arg14 c3_i32
  let v332 : BitVec 32 := Scalar.maxsi c0_i32_176 v330
  let v333 : BitVec 32 := Scalar.minsi v331 v332
  let c512_i32_189 : BitVec 32 := 512#32
  let v353 : BitVec 32 := Scalar.muli v333 c512_i32_189
  v353

def k0_chk4 (i : grid0.Coords) (arg14 : BitVec 32) : Prop :=
  (512 ∣ (k0_mult36 i arg14).toNat) ∧
  (∀ (r : Fin 4), ∀ a, (k0_off8 i arg14 (BitVec.ofNat 32 r.val)) a + S512x128.size a ≤ S16384x128.size a) ∧
  (512 ∣ (k0_mult37 i arg14).toNat) ∧
  (∀ (r : Fin 4), ∀ a, (k0_off9 i arg14 (BitVec.ofNat 32 r.val)) a + S128x512.size a ≤ S128x16384.size a) ∧
  (512 ∣ (k0_mult38 i arg14).toNat) ∧
  (512 ∣ (k0_mult39 i arg14).toNat) ∧
  (512 ∣ (k0_mult40 i arg14).toNat) ∧
  (512 ∣ (k0_mult41 i arg14).toNat) ∧
  (512 ∣ (k0_mult42 i arg14).toNat) ∧
  (512 ∣ (k0_mult43 i arg14).toNat)
theorem k0_mult36_dvd : ∀ (i : grid0.Coords) (arg14 : BitVec 32) (k0_hw4 : k0_chk4 i arg14), 512 ∣ (k0_mult36 i arg14).toNat := fun i arg14 k0_hw4 => k0_hw4.1
theorem k0_off8_inb : ∀ (i : grid0.Coords) (arg14 : BitVec 32) (k0_hw4 : k0_chk4 i arg14), ∀ (r : Fin 4), ∀ a, (k0_off8 i arg14 (BitVec.ofNat 32 r.val)) a + S512x128.size a ≤ S16384x128.size a := fun i arg14 k0_hw4 r => k0_hw4.2.1 r
theorem k0_mult37_dvd : ∀ (i : grid0.Coords) (arg14 : BitVec 32) (k0_hw4 : k0_chk4 i arg14), 512 ∣ (k0_mult37 i arg14).toNat := fun i arg14 k0_hw4 => k0_hw4.2.2.1
theorem k0_off9_inb : ∀ (i : grid0.Coords) (arg14 : BitVec 32) (k0_hw4 : k0_chk4 i arg14), ∀ (r : Fin 4), ∀ a, (k0_off9 i arg14 (BitVec.ofNat 32 r.val)) a + S128x512.size a ≤ S128x16384.size a := fun i arg14 k0_hw4 r => k0_hw4.2.2.2.1 r
theorem k0_mult38_dvd : ∀ (i : grid0.Coords) (arg14 : BitVec 32) (k0_hw4 : k0_chk4 i arg14), 512 ∣ (k0_mult38 i arg14).toNat := fun i arg14 k0_hw4 => k0_hw4.2.2.2.2.1
theorem k0_mult39_dvd : ∀ (i : grid0.Coords) (arg14 : BitVec 32) (k0_hw4 : k0_chk4 i arg14), 512 ∣ (k0_mult39 i arg14).toNat := fun i arg14 k0_hw4 => k0_hw4.2.2.2.2.2.1
theorem k0_mult40_dvd : ∀ (i : grid0.Coords) (arg14 : BitVec 32) (k0_hw4 : k0_chk4 i arg14), 512 ∣ (k0_mult40 i arg14).toNat := fun i arg14 k0_hw4 => k0_hw4.2.2.2.2.2.2.1
theorem k0_mult41_dvd : ∀ (i : grid0.Coords) (arg14 : BitVec 32) (k0_hw4 : k0_chk4 i arg14), 512 ∣ (k0_mult41 i arg14).toNat := fun i arg14 k0_hw4 => k0_hw4.2.2.2.2.2.2.2.1
theorem k0_mult42_dvd : ∀ (i : grid0.Coords) (arg14 : BitVec 32) (k0_hw4 : k0_chk4 i arg14), 512 ∣ (k0_mult42 i arg14).toNat := fun i arg14 k0_hw4 => k0_hw4.2.2.2.2.2.2.2.2.1
theorem k0_mult43_dvd : ∀ (i : grid0.Coords) (arg14 : BitVec 32) (k0_hw4 : k0_chk4 i arg14), 512 ∣ (k0_mult43 i arg14).toNat := fun i arg14 k0_hw4 => k0_hw4.2.2.2.2.2.2.2.2.2

@[reducible] def k0_t4_loop (i : grid0.Coords) (v102 : BitVec 32) : Scf.Loop 32 :=
  let c0_i32_59 : BitVec 32 := 0#32
  let c1_i32_11 : BitVec 32 := 1#32
  let arg1 : BitVec 32 := BitVec.ofNat 32 (i 1).val
  let v23 : BitVec 32 := Scalar.muli c1_i32_11 arg1
  let v103 : BitVec 32 := Scalar.subi v23 v102
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32 : BitVec 32 := 4#32
  let c0_i32_55 : BitVec 32 := 0#32
  let v110 : BitVec 1 := Scalar.cmpi .sgt c4_i32 c0_i32_55
  let v111 : BitVec 32 := Scalar.extui v110
  let c0_i32_56 : BitVec 32 := 0#32
  let v112 : BitVec 1 := Scalar.cmpi .slt c4_i32 c0_i32_56
  let v113 : BitVec 32 := Scalar.extui v112
  let v114 : BitVec 32 := Scalar.subi v111 v113
  let v115 : BitVec 1 := Scalar.cmpi .ne v109 v114
  let v116 : BitVec 32 := Scalar.remsi v103 c4_i32
  let c0_i32_57 : BitVec 32 := 0#32
  let v117 : BitVec 1 := Scalar.cmpi .ne v116 c0_i32_57
  let v118 : BitVec 1 := Scalar.andi v115 v117
  let v104 : BitVec 32 := Scalar.divsi v103 c4_i32
  let c1_i32_58 : BitVec 32 := 1#32
  let v119 : BitVec 32 := Scalar.subi v104 c1_i32_58
  let v120 : BitVec 32 := Scalar.select v118 v119 v104
  let v121 : BitVec 32 := Scalar.subi v120 c0_i32_59
  let c1_i32_60 : BitVec 32 := 1#32
  let v123 : BitVec 32 := Scalar.divsi v121 c1_i32_60
  let v124 : BitVec 32 := Scalar.muli v123 c1_i32_60
  let v125 : BitVec 32 := Scalar.addi c0_i32_59 v124
  let v122 : BitVec 32 := Scalar.addi c0_i32_59 v121
  let c1_i32_62 : BitVec 32 := 1#32
  ⟨v125, v122, c1_i32_62⟩

def k0_chk3 (i : grid0.Coords) (v102 : BitVec 32) : Prop :=
  ((k0_t3_loop i v102).OK) ∧
  ((k0_t4_loop i v102).OK)
theorem k0_t3_ok : ∀ (i : grid0.Coords) (v102 : BitVec 32) (k0_hw3 : k0_chk3 i v102), (k0_t3_loop i v102).OK := fun i v102 k0_hw3 => k0_hw3.1
theorem k0_t4_ok : ∀ (i : grid0.Coords) (v102 : BitVec 32) (k0_hw3 : k0_chk3 i v102), (k0_t4_loop i v102).OK := fun i v102 k0_hw3 => k0_hw3.2

def k0_mult44 (i : grid0.Coords) (arg14 : BitVec 32) : BitVec 32 :=
  let c1_i32_95 : BitVec 32 := 1#32
  let arg1 : BitVec 32 := BitVec.ofNat 32 (i 1).val
  let v189 : BitVec 32 := Scalar.muli c1_i32_95 arg1
  let c0_i32_96 : BitVec 32 := 0#32
  let c0_i32_87 : BitVec 32 := 0#32
  let v178 : BitVec 32 := Scalar.addi arg14 c0_i32_87
  let c1_i32_94 : BitVec 32 := 1#32
  let v188 : BitVec 32 := Scalar.addi v178 c1_i32_94
  let v190 : BitVec 32 := Scalar.maxsi c0_i32_96 v188
  let v191 : BitVec 32 := Scalar.minsi v189 v190
  let c512_i32_97 : BitVec 32 := 512#32
  let v192 : BitVec 32 := Scalar.muli v191 c512_i32_97
  v192

def k0_off10 (i : grid0.Coords) (arg14 : BitVec 32) (c0_i32_87 : BitVec 32) : Fin 2 → Nat :=
  let c1_i32_95 : BitVec 32 := 1#32
  let arg1 : BitVec 32 := BitVec.ofNat 32 (i 1).val
  let v189 : BitVec 32 := Scalar.muli c1_i32_95 arg1
  let c0_i32_96 : BitVec 32 := 0#32
  let v178 : BitVec 32 := Scalar.addi arg14 c0_i32_87
  let c1_i32_94 : BitVec 32 := 1#32
  let v188 : BitVec 32 := Scalar.addi v178 c1_i32_94
  let v190 : BitVec 32 := Scalar.maxsi c0_i32_96 v188
  let v191 : BitVec 32 := Scalar.minsi v189 v190
  let c512_i32_97 : BitVec 32 := 512#32
  let v192 : BitVec 32 := Scalar.muli v191 c512_i32_97
  let v193 : BitVec 32 := v192
  let v194 : Index := Scalar.indexCast v193
  let c0_98 : Index := 0#32
  ![v194.toNat, 0]
def k0_mult45 (i : grid0.Coords) (arg14 : BitVec 32) : BitVec 32 :=
  let c1_i32_88 : BitVec 32 := 1#32
  let arg1 : BitVec 32 := BitVec.ofNat 32 (i 1).val
  let v179 : BitVec 32 := Scalar.muli c1_i32_88 arg1
  let c0_i32_89 : BitVec 32 := 0#32
  let c0_i32_87 : BitVec 32 := 0#32
  let v178 : BitVec 32 := Scalar.addi arg14 c0_i32_87
  let v180 : BitVec 32 := Scalar.maxsi c0_i32_89 v178
  let v181 : BitVec 32 := Scalar.minsi v179 v180
  let c512_i32_103 : BitVec 32 := 512#32
  let v203 : BitVec 32 := Scalar.muli v181 c512_i32_103
  v203
def k0_off11 (i : grid0.Coords) (arg14 : BitVec 32) (c0_i32_87 : BitVec 32) : Fin 2 → Nat :=
  let c0_104 : Index := 0#32
  let c1_i32_88 : BitVec 32 := 1#32
  let arg1 : BitVec 32 := BitVec.ofNat 32 (i 1).val
  let v179 : BitVec 32 := Scalar.muli c1_i32_88 arg1
  let c0_i32_89 : BitVec 32 := 0#32
  let v178 : BitVec 32 := Scalar.addi arg14 c0_i32_87
  let v180 : BitVec 32 := Scalar.maxsi c0_i32_89 v178
  let v181 : BitVec 32 := Scalar.minsi v179 v180
  let c512_i32_103 : BitVec 32 := 512#32
  let v203 : BitVec 32 := Scalar.muli v181 c512_i32_103
  let v204 : BitVec 32 := v203
  let v205 : Index := Scalar.indexCast v204
  ![0, v205.toNat]
def k0_mult46 (i : grid0.Coords) (arg14 : BitVec 32) : BitVec 32 :=
  let c1_i32_124 : BitVec 32 := 1#32
  let arg1 : BitVec 32 := BitVec.ofNat 32 (i 1).val
  let v239 : BitVec 32 := Scalar.muli c1_i32_124 arg1
  let c0_i32_125 : BitVec 32 := 0#32
  let c1_i32_117 : BitVec 32 := 1#32
  let v230 : BitVec 32 := Scalar.addi arg14 c1_i32_117
  let c1_i32_123 : BitVec 32 := 1#32
  let v238 : BitVec 32 := Scalar.addi v230 c1_i32_123
  let v240 : BitVec 32 := Scalar.maxsi c0_i32_125 v238
  let v241 : BitVec 32 := Scalar.minsi v239 v240
  let c512_i32_126 : BitVec 32 := 512#32
  let v242 : BitVec 32 := Scalar.muli v241 c512_i32_126
  v242
def k0_mult47 (i : grid0.Coords) (arg14 : BitVec 32) : BitVec 32 :=
  let c1_i32_118 : BitVec 32 := 1#32
  let arg1 : BitVec 32 := BitVec.ofNat 32 (i 1).val
  let v231 : BitVec 32 := Scalar.muli c1_i32_118 arg1
  let c0_i32_119 : BitVec 32 := 0#32
  let c1_i32_117 : BitVec 32 := 1#32
  let v230 : BitVec 32 := Scalar.addi arg14 c1_i32_117
  let v232 : BitVec 32 := Scalar.maxsi c0_i32_119 v230
  let v233 : BitVec 32 := Scalar.minsi v231 v232
  let c512_i32_132 : BitVec 32 := 512#32
  let v253 : BitVec 32 := Scalar.muli v233 c512_i32_132
  v253
def k0_mult48 (i : grid0.Coords) (arg14 : BitVec 32) : BitVec 32 :=
  let c1_i32_153 : BitVec 32 := 1#32
  let arg1 : BitVec 32 := BitVec.ofNat 32 (i 1).val
  let v289 : BitVec 32 := Scalar.muli c1_i32_153 arg1
  let c0_i32_154 : BitVec 32 := 0#32
  let c2_i32_146 : BitVec 32 := 2#32
  let v280 : BitVec 32 := Scalar.addi arg14 c2_i32_146
  let c1_i32_152 : BitVec 32 := 1#32
  let v288 : BitVec 32 := Scalar.addi v280 c1_i32_152
  let v290 : BitVec 32 := Scalar.maxsi c0_i32_154 v288
  let v291 : BitVec 32 := Scalar.minsi v289 v290
  let c512_i32_155 : BitVec 32 := 512#32
  let v292 : BitVec 32 := Scalar.muli v291 c512_i32_155
  v292
def k0_mult49 (i : grid0.Coords) (arg14 : BitVec 32) : BitVec 32 :=
  let c1_i32_147 : BitVec 32 := 1#32
  let arg1 : BitVec 32 := BitVec.ofNat 32 (i 1).val
  let v281 : BitVec 32 := Scalar.muli c1_i32_147 arg1
  let c0_i32_148 : BitVec 32 := 0#32
  let c2_i32_146 : BitVec 32 := 2#32
  let v280 : BitVec 32 := Scalar.addi arg14 c2_i32_146
  let v282 : BitVec 32 := Scalar.maxsi c0_i32_148 v280
  let v283 : BitVec 32 := Scalar.minsi v281 v282
  let c512_i32_161 : BitVec 32 := 512#32
  let v303 : BitVec 32 := Scalar.muli v283 c512_i32_161
  v303
def k0_mult50 (i : grid0.Coords) (arg14 : BitVec 32) : BitVec 32 :=
  let c1_i32_181 : BitVec 32 := 1#32
  let arg1 : BitVec 32 := BitVec.ofNat 32 (i 1).val
  let v339 : BitVec 32 := Scalar.muli c1_i32_181 arg1
  let c0_i32_182 : BitVec 32 := 0#32
  let c3_i32 : BitVec 32 := 3#32
  let v330 : BitVec 32 := Scalar.addi arg14 c3_i32
  let c1_i32_180 : BitVec 32 := 1#32
  let v338 : BitVec 32 := Scalar.addi v330 c1_i32_180
  let v340 : BitVec 32 := Scalar.maxsi c0_i32_182 v338
  let v341 : BitVec 32 := Scalar.minsi v339 v340
  let c512_i32_183 : BitVec 32 := 512#32
  let v342 : BitVec 32 := Scalar.muli v341 c512_i32_183
  v342
def k0_mult51 (i : grid0.Coords) (arg14 : BitVec 32) : BitVec 32 :=
  let c1_i32_175 : BitVec 32 := 1#32
  let arg1 : BitVec 32 := BitVec.ofNat 32 (i 1).val
  let v331 : BitVec 32 := Scalar.muli c1_i32_175 arg1
  let c0_i32_176 : BitVec 32 := 0#32
  let c3_i32 : BitVec 32 := 3#32
  let v330 : BitVec 32 := Scalar.addi arg14 c3_i32
  let v332 : BitVec 32 := Scalar.maxsi c0_i32_176 v330
  let v333 : BitVec 32 := Scalar.minsi v331 v332
  let c512_i32_189 : BitVec 32 := 512#32
  let v353 : BitVec 32 := Scalar.muli v333 c512_i32_189
  v353

def k0_chk5 (i : grid0.Coords) (arg14 : BitVec 32) : Prop :=
  (512 ∣ (k0_mult44 i arg14).toNat) ∧
  (∀ (r : Fin 4), ∀ a, (k0_off10 i arg14 (BitVec.ofNat 32 r.val)) a + S512x128.size a ≤ S16384x128.size a) ∧
  (512 ∣ (k0_mult45 i arg14).toNat) ∧
  (∀ (r : Fin 4), ∀ a, (k0_off11 i arg14 (BitVec.ofNat 32 r.val)) a + S128x512.size a ≤ S128x16384.size a) ∧
  (512 ∣ (k0_mult46 i arg14).toNat) ∧
  (512 ∣ (k0_mult47 i arg14).toNat) ∧
  (512 ∣ (k0_mult48 i arg14).toNat) ∧
  (512 ∣ (k0_mult49 i arg14).toNat) ∧
  (512 ∣ (k0_mult50 i arg14).toNat) ∧
  (512 ∣ (k0_mult51 i arg14).toNat)
theorem k0_mult44_dvd : ∀ (i : grid0.Coords) (arg14 : BitVec 32) (k0_hw5 : k0_chk5 i arg14), 512 ∣ (k0_mult44 i arg14).toNat := fun i arg14 k0_hw5 => k0_hw5.1
theorem k0_off10_inb : ∀ (i : grid0.Coords) (arg14 : BitVec 32) (k0_hw5 : k0_chk5 i arg14), ∀ (r : Fin 4), ∀ a, (k0_off10 i arg14 (BitVec.ofNat 32 r.val)) a + S512x128.size a ≤ S16384x128.size a := fun i arg14 k0_hw5 r => k0_hw5.2.1 r
theorem k0_mult45_dvd : ∀ (i : grid0.Coords) (arg14 : BitVec 32) (k0_hw5 : k0_chk5 i arg14), 512 ∣ (k0_mult45 i arg14).toNat := fun i arg14 k0_hw5 => k0_hw5.2.2.1
theorem k0_off11_inb : ∀ (i : grid0.Coords) (arg14 : BitVec 32) (k0_hw5 : k0_chk5 i arg14), ∀ (r : Fin 4), ∀ a, (k0_off11 i arg14 (BitVec.ofNat 32 r.val)) a + S128x512.size a ≤ S128x16384.size a := fun i arg14 k0_hw5 r => k0_hw5.2.2.2.1 r
theorem k0_mult46_dvd : ∀ (i : grid0.Coords) (arg14 : BitVec 32) (k0_hw5 : k0_chk5 i arg14), 512 ∣ (k0_mult46 i arg14).toNat := fun i arg14 k0_hw5 => k0_hw5.2.2.2.2.1
theorem k0_mult47_dvd : ∀ (i : grid0.Coords) (arg14 : BitVec 32) (k0_hw5 : k0_chk5 i arg14), 512 ∣ (k0_mult47 i arg14).toNat := fun i arg14 k0_hw5 => k0_hw5.2.2.2.2.2.1
theorem k0_mult48_dvd : ∀ (i : grid0.Coords) (arg14 : BitVec 32) (k0_hw5 : k0_chk5 i arg14), 512 ∣ (k0_mult48 i arg14).toNat := fun i arg14 k0_hw5 => k0_hw5.2.2.2.2.2.2.1
theorem k0_mult49_dvd : ∀ (i : grid0.Coords) (arg14 : BitVec 32) (k0_hw5 : k0_chk5 i arg14), 512 ∣ (k0_mult49 i arg14).toNat := fun i arg14 k0_hw5 => k0_hw5.2.2.2.2.2.2.2.1
theorem k0_mult50_dvd : ∀ (i : grid0.Coords) (arg14 : BitVec 32) (k0_hw5 : k0_chk5 i arg14), 512 ∣ (k0_mult50 i arg14).toNat := fun i arg14 k0_hw5 => k0_hw5.2.2.2.2.2.2.2.2.1
theorem k0_mult51_dvd : ∀ (i : grid0.Coords) (arg14 : BitVec 32) (k0_hw5 : k0_chk5 i arg14), 512 ∣ (k0_mult51 i arg14).toNat := fun i arg14 k0_hw5 => k0_hw5.2.2.2.2.2.2.2.2.2

@[reducible] def k0_t5_loop (i : grid0.Coords) (v127 : BitVec 32) : Scf.Loop 32 :=
  let c0_i32_69 : BitVec 32 := 0#32
  let c1_i32_11 : BitVec 32 := 1#32
  let arg1 : BitVec 32 := BitVec.ofNat 32 (i 1).val
  let v23 : BitVec 32 := Scalar.muli c1_i32_11 arg1
  let v128 : BitVec 32 := Scalar.subi v23 v127
  let c0_i32_63 : BitVec 32 := 0#32
  let v130 : BitVec 1 := Scalar.cmpi .sgt v128 c0_i32_63
  let v131 : BitVec 32 := Scalar.extui v130
  let c0_i32_64 : BitVec 32 := 0#32
  let v132 : BitVec 1 := Scalar.cmpi .slt v128 c0_i32_64
  let v133 : BitVec 32 := Scalar.extui v132
  let v134 : BitVec 32 := Scalar.subi v131 v133
  let c2_i32 : BitVec 32 := 2#32
  let c0_i32_65 : BitVec 32 := 0#32
  let v135 : BitVec 1 := Scalar.cmpi .sgt c2_i32 c0_i32_65
  let v136 : BitVec 32 := Scalar.extui v135
  let c0_i32_66 : BitVec 32 := 0#32
  let v137 : BitVec 1 := Scalar.cmpi .slt c2_i32 c0_i32_66
  let v138 : BitVec 32 := Scalar.extui v137
  let v139 : BitVec 32 := Scalar.subi v136 v138
  let v140 : BitVec 1 := Scalar.cmpi .ne v134 v139
  let v141 : BitVec 32 := Scalar.remsi v128 c2_i32
  let c0_i32_67 : BitVec 32 := 0#32
  let v142 : BitVec 1 := Scalar.cmpi .ne v141 c0_i32_67
  let v143 : BitVec 1 := Scalar.andi v140 v142
  let v129 : BitVec 32 := Scalar.divsi v128 c2_i32
  let c1_i32_68 : BitVec 32 := 1#32
  let v144 : BitVec 32 := Scalar.subi v129 c1_i32_68
  let v145 : BitVec 32 := Scalar.select v143 v144 v129
  let v146 : BitVec 32 := Scalar.subi v145 c0_i32_69
  let c1_i32_70 : BitVec 32 := 1#32
  let v148 : BitVec 32 := Scalar.divsi v146 c1_i32_70
  let v149 : BitVec 32 := Scalar.muli v148 c1_i32_70
  let v150 : BitVec 32 := Scalar.addi c0_i32_69 v149
  let c1_i32_71 : BitVec 32 := 1#32
  ⟨c0_i32_69, v150, c1_i32_71⟩

def k0_mult52 (i : grid0.Coords) (arg14 : BitVec 32) : BitVec 32 :=
  let c1_i32_95 : BitVec 32 := 1#32
  let arg1 : BitVec 32 := BitVec.ofNat 32 (i 1).val
  let v189 : BitVec 32 := Scalar.muli c1_i32_95 arg1
  let c0_i32_96 : BitVec 32 := 0#32
  let c0_i32_87 : BitVec 32 := 0#32
  let v178 : BitVec 32 := Scalar.addi arg14 c0_i32_87
  let c1_i32_94 : BitVec 32 := 1#32
  let v188 : BitVec 32 := Scalar.addi v178 c1_i32_94
  let v190 : BitVec 32 := Scalar.maxsi c0_i32_96 v188
  let v191 : BitVec 32 := Scalar.minsi v189 v190
  let c512_i32_97 : BitVec 32 := 512#32
  let v192 : BitVec 32 := Scalar.muli v191 c512_i32_97
  v192

def k0_off12 (i : grid0.Coords) (arg14 : BitVec 32) (c0_i32_87 : BitVec 32) : Fin 2 → Nat :=
  let c1_i32_95 : BitVec 32 := 1#32
  let arg1 : BitVec 32 := BitVec.ofNat 32 (i 1).val
  let v189 : BitVec 32 := Scalar.muli c1_i32_95 arg1
  let c0_i32_96 : BitVec 32 := 0#32
  let v178 : BitVec 32 := Scalar.addi arg14 c0_i32_87
  let c1_i32_94 : BitVec 32 := 1#32
  let v188 : BitVec 32 := Scalar.addi v178 c1_i32_94
  let v190 : BitVec 32 := Scalar.maxsi c0_i32_96 v188
  let v191 : BitVec 32 := Scalar.minsi v189 v190
  let c512_i32_97 : BitVec 32 := 512#32
  let v192 : BitVec 32 := Scalar.muli v191 c512_i32_97
  let v193 : BitVec 32 := v192
  let v194 : Index := Scalar.indexCast v193
  let c0_98 : Index := 0#32
  ![v194.toNat, 0]
def k0_mult53 (i : grid0.Coords) (arg14 : BitVec 32) : BitVec 32 :=
  let c1_i32_88 : BitVec 32 := 1#32
  let arg1 : BitVec 32 := BitVec.ofNat 32 (i 1).val
  let v179 : BitVec 32 := Scalar.muli c1_i32_88 arg1
  let c0_i32_89 : BitVec 32 := 0#32
  let c0_i32_87 : BitVec 32 := 0#32
  let v178 : BitVec 32 := Scalar.addi arg14 c0_i32_87
  let v180 : BitVec 32 := Scalar.maxsi c0_i32_89 v178
  let v181 : BitVec 32 := Scalar.minsi v179 v180
  let c512_i32_103 : BitVec 32 := 512#32
  let v203 : BitVec 32 := Scalar.muli v181 c512_i32_103
  v203
def k0_off13 (i : grid0.Coords) (arg14 : BitVec 32) (c0_i32_87 : BitVec 32) : Fin 2 → Nat :=
  let c0_104 : Index := 0#32
  let c1_i32_88 : BitVec 32 := 1#32
  let arg1 : BitVec 32 := BitVec.ofNat 32 (i 1).val
  let v179 : BitVec 32 := Scalar.muli c1_i32_88 arg1
  let c0_i32_89 : BitVec 32 := 0#32
  let v178 : BitVec 32 := Scalar.addi arg14 c0_i32_87
  let v180 : BitVec 32 := Scalar.maxsi c0_i32_89 v178
  let v181 : BitVec 32 := Scalar.minsi v179 v180
  let c512_i32_103 : BitVec 32 := 512#32
  let v203 : BitVec 32 := Scalar.muli v181 c512_i32_103
  let v204 : BitVec 32 := v203
  let v205 : Index := Scalar.indexCast v204
  ![0, v205.toNat]
def k0_mult54 (i : grid0.Coords) (arg14 : BitVec 32) : BitVec 32 :=
  let c1_i32_124 : BitVec 32 := 1#32
  let arg1 : BitVec 32 := BitVec.ofNat 32 (i 1).val
  let v239 : BitVec 32 := Scalar.muli c1_i32_124 arg1
  let c0_i32_125 : BitVec 32 := 0#32
  let c1_i32_117 : BitVec 32 := 1#32
  let v230 : BitVec 32 := Scalar.addi arg14 c1_i32_117
  let c1_i32_123 : BitVec 32 := 1#32
  let v238 : BitVec 32 := Scalar.addi v230 c1_i32_123
  let v240 : BitVec 32 := Scalar.maxsi c0_i32_125 v238
  let v241 : BitVec 32 := Scalar.minsi v239 v240
  let c512_i32_126 : BitVec 32 := 512#32
  let v242 : BitVec 32 := Scalar.muli v241 c512_i32_126
  v242
def k0_mult55 (i : grid0.Coords) (arg14 : BitVec 32) : BitVec 32 :=
  let c1_i32_118 : BitVec 32 := 1#32
  let arg1 : BitVec 32 := BitVec.ofNat 32 (i 1).val
  let v231 : BitVec 32 := Scalar.muli c1_i32_118 arg1
  let c0_i32_119 : BitVec 32 := 0#32
  let c1_i32_117 : BitVec 32 := 1#32
  let v230 : BitVec 32 := Scalar.addi arg14 c1_i32_117
  let v232 : BitVec 32 := Scalar.maxsi c0_i32_119 v230
  let v233 : BitVec 32 := Scalar.minsi v231 v232
  let c512_i32_132 : BitVec 32 := 512#32
  let v253 : BitVec 32 := Scalar.muli v233 c512_i32_132
  v253

def k0_chk7 (i : grid0.Coords) (arg14 : BitVec 32) : Prop :=
  (512 ∣ (k0_mult52 i arg14).toNat) ∧
  (∀ (r : Fin 2), ∀ a, (k0_off12 i arg14 (BitVec.ofNat 32 r.val)) a + S512x128.size a ≤ S16384x128.size a) ∧
  (512 ∣ (k0_mult53 i arg14).toNat) ∧
  (∀ (r : Fin 2), ∀ a, (k0_off13 i arg14 (BitVec.ofNat 32 r.val)) a + S128x512.size a ≤ S128x16384.size a) ∧
  (512 ∣ (k0_mult54 i arg14).toNat) ∧
  (512 ∣ (k0_mult55 i arg14).toNat)
theorem k0_mult52_dvd : ∀ (i : grid0.Coords) (arg14 : BitVec 32) (k0_hw7 : k0_chk7 i arg14), 512 ∣ (k0_mult52 i arg14).toNat := fun i arg14 k0_hw7 => k0_hw7.1
theorem k0_off12_inb : ∀ (i : grid0.Coords) (arg14 : BitVec 32) (k0_hw7 : k0_chk7 i arg14), ∀ (r : Fin 2), ∀ a, (k0_off12 i arg14 (BitVec.ofNat 32 r.val)) a + S512x128.size a ≤ S16384x128.size a := fun i arg14 k0_hw7 r => k0_hw7.2.1 r
theorem k0_mult53_dvd : ∀ (i : grid0.Coords) (arg14 : BitVec 32) (k0_hw7 : k0_chk7 i arg14), 512 ∣ (k0_mult53 i arg14).toNat := fun i arg14 k0_hw7 => k0_hw7.2.2.1
theorem k0_off13_inb : ∀ (i : grid0.Coords) (arg14 : BitVec 32) (k0_hw7 : k0_chk7 i arg14), ∀ (r : Fin 2), ∀ a, (k0_off13 i arg14 (BitVec.ofNat 32 r.val)) a + S128x512.size a ≤ S128x16384.size a := fun i arg14 k0_hw7 r => k0_hw7.2.2.2.1 r
theorem k0_mult54_dvd : ∀ (i : grid0.Coords) (arg14 : BitVec 32) (k0_hw7 : k0_chk7 i arg14), 512 ∣ (k0_mult54 i arg14).toNat := fun i arg14 k0_hw7 => k0_hw7.2.2.2.2.1
theorem k0_mult55_dvd : ∀ (i : grid0.Coords) (arg14 : BitVec 32) (k0_hw7 : k0_chk7 i arg14), 512 ∣ (k0_mult55 i arg14).toNat := fun i arg14 k0_hw7 => k0_hw7.2.2.2.2.2

@[reducible] def k0_t6_loop (i : grid0.Coords) (v127 : BitVec 32) : Scf.Loop 32 :=
  let c0_i32_69 : BitVec 32 := 0#32
  let c1_i32_11 : BitVec 32 := 1#32
  let arg1 : BitVec 32 := BitVec.ofNat 32 (i 1).val
  let v23 : BitVec 32 := Scalar.muli c1_i32_11 arg1
  let v128 : BitVec 32 := Scalar.subi v23 v127
  let c0_i32_63 : BitVec 32 := 0#32
  let v130 : BitVec 1 := Scalar.cmpi .sgt v128 c0_i32_63
  let v131 : BitVec 32 := Scalar.extui v130
  let c0_i32_64 : BitVec 32 := 0#32
  let v132 : BitVec 1 := Scalar.cmpi .slt v128 c0_i32_64
  let v133 : BitVec 32 := Scalar.extui v132
  let v134 : BitVec 32 := Scalar.subi v131 v133
  let c2_i32 : BitVec 32 := 2#32
  let c0_i32_65 : BitVec 32 := 0#32
  let v135 : BitVec 1 := Scalar.cmpi .sgt c2_i32 c0_i32_65
  let v136 : BitVec 32 := Scalar.extui v135
  let c0_i32_66 : BitVec 32 := 0#32
  let v137 : BitVec 1 := Scalar.cmpi .slt c2_i32 c0_i32_66
  let v138 : BitVec 32 := Scalar.extui v137
  let v139 : BitVec 32 := Scalar.subi v136 v138
  let v140 : BitVec 1 := Scalar.cmpi .ne v134 v139
  let v141 : BitVec 32 := Scalar.remsi v128 c2_i32
  let c0_i32_67 : BitVec 32 := 0#32
  let v142 : BitVec 1 := Scalar.cmpi .ne v141 c0_i32_67
  let v143 : BitVec 1 := Scalar.andi v140 v142
  let v129 : BitVec 32 := Scalar.divsi v128 c2_i32
  let c1_i32_68 : BitVec 32 := 1#32
  let v144 : BitVec 32 := Scalar.subi v129 c1_i32_68
  let v145 : BitVec 32 := Scalar.select v143 v144 v129
  let v146 : BitVec 32 := Scalar.subi v145 c0_i32_69
  let c1_i32_70 : BitVec 32 := 1#32
  let v148 : BitVec 32 := Scalar.divsi v146 c1_i32_70
  let v149 : BitVec 32 := Scalar.muli v148 c1_i32_70
  let v150 : BitVec 32 := Scalar.addi c0_i32_69 v149
  let v147 : BitVec 32 := Scalar.addi c0_i32_69 v146
  let c1_i32_72 : BitVec 32 := 1#32
  ⟨v150, v147, c1_i32_72⟩

def k0_chk6 (i : grid0.Coords) (v127 : BitVec 32) : Prop :=
  ((k0_t5_loop i v127).OK) ∧
  ((k0_t6_loop i v127).OK)
theorem k0_t5_ok : ∀ (i : grid0.Coords) (v127 : BitVec 32) (k0_hw6 : k0_chk6 i v127), (k0_t5_loop i v127).OK := fun i v127 k0_hw6 => k0_hw6.1
theorem k0_t6_ok : ∀ (i : grid0.Coords) (v127 : BitVec 32) (k0_hw6 : k0_chk6 i v127), (k0_t6_loop i v127).OK := fun i v127 k0_hw6 => k0_hw6.2

def k0_mult56 (i : grid0.Coords) (arg14 : BitVec 32) : BitVec 32 :=
  let c1_i32_95 : BitVec 32 := 1#32
  let arg1 : BitVec 32 := BitVec.ofNat 32 (i 1).val
  let v189 : BitVec 32 := Scalar.muli c1_i32_95 arg1
  let c0_i32_96 : BitVec 32 := 0#32
  let c0_i32_87 : BitVec 32 := 0#32
  let v178 : BitVec 32 := Scalar.addi arg14 c0_i32_87
  let c1_i32_94 : BitVec 32 := 1#32
  let v188 : BitVec 32 := Scalar.addi v178 c1_i32_94
  let v190 : BitVec 32 := Scalar.maxsi c0_i32_96 v188
  let v191 : BitVec 32 := Scalar.minsi v189 v190
  let c512_i32_97 : BitVec 32 := 512#32
  let v192 : BitVec 32 := Scalar.muli v191 c512_i32_97
  v192

def k0_off14 (i : grid0.Coords) (arg14 : BitVec 32) (c0_i32_87 : BitVec 32) : Fin 2 → Nat :=
  let c1_i32_95 : BitVec 32 := 1#32
  let arg1 : BitVec 32 := BitVec.ofNat 32 (i 1).val
  let v189 : BitVec 32 := Scalar.muli c1_i32_95 arg1
  let c0_i32_96 : BitVec 32 := 0#32
  let v178 : BitVec 32 := Scalar.addi arg14 c0_i32_87
  let c1_i32_94 : BitVec 32 := 1#32
  let v188 : BitVec 32 := Scalar.addi v178 c1_i32_94
  let v190 : BitVec 32 := Scalar.maxsi c0_i32_96 v188
  let v191 : BitVec 32 := Scalar.minsi v189 v190
  let c512_i32_97 : BitVec 32 := 512#32
  let v192 : BitVec 32 := Scalar.muli v191 c512_i32_97
  let v193 : BitVec 32 := v192
  let v194 : Index := Scalar.indexCast v193
  let c0_98 : Index := 0#32
  ![v194.toNat, 0]
def k0_mult57 (i : grid0.Coords) (arg14 : BitVec 32) : BitVec 32 :=
  let c1_i32_88 : BitVec 32 := 1#32
  let arg1 : BitVec 32 := BitVec.ofNat 32 (i 1).val
  let v179 : BitVec 32 := Scalar.muli c1_i32_88 arg1
  let c0_i32_89 : BitVec 32 := 0#32
  let c0_i32_87 : BitVec 32 := 0#32
  let v178 : BitVec 32 := Scalar.addi arg14 c0_i32_87
  let v180 : BitVec 32 := Scalar.maxsi c0_i32_89 v178
  let v181 : BitVec 32 := Scalar.minsi v179 v180
  let c512_i32_103 : BitVec 32 := 512#32
  let v203 : BitVec 32 := Scalar.muli v181 c512_i32_103
  v203
def k0_off15 (i : grid0.Coords) (arg14 : BitVec 32) (c0_i32_87 : BitVec 32) : Fin 2 → Nat :=
  let c0_104 : Index := 0#32
  let c1_i32_88 : BitVec 32 := 1#32
  let arg1 : BitVec 32 := BitVec.ofNat 32 (i 1).val
  let v179 : BitVec 32 := Scalar.muli c1_i32_88 arg1
  let c0_i32_89 : BitVec 32 := 0#32
  let v178 : BitVec 32 := Scalar.addi arg14 c0_i32_87
  let v180 : BitVec 32 := Scalar.maxsi c0_i32_89 v178
  let v181 : BitVec 32 := Scalar.minsi v179 v180
  let c512_i32_103 : BitVec 32 := 512#32
  let v203 : BitVec 32 := Scalar.muli v181 c512_i32_103
  let v204 : BitVec 32 := v203
  let v205 : Index := Scalar.indexCast v204
  ![0, v205.toNat]
def k0_mult58 (i : grid0.Coords) (arg14 : BitVec 32) : BitVec 32 :=
  let c1_i32_124 : BitVec 32 := 1#32
  let arg1 : BitVec 32 := BitVec.ofNat 32 (i 1).val
  let v239 : BitVec 32 := Scalar.muli c1_i32_124 arg1
  let c0_i32_125 : BitVec 32 := 0#32
  let c1_i32_117 : BitVec 32 := 1#32
  let v230 : BitVec 32 := Scalar.addi arg14 c1_i32_117
  let c1_i32_123 : BitVec 32 := 1#32
  let v238 : BitVec 32 := Scalar.addi v230 c1_i32_123
  let v240 : BitVec 32 := Scalar.maxsi c0_i32_125 v238
  let v241 : BitVec 32 := Scalar.minsi v239 v240
  let c512_i32_126 : BitVec 32 := 512#32
  let v242 : BitVec 32 := Scalar.muli v241 c512_i32_126
  v242
def k0_mult59 (i : grid0.Coords) (arg14 : BitVec 32) : BitVec 32 :=
  let c1_i32_118 : BitVec 32 := 1#32
  let arg1 : BitVec 32 := BitVec.ofNat 32 (i 1).val
  let v231 : BitVec 32 := Scalar.muli c1_i32_118 arg1
  let c0_i32_119 : BitVec 32 := 0#32
  let c1_i32_117 : BitVec 32 := 1#32
  let v230 : BitVec 32 := Scalar.addi arg14 c1_i32_117
  let v232 : BitVec 32 := Scalar.maxsi c0_i32_119 v230
  let v233 : BitVec 32 := Scalar.minsi v231 v232
  let c512_i32_132 : BitVec 32 := 512#32
  let v253 : BitVec 32 := Scalar.muli v233 c512_i32_132
  v253

def k0_chk8 (i : grid0.Coords) (arg14 : BitVec 32) : Prop :=
  (512 ∣ (k0_mult56 i arg14).toNat) ∧
  (∀ (r : Fin 2), ∀ a, (k0_off14 i arg14 (BitVec.ofNat 32 r.val)) a + S512x128.size a ≤ S16384x128.size a) ∧
  (512 ∣ (k0_mult57 i arg14).toNat) ∧
  (∀ (r : Fin 2), ∀ a, (k0_off15 i arg14 (BitVec.ofNat 32 r.val)) a + S128x512.size a ≤ S128x16384.size a) ∧
  (512 ∣ (k0_mult58 i arg14).toNat) ∧
  (512 ∣ (k0_mult59 i arg14).toNat)
theorem k0_mult56_dvd : ∀ (i : grid0.Coords) (arg14 : BitVec 32) (k0_hw8 : k0_chk8 i arg14), 512 ∣ (k0_mult56 i arg14).toNat := fun i arg14 k0_hw8 => k0_hw8.1
theorem k0_off14_inb : ∀ (i : grid0.Coords) (arg14 : BitVec 32) (k0_hw8 : k0_chk8 i arg14), ∀ (r : Fin 2), ∀ a, (k0_off14 i arg14 (BitVec.ofNat 32 r.val)) a + S512x128.size a ≤ S16384x128.size a := fun i arg14 k0_hw8 r => k0_hw8.2.1 r
theorem k0_mult57_dvd : ∀ (i : grid0.Coords) (arg14 : BitVec 32) (k0_hw8 : k0_chk8 i arg14), 512 ∣ (k0_mult57 i arg14).toNat := fun i arg14 k0_hw8 => k0_hw8.2.2.1
theorem k0_off15_inb : ∀ (i : grid0.Coords) (arg14 : BitVec 32) (k0_hw8 : k0_chk8 i arg14), ∀ (r : Fin 2), ∀ a, (k0_off15 i arg14 (BitVec.ofNat 32 r.val)) a + S128x512.size a ≤ S128x16384.size a := fun i arg14 k0_hw8 r => k0_hw8.2.2.2.1 r
theorem k0_mult58_dvd : ∀ (i : grid0.Coords) (arg14 : BitVec 32) (k0_hw8 : k0_chk8 i arg14), 512 ∣ (k0_mult58 i arg14).toNat := fun i arg14 k0_hw8 => k0_hw8.2.2.2.2.1
theorem k0_mult59_dvd : ∀ (i : grid0.Coords) (arg14 : BitVec 32) (k0_hw8 : k0_chk8 i arg14), 512 ∣ (k0_mult59 i arg14).toNat := fun i arg14 k0_hw8 => k0_hw8.2.2.2.2.2

def k0_cond1 (i : grid0.Coords) : BitVec 1 :=
  let c1_i32_11 : BitVec 32 := 1#32
  let arg1 : BitVec 32 := BitVec.ofNat 32 (i 1).val
  let v23 : BitVec 32 := Scalar.muli c1_i32_11 arg1
  let c2_i32_73 : BitVec 32 := 2#32
  let c0_i32_74 : BitVec 32 := 0#32
  let v153 : BitVec 1 := Scalar.cmpi .eq c2_i32_73 c0_i32_74
  let c1_i32_75 : BitVec 32 := 1#32
  let v154 : BitVec 32 := Scalar.select v153 c1_i32_75 c2_i32_73
  let v155 : BitVec 32 := Scalar.remsi v23 v154
  let c0_i32_77 : BitVec 32 := 0#32
  let v157 : BitVec 1 := Scalar.cmpi .slt v155 c0_i32_77
  let c0_i32_78 : BitVec 32 := 0#32
  let v158 : BitVec 1 := Scalar.cmpi .slt v154 c0_i32_78
  let v159 : BitVec 1 := Scalar.xori v157 v158
  let c0_i32_76 : BitVec 32 := 0#32
  let v156 : BitVec 1 := Scalar.cmpi .ne v155 c0_i32_76
  let v160 : BitVec 1 := Scalar.andi v159 v156
  let v161 : BitVec 32 := Scalar.addi v155 v154
  let v162 : BitVec 32 := Scalar.select v160 v161 v155
  let c1_i32_79 : BitVec 32 := 1#32
  let v163 : BitVec 1 := Scalar.cmpi .eq v162 c1_i32_79
  let v164 : BitVec 32 := Scalar.extui v163
  let c0_i32_80 : BitVec 32 := 0#32
  let v165 : BitVec 1 := Scalar.cmpi .ne v164 c0_i32_80
  v165

def k0_mult60 (i : grid0.Coords) : BitVec 32 :=
  let c1_i32_88 : BitVec 32 := 1#32
  let arg1 : BitVec 32 := BitVec.ofNat 32 (i 1).val
  let v179 : BitVec 32 := Scalar.muli c1_i32_88 arg1
  let c0_i32_89 : BitVec 32 := 0#32
  let c1_i32_11 : BitVec 32 := 1#32
  let v23 : BitVec 32 := Scalar.muli c1_i32_11 arg1
  let c1_i32_87 : BitVec 32 := 1#32
  let v178 : BitVec 32 := Scalar.subi v23 c1_i32_87
  let v180 : BitVec 32 := Scalar.maxsi c0_i32_89 v178
  let v181 : BitVec 32 := Scalar.minsi v179 v180
  let c512_i32_90 : BitVec 32 := 512#32
  let v182 : BitVec 32 := Scalar.muli v181 c512_i32_90
  v182
def k0_off16 (i : grid0.Coords) : Fin 2 → Nat :=
  let c0_91 : Index := 0#32
  let c1_i32_88 : BitVec 32 := 1#32
  let arg1 : BitVec 32 := BitVec.ofNat 32 (i 1).val
  let v179 : BitVec 32 := Scalar.muli c1_i32_88 arg1
  let c0_i32_89 : BitVec 32 := 0#32
  let c1_i32_11 : BitVec 32 := 1#32
  let v23 : BitVec 32 := Scalar.muli c1_i32_11 arg1
  let c1_i32_87 : BitVec 32 := 1#32
  let v178 : BitVec 32 := Scalar.subi v23 c1_i32_87
  let v180 : BitVec 32 := Scalar.maxsi c0_i32_89 v178
  let v181 : BitVec 32 := Scalar.minsi v179 v180
  let c512_i32_90 : BitVec 32 := 512#32
  let v182 : BitVec 32 := Scalar.muli v181 c512_i32_90
  let v183 : BitVec 32 := v182
  let v184 : Index := Scalar.indexCast v183
  ![0, v184.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x16384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MixerCIdeal.lean ====
variable {F : FTy → Type} [FloatOps F] [Named F]
def κ : String → Option EReal := fun
  | "log2_scale" => some (((Real.sqrt 128)⁻¹ * (Real.log 2)⁻¹ : ℝ) : EReal)
  | _ => none
-- ==== MixerCReferenceIdeal.lean ====
abbrev S16384x2048 : Shape := ⟨2, ![16384, 2048]⟩
abbrev S16384x1024 : Shape := ⟨2, ![16384, 1024]⟩
abbrev S2048x16384 : Shape := ⟨2, ![2048, 16384]⟩
abbrev S1024x16384 : Shape := ⟨2, ![1024, 16384]⟩
abbrev S16384x8x128 : Shape := ⟨3, ![16384, 8, 128]⟩
abbrev S8x16384x128 : Shape := ⟨3, ![8, 16384, 128]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384 : Shape := ⟨2, ![8, 16384]⟩
abbrev S8x16384x1 : Shape := ⟨3, ![8, 16384, 1]⟩

abbrev nBuf : Space → Nat
  | .hbm => 75
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x1024, .bf16⟩
  | .hbm, ⟨3, _⟩ => ⟨S2048x16384, .bf16⟩
  | .hbm, ⟨4, _⟩ => ⟨S16384x2048, .f32⟩
  | .hbm, ⟨5, _⟩ => ⟨S16384x1024, .bf16⟩
  | .hbm, ⟨6, _⟩ => ⟨S16384x1024, .bf16⟩
  | .hbm, ⟨7, _⟩ => ⟨S1024x16384, .bf16⟩
  | .hbm, ⟨8, _⟩ => ⟨S16384x1024, .bf16⟩
  | .hbm, ⟨9, _⟩ => ⟨S16384x1024, .f32⟩
  | .hbm, ⟨10, _⟩ => ⟨S16384x8x128, .f32⟩
  | .hbm, ⟨11, _⟩ => ⟨S8x16384x128, .f32⟩
  | .hbm, ⟨12, _⟩ => ⟨S16384x1024, .f32⟩
  | .hbm, ⟨13, _⟩ => ⟨S16384x8x128, .f32⟩
  | .hbm, ⟨14, _⟩ => ⟨S8x16384x128, .f32⟩
  | .hbm, ⟨15, _⟩ => ⟨S16384x1024, .f32⟩
  | .hbm, ⟨16, _⟩ => ⟨S16384x8x128, .f32⟩
  | .hbm, ⟨17, _⟩ => ⟨S8x16384x128, .f32⟩
  | .hbm, ⟨18, _⟩ => ⟨S16384x1024, .f32⟩
  | .hbm, ⟨19, _⟩ => ⟨S16384x8x128, .f32⟩
  | .hbm, ⟨20, _⟩ => ⟨S8x16384x128, .f32⟩
  | .hbm, ⟨21, _⟩ => ⟨S16384x1024, .f32⟩
  | .hbm, ⟨22, _⟩ => ⟨S16384x8x128, .f32⟩
  | .hbm, ⟨23, _⟩ => ⟨S8x16384x128, .f32⟩
  | .hbm, ⟨24, _⟩ => ⟨S8x16384x16384, .f32⟩
  | .hbm, ⟨25, _⟩ => ⟨S_, .f32⟩
  | .hbm, ⟨26, _⟩ => ⟨S_, .f32⟩
  | .hbm, ⟨27, _⟩ => ⟨S8x16384x16384, .f32⟩
  | .hbm, ⟨28, _⟩ => ⟨S8x16384x16384, .f32⟩
  | .hbm, ⟨29, _⟩ => ⟨S8x16384x16384, .f32⟩
  | .hbm, ⟨30, _⟩ => ⟨S_, .f32⟩
  | .hbm, ⟨31, _⟩ => ⟨S_, .f32⟩
  | .hbm, ⟨32, _⟩ => ⟨S8x16384x16384, .f32⟩
  | .hbm, ⟨33, _⟩ => ⟨S8x16384x16384, .f32⟩
  | .hbm, ⟨34, _⟩ => ⟨S8x16384x16384, .f32⟩
  | .hbm, ⟨35, _⟩ => ⟨S16384, .i32⟩
  | .hbm, ⟨36, _⟩ => ⟨S1x16384, .i32⟩
  | .hbm, ⟨37, _⟩ => ⟨S16384x1, .i32⟩
  | .hbm, ⟨38, _⟩ => ⟨S16384x16384, .i32⟩
  | .hbm, ⟨39, _⟩ => ⟨S16384x16384, .i32⟩
  | .hbm, ⟨40, _⟩ => ⟨S16384x16384, .i1⟩
  | .hbm, ⟨41, _⟩ => ⟨S_, .f32⟩
  | .hbm, ⟨42, _⟩ => ⟨S_, .f32⟩
  | .hbm, ⟨43, _⟩ => ⟨S8x16384x16384, .i1⟩
  | .hbm, ⟨44, _⟩ => ⟨S8x16384x16384, .f32⟩
  | .hbm, ⟨45, _⟩ => ⟨S8x16384x16384, .f32⟩
  | .hbm, ⟨46, _⟩ => ⟨S_, .f32⟩
  | .hbm, ⟨47, _⟩ => ⟨S8x16384, .f32⟩
  | .hbm, ⟨48, _⟩ => ⟨S_, .f32⟩
  | .hbm, ⟨49, _⟩ => ⟨S8x16384, .f32⟩
  | .hbm, ⟨50, _⟩ => ⟨S8x16384, .f32⟩
  | .hbm, ⟨51, _⟩ => ⟨S8x16384x1, .f32⟩
  | .hbm, ⟨52, _⟩ => ⟨S8x16384x16384, .f32⟩
  | .hbm, ⟨53, _⟩ => ⟨S8x16384x16384, .f32⟩
  | .hbm, ⟨54, _⟩ => ⟨S8x16384x16384, .f32⟩
  | .hbm, ⟨55, _⟩ => ⟨S_, .f32⟩
  | .hbm, ⟨56, _⟩ => ⟨S8x16384, .f32⟩
  | .hbm, ⟨57, _⟩ => ⟨S8x16384x1, .f32⟩
  | .hbm, ⟨58, _⟩ => ⟨S8x16384x16384, .f32⟩
  | .hbm, ⟨59, _⟩ => ⟨S8x16384x16384, .f32⟩
  | .hbm, ⟨60, _⟩ => ⟨S8x16384x128, .f32⟩
  | .hbm, ⟨61, _⟩ => ⟨S16384x1024, .f32⟩
  | .hbm, ⟨62, _⟩ => ⟨S16384x8x128, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_1 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Proof.KB.Model.lean ====
module

public import proofs.«01_k».proof.Proof.KB.Words
public import proofs.«01_k».proof.Proof.Gen.Kernel.Frame
public import Idealize.ShloMosaic.Lib.VecWindow

@[expose] public section

/-!
# What one grid point computes, block by block

At one grid point the kernel holds 512 scaled query rows `q`, the suffix mask `u`, one head's keys `xk` and
transposed values `xv`. It sweeps the key blocks in the order `blk j 0, blk j 1, …, blk j (2 j + 1)`. The first
two blocks meet the diagonal, and are masked.

Step `m` computes the scores `sc m`, from them the weights `wt m` relative to the block's end and the block's
log2 mass, which is added to the running mass `run m`; the carried factor of the step is `cf m`, and the step
adds `cf m` times the values against the weights to the accumulator `acc m`.
-/

set_option maxRecDepth 16384

noncomputable section

namespace Cert.Proof.KB

open Cert.Kernel Cert.Kernel.Gen
open Idealize.ShloMosaic

variable {F : FTy → Type} [FloatOps F]

theorem blk_le (j m : ℕ) : 256 * blk j m + 256 ≤ 16384 := by unfold blk; omega

theorem koff_inb (j m : ℕ) : ∀ a, koff j m a + S256x128.size a ≤ S16384x128.size a := by
  intro k
  have := blk_le j m
  fin_cases k
  · exact this
  · exact Nat.le_refl 128

theorem voff_inb (j m : ℕ) : ∀ a, voff j m a + S128x256.size a ≤ S128x16384.size a := by
  intro k
  have := blk_le j m
  fin_cases k
  · exact Nat.le_refl 128
  · exact this

/-- The keys of the block of step `m`. -/
def kwin (xk : Vec F S16384x128 .bf16) (j m : ℕ) : Vec F S256x128 .bf16 :=
  VecWindow.window xk (koff j m) S256x128.size (koff_inb j m)
/-- The values of the block of step `m`, one column per key. -/
def vwin (xv : Vec F S128x16384 .bf16) (j m : ℕ) : Vec F S128x256 .bf16 :=
  VecWindow.window xv (voff j m) S128x256.size (voff_inb j m)

variable (q : FVec F S512x128 .bf16) (u : FVec F S272x256 .bf16) (xk : Vec F S16384x128 .bf16) (xv : Vec F S128x16384 .bf16) (j : ℕ)

/-- The scores of step `m`. -/
def sc (m : ℕ) : Vec F S256x512 .f32 := k0_pay2 q (kwin xk j m)

/-- The zero of the second masked block. -/
abbrev zf : F .f32 := Scalar.ofBits .f32 0x00000000#32

/-- The running log2 mass before step `m`. -/
def run : ℕ → Vec F S1x512 .f32
  | 0 => k0_pay237
  | 1 => k0_pay247 (k0_pay243 u (sc q xk j 0)) k0_pay237
  | 2 => k0_pay255 u (sc q xk j 1) (k0_pay249 (sc q xk j 1)) zf (run 1)
  | m + 3 => k0_pay8 u (sc q xk j (m + 2)) (k0_pay3 (sc q xk j (m + 2))) (run (m + 2))

/-- The weights of step `m`. -/
def wt : ℕ → Vec F S256x512 .bf16
  | 0 => k0_pay245 (k0_pay244 u (sc q xk j 0))
  | 1 => k0_pay253 u (sc q xk j 1) (k0_pay249 (sc q xk j 1)) zf
  | m + 2 => k0_pay6 u (sc q xk j (m + 2)) (k0_pay3 (sc q xk j (m + 2)))

/-- The carried factor of step `m`. -/
def cf (m : ℕ) : Vec F S1x512 .f32 := k0_pay7 (run q u xk j m)

/-- The accumulator before step `m`. -/
def acc : ℕ → Vec F S128x512 .f32
  | 0 => k0_pay236
  | m + 1 => k0_pay9 (acc m) (cf q u xk j m) (vwin xv j m) (wt q u xk j m)

theorem acc_succ (m : ℕ) : acc q u xk xv j (m + 1) = k0_pay9 (acc q u xk xv j m) (cf q u xk j m) (vwin xv j m) (wt q u xk j m) := rfl
theorem run_succ (m : ℕ) : run q u xk j (m + 3) = k0_pay8 u (sc q xk j (m + 2)) (k0_pay3 (sc q xk j (m + 2))) (run q u xk j (m + 2)) := rfl
theorem wt_succ (m : ℕ) : wt q u xk j (m + 2) = k0_pay6 u (sc q xk j (m + 2)) (k0_pay3 (sc q xk j (m + 2))) := rfl

end Cert.Proof.KB
-- ==== Proof.Value.Math.lean ====
module

public import Mathlib.Analysis.SpecialFunctions.Pow.Real

@[expose] public section

/-!
# Stick-breaking weights over the reals, in base 2

With scores `s` the weight of key `t` for a query is `σ(s t) · ∏ (1 - σ (s t'))` over the later keys before the
query. Base 2 logarithms turn it into `2 ^ (l2 (s t) + ∑ kp (s t'))`, where `l2` is the base 2 logarithm of the
logistic and `kp` that of its complement, both of a score divided by `ln 2`.
-/

noncomputable section

namespace Cert.Proof.Val

open Finset

/-- The base 2 logarithm of the logistic of `x · ln 2`. -/
def l2 (x : ℝ) : ℝ := min x 0 - Real.log (1 + (2 : ℝ) ^ (-|x|)) * (Real.log 2)⁻¹
/-- The base 2 logarithm of its complement. -/
def kp (x : ℝ) : ℝ := l2 x - x

/-- The natural logarithm of the logistic. -/
def ls (x : ℝ) : ℝ := min x 0 - Real.log (1 + Real.exp (-|x|))

theorem log2_pos : 0 < Real.log 2 := Real.log_pos (by norm_num)

theorem two_rpow (x : ℝ) : (2 : ℝ) ^ x = Real.exp (Real.log 2 * x) := Real.rpow_def_of_pos (by norm_num) x

theorem l2_scaled (z : ℝ) : Real.log 2 * l2 (z * (Real.log 2)⁻¹) = ls z := by
  have h := log2_pos
  have hi : 0 < (Real.log 2)⁻¹ := inv_pos.2 h
  unfold l2 ls
  rw [two_rpow, abs_mul, abs_of_pos hi, mul_sub]
  congr 1
  · rw [mul_min_of_nonneg _ _ h.le, mul_zero, mul_comm z, ← mul_assoc, mul_inv_cancel₀ h.ne', one_mul]
  · rw [show Real.log 2 * -(|z| * (Real.log 2)⁻¹) = -|z| by field_simp]
    field_simp

theorem kp_scaled (z : ℝ) : Real.log 2 * kp (z * (Real.log 2)⁻¹) = ls (-z) := by
  have h := log2_pos
  unfold kp
  rw [mul_sub, l2_scaled]
  unfold ls
  rw [abs_neg, show Real.log 2 * (z * (Real.log 2)⁻¹) = z by field_simp]
  rcases le_total z 0 with hz | hz
  · rw [min_eq_left hz, min_eq_right (by linarith)]; ring
  · rw [min_eq_right hz, min_eq_left (by linarith)]; ring

/-- The logarithm of the complement at key `t` of query `i`: only keys before the query count. -/
def lk (s : ℕ → ℝ) (i t : ℕ) : ℝ := if t < i then kp (s t) else 0

/-- The weight of key `t` for query `i`, with the keys up to `N`. -/
def W (s : ℕ → ℝ) (i N t : ℕ) : ℝ := if t < i then (2 : ℝ) ^ (l2 (s t) + ∑ t' ∈ Ico (t + 1) N, lk s i t') else 0

/-- The weight of key `t` relative to the end `E` of its block, times the carried factor, is its weight. -/
theorem W_block (s : ℕ → ℝ) (i N t E : ℕ) (h : t + 1 ≤ E) (hN : E ≤ N) :
    (2 : ℝ) ^ (∑ t' ∈ Ico E N, lk s i t') * W s i E t = W s i N t := by
  unfold W
  split
  · rw [← Real.rpow_add (by norm_num), ← sum_Ico_consecutive _ h hN]
    congr 1
    ring
  · rw [mul_zero]

/-- A sum over the 256 places of a block is one over its keys. -/
theorem sum_block (f : ℕ → ℝ) (a : ℕ) : ∑ r : Fin 256, f (a + r.val) = ∑ t ∈ Ico a (a + 256), f t := by
  rw [sum_Ico_eq_sum_range, Nat.add_sub_cancel_left, sum_range]

/-- So is the sum over the later places. -/
theorem sum_later (f : ℕ → ℝ) (a : ℕ) (r : Fin 256) :
    (∑ r' : Fin 256, if r < r' then f (a + r'.val) else 0) = ∑ t ∈ Ico (a + r.val + 1) (a + 256), f t := by
  have := sum_block (fun t => if a + r.val < t then f t else 0) a
  have e : ∀ r' : Fin 256, (if r < r' then f (a + r'.val) else 0) = if a + r.val < a + r'.val then f (a + r'.val) else 0 := by
    intro r'
    simp only [Fin.lt_def, Nat.add_lt_add_iff_left]
  rw [sum_congr rfl fun r' _ => e r', this, ← sum_filter]
  congr 1
  ext t
  simp only [mem_filter, mem_Ico]
  omega

/-- The natural logarithm of the complement at key `t` of query `i`, of a natural score: only keys before the query count. -/
def nk (z : ℕ → ℝ) (i t : ℕ) : ℝ := if t < i then ls (-(z t)) else 0

/-- The weight in natural logarithms, over all the keys. -/
def wn (z : ℕ → ℝ) (i N t : ℕ) : ℝ := if t < i then Real.exp (ls (z t) + ∑ t' ∈ Ico (t + 1) N, nk z i t') else 0

/-- Keys from the query on add nothing, so the sums may end anywhere past the query. -/
theorem sum_nk (z : ℕ → ℝ) (i a N M : ℕ) (hN : i ≤ N) (hM : i ≤ M) : ∑ t ∈ Ico a N, nk z i t = ∑ t ∈ Ico a M, nk z i t := by
  have key : ∀ N, i ≤ N → ∑ t ∈ Ico a N, nk z i t = ∑ t ∈ Ico a i, nk z i t := by
    intro N h
    refine (sum_subset (fun t ht => ?_) fun t ht hn => ?_).symm
    · simp only [mem_Ico] at ht ⊢; omega
    · simp only [mem_Ico] at ht hn
      exact if_neg (by omega)
  rw [key N hN, key M hM]

theorem W_eq (z : ℕ → ℝ) (i N M t : ℕ) (hN : i ≤ N) (hM : i ≤ M) :
    W (fun t => z t * (Real.log 2)⁻¹) i N t = wn z i M t := by
  unfold W wn
  split
  · rw [two_rpow, mul_add, l2_scaled, mul_sum, ← sum_nk z i (t + 1) N M hN hM]
    congr 2
    refine sum_congr rfl fun t' _ => ?_
    unfold lk nk
    split
    · exact kp_scaled _
    · exact mul_zero _
  · rfl

/-- The weighted sum over the keys of the tiles up to the query's is the one over all the keys. -/
theorem total_eq (v z : ℕ → ℝ) (i N M : ℕ) (hN : i ≤ N) (hM : N ≤ M) :
    ∑ t ∈ Ico 0 N, v t * W (fun t => z t * (Real.log 2)⁻¹) i N t = ∑ t : Fin M, wn z i M t.val * v t.val := by
  rw [← sum_range (fun t => wn z i M t * v t), range_eq_Ico]
  rw [sum_congr rfl fun t _ => by rw [W_eq z i N M t hN (hN.trans hM), mul_comm]]
  refine sum_subset (fun t ht => ?_) fun t ht hn => ?_
  · simp only [mem_Ico] at ht ⊢; omega
  · simp only [mem_Ico] at ht hn
    rw [wn, if_neg (by omega), zero_mul]

end Cert.Proof.Val
-- ==== Proof.KI.Words.lean ====
module

public import proofs.«01_k».proof.Proof.Gen.KernelIdeal.Loops

@[expose] public section

/-!
# The words of one grid point

At the grid point `(h, j)` the kernel sweeps the key blocks `2 j + 1, 2 j, …, 0` of 256 keys. It counts its
steps in a machine word and computes from it, by clipped word arithmetic, which block a step reads. Every such
word depends on `j` and on the counter alone, so each fact below is decided over the 32 values of `j` and the
trips of the loop in question.
-/

set_option maxRecDepth 16384

namespace Cert.Proof.KI

open Cert.KernelIdeal Cert.KernelIdeal.Gen
open Idealize.ShloMosaic

/-- The grid point of query block `j`, of head 0. -/
def cj (j : Fin 32) : grid0.Coords := fun a => match a with
  | ⟨0, _⟩ => ⟨0, Nat.zero_lt_succ 7⟩
  | ⟨1, _⟩ => j
  | ⟨_ + 2, h⟩ => absurd h (Nat.not_lt.2 (Nat.le_add_left _ _))

/-- The query block of a grid point. -/
abbrev qb (i : grid0.Coords) : Fin 32 := i 1

/-- Steps done before trip `k` of the loop of eight steps, of four steps, of two steps. -/
def n8 (k : ℕ) : ℕ := 8 * k
def n4 (j k : ℕ) : ℕ := 8 * (2 * j / 8) + 4 * k
def n2 (j k : ℕ) : ℕ := 4 * (2 * j / 4) + 2 * k

theorem trips1_cj : ∀ j : Fin 32, (k0_t1_loop (cj j)).trips = 2 * j.val / 8 := by decide +kernel
theorem trips3_cj : ∀ j : Fin 32, (k0_t3_loop (cj j) (BitVec.ofNat 32 (n4 j.val 0))).trips = 2 * j.val / 4 - 2 * (2 * j.val / 8) := by decide +kernel
theorem trips5_cj : ∀ j : Fin 32, (k0_t5_loop (cj j) (BitVec.ofNat 32 (n2 j.val 0))).trips = j.val - 2 * (2 * j.val / 4) := by decide +kernel

/-! The remainder of each loop is empty. -/
theorem trips2_cj : ∀ j : Fin 32, (k0_t2_loop (cj j)).trips = 0 := by decide +kernel
theorem trips4_cj : ∀ j : Fin 32, (k0_t4_loop (cj j) (BitVec.ofNat 32 (n4 j.val 0))).trips = 0 := by decide +kernel
theorem trips6_cj : ∀ j : Fin 32, (k0_t6_loop (cj j) (BitVec.ofNat 32 (n2 j.val 0))).trips = 0 := by decide +kernel

theorem chk1_cj : ∀ (j : Fin 32) (k : Fin (k0_t1_loop (cj j)).trips), k0_chk1 (cj j) k (BitVec.ofNat 32 (n8 k.val)) := by decide +kernel
theorem chk4_cj : ∀ (j : Fin 32) (k : Fin (k0_t3_loop (cj j) (BitVec.ofNat 32 (n4 j.val 0))).trips), k0_chk4 (cj j) (BitVec.ofNat 32 (n4 j.val k.val)) := by decide +kernel
theorem chk7_cj : ∀ (j : Fin 32) (k : Fin (k0_t5_loop (cj j) (BitVec.ofNat 32 (n2 j.val 0))).trips), k0_chk7 (cj j) (BitVec.ofNat 32 (n2 j.val k.val)) := by decide +kernel
theorem chk3_cj : ∀ j : Fin 32, k0_chk3 (cj j) (BitVec.ofNat 32 (n4 j.val 0)) := by decide +kernel
theorem chk6_cj : ∀ j : Fin 32, k0_chk6 (cj j) (BitVec.ofNat 32 (n2 j.val 0)) := by decide +kernel

/-- The block of the `m`-th step at query block `j` (at most 63, and 0 past the last). -/
def blk (j m : ℕ) : ℕ := min (2 * j + 1 - m) 63
/-- Where a block's rows of the keys start, and its columns of the values. -/
def koff (j m : ℕ) : Fin 2 → ℕ := ![256 * blk j m, 0]
def voff (j m : ℕ) : Fin 2 → ℕ := ![0, 256 * blk j m]

theorem off1_cj : ∀ (j : Fin 32) (r : Fin 2), k0_off1 (cj j) (BitVec.ofNat 32 r.val) = koff j.val (1 - r.val) := by decide +kernel
theorem off2_cj : ∀ j : Fin 32, k0_off2 (cj j) = koff j.val 2 := by decide +kernel
theorem off3_cj : ∀ j : Fin 32, k0_off3 (cj j) = voff j.val 0 := by decide +kernel
theorem off22_cj : ∀ j : Fin 32, k0_off22 (cj j) = voff j.val (2 * j.val + 1) := by decide +kernel

theorem off4_cj : ∀ (j : Fin 32) (k : Fin (k0_t1_loop (cj j)).trips) (r : Fin 8), k0_off4 (cj j) (BitVec.ofNat 32 (n8 k.val)) (BitVec.ofNat 32 r.val) = koff j.val (n8 k.val + 3 + r.val) := by decide +kernel
theorem off5_cj : ∀ (j : Fin 32) (k : Fin (k0_t1_loop (cj j)).trips), k0_off5 (cj j) (BitVec.ofNat 32 (n8 k.val)) = voff j.val (n8 k.val + 1) := by decide +kernel
theorem off6_cj : ∀ (j : Fin 32) (k : Fin (k0_t1_loop (cj j)).trips) (r : Fin 7), k0_off6 (cj j) (BitVec.ofNat 32 (n8 k.val)) (BitVec.ofNat 32 (1 + r.val)) = voff j.val (n8 k.val + 2 + r.val) := by decide +kernel
theorem off10_cj : ∀ (j : Fin 32) (k : Fin (k0_t3_loop (cj j) (BitVec.ofNat 32 (n4 j.val 0))).trips) (r : Fin 4), k0_off10 (cj j) (BitVec.ofNat 32 (n4 j.val k.val)) (BitVec.ofNat 32 r.val) = koff j.val (n4 j.val k.val + 3 + r.val) := by decide +kernel
theorem off11_cj : ∀ (j : Fin 32) (k : Fin (k0_t3_loop (cj j) (BitVec.ofNat 32 (n4 j.val 0))).trips), k0_off11 (cj j) (BitVec.ofNat 32 (n4 j.val k.val)) = voff j.val (n4 j.val k.val + 1) := by decide +kernel
theorem off12_cj : ∀ (j : Fin 32) (k : Fin (k0_t3_loop (cj j) (BitVec.ofNat 32 (n4 j.val 0))).trips) (r : Fin 3), k0_off12 (cj j) (BitVec.ofNat 32 (n4 j.val k.val)) (BitVec.ofNat 32 (1 + r.val)) = voff j.val (n4 j.val k.val + 2 + r.val) := by decide +kernel
theorem off16_cj : ∀ (j : Fin 32) (k : Fin (k0_t5_loop (cj j) (BitVec.ofNat 32 (n2 j.val 0))).trips) (r : Fin 2), k0_off16 (cj j) (BitVec.ofNat 32 (n2 j.val k.val)) (BitVec.ofNat 32 r.val) = koff j.val (n2 j.val k.val + 3 + r.val) := by decide +kernel
theorem off17_cj : ∀ (j : Fin 32) (k : Fin (k0_t5_loop (cj j) (BitVec.ofNat 32 (n2 j.val 0))).trips), k0_off17 (cj j) (BitVec.ofNat 32 (n2 j.val k.val)) = voff j.val (n2 j.val k.val + 1) := by decide +kernel
theorem off18_cj : ∀ (j : Fin 32) (k : Fin (k0_t5_loop (cj j) (BitVec.ofNat 32 (n2 j.val 0))).trips), k0_off18 (cj j) (BitVec.ofNat 32 (n2 j.val k.val)) = voff j.val (n2 j.val k.val + 2) := by decide +kernel

end Cert.Proof.KI
-- ==== Proof.KI.Model.lean ====
module

public import proofs.«01_k».proof.Proof.KI.Words
public import proofs.«01_k».proof.Proof.Gen.KernelIdeal.Frame
public import Idealize.ShloMosaic.Lib.VecWindow

@[expose] public section

/-!
# What one grid point computes, block by block

At one grid point the kernel holds 512 scaled query rows `q`, the suffix mask `u`, one head's keys `xk` and
transposed values `xv`. It sweeps the key blocks in the order `blk j 0, blk j 1, …, blk j (2 j + 1)`. The first
two blocks meet the diagonal, and are masked.

Step `m` computes the scores `sc m`, from them the weights `wt m` relative to the block's end and the block's
log2 mass, which is added to the running mass `run m`; the carried factor of the step is `cf m`, and the step
adds `cf m` times the values against the weights to the accumulator `acc m`.
-/

set_option maxRecDepth 16384

noncomputable section

namespace Cert.Proof.KI

open Cert.KernelIdeal Cert.KernelIdeal.Gen
open Idealize.ShloMosaic

variable {F : FTy → Type} [FloatOps F] [Named F]

theorem blk_le (j m : ℕ) : 256 * blk j m + 256 ≤ 16384 := by unfold blk; omega

theorem koff_inb (j m : ℕ) : ∀ a, koff j m a + S256x128.size a ≤ S16384x128.size a := by
  intro k
  have := blk_le j m
  fin_cases k
  · exact this
  · exact Nat.le_refl 128

theorem voff_inb (j m : ℕ) : ∀ a, voff j m a + S128x256.size a ≤ S128x16384.size a := by
  intro k
  have := blk_le j m
  fin_cases k
  · exact Nat.le_refl 128
  · exact this

/-- The keys of the block of step `m`. -/
def kwin (xk : Vec F S16384x128 .bf16) (j m : ℕ) : Vec F S256x128 .bf16 :=
  VecWindow.window xk (koff j m) S256x128.size (koff_inb j m)
/-- The values of the block of step `m`, one column per key. -/
def vwin (xv : Vec F S128x16384 .bf16) (j m : ℕ) : Vec F S128x256 .bf16 :=
  VecWindow.window xv (voff j m) S128x256.size (voff_inb j m)

variable (q : FVec F S512x128 .bf16) (u : FVec F S272x256 .bf16) (xk : Vec F S16384x128 .bf16) (xv : Vec F S128x16384 .bf16) (j : ℕ)

/-- The scores of step `m`. -/
def sc (m : ℕ) : Vec F S256x512 .f32 := k0_pay2 q (kwin xk j m)

/-- The zero of the second masked block. -/
abbrev zf : F .f32 := Scalar.ofBits .f32 0x00000000#32

/-- The running log2 mass before step `m`. -/
def run : ℕ → Vec F S1x512 .f32
  | 0 => k0_pay237
  | 1 => k0_pay247 (k0_pay243 u (sc q xk j 0)) k0_pay237
  | 2 => k0_pay255 u (sc q xk j 1) (k0_pay249 (sc q xk j 1)) zf (run 1)
  | m + 3 => k0_pay8 u (sc q xk j (m + 2)) (k0_pay3 (sc q xk j (m + 2))) (run (m + 2))

/-- The weights of step `m`. -/
def wt : ℕ → Vec F S256x512 .bf16
  | 0 => k0_pay245 (k0_pay244 u (sc q xk j 0))
  | 1 => k0_pay253 u (sc q xk j 1) (k0_pay249 (sc q xk j 1)) zf
  | m + 2 => k0_pay6 u (sc q xk j (m + 2)) (k0_pay3 (sc q xk j (m + 2)))

/-- The carried factor of step `m`. -/
def cf (m : ℕ) : Vec F S1x512 .f32 := k0_pay7 (run q u xk j m)

/-- The accumulator before step `m`. -/
def acc : ℕ → Vec F S128x512 .f32
  | 0 => k0_pay236
  | m + 1 => k0_pay9 (acc m) (cf q u xk j m) (vwin xv j m) (wt q u xk j m)

theorem acc_succ (m : ℕ) : acc q u xk xv j (m + 1) = k0_pay9 (acc q u xk xv j m) (cf q u xk j m) (vwin xv j m) (wt q u xk j m) := rfl
theorem run_succ (m : ℕ) : run q u xk j (m + 3) = k0_pay8 u (sc q xk j (m + 2)) (k0_pay3 (sc q xk j (m + 2))) (run q u xk j (m + 2)) := rfl
theorem wt_succ (m : ℕ) : wt q u xk j (m + 2) = k0_pay6 u (sc q xk j (m + 2)) (k0_pay3 (sc q xk j (m + 2))) := rfl

end Cert.Proof.KI
-- ==== Proof.Value.Pay.lean ====
module

public import proofs.«01_k».proof.Proof.Value.Math
public import proofs.«01_k».proof.Proof.KI.Model
public import Idealize.ShloMosaic.Lib.Pointwise
public import Idealize.ShloMosaic.Lib.WordCmp
public import Idealize.ShloMosaic.PureOps.Ideal.Laws

@[expose] public section

/-!
# The kernel's vector operations, entry by entry

Each value the kernel's body computes, read at one entry over the extended reals, when the scores it is computed
from are real numbers.
-/

set_option maxRecDepth 16384

noncomputable section

namespace Cert.Proof.Val

open Cert.KernelIdeal Cert.KernelIdeal.Gen
open Idealize.ShloMosaic
open Idealize.ShloMosaic.WordCmp
open scoped BigOperators

local notation "𝕀" => Idealize.ShloMosaic.Ideal

theorem one_bits : Ideal.ofBits .f32 0x3F800000#32 = (1 : EReal) := by
  simp [Ideal.ofBits, Ideal.ieee, -EReal.coe_mul]; norm_num

theorem named_log2e : (Named.named (F := 𝕀) (φ := .f32) κ "log2e" 0x3FB8AA3B#32) = (((Real.log 2)⁻¹ : ℝ) : EReal) :=
  IdealRules.named_const.ideal_named_scalar _ _ _ _ rfl

theorem named_scale : (Named.named (F := 𝕀) (φ := .f32) κ "log2_scale" 0x3E0293EE#32) =
    (((Real.sqrt 128)⁻¹ * (Real.log 2)⁻¹ : ℝ) : EReal) :=
  IdealRules.named_const.ideal_named_scalar _ _ _ _ rfl

/-- The sum of real numbers is the same over the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp2_at (x : ℝ) : (FloatOps.exp2 (F := 𝕀) (φ := .f32) (x : EReal) : EReal) = (((2 : ℝ) ^ x : ℝ) : EReal) := Ideal.exp2_coe x

theorem coe_max (x y : ℝ) : ((max x y : ℝ) : EReal) = max (x : EReal) (y : EReal) :=
  EReal.coe_strictMono.monotone.map_max
theorem coe_min (x y : ℝ) : ((min x y : ℝ) : EReal) = min (x : EReal) (y : EReal) :=
  EReal.coe_strictMono.monotone.map_min

theorem abs_coe (x : ℝ) : max (x : EReal) (-(x : EReal)) = ((|x| : ℝ) : EReal) := by
  rw [← EReal.coe_neg, ← coe_max]; rfl

/-- The base 2 logarithm of the logistic, as the kernel computes it. -/
theorem l2_ideal (x : ℝ) :
    min (x : EReal) 0 - Ideal.log (1 + Ideal.exp2 (0 - max (x : EReal) (-(x : EReal)))) * (((Real.log 2)⁻¹ : ℝ) : EReal) =
      ((l2 x : ℝ) : EReal) := by
  have hp : 0 < (2 : ℝ) ^ (-|x|) := Real.rpow_pos_of_pos (by norm_num) _
  rw [abs_coe, zero_sub, ← EReal.coe_neg, Ideal.exp2_coe, ← EReal.coe_one, ← EReal.coe_add, Ideal.log_coe,
    if_neg (not_le.2 (by positivity)), ← EReal.coe_mul, ← EReal.coe_zero, ← coe_min, ← EReal.coe_sub]
  rfl

theorem pay4_at (S : FVec 𝕀 S256x512 .f32) (r : Fin 256) (c : Fin 512) (x : ℝ) (h : S (ix2 r c) = (x : EReal)) :
    k0_pay4 (F := 𝕀) S (k0_pay3 S) (ix2 r c) = ((l2 x : ℝ) : EReal) := by
  pointwise [k0_pay4, k0_pay3]
  rw [h, named_log2e]
  exact l2_ideal x

theorem pay241_at (S : FVec 𝕀 S256x512 .f32) (r : Fin 256) (c : Fin 512) (x : ℝ) (h : S (ix2 r c) = (x : EReal)) :
    k0_pay241 (F := 𝕀) S (ix2 r c) = ((l2 x : ℝ) : EReal) := by
  pointwise [k0_pay241]
  rw [h, named_log2e]
  exact l2_ideal x

theorem pay250_at (S : FVec 𝕀 S256x512 .f32) (r : Fin 256) (c : Fin 512) (x : ℝ) (h : S (ix2 r c) = (x : EReal)) :
    k0_pay250 (F := 𝕀) S (k0_pay249 S) (0 : EReal) (ix2 r c) = ((l2 x : ℝ) : EReal) := by
  pointwise [k0_pay250, k0_pay249]
  rw [h, named_log2e]
  exact l2_ideal x

theorem pay235_at (ρ : Fin 272) (r : Fin 256) :
    (k0_pay235 (F := 𝕀)) (ix2 ρ r) = if ρ.val < r.val ∨ 256 ≤ ρ.val then (1 : EReal) else 0 := by
  have h1 := ρ.isLt
  have h2 := r.isLt
  pointwise [k0_pay235]
  rw [cmpi_sgt_ofNat (by norm_num; omega) (by norm_num; omega), cmpi_sge_ofNat (by norm_num; omega) (by norm_num)]
  by_cases a : ρ.val < r.val <;> by_cases b : 256 ≤ ρ.val <;> simp [a, b, Scalar.select, IntOp.ori]

theorem pay242_at (r : Fin 256) (c : Fin 512) : k0_pay242 (ix2 r c) = if r.val + 256 < c.val then 1#1 else 0#1 := by
  have h1 := c.isLt
  have h2 := r.isLt
  pointwise [k0_pay242]
  rw [show IntOp.addi (BitVec.ofNat 32 r.val) 256#32 = BitVec.ofNat 32 (r.val + 256) from (BitVec.ofNat_add _ _).symm,
    cmpi_slt_ofNat (by norm_num; omega) (by norm_num; omega)]
  by_cases a : r.val + 256 < c.val <;> simp [a]

theorem pay251_at (r : Fin 256) (c : Fin 512) : k0_pay251 (ix2 r c) = if r.val < c.val then 1#1 else 0#1 := by
  have h1 := c.isLt
  have h2 := r.isLt
  pointwise [k0_pay251]
  rw [show IntOp.addi (BitVec.ofNat 32 r.val) 0#32 = BitVec.ofNat 32 r.val from (BitVec.ofNat_add _ 0).symm,
    cmpi_slt_ofNat (by norm_num; omega) (by norm_num; omega)]
  by_cases a : r.val < c.val <;> simp [a]

/-- The log2 mass of the later places of a block, of those `P` allows. -/
def lat (x : Fin 256 → ℝ) (P : Fin 256 → Prop) [DecidablePred P] (r : Fin 256) : ℝ :=
  ∑ r' : Fin 256, if r < r' then (if P r' then kp (x r') else 0) else 0
/-- The log2 mass of the whole block. -/
def mass (x : Fin 256 → ℝ) (P : Fin 256 → Prop) [DecidablePred P] : ℝ := ∑ r' : Fin 256, if P r' then kp (x r') else 0

/-- A row of the suffix mask against a column of numbers. -/
theorem mask_sum (f : Fin 256 → ℝ) (ρ : Fin 272) :
    (∑ r : Fin 256, (k0_pay235 (F := 𝕀)) (ix2 ρ r) * ((f r : ℝ) : EReal)) =
      ((∑ r : Fin 256, if ρ.val < r.val ∨ 256 ≤ ρ.val then f r else 0 : ℝ) : EReal) := by
  rw [coe_sum]
  refine Finset.sum_congr rfl fun r _ => ?_
  rw [pay235_at]
  split <;> simp

section

variable (S : FVec 𝕀 S256x512 .f32) (c : Fin 512) (x : Fin 256 → ℝ) (h : ∀ r, S (ix2 r c) = ((x r : ℝ) : EReal))
include h

theorem pay5_at (ρ : Fin 272) : k0_pay5 (F := 𝕀) k0_pay235 S (k0_pay3 S) (ix2 ρ c) =
    ((∑ r : Fin 256, if ρ.val < r.val ∨ 256 ≤ ρ.val then (if True then kp (x r) else 0) else 0 : ℝ) : EReal) := by
  pointwise [k0_pay5]
  rw [← mask_sum]
  refine Finset.sum_congr rfl fun r _ => ?_
  rw [pay4_at S r c (x r) (h r), h r, ← EReal.coe_sub]
  rfl

theorem pay243_at (ρ : Fin 272) : k0_pay243 (F := 𝕀) k0_pay235 S (ix2 ρ c) =
    ((∑ r : Fin 256, if ρ.val < r.val ∨ 256 ≤ ρ.val then (if r.val + 256 < c.val then kp (x r) else 0) else 0 : ℝ) : EReal) := by
  pointwise [k0_pay243]
  rw [← mask_sum]
  refine Finset.sum_congr rfl fun r _ => ?_
  rw [pay241_at S r c (x r) (h r), h r, pay242_at, ← EReal.coe_sub]
  by_cases a : r.val + 256 < c.val <;> simp [a, Scalar.select, kp]

theorem pay252_at (ρ : Fin 272) : k0_pay252 (F := 𝕀) k0_pay235 S (k0_pay249 S) (0 : EReal) (ix2 ρ c) =
    ((∑ r : Fin 256, if ρ.val < r.val ∨ 256 ≤ ρ.val then (if r.val < c.val then kp (x r) else 0) else 0 : ℝ) : EReal) := by
  pointwise [k0_pay252]
  rw [← mask_sum]
  refine Finset.sum_congr rfl fun r _ => ?_
  rw [pay250_at S r c (x r) (h r), h r, pay251_at, ← EReal.coe_sub]
  by_cases a : r.val < c.val <;> simp [a, Scalar.select, kp]

omit h in
theorem lat_row (P : Fin 256 → Prop) [DecidablePred P] (r : Fin 256) :
    (∑ r' : Fin 256, if r.val < r'.val ∨ 256 ≤ r.val then (if P r' then kp (x r') else 0) else 0) = lat x P r := by
  have := r.isLt
  refine Finset.sum_congr rfl fun r' _ => ?_
  simp only [Fin.lt_def, show ¬ 256 ≤ r.val by omega, or_false]

omit h in
theorem mass_row (P : Fin 256 → Prop) [DecidablePred P] (a : ℕ) (ha : 256 ≤ a) :
    (∑ r' : Fin 256, if a < r'.val ∨ 256 ≤ a then (if P r' then kp (x r') else 0) else 0) = mass x P := by
  refine Finset.sum_congr rfl fun r' _ => ?_
  simp only [ha, or_true, if_true]

theorem pay6_at (r : Fin 256) : k0_pay6 (F := 𝕀) k0_pay235 S (k0_pay3 S) (ix2 r c) =
    (((2 : ℝ) ^ (l2 (x r) + lat x (fun _ => True) r) : ℝ) : EReal) := by
  pointwise [k0_pay6]
  rw [pay4_at S r c (x r) (h r), pay5_at S c x h, lat_row, ← EReal.coe_add, exp2_at]

theorem pay244_at (r : Fin 256) : k0_pay245 (k0_pay244 (F := 𝕀) k0_pay235 S) (ix2 r c) =
    ((if r.val + 256 < c.val then (2 : ℝ) ^ (l2 (x r) + lat x (fun r => r.val + 256 < c.val) r) else 0 : ℝ) : EReal) := by
  pointwise [k0_pay244, k0_pay245]
  rw [pay241_at S r c (x r) (h r), pay243_at S c x h, lat_row, ← EReal.coe_add, exp2_at, pay242_at]
  by_cases a : r.val + 256 < c.val <;> simp [a, Scalar.select]

theorem pay253_at (r : Fin 256) : k0_pay253 (F := 𝕀) k0_pay235 S (k0_pay249 S) KI.zf (ix2 r c) =
    ((if r.val < c.val then (2 : ℝ) ^ (l2 (x r) + lat x (fun r => r.val < c.val) r) else 0 : ℝ) : EReal) := by
  pointwise [k0_pay253]
  rw [pay250_at S r c (x r) (h r), pay252_at S c x h, lat_row, ← EReal.coe_add, exp2_at, pay251_at]
  by_cases a : r.val < c.val <;> simp [a, Scalar.select]

theorem pay8_at (R : FVec 𝕀 S1x512 .f32) (y : ℝ) (hR : R (ix2 0 c) = (y : EReal)) :
    k0_pay8 (F := 𝕀) k0_pay235 S (k0_pay3 S) R (ix2 0 c) = ((y + mass x (fun _ => True) : ℝ) : EReal) := by
  pointwise [k0_pay8]
  rw [pay5_at S c x h, mass_row x _ _ (by norm_num), hR, ← EReal.coe_add]

theorem pay247_at (R : FVec 𝕀 S1x512 .f32) (y : ℝ) (hR : R (ix2 0 c) = (y : EReal)) :
    k0_pay247 (F := 𝕀) (k0_pay243 k0_pay235 S) R (ix2 0 c) = ((y + mass x (fun r => r.val + 256 < c.val) : ℝ) : EReal) := by
  pointwise [k0_pay247]
  rw [pay243_at S c x h, mass_row x _ _ (by norm_num), hR, ← EReal.coe_add]

theorem pay255_at (R : FVec 𝕀 S1x512 .f32) (y : ℝ) (hR : R (ix2 0 c) = (y : EReal)) :
    k0_pay255 (F := 𝕀) k0_pay235 S (k0_pay249 S) KI.zf R (ix2 0 c) = ((y + mass x (fun r => r.val < c.val) : ℝ) : EReal) := by
  pointwise [k0_pay255]
  rw [pay252_at S c x h, mass_row x _ _ (by norm_num), hR, ← EReal.coe_add]

end

theorem pay2_at (q : FVec 𝕀 S512x128 .bf16) (k : FVec 𝕀 S256x128 .bf16) (r : Fin 256) (c : Fin 512) :
    k0_pay2 (F := 𝕀) q k (ix2 r c) = ∑ e : Fin 128, k (ix2 r e) * q (ix2 c e) := by
  pointwise [k0_pay2]

theorem pay7_at (R : FVec 𝕀 S1x512 .f32) (c : Fin 512) (y : ℝ) (hR : R (ix2 0 c) = (y : EReal)) :
    k0_pay7 (F := 𝕀) R (ix2 0 c) = (((2 : ℝ) ^ y : ℝ) : EReal) := by
  pointwise [k0_pay7]
  rw [hR, exp2_at]

theorem pay9_at (a : FVec 𝕀 S128x512 .f32) (b : FVec 𝕀 S1x512 .f32) (v : FVec 𝕀 S128x256 .bf16)
    (w : FVec 𝕀 S256x512 .bf16) (d : Fin 128) (c : Fin 512) :
    k0_pay9 (F := 𝕀) a b v w (ix2 d c) = a (ix2 d c) + b (ix2 0 c) * ∑ r : Fin 256, v (ix2 d r) * w (ix2 r c) := by
  pointwise [k0_pay9]

theorem pay1_at (a : FVec 𝕀 S128x512 .f32) (g : FVec 𝕀 S512x128 .f32) (c : Fin 512) (d : Fin 128) :
    k0_pay1 (F := 𝕀) a g (ix2 c d) = a (ix2 d c) * (g (ix2 c d) * Ideal.logistic (g (ix2 c d))) := by
  pointwise [k0_pay1]

theorem pay234_at (q : FVec 𝕀 S512x128 .bf16) (c : Fin 512) (e : Fin 128) :
    k0_pay234 (F := 𝕀) q (ix2 c e) = q (ix2 c e) * (((Real.sqrt 128)⁻¹ * (Real.log 2)⁻¹ : ℝ) : EReal) := by
  pointwise [k0_pay234]
  rw [named_scale]

theorem pay236_at (d : Fin 128) (c : Fin 512) : k0_pay236 (F := 𝕀) (ix2 d c) = 0 := by
  pointwise [k0_pay236]

theorem pay237_at (c : Fin 512) : k0_pay237 (F := 𝕀) (ix2 0 c) = 0 := by
  pointwise [k0_pay237]

end Cert.Proof.Val
-- ==== Proof.Value.Step.lean ====
module

public import proofs.«01_k».proof.Proof.Value.Pay

@[expose] public section

/-!
# The sweep at one query

Column `c` of the sweep of query tile `j` is query `i = 512 j + c`. When its scores and the values are real
numbers, the running mass before a step is the log2 mass of the keys of the blocks met so far, the weights of a
step are those relative to the end of its block, and the accumulator is the weighted sum of the values of the keys
met so far.
-/

set_option maxRecDepth 16384

noncomputable section

namespace Cert.Proof.Val

open Cert.KernelIdeal Cert.KernelIdeal.Gen
open Idealize.ShloMosaic Finset
open scoped BigOperators

local notation "𝕀" => Idealize.ShloMosaic.Ideal

theorem mass_eq (s : ℕ → ℝ) (i a : ℕ) (P : Fin 256 → Prop) [DecidablePred P] (hP : ∀ r, P r ↔ a + r.val < i) :
    mass (fun r => s (a + r.val)) P = ∑ t ∈ Ico a (a + 256), lk s i t := by
  rw [← sum_block]
  exact sum_congr rfl fun r _ => by simp only [lk, hP]

theorem lat_eq (s : ℕ → ℝ) (i a : ℕ) (P : Fin 256 → Prop) [DecidablePred P] (hP : ∀ r, P r ↔ a + r.val < i) (r : Fin 256) :
    lat (fun r => s (a + r.val)) P r = ∑ t ∈ Ico (a + r.val + 1) (a + 256), lk s i t := by
  rw [← sum_later]
  exact sum_congr rfl fun r' _ => by simp only [lk, hP]

theorem weight_eq (s : ℕ → ℝ) (i a : ℕ) (P : Fin 256 → Prop) [DecidablePred P] (hP : ∀ r, P r ↔ a + r.val < i) (r : Fin 256) :
    (if P r then (2 : ℝ) ^ (l2 (s (a + r.val)) + lat (fun r => s (a + r.val)) P r) else 0) = W s i (a + 256) (a + r.val) := by
  rw [lat_eq s i a P hP]
  simp only [W, hP]

section

variable (q : FVec 𝕀 S512x128 .bf16) (xk : Vec 𝕀 S16384x128 .bf16) (xv : Vec 𝕀 S128x16384 .bf16) (j : ℕ) (hj : j < 32)
  (c : Fin 512) (s : ℕ → ℝ)
  (hs : ∀ m, m < 2 * j + 2 → ∀ r : Fin 256, KI.sc (F := 𝕀) q xk j m (ix2 r c) = ((s (256 * (2 * j + 1 - m) + r.val) : ℝ) : EReal))
include hj hs

/-- The running mass before step `m`. -/
theorem run_at (m : ℕ) (hm : m ≤ 2 * j + 2) : KI.run (F := 𝕀) q k0_pay235 xk j m (ix2 0 c) =
    ((∑ t ∈ Ico (256 * (2 * j + 2 - m)) (512 * (j + 1)), lk s (512 * j + c.val) t : ℝ) : EReal) := by
  have hc := c.isLt
  have split : ∀ a, a + 256 ≤ 512 * (j + 1) → (∑ t ∈ Ico (a + 256) (512 * (j + 1)), lk s (512 * j + c.val) t) +
      ∑ t ∈ Ico a (a + 256), lk s (512 * j + c.val) t = ∑ t ∈ Ico a (512 * (j + 1)), lk s (512 * j + c.val) t := by
    intro a ha
    rw [add_comm, sum_Ico_consecutive _ (by omega) ha]
  induction m with
  | zero =>
    rw [show KI.run (F := 𝕀) q k0_pay235 xk j 0 = k0_pay237 (F := 𝕀) from rfl, pay237_at, Ico_eq_empty (by omega)]
    simp
  | succ m ih =>
    have e : 256 * (2 * j + 2 - m) = 256 * (2 * j + 1 - m) + 256 := by omega
    have e' : 256 * (2 * j + 2 - (m + 1)) = 256 * (2 * j + 1 - m) := by omega
    have ih := ih (by omega)
    have hm' := hs m (by omega)
    rw [e] at ih
    rw [e', ← split _ (by omega)]
    match m, ih, hm' with
    | 0, ih, hm' =>
      rw [← mass_eq s _ _ (fun r => r.val + 256 < c.val) (fun r => by omega)]
      exact pay247_at _ c _ hm' _ _ ih
    | 1, ih, hm' =>
      rw [← mass_eq s _ _ (fun r => r.val < c.val) (fun r => by omega)]
      exact pay255_at _ c _ hm' _ _ ih
    | m + 2, ih, hm' =>
      rw [← mass_eq s _ _ (fun r => True) (fun r => by have := r.isLt; simp only [true_iff]; omega)]
      exact pay8_at _ c _ hm' _ _ ih

/-- The weights of step `m`. -/
theorem wt_at (m : ℕ) (hm : m < 2 * j + 2) (r : Fin 256) : KI.wt (F := 𝕀) q k0_pay235 xk j m (ix2 r c) =
    ((W s (512 * j + c.val) (256 * (2 * j + 1 - m) + 256) (256 * (2 * j + 1 - m) + r.val) : ℝ) : EReal) := by
  have hc := c.isLt
  have hm' := hs m hm
  match m, hm, hm' with
  | 0, hm, hm' =>
    rw [← weight_eq s _ _ (fun r => r.val + 256 < c.val) (fun r => by omega)]
    exact pay244_at _ c _ hm' r
  | 1, hm, hm' =>
    rw [← weight_eq s _ _ (fun r => r.val < c.val) (fun r => by omega)]
    exact pay253_at _ c _ hm' r
  | m + 2, hm, hm' =>
    rw [← weight_eq s _ _ (fun r => True) (fun r => by have := r.isLt; simp only [true_iff]; omega), if_pos trivial]
    exact pay6_at _ c _ hm' r

/-- The accumulator before step `m`. -/
theorem acc_at (d : Fin 128) (v : ℕ → ℝ)
    (hv : ∀ m, m < 2 * j + 2 → ∀ r : Fin 256, KI.vwin (F := 𝕀) xv j m (ix2 d r) = ((v (256 * (2 * j + 1 - m) + r.val) : ℝ) : EReal))
    (m : ℕ) (hm : m ≤ 2 * j + 2) : KI.acc (F := 𝕀) q k0_pay235 xk xv j m (ix2 d c) =
    ((∑ t ∈ Ico (256 * (2 * j + 2 - m)) (512 * (j + 1)), v t * W s (512 * j + c.val) (512 * (j + 1)) t : ℝ) : EReal) := by
  induction m with
  | zero =>
    rw [show KI.acc (F := 𝕀) q k0_pay235 xk xv j 0 = k0_pay236 (F := 𝕀) from rfl, pay236_at, Ico_eq_empty (by omega)]
    simp
  | succ m ih =>
    have e : 256 * (2 * j + 2 - m) = 256 * (2 * j + 1 - m) + 256 := by omega
    have e' : 256 * (2 * j + 2 - (m + 1)) = 256 * (2 * j + 1 - m) := by omega
    have hr := run_at q xk j hj c s hs m (by omega)
    have hw : ∑ r : Fin 256, KI.vwin (F := 𝕀) xv j m (ix2 d r) * KI.wt (F := 𝕀) q k0_pay235 xk j m (ix2 r c) =
        ((∑ r : Fin 256, v (256 * (2 * j + 1 - m) + r.val) *
          W s (512 * j + c.val) (256 * (2 * j + 1 - m) + 256) (256 * (2 * j + 1 - m) + r.val) : ℝ) : EReal) := by
      rw [coe_sum]
      exact sum_congr rfl fun r _ => by rw [hv m (by omega) r, wt_at q xk j hj c s hs m (by omega) r, ← EReal.coe_mul]
    rw [KI.acc_succ, pay9_at, ih (by omega), KI.cf, pay7_at _ _ _ hr, hw, e, e',
      ← sum_Ico_consecutive (fun t => v t * W s (512 * j + c.val) (512 * (j + 1)) t)
        (show 256 * (2 * j + 1 - m) ≤ 256 * (2 * j + 1 - m) + 256 by omega)
        (show _ ≤ 512 * (j + 1) by omega), ← sum_block (fun t => v t * W s (512 * j + c.val) (512 * (j + 1)) t), add_comm,
      ← EReal.coe_mul, ← EReal.coe_add]
    congr 2
    rw [mul_sum]
    refine sum_congr rfl fun r _ => ?_
    have hr := r.isLt
    rw [← W_block s _ _ _ _ (show 256 * (2 * j + 1 - m) + r.val + 1 ≤ 256 * (2 * j + 1 - m) + 256 by omega)
      (show _ ≤ 512 * (j + 1) by omega)]
    ring

end

end Cert.Proof.Val
-- ==== Proof.Value.Block.lean ====
module

public import proofs.«01_k».proof.Proof.Value.Pay
public import proofs.«01_k».proof.Proof.Gen.KernelIdeal.Frame
public import Idealize.ShloMosaic.Lib.Pipeline.ValueKit
public import Idealize.ShloMosaic.Lib.StableHlo.ReadAt

@[expose] public section

/-!
# The blocks of one grid point as columns of the projection

The host code cuts the projection into operands and the launch cuts those into blocks. At head `h` and query tile
`j` the four input blocks are the tile's queries, the head's keys, the head's values transposed and the tile's
gates, all of them columns of the projection.
-/

set_option maxRecDepth 16384

noncomputable section

namespace Cert.Proof.Val

open Cert.KernelIdeal Cert.KernelIdeal.Gen
open Idealize.ShloMosaic Idealize.ShloMosaic.TcCoe

local notation "𝕀" => Idealize.ShloMosaic.Ideal

variable (m : (ℓ : Loc nD τ sig) → Buf (Elt 𝕀) ℓ) (c : Dev nD)

/-- The projection. -/
abbrev proj : Vec 𝕀 S16384x8192 .f32 := m ((c : Thread nD τ).loc main_arg0)

theorem rows_at (a : Fin 16384) (b : Fin 4096) (n : Fin 8192)
    (hn : n.val = if b.val < 2048 then b.val else b.val + 2048) : V m c main_v5 (ix2 a b) = proj m c (ix2 a n) := by
  unfold V
  after_reads_at
  split_ifs <;> after_reads_at <;> split_ifs at hn <;> first | omega | (refine congrArg (proj m c) (congrArg (ix2 a) (Fin.ext ?_)); show _ = n.val; simp only []; omega)

theorem gates_at (a : Fin 16384) (b : Fin 2048) (n : Fin 8192)
    (hn : n.val = if b.val < 1024 then b.val + 3072 else b.val + 6144) : V m c main_v8 (ix2 a b) = proj m c (ix2 a n) := by
  unfold V
  after_reads_at
  split_ifs <;> split_ifs at hn <;> first | omega | (refine congrArg (proj m c) (congrArg (ix2 a) (Fin.ext ?_)); show _ = n.val; simp only []; omega)

theorem vals_at (a : Fin 16384) (b : Fin 2048) (n : Fin 8192)
    (hn : n.val = if b.val < 1024 then b.val + 2048 else b.val + 5120) : V m c main_v13 (ix2 b a) = proj m c (ix2 a n) := by
  unfold V
  after_reads_at
  split_ifs <;> after_reads_at <;> split_ifs at hn <;> first | omega | (refine congrArg (proj m c) (congrArg (ix2 a) (Fin.ext ?_)); show _ = n.val; simp only []; omega)

/-- The block indices of the five windows. -/
theorem idx : ∀ t : Fin cfg0.N, win0_0.index t = ![(grid0.coords t 1).val, 16 + (grid0.coords t 0).val] ∧
    win0_1.index t = ![0, 24 + (grid0.coords t 0).val] ∧ win0_2.index t = ![8 + (grid0.coords t 0).val, 0] ∧
    win0_3.index t = ![(grid0.coords t 1).val, 8 + (grid0.coords t 0).val] ∧
    win0_4.index t = ![(grid0.coords t 1).val, (grid0.coords t 0).val] :=
  (by decide +kernel : ∀ t : Fin grid0.N, _)

theorem head_lt (t : Fin cfg0.N) : (grid0.coords t 0).val < 8 := (grid0.coords t 0).isLt
theorem tile_lt (t : Fin cfg0.N) : (grid0.coords t 1).val < 32 := (grid0.coords t 1).isLt

theorem blk0_at (t : Fin cfg0.N) (r : Fin 512) (e : Fin 128) (a : Fin 16384) (n : Fin 8192)
    (ha : a.val = 512 * (grid0.coords t 1).val + r.val) (hn : n.val = 4096 + 128 * (grid0.coords t 0).val + e.val) :
    iblk m c 0 t (ix2 r e) = proj m c (ix2 a n) := by
  have h := head_lt t
  have he := e.isLt
  have hx : (win0_0.blk t).view.emb (ix2 r e) = ix2 a ⟨2048 + 128 * (grid0.coords t 0).val + e.val, by omega⟩ := by
    blk_ext [idx t]
  unfold iblk
  blk_simp
  rw [hx]
  exact rows_at m c a _ n (by simp only []; split_ifs <;> omega)

theorem blk1_at (t : Fin cfg0.N) (a : Fin 16384) (e : Fin 128) (n : Fin 8192)
    (hn : n.val = 5120 + 128 * (grid0.coords t 0).val + e.val) : iblk m c 1 t (ix2 a e) = proj m c (ix2 a n) := by
  have h := head_lt t
  have he := e.isLt
  have hx : (win0_1.blk t).view.emb (ix2 a e) = ix2 a ⟨3072 + 128 * (grid0.coords t 0).val + e.val, by omega⟩ := by
    blk_ext [idx t]
  unfold iblk
  blk_simp
  rw [hx]
  exact rows_at m c a _ n (by simp only []; split_ifs <;> omega)

theorem blk2_at (t : Fin cfg0.N) (a : Fin 16384) (d : Fin 128) (n : Fin 8192)
    (hn : n.val = 6144 + 128 * (grid0.coords t 0).val + d.val) : iblk m c 2 t (ix2 d a) = proj m c (ix2 a n) := by
  have h := head_lt t
  have hd := d.isLt
  have hx : (win0_2.blk t).view.emb (ix2 d a) = ix2 ⟨1024 + 128 * (grid0.coords t 0).val + d.val, by omega⟩ a := by
    blk_ext [idx t]
  unfold iblk
  blk_simp
  rw [hx]
  exact vals_at m c a _ n (by simp only []; split_ifs <;> omega)

theorem blk3_at (t : Fin cfg0.N) (r : Fin 512) (d : Fin 128) (a : Fin 16384) (n : Fin 8192)
    (ha : a.val = 512 * (grid0.coords t 1).val + r.val) (hn : n.val = 7168 + 128 * (grid0.coords t 0).val + d.val) :
    iblk m c 3 t (ix2 r d) = proj m c (ix2 a n) := by
  have h := head_lt t
  have hd := d.isLt
  have hx : (win0_3.blk t).view.emb (ix2 r d) = ix2 a ⟨1024 + 128 * (grid0.coords t 0).val + d.val, by omega⟩ := by
    blk_ext [idx t]
  unfold iblk
  blk_simp
  rw [hx]
  exact gates_at m c a _ n (by simp only []; split_ifs <;> omega)

end Cert.Proof.Val
-- ==== Proof.KI.State.lean ====
module

public import proofs.«01_k».proof.Proof.KI.Model
public import proofs.«01_k».proof.Proof.Gen.KernelIdeal.Loops

@[expose] public section

/-!
# What the buffers hold between two steps

Between two steps of the sweep the accumulator holds the model's value, and so do the running mass, the next
scores, and the pending weights and carried factor. The other weights, carried factor and scores buffers hold
values nobody reads again.
-/

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-- The buffers before step `n` of the loops (which is step `n + 2` of the sweep). -/
def St (arg3 : Memref sig .tc .vmem S16384x128 .bf16) (arg4 : Memref sig .tc .vmem S128x16384 .bf16) (arg7 : Memref sig .tc .vmem S128x512 .f32)
    (arg8 : Memref sig .tc .vmem S1x512 .f32) (arg9 arg10 : Memref sig .tc .vmem S256x512 .f32)
    (arg11 : Memref sig .tc .vmem S256x512 .bf16) (arg12 : Memref sig .tc .vmem S1x512 .f32)
    (arg13 : Memref sig .tc .vmem S256x512 .bf16) (arg14 : Memref sig .tc .vmem S1x512 .f32)
    (q : FVec F S512x128 .bf16) (u : FVec F S272x256 .bf16) (x3 : Vec F S16384x128 .bf16) (x4 : Vec F S128x16384 .bf16)
    (j : ℕ) (c : Dev nD) (n : ℕ) : sProp 𝕄 :=
  iprop((arg3.view.loc (c : Thread nD τ) ↦[arg3.view.set]{fullShare} (arg3.view.rep x3))
    ∗ (arg4.view.loc (c : Thread nD τ) ↦[arg4.view.set]{fullShare} (arg4.view.rep x4))
    ∗ (arg7.view.loc (c : Thread nD τ) ↦[arg7.view.set]{fullShare} (arg7.view.rep (acc q u x3 x4 j (n + 1))))
    ∗ (arg8.view.loc (c : Thread nD τ) ↦[arg8.view.set]{fullShare} (arg8.view.rep (run q u x3 j (n + 2))))
    ∗ (arg9.view.loc (c : Thread nD τ) ↦[arg9.view.set]{fullShare} (arg9.view.rep (sc q x3 j (n + 2))))
    ∗ (arg13.view.loc (c : Thread nD τ) ↦[arg13.view.set]{fullShare} (arg13.view.rep (wt q u x3 j (n + 1))))
    ∗ (arg14.view.loc (c : Thread nD τ) ↦[arg14.view.set]{fullShare} (arg14.view.rep (cf q u x3 j (n + 1))))
    ∗ (∃ f, arg10.view.loc (c : Thread nD τ) ↦[arg10.view.set]{fullShare} f)
    ∗ (∃ f, arg11.view.loc (c : Thread nD τ) ↦[arg11.view.set]{fullShare} f)
    ∗ (∃ f, arg12.view.loc (c : Thread nD τ) ↦[arg12.view.set]{fullShare} f))

/-- A buffer whose last write covers it holds what was written. -/
theorem hold_write (c : Dev nD) {s : Shape} {e : EltTy} (r : Memref sig .tc .vmem s e) (f : r.view.ty.Contents (Elt F))
    {off : Fin s.rank → ℕ} (inb : ∀ a, off a + s.size a ≤ s.size a) (w : (Rect.unit off s.size inb).shape.Idx → Elt F e)
    (L : List (View.Piece (Elt F) s e)) (x : Vec F s e) (h : w = x) :
    (r.view.loc (c : Thread nD τ) ↦[r.view.set]{fullShare} (r.view.writes (Elt F) f (⟨Rect.unit off s.size inb, w⟩ :: L)) : sProp 𝕄)
      ⊢ (r.view.loc (c : Thread nD τ) ↦[r.view.set]{fullShare} (r.view.rep x)) :=
  pointsTo_rep_of_read (c : Thread nD τ) r _ fullShare x ((View.read_writes_full r.view f inb w L).trans h)

/-- A read of a block of the keys. -/
theorem read_k (r : Memref sig .tc .vmem S16384x128 .bf16) (x : Vec F S16384x128 .bf16) {off : Fin 2 → ℕ} {j m : ℕ} (h : off = koff j m)
    (inb : ∀ a, off a + S256x128.size a ≤ S16384x128.size a) :
    r.view.readAt (Elt F) (Rect.unit (s := S16384x128) off S256x128.size inb).toLoadRect (r.view.rep x) = kwin x j m :=
  View.readAt_rep_unit r.view x inb h (koff_inb j m)

/-- A read of a block of the values. -/
theorem read_v (r : Memref sig .tc .vmem S128x16384 .bf16) (x : Vec F S128x16384 .bf16) {off : Fin 2 → ℕ} {j m : ℕ} (h : off = voff j m)
    (inb : ∀ a, off a + S128x256.size a ≤ S128x16384.size a) :
    r.view.readAt (Elt F) (Rect.unit (s := S128x16384) off S128x256.size inb).toLoadRect (r.view.rep x) = vwin x j m :=
  View.readAt_rep_unit r.view x inb h (voff_inb j m)

/-! Reads of a whole buffer: as it was held, and after a write that covers it. -/

theorem read_q (r : Memref sig .tc .vmem S512x128 .bf16) (x : Vec F S512x128 .bf16) (inb : ∀ a, (![0, 0] : Fin 2 → ℕ) a + S512x128.size a ≤ S512x128.size a) :
    r.view.readAt (Elt F) (Rect.unit (s := S512x128) ![0, 0] S512x128.size inb).toLoadRect (r.view.rep x) = x :=
  View.readAt_rep_full r.view x inb
theorem read_gate (r : Memref sig .tc .vmem S512x128 .f32) (x : Vec F S512x128 .f32) (inb : ∀ a, (![0, 0] : Fin 2 → ℕ) a + S512x128.size a ≤ S512x128.size a) :
    r.view.readAt (Elt F) (Rect.unit (s := S512x128) ![0, 0] S512x128.size inb).toLoadRect (r.view.rep x) = x :=
  View.readAt_rep_full r.view x inb
theorem read_acc (r : Memref sig .tc .vmem S128x512 .f32) (x : Vec F S128x512 .f32) (inb : ∀ a, (![0, 0] : Fin 2 → ℕ) a + S128x512.size a ≤ S128x512.size a) :
    r.view.readAt (Elt F) (Rect.unit (s := S128x512) ![0, 0] S128x512.size inb).toLoadRect (r.view.rep x) = x :=
  View.readAt_rep_full r.view x inb
theorem reread_acc (r : Memref sig .tc .vmem S128x512 .f32) (inb inb' : ∀ a, (![0, 0] : Fin 2 → ℕ) a + S128x512.size a ≤ S128x512.size a) (w : Vec F S128x512 .f32)
    (L : List (View.Piece (Elt F) S128x512 .f32)) :
    r.view.readCov (⟨Rect.unit (s := S128x512) ![0, 0] S128x512.size inb, w⟩ :: L) (Rect.unit (s := S128x512) ![0, 0] S128x512.size inb').toLoadRect = w :=
  View.readCov_full r.view inb inb' w L
theorem read_row (r : Memref sig .tc .vmem S1x512 .f32) (x : Vec F S1x512 .f32) (inb : ∀ a, (![0, 0] : Fin 2 → ℕ) a + S1x512.size a ≤ S1x512.size a) :
    r.view.readAt (Elt F) (Rect.unit (s := S1x512) ![0, 0] S1x512.size inb).toLoadRect (r.view.rep x) = x :=
  View.readAt_rep_full r.view x inb
theorem reread_row (r : Memref sig .tc .vmem S1x512 .f32) (inb inb' : ∀ a, (![0, 0] : Fin 2 → ℕ) a + S1x512.size a ≤ S1x512.size a) (w : Vec F S1x512 .f32)
    (L : List (View.Piece (Elt F) S1x512 .f32)) :
    r.view.readCov (⟨Rect.unit (s := S1x512) ![0, 0] S1x512.size inb, w⟩ :: L) (Rect.unit (s := S1x512) ![0, 0] S1x512.size inb').toLoadRect = w :=
  View.readCov_full r.view inb inb' w L
theorem read_sc (r : Memref sig .tc .vmem S256x512 .f32) (x : Vec F S256x512 .f32) (inb : ∀ a, (![0, 0] : Fin 2 → ℕ) a + S256x512.size a ≤ S256x512.size a) :
    r.view.readAt (Elt F) (Rect.unit (s := S256x512) ![0, 0] S256x512.size inb).toLoadRect (r.view.rep x) = x :=
  View.readAt_rep_full r.view x inb
theorem reread_sc (r : Memref sig .tc .vmem S256x512 .f32) (inb inb' : ∀ a, (![0, 0] : Fin 2 → ℕ) a + S256x512.size a ≤ S256x512.size a) (w : Vec F S256x512 .f32)
    (L : List (View.Piece (Elt F) S256x512 .f32)) :
    r.view.readCov (⟨Rect.unit (s := S256x512) ![0, 0] S256x512.size inb, w⟩ :: L) (Rect.unit (s := S256x512) ![0, 0] S256x512.size inb').toLoadRect = w :=
  View.readCov_full r.view inb inb' w L
theorem read_wt (r : Memref sig .tc .vmem S256x512 .bf16) (x : Vec F S256x512 .bf16) (inb : ∀ a, (![0, 0] : Fin 2 → ℕ) a + S256x512.size a ≤ S256x512.size a) :
    r.view.readAt (Elt F) (Rect.unit (s := S256x512) ![0, 0] S256x512.size inb).toLoadRect (r.view.rep x) = x :=
  View.readAt_rep_full r.view x inb
theorem reread_wt (r : Memref sig .tc .vmem S256x512 .bf16) (inb inb' : ∀ a, (![0, 0] : Fin 2 → ℕ) a + S256x512.size a ≤ S256x512.size a) (w : Vec F S256x512 .bf16)
    (L : List (View.Piece (Elt F) S256x512 .bf16)) :
    r.view.readCov (⟨Rect.unit (s := S256x512) ![0, 0] S256x512.size inb, w⟩ :: L) (Rect.unit (s := S256x512) ![0, 0] S256x512.size inb').toLoadRect = w :=
  View.readCov_full r.view inb inb' w L

end Cert.Proof.KI
-- ==== Proof.KI.Trip2.lean ====
module

public import proofs.«01_k».proof.Proof.KI.State

@[expose] public section

/-!
# One trip of the loop of two steps

The trip is run once over a symbolic counter. What it leaves in each buffer is the model's value two steps on.
-/

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-- One trip from step `n`, at the counter word `acc`. -/
theorem trip5 (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S128x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .bf16) (harg11 : arg11.IsWhole) (arg12 : Memref sig .tc .vmem S1x512 .f32) (harg12 : arg12.IsWhole) (arg13 : Memref sig .tc .vmem S256x512 .bf16) (harg13 : arg13.IsWhole) (arg14 : Memref sig .tc .vmem S1x512 .f32) (harg14 : arg14.IsWhole) (arg1 : BitVec 32) (v5 : FVec F S512x128 .bf16) (v15 : FVec F S272x256 .bf16) (v27 : BitVec 32) (v28 : BitVec 32) (v212 : BitVec 32) (k0_hw6 : k0_chk6 i v212) (v214 : BitVec 32) (v225 : BitVec 1) (v226 : BitVec 32) (k : Fin (k0_t5_loop i v212).trips) (acc : BitVec 32) (hc : k0_chk7 i acc) (j n : ℕ)
    (hk0 : k0_off16 i acc 0#32 = koff j (n + 3))
    (hk1 : k0_off16 i acc 1#32 = koff j (n + 4))
    (hv0 : k0_off17 i acc = voff j (n + 1))
    (hv1 : k0_off18 i acc = voff j (n + 2))
    (x3 : Vec F S16384x128 .bf16) (x4 : Vec F S128x16384 .bf16) (Φ : BitVec 32 → sProp 𝕄) :
    St arg3 arg4 arg7 arg8 arg9 arg10 arg11 arg12 arg13 arg14 v5 v15 x3 x4 j c n ∗ (St arg3 arg4 arg7 arg8 arg9 arg10 arg11 arg12 arg13 arg14 v5 v15 x3 x4 j c (n + 2) -∗ Φ (Scalar.addi acc 2#32))
      ⊢ wp Idealize.ShloMosaic.frame (wpE defs₀ Variants.none (c : Thread nD τ) none) Set.univ (k0_t5_body (F := F) i arg2 harg2 arg3 harg3 arg4 harg4 arg5 harg5 arg6 harg6 arg7 harg7 arg8 harg8 arg9 harg9 arg10 harg10 arg11 harg11 arg12 harg12 arg13 harg13 arg14 harg14 arg1 v5 v15 v27 v28 v212 k0_hw6 v214 v225 v226 k acc) Φ := by
  unfold St
  unfold k0_t5_body
  iintro ⟨⟨H3, H4, H7, H8, H9, H13, H14, ⟨%f10, H10⟩, ⟨%f11, H11⟩, ⟨%f12, H12⟩⟩, Hwand⟩
  sl_exec
  sl_step
  unfold trip5.sl.v431
  iapply Hwand
  isplitl [H3]
  · iexact H3
  isplitl [H4]
  · iexact H4
  isplitl [H7]
  · iapply (hold_write c arg7 _ _ _ _ _ ?_) $$ H7
    sl_unfold_run_names
    simp -proj -dsimp only [reread_acc, reread_row, reread_sc, reread_wt, read_acc, read_row, read_sc, read_wt, read_k arg3 x3 hk0, read_k arg3 x3 hk1, read_v arg4 x4 hv0, read_v arg4 x4 hv1]
    rfl
  isplitl [H8]
  · iapply (hold_write c arg8 _ _ _ _ _ ?_) $$ H8
    sl_unfold_run_names
    simp -proj -dsimp only [reread_acc, reread_row, reread_sc, reread_wt, read_acc, read_row, read_sc, read_wt, read_k arg3 x3 hk0, read_k arg3 x3 hk1, read_v arg4 x4 hv0, read_v arg4 x4 hv1]
    rfl
  isplitl [H9]
  · iapply (hold_write c arg9 _ _ _ _ _ ?_) $$ H9
    sl_unfold_run_names
    simp -proj -dsimp only [reread_acc, reread_row, reread_sc, reread_wt, read_acc, read_row, read_sc, read_wt, read_k arg3 x3 hk0, read_k arg3 x3 hk1, read_v arg4 x4 hv0, read_v arg4 x4 hv1]
    rfl
  isplitl [H13]
  · iapply (hold_write c arg13 _ _ _ _ _ ?_) $$ H13
    sl_unfold_run_names
    simp -proj -dsimp only [reread_acc, reread_row, reread_sc, reread_wt, read_acc, read_row, read_sc, read_wt, read_k arg3 x3 hk0, read_k arg3 x3 hk1, read_v arg4 x4 hv0, read_v arg4 x4 hv1]
    rfl
  isplitl [H14]
  · iapply (hold_write c arg14 _ _ _ _ _ ?_) $$ H14
    sl_unfold_run_names
    simp -proj -dsimp only [reread_acc, reread_row, reread_sc, reread_wt, read_acc, read_row, read_sc, read_wt, read_k arg3 x3 hk0, read_k arg3 x3 hk1, read_v arg4 x4 hv0, read_v arg4 x4 hv1]
    rfl
  isplitl [H10]
  · iexists _
    iexact H10
  isplitl [H11]
  · iexists _
    iexact H11
  · iexists _
    iexact H12

end Cert.Proof.KI
-- ==== Proof.KI.Trip4.lean ====
module

public import proofs.«01_k».proof.Proof.KI.State

@[expose] public section

/-!
# One trip of the loop of four steps

The trip is run once over a symbolic counter. What it leaves in each buffer is the model's value four steps on.
-/

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-- One trip from step `n`, at the counter word `acc`. -/
theorem trip3 (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S128x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .bf16) (harg11 : arg11.IsWhole) (arg12 : Memref sig .tc .vmem S1x512 .f32) (harg12 : arg12.IsWhole) (arg13 : Memref sig .tc .vmem S256x512 .bf16) (harg13 : arg13.IsWhole) (arg14 : Memref sig .tc .vmem S1x512 .f32) (harg14 : arg14.IsWhole) (arg1 : BitVec 32) (v5 : FVec F S512x128 .bf16) (v15 : FVec F S272x256 .bf16) (v27 : BitVec 32) (v28 : BitVec 32) (c0_i32_89 : BitVec 32) (c0_i32_90 : BitVec 32) (v185 : BitVec 32) (c1_i32_92 : BitVec 32) (v187 : BitVec 32) (k0_hw3 : k0_chk3 i v187) (k : Fin (k0_t3_loop i v187).trips) (acc : BitVec 32) (hc : k0_chk4 i acc) (j n : ℕ)
    (hk0 : k0_off10 i acc 0#32 = koff j (n + 3))
    (hk1 : k0_off10 i acc 1#32 = koff j (n + 4))
    (hk2 : k0_off10 i acc 2#32 = koff j (n + 5))
    (hk3 : k0_off10 i acc 3#32 = koff j (n + 6))
    (hv0 : k0_off11 i acc = voff j (n + 1))
    (hv1 : k0_off12 i acc 1#32 = voff j (n + 2))
    (hv2 : k0_off12 i acc 2#32 = voff j (n + 3))
    (hv3 : k0_off12 i acc 3#32 = voff j (n + 4))
    (x3 : Vec F S16384x128 .bf16) (x4 : Vec F S128x16384 .bf16) (Φ : BitVec 32 → sProp 𝕄) :
    St arg3 arg4 arg7 arg8 arg9 arg10 arg11 arg12 arg13 arg14 v5 v15 x3 x4 j c n ∗ (St arg3 arg4 arg7 arg8 arg9 arg10 arg11 arg12 arg13 arg14 v5 v15 x3 x4 j c (n + 4) -∗ Φ (Scalar.addi acc 4#32))
      ⊢ wp Idealize.ShloMosaic.frame (wpE defs₀ Variants.none (c : Thread nD τ) none) Set.univ (k0_t3_body (F := F) i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 v187 k0_hw3 k acc) Φ := by
  unfold St
  unfold k0_t3_body
  iintro ⟨⟨H3, H4, H7, H8, H9, H13, H14, ⟨%f10, H10⟩, ⟨%f11, H11⟩, ⟨%f12, H12⟩⟩, Hwand⟩
  sl_exec
  sl_step
  unfold trip3.sl.v589
  iapply Hwand
  isplitl [H3]
  · iexact H3
  isplitl [H4]
  · iexact H4
  isplitl [H7]
  · iapply (hold_write c arg7 _ _ _ _ _ ?_) $$ H7
    sl_unfold_run_names
    simp -proj -dsimp only [reread_acc, reread_row, reread_sc, reread_wt, read_acc, read_row, read_sc, read_wt, read_k arg3 x3 hk0, read_k arg3 x3 hk1, read_k arg3 x3 hk2, read_k arg3 x3 hk3, read_v arg4 x4 hv0, read_v arg4 x4 hv1, read_v arg4 x4 hv2, read_v arg4 x4 hv3]
    rfl
  isplitl [H8]
  · iapply (hold_write c arg8 _ _ _ _ _ ?_) $$ H8
    sl_unfold_run_names
    simp -proj -dsimp only [reread_acc, reread_row, reread_sc, reread_wt, read_acc, read_row, read_sc, read_wt, read_k arg3 x3 hk0, read_k arg3 x3 hk1, read_k arg3 x3 hk2, read_k arg3 x3 hk3, read_v arg4 x4 hv0, read_v arg4 x4 hv1, read_v arg4 x4 hv2, read_v arg4 x4 hv3]
    rfl
  isplitl [H9]
  · iapply (hold_write c arg9 _ _ _ _ _ ?_) $$ H9
    sl_unfold_run_names
    simp -proj -dsimp only [reread_acc, reread_row, reread_sc, reread_wt, read_acc, read_row, read_sc, read_wt, read_k arg3 x3 hk0, read_k arg3 x3 hk1, read_k arg3 x3 hk2, read_k arg3 x3 hk3, read_v arg4 x4 hv0, read_v arg4 x4 hv1, read_v arg4 x4 hv2, read_v arg4 x4 hv3]
    rfl
  isplitl [H13]
  · iapply (hold_write c arg13 _ _ _ _ _ ?_) $$ H13
    sl_unfold_run_names
    simp -proj -dsimp only [reread_acc, reread_row, reread_sc, reread_wt, read_acc, read_row, read_sc, read_wt, read_k arg3 x3 hk0, read_k arg3 x3 hk1, read_k arg3 x3 hk2, read_k arg3 x3 hk3, read_v arg4 x4 hv0, read_v arg4 x4 hv1, read_v arg4 x4 hv2, read_v arg4 x4 hv3]
    rfl
  isplitl [H14]
  · iapply (hold_write c arg14 _ _ _ _ _ ?_) $$ H14
    sl_unfold_run_names
    simp -proj -dsimp only [reread_acc, reread_row, reread_sc, reread_wt, read_acc, read_row, read_sc, read_wt, read_k arg3 x3 hk0, read_k arg3 x3 hk1, read_k arg3 x3 hk2, read_k arg3 x3 hk3, read_v arg4 x4 hv0, read_v arg4 x4 hv1, read_v arg4 x4 hv2, read_v arg4 x4 hv3]
    rfl
  isplitl [H10]
  · iexists _
    iexact H10
  isplitl [H11]
  · iexists _
    iexact H11
  · iexists _
    iexact H12

end Cert.Proof.KI
-- ==== Proof.KI.Trip8.lean ====
module

public import proofs.«01_k».proof.Proof.KI.State

@[expose] public section

/-!
# One trip of the loop of eight steps

The trip is run once over a symbolic counter. What it leaves in each buffer is the model's value eight steps on.
-/

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-- One trip from step `n`, at the counter word `acc`. -/
theorem trip1 (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S128x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .bf16) (harg11 : arg11.IsWhole) (arg12 : Memref sig .tc .vmem S1x512 .f32) (harg12 : arg12.IsWhole) (arg13 : Memref sig .tc .vmem S256x512 .bf16) (harg13 : arg13.IsWhole) (arg14 : Memref sig .tc .vmem S1x512 .f32) (harg14 : arg14.IsWhole) (arg1 : BitVec 32) (v5 : FVec F S512x128 .bf16) (v15 : FVec F S272x256 .bf16) (v27 : BitVec 32) (v28 : BitVec 32) (c0_i32_89 : BitVec 32) (c0_i32_90 : BitVec 32) (v185 : BitVec 32) (c1_i32_92 : BitVec 32) (k : Fin (k0_t1_loop i).trips) (acc : BitVec 32) (hc : k0_chk1 i k acc) (j n : ℕ)
    (hk0 : k0_off4 i acc 0#32 = koff j (n + 3))
    (hk1 : k0_off4 i acc 1#32 = koff j (n + 4))
    (hk2 : k0_off4 i acc 2#32 = koff j (n + 5))
    (hk3 : k0_off4 i acc 3#32 = koff j (n + 6))
    (hk4 : k0_off4 i acc 4#32 = koff j (n + 7))
    (hk5 : k0_off4 i acc 5#32 = koff j (n + 8))
    (hk6 : k0_off4 i acc 6#32 = koff j (n + 9))
    (hk7 : k0_off4 i acc 7#32 = koff j (n + 10))
    (hv0 : k0_off5 i acc = voff j (n + 1))
    (hv1 : k0_off6 i acc 1#32 = voff j (n + 2))
    (hv2 : k0_off6 i acc 2#32 = voff j (n + 3))
    (hv3 : k0_off6 i acc 3#32 = voff j (n + 4))
    (hv4 : k0_off6 i acc 4#32 = voff j (n + 5))
    (hv5 : k0_off6 i acc 5#32 = voff j (n + 6))
    (hv6 : k0_off6 i acc 6#32 = voff j (n + 7))
    (hv7 : k0_off6 i acc 7#32 = voff j (n + 8))
    (x3 : Vec F S16384x128 .bf16) (x4 : Vec F S128x16384 .bf16) (Φ : BitVec 32 → sProp 𝕄) :
    St arg3 arg4 arg7 arg8 arg9 arg10 arg11 arg12 arg13 arg14 v5 v15 x3 x4 j c n ∗ (St arg3 arg4 arg7 arg8 arg9 arg10 arg11 arg12 arg13 arg14 v5 v15 x3 x4 j c (n + 8) -∗ Φ (Scalar.addi acc 8#32))
      ⊢ wp Idealize.ShloMosaic.frame (wpE defs₀ Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 k acc) Φ := by
  unfold St
  unfold k0_t1_body
  iintro ⟨⟨H3, H4, H7, H8, H9, H13, H14, ⟨%f10, H10⟩, ⟨%f11, H11⟩, ⟨%f12, H12⟩⟩, Hwand⟩
  sl_exec
  sl_step
  unfold trip1.sl.v905
  iapply Hwand
  isplitl [H3]
  · iexact H3
  isplitl [H4]
  · iexact H4
  isplitl [H7]
  · iapply (hold_write c arg7 _ _ _ _ _ ?_) $$ H7
    sl_unfold_run_names
    simp -proj -dsimp only [reread_acc, reread_row, reread_sc, reread_wt, read_acc, read_row, read_sc, read_wt, read_k arg3 x3 hk0, read_k arg3 x3 hk1, read_k arg3 x3 hk2, read_k arg3 x3 hk3, read_k arg3 x3 hk4, read_k arg3 x3 hk5, read_k arg3 x3 hk6, read_k arg3 x3 hk7, read_v arg4 x4 hv0, read_v arg4 x4 hv1, read_v arg4 x4 hv2, read_v arg4 x4 hv3, read_v arg4 x4 hv4, read_v arg4 x4 hv5, read_v arg4 x4 hv6, read_v arg4 x4 hv7]
    rfl
  isplitl [H8]
  · iapply (hold_write c arg8 _ _ _ _ _ ?_) $$ H8
    sl_unfold_run_names
    simp -proj -dsimp only [reread_acc, reread_row, reread_sc, reread_wt, read_acc, read_row, read_sc, read_wt, read_k arg3 x3 hk0, read_k arg3 x3 hk1, read_k arg3 x3 hk2, read_k arg3 x3 hk3, read_k arg3 x3 hk4, read_k arg3 x3 hk5, read_k arg3 x3 hk6, read_k arg3 x3 hk7, read_v arg4 x4 hv0, read_v arg4 x4 hv1, read_v arg4 x4 hv2, read_v arg4 x4 hv3, read_v arg4 x4 hv4, read_v arg4 x4 hv5, read_v arg4 x4 hv6, read_v arg4 x4 hv7]
    rfl
  isplitl [H9]
  · iapply (hold_write c arg9 _ _ _ _ _ ?_) $$ H9
    sl_unfold_run_names
    simp -proj -dsimp only [reread_acc, reread_row, reread_sc, reread_wt, read_acc, read_row, read_sc, read_wt, read_k arg3 x3 hk0, read_k arg3 x3 hk1, read_k arg3 x3 hk2, read_k arg3 x3 hk3, read_k arg3 x3 hk4, read_k arg3 x3 hk5, read_k arg3 x3 hk6, read_k arg3 x3 hk7, read_v arg4 x4 hv0, read_v arg4 x4 hv1, read_v arg4 x4 hv2, read_v arg4 x4 hv3, read_v arg4 x4 hv4, read_v arg4 x4 hv5, read_v arg4 x4 hv6, read_v arg4 x4 hv7]
    rfl
  isplitl [H13]
  · iapply (hold_write c arg13 _ _ _ _ _ ?_) $$ H13
    sl_unfold_run_names
    simp -proj -dsimp only [reread_acc, reread_row, reread_sc, reread_wt, read_acc, read_row, read_sc, read_wt, read_k arg3 x3 hk0, read_k arg3 x3 hk1, read_k arg3 x3 hk2, read_k arg3 x3 hk3, read_k arg3 x3 hk4, read_k arg3 x3 hk5, read_k arg3 x3 hk6, read_k arg3 x3 hk7, read_v arg4 x4 hv0, read_v arg4 x4 hv1, read_v arg4 x4 hv2, read_v arg4 x4 hv3, read_v arg4 x4 hv4, read_v arg4 x4 hv5, read_v arg4 x4 hv6, read_v arg4 x4 hv7]
    rfl
  isplitl [H14]
  · iapply (hold_write c arg14 _ _ _ _ _ ?_) $$ H14
    sl_unfold_run_names
    simp -proj -dsimp only [reread_acc, reread_row, reread_sc, reread_wt, read_acc, read_row, read_sc, read_wt, read_k arg3 x3 hk0, read_k arg3 x3 hk1, read_k arg3 x3 hk2, read_k arg3 x3 hk3, read_k arg3 x3 hk4, read_k arg3 x3 hk5, read_k arg3 x3 hk6, read_k arg3 x3 hk7, read_v arg4 x4 hv0, read_v arg4 x4 hv1, read_v arg4 x4 hv2, read_v arg4 x4 hv3, read_v arg4 x4 hv4, read_v arg4 x4 hv5, read_v arg4 x4 hv6, read_v arg4 x4 hv7]
    rfl
  isplitl [H10]
  · iexists _
    iexact H10
  isplitl [H11]
  · iexists _
    iexact H11
  · iexists _
    iexact H12

end Cert.Proof.KI
-- ==== Proof.KI.Sweep.lean ====
module

public import proofs.«01_k».proof.Proof.KI.Trip2
public import proofs.«01_k».proof.Proof.KI.Trip4
public import proofs.«01_k».proof.Proof.KI.Trip8

@[expose] public section

/-!
# The three loops of one grid point

The sweep counts its steps by a loop of eight steps a trip, then one of four, then one of two. Each keeps the model's
state: before a trip the counter word is the number of steps done, and the buffers hold the state at that step.
-/

set_option maxRecDepth 16384
set_option maxHeartbeats 1000000

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

theorem addw (n k : ℕ) : Scalar.addi (BitVec.ofNat 32 n) (BitVec.ofNat 32 k) = BitVec.ofNat 32 (n + k) := by
  show BitVec.ofNat 32 n + BitVec.ofNat 32 k = _
  rw [BitVec.ofNat_add]

/-- Before trip `k` of the loop of eight steps. -/
def inv1 (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S128x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .bf16) (harg11 : arg11.IsWhole) (arg12 : Memref sig .tc .vmem S1x512 .f32) (harg12 : arg12.IsWhole) (arg13 : Memref sig .tc .vmem S256x512 .bf16) (harg13 : arg13.IsWhole) (arg14 : Memref sig .tc .vmem S1x512 .f32) (harg14 : arg14.IsWhole) (arg1 : BitVec 32) (v5 : FVec F S512x128 .bf16) (v15 : FVec F S272x256 .bf16) (v27 : BitVec 32) (v28 : BitVec 32) (c0_i32_89 : BitVec 32) (c0_i32_90 : BitVec 32) (v185 : BitVec 32) (c1_i32_92 : BitVec 32)
    (x3 : Vec F S16384x128 .bf16) (x4 : Vec F S128x16384 .bf16) (k : ℕ) (a : BitVec 32) : sProp 𝕄 :=
  iprop(⌜a = BitVec.ofNat 32 (n8 k)⌝ ∗ St arg3 arg4 arg7 arg8 arg9 arg10 arg11 arg12 arg13 arg14 v5 v15 x3 x4 (i 1).val c (n8 k))

theorem step1 (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S128x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .bf16) (harg11 : arg11.IsWhole) (arg12 : Memref sig .tc .vmem S1x512 .f32) (harg12 : arg12.IsWhole) (arg13 : Memref sig .tc .vmem S256x512 .bf16) (harg13 : arg13.IsWhole) (arg14 : Memref sig .tc .vmem S1x512 .f32) (harg14 : arg14.IsWhole) (arg1 : BitVec 32) (v5 : FVec F S512x128 .bf16) (v15 : FVec F S272x256 .bf16) (v27 : BitVec 32) (v28 : BitVec 32) (c0_i32_89 : BitVec 32) (c0_i32_90 : BitVec 32) (v185 : BitVec 32) (c1_i32_92 : BitVec 32)
    (x3 : Vec F S16384x128 .bf16) (x4 : Vec F S128x16384 .bf16) (k : Fin (k0_t1_loop i).trips) (a : BitVec 32) :
    inv1 c i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 x3 x4 k.val a ⊢ wp Idealize.ShloMosaic.frame (wpE defs₀ Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 k a)
      (inv1 c i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 x3 x4 (k.val + 1)) := by
  unfold inv1
  iintro ⟨%ha, H⟩
  subst ha
  iapply (trip1 c i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 k _ (chk1_cj (i 1) k) (i 1).val (n8 k.val)
    (off4_cj (i 1) k 0)
    (off4_cj (i 1) k 1)
    (off4_cj (i 1) k 2)
    (off4_cj (i 1) k 3)
    (off4_cj (i 1) k 4)
    (off4_cj (i 1) k 5)
    (off4_cj (i 1) k 6)
    (off4_cj (i 1) k 7)
    (off5_cj (i 1) k)
    (off6_cj (i 1) k 0)
    (off6_cj (i 1) k 1)
    (off6_cj (i 1) k 2)
    (off6_cj (i 1) k 3)
    (off6_cj (i 1) k 4)
    (off6_cj (i 1) k 5)
    (off6_cj (i 1) k 6)
    x3 x4)
  isplitl [H]
  · iexact H
  · iintro H
    isplitr [H]
    · ipureintro
      exact addw _ 8
    · iexact H

@[instance_reducible] def loop1 (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S128x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .bf16) (harg11 : arg11.IsWhole) (arg12 : Memref sig .tc .vmem S1x512 .f32) (harg12 : arg12.IsWhole) (arg13 : Memref sig .tc .vmem S256x512 .bf16) (harg13 : arg13.IsWhole) (arg14 : Memref sig .tc .vmem S1x512 .f32) (harg14 : arg14.IsWhole) (arg1 : BitVec 32) (v5 : FVec F S512x128 .bf16) (v15 : FVec F S272x256 .bf16) (v27 : BitVec 32) (v28 : BitVec 32) (c0_i32_89 : BitVec 32) (c0_i32_90 : BitVec 32) (v185 : BitVec 32) (c1_i32_92 : BitVec 32)
    (x3 : Vec F S16384x128 .bf16) (x4 : Vec F S128x16384 .bf16) :
    LoopInv (M := 𝕄) Idealize.ShloMosaic.frame (wpE defs₀ Variants.none (c : Thread nD τ) none) Set.univ (k0_t1_loop i).lb (k0_t1_loop i).ub (k0_t1_loop i).st (k0_t1_ok i) (0#32)
      (k0_t1_body (F := F) i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92) where
  inv := inv1 c i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 x3 x4
  step := step1 c i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 x3 x4

theorem enter1 (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S128x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .bf16) (harg11 : arg11.IsWhole) (arg12 : Memref sig .tc .vmem S1x512 .f32) (harg12 : arg12.IsWhole) (arg13 : Memref sig .tc .vmem S256x512 .bf16) (harg13 : arg13.IsWhole) (arg14 : Memref sig .tc .vmem S1x512 .f32) (harg14 : arg14.IsWhole) (arg1 : BitVec 32) (v5 : FVec F S512x128 .bf16) (v15 : FVec F S272x256 .bf16) (v27 : BitVec 32) (v28 : BitVec 32) (c0_i32_89 : BitVec 32) (c0_i32_90 : BitVec 32) (v185 : BitVec 32) (c1_i32_92 : BitVec 32)
    (x3 : Vec F S16384x128 .bf16) (x4 : Vec F S128x16384 .bf16) : St arg3 arg4 arg7 arg8 arg9 arg10 arg11 arg12 arg13 arg14 v5 v15 x3 x4 (i 1).val c (n8 0) ⊢ inv1 c i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 x3 x4 0 (0#32) := by
  unfold inv1
  iintro H
  isplitr
  · ipureintro
    rfl
  · iexact H

theorem leave1 (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S128x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .bf16) (harg11 : arg11.IsWhole) (arg12 : Memref sig .tc .vmem S1x512 .f32) (harg12 : arg12.IsWhole) (arg13 : Memref sig .tc .vmem S256x512 .bf16) (harg13 : arg13.IsWhole) (arg14 : Memref sig .tc .vmem S1x512 .f32) (harg14 : arg14.IsWhole) (arg1 : BitVec 32) (v5 : FVec F S512x128 .bf16) (v15 : FVec F S272x256 .bf16) (v27 : BitVec 32) (v28 : BitVec 32) (c0_i32_89 : BitVec 32) (c0_i32_90 : BitVec 32) (v185 : BitVec 32) (c1_i32_92 : BitVec 32)
    (x3 : Vec F S16384x128 .bf16) (x4 : Vec F S128x16384 .bf16) (k : ℕ) (a : BitVec 32) : inv1 c i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 x3 x4 k a ⊢ iprop(⌜a = BitVec.ofNat 32 (n8 k)⌝ ∗ St arg3 arg4 arg7 arg8 arg9 arg10 arg11 arg12 arg13 arg14 v5 v15 x3 x4 (i 1).val c (n8 k)) := .rfl

/-- The loop of eight steps, from the state before it to the state after it. -/
theorem sweep1 (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S128x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .bf16) (harg11 : arg11.IsWhole) (arg12 : Memref sig .tc .vmem S1x512 .f32) (harg12 : arg12.IsWhole) (arg13 : Memref sig .tc .vmem S256x512 .bf16) (harg13 : arg13.IsWhole) (arg14 : Memref sig .tc .vmem S1x512 .f32) (harg14 : arg14.IsWhole) (arg1 : BitVec 32) (v5 : FVec F S512x128 .bf16) (v15 : FVec F S272x256 .bf16) (v27 : BitVec 32) (v28 : BitVec 32) (c0_i32_89 : BitVec 32) (c0_i32_90 : BitVec 32) (v185 : BitVec 32) (c1_i32_92 : BitVec 32)
    (x3 : Vec F S16384x128 .bf16) (x4 : Vec F S128x16384 .bf16) {β : Type} {kk : BitVec 32 → Prog (TpuEff nD τ sig (Elt F) Λ₀ .tc) β} {Q : β → sProp 𝕄} :
    St arg3 arg4 arg7 arg8 arg9 arg10 arg11 arg12 arg13 arg14 v5 v15 x3 x4 (i 1).val c (n8 0) ⊢ iprop((St arg3 arg4 arg7 arg8 arg9 arg10 arg11 arg12 arg13 arg14 v5 v15 x3 x4 (i 1).val c (n4 (i 1).val 0) -∗ wp Idealize.ShloMosaic.frame (wpE defs₀ Variants.none (c : Thread nD τ) none) Set.univ (kk (BitVec.ofNat 32 (n4 (i 1).val 0))) Q)
      -∗ wp Idealize.ShloMosaic.frame (wpE defs₀ Variants.none (c : Thread nD τ) none) Set.univ (Scf.Loop.for (k0_t1_loop i) (k0_t1_ok i) (0#32) (k0_t1_body (F := F) i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92) >>= kk) Q) := by
  have h : n8 (k0_t1_loop i).trips = n4 (i 1).val 0 := by
    have := trips1_cj (i 1)
    have hj := (i 1).isLt
    change (k0_t1_loop i).trips = _ at this
    rw [this]
    unfold n8 n4
    omega
  iintro HS HK
  iapply (exec_loop _ _ _ _ _ _ _ _ _ (loop1 c i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 x3 x4)) $$ [HS]
  · iapply (enter1 c i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 x3 x4)
    iexact HS
  iintro %a HI
  ihave ⟨%ha, HS⟩ := (leave1 c i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 x3 x4 (k0_t1_loop i).trips a) $$ HI
  subst ha
  rw [h]
  iapply HK
  iexact HS

/-- Before trip `k` of the loop of four steps. -/
def inv3 (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S128x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .bf16) (harg11 : arg11.IsWhole) (arg12 : Memref sig .tc .vmem S1x512 .f32) (harg12 : arg12.IsWhole) (arg13 : Memref sig .tc .vmem S256x512 .bf16) (harg13 : arg13.IsWhole) (arg14 : Memref sig .tc .vmem S1x512 .f32) (harg14 : arg14.IsWhole) (arg1 : BitVec 32) (v5 : FVec F S512x128 .bf16) (v15 : FVec F S272x256 .bf16) (v27 : BitVec 32) (v28 : BitVec 32) (c0_i32_89 : BitVec 32) (c0_i32_90 : BitVec 32) (v185 : BitVec 32) (c1_i32_92 : BitVec 32) (k0_hw3 : k0_chk3 i (BitVec.ofNat 32 (n4 (i 1).val 0)))
    (x3 : Vec F S16384x128 .bf16) (x4 : Vec F S128x16384 .bf16) (k : ℕ) (a : BitVec 32) : sProp 𝕄 :=
  iprop(⌜a = BitVec.ofNat 32 (n4 (i 1).val k)⌝ ∗ St arg3 arg4 arg7 arg8 arg9 arg10 arg11 arg12 arg13 arg14 v5 v15 x3 x4 (i 1).val c (n4 (i 1).val k))

theorem step3 (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S128x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .bf16) (harg11 : arg11.IsWhole) (arg12 : Memref sig .tc .vmem S1x512 .f32) (harg12 : arg12.IsWhole) (arg13 : Memref sig .tc .vmem S256x512 .bf16) (harg13 : arg13.IsWhole) (arg14 : Memref sig .tc .vmem S1x512 .f32) (harg14 : arg14.IsWhole) (arg1 : BitVec 32) (v5 : FVec F S512x128 .bf16) (v15 : FVec F S272x256 .bf16) (v27 : BitVec 32) (v28 : BitVec 32) (c0_i32_89 : BitVec 32) (c0_i32_90 : BitVec 32) (v185 : BitVec 32) (c1_i32_92 : BitVec 32) (k0_hw3 : k0_chk3 i (BitVec.ofNat 32 (n4 (i 1).val 0)))
    (x3 : Vec F S16384x128 .bf16) (x4 : Vec F S128x16384 .bf16) (k : Fin (k0_t3_loop i (BitVec.ofNat 32 (n4 (i 1).val 0))).trips) (a : BitVec 32) :
    inv3 c i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 k0_hw3 x3 x4 k.val a ⊢ wp Idealize.ShloMosaic.frame (wpE defs₀ Variants.none (c : Thread nD τ) none) Set.univ (k0_t3_body (F := F) i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 (BitVec.ofNat 32 (n4 (i 1).val 0)) k0_hw3 k a)
      (inv3 c i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 k0_hw3 x3 x4 (k.val + 1)) := by
  unfold inv3
  iintro ⟨%ha, H⟩
  subst ha
  iapply (trip3 c i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 (BitVec.ofNat 32 (n4 (i 1).val 0)) k0_hw3 k _ (chk4_cj (i 1) k) (i 1).val (n4 (i 1).val k.val)
    (off10_cj (i 1) k 0)
    (off10_cj (i 1) k 1)
    (off10_cj (i 1) k 2)
    (off10_cj (i 1) k 3)
    (off11_cj (i 1) k)
    (off12_cj (i 1) k 0)
    (off12_cj (i 1) k 1)
    (off12_cj (i 1) k 2)
    x3 x4)
  isplitl [H]
  · iexact H
  · iintro H
    isplitr [H]
    · ipureintro
      exact addw _ 4
    · iexact H

@[instance_reducible] def loop3 (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S128x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .bf16) (harg11 : arg11.IsWhole) (arg12 : Memref sig .tc .vmem S1x512 .f32) (harg12 : arg12.IsWhole) (arg13 : Memref sig .tc .vmem S256x512 .bf16) (harg13 : arg13.IsWhole) (arg14 : Memref sig .tc .vmem S1x512 .f32) (harg14 : arg14.IsWhole) (arg1 : BitVec 32) (v5 : FVec F S512x128 .bf16) (v15 : FVec F S272x256 .bf16) (v27 : BitVec 32) (v28 : BitVec 32) (c0_i32_89 : BitVec 32) (c0_i32_90 : BitVec 32) (v185 : BitVec 32) (c1_i32_92 : BitVec 32) (k0_hw3 : k0_chk3 i (BitVec.ofNat 32 (n4 (i 1).val 0)))
    (x3 : Vec F S16384x128 .bf16) (x4 : Vec F S128x16384 .bf16) :
    LoopInv (M := 𝕄) Idealize.ShloMosaic.frame (wpE defs₀ Variants.none (c : Thread nD τ) none) Set.univ (k0_t3_loop i (BitVec.ofNat 32 (n4 (i 1).val 0))).lb (k0_t3_loop i (BitVec.ofNat 32 (n4 (i 1).val 0))).ub (k0_t3_loop i (BitVec.ofNat 32 (n4 (i 1).val 0))).st (k0_t3_ok i (BitVec.ofNat 32 (n4 (i 1).val 0)) k0_hw3) (BitVec.ofNat 32 (n4 (i 1).val 0))
      (k0_t3_body (F := F) i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 (BitVec.ofNat 32 (n4 (i 1).val 0)) k0_hw3) where
  inv := inv3 c i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 k0_hw3 x3 x4
  step := step3 c i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 k0_hw3 x3 x4

theorem enter3 (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S128x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .bf16) (harg11 : arg11.IsWhole) (arg12 : Memref sig .tc .vmem S1x512 .f32) (harg12 : arg12.IsWhole) (arg13 : Memref sig .tc .vmem S256x512 .bf16) (harg13 : arg13.IsWhole) (arg14 : Memref sig .tc .vmem S1x512 .f32) (harg14 : arg14.IsWhole) (arg1 : BitVec 32) (v5 : FVec F S512x128 .bf16) (v15 : FVec F S272x256 .bf16) (v27 : BitVec 32) (v28 : BitVec 32) (c0_i32_89 : BitVec 32) (c0_i32_90 : BitVec 32) (v185 : BitVec 32) (c1_i32_92 : BitVec 32) (k0_hw3 : k0_chk3 i (BitVec.ofNat 32 (n4 (i 1).val 0)))
    (x3 : Vec F S16384x128 .bf16) (x4 : Vec F S128x16384 .bf16) : St arg3 arg4 arg7 arg8 arg9 arg10 arg11 arg12 arg13 arg14 v5 v15 x3 x4 (i 1).val c (n4 (i 1).val 0) ⊢ inv3 c i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 k0_hw3 x3 x4 0 (BitVec.ofNat 32 (n4 (i 1).val 0)) := by
  unfold inv3
  iintro H
  isplitr
  · ipureintro
    rfl
  · iexact H

theorem leave3 (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S128x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .bf16) (harg11 : arg11.IsWhole) (arg12 : Memref sig .tc .vmem S1x512 .f32) (harg12 : arg12.IsWhole) (arg13 : Memref sig .tc .vmem S256x512 .bf16) (harg13 : arg13.IsWhole) (arg14 : Memref sig .tc .vmem S1x512 .f32) (harg14 : arg14.IsWhole) (arg1 : BitVec 32) (v5 : FVec F S512x128 .bf16) (v15 : FVec F S272x256 .bf16) (v27 : BitVec 32) (v28 : BitVec 32) (c0_i32_89 : BitVec 32) (c0_i32_90 : BitVec 32) (v185 : BitVec 32) (c1_i32_92 : BitVec 32) (k0_hw3 : k0_chk3 i (BitVec.ofNat 32 (n4 (i 1).val 0)))
    (x3 : Vec F S16384x128 .bf16) (x4 : Vec F S128x16384 .bf16) (k : ℕ) (a : BitVec 32) : inv3 c i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 k0_hw3 x3 x4 k a ⊢ iprop(⌜a = BitVec.ofNat 32 (n4 (i 1).val k)⌝ ∗ St arg3 arg4 arg7 arg8 arg9 arg10 arg11 arg12 arg13 arg14 v5 v15 x3 x4 (i 1).val c (n4 (i 1).val k)) := .rfl

/-- The loop of four steps, from the state before it to the state after it. -/
theorem sweep3 (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S128x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .bf16) (harg11 : arg11.IsWhole) (arg12 : Memref sig .tc .vmem S1x512 .f32) (harg12 : arg12.IsWhole) (arg13 : Memref sig .tc .vmem S256x512 .bf16) (harg13 : arg13.IsWhole) (arg14 : Memref sig .tc .vmem S1x512 .f32) (harg14 : arg14.IsWhole) (arg1 : BitVec 32) (v5 : FVec F S512x128 .bf16) (v15 : FVec F S272x256 .bf16) (v27 : BitVec 32) (v28 : BitVec 32) (c0_i32_89 : BitVec 32) (c0_i32_90 : BitVec 32) (v185 : BitVec 32) (c1_i32_92 : BitVec 32) (k0_hw3 : k0_chk3 i (BitVec.ofNat 32 (n4 (i 1).val 0)))
    (x3 : Vec F S16384x128 .bf16) (x4 : Vec F S128x16384 .bf16) {β : Type} {kk : BitVec 32 → Prog (TpuEff nD τ sig (Elt F) Λ₀ .tc) β} {Q : β → sProp 𝕄} :
    St arg3 arg4 arg7 arg8 arg9 arg10 arg11 arg12 arg13 arg14 v5 v15 x3 x4 (i 1).val c (n4 (i 1).val 0) ⊢ iprop((St arg3 arg4 arg7 arg8 arg9 arg10 arg11 arg12 arg13 arg14 v5 v15 x3 x4 (i 1).val c (n2 (i 1).val 0) -∗ wp Idealize.ShloMosaic.frame (wpE defs₀ Variants.none (c : Thread nD τ) none) Set.univ (kk (BitVec.ofNat 32 (n2 (i 1).val 0))) Q)
      -∗ wp Idealize.ShloMosaic.frame (wpE defs₀ Variants.none (c : Thread nD τ) none) Set.univ (Scf.Loop.for (k0_t3_loop i (BitVec.ofNat 32 (n4 (i 1).val 0))) (k0_t3_ok i (BitVec.ofNat 32 (n4 (i 1).val 0)) k0_hw3) (BitVec.ofNat 32 (n4 (i 1).val 0)) (k0_t3_body (F := F) i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 (BitVec.ofNat 32 (n4 (i 1).val 0)) k0_hw3) >>= kk) Q) := by
  have h : n4 (i 1).val (k0_t3_loop i (BitVec.ofNat 32 (n4 (i 1).val 0))).trips = n2 (i 1).val 0 := by
    have := trips3_cj (i 1)
    have hj := (i 1).isLt
    change (k0_t3_loop i (BitVec.ofNat 32 (n4 (i 1).val 0))).trips = _ at this
    rw [this]
    unfold n4 n2
    omega
  iintro HS HK
  iapply (exec_loop _ _ _ _ _ _ _ _ _ (loop3 c i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 k0_hw3 x3 x4)) $$ [HS]
  · iapply (enter3 c i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 k0_hw3 x3 x4)
    iexact HS
  iintro %a HI
  ihave ⟨%ha, HS⟩ := (leave3 c i arg2 harg2 arg3 harg3 arg4 harg4 arg5 harg5 arg6 harg6 arg7 harg7 arg8 harg8 arg9 harg9 arg10 harg10 arg11 harg11 arg12 harg12 arg13 harg13 arg14 harg14 arg1 v5 v15 v27 v28 c0_i32_89 c0_i32_90 v185 c1_i32_92 k0_hw3 x3 x4 (k0_t3_loop i (BitVec.ofNat 32 (n4 (i 1).val 0))).trips a) $$ HI
  subst ha
  rw [h]
  iapply HK
  iexact HS

/-- Before trip `k` of the loop of two steps. -/
def inv5 (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S128x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .bf16) (harg11 : arg11.IsWhole) (arg12 : Memref sig .tc .vmem S1x512 .f32) (harg12 : arg12.IsWhole) (arg13 : Memref sig .tc .vmem S256x512 .bf16) (harg13 : arg13.IsWhole) (arg14 : Memref sig .tc .vmem S1x512 .f32) (harg14 : arg14.IsWhole) (arg1 : BitVec 32) (v5 : FVec F S512x128 .bf16) (v15 : FVec F S272x256 .bf16) (v27 : BitVec 32) (v28 : BitVec 32) (k0_hw6 : k0_chk6 i (BitVec.ofNat 32 (n2 (i 1).val 0))) (v214 : BitVec 32) (v225 : BitVec 1) (v226 : BitVec 32)
    (x3 : Vec F S16384x128 .bf16) (x4 : Vec F S128x16384 .bf16) (k : ℕ) (a : BitVec 32) : sProp 𝕄 :=
  iprop(⌜a = BitVec.ofNat 32 (n2 (i 1).val k)⌝ ∗ St arg3 arg4 arg7 arg8 arg9 arg10 arg11 arg12 arg13 arg14 v5 v15 x3 x4 (i 1).val c (n2 (i 1).val k))

theorem step5 (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S128x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .bf16) (harg11 : arg11.IsWhole) (arg12 : Memref sig .tc .vmem S1x512 .f32) (harg12 : arg12.IsWhole) (arg13 : Memref sig .tc .vmem S256x512 .bf16) (harg13 : arg13.IsWhole) (arg14 : Memref sig .tc .vmem S1x512 .f32) (harg14 : arg14.IsWhole) (arg1 : BitVec 32) (v5 : FVec F S512x128 .bf16) (v15 : FVec F S272x256 .bf16) (v27 : BitVec 32) (v28 : BitVec 32) (k0_hw6 : k0_chk6 i (BitVec.ofNat 32 (n2 (i 1).val 0))) (v214 : BitVec 32) (v225 : BitVec 1) (v226 : BitVec 32)
    (x3 : Vec F S16384x128 .bf16) (x4 : Vec F S128x16384 .bf16) (k : Fin (k0_t5_loop i (BitVec.ofNat 32 (n2 (i 1).val 0))).trips) (a : BitVec 32) :
    inv5 c i arg2 harg2 arg3 harg3 arg4 harg4 arg5 harg5 arg6 harg6 arg7 harg7 arg8 harg8 arg9 harg9 arg10 harg10 arg11 harg11 arg12 harg12 arg13 harg13 arg14 harg14 arg1 v5 v15 v27 v28 k0_hw6 v214 v225 v226 x3 x4 k.val a ⊢ wp Idealize.ShloMosaic.frame (wpE defs₀ Variants.none (c : Thread nD τ) none) Set.univ (k0_t5_body (F := F) i arg2 harg2 arg3 harg3 arg4 harg4 arg5 harg5 arg6 harg6 arg7 harg7 arg8 harg8 arg9 harg9 arg10 harg10 arg11 harg11 arg12 harg12 arg13 harg13 arg14 harg14 arg1 v5 v15 v27 v28 (BitVec.ofNat 32 (n2 (i 1).val 0)) k0_hw6 v214 v225 v226 k a)
      (inv5 c i arg2 harg2 arg3 harg3 arg4 harg4 arg5 harg5 arg6 harg6 arg7 harg7 arg8 harg8 arg9 harg9 arg10 harg10 arg11 harg11 arg12 harg12 arg13 harg13 arg14 harg14 arg1 v5 v15 v27 v28 k0_hw6 v214 v225 v226 x3 x4 (k.val + 1)) := by
  unfold inv5
  iintro ⟨%ha, H⟩
  subst ha
  iapply (trip5 c i arg2 harg2 arg3 harg3 arg4 harg4 arg5 harg5 arg6 harg6 arg7 harg7 arg8 harg8 arg9 harg9 arg10 harg10 arg11 harg11 arg12 harg12 arg13 harg13 arg14 harg14 arg1 v5 v15 v27 v28 (BitVec.ofNat 32 (n2 (i 1).val 0)) k0_hw6 v214 v225 v226 k _ (chk7_cj (i 1) k) (i 1).val (n2 (i 1).val k.val)
    (off16_cj (i 1) k 0)
    (off16_cj (i 1) k 1)
    (off17_cj (i 1) k)
    (off18_cj (i 1) k)
    x3 x4)
  isplitl [H]
  · iexact H
  · iintro H
    isplitr [H]
    · ipureintro
      exact addw _ 2
    · iexact H

@[instance_reducible] def loop5 (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S128x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .bf16) (harg11 : arg11.IsWhole) (arg12 : Memref sig .tc .vmem S1x512 .f32) (harg12 : arg12.IsWhole) (arg13 : Memref sig .tc .vmem S256x512 .bf16) (harg13 : arg13.IsWhole) (arg14 : Memref sig .tc .vmem S1x512 .f32) (harg14 : arg14.IsWhole) (arg1 : BitVec 32) (v5 : FVec F S512x128 .bf16) (v15 : FVec F S272x256 .bf16) (v27 : BitVec 32) (v28 : BitVec 32) (k0_hw6 : k0_chk6 i (BitVec.ofNat 32 (n2 (i 1).val 0))) (v214 : BitVec 32) (v225 : BitVec 1) (v226 : BitVec 32)
    (x3 : Vec F S16384x128 .bf16) (x4 : Vec F S128x16384 .bf16) :
    LoopInv (M := 𝕄) Idealize.ShloMosaic.frame (wpE defs₀ Variants.none (c : Thread nD τ) none) Set.univ (k0_t5_loop i (BitVec.ofNat 32 (n2 (i 1).val 0))).lb (k0_t5_loop i (BitVec.ofNat 32 (n2 (i 1).val 0))).ub (k0_t5_loop i (BitVec.ofNat 32 (n2 (i 1).val 0))).st (k0_t5_ok i (BitVec.ofNat 32 (n2 (i 1).val 0)) k0_hw6) (BitVec.ofNat 32 (n2 (i 1).val 0))
      (k0_t5_body (F := F) i arg2 harg2 arg3 harg3 arg4 harg4 arg5 harg5 arg6 harg6 arg7 harg7 arg8 harg8 arg9 harg9 arg10 harg10 arg11 harg11 arg12 harg12 arg13 harg13 arg14 harg14 arg1 v5 v15 v27 v28 (BitVec.ofNat 32 (n2 (i 1).val 0)) k0_hw6 v214 v225 v226) where
  inv := inv5 c i arg2 harg2 arg3 harg3 arg4 harg4 arg5 harg5 arg6 harg6 arg7 harg7 arg8 harg8 arg9 harg9 arg10 harg10 arg11 harg11 arg12 harg12 arg13 harg13 arg14 harg14 arg1 v5 v15 v27 v28 k0_hw6 v214 v225 v226 x3 x4
  step := step5 c i arg2 harg2 arg3 harg3 arg4 harg4 arg5 harg5 arg6 harg6 arg7 harg7 arg8 harg8 arg9 harg9 arg10 harg10 arg11 harg11 arg12 harg12 arg13 harg13 arg14 harg14 arg1 v5 v15 v27 v28 k0_hw6 v214 v225 v226 x3 x4

theorem enter5 (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S128x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .bf16) (harg11 : arg11.IsWhole) (arg12 : Memref sig .tc .vmem S1x512 .f32) (harg12 : arg12.IsWhole) (arg13 : Memref sig .tc .vmem S256x512 .bf16) (harg13 : arg13.IsWhole) (arg14 : Memref sig .tc .vmem S1x512 .f32) (harg14 : arg14.IsWhole) (arg1 : BitVec 32) (v5 : FVec F S512x128 .bf16) (v15 : FVec F S272x256 .bf16) (v27 : BitVec 32) (v28 : BitVec 32) (k0_hw6 : k0_chk6 i (BitVec.ofNat 32 (n2 (i 1).val 0))) (v214 : BitVec 32) (v225 : BitVec 1) (v226 : BitVec 32)
    (x3 : Vec F S16384x128 .bf16) (x4 : Vec F S128x16384 .bf16) : St arg3 arg4 arg7 arg8 arg9 arg10 arg11 arg12 arg13 arg14 v5 v15 x3 x4 (i 1).val c (n2 (i 1).val 0) ⊢ inv5 c i arg2 harg2 arg3 harg3 arg4 harg4 arg5 harg5 arg6 harg6 arg7 harg7 arg8 harg8 arg9 harg9 arg10 harg10 arg11 harg11 arg12 harg12 arg13 harg13 arg14 harg14 arg1 v5 v15 v27 v28 k0_hw6 v214 v225 v226 x3 x4 0 (BitVec.ofNat 32 (n2 (i 1).val 0)) := by
  unfold inv5
  iintro H
  isplitr
  · ipureintro
    rfl
  · iexact H

theorem leave5 (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S128x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .bf16) (harg11 : arg11.IsWhole) (arg12 : Memref sig .tc .vmem S1x512 .f32) (harg12 : arg12.IsWhole) (arg13 : Memref sig .tc .vmem S256x512 .bf16) (harg13 : arg13.IsWhole) (arg14 : Memref sig .tc .vmem S1x512 .f32) (harg14 : arg14.IsWhole) (arg1 : BitVec 32) (v5 : FVec F S512x128 .bf16) (v15 : FVec F S272x256 .bf16) (v27 : BitVec 32) (v28 : BitVec 32) (k0_hw6 : k0_chk6 i (BitVec.ofNat 32 (n2 (i 1).val 0))) (v214 : BitVec 32) (v225 : BitVec 1) (v226 : BitVec 32)
    (x3 : Vec F S16384x128 .bf16) (x4 : Vec F S128x16384 .bf16) (k : ℕ) (a : BitVec 32) : inv5 c i arg2 harg2 arg3 harg3 arg4 harg4 arg5 harg5 arg6 harg6 arg7 harg7 arg8 harg8 arg9 harg9 arg10 harg10 arg11 harg11 arg12 harg12 arg13 harg13 arg14 harg14 arg1 v5 v15 v27 v28 k0_hw6 v214 v225 v226 x3 x4 k a ⊢ iprop(⌜a = BitVec.ofNat 32 (n2 (i 1).val k)⌝ ∗ St arg3 arg4 arg7 arg8 arg9 arg10 arg11 arg12 arg13 arg14 v5 v15 x3 x4 (i 1).val c (n2 (i 1).val k)) := .rfl

/-- The loop of two steps, from the state before it to the state after it. -/
theorem sweep5 (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S128x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .bf16) (harg11 : arg11.IsWhole) (arg12 : Memref sig .tc .vmem S1x512 .f32) (harg12 : arg12.IsWhole) (arg13 : Memref sig .tc .vmem S256x512 .bf16) (harg13 : arg13.IsWhole) (arg14 : Memref sig .tc .vmem S1x512 .f32) (harg14 : arg14.IsWhole) (arg1 : BitVec 32) (v5 : FVec F S512x128 .bf16) (v15 : FVec F S272x256 .bf16) (v27 : BitVec 32) (v28 : BitVec 32) (k0_hw6 : k0_chk6 i (BitVec.ofNat 32 (n2 (i 1).val 0))) (v214 : BitVec 32) (v225 : BitVec 1) (v226 : BitVec 32)
    (x3 : Vec F S16384x128 .bf16) (x4 : Vec F S128x16384 .bf16) {β : Type} {kk : BitVec 32 → Prog (TpuEff nD τ sig (Elt F) Λ₀ .tc) β} {Q : β → sProp 𝕄} :
    St arg3 arg4 arg7 arg8 arg9 arg10 arg11 arg12 arg13 arg14 v5 v15 x3 x4 (i 1).val c (n2 (i 1).val 0) ⊢ iprop((St arg3 arg4 arg7 arg8 arg9 arg10 arg11 arg12 arg13 arg14 v5 v15 x3 x4 (i 1).val c (2 * (i 1).val) -∗ wp Idealize.ShloMosaic.frame (wpE defs₀ Variants.none (c : Thread nD τ) none) Set.univ (kk (BitVec.ofNat 32 (2 * (i 1).val))) Q)
      -∗ wp Idealize.ShloMosaic.frame (wpE defs₀ Variants.none (c : Thread nD τ) none) Set.univ (Scf.Loop.for (k0_t5_loop i (BitVec.ofNat 32 (n2 (i 1).val 0))) (k0_t5_ok i (BitVec.ofNat 32 (n2 (i 1).val 0)) k0_hw6) (BitVec.ofNat 32 (n2 (i 1).val 0)) (k0_t5_body (F := F) i arg2 harg2 arg3 harg3 arg4 harg4 arg5 harg5 arg6 harg6 arg7 harg7 arg8 harg8 arg9 harg9 arg10 harg10 arg11 harg11 arg12 harg12 arg13 harg13 arg14 harg14 arg1 v5 v15 v27 v28 (BitVec.ofNat 32 (n2 (i 1).val 0)) k0_hw6 v214 v225 v226) >>= kk) Q) := by
  have h : n2 (i 1).val (k0_t5_loop i (BitVec.ofNat 32 (n2 (i 1).val 0))).trips = 2 * (i 1).val := by
    have := trips5_cj (i 1)
    have hj := (i 1).isLt
    change (k0_t5_loop i (BitVec.ofNat 32 (n2 (i 1).val 0))).trips = _ at this
    rw [this]
    unfold n2
    omega
  iintro HS HK
  iapply (exec_loop _ _ _ _ _ _ _ _ _ (loop5 c i arg2 harg2 arg3 harg3 arg4 harg4 arg5 harg5 arg6 harg6 arg7 harg7 arg8 harg8 arg9 harg9 arg10 harg10 arg11 harg11 arg12 harg12 arg13 harg13 arg14 harg14 arg1 v5 v15 v27 v28 k0_hw6 v214 v225 v226 x3 x4)) $$ [HS]
  · iapply (enter5 c i arg2 harg2 arg3 harg3 arg4 harg4 arg5 harg5 arg6 harg6 arg7 harg7 arg8 harg8 arg9 harg9 arg10 harg10 arg11 harg11 arg12 harg12 arg13 harg13 arg14 harg14 arg1 v5 v15 v27 v28 k0_hw6 v214 v225 v226 x3 x4)
    iexact HS
  iintro %a HI
  ihave ⟨%ha, HS⟩ := (leave5 c i arg2 harg2 arg3 harg3 arg4 harg4 arg5 harg5 arg6 harg6 arg7 harg7 arg8 harg8 arg9 harg9 arg10 harg10 arg11 harg11 arg12 harg12 arg13 harg13 arg14 harg14 arg1 v5 v15 v27 v28 k0_hw6 v214 v225 v226 x3 x4 (k0_t5_loop i (BitVec.ofNat 32 (n2 (i 1).val 0))).trips a) $$ HI
  subst ha
  rw [h]
  iapply HK
  iexact HS

end Cert.Proof.KI
-- ==== Proof.KI.Body.lean ====
module

public import proofs.«01_k».proof.Proof.KI.Sweep

@[expose] public section

/-!
# The body at one grid point

From the blocks of the queries, keys, values and gates the body leaves in its output block the accumulator after the
last step, transposed and gated.
-/

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-- What the body leaves in its output block. -/
def outv (x2 : Vec F S512x128 .bf16) (x3 : Vec F S16384x128 .bf16) (x4 : Vec F S128x16384 .bf16) (x5 : Vec F S512x128 .f32) (j : ℕ) : Vec F S512x128 .bf16 :=
  k0_pay1 (acc (k0_pay234 x2) k0_pay235 x3 x4 j (2 * j + 2)) x5

theorem body_run (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S128x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .bf16) (harg11 : arg11.IsWhole) (arg12 : Memref sig .tc .vmem S1x512 .f32) (harg12 : arg12.IsWhole) (arg13 : Memref sig .tc .vmem S256x512 .bf16) (harg13 : arg13.IsWhole) (arg14 : Memref sig .tc .vmem S1x512 .f32) (harg14 : arg14.IsWhole) (x2 : Vec F S512x128 .bf16) (x3 : Vec F S16384x128 .bf16) (x4 : Vec F S128x16384 .bf16) (x5 : Vec F S512x128 .f32)
    (Φ : PUnit → sProp 𝕄) :
    ((arg2.view.loc (c : Thread nD τ) ↦[arg2.view.set]{fullShare} (arg2.view.rep x2)) ∗ (arg3.view.loc (c : Thread nD τ) ↦[arg3.view.set]{fullShare} (arg3.view.rep x3)) ∗ (arg4.view.loc (c : Thread nD τ) ↦[arg4.view.set]{fullShare} (arg4.view.rep x4)) ∗ (arg5.view.loc (c : Thread nD τ) ↦[arg5.view.set]{fullShare} (arg5.view.rep x5)) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f))) ∗ (((arg2.view.loc (c : Thread nD τ) ↦[arg2.view.set]{fullShare} (arg2.view.rep x2)) ∗ (arg3.view.loc (c : Thread nD τ) ↦[arg3.view.set]{fullShare} (arg3.view.rep x3)) ∗ (arg4.view.loc (c : Thread nD τ) ↦[arg4.view.set]{fullShare} (arg4.view.rep x4)) ∗ (arg5.view.loc (c : Thread nD τ) ↦[arg5.view.set]{fullShare} (arg5.view.rep x5)) ∗ (arg6.view.loc (c : Thread nD τ) ↦[arg6.view.set]{fullShare} (arg6.view.rep (outv x2 x3 x4 x5 (i 1).val))) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f))) -∗ Φ ⟨⟩)
      ⊢ wp Idealize.ShloMosaic.frame (wpE defs₀ Variants.none (c : Thread nD τ) none) Set.univ (cc0_mixer_b (F := F) i arg2 harg2 arg3 harg3 arg4 harg4 arg5 harg5 arg6 harg6 arg7 harg7 arg8 harg8 arg9 harg9 arg10 harg10 arg11 harg11 arg12 harg12 arg13 harg13 arg14 harg14) Φ := by
  rw [cc0_mixer_b_eq_skeleton]
  unfold cc0_mixer_b_skel
  iintro ⟨⟨H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩⟩, Hwand⟩
  have hc3 := chk3_cj (i 1)
  change k0_chk3 i _ at hc3
  have hc6 := chk6_cj (i 1)
  change k0_chk6 i _ at hc6
  have hk1 : k0_off1 i 1#32 = koff (i 1).val 0 := off1_cj (i 1) 1
  have hk0 : k0_off1 i 0#32 = koff (i 1).val 1 := off1_cj (i 1) 0
  have hk2 : k0_off2 i = koff (i 1).val 2 := off2_cj (i 1)
  have hv0 : k0_off3 i = voff (i 1).val 0 := off3_cj (i 1)
  have hv1 : k0_off22 i = voff (i 1).val (2 * (i 1).val + 1) := off22_cj (i 1)
  have ht2 : (k0_t2_loop i).trips = 0 := trips2_cj (i 1)
  have ht4 : (k0_t4_loop i (BitVec.ofNat 32 (n4 (i 1).val 0))).trips = 0 := trips4_cj (i 1)
  have ht6 : (k0_t6_loop i (BitVec.ofNat 32 (n2 (i 1).val 0))).trips = 0 := trips6_cj (i 1)
  sl_exec
  ihave HS : (St arg3 arg4 arg7 arg8 arg9 arg10 arg11 arg12 arg13 arg14 (k0_pay234 x2) k0_pay235 x3 x4 (i 1).val c (n8 0)) $$ [H3 H4 H7 H8 H9 H10 H11 H12 H13 H14]
  · unfold St
    isplitl [H3]
    · iexact H3
    isplitl [H4]
    · iexact H4
    isplitl [H7]
    · iapply (pointsTo_rep_of_read (c : Thread nD τ) arg7 _ fullShare _ ?_) $$ H7
      sl_unfold_run_names
      refine (View.read_writes_full _ _ _ _ _).trans ?_
      simp -proj -dsimp only [reread_acc, reread_row, reread_sc, reread_wt, read_q, read_k arg3 x3 hk2, read_k arg3 x3 hk1,
        read_k arg3 x3 hk0, read_v arg4 x4 hv0]
      rfl
    isplitl [H8]
    · iapply (pointsTo_rep_of_read (c : Thread nD τ) arg8 _ fullShare _ ?_) $$ H8
      sl_unfold_run_names
      refine (View.read_writes_full _ _ _ _ _).trans ?_
      simp -proj -dsimp only [reread_acc, reread_row, reread_sc, reread_wt, read_q, read_k arg3 x3 hk2, read_k arg3 x3 hk1,
        read_k arg3 x3 hk0, read_v arg4 x4 hv0]
      rfl
    isplitl [H9]
    · iapply (pointsTo_rep_of_read (c : Thread nD τ) arg9 _ fullShare _ ?_) $$ H9
      sl_unfold_run_names
      refine (View.read_writes_full _ _ _ _ _).trans ?_
      simp -proj -dsimp only [reread_acc, reread_row, reread_sc, reread_wt, read_q, read_k arg3 x3 hk2, read_k arg3 x3 hk1,
        read_k arg3 x3 hk0, read_v arg4 x4 hv0]
      rfl
    isplitl [H13]
    · iapply (pointsTo_rep_of_read (c : Thread nD τ) arg13 _ fullShare _ ?_) $$ H13
      sl_unfold_run_names
      refine (View.read_writes_full _ _ _ _ _).trans ?_
      simp -proj -dsimp only [reread_acc, reread_row, reread_sc, reread_wt, read_q, read_k arg3 x3 hk2, read_k arg3 x3 hk1,
        read_k arg3 x3 hk0, read_v arg4 x4 hv0]
      rfl
    isplitl [H14]
    · iapply (pointsTo_rep_of_read (c : Thread nD τ) arg14 _ fullShare _ ?_) $$ H14
      sl_unfold_run_names
      refine (View.read_writes_full _ _ _ _ _).trans ?_
      simp -proj -dsimp only [reread_acc, reread_row, reread_sc, reread_wt, read_q, read_k arg3 x3 hk2, read_k arg3 x3 hk1,
        read_k arg3 x3 hk0, read_v arg4 x4 hv0]
      rfl
    isplitl [H10]
    · iexists _
      iexact H10
    isplitl [H11]
    · iexists _
      iexact H11
    · iexists _
      iexact H12
  rw [show body_run.sl.r arg2 x2 = k0_pay234 x2 from congrArg k0_pay234 (read_q arg2 x2 _)]
  iapply (sweep1 c i arg2 harg2 arg3 harg3 arg4 harg4 arg5 harg5 arg6 harg6 arg7 harg7 arg8 harg8 arg9 harg9 arg10
    harg10 arg11 harg11 arg12 harg12 arg13 harg13 arg14 harg14 _ _ _ _ _ _ _ _ _ x3 x4) $$ HS
  iintro HS
  sl_exec
  iapply (sweep3 c i arg2 harg2 arg3 harg3 arg4 harg4 arg5 harg5 arg6 harg6 arg7 harg7 arg8 harg8 arg9 harg9 arg10
    harg10 arg11 harg11 arg12 harg12 arg13 harg13 arg14 harg14 _ _ _ _ _ _ _ _ _ _ x3 x4) $$ HS
  iintro HS
  sl_exec
  iapply (sweep5 c i arg2 harg2 arg3 harg3 arg4 harg4 arg5 harg5 arg6 harg6 arg7 harg7 arg8 harg8 arg9 harg9 arg10
    harg10 arg11 harg11 arg12 harg12 arg13 harg13 arg14 harg14 _ _ _ _ _ _ _ _ _ x3 x4) $$ HS
  iintro HS
  sl_exec
  unfold St
  icases HS with ⟨H3, H4, H7, H8, H9, H13, H14, ⟨%g10, H10⟩, ⟨%g11, H11⟩, ⟨%g12, H12⟩⟩
  sl_exec
  sl_step
  iapply Hwand
  isplitl [H2]
  · iexact H2
  isplitl [H3]
  · iexact H3
  isplitl [H4]
  · iexact H4
  isplitl [H5]
  · iexact H5
  isplitl [H6]
  · iapply (pointsTo_rep_of_read (c : Thread nD τ) arg6 _ fullShare _ ?_) $$ H6
    sl_unfold_run_names
    refine (View.read_writes_full _ _ _ _ _).trans ?_
    simp -proj -dsimp only [reread_acc, reread_row, reread_sc, reread_wt, read_acc, read_row, read_sc, read_wt, read_gate, read_v arg4 x4 hv1]
    rfl
  isplitl [H7]
  · iexists _
    iexact H7
  isplitl [H8]
  · iexists _
    iexact H8
  isplitl [H9]
  · iexists _
    iexact H9
  isplitl [H10]
  · iexists _
    iexact H10
  isplitl [H11]
  · iexists _
    iexact H11
  isplitl [H12]
  · iexists _
    iexact H12
  isplitl [H13]
  · iexists _
    iexact H13
  · iexists _
    iexact H14

end Cert.Proof.KI
-- ==== Proof.KI.Run.lean ====
module

public import proofs.«01_k».proof.Proof.KI.Body
public import proofs.«01_k».proof.Proof.Gen.KernelIdeal.Frame
public import Idealize.ShloMosaic.Lib.Claim

@[expose] public section

/-! # The pipeline's run

At each grid point the four staged inputs hold their blocks and the body leaves the tile `outv` of those blocks in the
output's staging buffer; the scratch buffers hold anything between points. -/

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The tile the body leaves at point `t`. -/
def tile (c : Dev nD) (t : Fin cfg0.N) : Vec F S512x128 .bf16 :=
  outv (iblk m c 0 t) (iblk m c 1 t) (iblk m c 2 t) (iblk m c 3 t) (grid0.coords t 1).val

/-- What each window holds after the body at each point; the two windows on one array hold half of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tile m c t
  Φ _ := Pipeline.ΦA spec0 c
  q w := Pipeline.shareOf spec0 w
  owed _ := 0

theorem dats_A (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = tile m c t := by dsimp only [dats]
theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d

/-- What the body finds at a point and what it leaves. -/
def atStart (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def atEnd (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- A buffer held at known contents is held at the contents' representative. -/
theorem owns_rep {sp : Space} {s : Shape} {e : EltTy} (c : Dev nD) (r : Memref sig .tc sp s e) (X : s.Idx → Elt F e) :
    (owns (c : Thread nD τ) r fullShare X : sProp 𝕄) ⊢ (r.view.loc (c : Thread nD τ) ↦[r.view.set]{fullShare} (r.view.rep X)) := by
  unfold owns
  iintro ⟨%f, %hf, H⟩
  iapply (pointsTo_rep_of_read (c : Thread nD τ) r f fullShare X hf)
  iexact H

theorem rep_owns {sp : Space} {s : Shape} {e : EltTy} (c : Dev nD) (r : Memref sig .tc sp s e) (X : s.Idx → Elt F e) :
    (r.view.loc (c : Thread nD τ) ↦[r.view.set]{fullShare} (r.view.rep X)) ⊢ (owns (c : Thread nD τ) r fullShare X : sProp 𝕄) := by
  unfold owns
  iintro H
  iexists _
  isplitr
  · ipureintro; exact View.read_rep _ _
  iexact H

/-- A buffer held whole is held through its whole view. -/
theorem whole_eq (c : Dev nD) (b : Ref sig .tc) :
    (iprop(∃ f : Buf (Elt F) ((c : Thread nD τ).loc b), ((c : Thread nD τ).loc b) ↦{fullShare} f) : sProp 𝕄)
      = iprop(∃ f, ((Memref.whole b).view.loc (c : Thread nD τ) ↦[(Memref.whole b).view.set]{fullShare} f)) := by
  rw [Memref.view_whole, View.set_whole]

theorem body_at (c : Dev nD) (t : Fin cfg0.N) :
    atStart m c t ⊢ wp frame (wpE (defs₀ (F := F)) Variants.none (c : Thread nD τ) none) Set.univ (bodyAt0 t) (fun _ => atEnd m c t) := by
  unfold atStart atEnd bodyAt0
  simp only [before_0, before_1, before_2, before_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4]
  unfold Pipeline.ΦA tile
  rw [scopedRest0_eq]
  simp only [whole_eq]
  iintro ⟨⟨⟨K0, K1, K2, K3, K4, K5, K6, K7⟩, Hg⟩, Ho, ⟨%d0, H0⟩, ⟨%d1, H1⟩, ⟨%d2, H2⟩, ⟨%d3, H3⟩, ⟨%d4, H4⟩⟩
  ihave G0 := owns_rep c (st0_0 t) (iblk m c 0 t) $$ H0
  ihave G1 := owns_rep c (st0_1 t) (iblk m c 1 t) $$ H1
  ihave G2 := owns_rep c (st0_2 t) (iblk m c 2 t) $$ H2
  ihave G3 := owns_rep c (st0_3 t) (iblk m c 3 t) $$ H3
  ihave G4 := owns_rep c (st0_4 t) _ $$ H4
  iapply (body_run c (grid0.coords t) (st0_0 t) _ (st0_1 t) _ (st0_2 t) _ (st0_3 t) _ (st0_4 t) _
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (iblk m c 0 t) (iblk m c 1 t) (iblk m c 2 t) (iblk m c 3 t) _)
  isplitl [G0 G1 G2 G3 G4 K0 K1 K2 K3 K4 K5 K6 K7]
  · isplitl [G0]; · iexact G0
    isplitl [G1]; · iexact G1
    isplitl [G2]; · iexact G2
    isplitl [G3]; · iexact G3
    isplitl [G4]; · iexists _; iexact G4
    isplitl [K0]; · iexact K0
    isplitl [K1]; · iexact K1
    isplitl [K2]; · iexact K2
    isplitl [K3]; · iexact K3
    isplitl [K4]; · iexact K4
    isplitl [K5]; · iexact K5
    isplitl [K6]; · iexact K6
    iexact K7
  iintro ⟨G0, G1, G2, G3, G4, K0, K1, K2, K3, K4, K5, K6, K7⟩
  isplitl [Hg K0 K1 K2 K3 K4 K5 K6 K7]
  · isplitl [K0 K1 K2 K3 K4 K5 K6 K7]
    · isplitl [K0]; · iexact K0
      isplitl [K1]; · iexact K1
      isplitl [K2]; · iexact K2
      isplitl [K3]; · iexact K3
      isplitl [K4]; · iexact K4
      isplitl [K5]; · iexact K5
      isplitl [K6]; · iexact K6
      iexact K7
    iexact Hg
  isplitl [Ho]; · iexact Ho
  isplitl [G0]; · iapply (rep_owns c (st0_0 t) (iblk m c 0 t)); iexact G0
  isplitl [G1]; · iapply (rep_owns c (st0_1 t) (iblk m c 1 t)); iexact G1
  isplitl [G2]; · iapply (rep_owns c (st0_2 t) (iblk m c 2 t)); iexact G2
  isplitl [G3]; · iapply (rep_owns c (st0_3 t) (iblk m c 3 t)); iexact G3
  iapply (rep_owns c (st0_4 t) _); iexact G4

/-- The body the pipeline calls at a point's slots. -/
theorem body_row (t : Fin cfg0.N) : defs₀ (F := F) .tc cfg0.body (cfg0.bodyArgs t (cfg0.slots t)) = bodyAt0 t := by
  unfold defs₀; rw [Defs.onTc_tc]

theorem body_obl (c : Dev nD) : BodyObligation (dats (F := F) m 0 c) (defs₀ (F := F)) Variants.none () Set.univ := fun t => by
  rw [bigSep_W0, bigSep_W0, body_row]
  exact triple_restated (body_at m c t) rfl .rfl fun _ => .rfl

set_option backward.isDefEq.respectTransparency.types false in
/-- Every execution ends, each array at what the points' tiles make of it and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obl m c).loose) (hq := fun _ _ _ => rfl)
    (howed := fun _ _ => rfl) (V := V m) (hmain := hmain m Variants.none) (hA := dats_A m) (hΦ := fun _ _ => rfl)

/-- The arguments end unchanged and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (dats_A m) ((θ_run defs _ _).mono (fun _ h => h.1) (run_quiet m ρ)))
    ((θ_run defs _ _).mono (fun _ h => h.2) (run_quiet m ρ))

end Cert.Proof.KI

end
-- ==== Proof.Value.Out.lean ====
module

public import proofs.«01_k».proof.Proof.Value.Step
public import proofs.«01_k».proof.Proof.Value.Block
public import proofs.«01_k».proof.Proof.KI.Run

@[expose] public section

/-!
# The output tile of one grid point

When the queries, keys and values are real numbers, the tile at head `h` and query tile `j` holds at query `i` and
head column `d` the weighted sum of the values' column `d` over the earlier keys, times the gate.
-/

set_option maxRecDepth 16384

noncomputable section

namespace Cert.Proof.Val

open Cert.KernelIdeal Cert.KernelIdeal.Gen
open Idealize.ShloMosaic Idealize.ShloMosaic.TcCoe Finset
open scoped BigOperators

local notation "𝕀" => Idealize.ShloMosaic.Ideal

/-- The score of key `t` for query `i` in head `h`, from the projection's columns. -/
def score (P : ℕ → ℕ → ℝ) (h i t : ℕ) : ℝ :=
  (∑ e : Fin 128, P i (4096 + 128 * h + e.val) * P t (5120 + 128 * h + e.val)) * (Real.sqrt 128)⁻¹

/-- The weighted sum of the values' column `d` at query `i`. -/
def mix (P : ℕ → ℕ → ℝ) (h i d : ℕ) : ℝ :=
  ∑ t : Fin 16384, wn (score P h i) i 16384 t.val * P t.val (6144 + 128 * h + d)

/-- The keys of a step are a run of 256 rows. -/
theorem kwin_at (xk : Vec 𝕀 S16384x128 .bf16) (j mm : ℕ) (hj : j < 32) (hm : mm < 2 * j + 2) (r : Fin 256) (e : Fin 128)
    (hr : 256 * (2 * j + 1 - mm) + r.val < 16384) :
    KI.kwin (F := 𝕀) xk j mm (ix2 r e) = xk (ix2 ⟨256 * (2 * j + 1 - mm) + r.val, hr⟩ e) := by
  unfold KI.kwin VecWindow.window
  refine congrArg xk (funext fun b => Fin.ext ?_)
  match b with
  | ⟨0, _⟩ => show 256 * KI.blk j mm + 1 * r.val = 256 * (2 * j + 1 - mm) + r.val; unfold KI.blk; omega
  | ⟨1, _⟩ => show 0 + 1 * e.val = e.val; omega

/-- The values of a step are a run of 256 columns. -/
theorem vwin_at (xv : Vec 𝕀 S128x16384 .bf16) (j mm : ℕ) (hj : j < 32) (hm : mm < 2 * j + 2) (d : Fin 128) (r : Fin 256)
    (hr : 256 * (2 * j + 1 - mm) + r.val < 16384) :
    KI.vwin (F := 𝕀) xv j mm (ix2 d r) = xv (ix2 d ⟨256 * (2 * j + 1 - mm) + r.val, hr⟩) := by
  unfold KI.vwin VecWindow.window
  refine congrArg xv (funext fun b => Fin.ext ?_)
  match b with
  | ⟨0, _⟩ => show 0 + 1 * d.val = d.val; omega
  | ⟨1, _⟩ => show 256 * KI.blk j mm + 1 * r.val = 256 * (2 * j + 1 - mm) + r.val; unfold KI.blk; omega

variable (m : (ℓ : Loc nD τ sig) → Buf (Elt 𝕀) ℓ) (c : Dev nD)

theorem tile_at (P : ℕ → ℕ → ℝ)
    (hP : ∀ (a : Fin 16384) (n : Fin 8192), 4096 ≤ n.val → n.val < 7168 → proj m c (ix2 a n) = ((P a.val n.val : ℝ) : EReal))
    (t : Fin cfg0.N) (r : Fin 512) (d : Fin 128) (a : Fin 16384) (n : Fin 8192)
    (ha : a.val = 512 * (grid0.coords t 1).val + r.val) (hn : n.val = 7168 + 128 * (grid0.coords t 0).val + d.val) :
    KI.tile (F := 𝕀) m c t (ix2 r d) = ((mix P (grid0.coords t 0).val a.val d.val : ℝ) : EReal) *
      (proj m c (ix2 a n) * Ideal.logistic (proj m c (ix2 a n))) := by
  have hh := head_lt t
  have hj := tile_lt t
  have hr := r.isLt
  have hd := d.isLt
  have hs : ∀ mm, mm < 2 * (grid0.coords t 1).val + 2 → ∀ r' : Fin 256,
      KI.sc (F := 𝕀) (k0_pay234 (iblk m c 0 t)) (iblk m c 1 t) (grid0.coords t 1).val mm (ix2 r' r) =
        ((score P (grid0.coords t 0).val a.val (256 * (2 * (grid0.coords t 1).val + 1 - mm) + r'.val) * (Real.log 2)⁻¹ : ℝ) : EReal) := by
    intro mm hm r'
    have hr' := r'.isLt
    unfold KI.sc
    rw [pay2_at, score, mul_assoc, Finset.sum_mul, coe_sum]
    refine sum_congr rfl fun e _ => ?_
    have he := e.isLt
    rw [pay234_at, kwin_at _ _ _ hj hm r' e (by omega),
      blk0_at m c t r e a ⟨4096 + 128 * (grid0.coords t 0).val + e.val, by omega⟩ ha rfl,
      blk1_at m c t _ e ⟨5120 + 128 * (grid0.coords t 0).val + e.val, by omega⟩ rfl,
      hP _ _ (by simp only []; omega) (by simp only []; omega), hP _ _ (by simp only []; omega) (by simp only []; omega),
      ← EReal.coe_mul, ← EReal.coe_mul]
    congr 1
    ring
  have hv : ∀ mm, mm < 2 * (grid0.coords t 1).val + 2 → ∀ r' : Fin 256,
      KI.vwin (F := 𝕀) (iblk m c 2 t) (grid0.coords t 1).val mm (ix2 d r') =
        ((P (256 * (2 * (grid0.coords t 1).val + 1 - mm) + r'.val) (6144 + 128 * (grid0.coords t 0).val + d.val) : ℝ) : EReal) := by
    intro mm hm r'
    have hr' := r'.isLt
    rw [vwin_at _ _ _ hj hm d r' (by omega),
      blk2_at m c t _ d ⟨6144 + 128 * (grid0.coords t 0).val + d.val, by omega⟩ rfl,
      hP _ _ (by simp only []; omega) (by simp only []; omega)]
  unfold KI.tile KI.outv
  rw [pay1_at, blk3_at m c t r d a n ha hn,
    acc_at _ _ _ _ hj r (fun u => score P (grid0.coords t 0).val a.val u * (Real.log 2)⁻¹) hs d
      (fun u => P u (6144 + 128 * (grid0.coords t 0).val + d.val)) hv _ le_rfl, Nat.sub_self, Nat.mul_zero, ← ha,
    total_eq _ _ _ _ 16384 (by omega) (by omega)]
  rfl

theorem gate_lt (y : S16384x1024.Idx) : 7168 + (y 1).val < 8192 := by
  have h : (y 1).val < 1024 := (y 1).isLt
  omega

/-- The mixer's output at an entry: the weighted sum of the values times the gate. -/
def mixed (x : Vec 𝕀 S16384x8192 .f32) (P : ℕ → ℕ → ℝ) (y : S16384x1024.Idx) : EReal :=
  ((mix P ((y 1).val / 128) (y 0).val ((y 1).val % 128) : ℝ) : EReal) *
    (x (ix2 (y 0) ⟨7168 + (y 1).val, gate_lt y⟩) * Ideal.logistic (x (ix2 (y 0) ⟨7168 + (y 1).val, gate_lt y⟩)))

/-- The array the launch leaves. -/
theorem out_eq (P : ℕ → ℕ → ℝ)
    (hP : ∀ (a : Fin 16384) (n : Fin 8192), 4096 ≤ n.val → n.val < 7168 → proj m c (ix2 a n) = ((P a.val n.val : ℝ) : EReal)) :
    (KI.dats (F := 𝕀) m 0 c).arrAt 4 cfg0.N = mixed (proj m c) P := by
  refine (KI.dats m 0 c).arrAt_eq_of_covers 4 _ (by decide +kernel) fun t hf y => ?_
  blk_simp
  rw [KI.after_4]
  have hh := head_lt t
  have hj := tile_lt t
  idx_vars y
  have hr := y0.isLt
  have hd := y1.isLt
  have hx : (win0_4.blk t).view.emb (ix2 y0 y1) =
      ix2 ⟨512 * (grid0.coords t 1).val + y0.val, by omega⟩ ⟨128 * (grid0.coords t 0).val + y1.val, by omega⟩ := by
    blk_ext [idx t]
  refine (tile_at m c P hP t y0 y1 ⟨512 * (grid0.coords t 1).val + y0.val, by omega⟩
    ⟨7168 + (128 * (grid0.coords t 0).val + y1.val), by omega⟩ rfl (by simp only []; omega)).trans ?_
  refine Eq.trans ?_ (congrArg (mixed (proj m c) P) hx).symm
  unfold mixed
  simp only [show (ix2 (⟨512 * (grid0.coords t 1).val + y0.val, by omega⟩ : Fin 16384)
      (⟨128 * (grid0.coords t 0).val + y1.val, by omega⟩ : Fin 1024) : S16384x1024.Idx) 1 =
      (⟨128 * (grid0.coords t 0).val + y1.val, by omega⟩ : Fin 1024) from rfl,
    show (ix2 (⟨512 * (grid0.coords t 1).val + y0.val, by omega⟩ : Fin 16384)
      (⟨128 * (grid0.coords t 0).val + y1.val, by omega⟩ : Fin 1024) : S16384x1024.Idx) 0 =
      (⟨512 * (grid0.coords t 1).val + y0.val, by omega⟩ : Fin 16384) from rfl,
    show (128 * (grid0.coords t 0).val + y1.val) / 128 = (grid0.coords t 0).val by omega,
    show (128 * (grid0.coords t 0).val + y1.val) % 128 = y1.val by omega]

end Cert.Proof.Val
-- ==== Proof.Value.Cumsum.lean ====
module

public import Idealize.ShloMosaic.PureOps.Ideal
public import Idealize.ShloMosaic.Lib.Pointwise

@[expose] public section

/-!
# A reversed running sum, entry by entry

A windowed sum over the last axis, the window as long as the axis and padded high by one less, holds at each place
the sum of the entries from that place on.
-/

namespace Cert.Proof.Val

open Idealize.ShloMosaic Finset
open scoped BigOperators

local notation "𝕀" => Idealize.ShloMosaic.Ideal

theorem foldl_add {ι : Type*} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The indices of a one-row window are its last coordinates. -/
def lastEquiv (N : ℕ) : Fin N ≃ (⟨3, ![1, 1, N]⟩ : Shape).Idx where
  toFun k := ix3 0 0 k
  invFun w := w 2
  left_inv k := rfl
  right_inv w := by
    funext a
    match a with
    | ⟨0, _⟩ => exact Subsingleton.elim (α := Fin 1) _ _
    | ⟨1, _⟩ => exact Subsingleton.elim (α := Fin 1) _ _
    | ⟨2, _⟩ => rfl

theorem sum_shift (y : ℕ → EReal) (t N : ℕ) (ht : t ≤ N) :
    (∑ k : Fin N, if t + k.val < N then y (t + k.val) else 0) = ∑ s ∈ Ico t N, y s := by
  rw [sum_Ico_eq_sum_range, Fin.sum_univ_eq_sum_range (fun k => if t + k < N then y (t + k) else 0) N, ← sum_filter]
  refine sum_congr (Finset.ext fun k => ?_) fun _ _ => rfl
  simp only [mem_filter, mem_range]
  omega

/-- The windowed sum at a place is the sum of the entries from there on. -/
theorem reverse_cumsum_at {A N L : ℕ} (x : (⟨3, ![A, N, N]⟩ : Shape).Idx → EReal) (init : (⟨0, ![]⟩ : Shape).Idx → EReal)
    (h : (⟨3, ![A, N, N]⟩ : Shape).ReduceWindows (![1, 1, N] : Fin 3 → Nat) ![1, 1, 1] ![0, 0, 0] ![0, 0, L] (⟨3, ![A, N, N]⟩ : Shape))
    (hu : 0 < (⟨0, ![]⟩ : Shape).numel) (hi : ∀ j, init j = 0) (a : Fin A) (i t : Fin N) (y : ℕ → EReal)
    (hx : ∀ s : Fin N, x (ix3 a i s) = y s.val) :
    Host.reduceWindowAdd (F := 𝕀) (φ := .f32) ![1, 1, N] ![1, 1, 1] ![0, 0, 0] ![0, 0, L] x init h hu (ix3 a i t) =
      ∑ s ∈ Ico t.val N, y s := by
  have ht := t.isLt
  have ha := a.isLt
  have hii := i.isLt
  unfold Host.reduceWindowAdd
  change Ideal.hostReduceWindowAdd _ _ _ _ _ _ _ _ = _
  unfold Ideal.hostReduceWindowAdd Host.reduceWindow
  dsimp only
  rw [hi]
  rw [foldl_add, zero_add, ← Fin.sum_univ_def, ← sum_shift y t.val N ht.le,
    ← Equiv.sum_comp ((lastEquiv N).trans (Shape.rowMajor ⟨3, ![1, 1, N]⟩))]
  refine sum_congr rfl fun k _ => ?_
  have hk := k.isLt
  generalize hn : ((lastEquiv N).trans (Shape.rowMajor ⟨3, ![1, 1, N]⟩)) k = n
  have e : (Shape.rowMajor ⟨3, ![1, 1, N]⟩).symm n = ix3 0 0 k := by
    rw [← hn]
    exact Equiv.symm_apply_apply _ _
  have e0 : ((Shape.rowMajor ⟨3, ![1, 1, N]⟩).symm n 0).val = 0 := by rw [e]; rfl
  have e1 : ((Shape.rowMajor ⟨3, ![1, 1, N]⟩).symm n 1).val = 0 := by rw [e]; rfl
  have e2 : ((Shape.rowMajor ⟨3, ![1, 1, N]⟩).symm n 2).val = k.val := by rw [e]; rfl
  by_cases hlt : t.val + k.val < N
  · rw [if_pos hlt, dif_pos]
    · rw [← hx ⟨t.val + k.val, hlt⟩]
      congr 1
      funext b
      apply Fin.ext
      match b with
      | ⟨0, _⟩ => show a.val * 1 + ((Shape.rowMajor ⟨3, ![1, 1, N]⟩).symm n 0).val - 0 = a.val; omega
      | ⟨1, _⟩ => show i.val * 1 + ((Shape.rowMajor ⟨3, ![1, 1, N]⟩).symm n 1).val - 0 = i.val; omega
      | ⟨2, _⟩ => show t.val * 1 + ((Shape.rowMajor ⟨3, ![1, 1, N]⟩).symm n 2).val - 0 = t.val + k.val; omega
    · intro b
      match b with
      | ⟨0, _⟩ => show 0 ≤ a.val * 1 + ((Shape.rowMajor ⟨3, ![1, 1, N]⟩).symm n 0).val ∧
          a.val * 1 + ((Shape.rowMajor ⟨3, ![1, 1, N]⟩).symm n 0).val - 0 < A; omega
      | ⟨1, _⟩ => show 0 ≤ i.val * 1 + ((Shape.rowMajor ⟨3, ![1, 1, N]⟩).symm n 1).val ∧
          i.val * 1 + ((Shape.rowMajor ⟨3, ![1, 1, N]⟩).symm n 1).val - 0 < N; omega
      | ⟨2, _⟩ => show 0 ≤ t.val * 1 + ((Shape.rowMajor ⟨3, ![1, 1, N]⟩).symm n 2).val ∧
          t.val * 1 + ((Shape.rowMajor ⟨3, ![1, 1, N]⟩).symm n 2).val - 0 < N; omega
  · rw [if_neg hlt, dif_neg]
    intro hin
    have := (hin 2).2
    change t.val * 1 + ((Shape.rowMajor ⟨3, ![1, 1, N]⟩).symm n 2).val - 0 < N at this
    omega

end Cert.Proof.Val
-- ==== Proof.Value.Ref.lean ====
module

public import proofs.«01_k».proof.Proof.Value.Out
public import proofs.«01_k».proof.Proof.Value.Cumsum
public import proofs.«01_k».proof.Proof.Gen.ReferenceIdeal.Read
public import Idealize.ShloMosaic.Lib.WordCmp

@[expose] public section

/-!
# The reference, entry by entry

When the query, key and value columns are real numbers, the reference's scores, running sums and weights are the
real numbers of `score`, `nk` and `wn`, and its output is the same term as the kernel's.
-/

set_option maxRecDepth 16384

noncomputable section

namespace Cert.Proof.Val

open Cert.ReferenceIdeal Cert.ReferenceIdeal.Gen Cert.ReferenceIdeal.Read
open Idealize.ShloMosaic Idealize.ShloMosaic.WordCmp Finset
open scoped BigOperators

local notation "𝕀" => Idealize.ShloMosaic.Ideal

theorem zero_bits : (FloatOps.ofBits (F := 𝕀) .f32 0x00000000#32 : EReal) = 0 := by
  show Ideal.ofBits .f32 0x00000000#32 = 0
  simp [Ideal.ofBits, Ideal.ieee]

theorem bits_128 : (FloatOps.ofBits (F := 𝕀) .f32 0x43000000#32 : EReal) = ((128 : ℝ) : EReal) := by
  show Ideal.ofBits .f32 0x43000000#32 = _
  simp [Ideal.ofBits, Ideal.ieee, -EReal.coe_mul]; norm_num

/-- The softplus of a real number, as the reference computes it. -/
theorem softplus_at (w : ℝ) (x : EReal) (hx : x = (w : EReal)) :
    (Scalar.select (FloatOps.cmpf (F := 𝕀) (φ := .f32) .une (x - 0) (x - 0)) (x + 0)
      (max x 0 + Ideal.log1p (Ideal.exp (-(max (x - 0) (-(x - 0)))))) : EReal) =
      ((max w 0 + Real.log (1 + Real.exp (-|w|)) : ℝ) : EReal) := by
  have hp : 0 < Real.exp (-|w|) := Real.exp_pos _
  subst hx
  have hc : FloatOps.cmpf (F := 𝕀) (φ := .f32) .une ((w : EReal) - 0) ((w : EReal) - 0) = 0#1 := by
    show Ideal.cmp .une _ _ = _
    simp [Ideal.cmp]
  rw [hc, sub_zero, abs_coe, ← EReal.coe_neg, Ideal.exp_coe, Ideal.log1p, ← EReal.coe_one, ← EReal.coe_add, Ideal.log_coe,
    if_neg (not_le.2 (by positivity)), ← EReal.coe_zero, ← coe_max, ← EReal.coe_add]
  rfl

theorem neg_softplus (w : ℝ) : -(max w 0 + Real.log (1 + Real.exp (-|w|))) = ls (-w) := by
  rw [ls, abs_neg, neg_add, ← min_neg_neg, neg_zero, sub_eq_add_neg]

variable (x : (⟨S16384x8192, .f32⟩ : BufTy).Contents (Elt 𝕀)) (P : ℕ → ℕ → ℝ)
  (hP : ∀ (a : Fin 16384) (n : Fin 8192), 4096 ≤ n.val → n.val < 7168 → x (ix2 a n) = ((P a.val n.val : ℝ) : EReal))
include hP

/-- The queries, keys and values of a head. -/
theorem queries_at (h : Fin 8) (a : Fin 16384) (e : Fin 128) :
    val_main_v5 (F := 𝕀) x (ix3 h a e) = ((P a.val (4096 + 128 * h.val + e.val) : ℝ) : EReal) := by
  have hh := h.isLt
  have he := e.isLt
  rw [val_main_v5_apply, val_main_v4_apply, val_main_v0_apply,
    ← hP a ⟨4096 + 128 * h.val + e.val, by omega⟩ (by simp only []; omega) (by simp only []; omega)]
  refine congrArg x (funext fun b => Fin.ext ?_)
  match b with
  | ⟨0, _⟩ => show ((a.val * 8 + h.val) * 128 + e.val) / 1024 = a.val; omega
  | ⟨1, _⟩ => show 4096 + ((a.val * 8 + h.val) * 128 + e.val) % 1024 = 4096 + 128 * h.val + e.val; omega

theorem keys_at (h : Fin 8) (a : Fin 16384) (e : Fin 128) :
    val_main_v7 (F := 𝕀) x (ix3 h a e) = ((P a.val (5120 + 128 * h.val + e.val) : ℝ) : EReal) := by
  have hh := h.isLt
  have he := e.isLt
  rw [val_main_v7_apply, val_main_v6_apply, val_main_v1_apply,
    ← hP a ⟨5120 + 128 * h.val + e.val, by omega⟩ (by simp only []; omega) (by simp only []; omega)]
  refine congrArg x (funext fun b => Fin.ext ?_)
  match b with
  | ⟨0, _⟩ => show ((a.val * 8 + h.val) * 128 + e.val) / 1024 = a.val; omega
  | ⟨1, _⟩ => show 5120 + ((a.val * 8 + h.val) * 128 + e.val) % 1024 = 5120 + 128 * h.val + e.val; omega

theorem values_at (h : Fin 8) (a : Fin 16384) (e : Fin 128) :
    val_main_v9 (F := 𝕀) x (ix3 h a e) = ((P a.val (6144 + 128 * h.val + e.val) : ℝ) : EReal) := by
  have hh := h.isLt
  have he := e.isLt
  rw [val_main_v9_apply, val_main_v8_apply, val_main_v2_apply,
    ← hP a ⟨6144 + 128 * h.val + e.val, by omega⟩ (by simp only []; omega) (by simp only []; omega)]
  refine congrArg x (funext fun b => Fin.ext ?_)
  match b with
  | ⟨0, _⟩ => show ((a.val * 8 + h.val) * 128 + e.val) / 1024 = a.val; omega
  | ⟨1, _⟩ => show 6144 + ((a.val * 8 + h.val) * 128 + e.val) % 1024 = 6144 + 128 * h.val + e.val; omega

/-- The scores. -/
theorem score_at (h : Fin 8) (i t : Fin 16384) :
    val_main_v13 (F := 𝕀) x (ix3 h i t) = ((score P h.val i.val t.val : ℝ) : EReal) := by
  have hs : (0 : ℝ) < Real.sqrt 128 := Real.sqrt_pos.2 (by norm_num)
  rw [val_main_v13_apply, val_main_v12_apply, val_main_v11_apply, val_main_cst_apply, bits_128, Ideal.hostDivf_def,
    Ideal.hostUnary_sqrt_def, Ideal.sqrt_coe, if_neg (by norm_num), Ideal.div_coe hs.ne', val_main_v10_apply]
  have hsum : (∑ k : Fin 128, (val_main_v5 (F := 𝕀) x) (lidx_main_v10 (ix3 h i t) k) *
      (val_main_v7 (F := 𝕀) x) (ridx_main_v10 (ix3 h i t) k) : EReal) =
      ((∑ e : Fin 128, P i.val (4096 + 128 * h.val + e.val) * P t.val (5120 + 128 * h.val + e.val) : ℝ) : EReal) := by
    rw [coe_sum]
    refine sum_congr rfl fun k _ => ?_
    rw [EReal.coe_mul, ← queries_at x P hP h i k, ← keys_at x P hP h t k]
    refine congrArg₂ (· * ·) (congrArg _ (funext fun b => ?_)) (congrArg _ (funext fun b => ?_)) <;>
      match b with
      | ⟨0, _⟩ => rfl
      | ⟨1, _⟩ => rfl
      | ⟨2, _⟩ => rfl
  rw [hsum, ← EReal.coe_mul, score, one_div]

omit hP in
/-- A key is strictly before a query. -/
theorem strict_at (i t : Fin 16384) : val_main_v19 (F := 𝕀) (ix2 i t) = if t.val < i.val then 1#1 else 0#1 := by
  have h1 := i.isLt
  have h2 := t.isLt
  rw [val_main_v19_apply, val_main_v17_apply, val_main_v15_apply, val_main_v14_apply, val_main_v18_apply,
    val_main_v16_apply, val_main_v14_apply]
  refine (cmpi_slt_ofNat (show t.val < _ by norm_num; omega) (show i.val < _ by norm_num; omega)).trans ?_
  by_cases a : t.val < i.val <;> simp [a]

/-- The log of one minus a key's share. -/
theorem keep_at (h : Fin 8) (i t : Fin 16384) :
    val_main_v21 (F := 𝕀) x (ix3 h i t) = ((ls (-(score P h.val i.val t.val)) : ℝ) : EReal) := by
  rw [val_main_v21_apply, val_main_call0_v1_apply, val_main_call0_call0_v4_apply, val_main_call0_call0_v6_apply,
    val_main_call0_call0_v11_apply, val_main_call0_call0_v1_apply, val_main_call0_call0_v10_apply,
    val_main_call0_call0_v9_apply, val_main_call0_call0_v8_apply, val_main_call0_call0_v7_apply,
    val_main_call0_call0_v3_apply, val_main_call0_call0_v2_apply, val_main_call0_call0_v5_apply,
    val_main_call0_call0_v0_apply, val_main_call0_call0_cst_apply, zero_bits, val_main_call0_v0_apply, val_main_v20_apply,
    score_at x P hP h i t]
  rw [← neg_softplus, EReal.coe_neg]
  exact congrArg (fun e : EReal => -e) (softplus_at (score P h.val i.val t.val) _ (neg_neg _))

/-- The log of a key's share. -/
theorem take_at (h : Fin 8) (i t : Fin 16384) :
    val_main_v25 (F := 𝕀) x (ix3 h i t) = ((ls (score P h.val i.val t.val) : ℝ) : EReal) := by
  rw [val_main_v25_apply, val_main_call3_v1_apply, val_main_call3_call0_v4_apply, val_main_call3_call0_v6_apply,
    val_main_call3_call0_v11_apply, val_main_call3_call0_v1_apply, val_main_call3_call0_v10_apply,
    val_main_call3_call0_v9_apply, val_main_call3_call0_v8_apply, val_main_call3_call0_v7_apply,
    val_main_call3_call0_v3_apply, val_main_call3_call0_v2_apply, val_main_call3_call0_v5_apply,
    val_main_call3_call0_v0_apply, val_main_call3_call0_cst_apply, zero_bits, val_main_call3_v0_apply,
    score_at x P hP h i t]
  conv_rhs => rw [← neg_neg (score P h.val i.val t.val), ← neg_softplus, EReal.coe_neg]
  exact congrArg (fun e : EReal => -e) (softplus_at (-(score P h.val i.val t.val)) _ (EReal.coe_neg _).symm)

/-- The masked logs. -/
theorem masked_at (h : Fin 8) (i t : Fin 16384) :
    val_main_v22 (F := 𝕀) x (ix3 h i t) = ((nk (score P h.val i.val) i.val t.val : ℝ) : EReal) := by
  rw [val_main_v22_apply, val_main_call1_v1_apply, keep_at x P hP, val_main_call1_v2_apply, val_main_call1_v0_apply,
    val_main_cst_0_apply, zero_bits]
  rw [show idx_main_call1_v1 (ix3 h i t) = ix2 i t from funext fun b => match b with | ⟨0, _⟩ => rfl | ⟨1, _⟩ => rfl, strict_at]
  unfold nk
  by_cases a : t.val < i.val <;> simp [a, Scalar.select]

/-- The logs of the later keys, summed. -/
theorem later_at (h : Fin 8) (i t : Fin 16384) : val_main_v24 (F := 𝕀) x (ix3 h i t) =
    ((∑ s ∈ Ico (t.val + 1) 16384, nk (score P h.val i.val) i.val s : ℝ) : EReal) := by
  have split (f : ℕ → ℝ) (n N : ℕ) (hn : n < N) : ∑ s ∈ Ico n N, f s - f n = ∑ s ∈ Ico (n + 1) N, f s := by
    rw [sum_eq_sum_Ico_succ_bot hn, add_sub_cancel_left]
  have hc : val_main_v23 (F := 𝕀) x (ix3 h i t) =
      ((∑ s ∈ Ico t.val 16384, nk (score P h.val i.val) i.val s : ℝ) : EReal) := by
    unfold val_main_v23
    refine (reverse_cumsum_at (val_main_v22 (F := 𝕀) x) (val_main_call2_v0 (F := 𝕀)) _ _ (fun j => ?_) h i t
      (fun s => ((nk (score P h.val i.val) i.val s : ℝ) : EReal)) fun s => masked_at x P hP h i s).trans (coe_sum _ _).symm
    rw [val_main_call2_v0_apply, val_main_call2_cst_apply, zero_bits]
  rw [val_main_v24_apply, hc, masked_at x P hP, Ideal.subf_def, ← EReal.coe_sub]
  exact congrArg _ (split _ _ _ t.isLt)

/-- The weights. -/
theorem weight_at (h : Fin 8) (i t : Fin 16384) :
    val_main_v28 (F := 𝕀) x (ix3 h i t) = ((wn (score P h.val i.val) i.val 16384 t.val : ℝ) : EReal) := by
  rw [val_main_v28_apply, val_main_call4_v1_apply, val_main_v27_apply, val_main_v26_apply, take_at x P hP, later_at x P hP,
    val_main_call4_v2_apply, val_main_call4_v0_apply, val_main_cst_1_apply, zero_bits, Ideal.addf_def, ← EReal.coe_add,
    Ideal.hostUnary_exp_def, Ideal.exp_coe]
  rw [show idx_main_call4_v1 (ix3 h i t) = ix2 i t from funext fun b => match b with | ⟨0, _⟩ => rfl | ⟨1, _⟩ => rfl, strict_at]
  unfold wn
  by_cases a : t.val < i.val <;> simp [a, Scalar.select]

/-- The weighted sum of the values. -/
theorem mix_at (h : Fin 8) (i : Fin 16384) (d : Fin 128) :
    val_main_v29 (F := 𝕀) x (ix3 h i d) = ((mix P h.val i.val d.val : ℝ) : EReal) := by
  rw [val_main_v29_apply, mix, coe_sum]
  refine sum_congr rfl fun k _ => ?_
  rw [EReal.coe_mul, ← weight_at x P hP h i k, ← values_at x P hP h k d]
  refine congrArg₂ (· * ·) (congrArg _ (funext fun b => ?_)) (congrArg _ (funext fun b => ?_)) <;>
    match b with
    | ⟨0, _⟩ => rfl
    | ⟨1, _⟩ => rfl
    | ⟨2, _⟩ => rfl

/-- The reference's output. -/
theorem ref_at (i : Fin 16384) (n : Fin 1024) : val_main_v34 (F := 𝕀) x (ix2 i n) = mixed x P (ix2 i n) := by
  have h1 := n.isLt
  have h0 := i.isLt
  have hi : idx_main_v30 (idx_main_v31 (ix2 i n)) = ix3 (⟨n.val / 128, by omega⟩ : Fin 8) i (⟨n.val % 128, by omega⟩ : Fin 128) := by
    funext b
    apply Fin.ext
    match b with
    | ⟨0, _⟩ => show (i.val * 1024 + n.val) / 128 % 8 = n.val / 128; omega
    | ⟨1, _⟩ => show (i.val * 1024 + n.val) / 1024 = i.val; omega
    | ⟨2, _⟩ => show (i.val * 1024 + n.val) % 128 = n.val % 128; omega
  have hg : val_main_v3 (F := 𝕀) x (ix2 i n) = x (ix2 i ⟨7168 + n.val, by omega⟩) := by
    rw [val_main_v3_apply]
    refine congrArg x (funext fun b => Fin.ext ?_)
    match b with
    | ⟨0, _⟩ => rfl
    | ⟨1, _⟩ => rfl
  rw [val_main_v34_apply, val_main_v33_apply, val_main_v31_apply, val_main_v30_apply, hi, mix_at x P hP, val_main_v32_apply,
    val_main_call5_v5_apply, val_main_call5_v4_apply, val_main_call5_cst_0_apply, val_main_call5_v3_apply,
    val_main_call5_v2_apply, val_main_call5_cst_apply, val_main_call5_v1_apply, val_main_call5_v0_apply, hg,
    show (FloatOps.ofBits (F := 𝕀) .f32 0x3F800000#32 : EReal) = 1 from one_bits]
  rfl

theorem ref_eq : val_main_v34 (F := 𝕀) x = mixed x P := by
  funext y
  idx_vars y
  exact ref_at x P hP y0 y1

end Cert.Proof.Val
-- ==== Proof.Value.Finite.lean ====
module

public import proofs.«01_k».proof.Proof.Gen.Pre_finite
public import Idealize.ShloMosaic.PureOps.Ideal.Laws
public import Idealize.ShloMosaic.Lib.Pointwise
public import Idealize.ShloMosaic.Lib.ReduceAll

@[expose] public section

/-!
# The precondition

Where the precondition holds, the projection's query, key and value columns are real numbers.
-/

noncomputable section

namespace Cert.Proof.Val

open Cert.Pre_finite Cert.Pre_finite.Gen
open Idealize.ShloMosaic

local notation "𝕀" => Idealize.ShloMosaic.Ideal

theorem inf_bits : Ideal.ofBits .f32 0x7F800000#32 = (⊤ : EReal) := by
  simp [Ideal.ofBits, Ideal.ieee]

theorem real_of_abs (x : EReal) (h : max x (-x) < ⊤) : x = ((x.toReal : ℝ) : EReal) := by
  induction x with
  | bot => simp at h
  | top => simp at h
  | coe x => rfl

theorem finite_at (x : FVec 𝕀 S16384x8192 .f32) (hx : fn (F := 𝕀) x = fun _ => 1#1) (a : Fin 16384) (n : Fin 8192)
    (h1 : 4096 ≤ n.val) (h2 : n.val < 7168) : x (ix2 a n) = (((x (ix2 a n)).toReal : ℝ) : EReal) := by
  have hc : n.val - 4096 < 3072 := by omega
  unfold fn at hx
  have hj := congrFun hx (fun b => b.elim0)
  dsimp only at hj
  haveI : Subsingleton S_.Idx := ⟨fun _ _ => funext fun b => b.elim0⟩
  have h := Host.reduce_andi_all _ _ _ _ _ hj (ix2 a ⟨n.val - 4096, hc⟩)
  pointwise at h
  have e : (⟨4096 + (n.val - 4096), by omega⟩ : Fin 8192) = n := Fin.ext (by simp only []; omega)
  rw [e, inf_bits] at h
  refine real_of_abs _ ?_
  by_contra hn
  rw [show decide ((FloatOps.absf (F := 𝕀) (φ := .f32) (x (ix2 a n)) : EReal) < ⊤) = false from decide_eq_false hn] at h
  exact absurd h (by decide)

end Cert.Proof.Val
-- ==== Proof.Value.Final.lean ====
module

public import proofs.«01_k».proof.Defs
public import proofs.«01_k».proof.Proof.Value.Ref
public import proofs.«01_k».proof.Proof.Value.Finite
public import proofs.«01_k».proof.Proof.Gen.ReferenceIdeal
public import proofs.«01_k».proof.Proof.Gen.Pre_finite
public import Idealize.ShloMosaic.Lib.Claim

@[expose] public section

/-!
# The value claim

The kernel and the reference end with the same array.
-/

noncomputable section

namespace Cert.Proof.Val

open Idealize.ShloMosaic Idealize.ShloMosaic.TcCoe Idealize.SL.Sem

local notation "𝕀" => Idealize.ShloMosaic.Ideal

/-- The projection's entries as real numbers. -/
def reals (x : Vec 𝕀 Cert.KernelIdeal.S16384x8192 .f32) (a n : ℕ) : ℝ :=
  if h : a < 16384 ∧ n < 8192 then (x (ix2 ⟨a, h.1⟩ ⟨n, h.2⟩)).toReal else 0

theorem reals_at (x : Vec 𝕀 Cert.KernelIdeal.S16384x8192 .f32) (hx : Cert.Pre_finite.fn (F := 𝕀) x = fun _ => 1#1)
    (a : Fin 16384) (n : Fin 8192) (h1 : 4096 ≤ n.val) (h2 : n.val < 7168) : x (ix2 a n) = ((reals x a.val n.val : ℝ) : EReal) := by
  rw [reals, dif_pos ⟨a.isLt, n.isLt⟩]
  exact finite_at x hx a n h1 h2

open Cert.KernelIdeal in
/-- Where the precondition holds the kernel ends with `mixed` of the projection. -/
theorem kernel_run (m : (ℓ : Loc nD τ sig) → Buf (Elt 𝕀) ℓ) (ρ : Dev nD → PrngReg) (hpre : Cert.Pre_KernelIdeal_finite m) :
    θ_run (defs (F := 𝕀)) (onTc (τ := τ) (main (F := 𝕀))) ⟨m, fun _ => 0, ρ⟩ (fun r => ∀ c : Dev nD,
      r.2.mem ((c.tc : Thread nD τ).loc main_v14) = mixed (proj m c) (reals (proj m c))
      ∧ r.2.mem ((c.tc : Thread nD τ).loc main_arg0) = m ((c.tc : Thread nD τ).loc main_arg0)) :=
  θ_run_mono (θ_run_and (KI.run_quiet (F := 𝕀) m ρ) (KI.quiet (F := 𝕀) m ρ)) fun r h c =>
    ⟨((h.1.1 c).1 4).trans (out_eq m c (reals (proj m c)) (reals_at (proj m c) (hpre c))), h.2.1 c⟩

theorem algebraic : Cert.algebraic_KernelIdeal_ReferenceIdeal_pre_finite := by
  intro m g m' g' hpre hagree
  refine ⟨fun c => mixed (proj m c) (reals (proj m c)), kernel_run m g hpre, ?_⟩
  refine θ_run_mono (Cert.ReferenceIdeal.Value.run (F := 𝕀) m' g') fun r h c => ⟨(h c).1.trans ?_, (h c).2⟩
  rw [Cert.ReferenceIdeal.Read.val_main_v34_eq, hagree c]
  exact ref_eq (proj m c) (reals (proj m c)) (reals_at (proj m c) (hpre c))

end Cert.Proof.Val
-- ==== Proof.CI.Words.lean ====
module

public import proofs.«01_k».proof.Proof.Gen.MixerCIdeal.Skeleton
public import Idealize.ShloMosaic.Lib.Exec
public import Idealize.ShloMosaic.Lib.Tactic
public import Idealize.ShloMosaic.Lib.Pipeline.Kit

@[expose] public section

/-!
# The words of one grid point

At the grid point `(h, j)` the kernel takes the block of 512 keys on the diagonal, block `j`, and then the blocks
`0, 1, …, j - 1`. It counts these in a machine word and computes from it, by clipped word arithmetic, which block a
step reads. Every such word depends on `j` and on the counter alone, so each fact below is decided over the 32 values
of `j` and the trips of the loop in question.
-/

set_option maxRecDepth 16384

namespace Cert.Proof.CI

open Cert.MixerCIdeal Cert.MixerCIdeal.Gen
open Idealize.ShloMosaic

/-- The grid point of query block `j`, of head 0. -/
def cj (j : Fin 32) : grid0.Coords := fun a => match a with
  | ⟨0, _⟩ => ⟨0, Nat.zero_lt_succ 7⟩
  | ⟨1, _⟩ => j
  | ⟨_ + 2, h⟩ => absurd h (Nat.not_lt.2 (Nat.le_add_left _ _))

/-- Steps done before trip `k` of the loop of eight steps, of four and of two. -/
def n8 (k : ℕ) : ℕ := 8 * k
def n4 (j k : ℕ) : ℕ := 8 * (j / 8) + 4 * k
def n2 (j k : ℕ) : ℕ := 4 * (j / 4) + 2 * k

theorem trips1_cj : ∀ j : Fin 32, (k0_t1_loop (cj j)).trips = j.val / 8 := by decide +kernel
theorem trips3_cj : ∀ j : Fin 32, (k0_t3_loop (cj j) (BitVec.ofNat 32 (n4 j.val 0))).trips = j.val / 4 - 2 * (j.val / 8) := by decide +kernel
theorem trips5_cj : ∀ j : Fin 32, (k0_t5_loop (cj j) (BitVec.ofNat 32 (n2 j.val 0))).trips = j.val / 2 - 2 * (j.val / 4) := by decide +kernel

/-! The remainder of each loop is empty. -/
theorem trips2_cj : ∀ j : Fin 32, (k0_t2_loop (cj j)).trips = 0 := by decide +kernel
theorem trips4_cj : ∀ j : Fin 32, (k0_t4_loop (cj j) (BitVec.ofNat 32 (n4 j.val 0))).trips = 0 := by decide +kernel
theorem trips6_cj : ∀ j : Fin 32, (k0_t6_loop (cj j) (BitVec.ofNat 32 (n2 j.val 0))).trips = 0 := by decide +kernel

theorem chk1_cj : ∀ (j : Fin 32) (k : Fin (k0_t1_loop (cj j)).trips), k0_chk1 (cj j) k (BitVec.ofNat 32 (n8 k.val)) := by decide +kernel
theorem chk4_cj : ∀ (j : Fin 32) (k : Fin (k0_t3_loop (cj j) (BitVec.ofNat 32 (n4 j.val 0))).trips), k0_chk4 (cj j) (BitVec.ofNat 32 (n4 j.val k.val)) := by decide +kernel
theorem chk7_cj : ∀ (j : Fin 32) (k : Fin (k0_t5_loop (cj j) (BitVec.ofNat 32 (n2 j.val 0))).trips), k0_chk7 (cj j) (BitVec.ofNat 32 (n2 j.val k.val)) := by decide +kernel
theorem chk3_cj : ∀ j : Fin 32, k0_chk3 (cj j) (BitVec.ofNat 32 (n4 j.val 0)) := by decide +kernel
theorem chk6_cj : ∀ j : Fin 32, k0_chk6 (cj j) (BitVec.ofNat 32 (n2 j.val 0)) := by decide +kernel

/-- The block of the `m`-th step at query block `j`: the block on the diagonal, then block 0, 1 and so on, not past the
    diagonal (and at most 31). -/
def blk (j m : ℕ) : ℕ := min (if m = 0 then j else min (m - 1) j) 31
/-- Where a block's rows of the keys start, and its columns of the values. -/
def koff (j m : ℕ) : Fin 2 → ℕ := ![512 * blk j m, 0]
def voff (j m : ℕ) : Fin 2 → ℕ := ![0, 512 * blk j m]

theorem off1_cj : ∀ j : Fin 32, k0_off1 (cj j) = koff j.val 0 := by decide +kernel
theorem off2_cj : ∀ j : Fin 32, k0_off2 (cj j) = koff j.val 1 := by decide +kernel
theorem off3_cj : ∀ j : Fin 32, k0_off3 (cj j) = voff j.val 0 := by decide +kernel
/-- One step is left over where `j` is odd. -/
theorem cond1_cj : ∀ j : Fin 32, k0_cond1 (cj j) = 1#1 ↔ j.val % 2 = 1 := by decide +kernel
theorem off16_cj : ∀ j : Fin 32, j.val % 2 = 1 → k0_off16 (cj j) = voff j.val (2 * (j.val / 2) + 1) := by decide +kernel

theorem off4_cj : ∀ (j : Fin 32) (k : Fin (k0_t1_loop (cj j)).trips) (r : Fin 8), k0_off4 (cj j) (BitVec.ofNat 32 (n8 k.val)) (BitVec.ofNat 32 r.val) = koff j.val (n8 k.val + 2 + r.val) := by decide +kernel
theorem off5_cj : ∀ (j : Fin 32) (k : Fin (k0_t1_loop (cj j)).trips) (r : Fin 8), k0_off5 (cj j) (BitVec.ofNat 32 (n8 k.val)) (BitVec.ofNat 32 r.val) = voff j.val (n8 k.val + 1 + r.val) := by decide +kernel
theorem off8_cj : ∀ (j : Fin 32) (k : Fin (k0_t3_loop (cj j) (BitVec.ofNat 32 (n4 j.val 0))).trips) (r : Fin 4), k0_off8 (cj j) (BitVec.ofNat 32 (n4 j.val k.val)) (BitVec.ofNat 32 r.val) = koff j.val (n4 j.val k.val + 2 + r.val) := by decide +kernel
theorem off9_cj : ∀ (j : Fin 32) (k : Fin (k0_t3_loop (cj j) (BitVec.ofNat 32 (n4 j.val 0))).trips) (r : Fin 4), k0_off9 (cj j) (BitVec.ofNat 32 (n4 j.val k.val)) (BitVec.ofNat 32 r.val) = voff j.val (n4 j.val k.val + 1 + r.val) := by decide +kernel
theorem off12_cj : ∀ (j : Fin 32) (k : Fin (k0_t5_loop (cj j) (BitVec.ofNat 32 (n2 j.val 0))).trips) (r : Fin 2), k0_off12 (cj j) (BitVec.ofNat 32 (n2 j.val k.val)) (BitVec.ofNat 32 r.val) = koff j.val (n2 j.val k.val + 2 + r.val) := by decide +kernel
theorem off13_cj : ∀ (j : Fin 32) (k : Fin (k0_t5_loop (cj j) (BitVec.ofNat 32 (n2 j.val 0))).trips) (r : Fin 2), k0_off13 (cj j) (BitVec.ofNat 32 (n2 j.val k.val)) (BitVec.ofNat 32 r.val) = voff j.val (n2 j.val k.val + 1 + r.val) := by decide +kernel

end Cert.Proof.CI
-- ==== Proof.CI.Model.lean ====
module

public import proofs.«01_k».proof.Proof.CI.Words
public import proofs.«01_k».proof.Proof.Gen.MixerCIdeal.Frame
public import Idealize.ShloMosaic.Lib.VecWindow

@[expose] public section

/-!
# What one grid point computes, block by block

At one grid point the kernel holds 512 query rows `q` (scaled, and beside them their decay features), 16 rows of ones
`on`, one head's keys `xk`, decay features of the keys `xx` and transposed values `xv`. It takes the key blocks in the
order `blk j 0, blk j 1, …, blk j j`. The first meets the diagonal and is masked.

Step `m` computes the scores `sc m`, raises the running maximum from `mx m` to `mx (m + 1)`, and takes the accumulator
from `ac m` to `ac (m + 1)`: the old one is rescaled to the new maximum, and the values (with the rows of ones below
them) against the weights are added.
-/

set_option maxRecDepth 16384

noncomputable section

namespace Cert.Proof.CI

open Cert.MixerCIdeal Cert.MixerCIdeal.Gen
open Idealize.ShloMosaic

variable {F : FTy → Type} [FloatOps F] [Named F]

theorem blk_le (j m : ℕ) : 512 * blk j m + 512 ≤ 16384 := by unfold blk; omega

theorem koff_inb (j m : ℕ) : ∀ a, koff j m a + S512x128.size a ≤ S16384x128.size a := by
  intro k
  have := blk_le j m
  fin_cases k
  · exact this
  · exact Nat.le_refl 128

theorem voff_inb (j m : ℕ) : ∀ a, voff j m a + S128x512.size a ≤ S128x16384.size a := by
  intro k
  have := blk_le j m
  fin_cases k
  · exact Nat.le_refl 128
  · exact this

/-- The rows of the block of step `m`, of the keys or of their decay features. -/
def kwin (xk : Vec F S16384x128 .bf16) (j m : ℕ) : Vec F S512x128 .bf16 :=
  VecWindow.window xk (koff j m) S512x128.size (koff_inb j m)
/-- The values of the block of step `m`, one column per key. -/
def vwin (xv : Vec F S128x16384 .bf16) (j m : ℕ) : Vec F S128x512 .bf16 :=
  VecWindow.window xv (voff j m) S128x512.size (voff_inb j m)

variable (q : FVec F S512x256 .bf16) (on : FVec F S16x512 .bf16) (xk xx : Vec F S16384x128 .bf16) (xv : Vec F S128x16384 .bf16) (j : ℕ)

/-- The scores of step `m`. -/
def sc (m : ℕ) : Vec F S512x512 .f32 := k0_pay13 q (kwin xk j m) (kwin xx j m)

/-- The running maximum before step `m`. -/
def mx : ℕ → Vec F S1x512 .f32
  | 0 => k0_pay145
  | 1 => k0_pay155 (k0_pay152 k0_pay147 (sc q xk xx j 0) k0_pay145)
  | m + 2 => k0_pay4 (sc q xk xx j (m + 1)) (mx (m + 1))

/-- The accumulator before step `m`. -/
def ac : ℕ → Vec F S144x512 .f32
  | 0 => k0_pay146
  | 1 => k0_pay154 (k0_pay153 on k0_pay147 (vwin xv j 0) (sc q xk xx j 0) k0_pay145 k0_pay146)
  | m + 2 => k0_pay3 on (vwin xv j (m + 1)) (sc q xk xx j (m + 1)) (mx q xk xx j (m + 1)) (ac (m + 1))

/-- Where `j` is odd the last step stands alone. -/
theorem ac_odd (h : j % 2 = 1) : ac q on xk xx xv j (j + 1) = k0_pay3 on (vwin xv j (2 * (j / 2) + 1)) (sc q xk xx j (2 * (j / 2) + 1))
    (mx q xk xx j (2 * (j / 2) + 1)) (ac q on xk xx xv j (2 * (j / 2) + 1)) := by
  have e : j + 1 = 2 * (j / 2) + 2 := by omega
  rw [e]
  rfl

end Cert.Proof.CI
-- ==== Proof.CI.State.lean ====
module

public import proofs.«01_k».proof.Proof.CI.Model
public import proofs.«01_k».proof.Proof.Gen.MixerCIdeal.Skeleton
public import Idealize.ShloMosaic.Lib.Exec
public import Idealize.ShloMosaic.Lib.Tactic
public import Idealize.ShloMosaic.Lib.Pipeline.Kit

@[expose] public section

/-!
# What the buffers hold between two steps

Between two steps the running maximum and the accumulator hold the model's values, one scores buffer the scores of the
next step, and the other scores buffer a value nobody reads again.
-/

set_option maxRecDepth 16384

noncomputable section

namespace Cert.Proof.CI

open Cert.MixerCIdeal Cert.MixerCIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-- The buffers before step `n` of the loops (which is step `n + 1` of the sweep). -/
def St (arg4 arg5 : Memref sig .tc .vmem S16384x128 .bf16) (arg6 : Memref sig .tc .vmem S128x16384 .bf16) (arg9 : Memref sig .tc .vmem S1x512 .f32)
    (arg10 : Memref sig .tc .vmem S144x512 .f32) (arg11 arg12 : Memref sig .tc .vmem S512x512 .f32)
    (q : FVec F S512x256 .bf16) (on : FVec F S16x512 .bf16) (x4 x5 : Vec F S16384x128 .bf16) (x6 : Vec F S128x16384 .bf16)
    (j : ℕ) (c : Dev nD) (n : ℕ) : sProp 𝕄 :=
  iprop((arg4.view.loc (c : Thread nD τ) ↦[arg4.view.set]{fullShare} (arg4.view.rep x4))
    ∗ (arg5.view.loc (c : Thread nD τ) ↦[arg5.view.set]{fullShare} (arg5.view.rep x5))
    ∗ (arg6.view.loc (c : Thread nD τ) ↦[arg6.view.set]{fullShare} (arg6.view.rep x6))
    ∗ (arg9.view.loc (c : Thread nD τ) ↦[arg9.view.set]{fullShare} (arg9.view.rep (mx q x4 x5 j (n + 1))))
    ∗ (arg10.view.loc (c : Thread nD τ) ↦[arg10.view.set]{fullShare} (arg10.view.rep (ac q on x4 x5 x6 j (n + 1))))
    ∗ (arg12.view.loc (c : Thread nD τ) ↦[arg12.view.set]{fullShare} (arg12.view.rep (sc q x4 x5 j (n + 1))))
    ∗ (∃ f, arg11.view.loc (c : Thread nD τ) ↦[arg11.view.set]{fullShare} f))

/-- A buffer whose last write covers it holds what was written. -/
theorem hold_write (c : Dev nD) {s : Shape} {e : EltTy} (r : Memref sig .tc .vmem s e) (f : r.view.ty.Contents (Elt F))
    {off : Fin s.rank → ℕ} (inb : ∀ a, off a + s.size a ≤ s.size a) (w : (Rect.unit off s.size inb).shape.Idx → Elt F e)
    (L : List (View.Piece (Elt F) s e)) (x : Vec F s e) (h : w = x) :
    (r.view.loc (c : Thread nD τ) ↦[r.view.set]{fullShare} (r.view.writes (Elt F) f (⟨Rect.unit off s.size inb, w⟩ :: L)) : sProp 𝕄)
      ⊢ (r.view.loc (c : Thread nD τ) ↦[r.view.set]{fullShare} (r.view.rep x)) :=
  pointsTo_rep_of_read (c : Thread nD τ) r _ fullShare x ((View.read_writes_full r.view f inb w L).trans h)

/-- A read of a block of the keys, or of their decay features. -/
theorem read_k (r : Memref sig .tc .vmem S16384x128 .bf16) (x : Vec F S16384x128 .bf16) {off : Fin 2 → ℕ} {j m : ℕ} (h : off = koff j m)
    (inb : ∀ a, off a + S512x128.size a ≤ S16384x128.size a) :
    r.view.readAt (Elt F) (Rect.unit (s := S16384x128) off S512x128.size inb).toLoadRect (r.view.rep x) = kwin x j m :=
  View.readAt_rep_unit r.view x inb h (koff_inb j m)

/-- A read of a block of the values. -/
theorem read_v (r : Memref sig .tc .vmem S128x16384 .bf16) (x : Vec F S128x16384 .bf16) {off : Fin 2 → ℕ} {j m : ℕ} (h : off = voff j m)
    (inb : ∀ a, off a + S128x512.size a ≤ S128x16384.size a) :
    r.view.readAt (Elt F) (Rect.unit (s := S128x16384) off S128x512.size inb).toLoadRect (r.view.rep x) = vwin x j m :=
  View.readAt_rep_unit r.view x inb h (voff_inb j m)

/-! The three values of a step, as the loops write them out. -/

theorem fold_sc (q : FVec F S512x256 .bf16) (k kx : Vec F S512x128 .bf16) :
    shapeCast S512x512 (matmul dot_S512x256_S512x256_S512x512_1_1_0_0_n_n none
      (concatenate S512x256 1 [⟨S512x128, k⟩, ⟨S512x128, kx⟩] concatenates_S512x128_S512x128_S512x256_d1) q
      (constant S512x512 .f32 0x00000000#32)) shapeCasts_S512x512_S512x512 = k0_pay13 q k kx := rfl

theorem fold_mx (s : Vec F S512x512 .f32) (m : Vec F S1x512 .f32) :
    shapeCast S1x512 (maximumf m (shapeCast S1x512 (multiReduction .maximumf [0] S512 s 0xFF800000#32 reduces_S512x512_S512 (.inl rfl) rfl)
      shapeCasts_S512_S1x512)) shapeCasts_S1x512_S1x512 = k0_pay4 s m := rfl

theorem fold_ac (on : FVec F S16x512 .bf16) (v : Vec F S128x512 .bf16) (s : Vec F S512x512 .f32) (m : Vec F S1x512 .f32) (a : Vec F S144x512 .f32) :
    shapeCast S144x512 (addf (mulf (broadcastTo S144x512 (exp2 (subf m (maximumf m (shapeCast S1x512
        (multiReduction .maximumf [0] S512 s 0xFF800000#32 reduces_S512x512_S512 (.inl rfl) rfl) shapeCasts_S512_S1x512))))
        broadcasts_S1x512_S144x512) a)
      (matmul dot_S144x512_S512x512_S144x512_1_0_0_1_n_n none
        (concatenate S144x512 0 [⟨S128x512, v⟩, ⟨S16x512, on⟩] concatenates_S128x512_S16x512_S144x512_d0)
        (truncf .bf16 (exp2 (subf s (broadcastTo S512x512 (maximumf m (shapeCast S1x512
          (multiReduction .maximumf [0] S512 s 0xFF800000#32 reduces_S512x512_S512 (.inl rfl) rfl) shapeCasts_S512_S1x512))
          broadcasts_S1x512_S512x512))) bitsLt_bf16_f32)
        (constant S144x512 .f32 0x00000000#32))) shapeCasts_S144x512_S144x512 = k0_pay3 on v s m a := rfl

/-! Reads of a whole buffer: as it was held, and after a write that covers it. -/

theorem read_q (r : Memref sig .tc .vmem S512x128 .bf16) (x : Vec F S512x128 .bf16) (inb : ∀ a, (![0, 0] : Fin 2 → ℕ) a + S512x128.size a ≤ S512x128.size a) :
    r.view.readAt (Elt F) (Rect.unit (s := S512x128) ![0, 0] S512x128.size inb).toLoadRect (r.view.rep x) = x :=
  View.readAt_rep_full r.view x inb
theorem read_gate (r : Memref sig .tc .vmem S512x128 .f32) (x : Vec F S512x128 .f32) (inb : ∀ a, (![0, 0] : Fin 2 → ℕ) a + S512x128.size a ≤ S512x128.size a) :
    r.view.readAt (Elt F) (Rect.unit (s := S512x128) ![0, 0] S512x128.size inb).toLoadRect (r.view.rep x) = x :=
  View.readAt_rep_full r.view x inb
theorem read_acc (r : Memref sig .tc .vmem S144x512 .f32) (x : Vec F S144x512 .f32) (inb : ∀ a, (![0, 0] : Fin 2 → ℕ) a + S144x512.size a ≤ S144x512.size a) :
    r.view.readAt (Elt F) (Rect.unit (s := S144x512) ![0, 0] S144x512.size inb).toLoadRect (r.view.rep x) = x :=
  View.readAt_rep_full r.view x inb
theorem reread_acc (r : Memref sig .tc .vmem S144x512 .f32) (inb inb' : ∀ a, (![0, 0] : Fin 2 → ℕ) a + S144x512.size a ≤ S144x512.size a) (w : Vec F S144x512 .f32)
    (L : List (View.Piece (Elt F) S144x512 .f32)) :
    r.view.readCov (⟨Rect.unit (s := S144x512) ![0, 0] S144x512.size inb, w⟩ :: L) (Rect.unit (s := S144x512) ![0, 0] S144x512.size inb').toLoadRect = w :=
  View.readCov_full r.view inb inb' w L
theorem read_row (r : Memref sig .tc .vmem S1x512 .f32) (x : Vec F S1x512 .f32) (inb : ∀ a, (![0, 0] : Fin 2 → ℕ) a + S1x512.size a ≤ S1x512.size a) :
    r.view.readAt (Elt F) (Rect.unit (s := S1x512) ![0, 0] S1x512.size inb).toLoadRect (r.view.rep x) = x :=
  View.readAt_rep_full r.view x inb
theorem reread_row (r : Memref sig .tc .vmem S1x512 .f32) (inb inb' : ∀ a, (![0, 0] : Fin 2 → ℕ) a + S1x512.size a ≤ S1x512.size a) (w : Vec F S1x512 .f32)
    (L : List (View.Piece (Elt F) S1x512 .f32)) :
    r.view.readCov (⟨Rect.unit (s := S1x512) ![0, 0] S1x512.size inb, w⟩ :: L) (Rect.unit (s := S1x512) ![0, 0] S1x512.size inb').toLoadRect = w :=
  View.readCov_full r.view inb inb' w L
theorem read_sc (r : Memref sig .tc .vmem S512x512 .f32) (x : Vec F S512x512 .f32) (inb : ∀ a, (![0, 0] : Fin 2 → ℕ) a + S512x512.size a ≤ S512x512.size a) :
    r.view.readAt (Elt F) (Rect.unit (s := S512x512) ![0, 0] S512x512.size inb).toLoadRect (r.view.rep x) = x :=
  View.readAt_rep_full r.view x inb
theorem reread_sc (r : Memref sig .tc .vmem S512x512 .f32) (inb inb' : ∀ a, (![0, 0] : Fin 2 → ℕ) a + S512x512.size a ≤ S512x512.size a) (w : Vec F S512x512 .f32)
    (L : List (View.Piece (Elt F) S512x512 .f32)) :
    r.view.readCov (⟨Rect.unit (s := S512x512) ![0, 0] S512x512.size inb, w⟩ :: L) (Rect.unit (s := S512x512) ![0, 0] S512x512.size inb').toLoadRect = w :=
  View.readCov_full r.view inb inb' w L

end Cert.Proof.CI
-- ==== Proof.CI.Trip2.lean ====
module

public import proofs.«01_k».proof.Proof.CI.State

@[expose] public section

/-!
# One trip of the loop of two steps

The trip is run once over a symbolic counter. What it leaves in each buffer is the model's value two steps on.
-/

set_option maxRecDepth 16384
set_option maxHeartbeats 4000000

noncomputable section

namespace Cert.Proof.CI

open Cert.MixerCIdeal Cert.MixerCIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

variable (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S128x16384 .bf16) (harg6 : arg6.IsWhole) (arg7 : Memref sig .tc .vmem S512x128 .f32) (harg7 : arg7.IsWhole) (arg8 : Memref sig .tc .vmem S512x128 .bf16) (harg8 : arg8.IsWhole) (arg9 : Memref sig .tc .vmem S1x512 .f32) (harg9 : arg9.IsWhole) (arg10 : Memref sig .tc .vmem S144x512 .f32) (harg10 : arg10.IsWhole) (arg11 : Memref sig .tc .vmem S512x512 .f32) (harg11 : arg11.IsWhole) (arg12 : Memref sig .tc .vmem S512x512 .f32) (harg12 : arg12.IsWhole)

/-- One trip from step `n`, at the counter word `a`. -/
theorem trip5 (arg1 : BitVec 32) (v6 : FVec F S512x256 .bf16) (v7 : FVec F S16x512 .bf16) (v17 : BitVec 32) (v127 : BitVec 32) (k0_hw6 : k0_chk6 i v127) (c0_i32_69 : BitVec 32) (k : Fin (k0_t5_loop i v127).trips) (a : BitVec 32) (hc : k0_chk7 i a) (j n : ℕ)
    (hk0 : k0_off12 i a 0#32 = koff j (n + 2))
    (hk1 : k0_off12 i a 1#32 = koff j (n + 3))
    (hv0 : k0_off13 i a 0#32 = voff j (n + 1))
    (hv1 : k0_off13 i a 1#32 = voff j (n + 2))
    (x4 x5 : Vec F S16384x128 .bf16) (x6 : Vec F S128x16384 .bf16) (Φ : BitVec 32 → sProp 𝕄) :
    St arg4 arg5 arg6 arg9 arg10 arg11 arg12 v6 v7 x4 x5 x6 j c n ∗ (St arg4 arg5 arg6 arg9 arg10 arg11 arg12 v6 v7 x4 x5 x6 j c (n + 2) -∗ Φ (Scalar.addi a 2#32))
      ⊢ wp Idealize.ShloMosaic.frame (wpE defs₀ Variants.none (c : Thread nD τ) none) Set.univ (k0_t5_body (F := F) i arg2 harg2 arg3 harg3 arg4 harg4 arg5 harg5 arg6 harg6 arg7 harg7 arg8 harg8 arg9 harg9 arg10 harg10 arg11 harg11 arg12 harg12 arg1 v6 v7 v17 v127 k0_hw6 c0_i32_69 k a) Φ := by
  unfold St
  unfold k0_t5_body
  iintro ⟨⟨H4, H5, H6, H9, H10, H12, ⟨%f11, H11⟩⟩, Hwand⟩
  sl_exec
  sl_step
  unfold trip5.sl.v280
  iapply Hwand
  isplitl [H4]
  · iexact H4
  isplitl [H5]
  · iexact H5
  isplitl [H6]
  · iexact H6
  isplitl [H9]
  · iapply (hold_write c arg9 _ _ _ _ _ ?_) $$ H9
    sl_unfold_run_names
    simp -proj -dsimp only [fold_sc, fold_mx, fold_ac, reread_acc, reread_row, reread_sc, read_acc, read_row, read_sc, read_k arg4 x4 hk0, read_k arg5 x5 hk0, read_k arg4 x4 hk1, read_k arg5 x5 hk1]
    rfl
  isplitl [H10]
  · iapply (hold_write c arg10 _ _ _ _ _ ?_) $$ H10
    sl_unfold_run_names
    simp -proj -dsimp only [fold_sc, fold_mx, fold_ac, reread_acc, reread_row, reread_sc, read_acc, read_row, read_sc, read_k arg4 x4 hk0, read_k arg5 x5 hk0, read_k arg4 x4 hk1, read_k arg5 x5 hk1, read_v arg6 x6 hv0, read_v arg6 x6 hv1]
    rfl
  isplitl [H12]
  · iapply (hold_write c arg12 _ _ _ _ _ ?_) $$ H12
    sl_unfold_run_names
    change shapeCast S512x512 _ shapeCasts_S512x512_S512x512 = _
    simp -proj -dsimp only [fold_sc, fold_mx, fold_ac, reread_acc, reread_row, reread_sc, read_acc, read_row, read_sc, read_k arg4 x4 hk0, read_k arg5 x5 hk0, read_k arg4 x4 hk1, read_k arg5 x5 hk1]
    rfl
  · iexists _
    iexact H11

end Cert.Proof.CI
-- ==== Proof.CI.Trip4.lean ====
module

public import proofs.«01_k».proof.Proof.CI.State

@[expose] public section

/-!
# One trip of the loop of four steps

The trip is run once over a symbolic counter. What it leaves in each buffer is the model's value four steps on.
-/

set_option maxRecDepth 16384
set_option maxHeartbeats 4000000

noncomputable section

namespace Cert.Proof.CI

open Cert.MixerCIdeal Cert.MixerCIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

variable (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S128x16384 .bf16) (harg6 : arg6.IsWhole) (arg7 : Memref sig .tc .vmem S512x128 .f32) (harg7 : arg7.IsWhole) (arg8 : Memref sig .tc .vmem S512x128 .bf16) (harg8 : arg8.IsWhole) (arg9 : Memref sig .tc .vmem S1x512 .f32) (harg9 : arg9.IsWhole) (arg10 : Memref sig .tc .vmem S144x512 .f32) (harg10 : arg10.IsWhole) (arg11 : Memref sig .tc .vmem S512x512 .f32) (harg11 : arg11.IsWhole) (arg12 : Memref sig .tc .vmem S512x512 .f32) (harg12 : arg12.IsWhole)

/-- One trip from step `n`, at the counter word `a`. -/
theorem trip3 (arg1 : BitVec 32) (v6 : FVec F S512x256 .bf16) (v7 : FVec F S16x512 .bf16) (v17 : BitVec 32) (v23 : BitVec 32) (v102 : BitVec 32) (k0_hw3 : k0_chk3 i v102) (v103 : BitVec 32) (c4_i32 : BitVec 32) (v104 : BitVec 32) (v106 : BitVec 32) (v108 : BitVec 32) (k : Fin (k0_t3_loop i v102).trips) (a : BitVec 32) (hc : k0_chk4 i a) (j n : ℕ)
    (hk0 : k0_off8 i a 0#32 = koff j (n + 2))
    (hk1 : k0_off8 i a 1#32 = koff j (n + 3))
    (hk2 : k0_off8 i a 2#32 = koff j (n + 4))
    (hk3 : k0_off8 i a 3#32 = koff j (n + 5))
    (hv0 : k0_off9 i a 0#32 = voff j (n + 1))
    (hv1 : k0_off9 i a 1#32 = voff j (n + 2))
    (hv2 : k0_off9 i a 2#32 = voff j (n + 3))
    (hv3 : k0_off9 i a 3#32 = voff j (n + 4))
    (x4 x5 : Vec F S16384x128 .bf16) (x6 : Vec F S128x16384 .bf16) (Φ : BitVec 32 → sProp 𝕄) :
    St arg4 arg5 arg6 arg9 arg10 arg11 arg12 v6 v7 x4 x5 x6 j c n ∗ (St arg4 arg5 arg6 arg9 arg10 arg11 arg12 v6 v7 x4 x5 x6 j c (n + 4) -∗ Φ (Scalar.addi a 4#32))
      ⊢ wp Idealize.ShloMosaic.frame (wpE defs₀ Variants.none (c : Thread nD τ) none) Set.univ (k0_t3_body (F := F) i arg2 harg2 arg3 harg3 arg4 harg4 arg5 harg5 arg6 harg6 arg7 harg7 arg8 harg8 arg9 harg9 arg10 harg10 arg11 harg11 arg12 harg12 arg1 v6 v7 v17 v23 v102 k0_hw3 v103 c4_i32 v104 v106 v108 k a) Φ := by
  unfold St
  unfold k0_t3_body
  iintro ⟨⟨H4, H5, H6, H9, H10, H12, ⟨%f11, H11⟩⟩, Hwand⟩
  sl_exec
  sl_step
  unfold trip3.sl.v380
  iapply Hwand
  isplitl [H4]
  · iexact H4
  isplitl [H5]
  · iexact H5
  isplitl [H6]
  · iexact H6
  isplitl [H9]
  · iapply (hold_write c arg9 _ _ _ _ _ ?_) $$ H9
    sl_unfold_run_names
    simp -proj -dsimp only [fold_sc, fold_mx, fold_ac, reread_acc, reread_row, reread_sc, read_acc, read_row, read_sc, read_k arg4 x4 hk0, read_k arg5 x5 hk0, read_k arg4 x4 hk1, read_k arg5 x5 hk1, read_k arg4 x4 hk2, read_k arg5 x5 hk2, read_k arg4 x4 hk3, read_k arg5 x5 hk3]
    rfl
  isplitl [H10]
  · iapply (hold_write c arg10 _ _ _ _ _ ?_) $$ H10
    sl_unfold_run_names
    change k0_pay3 v7 _ _ _ _ = _
    simp -proj -dsimp only [fold_sc, fold_mx, fold_ac, reread_acc, reread_row, reread_sc, read_acc, read_row, read_sc, read_k arg4 x4 hk0, read_k arg5 x5 hk0, read_k arg4 x4 hk1, read_k arg5 x5 hk1, read_k arg4 x4 hk2, read_k arg5 x5 hk2, read_k arg4 x4 hk3, read_k arg5 x5 hk3, read_v arg6 x6 hv0, read_v arg6 x6 hv1, read_v arg6 x6 hv2, read_v arg6 x6 hv3]
    rfl
  isplitl [H12]
  · iapply (hold_write c arg12 _ _ _ _ _ ?_) $$ H12
    sl_unfold_run_names
    change shapeCast S512x512 _ shapeCasts_S512x512_S512x512 = _
    simp -proj -dsimp only [fold_sc, fold_mx, fold_ac, reread_acc, reread_row, reread_sc, read_acc, read_row, read_sc, read_k arg4 x4 hk0, read_k arg5 x5 hk0, read_k arg4 x4 hk1, read_k arg5 x5 hk1, read_k arg4 x4 hk2, read_k arg5 x5 hk2, read_k arg4 x4 hk3, read_k arg5 x5 hk3]
    rfl
  · iexists _
    iexact H11

end Cert.Proof.CI
-- ==== Proof.CI.Trip8.lean ====
module

public import proofs.«01_k».proof.Proof.CI.State

@[expose] public section

/-!
# One trip of the loop of eight steps

The trip is run once over a symbolic counter. What it leaves in each buffer is the model's value eight steps on.
-/

set_option maxRecDepth 16384
set_option maxHeartbeats 4000000

noncomputable section

namespace Cert.Proof.CI

open Cert.MixerCIdeal Cert.MixerCIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

variable (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S128x16384 .bf16) (harg6 : arg6.IsWhole) (arg7 : Memref sig .tc .vmem S512x128 .f32) (harg7 : arg7.IsWhole) (arg8 : Memref sig .tc .vmem S512x128 .bf16) (harg8 : arg8.IsWhole) (arg9 : Memref sig .tc .vmem S1x512 .f32) (harg9 : arg9.IsWhole) (arg10 : Memref sig .tc .vmem S144x512 .f32) (harg10 : arg10.IsWhole) (arg11 : Memref sig .tc .vmem S512x512 .f32) (harg11 : arg11.IsWhole) (arg12 : Memref sig .tc .vmem S512x512 .f32) (harg12 : arg12.IsWhole)

/-- One trip from step `n`, at the counter word `a`. -/
theorem trip1 (arg1 : BitVec 32) (v6 : FVec F S512x256 .bf16) (v7 : FVec F S16x512 .bf16) (v17 : BitVec 32) (v23 : BitVec 32) (v60 : FVec F S1x512 .f32) (v71 : FVec F S144x512 .f32) (k : Fin (k0_t1_loop i).trips) (a : BitVec 32) (hc : k0_chk1 i k a) (j n : ℕ)
    (hk0 : k0_off4 i a 0#32 = koff j (n + 2))
    (hk1 : k0_off4 i a 1#32 = koff j (n + 3))
    (hk2 : k0_off4 i a 2#32 = koff j (n + 4))
    (hk3 : k0_off4 i a 3#32 = koff j (n + 5))
    (hk4 : k0_off4 i a 4#32 = koff j (n + 6))
    (hk5 : k0_off4 i a 5#32 = koff j (n + 7))
    (hk6 : k0_off4 i a 6#32 = koff j (n + 8))
    (hk7 : k0_off4 i a 7#32 = koff j (n + 9))
    (hv0 : k0_off5 i a 0#32 = voff j (n + 1))
    (hv1 : k0_off5 i a 1#32 = voff j (n + 2))
    (hv2 : k0_off5 i a 2#32 = voff j (n + 3))
    (hv3 : k0_off5 i a 3#32 = voff j (n + 4))
    (hv4 : k0_off5 i a 4#32 = voff j (n + 5))
    (hv5 : k0_off5 i a 5#32 = voff j (n + 6))
    (hv6 : k0_off5 i a 6#32 = voff j (n + 7))
    (hv7 : k0_off5 i a 7#32 = voff j (n + 8))
    (x4 x5 : Vec F S16384x128 .bf16) (x6 : Vec F S128x16384 .bf16) (Φ : BitVec 32 → sProp 𝕄) :
    St arg4 arg5 arg6 arg9 arg10 arg11 arg12 v6 v7 x4 x5 x6 j c n ∗ (St arg4 arg5 arg6 arg9 arg10 arg11 arg12 v6 v7 x4 x5 x6 j c (n + 8) -∗ Φ (Scalar.addi a 8#32))
      ⊢ wp Idealize.ShloMosaic.frame (wpE defs₀ Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg1 v6 v7 v17 v23 v60 v71 k a) Φ := by
  unfold St
  unfold k0_t1_body
  iintro ⟨⟨H4, H5, H6, H9, H10, H12, ⟨%f11, H11⟩⟩, Hwand⟩
  sl_exec
  sl_step
  unfold trip1.sl.v580
  iapply Hwand
  isplitl [H4]
  · iexact H4
  isplitl [H5]
  · iexact H5
  isplitl [H6]
  · iexact H6
  isplitl [H9]
  · iapply (hold_write c arg9 _ _ _ _ _ ?_) $$ H9
    sl_unfold_run_names
    simp -proj -dsimp only [fold_sc, fold_mx, fold_ac, reread_acc, reread_row, reread_sc, read_acc, read_row, read_sc, read_k arg4 x4 hk0, read_k arg5 x5 hk0, read_k arg4 x4 hk1, read_k arg5 x5 hk1, read_k arg4 x4 hk2, read_k arg5 x5 hk2, read_k arg4 x4 hk3, read_k arg5 x5 hk3, read_k arg4 x4 hk4, read_k arg5 x5 hk4, read_k arg4 x4 hk5, read_k arg5 x5 hk5, read_k arg4 x4 hk6, read_k arg5 x5 hk6, read_k arg4 x4 hk7, read_k arg5 x5 hk7]
    rfl
  isplitl [H10]
  · iapply (hold_write c arg10 _ _ _ _ _ ?_) $$ H10
    sl_unfold_run_names
    simp -proj -dsimp only [fold_sc, fold_mx, fold_ac, reread_acc, reread_row, reread_sc, read_acc, read_row, read_sc, read_k arg4 x4 hk0, read_k arg5 x5 hk0, read_k arg4 x4 hk1, read_k arg5 x5 hk1, read_k arg4 x4 hk2, read_k arg5 x5 hk2, read_k arg4 x4 hk3, read_k arg5 x5 hk3, read_k arg4 x4 hk4, read_k arg5 x5 hk4, read_k arg4 x4 hk5, read_k arg5 x5 hk5, read_k arg4 x4 hk6, read_k arg5 x5 hk6, read_k arg4 x4 hk7, read_k arg5 x5 hk7, read_v arg6 x6 hv0, read_v arg6 x6 hv1, read_v arg6 x6 hv2, read_v arg6 x6 hv3, read_v arg6 x6 hv4, read_v arg6 x6 hv5, read_v arg6 x6 hv6, read_v arg6 x6 hv7]
    rfl
  isplitl [H12]
  · iapply (hold_write c arg12 _ _ _ _ _ ?_) $$ H12
    sl_unfold_run_names
    change shapeCast S512x512 _ shapeCasts_S512x512_S512x512 = _
    simp -proj -dsimp only [fold_sc, fold_mx, fold_ac, reread_acc, reread_row, reread_sc, read_acc, read_row, read_sc, read_k arg4 x4 hk0, read_k arg5 x5 hk0, read_k arg4 x4 hk1, read_k arg5 x5 hk1, read_k arg4 x4 hk2, read_k arg5 x5 hk2, read_k arg4 x4 hk3, read_k arg5 x5 hk3, read_k arg4 x4 hk4, read_k arg5 x5 hk4, read_k arg4 x4 hk5, read_k arg5 x5 hk5, read_k arg4 x4 hk6, read_k arg5 x5 hk6, read_k arg4 x4 hk7, read_k arg5 x5 hk7]
    rfl
  · iexists _
    iexact H11

end Cert.Proof.CI
-- ==== Proof.CI.Sweep.lean ====
module

public import proofs.«01_k».proof.Proof.CI.Trip2
public import proofs.«01_k».proof.Proof.CI.Trip4
public import proofs.«01_k».proof.Proof.CI.Trip8

@[expose] public section

/-!
# The three loops of one grid point

The sweep counts its steps by a loop of eight steps a trip, then one of four and one of two. Each keeps
the model's state: before a trip the counter word is the number of steps done, and the buffers hold the state at that
step.
-/

set_option maxRecDepth 16384
set_option maxHeartbeats 1000000

noncomputable section

namespace Cert.Proof.CI

open Cert.MixerCIdeal Cert.MixerCIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

theorem addw (n k : ℕ) : Scalar.addi (BitVec.ofNat 32 n) (BitVec.ofNat 32 k) = BitVec.ofNat 32 (n + k) := by
  show BitVec.ofNat 32 n + BitVec.ofNat 32 k = _
  rw [BitVec.ofNat_add]

variable (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S128x16384 .bf16) (harg6 : arg6.IsWhole) (arg7 : Memref sig .tc .vmem S512x128 .f32) (harg7 : arg7.IsWhole) (arg8 : Memref sig .tc .vmem S512x128 .bf16) (harg8 : arg8.IsWhole) (arg9 : Memref sig .tc .vmem S1x512 .f32) (harg9 : arg9.IsWhole) (arg10 : Memref sig .tc .vmem S144x512 .f32) (harg10 : arg10.IsWhole) (arg11 : Memref sig .tc .vmem S512x512 .f32) (harg11 : arg11.IsWhole) (arg12 : Memref sig .tc .vmem S512x512 .f32) (harg12 : arg12.IsWhole)

/-- Before a trip at `n` steps. -/
def Inv (q : FVec F S512x256 .bf16) (on : FVec F S16x512 .bf16) (x4 x5 : Vec F S16384x128 .bf16) (x6 : Vec F S128x16384 .bf16) (n : ℕ) (a : BitVec 32) : sProp 𝕄 :=
  iprop(⌜a = BitVec.ofNat 32 n⌝ ∗ St arg4 arg5 arg6 arg9 arg10 arg11 arg12 q on x4 x5 x6 (i 1).val c n)

theorem enter (q : FVec F S512x256 .bf16) (on : FVec F S16x512 .bf16) (x4 x5 : Vec F S16384x128 .bf16) (x6 : Vec F S128x16384 .bf16) (n : ℕ) :
    St arg4 arg5 arg6 arg9 arg10 arg11 arg12 q on x4 x5 x6 (i 1).val c n ⊢ Inv c i arg4 arg5 arg6 arg9 arg10 arg11 arg12 q on x4 x5 x6 n (BitVec.ofNat 32 n) := by
  unfold Inv
  iintro H
  isplitr
  · ipureintro
    rfl
  · iexact H

theorem leave (q : FVec F S512x256 .bf16) (on : FVec F S16x512 .bf16) (x4 x5 : Vec F S16384x128 .bf16) (x6 : Vec F S128x16384 .bf16) (n : ℕ) (a : BitVec 32) :
    Inv c i arg4 arg5 arg6 arg9 arg10 arg11 arg12 q on x4 x5 x6 n a ⊢ iprop(⌜a = BitVec.ofNat 32 n⌝ ∗ St arg4 arg5 arg6 arg9 arg10 arg11 arg12 q on x4 x5 x6 (i 1).val c n) := .rfl

theorem step1 (arg1 : BitVec 32) (v6 : FVec F S512x256 .bf16) (v7 : FVec F S16x512 .bf16) (v17 : BitVec 32) (v23 : BitVec 32) (v60 : FVec F S1x512 .f32) (v71 : FVec F S144x512 .f32)
    (x4 x5 : Vec F S16384x128 .bf16) (x6 : Vec F S128x16384 .bf16) (k : Fin (k0_t1_loop i).trips) (a : BitVec 32) :
    Inv c i arg4 arg5 arg6 arg9 arg10 arg11 arg12 v6 v7 x4 x5 x6 (n8 k.val) a ⊢ wp Idealize.ShloMosaic.frame (wpE defs₀ Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg1 v6 v7 v17 v23 v60 v71 k a)
      (Inv c i arg4 arg5 arg6 arg9 arg10 arg11 arg12 v6 v7 x4 x5 x6 (n8 (k.val + 1))) := by
  unfold Inv
  iintro ⟨%ha, H⟩
  subst ha
  iapply (trip1 c i arg2 harg2 arg3 harg3 arg4 harg4 arg5 harg5 arg6 harg6 arg7 harg7 arg8 harg8 arg9 harg9 arg10 harg10 arg11 harg11 arg12 harg12 arg1 v6 v7 v17 v23 v60 v71 k _ (chk1_cj (i 1) k) (i 1).val (n8 k.val)
    (off4_cj (i 1) k 0)
    (off4_cj (i 1) k 1)
    (off4_cj (i 1) k 2)
    (off4_cj (i 1) k 3)
    (off4_cj (i 1) k 4)
    (off4_cj (i 1) k 5)
    (off4_cj (i 1) k 6)
    (off4_cj (i 1) k 7)
    (off5_cj (i 1) k 0)
    (off5_cj (i 1) k 1)
    (off5_cj (i 1) k 2)
    (off5_cj (i 1) k 3)
    (off5_cj (i 1) k 4)
    (off5_cj (i 1) k 5)
    (off5_cj (i 1) k 6)
    (off5_cj (i 1) k 7)
    x4 x5 x6)
  isplitl [H]
  · iexact H
  · iintro H
    isplitr [H]
    · ipureintro
      exact addw _ 8
    · iexact H

@[instance_reducible] def loop1 (arg1 : BitVec 32) (v6 : FVec F S512x256 .bf16) (v7 : FVec F S16x512 .bf16) (v17 : BitVec 32) (v23 : BitVec 32) (v60 : FVec F S1x512 .f32) (v71 : FVec F S144x512 .f32)
    (x4 x5 : Vec F S16384x128 .bf16) (x6 : Vec F S128x16384 .bf16) :
    LoopInv (M := 𝕄) Idealize.ShloMosaic.frame (wpE defs₀ Variants.none (c : Thread nD τ) none) Set.univ (k0_t1_loop i).lb (k0_t1_loop i).ub (k0_t1_loop i).st (k0_t1_ok i) (0#32)
      (k0_t1_body (F := F) i arg2 harg2 arg3 harg3 arg4 harg4 arg5 harg5 arg6 harg6 arg7 harg7 arg8 harg8 arg9 harg9 arg10 harg10 arg11 harg11 arg12 harg12 arg1 v6 v7 v17 v23 v60 v71) where
  inv := fun k => Inv c i arg4 arg5 arg6 arg9 arg10 arg11 arg12 v6 v7 x4 x5 x6 (n8 k)
  step := step1 c i arg2 harg2 arg3 harg3 arg4 harg4 arg5 harg5 arg6 harg6 arg7 harg7 arg8 harg8 arg9 harg9 arg10 harg10 arg11 harg11 arg12 harg12 arg1 v6 v7 v17 v23 v60 v71 x4 x5 x6

/-- The loop of eight steps, from the state before it to the state after it. -/
theorem sweep1 (arg1 : BitVec 32) (v6 : FVec F S512x256 .bf16) (v7 : FVec F S16x512 .bf16) (v17 : BitVec 32) (v23 : BitVec 32) (v60 : FVec F S1x512 .f32) (v71 : FVec F S144x512 .f32)
    (x4 x5 : Vec F S16384x128 .bf16) (x6 : Vec F S128x16384 .bf16) {β : Type} {kk : BitVec 32 → Prog (TpuEff nD τ sig (Elt F) Λ₀ .tc) β} {Q : β → sProp 𝕄} :
    St arg4 arg5 arg6 arg9 arg10 arg11 arg12 v6 v7 x4 x5 x6 (i 1).val c (n8 0) ⊢ iprop((St arg4 arg5 arg6 arg9 arg10 arg11 arg12 v6 v7 x4 x5 x6 (i 1).val c (n4 (i 1).val 0) -∗ wp Idealize.ShloMosaic.frame (wpE defs₀ Variants.none (c : Thread nD τ) none) Set.univ (kk (BitVec.ofNat 32 (n4 (i 1).val 0))) Q)
      -∗ wp Idealize.ShloMosaic.frame (wpE defs₀ Variants.none (c : Thread nD τ) none) Set.univ (Scf.Loop.for (k0_t1_loop i) (k0_t1_ok i) (0#32) (k0_t1_body (F := F) i arg2 harg2 arg3 harg3 arg4 harg4 arg5 harg5 arg6 harg6 arg7 harg7 arg8 harg8 arg9 harg9 arg10 harg10 arg11 harg11 arg12 harg12 arg1 v6 v7 v17 v23 v60 v71) >>= kk) Q) := by
  have h : n8 (k0_t1_loop i).trips = n4 (i 1).val 0 := by
    have := trips1_cj (i 1)
    have hj := (i 1).isLt
    change (k0_t1_loop i).trips = _ at this
    rw [this]
    simp only [n8, n4, n2]
    omega
  have he : St arg4 arg5 arg6 arg9 arg10 arg11 arg12 v6 v7 x4 x5 x6 (i 1).val c (n8 0) ⊢ Inv c i arg4 arg5 arg6 arg9 arg10 arg11 arg12 v6 v7 x4 x5 x6 (n8 0) (0#32) :=
    enter c i arg4 arg5 arg6 arg9 arg10 arg11 arg12 v6 v7 x4 x5 x6 (n8 0)
  iintro HS HK
  iapply (exec_loop _ _ _ _ _ _ _ _ _ (loop1 c i arg2 harg2 arg3 harg3 arg4 harg4 arg5 harg5 arg6 harg6 arg7 harg7 arg8 harg8 arg9 harg9 arg10 harg10 arg11 harg11 arg12 harg12 arg1 v6 v7 v17 v23 v60 v71 x4 x5 x6)) $$ [HS]
  · iapply he
    iexact HS
  iintro %a HI
  ihave ⟨%ha, HS⟩ := (leave c i arg4 arg5 arg6 arg9 arg10 arg11 arg12 v6 v7 x4 x5 x6 (n8 (k0_t1_loop i).trips) a) $$ HI
  subst ha
  rw [h]
  iapply HK
  iexact HS

theorem step3 (arg1 : BitVec 32) (v6 : FVec F S512x256 .bf16) (v7 : FVec F S16x512 .bf16) (v17 : BitVec 32) (v23 : BitVec 32) (k0_hw3 : k0_chk3 i (BitVec.ofNat 32 (n4 (i 1).val 0))) (v103 : BitVec 32) (c4_i32 : BitVec 32) (v104 : BitVec 32) (v106 : BitVec 32) (v108 : BitVec 32)
    (x4 x5 : Vec F S16384x128 .bf16) (x6 : Vec F S128x16384 .bf16) (k : Fin (k0_t3_loop i (BitVec.ofNat 32 (n4 (i 1).val 0))).trips) (a : BitVec 32) :
    Inv c i arg4 arg5 arg6 arg9 arg10 arg11 arg12 v6 v7 x4 x5 x6 (n4 (i 1).val k.val) a ⊢ wp Idealize.ShloMosaic.frame (wpE defs₀ Variants.none (c : Thread nD τ) none) Set.univ (k0_t3_body (F := F) i arg2 harg2 arg3 harg3 arg4 harg4 arg5 harg5 arg6 harg6 arg7 harg7 arg8 harg8 arg9 harg9 arg10 harg10 arg11 harg11 arg12 harg12 arg1 v6 v7 v17 v23 (BitVec.ofNat 32 (n4 (i 1).val 0)) k0_hw3 v103 c4_i32 v104 v106 v108 k a)
      (Inv c i arg4 arg5 arg6 arg9 arg10 arg11 arg12 v6 v7 x4 x5 x6 (n4 (i 1).val (k.val + 1))) := by
  unfold Inv
  iintro ⟨%ha, H⟩
  subst ha
  iapply (trip3 c i arg2 harg2 arg3 harg3 arg4 harg4 arg5 harg5 arg6 harg6 arg7 harg7 arg8 harg8 arg9 harg9 arg10 harg10 arg11 harg11 arg12 harg12 arg1 v6 v7 v17 v23 (BitVec.ofNat 32 (n4 (i 1).val 0)) k0_hw3 v103 c4_i32 v104 v106 v108 k _ (chk4_cj (i 1) k) (i 1).val (n4 (i 1).val k.val)
    (off8_cj (i 1) k 0)
    (off8_cj (i 1) k 1)
    (off8_cj (i 1) k 2)
    (off8_cj (i 1) k 3)
    (off9_cj (i 1) k 0)
    (off9_cj (i 1) k 1)
    (off9_cj (i 1) k 2)
    (off9_cj (i 1) k 3)
    x4 x5 x6)
  isplitl [H]
  · iexact H
  · iintro H
    isplitr [H]
    · ipureintro
      exact addw _ 4
    · iexact H

@[instance_reducible] def loop3 (arg1 : BitVec 32) (v6 : FVec F S512x256 .bf16) (v7 : FVec F S16x512 .bf16) (v17 : BitVec 32) (v23 : BitVec 32) (k0_hw3 : k0_chk3 i (BitVec.ofNat 32 (n4 (i 1).val 0))) (v103 : BitVec 32) (c4_i32 : BitVec 32) (v104 : BitVec 32) (v106 : BitVec 32) (v108 : BitVec 32)
    (x4 x5 : Vec F S16384x128 .bf16) (x6 : Vec F S128x16384 .bf16) :
    LoopInv (M := 𝕄) Idealize.ShloMosaic.frame (wpE defs₀ Variants.none (c : Thread nD τ) none) Set.univ (k0_t3_loop i (BitVec.ofNat 32 (n4 (i 1).val 0))).lb (k0_t3_loop i (BitVec.ofNat 32 (n4 (i 1).val 0))).ub (k0_t3_loop i (BitVec.ofNat 32 (n4 (i 1).val 0))).st (k0_t3_ok i (BitVec.ofNat 32 (n4 (i 1).val 0)) k0_hw3) ((BitVec.ofNat 32 (n4 (i 1).val 0)))
      (k0_t3_body (F := F) i arg2 harg2 arg3 harg3 arg4 harg4 arg5 harg5 arg6 harg6 arg7 harg7 arg8 harg8 arg9 harg9 arg10 harg10 arg11 harg11 arg12 harg12 arg1 v6 v7 v17 v23 (BitVec.ofNat 32 (n4 (i 1).val 0)) k0_hw3 v103 c4_i32 v104 v106 v108) where
  inv := fun k => Inv c i arg4 arg5 arg6 arg9 arg10 arg11 arg12 v6 v7 x4 x5 x6 (n4 (i 1).val k)
  step := step3 c i arg2 harg2 arg3 harg3 arg4 harg4 arg5 harg5 arg6 harg6 arg7 harg7 arg8 harg8 arg9 harg9 arg10 harg10 arg11 harg11 arg12 harg12 arg1 v6 v7 v17 v23 k0_hw3 v103 c4_i32 v104 v106 v108 x4 x5 x6

/-- The loop of four steps, from the state before it to the state after it. -/
theorem sweep3 (arg1 : BitVec 32) (v6 : FVec F S512x256 .bf16) (v7 : FVec F S16x512 .bf16) (v17 : BitVec 32) (v23 : BitVec 32) (k0_hw3 : k0_chk3 i (BitVec.ofNat 32 (n4 (i 1).val 0))) (v103 : BitVec 32) (c4_i32 : BitVec 32) (v104 : BitVec 32) (v106 : BitVec 32) (v108 : BitVec 32)
    (x4 x5 : Vec F S16384x128 .bf16) (x6 : Vec F S128x16384 .bf16) {β : Type} {kk : BitVec 32 → Prog (TpuEff nD τ sig (Elt F) Λ₀ .tc) β} {Q : β → sProp 𝕄} :
    St arg4 arg5 arg6 arg9 arg10 arg11 arg12 v6 v7 x4 x5 x6 (i 1).val c (n4 (i 1).val 0) ⊢ iprop((St arg4 arg5 arg6 arg9 arg10 arg11 arg12 v6 v7 x4 x5 x6 (i 1).val c (n2 (i 1).val 0) -∗ wp Idealize.ShloMosaic.frame (wpE defs₀ Variants.none (c : Thread nD τ) none) Set.univ (kk (BitVec.ofNat 32 (n2 (i 1).val 0))) Q)
      -∗ wp Idealize.ShloMosaic.frame (wpE defs₀ Variants.none (c : Thread nD τ) none) Set.univ (Scf.Loop.for (k0_t3_loop i (BitVec.ofNat 32 (n4 (i 1).val 0))) (k0_t3_ok i (BitVec.ofNat 32 (n4 (i 1).val 0)) k0_hw3) ((BitVec.ofNat 32 (n4 (i 1).val 0))) (k0_t3_body (F := F) i arg2 harg2 arg3 harg3 arg4 harg4 arg5 harg5 arg6 harg6 arg7 harg7 arg8 harg8 arg9 harg9 arg10 harg10 arg11 harg11 arg12 harg12 arg1 v6 v7 v17 v23 (BitVec.ofNat 32 (n4 (i 1).val 0)) k0_hw3 v103 c4_i32 v104 v106 v108) >>= kk) Q) := by
  have h : n4 (i 1).val (k0_t3_loop i (BitVec.ofNat 32 (n4 (i 1).val 0))).trips = n2 (i 1).val 0 := by
    have := trips3_cj (i 1)
    have hj := (i 1).isLt
    change (k0_t3_loop i (BitVec.ofNat 32 (n4 (i 1).val 0))).trips = _ at this
    rw [this]
    simp only [n8, n4, n2]
    omega
  have he : St arg4 arg5 arg6 arg9 arg10 arg11 arg12 v6 v7 x4 x5 x6 (i 1).val c (n4 (i 1).val 0) ⊢ Inv c i arg4 arg5 arg6 arg9 arg10 arg11 arg12 v6 v7 x4 x5 x6 (n4 (i 1).val 0) ((BitVec.ofNat 32 (n4 (i 1).val 0))) :=
    enter c i arg4 arg5 arg6 arg9 arg10 arg11 arg12 v6 v7 x4 x5 x6 (n4 (i 1).val 0)
  iintro HS HK
  iapply (exec_loop _ _ _ _ _ _ _ _ _ (loop3 c i arg2 harg2 arg3 harg3 arg4 harg4 arg5 harg5 arg6 harg6 arg7 harg7 arg8 harg8 arg9 harg9 arg10 harg10 arg11 harg11 arg12 harg12 arg1 v6 v7 v17 v23 k0_hw3 v103 c4_i32 v104 v106 v108 x4 x5 x6)) $$ [HS]
  · iapply he
    iexact HS
  iintro %a HI
  ihave ⟨%ha, HS⟩ := (leave c i arg4 arg5 arg6 arg9 arg10 arg11 arg12 v6 v7 x4 x5 x6 (n4 (i 1).val (k0_t3_loop i (BitVec.ofNat 32 (n4 (i 1).val 0))).trips) a) $$ HI
  subst ha
  rw [h]
  iapply HK
  iexact HS

theorem step5 (arg1 : BitVec 32) (v6 : FVec F S512x256 .bf16) (v7 : FVec F S16x512 .bf16) (v17 : BitVec 32) (k0_hw6 : k0_chk6 i (BitVec.ofNat 32 (n2 (i 1).val 0))) (c0_i32_69 : BitVec 32)
    (x4 x5 : Vec F S16384x128 .bf16) (x6 : Vec F S128x16384 .bf16) (k : Fin (k0_t5_loop i (BitVec.ofNat 32 (n2 (i 1).val 0))).trips) (a : BitVec 32) :
    Inv c i arg4 arg5 arg6 arg9 arg10 arg11 arg12 v6 v7 x4 x5 x6 (n2 (i 1).val k.val) a ⊢ wp Idealize.ShloMosaic.frame (wpE defs₀ Variants.none (c : Thread nD τ) none) Set.univ (k0_t5_body (F := F) i arg2 harg2 arg3 harg3 arg4 harg4 arg5 harg5 arg6 harg6 arg7 harg7 arg8 harg8 arg9 harg9 arg10 harg10 arg11 harg11 arg12 harg12 arg1 v6 v7 v17 (BitVec.ofNat 32 (n2 (i 1).val 0)) k0_hw6 c0_i32_69 k a)
      (Inv c i arg4 arg5 arg6 arg9 arg10 arg11 arg12 v6 v7 x4 x5 x6 (n2 (i 1).val (k.val + 1))) := by
  unfold Inv
  iintro ⟨%ha, H⟩
  subst ha
  iapply (trip5 c i arg2 harg2 arg3 harg3 arg4 harg4 arg5 harg5 arg6 harg6 arg7 harg7 arg8 harg8 arg9 harg9 arg10 harg10 arg11 harg11 arg12 harg12 arg1 v6 v7 v17 (BitVec.ofNat 32 (n2 (i 1).val 0)) k0_hw6 c0_i32_69 k _ (chk7_cj (i 1) k) (i 1).val (n2 (i 1).val k.val)
    (off12_cj (i 1) k 0)
    (off12_cj (i 1) k 1)
    (off13_cj (i 1) k 0)
    (off13_cj (i 1) k 1)
    x4 x5 x6)
  isplitl [H]
  · iexact H
  · iintro H
    isplitr [H]
    · ipureintro
      exact addw _ 2
    · iexact H

@[instance_reducible] def loop5 (arg1 : BitVec 32) (v6 : FVec F S512x256 .bf16) (v7 : FVec F S16x512 .bf16) (v17 : BitVec 32) (k0_hw6 : k0_chk6 i (BitVec.ofNat 32 (n2 (i 1).val 0))) (c0_i32_69 : BitVec 32)
    (x4 x5 : Vec F S16384x128 .bf16) (x6 : Vec F S128x16384 .bf16) :
    LoopInv (M := 𝕄) Idealize.ShloMosaic.frame (wpE defs₀ Variants.none (c : Thread nD τ) none) Set.univ (k0_t5_loop i (BitVec.ofNat 32 (n2 (i 1).val 0))).lb (k0_t5_loop i (BitVec.ofNat 32 (n2 (i 1).val 0))).ub (k0_t5_loop i (BitVec.ofNat 32 (n2 (i 1).val 0))).st (k0_t5_ok i (BitVec.ofNat 32 (n2 (i 1).val 0)) k0_hw6) ((BitVec.ofNat 32 (n2 (i 1).val 0)))
      (k0_t5_body (F := F) i arg2 harg2 arg3 harg3 arg4 harg4 arg5 harg5 arg6 harg6 arg7 harg7 arg8 harg8 arg9 harg9 arg10 harg10 arg11 harg11 arg12 harg12 arg1 v6 v7 v17 (BitVec.ofNat 32 (n2 (i 1).val 0)) k0_hw6 c0_i32_69) where
  inv := fun k => Inv c i arg4 arg5 arg6 arg9 arg10 arg11 arg12 v6 v7 x4 x5 x6 (n2 (i 1).val k)
  step := step5 c i arg2 harg2 arg3 harg3 arg4 harg4 arg5 harg5 arg6 harg6 arg7 harg7 arg8 harg8 arg9 harg9 arg10 harg10 arg11 harg11 arg12 harg12 arg1 v6 v7 v17 k0_hw6 c0_i32_69 x4 x5 x6

/-- The loop of two steps, from the state before it to the state after it. -/
theorem sweep5 (arg1 : BitVec 32) (v6 : FVec F S512x256 .bf16) (v7 : FVec F S16x512 .bf16) (v17 : BitVec 32) (k0_hw6 : k0_chk6 i (BitVec.ofNat 32 (n2 (i 1).val 0))) (c0_i32_69 : BitVec 32)
    (x4 x5 : Vec F S16384x128 .bf16) (x6 : Vec F S128x16384 .bf16) {β : Type} {kk : BitVec 32 → Prog (TpuEff nD τ sig (Elt F) Λ₀ .tc) β} {Q : β → sProp 𝕄} :
    St arg4 arg5 arg6 arg9 arg10 arg11 arg12 v6 v7 x4 x5 x6 (i 1).val c (n2 (i 1).val 0) ⊢ iprop((St arg4 arg5 arg6 arg9 arg10 arg11 arg12 v6 v7 x4 x5 x6 (i 1).val c (2 * ((i 1).val / 2)) -∗ wp Idealize.ShloMosaic.frame (wpE defs₀ Variants.none (c : Thread nD τ) none) Set.univ (kk (BitVec.ofNat 32 (2 * ((i 1).val / 2)))) Q)
      -∗ wp Idealize.ShloMosaic.frame (wpE defs₀ Variants.none (c : Thread nD τ) none) Set.univ (Scf.Loop.for (k0_t5_loop i (BitVec.ofNat 32 (n2 (i 1).val 0))) (k0_t5_ok i (BitVec.ofNat 32 (n2 (i 1).val 0)) k0_hw6) ((BitVec.ofNat 32 (n2 (i 1).val 0))) (k0_t5_body (F := F) i arg2 harg2 arg3 harg3 arg4 harg4 arg5 harg5 arg6 harg6 arg7 harg7 arg8 harg8 arg9 harg9 arg10 harg10 arg11 harg11 arg12 harg12 arg1 v6 v7 v17 (BitVec.ofNat 32 (n2 (i 1).val 0)) k0_hw6 c0_i32_69) >>= kk) Q) := by
  have h : n2 (i 1).val (k0_t5_loop i (BitVec.ofNat 32 (n2 (i 1).val 0))).trips = 2 * ((i 1).val / 2) := by
    have := trips5_cj (i 1)
    have hj := (i 1).isLt
    change (k0_t5_loop i (BitVec.ofNat 32 (n2 (i 1).val 0))).trips = _ at this
    rw [this]
    simp only [n8, n4, n2]
    omega
  have he : St arg4 arg5 arg6 arg9 arg10 arg11 arg12 v6 v7 x4 x5 x6 (i 1).val c (n2 (i 1).val 0) ⊢ Inv c i arg4 arg5 arg6 arg9 arg10 arg11 arg12 v6 v7 x4 x5 x6 (n2 (i 1).val 0) ((BitVec.ofNat 32 (n2 (i 1).val 0))) :=
    enter c i arg4 arg5 arg6 arg9 arg10 arg11 arg12 v6 v7 x4 x5 x6 (n2 (i 1).val 0)
  iintro HS HK
  iapply (exec_loop _ _ _ _ _ _ _ _ _ (loop5 c i arg2 harg2 arg3 harg3 arg4 harg4 arg5 harg5 arg6 harg6 arg7 harg7 arg8 harg8 arg9 harg9 arg10 harg10 arg11 harg11 arg12 harg12 arg1 v6 v7 v17 k0_hw6 c0_i32_69 x4 x5 x6)) $$ [HS]
  · iapply he
    iexact HS
  iintro %a HI
  ihave ⟨%ha, HS⟩ := (leave c i arg4 arg5 arg6 arg9 arg10 arg11 arg12 v6 v7 x4 x5 x6 (n2 (i 1).val (k0_t5_loop i (BitVec.ofNat 32 (n2 (i 1).val 0))).trips) a) $$ HI
  subst ha
  rw [h]
  iapply HK
  iexact HS

end Cert.Proof.CI
-- ==== Proof.CI.Body.lean ====
module

public import proofs.«01_k».proof.Proof.CI.Sweep

@[expose] public section

/-!
# The body at one grid point

From the blocks of the queries, keys, their decay features, the values and the gates the body leaves in its output block
the accumulator after the last step, normalised, transposed and gated. Where the number of blocks before the diagonal is
odd, one step is left over after the loops.
-/

set_option maxRecDepth 16384
set_option maxHeartbeats 4000000

noncomputable section

namespace Cert.Proof.CI

open Cert.MixerCIdeal Cert.MixerCIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-- What the body leaves in its output block. -/
def outv (x2 : Vec F S512x128 .bf16) (x3 : Vec F S512x128 .bf16) (x4 : Vec F S16384x128 .bf16) (x5 : Vec F S16384x128 .bf16) (x6 : Vec F S128x16384 .bf16) (x7 : Vec F S512x128 .f32) (j : ℕ) : Vec F S512x128 .bf16 :=
  k0_pay12 (ac (k0_pay143 x2 x3) k0_pay144 x4 x5 x6 j (j + 1)) x7

variable (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S128x16384 .bf16) (harg6 : arg6.IsWhole) (arg7 : Memref sig .tc .vmem S512x128 .f32) (harg7 : arg7.IsWhole) (arg8 : Memref sig .tc .vmem S512x128 .bf16) (harg8 : arg8.IsWhole) (arg9 : Memref sig .tc .vmem S1x512 .f32) (harg9 : arg9.IsWhole) (arg10 : Memref sig .tc .vmem S144x512 .f32) (harg10 : arg10.IsWhole) (arg11 : Memref sig .tc .vmem S512x512 .f32) (harg11 : arg11.IsWhole) (arg12 : Memref sig .tc .vmem S512x512 .f32) (harg12 : arg12.IsWhole)

theorem body_run (x2 : Vec F S512x128 .bf16) (x3 : Vec F S512x128 .bf16) (x4 : Vec F S16384x128 .bf16) (x5 : Vec F S16384x128 .bf16) (x6 : Vec F S128x16384 .bf16) (x7 : Vec F S512x128 .f32)
    (Φ : PUnit → sProp 𝕄) :
    ((arg2.view.loc (c : Thread nD τ) ↦[arg2.view.set]{fullShare} (arg2.view.rep x2))
      ∗ (arg3.view.loc (c : Thread nD τ) ↦[arg3.view.set]{fullShare} (arg3.view.rep x3))
      ∗ (arg4.view.loc (c : Thread nD τ) ↦[arg4.view.set]{fullShare} (arg4.view.rep x4))
      ∗ (arg5.view.loc (c : Thread nD τ) ↦[arg5.view.set]{fullShare} (arg5.view.rep x5))
      ∗ (arg6.view.loc (c : Thread nD τ) ↦[arg6.view.set]{fullShare} (arg6.view.rep x6))
      ∗ (arg7.view.loc (c : Thread nD τ) ↦[arg7.view.set]{fullShare} (arg7.view.rep x7))
      ∗ (∃ f, (arg8.view.loc (c : Thread nD τ) ↦[arg8.view.set]{fullShare} f))
      ∗ (∃ f, (arg9.view.loc (c : Thread nD τ) ↦[arg9.view.set]{fullShare} f))
      ∗ (∃ f, (arg10.view.loc (c : Thread nD τ) ↦[arg10.view.set]{fullShare} f))
      ∗ (∃ f, (arg11.view.loc (c : Thread nD τ) ↦[arg11.view.set]{fullShare} f))
      ∗ (∃ f, (arg12.view.loc (c : Thread nD τ) ↦[arg12.view.set]{fullShare} f)))
      ∗ (((arg2.view.loc (c : Thread nD τ) ↦[arg2.view.set]{fullShare} (arg2.view.rep x2))
      ∗ (arg3.view.loc (c : Thread nD τ) ↦[arg3.view.set]{fullShare} (arg3.view.rep x3))
      ∗ (arg4.view.loc (c : Thread nD τ) ↦[arg4.view.set]{fullShare} (arg4.view.rep x4))
      ∗ (arg5.view.loc (c : Thread nD τ) ↦[arg5.view.set]{fullShare} (arg5.view.rep x5))
      ∗ (arg6.view.loc (c : Thread nD τ) ↦[arg6.view.set]{fullShare} (arg6.view.rep x6))
      ∗ (arg7.view.loc (c : Thread nD τ) ↦[arg7.view.set]{fullShare} (arg7.view.rep x7))
      ∗ (arg8.view.loc (c : Thread nD τ) ↦[arg8.view.set]{fullShare} (arg8.view.rep (outv x2 x3 x4 x5 x6 x7 (i 1).val)))
      ∗ (∃ f, (arg9.view.loc (c : Thread nD τ) ↦[arg9.view.set]{fullShare} f))
      ∗ (∃ f, (arg10.view.loc (c : Thread nD τ) ↦[arg10.view.set]{fullShare} f))
      ∗ (∃ f, (arg11.view.loc (c : Thread nD τ) ↦[arg11.view.set]{fullShare} f))
      ∗ (∃ f, (arg12.view.loc (c : Thread nD τ) ↦[arg12.view.set]{fullShare} f))) -∗ Φ ⟨⟩)
      ⊢ wp Idealize.ShloMosaic.frame (wpE defs₀ Variants.none (c : Thread nD τ) none) Set.univ (cc0_mixer_c (F := F) i arg2 harg2 arg3 harg3 arg4 harg4 arg5 harg5 arg6 harg6 arg7 harg7 arg8 harg8 arg9 harg9 arg10 harg10 arg11 harg11 arg12 harg12) Φ := by
  rw [cc0_mixer_c_eq_skeleton]
  unfold cc0_mixer_c_skel
  iintro ⟨⟨H2, H3, H4, H5, H6, H7, ⟨%f8, H8⟩, ⟨%f9, H9⟩, ⟨%f10, H10⟩, ⟨%f11, H11⟩, ⟨%f12, H12⟩⟩, Hwand⟩
  have hc3 := chk3_cj (i 1)
  change k0_chk3 i _ at hc3
  have hc6 := chk6_cj (i 1)
  change k0_chk6 i _ at hc6
  have hk0 : k0_off1 i = koff (i 1).val 0 := off1_cj (i 1)
  have hk1 : k0_off2 i = koff (i 1).val 1 := off2_cj (i 1)
  have hv0 : k0_off3 i = voff (i 1).val 0 := off3_cj (i 1)
  have hodd : k0_cond1 i = 1#1 ↔ (i 1).val % 2 = 1 := cond1_cj (i 1)
  have hv16 : (i 1).val % 2 = 1 → k0_off16 i = voff (i 1).val (2 * ((i 1).val / 2) + 1) := off16_cj (i 1)
  have ht2 : (k0_t2_loop i).trips = 0 := trips2_cj (i 1)
  have ht4 : (k0_t4_loop i (BitVec.ofNat 32 (n4 (i 1).val 0))).trips = 0 := trips4_cj (i 1)
  have ht6 : (k0_t6_loop i (BitVec.ofNat 32 (n2 (i 1).val 0))).trips = 0 := trips6_cj (i 1)
  sl_exec
  ihave HS : (St arg4 arg5 arg6 arg9 arg10 arg11 arg12 (k0_pay143 x2 x3) k0_pay144 x4 x5 x6 (i 1).val c (n8 0)) $$ [H4 H5 H6 H9 H10 H11 H12]
  · unfold St
    isplitl [H4]
    · iexact H4
    isplitl [H5]
    · iexact H5
    isplitl [H6]
    · iexact H6
    isplitl [H9]
    · iapply (pointsTo_rep_of_read (c : Thread nD τ) arg9 _ fullShare _ ?_) $$ H9
      sl_unfold_run_names
      refine (View.read_writes_full _ _ _ _ _).trans ?_
      simp -proj -dsimp only [fold_sc, fold_mx, fold_ac, reread_acc, reread_row, reread_sc, read_q, read_k arg4 x4 hk0, read_k arg5 x5 hk0,
        read_k arg4 x4 hk1, read_k arg5 x5 hk1, read_v arg6 x6 hv0]
      rfl
    isplitl [H10]
    · iapply (pointsTo_rep_of_read (c : Thread nD τ) arg10 _ fullShare _ ?_) $$ H10
      sl_unfold_run_names
      refine (View.read_writes_full _ _ _ _ _).trans ?_
      simp -proj -dsimp only [fold_sc, fold_mx, fold_ac, reread_acc, reread_row, reread_sc, read_q, read_k arg4 x4 hk0, read_k arg5 x5 hk0,
        read_k arg4 x4 hk1, read_k arg5 x5 hk1, read_v arg6 x6 hv0]
      rfl
    isplitl [H12]
    · iapply (pointsTo_rep_of_read (c : Thread nD τ) arg12 _ fullShare _ ?_) $$ H12
      sl_unfold_run_names
      refine (View.read_writes_full _ _ _ _ _).trans ?_
      simp -proj -dsimp only [fold_sc, fold_mx, fold_ac, reread_acc, reread_row, reread_sc, read_q, read_k arg4 x4 hk0, read_k arg5 x5 hk0,
        read_k arg4 x4 hk1, read_k arg5 x5 hk1, read_v arg6 x6 hv0]
      rfl
    · iexists _
      iexact H11
  rw [show body_run.sl.r arg2 arg3 x2 x3 = k0_pay143 x2 x3 from congrArg₂ k0_pay143 (read_q arg2 x2 _) (read_q arg3 x3 _)]
  iapply (sweep1 c i arg2 harg2 arg3 harg3 arg4 harg4 arg5 harg5 arg6 harg6 arg7 harg7 arg8 harg8 arg9 harg9 arg10 harg10 arg11 harg11 arg12 harg12
    _ _ _ _ (0#32) k0_pay145 k0_pay146 x4 x5 x6) $$ HS
  iintro HS
  sl_exec
  iapply (sweep3 c i arg2 harg2 arg3 harg3 arg4 harg4 arg5 harg5 arg6 harg6 arg7 harg7 arg8 harg8 arg9 harg9 arg10 harg10 arg11 harg11 arg12 harg12
    _ _ _ _ (0#32) hc3 (0#32) (0#32) (0#32) (0#32) (0#32) x4 x5 x6) $$ HS
  iintro HS
  sl_exec
  iapply (sweep5 c i arg2 harg2 arg3 harg3 arg4 harg4 arg5 harg5 arg6 harg6 arg7 harg7 arg8 harg8 arg9 harg9 arg10 harg10 arg11 harg11 arg12 harg12
    _ _ _ _ hc6 (0#32) x4 x5 x6) $$ HS
  iintro HS
  sl_exec
  by_cases ho : k0_cond1 i = 1#1
  · have hj := hodd.1 ho
    have hv := hv16 hj
    rw [dif_pos ho]
    unfold St
    icases HS with ⟨H4, H5, H6, H9, H10, H12, ⟨%g11, H11⟩⟩
    sl_exec
    sl_step
    iapply Hwand
    isplitl [H2]
    · iexact H2
    isplitl [H3]
    · iexact H3
    isplitl [H4]
    · iexact H4
    isplitl [H5]
    · iexact H5
    isplitl [H6]
    · iexact H6
    isplitl [H7]
    · iexact H7
    isplitl [H8]
    · iapply (pointsTo_rep_of_read (c : Thread nD τ) arg8 _ fullShare _ ?_) $$ H8
      sl_unfold_run_names
      refine (View.read_writes_full _ _ _ _ _).trans ?_
      simp -proj -dsimp only [fold_sc, fold_mx, fold_ac, reread_acc, reread_row, reread_sc, read_acc, read_row, read_sc, read_gate, read_v arg6 x6 hv]
      exact congrArg (fun a => k0_pay12 a x7) (ac_odd _ _ _ _ _ _ hj).symm
    isplitl [H9]
    · iexists _
      iexact H9
    isplitl [H10]
    · iexists _
      iexact H10
    isplitl [H11]
    · iexists _
      iexact H11
    · iexists _
      iexact H12
  · have hj : 2 * ((i 1).val / 2) = (i 1).val := by
      have := mt hodd.2 ho
      omega
    rw [dif_neg ho, hj]
    unfold St
    icases HS with ⟨H4, H5, H6, H9, H10, H12, ⟨%g11, H11⟩⟩
    sl_exec
    sl_step
    iapply Hwand
    isplitl [H2]
    · iexact H2
    isplitl [H3]
    · iexact H3
    isplitl [H4]
    · iexact H4
    isplitl [H5]
    · iexact H5
    isplitl [H6]
    · iexact H6
    isplitl [H7]
    · iexact H7
    isplitl [H8]
    · iapply (pointsTo_rep_of_read (c : Thread nD τ) arg8 _ fullShare _ ?_) $$ H8
      sl_unfold_run_names
      refine (View.read_writes_full _ _ _ _ _).trans ?_
      simp -proj -dsimp only [fold_sc, fold_mx, fold_ac, reread_acc, reread_row, reread_sc, read_acc, read_row, read_sc, read_gate]
      rfl
    isplitl [H9]
    · iexists _
      iexact H9
    isplitl [H10]
    · iexists _
      iexact H10
    isplitl [H11]
    · iexists _
      iexact H11
    · iexists _
      iexact H12

end Cert.Proof.CI
-- ==== Proof.CI.Run.lean ====
module

public import proofs.«01_k».proof.Proof.CI.Body
public import proofs.«01_k».proof.Proof.Gen.MixerCIdeal.Frame
public import Idealize.ShloMosaic.Lib.Claim

@[expose] public section

/-! # The pipeline's run

At each grid point the six staged inputs hold their blocks and the body leaves the tile `outv` of those blocks in the
output's staging buffer; the scratch buffers hold anything between points. -/

set_option maxRecDepth 16384

noncomputable section

namespace Cert.Proof.CI

open Cert.MixerCIdeal Cert.MixerCIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The tile the body leaves at point `t`. -/
def tile (c : Dev nD) (t : Fin cfg0.N) : Vec F S512x128 .bf16 :=
  outv (iblk m c 0 t) (iblk m c 1 t) (iblk m c 2 t) (iblk m c 3 t) (iblk m c 4 t) (iblk m c 5 t) (grid0.coords t 1).val

/-- What each window holds after the body at each point; the two windows on one array hold half of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tile m c t
  Φ _ := Pipeline.ΦA spec0 c
  q w := Pipeline.shareOf spec0 w
  owed _ := 0

theorem dats_A (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = tile m c t := by dsimp only [dats]
theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d
theorem before_5 (c : Dev nD) (t : Fin cfg0.N) (d) : (dats m 0 c).before 5 t d = iblk m c 5 t :=
  before0_5_of m (dats m 0 c) (dats_A m c 5) (after_5 m c) t d

/-- What the body finds at a point and what it leaves. -/
def atStart (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def atEnd (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- A buffer held at known contents is held at the contents' representative. -/
theorem owns_rep {sp : Space} {s : Shape} {e : EltTy} (c : Dev nD) (r : Memref sig .tc sp s e) (X : s.Idx → Elt F e) :
    (owns (c : Thread nD τ) r fullShare X : sProp 𝕄) ⊢ (r.view.loc (c : Thread nD τ) ↦[r.view.set]{fullShare} (r.view.rep X)) := by
  unfold owns
  iintro ⟨%f, %hf, H⟩
  iapply (pointsTo_rep_of_read (c : Thread nD τ) r f fullShare X hf)
  iexact H

theorem rep_owns {sp : Space} {s : Shape} {e : EltTy} (c : Dev nD) (r : Memref sig .tc sp s e) (X : s.Idx → Elt F e) :
    (r.view.loc (c : Thread nD τ) ↦[r.view.set]{fullShare} (r.view.rep X)) ⊢ (owns (c : Thread nD τ) r fullShare X : sProp 𝕄) := by
  unfold owns
  iintro H
  iexists _
  isplitr
  · ipureintro; exact View.read_rep _ _
  iexact H

/-- A buffer held whole is held through its whole view. -/
theorem whole_eq (c : Dev nD) (b : Ref sig .tc) :
    (iprop(∃ f : Buf (Elt F) ((c : Thread nD τ).loc b), ((c : Thread nD τ).loc b) ↦{fullShare} f) : sProp 𝕄)
      = iprop(∃ f, ((Memref.whole b).view.loc (c : Thread nD τ) ↦[(Memref.whole b).view.set]{fullShare} f)) := by
  rw [Memref.view_whole, View.set_whole]

theorem body_at (c : Dev nD) (t : Fin cfg0.N) :
    atStart m c t ⊢ wp frame (wpE (defs₀ (F := F)) Variants.none (c : Thread nD τ) none) Set.univ (bodyAt0 t) (fun _ => atEnd m c t) := by
  unfold atStart atEnd bodyAt0
  simp only [before_0, before_1, before_2, before_3, before_4, before_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6]
  unfold Pipeline.ΦA tile
  rw [scopedRest0_eq]
  simp only [whole_eq]
  iintro ⟨⟨⟨K0, K1, K2, K3⟩, Hg⟩, Ho, ⟨%d0, H0⟩, ⟨%d1, H1⟩, ⟨%d2, H2⟩, ⟨%d3, H3⟩, ⟨%d4, H4⟩, ⟨%d5, H5⟩, ⟨%d6, H6⟩⟩
  ihave G0 := owns_rep c (st0_0 t) (iblk m c 0 t) $$ H0
  ihave G1 := owns_rep c (st0_1 t) (iblk m c 1 t) $$ H1
  ihave G2 := owns_rep c (st0_2 t) (iblk m c 2 t) $$ H2
  ihave G3 := owns_rep c (st0_3 t) (iblk m c 3 t) $$ H3
  ihave G4 := owns_rep c (st0_4 t) (iblk m c 4 t) $$ H4
  ihave G5 := owns_rep c (st0_5 t) (iblk m c 5 t) $$ H5
  ihave G6 := owns_rep c (st0_6 t) _ $$ H6
  iapply (body_run c (grid0.coords t) (st0_0 t) _ (st0_1 t) _ (st0_2 t) _ (st0_3 t) _ (st0_4 t) _ (st0_5 t) _ (st0_6 t) _
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (iblk m c 0 t) (iblk m c 1 t) (iblk m c 2 t) (iblk m c 3 t) (iblk m c 4 t) (iblk m c 5 t) _)
  isplitl [G0 G1 G2 G3 G4 G5 G6 K0 K1 K2 K3]
  · isplitl [G0]; · iexact G0
    isplitl [G1]; · iexact G1
    isplitl [G2]; · iexact G2
    isplitl [G3]; · iexact G3
    isplitl [G4]; · iexact G4
    isplitl [G5]; · iexact G5
    isplitl [G6]; · iexists _; iexact G6
    isplitl [K0]; · iexact K0
    isplitl [K1]; · iexact K1
    isplitl [K2]; · iexact K2
    iexact K3
  iintro ⟨G0, G1, G2, G3, G4, G5, G6, K0, K1, K2, K3⟩
  isplitl [Hg K0 K1 K2 K3]
  · isplitl [K0 K1 K2 K3]
    · isplitl [K0]; · iexact K0
      isplitl [K1]; · iexact K1
      isplitl [K2]; · iexact K2
      iexact K3
    iexact Hg
  isplitl [Ho]; · iexact Ho
  isplitl [G0]; · iapply (rep_owns c (st0_0 t) (iblk m c 0 t)); iexact G0
  isplitl [G1]; · iapply (rep_owns c (st0_1 t) (iblk m c 1 t)); iexact G1
  isplitl [G2]; · iapply (rep_owns c (st0_2 t) (iblk m c 2 t)); iexact G2
  isplitl [G3]; · iapply (rep_owns c (st0_3 t) (iblk m c 3 t)); iexact G3
  isplitl [G4]; · iapply (rep_owns c (st0_4 t) (iblk m c 4 t)); iexact G4
  isplitl [G5]; · iapply (rep_owns c (st0_5 t) (iblk m c 5 t)); iexact G5
  iapply (rep_owns c (st0_6 t) _); iexact G6

/-- The body the pipeline calls at a point's slots. -/
theorem body_row (t : Fin cfg0.N) : defs₀ (F := F) .tc cfg0.body (cfg0.bodyArgs t (cfg0.slots t)) = bodyAt0 t := by
  unfold defs₀; rw [Defs.onTc_tc]

theorem body_obl (c : Dev nD) : BodyObligation (dats (F := F) m 0 c) (defs₀ (F := F)) Variants.none () Set.univ := fun t => by
  rw [bigSep_W0, bigSep_W0, body_row]
  exact triple_restated (body_at m c t) rfl .rfl fun _ => .rfl

set_option backward.isDefEq.respectTransparency.types false in
/-- Every execution ends, each array at what the points' tiles make of it and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obl m c).loose) (hq := fun _ _ _ => rfl)
    (howed := fun _ _ => rfl) (V := V m) (hmain := hmain m Variants.none) (hA := dats_A m) (hΦ := fun _ _ => rfl)

/-- The arguments end unchanged and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (dats_A m) ((θ_run defs _ _).mono (fun _ h => h.1) (run_quiet m ρ)))
    ((θ_run defs _ _).mono (fun _ h => h.2) (run_quiet m ρ))

end Cert.Proof.CI

end
-- ==== Proof.CB.Model.lean ====
module

public import proofs.«01_k».proof.Proof.CB.Words
public import proofs.«01_k».proof.Proof.Gen.MixerC.Frame
public import Idealize.ShloMosaic.Lib.VecWindow

@[expose] public section

/-!
# What one grid point computes, block by block

At one grid point the kernel holds 512 query rows `q` (scaled, and beside them their decay features), 16 rows of ones
`on`, one head's keys `xk`, decay features of the keys `xx` and transposed values `xv`. It takes the key blocks in the
order `blk j 0, blk j 1, …, blk j j`. The first meets the diagonal and is masked.

Step `m` computes the scores `sc m`, raises the running maximum from `mx m` to `mx (m + 1)`, and takes the accumulator
from `ac m` to `ac (m + 1)`: the old one is rescaled to the new maximum, and the values (with the rows of ones below
them) against the weights are added.
-/

set_option maxRecDepth 16384

noncomputable section

namespace Cert.Proof.CB

open Cert.MixerC Cert.MixerC.Gen
open Idealize.ShloMosaic

variable {F : FTy → Type} [FloatOps F]

theorem blk_le (j m : ℕ) : 512 * blk j m + 512 ≤ 16384 := by unfold blk; omega

theorem koff_inb (j m : ℕ) : ∀ a, koff j m a + S512x128.size a ≤ S16384x128.size a := by
  intro k
  have := blk_le j m
  fin_cases k
  · exact this
  · exact Nat.le_refl 128

theorem voff_inb (j m : ℕ) : ∀ a, voff j m a + S128x512.size a ≤ S128x16384.size a := by
  intro k
  have := blk_le j m
  fin_cases k
  · exact Nat.le_refl 128
  · exact this

/-- The rows of the block of step `m`, of the keys or of their decay features. -/
def kwin (xk : Vec F S16384x128 .bf16) (j m : ℕ) : Vec F S512x128 .bf16 :=
  VecWindow.window xk (koff j m) S512x128.size (koff_inb j m)
/-- The values of the block of step `m`, one column per key. -/
def vwin (xv : Vec F S128x16384 .bf16) (j m : ℕ) : Vec F S128x512 .bf16 :=
  VecWindow.window xv (voff j m) S128x512.size (voff_inb j m)

variable (q : FVec F S512x256 .bf16) (on : FVec F S16x512 .bf16) (xk xx : Vec F S16384x128 .bf16) (xv : Vec F S128x16384 .bf16) (j : ℕ)

/-- The scores of step `m`. -/
def sc (m : ℕ) : Vec F S512x512 .f32 := k0_pay13 q (kwin xk j m) (kwin xx j m)

/-- The running maximum before step `m`. -/
def mx : ℕ → Vec F S1x512 .f32
  | 0 => k0_pay145
  | 1 => k0_pay155 (k0_pay152 k0_pay147 (sc q xk xx j 0) k0_pay145)
  | m + 2 => k0_pay4 (sc q xk xx j (m + 1)) (mx (m + 1))

/-- The accumulator before step `m`. -/
def ac : ℕ → Vec F S144x512 .f32
  | 0 => k0_pay146
  | 1 => k0_pay154 (k0_pay153 on k0_pay147 (vwin xv j 0) (sc q xk xx j 0) k0_pay145 k0_pay146)
  | m + 2 => k0_pay3 on (vwin xv j (m + 1)) (sc q xk xx j (m + 1)) (mx q xk xx j (m + 1)) (ac (m + 1))

/-- Where `j` is odd the last step stands alone. -/
theorem ac_odd (h : j % 2 = 1) : ac q on xk xx xv j (j + 1) = k0_pay3 on (vwin xv j (2 * (j / 2) + 1)) (sc q xk xx j (2 * (j / 2) + 1))
    (mx q xk xx j (2 * (j / 2) + 1)) (ac q on xk xx xv j (2 * (j / 2) + 1)) := by
  have e : j + 1 = 2 * (j / 2) + 2 := by omega
  rw [e]
  rfl

end Cert.Proof.CB
-- ==== Proof.CB.Trip2.lean ====
module

public import proofs.«01_k».proof.Proof.CB.State

@[expose] public section

/-!
# One trip of the loop of two steps

The trip is run once over a symbolic counter. What it leaves in each buffer is the model's value two steps on.
-/

set_option maxRecDepth 16384
set_option maxHeartbeats 4000000

noncomputable section

namespace Cert.Proof.CB

open Cert.MixerC Cert.MixerC.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S128x16384 .bf16) (harg6 : arg6.IsWhole) (arg7 : Memref sig .tc .vmem S512x128 .f32) (harg7 : arg7.IsWhole) (arg8 : Memref sig .tc .vmem S512x128 .bf16) (harg8 : arg8.IsWhole) (arg9 : Memref sig .tc .vmem S1x512 .f32) (harg9 : arg9.IsWhole) (arg10 : Memref sig .tc .vmem S144x512 .f32) (harg10 : arg10.IsWhole) (arg11 : Memref sig .tc .vmem S512x512 .f32) (harg11 : arg11.IsWhole) (arg12 : Memref sig .tc .vmem S512x512 .f32) (harg12 : arg12.IsWhole)

/-- One trip from step `n`, at the counter word `a`. -/
theorem trip5 (arg1 : BitVec 32) (v6 : FVec F S512x256 .bf16) (v7 : FVec F S16x512 .bf16) (v17 : BitVec 32) (v127 : BitVec 32) (k0_hw6 : k0_chk6 i v127) (c0_i32_69 : BitVec 32) (k : Fin (k0_t5_loop i v127).trips) (a : BitVec 32) (hc : k0_chk7 i a) (j n : ℕ)
    (hk0 : k0_off12 i a 0#32 = koff j (n + 2))
    (hk1 : k0_off12 i a 1#32 = koff j (n + 3))
    (hv0 : k0_off13 i a 0#32 = voff j (n + 1))
    (hv1 : k0_off13 i a 1#32 = voff j (n + 2))
    (x4 x5 : Vec F S16384x128 .bf16) (x6 : Vec F S128x16384 .bf16) (Φ : BitVec 32 → sProp 𝕄) :
    St arg4 arg5 arg6 arg9 arg10 arg11 arg12 v6 v7 x4 x5 x6 j c n ∗ (St arg4 arg5 arg6 arg9 arg10 arg11 arg12 v6 v7 x4 x5 x6 j c (n + 2) -∗ Φ (Scalar.addi a 2#32))
      ⊢ wp Idealize.ShloMosaic.frame (wpE defs₀ Variants.none (c : Thread nD τ) none) Set.univ (k0_t5_body (F := F) i arg2 harg2 arg3 harg3 arg4 harg4 arg5 harg5 arg6 harg6 arg7 harg7 arg8 harg8 arg9 harg9 arg10 harg10 arg11 harg11 arg12 harg12 arg1 v6 v7 v17 v127 k0_hw6 c0_i32_69 k a) Φ := by
  unfold St
  unfold k0_t5_body
  iintro ⟨⟨H4, H5, H6, H9, H10, H12, ⟨%f11, H11⟩⟩, Hwand⟩
  sl_exec
  sl_step
  unfold trip5.sl.v280
  iapply Hwand
  isplitl [H4]
  · iexact H4
  isplitl [H5]
  · iexact H5
  isplitl [H6]
  · iexact H6
  isplitl [H9]
  · iapply (hold_write c arg9 _ _ _ _ _ ?_) $$ H9
    sl_unfold_run_names
    simp -proj -dsimp only [fold_sc, fold_mx, fold_ac, reread_acc, reread_row, reread_sc, read_acc, read_row, read_sc, read_k arg4 x4 hk0, read_k arg5 x5 hk0, read_k arg4 x4 hk1, read_k arg5 x5 hk1]
    rfl
  isplitl [H10]
  · iapply (hold_write c arg10 _ _ _ _ _ ?_) $$ H10
    sl_unfold_run_names
    simp -proj -dsimp only [fold_sc, fold_mx, fold_ac, reread_acc, reread_row, reread_sc, read_acc, read_row, read_sc, read_k arg4 x4 hk0, read_k arg5 x5 hk0, read_k arg4 x4 hk1, read_k arg5 x5 hk1, read_v arg6 x6 hv0, read_v arg6 x6 hv1]
    rfl
  isplitl [H12]
  · iapply (hold_write c arg12 _ _ _ _ _ ?_) $$ H12
    sl_unfold_run_names
    change shapeCast S512x512 _ shapeCasts_S512x512_S512x512 = _
    simp -proj -dsimp only [fold_sc, fold_mx, fold_ac, reread_acc, reread_row, reread_sc, read_acc, read_row, read_sc, read_k arg4 x4 hk0, read_k arg5 x5 hk0, read_k arg4 x4 hk1, read_k arg5 x5 hk1]
    rfl
  · iexists _
    iexact H11

end Cert.Proof.CB
-- ==== Proof.ValueC.Math.lean ====
module

public import Idealize.ShloMosaic.PureOps.Ideal.Laws
public import Mathlib.Algebra.BigOperators.Intervals
public import Mathlib.Analysis.SpecialFunctions.Pow.Real

@[expose] public section

/-!
# The running softmax over the extended reals

A sweep over blocks of 512 scores keeps the greatest score so far, `top`, and the sum `wsum` of values weighted by two
to the power of the score less `top`. When `top` rises the old sum is rescaled. Here is that the rescaled sum is the sum
at the new `top`, that the sweep of the causal blocks is the sum over all keys, and that dividing the weighted sum by
the sum of the weights is the sum of the values against the divided weights.
-/

noncomputable section

namespace Cert.Proof.ValC

open Idealize.ShloMosaic Finset
open scoped BigOperators

/-- A nonnegative number below `⊤` distributes over a sum. -/
theorem mul_sum_of {ι : Type*} (s : Finset ι) (f : ι → EReal) {a : EReal} (h0 : 0 ≤ a) (h1 : a ≠ ⊤) :
    a * ∑ i ∈ s, f i = ∑ i ∈ s, a * f i := by
  classical
  induction s using Finset.induction_on with
  | empty => simp
  | insert b s hb ih => rw [sum_insert hb, sum_insert hb, EReal.left_distrib_of_nonneg_of_ne_top h0 h1, ih]

/-- The sum of real numbers is the same over the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The difference of two numbers is `⊥` where the second is `⊤`. -/
theorem sub_top' (x : EReal) : x - ⊤ = ⊥ := by
  rw [sub_eq_add_neg, EReal.neg_top, EReal.add_bot]

theorem exp2_sub_range {t u : EReal} (h : t ≤ u) : 0 ≤ Ideal.exp2 (t - u) ∧ Ideal.exp2 (t - u) ≠ ⊤ := by
  induction u with
  | top => rw [sub_top', Ideal.exp2_bot]; exact ⟨le_rfl, EReal.zero_ne_top⟩
  | bot =>
    rw [le_bot_iff.1 h, sub_eq_add_neg, EReal.bot_add, Ideal.exp2_bot]
    exact ⟨le_rfl, EReal.zero_ne_top⟩
  | coe u =>
    induction t with
    | top => exact absurd h (not_le.2 (EReal.coe_lt_top u))
    | bot => rw [sub_eq_add_neg, EReal.bot_add, Ideal.exp2_bot]; exact ⟨le_rfl, EReal.zero_ne_top⟩
    | coe t =>
      rw [← EReal.coe_sub, Ideal.exp2_coe]
      exact ⟨EReal.coe_nonneg.2 (Real.rpow_nonneg (by norm_num) _), EReal.coe_ne_top _⟩

/-- A weight at an old maximum, rescaled, is the weight at the new one. -/
theorem rescale {s t u : EReal} (hst : s ≤ t) (htu : t ≤ u) :
    Ideal.exp2 (t - u) * Ideal.exp2 (s - t) = Ideal.exp2 (s - u) := by
  induction u with
  | top => rw [sub_top', sub_top', Ideal.exp2_bot, zero_mul]
  | bot =>
    rw [le_bot_iff.1 htu] at hst ⊢
    rw [le_bot_iff.1 hst, sub_eq_add_neg, EReal.bot_add, Ideal.exp2_bot, zero_mul]
  | coe u =>
    induction t with
    | top => exact absurd htu (not_le.2 (EReal.coe_lt_top u))
    | bot =>
      rw [le_bot_iff.1 hst, sub_eq_add_neg, sub_eq_add_neg, EReal.bot_add, EReal.bot_add, Ideal.exp2_bot, zero_mul]
    | coe t =>
      induction s with
      | top => exact absurd hst (not_le.2 (EReal.coe_lt_top t))
      | bot => rw [sub_eq_add_neg ⊥, sub_eq_add_neg ⊥, EReal.bot_add, EReal.bot_add, Ideal.exp2_bot, mul_zero]
      | coe s =>
        rw [← EReal.coe_sub, ← EReal.coe_sub, ← EReal.coe_sub, Ideal.exp2_coe, Ideal.exp2_coe, Ideal.exp2_coe,
          ← EReal.coe_mul]
        refine congrArg _ ?_
        show (2 : ℝ) ^ (t - u) * (2 : ℝ) ^ (s - t) = (2 : ℝ) ^ (s - u)
        rw [← Real.rpow_add (by norm_num)]
        congr 1
        ring

section

variable (S V : ℕ → Fin 512 → EReal)

/-- The greatest score of the first `n` blocks. -/
def top : ℕ → EReal
  | 0 => ⊥
  | n + 1 => max (top n) (univ.sup (S n))

/-- The weighted sum of the first `n` blocks. -/
def wsum (n : ℕ) : EReal := ∑ mm ∈ range n, ∑ r : Fin 512, V mm r * Ideal.exp2 (S mm r - top S n)

theorem top_le (n : ℕ) (x : EReal) : top S n ≤ x ↔ ∀ mm, mm < n → ∀ r, S mm r ≤ x := by
  induction n with
  | zero => simp [top]
  | succ n ih =>
    rw [top, max_le_iff, ih, Finset.sup_le_iff]
    constructor
    · rintro ⟨h1, h2⟩ mm hm r
      rcases Nat.lt_succ_iff_lt_or_eq.1 hm with h | rfl
      · exact h1 mm h r
      · exact h2 r (mem_univ r)
    · exact fun h => ⟨fun mm hm r => h mm (Nat.lt_succ_of_lt hm) r, fun r _ => h n (Nat.lt_succ_self n) r⟩

/-- One step of the sweep. -/
theorem wsum_succ (n : ℕ) : Ideal.exp2 (top S n - top S (n + 1)) * wsum S V n +
    ∑ r : Fin 512, V n r * Ideal.exp2 (S n r - top S (n + 1)) = wsum S V (n + 1) := by
  have hle : top S n ≤ top S (n + 1) := le_max_left _ _
  obtain ⟨h0, h1⟩ := exp2_sub_range hle
  rw [wsum, wsum, sum_range_succ, mul_sum_of _ _ h0 h1]
  refine congrArg (fun e : EReal => e + _) (sum_congr rfl fun mm hm => ?_)
  rw [mul_sum_of _ _ h0 h1]
  refine sum_congr rfl fun r _ => ?_
  rw [mul_left_comm, rescale ((top_le S n _).1 le_rfl mm (mem_range.1 hm) r) hle]

end

/-- The block of step `m`: the diagonal block first, then the earlier ones in order. -/
def ord (j m : ℕ) : ℕ := if m = 0 then j else m - 1

theorem sum_ord (j : ℕ) (f : ℕ → EReal) : ∑ mm ∈ range (j + 1), f (ord j mm) = ∑ b ∈ range (j + 1), f b := by
  rw [sum_range_succ', sum_range_succ]
  rfl

theorem sum_blocks (f : ℕ → EReal) (n : ℕ) :
    ∑ b ∈ range n, ∑ r : Fin 512, f (512 * b + r.val) = ∑ k ∈ range (512 * n), f k := by
  induction n with
  | zero => simp
  | succ n ih =>
    rw [sum_range_succ, ih, Nat.mul_succ, Finset.sum_range_add f, Finset.sum_range (fun r => f (512 * n + r))]

section

variable (T : ℕ → EReal) (i j : ℕ) (hj : j < 32) (hi : i / 512 = j) (hT : ∀ k, i < k → T k = ⊥)
include hj hi hT

/-- The scores of the blocks, in the order of the sweep, have the maximum of all keys' scores. -/
theorem top_all : top (fun mm r => T (512 * ord j mm + r.val)) (j + 1) = (univ : Finset (Fin 16384)).sup fun k => T k.val := by
  refine eq_of_forall_ge_iff fun x => ?_
  rw [top_le, Finset.sup_le_iff]
  constructor
  · intro h k _
    by_cases hk : i < k.val
    · rw [hT _ hk]; exact bot_le
    · by_cases hb : k.val / 512 = j
      · have := h 0 (by omega) ⟨k.val % 512, by omega⟩
        have e : 512 * ord j 0 + k.val % 512 = k.val := by simp only [ord, if_true]; omega
        rwa [show (⟨k.val % 512, by omega⟩ : Fin 512).val = k.val % 512 from rfl, e] at this
      · have := h (k.val / 512 + 1) (by omega) ⟨k.val % 512, by omega⟩
        have e : 512 * ord j (k.val / 512 + 1) + k.val % 512 = k.val := by
          simp only [ord, Nat.succ_ne_zero, if_false, Nat.add_sub_cancel]; omega
        rwa [show (⟨k.val % 512, by omega⟩ : Fin 512).val = k.val % 512 from rfl, e] at this
  · intro h mm hm r
    have hr := r.isLt
    have hb : ord j mm ≤ j := by unfold ord; split <;> omega
    exact h ⟨512 * ord j mm + r.val, by omega⟩ (mem_univ _)

/-- The weighted sum of the sweep is the weighted sum over all keys. -/
theorem wsum_all (v : ℕ → EReal) : wsum (fun mm r => T (512 * ord j mm + r.val)) (fun mm r => v (512 * ord j mm + r.val)) (j + 1) =
    ∑ k : Fin 16384, v k.val * Ideal.exp2 (T k.val - (univ : Finset (Fin 16384)).sup fun k => T k.val) := by
  rw [wsum, top_all T i j hj hi hT]
  generalize (univ : Finset (Fin 16384)).sup (fun k => T k.val) = M
  rw [sum_ord j (fun b => ∑ r : Fin 512, v (512 * b + r.val) * Ideal.exp2 (T (512 * b + r.val) - M)),
    sum_blocks (fun k => v k * Ideal.exp2 (T k - M)), ← Finset.sum_range (fun k => v k * Ideal.exp2 (T k - M))]
  refine sum_subset (fun k hk => ?_) fun k _ hk => ?_
  · rw [mem_range] at hk ⊢; omega
  · rw [mem_range] at hk
    rw [hT k (by omega), sub_eq_add_neg, EReal.bot_add, Ideal.exp2_bot, mul_zero]

end

/-- Scores in base 2 times the logarithm of 2 are scores in base `e`. -/
theorem exp_log2 (x : EReal) : Ideal.exp (x * ((Real.log 2 : ℝ) : EReal)) = Ideal.exp2 x := by
  have hl : 0 < Real.log 2 := Real.log_pos (by norm_num)
  induction x with
  | bot => rw [EReal.bot_mul_coe_of_pos hl, Ideal.exp_bot, Ideal.exp2_bot]
  | top => rw [EReal.top_mul_coe_of_pos hl]; rfl
  | coe x =>
    rw [← EReal.coe_mul, Ideal.exp_coe, Ideal.exp2_coe]
    refine congrArg _ ?_
    show Real.exp (x * Real.log 2) = (2 : ℝ) ^ x
    rw [Real.rpow_def_of_pos (by norm_num), mul_comm]

theorem sub_mul_log2 (x y : EReal) : x * ((Real.log 2 : ℝ) : EReal) - y * ((Real.log 2 : ℝ) : EReal) =
    (x - y) * ((Real.log 2 : ℝ) : EReal) := by
  have hl : 0 ≤ Real.log 2 := Real.log_nonneg (by norm_num)
  rw [sub_eq_add_neg, sub_eq_add_neg, EReal.right_distrib_of_nonneg_of_ne_top (EReal.coe_nonneg.2 hl) (EReal.coe_ne_top _),
    EReal.neg_mul]

theorem sup_mul_log2 (T : Fin 16384 → EReal) : (univ.sup fun k => T k * ((Real.log 2 : ℝ) : EReal)) =
    univ.sup T * ((Real.log 2 : ℝ) : EReal) := by
  have hl : 0 < Real.log 2 := Real.log_pos (by norm_num)
  refine (Finset.apply_sup_eq_sup_comp_of_linearOrder (fun x : EReal => x * ((Real.log 2 : ℝ) : EReal)) ?_ ?_).symm
  · exact fun x y h => mul_le_mul_of_nonneg_right h (EReal.coe_nonneg.2 hl.le)
  · exact EReal.bot_mul_coe_of_pos hl

section

variable (s : ℕ → ℝ) (i : Fin 16384)

/-- The score of a key, `⊥` after the query. -/
def causal (k : ℕ) : EReal := if k ≤ i.val then ((s k : ℝ) : EReal) else ⊥

/-- The greatest score. -/
def peak : EReal := (univ : Finset (Fin 16384)).sup fun k => causal s i k.val

/-- The weight of a key. -/
def wt (k : ℕ) : EReal := Ideal.exp2 (causal s i k - peak s i)

theorem peak_real : ∃ p : ℝ, peak s i = (p : EReal) := by
  have h1 : peak s i < ⊤ := by
    refine (Finset.sup_lt_iff bot_lt_top).2 fun k _ => ?_
    unfold causal
    split
    · exact EReal.coe_lt_top _
    · exact bot_lt_top
  have h2 : ((s i.val : ℝ) : EReal) ≤ peak s i := by
    have := Finset.le_sup (f := fun k : Fin 16384 => causal s i k.val) (mem_univ i)
    rwa [causal, if_pos le_rfl] at this
  exact ⟨(peak s i).toReal, (EReal.coe_toReal h1.ne (ne_bot_of_le_ne_bot (EReal.coe_ne_bot _) h2)).symm⟩

theorem wt_real : ∃ w : ℕ → ℝ, (∀ k, wt s i k = (w k : EReal)) ∧ (∀ k, 0 ≤ w k) ∧ 0 < w i.val := by
  obtain ⟨p, hp⟩ := peak_real s i
  refine ⟨fun k => if k ≤ i.val then (2 : ℝ) ^ (s k - p) else 0, fun k => ?_, fun k => ?_, ?_⟩
  · unfold wt causal
    rw [hp]
    by_cases h : k ≤ i.val
    · simp only [if_pos h]
      rw [← EReal.coe_sub, Ideal.exp2_coe]
      rfl
    · simp only [if_neg h]
      rw [sub_eq_add_neg, EReal.bot_add, Ideal.exp2_bot, EReal.coe_zero]
  · dsimp only
    split
    · exact Real.rpow_nonneg (by norm_num) _
    · exact le_rfl
  · simp only [le_refl, if_true]
    exact Real.rpow_pos_of_pos (by norm_num) _

/-- The weights' sum is a positive real number. -/
theorem wt_sum : ∃ d : ℝ, 0 < d ∧ ∑ k : Fin 16384, wt s i k.val = (d : EReal) := by
  obtain ⟨w, hw, h0, hi⟩ := wt_real s i
  refine ⟨∑ k : Fin 16384, w k.val, ?_, ?_⟩
  · exact Finset.sum_pos' (fun k _ => h0 k.val) ⟨i, mem_univ i, hi⟩
  · simp only [hw]
    exact (coe_sum univ fun k : Fin 16384 => w k.val).symm

/-- Dividing the weights before or after the sum is the same. -/
theorem divided (v : ℕ → EReal) :
    ∑ k : Fin 16384, Ideal.div (wt s i k.val) (∑ k : Fin 16384, wt s i k.val) * v k.val =
      Ideal.div (∑ k : Fin 16384, v k.val * wt s i k.val) (∑ k : Fin 16384, wt s i k.val) := by
  obtain ⟨d, hd, hs⟩ := wt_sum s i
  have hp : 0 ≤ 1 / d := by positivity
  rw [hs, Ideal.div_coe hd.ne', mul_comm, mul_sum_of _ _ (EReal.coe_nonneg.2 hp) (EReal.coe_ne_top _)]
  refine sum_congr rfl fun k _ => ?_
  rw [Ideal.div_coe hd.ne', mul_comm (wt s i k.val), mul_assoc, mul_comm (wt s i k.val)]

end

end Cert.Proof.ValC
-- ==== Proof.ValueC.Pay.lean ====
module

public import proofs.«01_k».proof.Proof.ValueC.Math
public import proofs.«01_k».proof.Proof.CI.Model
public import Idealize.ShloMosaic.Lib.Pointwise
public import Idealize.ShloMosaic.Lib.WordCmp

@[expose] public section

/-!
# Mixer C's vector operations, entry by entry

Each value the body of mixer C computes, read at one entry over the extended reals.
-/

set_option maxRecDepth 16384

noncomputable section

namespace Cert.Proof.ValC

open Cert.MixerCIdeal Cert.MixerCIdeal.Gen
open Idealize.ShloMosaic
open Idealize.ShloMosaic.WordCmp
open scoped BigOperators

local notation "𝕀" => Idealize.ShloMosaic.Ideal

theorem bot_bits : Ideal.ofBits .f32 0xFF800000#32 = (⊥ : EReal) := by
  simp [Ideal.ofBits, Ideal.ieee]

theorem one_bits16 : Ideal.ofBits .bf16 0x3F80#16 = (1 : EReal) := by
  simp [Ideal.ofBits, Ideal.ieee, -EReal.coe_mul]; norm_num

/-- The factor on the scores: one over the square root of 128, in base two. -/
def unit2 : ℝ := (Real.sqrt 128)⁻¹ * (Real.log 2)⁻¹

theorem named_scale : (Named.named (F := 𝕀) (φ := .f32) κ "log2_scale" 0x3E0293EE#32) = ((unit2 : ℝ) : EReal) :=
  IdealRules.named_const.ideal_named_scalar _ _ _ _ rfl

theorem pay287_lo (q x : FVec 𝕀 S512x128 .bf16) (c : Fin 512) (e : Fin 128) :
    k0_pay143 (F := 𝕀) q x (ix2 c (Fin.castAdd 128 e)) = q (ix2 c e) * ((unit2 : ℝ) : EReal) := by
  pointwise [k0_pay143]
  rw [named_scale]
  exact dif_pos e.isLt

theorem pay287_hi (q x : FVec 𝕀 S512x128 .bf16) (c : Fin 512) (e : Fin 128) :
    k0_pay143 (F := 𝕀) q x (ix2 c (Fin.natAdd 128 e)) = x (ix2 c e) := by
  pointwise [k0_pay143]
  rw [dif_neg (show ¬ (Fin.natAdd 128 e).val < 128 by simp)]
  exact congrArg (fun z => x (ix2 c z)) (Fin.ext (Nat.add_sub_cancel_left 128 e.val))

theorem pay13_at (q : FVec 𝕀 S512x256 .bf16) (k kx : FVec 𝕀 S512x128 .bf16) (r c : Fin 512) :
    k0_pay13 (F := 𝕀) q k kx (ix2 r c) = (∑ e : Fin 128, k (ix2 r e) * q (ix2 c (Fin.castAdd 128 e))) +
      ∑ e : Fin 128, kx (ix2 r e) * q (ix2 c (Fin.natAdd 128 e)) := by
  pointwise [k0_pay13]
  rfl

theorem pay144_at (d : Fin 16) (c : Fin 512) : k0_pay144 (F := 𝕀) (ix2 d c) = 1 := by
  pointwise [k0_pay144]

theorem pay145_at (c : Fin 512) : k0_pay145 (F := 𝕀) (ix2 0 c) = ⊥ := by
  pointwise [k0_pay145]
  exact bot_bits

theorem pay146_at (d : Fin 144) (c : Fin 512) : k0_pay146 (F := 𝕀) (ix2 d c) = 0 := by
  pointwise [k0_pay146]

theorem pay147_at (r c : Fin 512) : k0_pay147 (ix2 r c) = if c.val < r.val then 1#1 else 0#1 := by
  have h1 := c.isLt
  have h2 := r.isLt
  pointwise [k0_pay147]
  rw [show IntOp.addi (BitVec.ofNat 32 r.val) 0#32 = BitVec.ofNat 32 r.val from (BitVec.ofNat_add _ 0).symm,
    cmpi_sgt_ofNat (by norm_num; omega) (by norm_num; omega)]
  by_cases a : c.val < r.val <;> simp [a]

theorem pay2_at (s : FVec 𝕀 S512x512 .f32) (m : FVec 𝕀 S1x512 .f32) (c : Fin 512) :
    k0_pay2 (F := 𝕀) s m (ix2 0 c) = max (m (ix2 0 c)) (Finset.univ.sup fun r : Fin 512 => s (ix2 r c)) := by
  pointwise [k0_pay2]
  rw [bot_bits]
  rfl

theorem pay4_at (s : FVec 𝕀 S512x512 .f32) (m : FVec 𝕀 S1x512 .f32) (c : Fin 512) :
    k0_pay4 (F := 𝕀) s m (ix2 0 c) = max (m (ix2 0 c)) (Finset.univ.sup fun r : Fin 512 => s (ix2 r c)) := by
  pointwise [k0_pay4]
  exact pay2_at s m c

theorem pay3_at (on : FVec 𝕀 S16x512 .bf16) (v : FVec 𝕀 S128x512 .bf16) (s : FVec 𝕀 S512x512 .f32) (m : FVec 𝕀 S1x512 .f32)
    (a : FVec 𝕀 S144x512 .f32) (d : Fin 144) (c : Fin 512) :
    k0_pay3 (F := 𝕀) on v s m a (ix2 d c) = Ideal.exp2 (m (ix2 0 c) - k0_pay2 (F := 𝕀) s m (ix2 0 c)) * a (ix2 d c) +
      ∑ r : Fin 512, (if h : d.val < 128 then v (ix2 ⟨d.val, h⟩ r) else on (ix2 ⟨d.val - 128, by omega⟩ r)) *
        Ideal.exp2 (s (ix2 r c) - k0_pay2 (F := 𝕀) s m (ix2 0 c)) := by
  pointwise [k0_pay3]
  rfl

/-- The masked scores of the block on the diagonal. -/
theorem pay151_at (s : FVec 𝕀 S512x512 .f32) (r c : Fin 512) :
    k0_pay151 (F := 𝕀) k0_pay147 s (ix2 r c) = if c.val < r.val then ⊥ else s (ix2 r c) := by
  pointwise [k0_pay151]
  rw [pay147_at, bot_bits]
  by_cases a : c.val < r.val <;> simp [a, Scalar.select]

/-- The first step is a step on the masked scores. -/
theorem pay298_eq (s : FVec 𝕀 S512x512 .f32) (m : FVec 𝕀 S1x512 .f32) :
    k0_pay155 (F := 𝕀) (k0_pay152 k0_pay147 s m) = k0_pay4 (k0_pay151 (F := 𝕀) k0_pay147 s) m := rfl
theorem pay297_eq (on : FVec 𝕀 S16x512 .bf16) (v : FVec 𝕀 S128x512 .bf16) (s : FVec 𝕀 S512x512 .f32) (m : FVec 𝕀 S1x512 .f32)
    (a : FVec 𝕀 S144x512 .f32) :
    k0_pay154 (F := 𝕀) (k0_pay153 on k0_pay147 v s m a) = k0_pay3 on v (k0_pay151 (F := 𝕀) k0_pay147 s) m a := rfl

theorem pay12_at (a : FVec 𝕀 S144x512 .f32) (g : FVec 𝕀 S512x128 .f32) (c : Fin 512) (d : Fin 128) :
    k0_pay12 (F := 𝕀) a g (ix2 c d) = Ideal.div (a (ix2 (Fin.castLE (by norm_num) d) c)) (a (ix2 (128 : Fin 144) c)) * (g (ix2 c d) * Ideal.logistic (g (ix2 c d))) := by
  pointwise [k0_pay12]
  rfl

end Cert.Proof.ValC
-- ==== Proof.ValueC.Step.lean ====
module

public import proofs.«01_k».proof.Proof.ValueC.Pay

@[expose] public section

/-!
# The sweep at one query

Column `c` of the sweep of query tile `j` is query `512 j + c`. The running maximum before step `n` is the greatest
masked score of the first `n` blocks, and a row of the accumulator is the weighted sum of that row of the values (or of
the ones below them) over those blocks, relative to that maximum.
-/

set_option maxRecDepth 16384

noncomputable section

namespace Cert.Proof.ValC

open Cert.MixerCIdeal Cert.MixerCIdeal.Gen
open Idealize.ShloMosaic Finset
open scoped BigOperators

local notation "𝕀" => Idealize.ShloMosaic.Ideal

variable (q : FVec 𝕀 S512x256 .bf16) (on : FVec 𝕀 S16x512 .bf16) (xk xx : Vec 𝕀 S16384x128 .bf16) (xv : Vec 𝕀 S128x16384 .bf16) (j : ℕ)

/-- The scores a step uses: those of the first are masked. -/
def ss (mm : ℕ) : FVec 𝕀 S512x512 .f32 :=
  if mm = 0 then k0_pay151 (F := 𝕀) k0_pay147 (CI.sc (F := 𝕀) q xk xx j 0) else CI.sc (F := 𝕀) q xk xx j mm

theorem mx_succ (n : ℕ) : CI.mx (F := 𝕀) q xk xx j (n + 1) = k0_pay4 (F := 𝕀) (ss q xk xx j n) (CI.mx (F := 𝕀) q xk xx j n) := by
  cases n with
  | zero => exact pay298_eq _ _
  | succ n => rfl

theorem ac_succ (n : ℕ) : CI.ac (F := 𝕀) q on xk xx xv j (n + 1) =
    k0_pay3 (F := 𝕀) on (CI.vwin (F := 𝕀) xv j n) (ss q xk xx j n) (CI.mx (F := 𝕀) q xk xx j n) (CI.ac (F := 𝕀) q on xk xx xv j n) := by
  cases n with
  | zero => exact pay297_eq _ _ _ _ _
  | succ n => rfl

variable (c : Fin 512) (S V : ℕ → Fin 512 → EReal) (hS : ∀ mm, mm ≤ j → ∀ r : Fin 512, ss q xk xx j mm (ix2 r c) = S mm r)
include hS

theorem mx_at (n : ℕ) (hn : n ≤ j + 1) : CI.mx (F := 𝕀) q xk xx j n (ix2 0 c) = top S n := by
  induction n with
  | zero => exact pay145_at c
  | succ n ih =>
    rw [mx_succ, pay4_at, ih (by omega), top]
    exact congrArg (max (top S n)) (sup_congr rfl fun r _ => hS n (by omega) r)

theorem ac_at (d : Fin 144)
    (hV : ∀ mm, mm ≤ j → ∀ r : Fin 512, (if h : d.val < 128 then CI.vwin (F := 𝕀) xv j mm (ix2 ⟨d.val, h⟩ r)
      else on (ix2 ⟨d.val - 128, by omega⟩ r)) = V mm r)
    (n : ℕ) (hn : n ≤ j + 1) : CI.ac (F := 𝕀) q on xk xx xv j n (ix2 d c) = wsum S V n := by
  induction n with
  | zero => exact pay146_at d c
  | succ n ih =>
    have hp : k0_pay2 (F := 𝕀) (ss q xk xx j n) (CI.mx (F := 𝕀) q xk xx j n) (ix2 0 c) = top S (n + 1) := by
      rw [← mx_at q xk xx j c S hS (n + 1) hn, mx_succ, pay4_at, pay2_at]
    rw [ac_succ, pay3_at, ih (by omega), mx_at q xk xx j c S hS n (by omega), hp, ← wsum_succ]
    refine congrArg (fun e : EReal => Ideal.exp2 (top S n - top S (n + 1)) * wsum S V n + e) (sum_congr rfl fun r _ => ?_)
    rw [hV n (by omega) r, hS n (by omega) r]

end Cert.Proof.ValC
-- ==== Proof.ValueC.Block.lean ====
module

public import proofs.«01_k».proof.Proof.ValueC.Step
public import proofs.«01_k».proof.Proof.CI.Run
public import Idealize.ShloMosaic.Lib.Pipeline.ValueKit
public import Idealize.ShloMosaic.Lib.StableHlo.ReadAt

@[expose] public section

/-!
# The blocks of one grid point as entries of the arguments

At head `h` and query tile `j` the six input blocks are the tile's queries and their decay features, the head's keys
and their decay features, the head's values transposed and the tile's gates.
-/

set_option maxRecDepth 16384

noncomputable section

namespace Cert.Proof.ValC

open Cert.MixerCIdeal Cert.MixerCIdeal.Gen
open Idealize.ShloMosaic Idealize.ShloMosaic.TcCoe

local notation "𝕀" => Idealize.ShloMosaic.Ideal

variable (m : (ℓ : Loc nD τ sig) → Buf (Elt 𝕀) ℓ) (c : Dev nD)

/-- The queries and, from column 1024, the keys. -/
abbrev rows : Vec 𝕀 S16384x2048 .bf16 := m ((c : Thread nD τ).loc main_arg0)
/-- The decay features of the queries. -/
abbrev feats : Vec 𝕀 S16384x1024 .bf16 := m ((c : Thread nD τ).loc main_arg1)
/-- The decay features of the keys. -/
abbrev kfeats : Vec 𝕀 S16384x1024 .bf16 := m ((c : Thread nD τ).loc main_arg2)
/-- The values, one column per key. -/
abbrev vals : Vec 𝕀 S2048x16384 .bf16 := m ((c : Thread nD τ).loc main_arg3)
/-- The gates. -/
abbrev gates : Vec 𝕀 S16384x2048 .f32 := m ((c : Thread nD τ).loc main_arg4)

/-- The block indices of the seven windows. -/
theorem idx : ∀ t : Fin cfg0.N, win0_0.index t = ![(grid0.coords t 1).val, (grid0.coords t 0).val] ∧
    win0_1.index t = ![(grid0.coords t 1).val, (grid0.coords t 0).val] ∧
    win0_2.index t = ![0, 8 + (grid0.coords t 0).val] ∧ win0_3.index t = ![0, (grid0.coords t 0).val] ∧
    win0_4.index t = ![(grid0.coords t 0).val, 0] ∧
    win0_5.index t = ![(grid0.coords t 1).val, (grid0.coords t 0).val] ∧
    win0_6.index t = ![(grid0.coords t 1).val, (grid0.coords t 0).val] :=
  (by decide +kernel : ∀ t : Fin grid0.N, _)

theorem head_lt (t : Fin cfg0.N) : (grid0.coords t 0).val < 8 := (grid0.coords t 0).isLt
theorem tile_lt (t : Fin cfg0.N) : (grid0.coords t 1).val < 32 := (grid0.coords t 1).isLt

theorem blk0_at (t : Fin cfg0.N) (r : Fin 512) (e : Fin 128) (a : Fin 16384) (n : Fin 2048)
    (ha : a.val = 512 * (grid0.coords t 1).val + r.val) (hn : n.val = 128 * (grid0.coords t 0).val + e.val) :
    iblk m c 0 t (ix2 r e) = rows m c (ix2 a n) := by
  have hx : (win0_0.blk t).view.emb (ix2 r e) = ix2 a n := by
    blk_ext [idx t]
  unfold iblk
  blk_simp
  rw [hx]

theorem blk1_at (t : Fin cfg0.N) (r : Fin 512) (e : Fin 128) (a : Fin 16384) (n : Fin 1024)
    (ha : a.val = 512 * (grid0.coords t 1).val + r.val) (hn : n.val = 128 * (grid0.coords t 0).val + e.val) :
    iblk m c 1 t (ix2 r e) = feats m c (ix2 a n) := by
  have hx : (win0_1.blk t).view.emb (ix2 r e) = ix2 a n := by
    blk_ext [idx t]
  unfold iblk
  blk_simp
  rw [hx]

theorem blk2_at (t : Fin cfg0.N) (a : Fin 16384) (e : Fin 128) (n : Fin 2048)
    (hn : n.val = 1024 + 128 * (grid0.coords t 0).val + e.val) : iblk m c 2 t (ix2 a e) = rows m c (ix2 a n) := by
  have hx : (win0_2.blk t).view.emb (ix2 a e) = ix2 a n := by
    blk_ext [idx t]
  unfold iblk
  blk_simp
  rw [hx]

theorem blk3_at (t : Fin cfg0.N) (a : Fin 16384) (e : Fin 128) (n : Fin 1024)
    (hn : n.val = 128 * (grid0.coords t 0).val + e.val) : iblk m c 3 t (ix2 a e) = kfeats m c (ix2 a n) := by
  have hx : (win0_3.blk t).view.emb (ix2 a e) = ix2 a n := by
    blk_ext [idx t]
  unfold iblk
  blk_simp
  rw [hx]

theorem blk4_at (t : Fin cfg0.N) (a : Fin 16384) (d : Fin 128) (n : Fin 2048)
    (hn : n.val = 128 * (grid0.coords t 0).val + d.val) : iblk m c 4 t (ix2 d a) = vals m c (ix2 n a) := by
  have hx : (win0_4.blk t).view.emb (ix2 d a) = ix2 n a := by
    blk_ext [idx t]
  unfold iblk
  blk_simp
  rw [hx]

theorem blk5_at (t : Fin cfg0.N) (r : Fin 512) (d : Fin 128) (a : Fin 16384) (n : Fin 2048)
    (ha : a.val = 512 * (grid0.coords t 1).val + r.val) (hn : n.val = 128 * (grid0.coords t 0).val + d.val) :
    iblk m c 5 t (ix2 r d) = gates m c (ix2 a n) := by
  have hx : (win0_5.blk t).view.emb (ix2 r d) = ix2 a n := by
    blk_ext [idx t]
  unfold iblk
  blk_simp
  rw [hx]

end Cert.Proof.ValC
-- ==== Proof.ValueC.Out.lean ====
module

public import proofs.«01_k».proof.Proof.ValueC.Block

@[expose] public section

/-!
# The output tile of one grid point

When the queries, keys and decay features are real numbers, the tile at head `h` and query tile `j` holds at query `i`
and head column `d` the sum of the values' column `d` over the keys up to the query against their weights, divided by
the sum of the weights, times the gate.
-/

set_option maxRecDepth 16384

noncomputable section

namespace Cert.Proof.ValC

open Cert.MixerCIdeal Cert.MixerCIdeal.Gen
open Idealize.ShloMosaic Idealize.ShloMosaic.TcCoe Finset
open scoped BigOperators

local notation "𝕀" => Idealize.ShloMosaic.Ideal

/-- The base-two score of key `t` for query `i` in head `h`. -/
def score (R X K : ℕ → ℕ → ℝ) (h i t : ℕ) : ℝ :=
  (∑ e : Fin 128, R t (1024 + 128 * h + e.val) * (R i (128 * h + e.val) * unit2)) +
    ∑ e : Fin 128, K t (128 * h + e.val) * X i (128 * h + e.val)

/-- Row `n` of the transposed values at key `k`. -/
def val (x : Vec 𝕀 S2048x16384 .bf16) (n : Fin 2048) (k : ℕ) : EReal := if h : k < 16384 then x (ix2 n ⟨k, h⟩) else 0

/-- The keys of a step are a run of 512 rows. -/
theorem kwin_at (xk : Vec 𝕀 S16384x128 .bf16) (j mm : ℕ) (hj : j < 32) (hm : mm ≤ j) (r : Fin 512) (e : Fin 128)
    (hr : 512 * ord j mm + r.val < 16384) :
    CI.kwin (F := 𝕀) xk j mm (ix2 r e) = xk (ix2 ⟨512 * ord j mm + r.val, hr⟩ e) := by
  unfold CI.kwin VecWindow.window
  refine congrArg xk (funext fun b => Fin.ext ?_)
  match b with
  | ⟨0, _⟩ => show 512 * CI.blk j mm + 1 * r.val = 512 * ord j mm + r.val; unfold CI.blk ord; split <;> omega
  | ⟨1, _⟩ => show 0 + 1 * e.val = e.val; omega

/-- The values of a step are a run of 512 columns. -/
theorem vwin_at (xv : Vec 𝕀 S128x16384 .bf16) (j mm : ℕ) (hj : j < 32) (hm : mm ≤ j) (d : Fin 128) (r : Fin 512)
    (hr : 512 * ord j mm + r.val < 16384) :
    CI.vwin (F := 𝕀) xv j mm (ix2 d r) = xv (ix2 d ⟨512 * ord j mm + r.val, hr⟩) := by
  unfold CI.vwin VecWindow.window
  refine congrArg xv (funext fun b => Fin.ext ?_)
  match b with
  | ⟨0, _⟩ => show 0 + 1 * d.val = d.val; omega
  | ⟨1, _⟩ => show 512 * CI.blk j mm + 1 * r.val = 512 * ord j mm + r.val; unfold CI.blk ord; split <;> omega

theorem ord_lt (j mm : ℕ) (hj : j < 32) (hm : mm ≤ j) (r : Fin 512) : 512 * ord j mm + r.val < 16384 := by
  have := r.isLt
  unfold ord
  split <;> omega

/-- A row of the accumulator after the last step. -/
theorem row_at (q : FVec 𝕀 S512x256 .bf16) (on : FVec 𝕀 S16x512 .bf16) (xk xx : Vec 𝕀 S16384x128 .bf16) (xv : Vec 𝕀 S128x16384 .bf16)
    (j : ℕ) (hj : j < 32) (c : Fin 512) (a : Fin 16384) (hi : a.val / 512 = j) (s : ℕ → ℝ)
    (hS : ∀ mm, mm ≤ j → ∀ r : Fin 512, ss q xk xx j mm (ix2 r c) = causal s a (512 * ord j mm + r.val)) (d : Fin 144) (v : ℕ → EReal)
    (hV : ∀ mm, mm ≤ j → ∀ r : Fin 512, (if h : d.val < 128 then CI.vwin (F := 𝕀) xv j mm (ix2 ⟨d.val, h⟩ r)
      else on (ix2 ⟨d.val - 128, by omega⟩ r)) = v (512 * ord j mm + r.val)) :
    CI.ac (F := 𝕀) q on xk xx xv j (j + 1) (ix2 d c) = ∑ k : Fin 16384, v k.val * wt s a k.val :=
  (ac_at q on xk xx xv j c (fun mm r => causal s a (512 * ord j mm + r.val)) (fun mm r => v (512 * ord j mm + r.val)) hS d hV (j + 1)
    le_rfl).trans (wsum_all (causal s a) a.val j hj hi (fun k hk => if_neg (by omega)) v)

/-- The output block at an entry. -/
theorem outv_at (x2 x3 : Vec 𝕀 S512x128 .bf16) (x4 x5 : Vec 𝕀 S16384x128 .bf16) (x6 : Vec 𝕀 S128x16384 .bf16) (x7 : Vec 𝕀 S512x128 .f32)
    (j : ℕ) (hj : j < 32) (c : Fin 512) (a : Fin 16384) (hi : a.val / 512 = j) (s : ℕ → ℝ)
    (hS : ∀ mm, mm ≤ j → ∀ r : Fin 512, ss (k0_pay143 (F := 𝕀) x2 x3) x4 x5 j mm (ix2 r c) = causal s a (512 * ord j mm + r.val))
    (d : Fin 128) (v : ℕ → EReal) (hV : ∀ mm, mm ≤ j → ∀ r : Fin 512, CI.vwin (F := 𝕀) x6 j mm (ix2 d r) = v (512 * ord j mm + r.val)) :
    CI.outv (F := 𝕀) x2 x3 x4 x5 x6 x7 j (ix2 c d) =
      Ideal.div (∑ k : Fin 16384, v k.val * wt s a k.val) (∑ k : Fin 16384, wt s a k.val) *
        (x7 (ix2 c d) * Ideal.logistic (x7 (ix2 c d))) := by
  have hnum := row_at (k0_pay143 (F := 𝕀) x2 x3) (k0_pay144 (F := 𝕀)) x4 x5 x6 j hj c a hi s hS (Fin.castLE (by norm_num) d) v
    (fun mm hm r => (dif_pos d.isLt).trans (hV mm hm r))
  have hden := row_at (k0_pay143 (F := 𝕀) x2 x3) (k0_pay144 (F := 𝕀)) x4 x5 x6 j hj c a hi s hS (128 : Fin 144) (fun _ => 1)
    (fun mm hm r => (dif_neg (by decide)).trans (pay144_at _ r))
  simp only [one_mul] at hden
  unfold CI.outv
  rw [pay12_at, hnum, hden]

variable (m : (ℓ : Loc nD τ sig) → Buf (Elt 𝕀) ℓ) (c : Dev nD) (R X K : ℕ → ℕ → ℝ)
  (hR : ∀ (a : Fin 16384) (n : Fin 2048), rows m c (ix2 a n) = ((R a.val n.val : ℝ) : EReal))
  (hX : ∀ (a : Fin 16384) (n : Fin 1024), feats m c (ix2 a n) = ((X a.val n.val : ℝ) : EReal))
  (hK : ∀ (a : Fin 16384) (n : Fin 1024), kfeats m c (ix2 a n) = ((K a.val n.val : ℝ) : EReal))
include hR hX hK

/-- The scores of one step. -/
theorem sc_at (t : Fin cfg0.N) (mm : ℕ) (hm : mm ≤ (grid0.coords t 1).val) (r r' : Fin 512) (a : Fin 16384)
    (ha : a.val = 512 * (grid0.coords t 1).val + r.val) :
    CI.sc (F := 𝕀) (k0_pay143 (F := 𝕀) (iblk m c 0 t) (iblk m c 1 t)) (iblk m c 2 t) (iblk m c 3 t) (grid0.coords t 1).val mm (ix2 r' r) =
      ((score R X K (grid0.coords t 0).val a.val (512 * ord (grid0.coords t 1).val mm + r'.val) : ℝ) : EReal) := by
  have hh := head_lt t
  have hj := tile_lt t
  have hk := ord_lt _ _ hj hm r'
  unfold CI.sc
  rw [pay13_at, score, EReal.coe_add, coe_sum, coe_sum]
  refine congrArg₂ (fun x y : EReal => x + y) (sum_congr rfl fun e _ => ?_) (sum_congr rfl fun e _ => ?_)
  · have he := e.isLt
    rw [pay287_lo, kwin_at _ _ _ hj hm r' e hk,
      blk0_at m c t r e a ⟨128 * (grid0.coords t 0).val + e.val, by omega⟩ ha rfl,
      blk2_at m c t _ e ⟨1024 + 128 * (grid0.coords t 0).val + e.val, by omega⟩ rfl, hR, hR, EReal.coe_mul, EReal.coe_mul]
  · have he := e.isLt
    rw [pay287_hi, kwin_at _ _ _ hj hm r' e hk,
      blk1_at m c t r e a ⟨128 * (grid0.coords t 0).val + e.val, by omega⟩ ha rfl,
      blk3_at m c t _ e ⟨128 * (grid0.coords t 0).val + e.val, by omega⟩ rfl, hX, hK, EReal.coe_mul]

/-- The masked scores of one step. -/
theorem ss_at (t : Fin cfg0.N) (mm : ℕ) (hm : mm ≤ (grid0.coords t 1).val) (r r' : Fin 512) (a : Fin 16384)
    (ha : a.val = 512 * (grid0.coords t 1).val + r.val) :
    ss (k0_pay143 (F := 𝕀) (iblk m c 0 t) (iblk m c 1 t)) (iblk m c 2 t) (iblk m c 3 t) (grid0.coords t 1).val mm (ix2 r' r) =
      causal (score R X K (grid0.coords t 0).val a.val) a (512 * ord (grid0.coords t 1).val mm + r'.val) := by
  have hr := r.isLt
  have hr' := r'.isLt
  unfold ss causal
  by_cases h0 : mm = 0
  · subst h0
    rw [if_pos rfl, pay151_at, sc_at m c R X K hR hX hK t 0 hm r r' a ha]
    have e : ord (grid0.coords t 1).val 0 = (grid0.coords t 1).val := if_pos rfl
    rw [e]
    by_cases h : r.val < r'.val
    · rw [if_pos h, if_neg (by omega)]
    · rw [if_neg h, if_pos (by omega)]
  · have e : ord (grid0.coords t 1).val mm = mm - 1 := if_neg h0
    rw [if_neg h0, sc_at m c R X K hR hX hK t mm hm r r' a ha, e, if_pos (by omega)]

/-- The tile at an entry. -/
theorem tile_at (t : Fin cfg0.N) (r : Fin 512) (d : Fin 128) (a : Fin 16384) (n : Fin 2048)
    (ha : a.val = 512 * (grid0.coords t 1).val + r.val) (hn : n.val = 128 * (grid0.coords t 0).val + d.val) :
    CI.tile (F := 𝕀) m c t (ix2 r d) =
      Ideal.div (∑ k : Fin 16384, val (vals m c) n k.val * wt (score R X K (grid0.coords t 0).val a.val) a k.val)
        (∑ k : Fin 16384, wt (score R X K (grid0.coords t 0).val a.val) a k.val) *
      (gates m c (ix2 a n) * Ideal.logistic (gates m c (ix2 a n))) := by
  have hh := head_lt t
  have hj := tile_lt t
  have hr := r.isLt
  have hd := d.isLt
  have hi : a.val / 512 = (grid0.coords t 1).val := by omega
  rw [← blk5_at m c t r d a n ha hn]
  exact outv_at (iblk m c 0 t) (iblk m c 1 t) (iblk m c 2 t) (iblk m c 3 t) (iblk m c 4 t) (iblk m c 5 t) (grid0.coords t 1).val hj r a hi _
    (fun mm hm r' => ss_at m c R X K hR hX hK t mm hm r r' a ha) d (val (vals m c) n) fun mm hm r' => by
      have hk := ord_lt _ _ hj hm r'
      rw [vwin_at _ _ _ hj hm d r' hk, blk4_at m c t _ d n hn, val, dif_pos hk]

omit hR hX hK in
theorem col_lt (y : S16384x1024.Idx) : (y 1).val < 2048 := by
  have h : (y 1).val < 1024 := (y 1).isLt
  omega

/-- The mixer's output at an entry. -/
def mixed (v : Vec 𝕀 S2048x16384 .bf16) (g : Vec 𝕀 S16384x2048 .f32) (R X K : ℕ → ℕ → ℝ) (y : S16384x1024.Idx) : EReal :=
  Ideal.div (∑ k : Fin 16384, val v ⟨(y 1).val, col_lt y⟩ k.val * wt (score R X K ((y 1).val / 128) (y 0).val) (y 0) k.val)
    (∑ k : Fin 16384, wt (score R X K ((y 1).val / 128) (y 0).val) (y 0) k.val) *
    (g (ix2 (y 0) ⟨(y 1).val, col_lt y⟩) * Ideal.logistic (g (ix2 (y 0) ⟨(y 1).val, col_lt y⟩)))

/-- The array the launch leaves. -/
theorem out_eq : (CI.dats (F := 𝕀) m 0 c).arrAt 6 cfg0.N = mixed (vals m c) (gates m c) R X K := by
  refine (CI.dats m 0 c).arrAt_eq_of_covers 6 _ (by decide +kernel) fun t hf y => ?_
  blk_simp
  rw [CI.after_6]
  have hh := head_lt t
  have hj := tile_lt t
  idx_vars y
  have hr := y0.isLt
  have hd := y1.isLt
  have hx : (win0_6.blk t).view.emb (ix2 y0 y1) =
      ix2 ⟨512 * (grid0.coords t 1).val + y0.val, by omega⟩ ⟨128 * (grid0.coords t 0).val + y1.val, by omega⟩ := by
    blk_ext [idx t]
  refine (tile_at m c R X K hR hX hK t y0 y1 ⟨512 * (grid0.coords t 1).val + y0.val, by omega⟩
    ⟨128 * (grid0.coords t 0).val + y1.val, by omega⟩ rfl rfl).trans ?_
  refine Eq.trans ?_ (congrArg (mixed (vals m c) (gates m c) R X K) hx).symm
  have e : (128 * (grid0.coords t 0).val + y1.val) / 128 = (grid0.coords t 0).val := by omega
  unfold mixed
  simp only [show (ix2 (⟨512 * (grid0.coords t 1).val + y0.val, by omega⟩ : Fin 16384)
      (⟨128 * (grid0.coords t 0).val + y1.val, by omega⟩ : Fin 1024) : S16384x1024.Idx) 1 =
      (⟨128 * (grid0.coords t 0).val + y1.val, by omega⟩ : Fin 1024) from rfl,
    show (ix2 (⟨512 * (grid0.coords t 1).val + y0.val, by omega⟩ : Fin 16384)
      (⟨128 * (grid0.coords t 0).val + y1.val, by omega⟩ : Fin 1024) : S16384x1024.Idx) 0 =
      (⟨512 * (grid0.coords t 1).val + y0.val, by omega⟩ : Fin 16384) from rfl, e]

end Cert.Proof.ValC
-- ==== Proof.ValueC.Ref.lean ====
module

public import proofs.«01_k».proof.Proof.ValueC.Out
public import proofs.«01_k».proof.Proof.Gen.MixerCReferenceIdeal.Read
public import Idealize.ShloMosaic.Lib.WordCmp

@[expose] public section

/-!
# The reference of mixer C, entry by entry

When the queries, keys and decay features are real numbers, the reference's masked score is the base-two score times the
natural logarithm of two. Its exponential is then the kernel's weight, and its output is the same term as the kernel's.
-/

set_option maxRecDepth 16384

noncomputable section

namespace Cert.Proof.ValC

open Cert.MixerCReferenceIdeal Cert.MixerCReferenceIdeal.Gen Cert.MixerCReferenceIdeal.Read
open Idealize.ShloMosaic Idealize.ShloMosaic.WordCmp Finset
open scoped BigOperators

local notation "𝕀" => Idealize.ShloMosaic.Ideal

theorem zero_bits32 : (FloatOps.ofBits (F := 𝕀) .f32 0x00000000#32 : EReal) = 0 := by
  show Ideal.ofBits .f32 0x00000000#32 = 0
  simp [Ideal.ofBits, Ideal.ieee]

theorem one_bits32 : (FloatOps.ofBits (F := 𝕀) .f32 0x3F800000#32 : EReal) = 1 := by
  show Ideal.ofBits .f32 0x3F800000#32 = 1
  simp [Ideal.ofBits, Ideal.ieee, -EReal.coe_mul]; norm_num

theorem two_bits32 : (FloatOps.ofBits (F := 𝕀) .f32 0x40000000#32 : EReal) = ((2 : ℝ) : EReal) := by
  show Ideal.ofBits .f32 0x40000000#32 = _
  simp [Ideal.ofBits, Ideal.ieee, -EReal.coe_mul]; norm_num

theorem bits32_128 : (FloatOps.ofBits (F := 𝕀) .f32 0x43000000#32 : EReal) = ((128 : ℝ) : EReal) := by
  show Ideal.ofBits .f32 0x43000000#32 = _
  simp [Ideal.ofBits, Ideal.ieee, -EReal.coe_mul]; norm_num

theorem bot_bits32 : (FloatOps.ofBits (F := 𝕀) .f32 0xFF800000#32 : EReal) = ⊥ := by
  show Ideal.ofBits .f32 0xFF800000#32 = _
  simp [Ideal.ofBits, Ideal.ieee]

/-- The values of a head, one row per key. -/
theorem values_at (x3 : (⟨S2048x16384, .bf16⟩ : BufTy).Contents (Elt 𝕀)) (h : Fin 8) (a : Fin 16384) (e : Fin 128) (n : Fin 2048)
    (hn : n.val = 128 * h.val + e.val) : val_main_v18 (F := 𝕀) x3 (ix3 h a e) = val x3 n a.val := by
  have hh := h.isLt
  have he := e.isLt
  rw [val_main_v18_apply, val_main_v17_apply, val_main_v16_apply, val_main_v3_apply, val_main_v2_apply, val, dif_pos a.isLt]
  refine congrArg x3 (funext fun b => Fin.ext ?_)
  match b with
  | ⟨0, _⟩ => show ((a.val * 8 + h.val) * 128 + e.val) % 1024 = n.val; omega
  | ⟨1, _⟩ => show ((a.val * 8 + h.val) * 128 + e.val) / 1024 = a.val; omega

/-- A maximum over the keys. -/
theorem reduce_max_at (y : S8x16384x16384.Idx → EReal) (z : S_.Idx → EReal) (h : Fin 8) (i : Fin 16384) :
    Host.reduce (FloatOps.maximumf (F := 𝕀) (φ := .f32)) y z reducesTo_S8x16384x16384_S8x16384_d2 h_S_ (ix2 h i) =
      (univ : Finset (Fin 16384)).fold max (z (Shape.Idx.first h_S_)) fun k => y (ix3 h i k) := by
  refine (Host.reduce_eq_fold_single (fun a b : EReal => max a b) y z reducesTo_S8x16384x16384_S8x16384_d2 (by decide) h_S_ (ix2 h i)).trans ?_
  refine Finset.fold_congr fun k _ => ?_
  exact congrArg y (funext fun a => Fin.ext (by match a with | ⟨0, _⟩ => rfl | ⟨1, _⟩ => rfl | ⟨2, _⟩ => rfl))

variable (x0 : (⟨S16384x2048, .bf16⟩ : BufTy).Contents (Elt 𝕀)) (x1 x2 : (⟨S16384x1024, .bf16⟩ : BufTy).Contents (Elt 𝕀)) (R X K : ℕ → ℕ → ℝ)
  (hR : ∀ (a : Fin 16384) (n : Fin 2048), x0 (ix2 a n) = ((R a.val n.val : ℝ) : EReal))
  (hX : ∀ (a : Fin 16384) (n : Fin 1024), x1 (ix2 a n) = ((X a.val n.val : ℝ) : EReal))
  (hK : ∀ (a : Fin 16384) (n : Fin 1024), x2 (ix2 a n) = ((K a.val n.val : ℝ) : EReal))

section
include hR

theorem queries_at (h : Fin 8) (a : Fin 16384) (e : Fin 128) :
    val_main_v6 (F := 𝕀) x0 (ix3 h a e) = ((R a.val (128 * h.val + e.val) : ℝ) : EReal) := by
  have hh := h.isLt
  have he := e.isLt
  rw [val_main_v6_apply, val_main_v5_apply, val_main_v4_apply, val_main_v0_apply, ← hR a ⟨128 * h.val + e.val, by omega⟩]
  refine congrArg x0 (funext fun b => Fin.ext ?_)
  match b with
  | ⟨0, _⟩ => show ((a.val * 8 + h.val) * 128 + e.val) / 1024 = a.val; omega
  | ⟨1, _⟩ => show ((a.val * 8 + h.val) * 128 + e.val) % 1024 = 128 * h.val + e.val; omega

theorem keys_at (h : Fin 8) (a : Fin 16384) (e : Fin 128) :
    val_main_v9 (F := 𝕀) x0 (ix3 h a e) = ((R a.val (1024 + 128 * h.val + e.val) : ℝ) : EReal) := by
  have hh := h.isLt
  have he := e.isLt
  rw [val_main_v9_apply, val_main_v8_apply, val_main_v7_apply, val_main_v1_apply, ← hR a ⟨1024 + 128 * h.val + e.val, by omega⟩]
  refine congrArg x0 (funext fun b => Fin.ext ?_)
  match b with
  | ⟨0, _⟩ => show ((a.val * 8 + h.val) * 128 + e.val) / 1024 = a.val; omega
  | ⟨1, _⟩ => show 1024 + ((a.val * 8 + h.val) * 128 + e.val) % 1024 = 1024 + 128 * h.val + e.val; omega

end

theorem qfeats_at (hX : ∀ (a : Fin 16384) (n : Fin 1024), x1 (ix2 a n) = ((X a.val n.val : ℝ) : EReal))
    (h : Fin 8) (a : Fin 16384) (e : Fin 128) :
    val_main_v12 (F := 𝕀) x1 (ix3 h a e) = ((X a.val (128 * h.val + e.val) : ℝ) : EReal) := by
  have hh := h.isLt
  have he := e.isLt
  rw [val_main_v12_apply, val_main_v11_apply, val_main_v10_apply, ← hX a ⟨128 * h.val + e.val, by omega⟩]
  refine congrArg x1 (funext fun b => Fin.ext ?_)
  match b with
  | ⟨0, _⟩ => show ((a.val * 8 + h.val) * 128 + e.val) / 1024 = a.val; omega
  | ⟨1, _⟩ => show ((a.val * 8 + h.val) * 128 + e.val) % 1024 = 128 * h.val + e.val; omega

theorem kfeats_at (hK : ∀ (a : Fin 16384) (n : Fin 1024), x2 (ix2 a n) = ((K a.val n.val : ℝ) : EReal))
    (h : Fin 8) (a : Fin 16384) (e : Fin 128) :
    val_main_v15 (F := 𝕀) x2 (ix3 h a e) = ((K a.val (128 * h.val + e.val) : ℝ) : EReal) := by
  have hh := h.isLt
  have he := e.isLt
  rw [val_main_v15_apply, val_main_v14_apply, val_main_v13_apply, ← hK a ⟨128 * h.val + e.val, by omega⟩]
  refine congrArg x2 (funext fun b => Fin.ext ?_)
  match b with
  | ⟨0, _⟩ => show ((a.val * 8 + h.val) * 128 + e.val) / 1024 = a.val; omega
  | ⟨1, _⟩ => show ((a.val * 8 + h.val) * 128 + e.val) % 1024 = 128 * h.val + e.val; omega

/-- The two ways of scaling a score. -/
theorem score_scaled (h i t : ℕ) :
    (∑ e : Fin 128, R i (128 * h + e.val) * R t (1024 + 128 * h + e.val)) * (1 / Real.sqrt 128) +
      (∑ e : Fin 128, X i (128 * h + e.val) * K t (128 * h + e.val)) * Real.log 2 = score R X K h i t * Real.log 2 := by
  have hl : Real.log 2 ≠ 0 := (Real.log_pos (by norm_num)).ne'
  have h1 : (∑ e : Fin 128, R t (1024 + 128 * h + e.val) * (R i (128 * h + e.val) * unit2)) =
      (∑ e : Fin 128, R i (128 * h + e.val) * R t (1024 + 128 * h + e.val)) * unit2 := by
    rw [sum_mul]
    exact sum_congr rfl fun e _ => by ring
  have h2 : (∑ e : Fin 128, K t (128 * h + e.val) * X i (128 * h + e.val)) =
      ∑ e : Fin 128, X i (128 * h + e.val) * K t (128 * h + e.val) := sum_congr rfl fun e _ => mul_comm _ _
  rw [score, h1, h2, add_mul, unit2]
  congr 1
  rw [mul_assoc, mul_assoc, inv_mul_cancel₀ hl, mul_one, one_div]

/-- A key is not after a query. -/
theorem upto_at (i t : Fin 16384) : val_main_v33 (F := 𝕀) (ix2 i t) = if t.val ≤ i.val then 1#1 else 0#1 := by
  have h1 := i.isLt
  have h2 := t.isLt
  rw [val_main_v33_apply, val_main_v31_apply, val_main_v29_apply, val_main_v28_apply, val_main_v32_apply,
    val_main_v30_apply, val_main_v28_apply]
  refine (cmpi_sle_ofNat (show t.val < _ by norm_num; omega) (show i.val < _ by norm_num; omega)).trans ?_
  by_cases a : t.val ≤ i.val <;> simp [a]

include hR hX hK

/-- The scores. -/
theorem score_at (h : Fin 8) (i t : Fin 16384) :
    val_main_v27 (F := 𝕀) x0 x1 x2 (ix3 h i t) = ((score R X K h.val i.val t.val * Real.log 2 : ℝ) : EReal) := by
  have hs : (0 : ℝ) < Real.sqrt 128 := Real.sqrt_pos.2 (by norm_num)
  rw [val_main_v27_apply, val_main_v22_apply, val_main_v21_apply, val_main_v20_apply, val_main_cst_apply, bits32_128, Ideal.hostDivf_def,
    Ideal.hostUnary_sqrt_def, Ideal.sqrt_coe, if_neg (by norm_num), Ideal.div_coe hs.ne', val_main_v19_apply,
    val_main_v26_apply, val_main_v25_apply, val_main_v24_apply, val_main_cst_0_apply, two_bits32, val_main_v23_apply,
    Ideal.hostUnary_log_def, Ideal.log_coe, if_neg (by norm_num), Ideal.addf_def, Ideal.mulf_def]
  have hq : (∑ k : Fin 128, (val_main_v6 (F := 𝕀) x0) (lidx_main_v19 (ix3 h i t) k) *
      (val_main_v9 (F := 𝕀) x0) (ridx_main_v19 (ix3 h i t) k) : EReal) =
      ((∑ e : Fin 128, R i.val (128 * h.val + e.val) * R t.val (1024 + 128 * h.val + e.val) : ℝ) : EReal) := by
    rw [coe_sum]
    refine sum_congr rfl fun k _ => ?_
    rw [EReal.coe_mul, ← queries_at x0 R hR h i k, ← keys_at x0 R hR h t k]
    refine congrArg₂ (· * ·) (congrArg _ (funext fun b => ?_)) (congrArg _ (funext fun b => ?_)) <;>
      match b with
      | ⟨0, _⟩ => rfl
      | ⟨1, _⟩ => rfl
      | ⟨2, _⟩ => rfl
  have hx : (∑ k : Fin 128, (val_main_v12 (F := 𝕀) x1) (lidx_main_v23 (ix3 h i t) k) *
      (val_main_v15 (F := 𝕀) x2) (ridx_main_v23 (ix3 h i t) k) : EReal) =
      ((∑ e : Fin 128, X i.val (128 * h.val + e.val) * K t.val (128 * h.val + e.val) : ℝ) : EReal) := by
    rw [coe_sum]
    refine sum_congr rfl fun k _ => ?_
    rw [EReal.coe_mul, ← qfeats_at x1 X hX h i k, ← kfeats_at x2 K hK h t k]
    refine congrArg₂ (· * ·) (congrArg _ (funext fun b => ?_)) (congrArg _ (funext fun b => ?_)) <;>
      match b with
      | ⟨0, _⟩ => rfl
      | ⟨1, _⟩ => rfl
      | ⟨2, _⟩ => rfl
  rw [hq, hx, ← EReal.coe_mul, ← EReal.coe_mul, ← EReal.coe_add, score_scaled]

/-- The masked scores. -/
theorem masked_at (h : Fin 8) (i t : Fin 16384) :
    val_main_v34 (F := 𝕀) x0 x1 x2 (ix3 h i t) = causal (score R X K h.val i.val) i t.val * ((Real.log 2 : ℝ) : EReal) := by
  have hl : 0 < Real.log 2 := Real.log_pos (by norm_num)
  rw [val_main_v34_apply, val_main_call0_v1_apply, score_at x0 x1 x2 R X K hR hX hK, val_main_call0_v2_apply, val_main_call0_v0_apply,
    val_main_cst_1_apply, bot_bits32]
  rw [show idx_main_call0_v1 (ix3 h i t) = ix2 i t from funext fun b => match b with | ⟨0, _⟩ => rfl | ⟨1, _⟩ => rfl, upto_at]
  unfold causal
  by_cases a : t.val ≤ i.val
  · rw [if_pos a, if_pos a, EReal.coe_mul]; rfl
  · rw [if_neg a, if_neg a, EReal.bot_mul_coe_of_pos hl]; rfl

/-- The greatest masked score. -/
theorem peak_at (h : Fin 8) (i : Fin 16384) :
    val_main_v37 (F := 𝕀) x0 x1 x2 (ix2 h i) = peak (score R X K h.val i.val) i * ((Real.log 2 : ℝ) : EReal) := by
  rw [val_main_v37_apply, val_main_v36_apply, val_main_cst_3_apply, bot_bits32, val_main_v35, reduce_max_at,
    val_main_cst_2_apply, bot_bits32, peak, ← sup_mul_log2]
  refine (max_eq_right bot_le).trans (Finset.sup_congr rfl fun k _ => ?_)
  exact masked_at x0 x1 x2 R X K hR hX hK h i k

/-- The weights. -/
theorem weight_at (h : Fin 8) (i t : Fin 16384) :
    val_main_v41 (F := 𝕀) x0 x1 x2 (ix3 h i t) = wt (score R X K h.val i.val) i t.val := by
  rw [val_main_v41_apply, val_main_v40_apply, val_main_v39_apply, val_main_v38_apply, masked_at x0 x1 x2 R X K hR hX hK,
    show idx_main_v38 (idx_main_v39 (ix3 h i t)) = ix2 h i from funext fun b => match b with | ⟨0, _⟩ => rfl | ⟨1, _⟩ => rfl,
    peak_at x0 x1 x2 R X K hR hX hK, Ideal.subf_def, Ideal.hostUnary_exp_def, sub_mul_log2, exp_log2, wt]

/-- The shares. -/
theorem share_at (h : Fin 8) (i t : Fin 16384) :
    val_main_v45 (F := 𝕀) x0 x1 x2 (ix3 h i t) =
      Ideal.div (wt (score R X K h.val i.val) i t.val) (∑ k : Fin 16384, wt (score R X K h.val i.val) i k.val) := by
  rw [val_main_v45_apply, val_main_v44_apply, val_main_v43_apply, val_main_v42_apply, val_main_cst_4_apply, zero_bits32, zero_add,
    weight_at x0 x1 x2 R X K hR hX hK, Ideal.hostDivf_def]
  refine congrArg _ (sum_congr rfl fun k _ => ?_)
  rw [← weight_at x0 x1 x2 R X K hR hX hK h i k]
  refine congrArg _ (funext fun b => ?_)
  match b with
  | ⟨0, _⟩ => rfl
  | ⟨1, _⟩ => rfl
  | ⟨2, _⟩ => rfl

variable (x3 : (⟨S2048x16384, .bf16⟩ : BufTy).Contents (Elt 𝕀)) (x4 : (⟨S16384x2048, .f32⟩ : BufTy).Contents (Elt 𝕀))

/-- The weighted mean of the values. -/
theorem mean_at (h : Fin 8) (i : Fin 16384) (d : Fin 128) (n : Fin 2048) (hn : n.val = 128 * h.val + d.val) :
    val_main_v46 (F := 𝕀) x0 x1 x2 x3 (ix3 h i d) =
      Ideal.div (∑ k : Fin 16384, val x3 n k.val * wt (score R X K h.val i.val) i k.val)
        (∑ k : Fin 16384, wt (score R X K h.val i.val) i k.val) := by
  rw [val_main_v46_apply, ← divided]
  refine sum_congr rfl fun k _ => ?_
  rw [← share_at x0 x1 x2 R X K hR hX hK h i k, ← values_at x3 h k d n hn]
  refine congrArg₂ (· * ·) (congrArg _ (funext fun b => ?_)) (congrArg _ (funext fun b => ?_)) <;>
    match b with
    | ⟨0, _⟩ => rfl
    | ⟨1, _⟩ => rfl
    | ⟨2, _⟩ => rfl

/-- The reference's output. -/
theorem ref_at (i : Fin 16384) (n : Fin 1024) : val_main_v52 (F := 𝕀) x0 x1 x2 x3 x4 (ix2 i n) = mixed x3 x4 R X K (ix2 i n) := by
  have h1 := n.isLt
  have h0 := i.isLt
  have hi : idx_main_v48 (idx_main_v49 (ix2 i n)) = ix3 (⟨n.val / 128, by omega⟩ : Fin 8) i (⟨n.val % 128, by omega⟩ : Fin 128) := by
    funext b
    apply Fin.ext
    match b with
    | ⟨0, _⟩ => show (i.val * 1024 + n.val) / 128 % 8 = n.val / 128; omega
    | ⟨1, _⟩ => show (i.val * 1024 + n.val) / 1024 = i.val; omega
    | ⟨2, _⟩ => show (i.val * 1024 + n.val) % 128 = n.val % 128; omega
  have hg : val_main_v47 (F := 𝕀) x4 (ix2 i n) = x4 (ix2 i ⟨n.val, by omega⟩) := by
    rw [val_main_v47_apply]
    refine congrArg x4 (funext fun b => Fin.ext ?_)
    match b with
    | ⟨0, _⟩ => rfl
    | ⟨1, _⟩ => rfl
  rw [val_main_v52_apply, val_main_v51_apply, val_main_v49_apply, val_main_v48_apply, hi,
    mean_at x0 x1 x2 R X K hR hX hK x3 _ _ _ ⟨n.val, by omega⟩ (by simp only []; omega), val_main_v50_apply,
    val_main_call1_v5_apply, val_main_call1_v4_apply, val_main_call1_cst_0_apply, val_main_call1_v3_apply,
    val_main_call1_v2_apply, val_main_call1_cst_apply, val_main_call1_v1_apply, val_main_call1_v0_apply, hg, one_bits32]
  rfl

theorem ref_eq : val_main_v52 (F := 𝕀) x0 x1 x2 x3 x4 = mixed x3 x4 R X K := by
  funext y
  idx_vars y
  exact ref_at x0 x1 x2 R X K hR hX hK x3 x4 y0 y1

end Cert.Proof.ValC
-- ==== Proof.ValueC.Finite.lean ====
module

public import proofs.«01_k».proof.Proof.Gen.Pre_finite_scores
public import proofs.«01_k».proof.Proof.Value.Finite
public import Idealize.ShloMosaic.Lib.WordCmp

@[expose] public section

/-!
# The precondition of mixer C

Where the precondition holds, the query and key rows and the decay features are real numbers.
-/

noncomputable section

namespace Cert.Proof.ValC

open Cert.Pre_finite_scores Cert.Pre_finite_scores.Gen
open Idealize.ShloMosaic

local notation "𝕀" => Idealize.ShloMosaic.Ideal

theorem and_one {a b : BitVec 1} (h : IntOp.andi a b = 1#1) : a = 1#1 ∧ b = 1#1 := by
  revert a b; decide

variable (x0 : FVec 𝕀 S16384x2048 .bf16) (x1 x2 : FVec 𝕀 S16384x1024 .bf16) (x3 : FVec 𝕀 S2048x16384 .bf16)
  (x4 : FVec 𝕀 S16384x2048 .f32) (h : fn (F := 𝕀) x0 x1 x2 x3 x4 = fun _ => 1#1)
include h

theorem finite_at : (∀ (a : Fin 16384) (n : Fin 2048), x0 (ix2 a n) = (((x0 (ix2 a n)).toReal : ℝ) : EReal)) ∧
    (∀ (a : Fin 16384) (n : Fin 1024), x1 (ix2 a n) = (((x1 (ix2 a n)).toReal : ℝ) : EReal)) ∧
    (∀ (a : Fin 16384) (n : Fin 1024), x2 (ix2 a n) = (((x2 (ix2 a n)).toReal : ℝ) : EReal)) := by
  unfold fn at h
  have hj := congrFun h (fun b => b.elim0)
  dsimp only at hj
  haveI : Subsingleton S_.Idx := ⟨fun _ _ => funext fun b => b.elim0⟩
  obtain ⟨h01, h2⟩ := and_one hj
  obtain ⟨h0, h1⟩ := and_one h01
  refine ⟨fun a n => ?_, fun a n => ?_, fun a n => ?_⟩
  · have h := Host.reduce_andi_all _ _ _ _ _ h0 (ix2 a n)
    pointwise at h
    rw [Val.inf_bits] at h
    refine Val.real_of_abs _ ?_
    by_contra hn
    rw [show decide ((FloatOps.absf (F := 𝕀) (φ := .f32) (x0 (ix2 a n)) : EReal) < ⊤) = false from decide_eq_false hn] at h
    exact absurd h (by decide)
  · have h := Host.reduce_andi_all _ _ _ _ _ h1 (ix2 a n)
    pointwise at h
    rw [Val.inf_bits] at h
    refine Val.real_of_abs _ ?_
    by_contra hn
    rw [show decide ((FloatOps.absf (F := 𝕀) (φ := .f32) (x1 (ix2 a n)) : EReal) < ⊤) = false from decide_eq_false hn] at h
    exact absurd h (by decide)
  · have h := Host.reduce_andi_all _ _ _ _ _ h2 (ix2 a n)
    pointwise at h
    rw [Val.inf_bits] at h
    refine Val.real_of_abs _ ?_
    by_contra hn
    rw [show decide ((FloatOps.absf (F := 𝕀) (φ := .f32) (x2 (ix2 a n)) : EReal) < ⊤) = false from decide_eq_false hn] at h
    exact absurd h (by decide)

end Cert.Proof.ValC
-- ==== Proof.ValueC.Final.lean ====
module

public import proofs.«01_k».proof.Defs
public import proofs.«01_k».proof.Proof.ValueC.Ref
public import proofs.«01_k».proof.Proof.ValueC.Finite
public import proofs.«01_k».proof.Proof.Gen.MixerCReferenceIdeal
public import proofs.«01_k».proof.Proof.Gen.Pre_finite_scores
public import Idealize.ShloMosaic.Lib.Claim

@[expose] public section

/-!
# The value claim of mixer C

The kernel and the reference end with the same array.
-/

noncomputable section

namespace Cert.Proof.ValC

open Idealize.ShloMosaic Idealize.ShloMosaic.TcCoe Idealize.SL.Sem

local notation "𝕀" => Idealize.ShloMosaic.Ideal

/-- An array's entries as real numbers. -/
def reals {N : ℕ} (x : (⟨2, ![16384, N]⟩ : Shape).Idx → EReal) (a n : ℕ) : ℝ :=
  if h : a < 16384 ∧ n < N then (x (ix2 ⟨a, h.1⟩ ⟨n, h.2⟩)).toReal else 0

theorem reals_at {N : ℕ} (x : (⟨2, ![16384, N]⟩ : Shape).Idx → EReal)
    (hx : ∀ (a : Fin 16384) (n : Fin N), x (ix2 a n) = (((x (ix2 a n)).toReal : ℝ) : EReal))
    (a : Fin 16384) (n : Fin N) : x (ix2 a n) = ((reals x a.val n.val : ℝ) : EReal) := by
  rw [reals, dif_pos ⟨a.isLt, n.isLt⟩]
  exact hx a n

open Cert.MixerCIdeal in
/-- Where the precondition holds the kernel ends with `mixed` of its arguments. -/
theorem kernel_run (m : (ℓ : Loc nD τ sig) → Buf (Elt 𝕀) ℓ) (ρ : Dev nD → PrngReg) (hpre : Cert.Pre_MixerCIdeal_finite_scores m) :
    θ_run (defs (F := 𝕀)) (onTc (τ := τ) (main (F := 𝕀))) ⟨m, fun _ => 0, ρ⟩ (fun r => ∀ c : Dev nD,
      r.2.mem ((c.tc : Thread nD τ).loc main_v0) =
        mixed (vals m c) (gates m c) (reals (rows m c)) (reals (feats m c)) (reals (kfeats m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (θ_run_and (CI.run_quiet (F := 𝕀) m ρ) (CI.quiet (F := 𝕀) m ρ)) fun r h c => by
    obtain ⟨h0, h1, h2⟩ := finite_at (rows m c) (feats m c) (kfeats m c) (vals m c) (gates m c) (hpre c)
    exact ⟨((h.1.1 c).1 6).trans (out_eq m c _ _ _ (reals_at _ h0) (reals_at _ h1) (reals_at _ h2)), h.2.1 c⟩

theorem algebraic : Cert.algebraic_MixerCIdeal_MixerCReferenceIdeal_pre_finite_scores := by
  intro m g m' g' hpre hagree
  refine ⟨fun c => mixed (vals m c) (gates m c) (reals (rows m c)) (reals (feats m c)) (reals (kfeats m c)), kernel_run m g hpre, ?_⟩
  refine θ_run_mono (Cert.MixerCReferenceIdeal.Value.run (F := 𝕀) m' g') fun r h c => ⟨(h c).1.trans ?_, (h c).2⟩
  obtain ⟨h0, h1, h2⟩ := finite_at (rows m c) (feats m c) (kfeats m c) (vals m c) (gates m c) (hpre c)
  obtain ⟨e0, e1, e2, e3, e4⟩ := hagree c
  rw [Cert.MixerCReferenceIdeal.Read.val_main_v52_eq, e0, e1, e2, e3, e4]
  exact ref_eq (rows m c) (feats m c) (kfeats m c) _ _ _ (reals_at _ h0) (reals_at _ h1) (reals_at _ h2) (vals m c) (gates m c)

end Cert.Proof.ValC
-- ==== Proof.Proj.Rows.lean ====
module

public import proofs.«01_k».proof.Defs
public import proofs.«01_k».proof.Proof.Gen.Rows
public import proofs.«01_k».proof.Proof.Gen.RowsIdeal
public import proofs.«01_k».proof.Proof.Gen.RowsReferenceIdeal
public import proofs.«01_k».proof.Proof.Gen.RowsIdeal.Value
public import proofs.«01_k».proof.Proof.Gen.RowsReferenceIdeal.Run
public import proofs.«01_k».proof.Proof.Gen.RowsReferenceIdeal.Read
public import proofs.«01_k».proof.Proof.Gen.Rows.Frame
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.PureOps.Ideal.Laws

@[expose] public section

/-!
# The projection of the queries and keys of the even layer

Both programs form the product of the activations with the query and key columns of the weights.
-/

set_option maxRecDepth 16384

noncomputable section

namespace Cert.Proof.Rows

open Cert.RowsIdeal Cert.RowsIdeal.Gen
open Idealize.ShloMosaic Idealize.ShloMosaic.TcCoe Idealize.SL.Sem
open scoped BigOperators

local notation "𝕀" => Idealize.ShloMosaic.Ideal

variable (m : (ℓ : Loc nD τ sig) → Buf (Elt 𝕀) ℓ) (c : Dev nD)

/-- The activations and the weights. -/
abbrev acts : Vec 𝕀 S16384x2048 .bf16 := m ((c : Thread nD τ).loc main_arg0)
abbrev weights : Vec 𝕀 S2048x8192 .f32 := m ((c : Thread nD τ).loc main_arg1)

/-- The projection's column that column `b` of the output is. -/
def col (b : ℕ) : ℕ := if b < 2048 then b + 0 else b + 2048

theorem col_lt (b : Fin 4096) : col b.val < 8192 := by
  have h := b.isLt
  unfold col
  split <;> omega

/-- The array both programs end with. -/
def product (x : Vec 𝕀 S16384x2048 .bf16) (w : Vec 𝕀 S2048x8192 .f32) (y : S16384x4096.Idx) : EReal :=
  ∑ k : Fin 2048, x (ix2 (y 0) k) * w (ix2 k ⟨col (y 1).val, col_lt (y 1)⟩)

theorem weight_at (k : Fin 2048) (b : Fin 4096) : V m c main_v5 (ix2 k b) = weights m c (ix2 k ⟨col b.val, col_lt b⟩) := by
  have hb := b.isLt
  have hn : col b.val = if b.val < 2048 then b.val + 0 else b.val + 2048 := rfl
  unfold V
  after_reads_at
  split_ifs <;> after_reads_at <;> split_ifs at hn <;> first
    | omega
    | exact congrArg (weights m c) (congrArg (ix2 k) (Fin.ext (by show _ = col b.val; rw [hn]; simp only []; omega)))
    | (refine congrArg (weights m c) (funext fun a => Fin.ext ?_)
       match a with
       | ⟨0, _⟩ => exact Nat.zero_add _
       | ⟨1, _⟩ => change 0 + b.val = col b.val; omega)
    | (refine congrArg (weights m c) (funext fun a => Fin.ext ?_)
       match a with
       | ⟨0, _⟩ => exact Nat.zero_add _
       | ⟨1, _⟩ => change 4096 + (b.val - 2048) = col b.val; omega)

theorem idx : ∀ t : Fin cfg0.N, win0_0.index t = ![(grid0.coords t 1).val, 0] ∧
    win0_1.index t = ![0, (grid0.coords t 0).val] ∧ win0_2.index t = ![(grid0.coords t 1).val, (grid0.coords t 0).val] :=
  (by decide +kernel : ∀ t : Fin grid0.N, _)

theorem col_tile_lt (t : Fin cfg0.N) : (grid0.coords t 0).val < 2 := (grid0.coords t 0).isLt
theorem row_tile_lt (t : Fin cfg0.N) : (grid0.coords t 1).val < 16 := (grid0.coords t 1).isLt

theorem acts_at (t : Fin cfg0.N) (r : Fin 1024) (k : Fin 2048) (a : Fin 16384) (ha : a.val = 1024 * (grid0.coords t 1).val + r.val) :
    iblk m c 0 t (ix2 r k) = acts m c (ix2 a k) := by
  have hx : (win0_0.blk t).view.emb (ix2 r k) = ix2 a k := by blk_ext [idx t]
  unfold iblk
  blk_simp
  rw [hx]
  exact congrFun (V_main_arg0 m c) _

theorem cols_at (t : Fin cfg0.N) (k b : Fin 2048) (n : Fin 4096) (hn : n.val = 2048 * (grid0.coords t 0).val + b.val) :
    iblk m c 1 t (ix2 k b) = weights m c (ix2 k ⟨col n.val, col_lt n⟩) := by
  have hx : (win0_1.blk t).view.emb (ix2 k b) = ix2 k n := by blk_ext [idx t]
  unfold iblk
  blk_simp
  rw [hx]
  exact weight_at m c k n

theorem pay_at (A : FVec 𝕀 S1024x2048 .bf16) (B : FVec 𝕀 S2048x2048 .bf16) (r : Fin 1024) (b : Fin 2048) :
    k0_pay1 (F := 𝕀) A B (ix2 r b) = (∑ k : Fin 2048, A (ix2 r k) * B (ix2 k b) : EReal) := by
  pointwise [k0_pay1]

theorem out_eq : (dats (F := 𝕀) m 0 c).arrAt 2 cfg0.N = product (acts m c) (weights m c) := by
  refine (dats m 0 c).arrAt_eq_of_covers 2 _ (by decide +kernel) fun t hf y => ?_
  have hj := col_tile_lt t
  have hi := row_tile_lt t
  blk_simp
  rw [after0_2]
  idx_vars y
  have h0 := y0.isLt
  have h1 := y1.isLt
  have hx : (win0_2.blk t).view.emb (ix2 y0 y1) = ix2 ⟨1024 * (grid0.coords t 1).val + y0.val, by omega⟩
      ⟨2048 * (grid0.coords t 0).val + y1.val, by omega⟩ := by
    blk_ext [idx t]
  refine Eq.trans ?_ (congrArg (product (acts m c) (weights m c)) hx).symm
  unfold out0_2
  rw [View.canon_unit_zero (by decide), View.ld_unit_zero (by decide), View.ld_unit_zero (by decide)]
  refine (pay_at _ _ y0 y1).trans ?_
  exact Finset.sum_congr rfl fun k _ => congrArg₂ (· * ·) (acts_at m c t y0 k _ rfl) (cols_at m c t k y1 _ rfl)

open Cert.RowsReferenceIdeal.Read in
/-- The whole projection. -/
theorem proj_at (x : Vec 𝕀 S16384x2048 .bf16) (w : Vec 𝕀 S2048x8192 .f32) (a : Fin 16384) (n : Fin 8192) :
    val_main_v1 (F := 𝕀) x w (ix2 a n) = (∑ k : Fin 2048, x (ix2 a k) * w (ix2 k n) : EReal) := by
  rw [val_main_v1_apply]
  refine Finset.sum_congr rfl fun k _ => ?_
  rw [val_main_v0_apply]
  refine congrArg₂ (· * ·) (congrArg x (funext fun b => ?_)) (congrArg w (funext fun b => ?_)) <;>
    match b with
    | ⟨0, _⟩ => rfl
    | ⟨1, _⟩ => rfl

open Cert.RowsReferenceIdeal.Read in
/-- The reference, entry by entry. -/
theorem ref_at (x : Vec 𝕀 S16384x2048 .bf16) (w : Vec 𝕀 S2048x8192 .f32) (a : Fin 16384) (b : Fin 4096) :
    Cert.RowsReferenceIdeal.Read.val_main_v11 (F := 𝕀) x w (ix2 a b) = product x w (ix2 a b) := by
  have hb := b.isLt
  refine Eq.trans ?_ (proj_at x w a ⟨col b.val, col_lt b⟩)
  have hn : col b.val = if b.val < 2048 then b.val + 0 else b.val + 2048 := rfl
  unfold val_main_v11 val_main_v10 val_main_v2 val_main_v3 val_main_v6 val_main_v7
  pointwise
  split_ifs <;> split_ifs at hn <;> first
    | omega
    | exact congrArg _ (congrArg (ix2 a) (Fin.ext (by show _ = col b.val; rw [hn]; simp only []; omega)))

open Cert.RowsIdeal in
theorem algebraic : Cert.algebraic_RowsIdeal_RowsReferenceIdeal := by
  intro m g m' g' _ hagree
  refine ⟨fun c => product (acts m c) (weights m c), θ_run_mono (Cert.RowsIdeal.Value.run_blocks (F := 𝕀) m g) fun r h c =>
    ⟨(h c).1.trans (out_eq m c), (h c).2⟩, ?_⟩
  refine θ_run_mono (Cert.RowsReferenceIdeal.Value.run (F := 𝕀) m' g') fun r h c => ⟨(h c).1.trans ?_, (h c).2⟩
  rw [Cert.RowsReferenceIdeal.Read.val_main_v11_eq, (hagree c).1, (hagree c).2]
  funext y
  idx_vars y
  exact ref_at _ _ y0 y1

theorem frame_kernel : Cert.quiescent_Rows := fun m g _ => Cert.Rows.Gen.frame m g
theorem frame_ideal : Cert.quiescent_RowsIdeal := fun m g _ => Cert.RowsIdeal.Gen.frame m g
theorem frame_reference : Cert.quiescent_RowsReferenceIdeal := fun m g _ =>
  θ_run_mono (Cert.RowsReferenceIdeal.Value.run (F := 𝕀) m g) fun r h =>
    ⟨fun c => (h c).2, sem_eq_zero_of_no_sems (by decide) r.2⟩

end Cert.Proof.Rows
-- ==== Proof.Proj.Gates.lean ====
module

public import proofs.«01_k».proof.Defs
public import proofs.«01_k».proof.Proof.Gen.Gates
public import proofs.«01_k».proof.Proof.Gen.GatesIdeal
public import proofs.«01_k».proof.Proof.Gen.GatesReferenceIdeal
public import proofs.«01_k».proof.Proof.Gen.GatesIdeal.Value
public import proofs.«01_k».proof.Proof.Gen.GatesReferenceIdeal.Run
public import proofs.«01_k».proof.Proof.Gen.GatesReferenceIdeal.Read
public import proofs.«01_k».proof.Proof.Gen.Gates.Frame
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.PureOps.Ideal.Laws

@[expose] public section

/-!
# The projection of the gates of the even layer

Both programs form the product of the activations with the gate columns of the weights.
-/

set_option maxRecDepth 16384

noncomputable section

namespace Cert.Proof.Gates

open Cert.GatesIdeal Cert.GatesIdeal.Gen
open Idealize.ShloMosaic Idealize.ShloMosaic.TcCoe Idealize.SL.Sem
open scoped BigOperators

local notation "𝕀" => Idealize.ShloMosaic.Ideal

variable (m : (ℓ : Loc nD τ sig) → Buf (Elt 𝕀) ℓ) (c : Dev nD)

/-- The activations and the weights. -/
abbrev acts : Vec 𝕀 S16384x2048 .bf16 := m ((c : Thread nD τ).loc main_arg0)
abbrev weights : Vec 𝕀 S2048x8192 .f32 := m ((c : Thread nD τ).loc main_arg1)

/-- The projection's column that column `b` of the output is. -/
def col (b : ℕ) : ℕ := if b < 1024 then b + 3072 else b + 6144

theorem col_lt (b : Fin 2048) : col b.val < 8192 := by
  have h := b.isLt
  unfold col
  split <;> omega

/-- The array both programs end with. -/
def product (x : Vec 𝕀 S16384x2048 .bf16) (w : Vec 𝕀 S2048x8192 .f32) (y : S16384x2048.Idx) : EReal :=
  ∑ k : Fin 2048, x (ix2 (y 0) k) * w (ix2 k ⟨col (y 1).val, col_lt (y 1)⟩)

theorem weight_at (k : Fin 2048) (b : Fin 2048) : V m c main_v3 (ix2 k b) = weights m c (ix2 k ⟨col b.val, col_lt b⟩) := by
  have hb := b.isLt
  have hn : col b.val = if b.val < 1024 then b.val + 3072 else b.val + 6144 := rfl
  unfold V
  after_reads_at
  split_ifs <;> split_ifs at hn <;> first
    | omega
    | exact congrArg (weights m c) (congrArg (ix2 k) (Fin.ext (by show _ = col b.val; rw [hn]; simp only []; omega)))
    | (refine congrArg (weights m c) (funext fun a => Fin.ext ?_)
       match a with
       | ⟨0, _⟩ => exact Nat.zero_add _
       | ⟨1, _⟩ => change 3072 + b.val = col b.val; omega)
    | (refine congrArg (weights m c) (funext fun a => Fin.ext ?_)
       match a with
       | ⟨0, _⟩ => exact Nat.zero_add _
       | ⟨1, _⟩ => change 7168 + (b.val - 1024) = col b.val; omega)

theorem idx : ∀ t : Fin cfg0.N, win0_0.index t = ![(grid0.coords t 1).val, 0] ∧
    win0_1.index t = ![0, (grid0.coords t 0).val] ∧ win0_2.index t = ![(grid0.coords t 1).val, (grid0.coords t 0).val] :=
  (by decide +kernel : ∀ t : Fin grid0.N, _)

theorem col_tile_lt (t : Fin cfg0.N) : (grid0.coords t 0).val < 1 := (grid0.coords t 0).isLt
theorem row_tile_lt (t : Fin cfg0.N) : (grid0.coords t 1).val < 16 := (grid0.coords t 1).isLt

theorem acts_at (t : Fin cfg0.N) (r : Fin 1024) (k : Fin 2048) (a : Fin 16384) (ha : a.val = 1024 * (grid0.coords t 1).val + r.val) :
    iblk m c 0 t (ix2 r k) = acts m c (ix2 a k) := by
  have hx : (win0_0.blk t).view.emb (ix2 r k) = ix2 a k := by blk_ext [idx t]
  unfold iblk
  blk_simp
  rw [hx]
  exact congrFun (V_main_arg0 m c) _

theorem cols_at (t : Fin cfg0.N) (k b : Fin 2048) (n : Fin 2048) (hn : n.val = 2048 * (grid0.coords t 0).val + b.val) :
    iblk m c 1 t (ix2 k b) = weights m c (ix2 k ⟨col n.val, col_lt n⟩) := by
  have hx : (win0_1.blk t).view.emb (ix2 k b) = ix2 k n := by blk_ext [idx t]
  unfold iblk
  blk_simp
  rw [hx]
  exact weight_at m c k n

theorem pay_at (A : FVec 𝕀 S1024x2048 .bf16) (B : FVec 𝕀 S2048x2048 .bf16) (r : Fin 1024) (b : Fin 2048) :
    k0_pay1 (F := 𝕀) A B (ix2 r b) = (∑ k : Fin 2048, A (ix2 r k) * B (ix2 k b) : EReal) := by
  pointwise [k0_pay1]

theorem out_eq : (dats (F := 𝕀) m 0 c).arrAt 2 cfg0.N = product (acts m c) (weights m c) := by
  refine (dats m 0 c).arrAt_eq_of_covers 2 _ (by decide +kernel) fun t hf y => ?_
  have hj := col_tile_lt t
  have hi := row_tile_lt t
  blk_simp
  rw [after0_2]
  idx_vars y
  have h0 := y0.isLt
  have h1 := y1.isLt
  have hx : (win0_2.blk t).view.emb (ix2 y0 y1) = ix2 ⟨1024 * (grid0.coords t 1).val + y0.val, by omega⟩
      ⟨2048 * (grid0.coords t 0).val + y1.val, by omega⟩ := by
    blk_ext [idx t]
  refine Eq.trans ?_ (congrArg (product (acts m c) (weights m c)) hx).symm
  unfold out0_2
  rw [View.canon_unit_zero (by decide), View.ld_unit_zero (by decide), View.ld_unit_zero (by decide)]
  refine (pay_at _ _ y0 y1).trans ?_
  exact Finset.sum_congr rfl fun k _ => congrArg₂ (· * ·) (acts_at m c t y0 k _ rfl) (cols_at m c t k y1 _ rfl)

open Cert.GatesReferenceIdeal.Read in
/-- The whole projection. -/
theorem proj_at (x : Vec 𝕀 S16384x2048 .bf16) (w : Vec 𝕀 S2048x8192 .f32) (a : Fin 16384) (n : Fin 8192) :
    val_main_v1 (F := 𝕀) x w (ix2 a n) = (∑ k : Fin 2048, x (ix2 a k) * w (ix2 k n) : EReal) := by
  rw [val_main_v1_apply]
  refine Finset.sum_congr rfl fun k _ => ?_
  rw [val_main_v0_apply]
  refine congrArg₂ (· * ·) (congrArg x (funext fun b => ?_)) (congrArg w (funext fun b => ?_)) <;>
    match b with
    | ⟨0, _⟩ => rfl
    | ⟨1, _⟩ => rfl

open Cert.GatesReferenceIdeal.Read in
/-- The reference, entry by entry. -/
theorem ref_at (x : Vec 𝕀 S16384x2048 .bf16) (w : Vec 𝕀 S2048x8192 .f32) (a : Fin 16384) (b : Fin 2048) :
    Cert.GatesReferenceIdeal.Read.val_main_v10 (F := 𝕀) x w (ix2 a b) = product x w (ix2 a b) := by
  have hb := b.isLt
  refine Eq.trans ?_ (proj_at x w a ⟨col b.val, col_lt b⟩)
  have hn : col b.val = if b.val < 1024 then b.val + 3072 else b.val + 6144 := rfl
  unfold val_main_v10 val_main_v5 val_main_v9
  pointwise
  split_ifs <;> split_ifs at hn <;> first
    | omega
    | exact congrArg _ (congrArg (ix2 a) (Fin.ext (by show _ = col b.val; rw [hn]; simp only []; omega)))

open Cert.GatesIdeal in
theorem algebraic : Cert.algebraic_GatesIdeal_GatesReferenceIdeal := by
  intro m g m' g' _ hagree
  refine ⟨fun c => product (acts m c) (weights m c), θ_run_mono (Cert.GatesIdeal.Value.run_blocks (F := 𝕀) m g) fun r h c =>
    ⟨(h c).1.trans (out_eq m c), (h c).2⟩, ?_⟩
  refine θ_run_mono (Cert.GatesReferenceIdeal.Value.run (F := 𝕀) m' g') fun r h c => ⟨(h c).1.trans ?_, (h c).2⟩
  rw [Cert.GatesReferenceIdeal.Read.val_main_v10_eq, (hagree c).1, (hagree c).2]
  funext y
  idx_vars y
  exact ref_at _ _ y0 y1

theorem frame_kernel : Cert.quiescent_Gates := fun m g _ => Cert.Gates.Gen.frame m g
theorem frame_ideal : Cert.quiescent_GatesIdeal := fun m g _ => Cert.GatesIdeal.Gen.frame m g
theorem frame_reference : Cert.quiescent_GatesReferenceIdeal := fun m g _ =>
  θ_run_mono (Cert.GatesReferenceIdeal.Value.run (F := 𝕀) m g) fun r h =>
    ⟨fun c => (h c).2, sem_eq_zero_of_no_sems (by decide) r.2⟩

end Cert.Proof.Gates
-- ==== Proof.Proj.Values.lean ====
module

public import proofs.«01_k».proof.Defs
public import proofs.«01_k».proof.Proof.Gen.Values
public import proofs.«01_k».proof.Proof.Gen.ValuesIdeal
public import proofs.«01_k».proof.Proof.Gen.ValuesReferenceIdeal
public import proofs.«01_k».proof.Proof.Gen.ValuesIdeal.Value
public import proofs.«01_k».proof.Proof.Gen.ValuesReferenceIdeal.Run
public import proofs.«01_k».proof.Proof.Gen.ValuesReferenceIdeal.Read
public import proofs.«01_k».proof.Proof.Gen.Values.Frame
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.PureOps.Ideal.Laws

@[expose] public section

/-!
# The projection of the values of the even layer

Both programs form the product of the activations with the value columns of the weights, transposed.
-/

set_option maxRecDepth 16384

noncomputable section

namespace Cert.Proof.Values

open Cert.ValuesIdeal Cert.ValuesIdeal.Gen
open Idealize.ShloMosaic Idealize.ShloMosaic.TcCoe Idealize.SL.Sem
open scoped BigOperators

local notation "𝕀" => Idealize.ShloMosaic.Ideal

variable (m : (ℓ : Loc nD τ sig) → Buf (Elt 𝕀) ℓ) (c : Dev nD)

/-- The activations and the weights. -/
abbrev acts : Vec 𝕀 S16384x2048 .bf16 := m ((c : Thread nD τ).loc main_arg0)
abbrev weights : Vec 𝕀 S2048x8192 .f32 := m ((c : Thread nD τ).loc main_arg1)

/-- The projection's column that column `b` of the output is. -/
def col (b : ℕ) : ℕ := if b < 1024 then b + 2048 else b + 5120

theorem col_lt (b : Fin 2048) : col b.val < 8192 := by
  have h := b.isLt
  unfold col
  split <;> omega

/-- The array both programs end with. -/
def product (x : Vec 𝕀 S16384x2048 .bf16) (w : Vec 𝕀 S2048x8192 .f32) (y : S2048x16384.Idx) : EReal :=
  ∑ k : Fin 2048, x (ix2 (y 1) k) * w (ix2 k ⟨col (y 0).val, col_lt (y 0)⟩)

theorem weight_at (k : Fin 2048) (b : Fin 2048) : V m c main_v4 (ix2 b k) = weights m c (ix2 k ⟨col b.val, col_lt b⟩) := by
  have hb := b.isLt
  have hn : col b.val = if b.val < 1024 then b.val + 2048 else b.val + 5120 := rfl
  unfold V
  after_reads_at
  split_ifs <;> split_ifs at hn <;> first
    | omega
    | exact congrArg (weights m c) (congrArg (ix2 k) (Fin.ext (by show _ = col b.val; rw [hn]; simp only []; omega)))
    | (refine congrArg (weights m c) (funext fun a => Fin.ext ?_)
       match a with
       | ⟨0, _⟩ => exact Nat.zero_add _
       | ⟨1, _⟩ => change 2048 + b.val = col b.val; omega)
    | (refine congrArg (weights m c) (funext fun a => Fin.ext ?_)
       match a with
       | ⟨0, _⟩ => exact Nat.zero_add _
       | ⟨1, _⟩ => change 6144 + (b.val - 1024) = col b.val; omega)

theorem idx : ∀ t : Fin cfg0.N, win0_0.index t = ![(grid0.coords t 0).val, 0] ∧
    win0_1.index t = ![(grid0.coords t 1).val, 0] ∧ win0_2.index t = ![(grid0.coords t 0).val, (grid0.coords t 1).val] :=
  (by decide +kernel : ∀ t : Fin grid0.N, _)

theorem col_tile_lt (t : Fin cfg0.N) : (grid0.coords t 0).val < 2 := (grid0.coords t 0).isLt
theorem row_tile_lt (t : Fin cfg0.N) : (grid0.coords t 1).val < 16 := (grid0.coords t 1).isLt

theorem acts_at (t : Fin cfg0.N) (r : Fin 1024) (k : Fin 2048) (a : Fin 16384) (ha : a.val = 1024 * (grid0.coords t 1).val + r.val) :
    iblk m c 1 t (ix2 r k) = acts m c (ix2 a k) := by
  have hx : (win0_1.blk t).view.emb (ix2 r k) = ix2 a k := by blk_ext [idx t]
  unfold iblk
  blk_simp
  rw [hx]
  exact congrFun (V_main_arg0 m c) _

theorem cols_at (t : Fin cfg0.N) (k : Fin 2048) (b : Fin 1024) (n : Fin 2048) (hn : n.val = 1024 * (grid0.coords t 0).val + b.val) :
    iblk m c 0 t (ix2 b k) = weights m c (ix2 k ⟨col n.val, col_lt n⟩) := by
  have hx : (win0_0.blk t).view.emb (ix2 b k) = ix2 n k := by blk_ext [idx t]
  unfold iblk
  blk_simp
  rw [hx]
  exact weight_at m c k n

theorem pay_at (A B : FVec 𝕀 S1024x2048 .bf16) (r b : Fin 1024) :
    k0_pay1 (F := 𝕀) A B (ix2 r b) = (∑ k : Fin 2048, A (ix2 r k) * B (ix2 b k) : EReal) := by
  pointwise [k0_pay1]

theorem out_eq : (dats (F := 𝕀) m 0 c).arrAt 2 cfg0.N = product (acts m c) (weights m c) := by
  refine (dats m 0 c).arrAt_eq_of_covers 2 _ (by decide +kernel) fun t hf y => ?_
  have hj := col_tile_lt t
  have hi := row_tile_lt t
  blk_simp
  rw [after0_2]
  idx_vars y
  have h0 := y0.isLt
  have h1 := y1.isLt
  have hx : (win0_2.blk t).view.emb (ix2 y0 y1) = ix2 ⟨1024 * (grid0.coords t 0).val + y0.val, by omega⟩
      ⟨1024 * (grid0.coords t 1).val + y1.val, by omega⟩ := by
    blk_ext [idx t]
  refine Eq.trans ?_ (congrArg (product (acts m c) (weights m c)) hx).symm
  unfold out0_2
  rw [View.canon_unit_zero (by decide), View.ld_unit_zero (by decide), View.ld_unit_zero (by decide)]
  refine (pay_at _ _ y0 y1).trans ?_
  exact Finset.sum_congr rfl fun k _ => (mul_comm _ _).trans (congrArg₂ (· * ·) (acts_at m c t y1 k _ rfl) (cols_at m c t k y0 _ rfl))

open Cert.ValuesReferenceIdeal.Read in
/-- The whole projection. -/
theorem proj_at (x : Vec 𝕀 S16384x2048 .bf16) (w : Vec 𝕀 S2048x8192 .f32) (a : Fin 16384) (n : Fin 8192) :
    val_main_v1 (F := 𝕀) x w (ix2 a n) = (∑ k : Fin 2048, x (ix2 a k) * w (ix2 k n) : EReal) := by
  rw [val_main_v1_apply]
  refine Finset.sum_congr rfl fun k _ => ?_
  rw [val_main_v0_apply]
  refine congrArg₂ (· * ·) (congrArg x (funext fun b => ?_)) (congrArg w (funext fun b => ?_)) <;>
    match b with
    | ⟨0, _⟩ => rfl
    | ⟨1, _⟩ => rfl

open Cert.ValuesReferenceIdeal.Read in
/-- The reference, entry by entry. -/
theorem ref_at (x : Vec 𝕀 S16384x2048 .bf16) (w : Vec 𝕀 S2048x8192 .f32) (a : Fin 16384) (b : Fin 2048) :
    Cert.ValuesReferenceIdeal.Read.val_main_v12 (F := 𝕀) x w (ix2 b a) = product x w (ix2 b a) := by
  have hb := b.isLt
  refine Eq.trans ?_ (proj_at x w a ⟨col b.val, col_lt b⟩)
  have hn : col b.val = if b.val < 1024 then b.val + 2048 else b.val + 5120 := rfl
  unfold val_main_v12 val_main_v11 val_main_v10 val_main_v4 val_main_v8
  pointwise
  split_ifs <;> split_ifs at hn <;> first
    | omega
    | exact congrArg _ (congrArg (ix2 a) (Fin.ext (by show _ = col b.val; rw [hn]; simp only []; omega)))

open Cert.ValuesIdeal in
theorem algebraic : Cert.algebraic_ValuesIdeal_ValuesReferenceIdeal := by
  intro m g m' g' _ hagree
  refine ⟨fun c => product (acts m c) (weights m c), θ_run_mono (Cert.ValuesIdeal.Value.run_blocks (F := 𝕀) m g) fun r h c =>
    ⟨(h c).1.trans (out_eq m c), (h c).2⟩, ?_⟩
  refine θ_run_mono (Cert.ValuesReferenceIdeal.Value.run (F := 𝕀) m' g') fun r h c => ⟨(h c).1.trans ?_, (h c).2⟩
  rw [Cert.ValuesReferenceIdeal.Read.val_main_v12_eq, (hagree c).1, (hagree c).2]
  funext y
  idx_vars y
  exact ref_at _ _ y1 y0

theorem frame_kernel : Cert.quiescent_Values := fun m g _ => Cert.Values.Gen.frame m g
theorem frame_ideal : Cert.quiescent_ValuesIdeal := fun m g _ => Cert.ValuesIdeal.Gen.frame m g
theorem frame_reference : Cert.quiescent_ValuesReferenceIdeal := fun m g _ =>
  θ_run_mono (Cert.ValuesReferenceIdeal.Value.run (F := 𝕀) m g) fun r h =>
    ⟨fun c => (h c).2, sem_eq_zero_of_no_sems (by decide) r.2⟩

end Cert.Proof.Values
-- ==== Proof.Proj.OutProj.lean ====
module

public import proofs.«01_k».proof.Defs
public import proofs.«01_k».proof.Proof.Gen.OutProj
public import proofs.«01_k».proof.Proof.Gen.OutProjIdeal
public import proofs.«01_k».proof.Proof.Gen.OutProjReferenceIdeal
public import proofs.«01_k».proof.Proof.Gen.OutProjIdeal.Value
public import proofs.«01_k».proof.Proof.Gen.OutProjReferenceIdeal.Run
public import proofs.«01_k».proof.Proof.Gen.OutProjReferenceIdeal.Read
public import proofs.«01_k».proof.Proof.Gen.OutProj.Frame
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.PureOps.Ideal.Laws

@[expose] public section

/-!
# The output projection

Both programs multiply the two mixers' outputs, side by side, by the weights, divide each row by the root of its mean
square, scale the columns and add the residual.
-/

set_option maxRecDepth 16384

noncomputable section

namespace Cert.Proof.OutProj

open Cert.OutProjIdeal Cert.OutProjIdeal.Gen
open Idealize.ShloMosaic Idealize.ShloMosaic.TcCoe Idealize.SL.Sem
open scoped BigOperators

local notation "𝕀" => Idealize.ShloMosaic.Ideal

/-- An entry of the product of the mixers' outputs, side by side, with the weights. -/
def prod (A B : Vec 𝕀 S16384x1024 .bf16) (w : Vec 𝕀 S2048x2048 .f32) (a : Fin 16384) (n : Fin 2048) : EReal :=
  (∑ k : Fin 1024, A (ix2 a k) * w (ix2 (⟨k.val, by omega⟩ : Fin 2048) n)) +
    ∑ k : Fin 1024, B (ix2 a k) * w (ix2 (⟨1024 + k.val, by omega⟩ : Fin 2048) n)

/-- The array both programs end with. -/
def layer (A B : Vec 𝕀 S16384x1024 .bf16) (w : Vec 𝕀 S2048x2048 .f32) (h : Vec 𝕀 S16384x2048 .f32) (g : Vec 𝕀 S2048 .f32)
    (y : S16384x2048.Idx) : EReal :=
  h y + prod A B w (y 0) (y 1) * Ideal.rsqrt (Ideal.div (∑ n : Fin 2048, prod A B w (y 0) n * prod A B w (y 0) n)
    (Ideal.ofBits .f32 0x45000000#32) + Ideal.ofBits .f32 0x358637BD#32) * g (ix1 (y 1))

variable (m : (ℓ : Loc nD τ sig) → Buf (Elt 𝕀) ℓ) (c : Dev nD)

abbrev left : Vec 𝕀 S16384x1024 .bf16 := m ((c : Thread nD τ).loc main_arg0)
abbrev right : Vec 𝕀 S16384x1024 .bf16 := m ((c : Thread nD τ).loc main_arg1)
abbrev weights : Vec 𝕀 S2048x2048 .f32 := m ((c : Thread nD τ).loc main_arg2)
abbrev residual : Vec 𝕀 S16384x2048 .f32 := m ((c : Thread nD τ).loc main_arg3)
abbrev gain : Vec 𝕀 S2048 .f32 := m ((c : Thread nD τ).loc main_arg4)

theorem idx : ∀ t : Fin cfg0.N, win0_0.index t = ![(grid0.coords t 0).val, 0] ∧ win0_1.index t = ![(grid0.coords t 0).val, 0] ∧
    win0_2.index t = ![0, 0] ∧ win0_3.index t = ![(grid0.coords t 0).val, 0] ∧ win0_4.index t = ![0, 0] ∧
    win0_5.index t = ![(grid0.coords t 0).val, 0] :=
  (by decide +kernel : ∀ t : Fin grid0.N, _)

theorem tile_lt (t : Fin cfg0.N) : (grid0.coords t 0).val < 32 := (grid0.coords t 0).isLt

theorem weight_at (k n : Fin 2048) : V m c main_v0 (ix2 k n) = weights m c (ix2 k n) := by
  unfold V
  after_reads_at

theorem gain_at (n : Fin 2048) : V m c main_v1 (ix2 (0 : Fin 1) n) = gain m c (ix1 n) := by
  unfold V
  after_reads_at

theorem blk0_at (t : Fin cfg0.N) (r : Fin 512) (k : Fin 1024) (a : Fin 16384) (ha : a.val = 512 * (grid0.coords t 0).val + r.val) :
    iblk m c 0 t (ix2 r k) = left m c (ix2 a k) := by
  have hx : (win0_0.blk t).view.emb (ix2 r k) = ix2 a k := by blk_ext [idx t]
  unfold iblk
  blk_simp
  rw [hx]
  exact congrFun (V_main_arg0 m c) _

theorem blk1_at (t : Fin cfg0.N) (r : Fin 512) (k : Fin 1024) (a : Fin 16384) (ha : a.val = 512 * (grid0.coords t 0).val + r.val) :
    iblk m c 1 t (ix2 r k) = right m c (ix2 a k) := by
  have hx : (win0_1.blk t).view.emb (ix2 r k) = ix2 a k := by blk_ext [idx t]
  unfold iblk
  blk_simp
  rw [hx]
  exact congrFun (V_main_arg1 m c) _

theorem blk2_at (t : Fin cfg0.N) (k n : Fin 2048) : iblk m c 2 t (ix2 k n) = weights m c (ix2 k n) := by
  have hx : (win0_2.blk t).view.emb (ix2 k n) = ix2 k n := by blk_ext [idx t]
  unfold iblk
  blk_simp
  rw [hx]
  exact weight_at m c k n

theorem blk3_at (t : Fin cfg0.N) (r : Fin 512) (n : Fin 2048) (a : Fin 16384) (ha : a.val = 512 * (grid0.coords t 0).val + r.val) :
    iblk m c 3 t (ix2 r n) = residual m c (ix2 a n) := by
  have hx : (win0_3.blk t).view.emb (ix2 r n) = ix2 a n := by blk_ext [idx t]
  unfold iblk
  blk_simp
  rw [hx]
  exact congrFun (V_main_arg3 m c) _

theorem blk4_at (t : Fin cfg0.N) (n : Fin 2048) : iblk m c 4 t (ix2 (0 : Fin 1) n) = gain m c (ix1 n) := by
  have hx : (win0_4.blk t).view.emb (ix2 (0 : Fin 1) n) = ix2 (0 : Fin 1) n := by blk_ext [idx t]
  unfold iblk
  blk_simp
  rw [hx]
  exact gain_at m c n

/-- The body's result, entry by entry. -/
theorem pay_at (A B : FVec 𝕀 S512x1024 .bf16) (U W : FVec 𝕀 S1024x2048 .bf16) (h : FVec 𝕀 S512x2048 .f32) (g : FVec 𝕀 S1x2048 .f32)
    (r : Fin 512) (n : Fin 2048) (p : Fin 2048 → EReal)
    (hp : ∀ n, p n = (∑ k : Fin 1024, A (ix2 r k) * U (ix2 k n) : EReal) + ∑ k : Fin 1024, B (ix2 r k) * W (ix2 k n)) :
    k0_pay1 (F := 𝕀) A U B W h g (ix2 r n) = (h (ix2 r n) + p n * Ideal.rsqrt (Ideal.div (∑ n : Fin 2048, p n * p n)
      (Ideal.ofBits .f32 0x45000000#32) + Ideal.ofBits .f32 0x358637BD#32) * g (ix2 0 n) : EReal) := by
  pointwise [k0_pay1]
  simp only [← hp]

theorem out_eq : (dats (F := 𝕀) m 0 c).arrAt 5 cfg0.N = layer (left m c) (right m c) (weights m c) (residual m c) (gain m c) := by
  refine (dats m 0 c).arrAt_eq_of_covers 5 _ (by decide +kernel) fun t hf y => ?_
  have hi := tile_lt t
  blk_simp
  rw [after0_5]
  idx_vars y
  have h0 := y0.isLt
  have h1 := y1.isLt
  have hx : (win0_5.blk t).view.emb (ix2 y0 y1) = ix2 ⟨512 * (grid0.coords t 0).val + y0.val, by omega⟩ y1 := by
    blk_ext [idx t]
  refine Eq.trans ?_ (congrArg (layer (left m c) (right m c) (weights m c) (residual m c) (gain m c)) hx).symm
  unfold out0_5
  rw [View.canon_unit_zero (by decide), View.ld_unit_zero (by decide), View.ld_unit_zero (by decide),
    View.ld_unit_zero (by decide), View.ld_unit_zero (by decide)]
  refine (pay_at _ _ _ _ _ _ y0 y1 (prod (left m c) (right m c) (weights m c) ⟨512 * (grid0.coords t 0).val + y0.val, by omega⟩)
    fun n => ?_).trans ?_
  · unfold prod
    refine congrArg₂ (· + ·) (Finset.sum_congr rfl fun k _ => congrArg₂ (· * ·) (blk0_at m c t y0 k _ rfl).symm ?_)
      (Finset.sum_congr rfl fun k _ => congrArg₂ (· * ·) (blk1_at m c t y0 k _ rfl).symm ?_)
    · rw [← blk2_at m c t]
      refine congrArg (iblk m c 2 t) (funext fun b => Fin.ext ?_)
      match b with
      | ⟨0, _⟩ => show k.val = 0 + 1 * k.val; omega
      | ⟨1, _⟩ => show n.val = 0 + 1 * n.val; omega
    · rw [← blk2_at m c t]
      refine congrArg (iblk m c 2 t) (funext fun b => Fin.ext ?_)
      match b with
      | ⟨0, _⟩ => show 1024 + k.val = 1024 + 1 * k.val; omega
      | ⟨1, _⟩ => show n.val = 0 + 1 * n.val; omega
  · rw [blk3_at m c t y0 y1 ⟨512 * (grid0.coords t 0).val + y0.val, by omega⟩ rfl, blk4_at m c t y1]
    rfl

open Cert.OutProjReferenceIdeal.Read

section
variable (A B : Vec 𝕀 S16384x1024 .bf16) (w : Vec 𝕀 S2048x2048 .f32) (h : Vec 𝕀 S16384x2048 .f32) (g : Vec 𝕀 S2048 .f32)

theorem sides_at (a : Fin 16384) (k : Fin 2048) : val_main_v1 (F := 𝕀) A B (ix2 a k) =
    if h : k.val < 1024 then A (ix2 a ⟨k.val, h⟩) else B (ix2 a ⟨k.val - 1024, by omega⟩) := by
  unfold val_main_v1 val_main_v0
  pointwise

/-- The reference's product, entry by entry. -/
theorem prod_at (a : Fin 16384) (n : Fin 2048) : val_main_v2 (F := 𝕀) A B w (ix2 a n) = prod A B w a n := by
  rw [val_main_v2_apply]
  have hk (k : Fin 2048) : val_main_v1 (F := 𝕀) A B (lidx_main_v2 (ix2 a n) k) * w (ridx_main_v2 (ix2 a n) k) =
      val_main_v1 (F := 𝕀) A B (ix2 a k) * w (ix2 k n) :=
    congrArg₂ (· * ·) (congrArg _ (funext fun b => match b with | ⟨0, _⟩ => rfl | ⟨1, _⟩ => rfl))
      (congrArg w (funext fun b => match b with | ⟨0, _⟩ => rfl | ⟨1, _⟩ => rfl))
  rw [Finset.sum_congr rfl fun k _ => hk k]
  refine (Fin.sum_univ_add (a := 1024) (b := 1024) (fun k : Fin 2048 => (val_main_v1 (F := 𝕀) A B (ix2 a k) * w (ix2 k n) : EReal))).trans ?_
  unfold prod
  refine congrArg₂ (· + ·) (Finset.sum_congr rfl fun k _ => ?_) (Finset.sum_congr rfl fun k _ => ?_)
  · rw [sides_at, dif_pos (show (Fin.castAdd 1024 k).val < 1024 from k.isLt)]
    rfl
  · rw [sides_at, dif_neg (show ¬(Fin.natAdd 1024 k).val < 1024 by simp)]
    refine congrArg₂ (· * ·) (congrArg B (congrArg (ix2 a) (Fin.ext ?_))) rfl
    show 1024 + k.val - 1024 = k.val
    omega

theorem ref_at (a : Fin 16384) (n : Fin 2048) : val_main_v16 (F := 𝕀) A B w h g (ix2 a n) = layer A B w h g (ix2 a n) := by
  rw [val_main_v16_apply, val_main_v15_apply, val_main_v14_apply, val_main_v13_apply, val_main_v12_apply, val_main_v11_apply,
    val_main_v10_apply, val_main_v9_apply, val_main_v8_apply, val_main_cst_1_apply, val_main_v7_apply, val_main_v6_apply,
    val_main_cst_0_apply, val_main_v5_apply, val_main_v4_apply, val_main_cst_apply, prod_at]
  have hs : (∑ k : Fin 2048, val_main_v3 (F := 𝕀) A B w (idx_main_v4 (idx_main_v5 (idx_main_v11 (ix2 a n))) k) : EReal) =
      ∑ k : Fin 2048, prod A B w a k * prod A B w a k := by
    refine Finset.sum_congr rfl fun k _ => ?_
    rw [val_main_v3_apply, show idx_main_v4 (idx_main_v5 (idx_main_v11 (ix2 a n))) k = ix2 a k from
      funext fun b => match b with | ⟨0, _⟩ => rfl | ⟨1, _⟩ => rfl, prod_at]
    rfl
  rw [hs, show (FloatOps.ofBits (F := 𝕀) .f32 0x00000000#32 : EReal) = 0 from by
    show Ideal.ofBits .f32 0x00000000#32 = 0
    simp [Ideal.ofBits, Ideal.ieee], zero_add, show idx_main_v13 (idx_main_v14 (ix2 a n)) = ix1 n from
    funext fun b => match b with | ⟨0, _⟩ => rfl]
  rfl
end

theorem algebraic : Cert.algebraic_OutProjIdeal_OutProjReferenceIdeal := by
  intro m g m' g' _ hagree
  refine ⟨fun c => layer (left m c) (right m c) (weights m c) (residual m c) (gain m c),
    θ_run_mono (Cert.OutProjIdeal.Value.run_blocks (F := 𝕀) m g) fun r h c => ⟨(h c).1.trans (out_eq m c), (h c).2⟩, ?_⟩
  refine θ_run_mono (Cert.OutProjReferenceIdeal.Value.run (F := 𝕀) m' g') fun r h c => ⟨(h c).1.trans ?_, (h c).2⟩
  obtain ⟨h0, h1, h2, h3, h4⟩ := hagree c
  rw [val_main_v16_eq, h0, h1, h2, h3, h4]
  funext y
  idx_vars y
  exact ref_at _ _ _ _ _ y0 y1

theorem frame_kernel : Cert.quiescent_OutProj := fun m g _ => Cert.OutProj.Gen.frame m g
theorem frame_ideal : Cert.quiescent_OutProjIdeal := fun m g _ => Cert.OutProjIdeal.Gen.frame m g
theorem frame_reference : Cert.quiescent_OutProjReferenceIdeal := fun m g _ =>
  θ_run_mono (Cert.OutProjReferenceIdeal.Value.run (F := 𝕀) m g) fun r h =>
    ⟨fun c => (h c).2, sem_eq_zero_of_no_sems (by decide) r.2⟩

end Cert.Proof.OutProj
-- ==== Proof.Proj.OddRows.lean ====
module

public import proofs.«01_k».proof.Defs
public import proofs.«01_k».proof.Proof.Gen.OddRows
public import proofs.«01_k».proof.Proof.Gen.OddRowsIdeal
public import proofs.«01_k».proof.Proof.Gen.OddRowsReferenceIdeal
public import proofs.«01_k».proof.Proof.Gen.OddRowsIdeal.Value
public import proofs.«01_k».proof.Proof.Gen.OddRowsReferenceIdeal.Run
public import proofs.«01_k».proof.Proof.Gen.OddRowsReferenceIdeal.Read
public import proofs.«01_k».proof.Proof.Gen.OddRows.Frame
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.PureOps.Ideal.Laws

@[expose] public section

/-!
# The projection of the queries and keys of the odd layer

Both programs form the product of the activations with the query and key columns of the weights.
-/

set_option maxRecDepth 16384

noncomputable section

namespace Cert.Proof.OddRows

open Cert.OddRowsIdeal Cert.OddRowsIdeal.Gen
open Idealize.ShloMosaic Idealize.ShloMosaic.TcCoe Idealize.SL.Sem
open scoped BigOperators

local notation "𝕀" => Idealize.ShloMosaic.Ideal

variable (m : (ℓ : Loc nD τ sig) → Buf (Elt 𝕀) ℓ) (c : Dev nD)

/-- The activations and the weights. -/
abbrev acts : Vec 𝕀 S16384x2048 .bf16 := m ((c : Thread nD τ).loc main_arg0)
abbrev weights : Vec 𝕀 S2048x8200 .f32 := m ((c : Thread nD τ).loc main_arg1)

/-- The projection's column that column `b` of the output is. -/
def col (b : ℕ) : ℕ := b

theorem col_lt (b : Fin 2048) : col b.val < 8200 := by
  have h := b.isLt
  unfold col
  omega

/-- The array both programs end with. -/
def product (x : Vec 𝕀 S16384x2048 .bf16) (w : Vec 𝕀 S2048x8200 .f32) (y : S16384x2048.Idx) : EReal :=
  ∑ k : Fin 2048, x (ix2 (y 0) k) * w (ix2 k ⟨col (y 1).val, col_lt (y 1)⟩)

theorem weight_at (k : Fin 2048) (b : Fin 2048) : V m c main_v3 (ix2 k b) = weights m c (ix2 k ⟨col b.val, col_lt b⟩) := by
  have hb := b.isLt
  have hn : col b.val = b.val := rfl
  unfold V
  after_reads_at
  split_ifs <;> after_reads_at <;> first
    | omega
    | exact congrArg (weights m c) (congrArg (ix2 k) (Fin.ext (by show _ = b.val; first | rfl | (simp only []; omega))))

theorem idx : ∀ t : Fin cfg0.N, win0_0.index t = ![(grid0.coords t 1).val, 0] ∧
    win0_1.index t = ![0, (grid0.coords t 0).val] ∧ win0_2.index t = ![(grid0.coords t 1).val, (grid0.coords t 0).val] :=
  (by decide +kernel : ∀ t : Fin grid0.N, _)

theorem col_tile_lt (t : Fin cfg0.N) : (grid0.coords t 0).val < 1 := (grid0.coords t 0).isLt
theorem row_tile_lt (t : Fin cfg0.N) : (grid0.coords t 1).val < 16 := (grid0.coords t 1).isLt

theorem acts_at (t : Fin cfg0.N) (r : Fin 1024) (k : Fin 2048) (a : Fin 16384) (ha : a.val = 1024 * (grid0.coords t 1).val + r.val) :
    iblk m c 0 t (ix2 r k) = acts m c (ix2 a k) := by
  have hx : (win0_0.blk t).view.emb (ix2 r k) = ix2 a k := by blk_ext [idx t]
  unfold iblk
  blk_simp
  rw [hx]
  exact congrFun (V_main_arg0 m c) _

theorem cols_at (t : Fin cfg0.N) (k b : Fin 2048) (n : Fin 2048) (hn : n.val = 2048 * (grid0.coords t 0).val + b.val) :
    iblk m c 1 t (ix2 k b) = weights m c (ix2 k ⟨col n.val, col_lt n⟩) := by
  have hx : (win0_1.blk t).view.emb (ix2 k b) = ix2 k n := by blk_ext [idx t]
  unfold iblk
  blk_simp
  rw [hx]
  exact weight_at m c k n

theorem pay_at (A : FVec 𝕀 S1024x2048 .bf16) (B : FVec 𝕀 S2048x2048 .bf16) (r : Fin 1024) (b : Fin 2048) :
    k0_pay1 (F := 𝕀) A B (ix2 r b) = (∑ k : Fin 2048, A (ix2 r k) * B (ix2 k b) : EReal) := by
  pointwise [k0_pay1]

theorem out_eq : (dats (F := 𝕀) m 0 c).arrAt 2 cfg0.N = product (acts m c) (weights m c) := by
  refine (dats m 0 c).arrAt_eq_of_covers 2 _ (by decide +kernel) fun t hf y => ?_
  have hj := col_tile_lt t
  have hi := row_tile_lt t
  blk_simp
  rw [after0_2]
  idx_vars y
  have h0 := y0.isLt
  have h1 := y1.isLt
  have hx : (win0_2.blk t).view.emb (ix2 y0 y1) = ix2 ⟨1024 * (grid0.coords t 1).val + y0.val, by omega⟩
      ⟨2048 * (grid0.coords t 0).val + y1.val, by omega⟩ := by
    blk_ext [idx t]
  refine Eq.trans ?_ (congrArg (product (acts m c) (weights m c)) hx).symm
  unfold out0_2
  rw [View.canon_unit_zero (by decide), View.ld_unit_zero (by decide), View.ld_unit_zero (by decide)]
  refine (pay_at _ _ y0 y1).trans ?_
  exact Finset.sum_congr rfl fun k _ => congrArg₂ (· * ·) (acts_at m c t y0 k _ rfl) (cols_at m c t k y1 _ rfl)

open Cert.OddRowsReferenceIdeal.Read in
/-- The whole projection. -/
theorem proj_at (x : Vec 𝕀 S16384x2048 .bf16) (w : Vec 𝕀 S2048x8200 .f32) (a : Fin 16384) (n : Fin 8200) :
    val_main_v1 (F := 𝕀) x w (ix2 a n) = (∑ k : Fin 2048, x (ix2 a k) * w (ix2 k n) : EReal) := by
  rw [val_main_v1_apply]
  refine Finset.sum_congr rfl fun k _ => ?_
  rw [val_main_v0_apply]
  refine congrArg₂ (· * ·) (congrArg x (funext fun b => ?_)) (congrArg w (funext fun b => ?_)) <;>
    match b with
    | ⟨0, _⟩ => rfl
    | ⟨1, _⟩ => rfl

open Cert.OddRowsReferenceIdeal.Read in
/-- The reference, entry by entry. -/
theorem ref_at (x : Vec 𝕀 S16384x2048 .bf16) (w : Vec 𝕀 S2048x8200 .f32) (a : Fin 16384) (b : Fin 2048) :
    Cert.OddRowsReferenceIdeal.Read.val_main_v3 (F := 𝕀) x w (ix2 a b) = product x w (ix2 a b) := by
  have hb := b.isLt
  refine Eq.trans ?_ (proj_at x w a ⟨col b.val, col_lt b⟩)
  have hn : col b.val = b.val := rfl
  unfold val_main_v3 val_main_v2
  pointwise
  first
    | omega
    | exact congrArg _ (congrArg (ix2 a) (Fin.ext (by show _ = b.val; first | rfl | (simp only []; omega))))

open Cert.OddRowsIdeal in
theorem algebraic : Cert.algebraic_OddRowsIdeal_OddRowsReferenceIdeal := by
  intro m g m' g' _ hagree
  refine ⟨fun c => product (acts m c) (weights m c), θ_run_mono (Cert.OddRowsIdeal.Value.run_blocks (F := 𝕀) m g) fun r h c =>
    ⟨(h c).1.trans (out_eq m c), (h c).2⟩, ?_⟩
  refine θ_run_mono (Cert.OddRowsReferenceIdeal.Value.run (F := 𝕀) m' g') fun r h c => ⟨(h c).1.trans ?_, (h c).2⟩
  rw [Cert.OddRowsReferenceIdeal.Read.val_main_v3_eq, (hagree c).1, (hagree c).2]
  funext y
  idx_vars y
  exact ref_at _ _ y0 y1

theorem frame_kernel : Cert.quiescent_OddRows := fun m g _ => Cert.OddRows.Gen.frame m g
theorem frame_ideal : Cert.quiescent_OddRowsIdeal := fun m g _ => Cert.OddRowsIdeal.Gen.frame m g
theorem frame_reference : Cert.quiescent_OddRowsReferenceIdeal := fun m g _ =>
  θ_run_mono (Cert.OddRowsReferenceIdeal.Value.run (F := 𝕀) m g) fun r h =>
    ⟨fun c => (h c).2, sem_eq_zero_of_no_sems (by decide) r.2⟩

end Cert.Proof.OddRows
-- ==== Proof.Proj.OddGates.lean ====
module

public import proofs.«01_k».proof.Defs
public import proofs.«01_k».proof.Proof.Gen.OddGates
public import proofs.«01_k».proof.Proof.Gen.OddGatesIdeal
public import proofs.«01_k».proof.Proof.Gen.OddGatesReferenceIdeal
public import proofs.«01_k».proof.Proof.Gen.OddGatesIdeal.Value
public import proofs.«01_k».proof.Proof.Gen.OddGatesReferenceIdeal.Run
public import proofs.«01_k».proof.Proof.Gen.OddGatesReferenceIdeal.Read
public import proofs.«01_k».proof.Proof.Gen.OddGates.Frame
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.PureOps.Ideal.Laws

@[expose] public section

/-!
# The projection of the gates of the odd layer

Both programs form the product of the activations with the gate columns of the weights.
-/

set_option maxRecDepth 16384

noncomputable section

namespace Cert.Proof.OddGates

open Cert.OddGatesIdeal Cert.OddGatesIdeal.Gen
open Idealize.ShloMosaic Idealize.ShloMosaic.TcCoe Idealize.SL.Sem
open scoped BigOperators

local notation "𝕀" => Idealize.ShloMosaic.Ideal

variable (m : (ℓ : Loc nD τ sig) → Buf (Elt 𝕀) ℓ) (c : Dev nD)

/-- The activations and the weights. -/
abbrev acts : Vec 𝕀 S16384x2048 .bf16 := m ((c : Thread nD τ).loc main_arg0)
abbrev weights : Vec 𝕀 S2048x8200 .f32 := m ((c : Thread nD τ).loc main_arg1)

/-- The projection's column that column `b` of the output is. -/
def col (b : ℕ) : ℕ := if b < 1024 then b + 3072 else b + 6152

theorem col_lt (b : Fin 2048) : col b.val < 8200 := by
  have h := b.isLt
  unfold col
  split <;> omega

/-- The array both programs end with. -/
def product (x : Vec 𝕀 S16384x2048 .bf16) (w : Vec 𝕀 S2048x8200 .f32) (y : S16384x2048.Idx) : EReal :=
  ∑ k : Fin 2048, x (ix2 (y 0) k) * w (ix2 k ⟨col (y 1).val, col_lt (y 1)⟩)

theorem weight_at (k : Fin 2048) (b : Fin 2048) : V m c main_v3 (ix2 k b) = weights m c (ix2 k ⟨col b.val, col_lt b⟩) := by
  have hb := b.isLt
  have hn : col b.val = if b.val < 1024 then b.val + 3072 else b.val + 6152 := rfl
  unfold V
  after_reads_at
  split_ifs <;> split_ifs at hn <;> first
    | omega
    | exact congrArg (weights m c) (congrArg (ix2 k) (Fin.ext (by show _ = col b.val; rw [hn]; simp only []; omega)))
    | (refine congrArg (weights m c) (funext fun a => Fin.ext ?_)
       match a with
       | ⟨0, _⟩ => exact Nat.zero_add _
       | ⟨1, _⟩ => change 3072 + b.val = col b.val; omega)
    | (refine congrArg (weights m c) (funext fun a => Fin.ext ?_)
       match a with
       | ⟨0, _⟩ => exact Nat.zero_add _
       | ⟨1, _⟩ => change 7176 + (b.val - 1024) = col b.val; omega)

theorem idx : ∀ t : Fin cfg0.N, win0_0.index t = ![(grid0.coords t 1).val, 0] ∧
    win0_1.index t = ![0, (grid0.coords t 0).val] ∧ win0_2.index t = ![(grid0.coords t 1).val, (grid0.coords t 0).val] :=
  (by decide +kernel : ∀ t : Fin grid0.N, _)

theorem col_tile_lt (t : Fin cfg0.N) : (grid0.coords t 0).val < 1 := (grid0.coords t 0).isLt
theorem row_tile_lt (t : Fin cfg0.N) : (grid0.coords t 1).val < 16 := (grid0.coords t 1).isLt

theorem acts_at (t : Fin cfg0.N) (r : Fin 1024) (k : Fin 2048) (a : Fin 16384) (ha : a.val = 1024 * (grid0.coords t 1).val + r.val) :
    iblk m c 0 t (ix2 r k) = acts m c (ix2 a k) := by
  have hx : (win0_0.blk t).view.emb (ix2 r k) = ix2 a k := by blk_ext [idx t]
  unfold iblk
  blk_simp
  rw [hx]
  exact congrFun (V_main_arg0 m c) _

theorem cols_at (t : Fin cfg0.N) (k b : Fin 2048) (n : Fin 2048) (hn : n.val = 2048 * (grid0.coords t 0).val + b.val) :
    iblk m c 1 t (ix2 k b) = weights m c (ix2 k ⟨col n.val, col_lt n⟩) := by
  have hx : (win0_1.blk t).view.emb (ix2 k b) = ix2 k n := by blk_ext [idx t]
  unfold iblk
  blk_simp
  rw [hx]
  exact weight_at m c k n

theorem pay_at (A : FVec 𝕀 S1024x2048 .bf16) (B : FVec 𝕀 S2048x2048 .bf16) (r : Fin 1024) (b : Fin 2048) :
    k0_pay1 (F := 𝕀) A B (ix2 r b) = (∑ k : Fin 2048, A (ix2 r k) * B (ix2 k b) : EReal) := by
  pointwise [k0_pay1]

theorem out_eq : (dats (F := 𝕀) m 0 c).arrAt 2 cfg0.N = product (acts m c) (weights m c) := by
  refine (dats m 0 c).arrAt_eq_of_covers 2 _ (by decide +kernel) fun t hf y => ?_
  have hj := col_tile_lt t
  have hi := row_tile_lt t
  blk_simp
  rw [after0_2]
  idx_vars y
  have h0 := y0.isLt
  have h1 := y1.isLt
  have hx : (win0_2.blk t).view.emb (ix2 y0 y1) = ix2 ⟨1024 * (grid0.coords t 1).val + y0.val, by omega⟩
      ⟨2048 * (grid0.coords t 0).val + y1.val, by omega⟩ := by
    blk_ext [idx t]
  refine Eq.trans ?_ (congrArg (product (acts m c) (weights m c)) hx).symm
  unfold out0_2
  rw [View.canon_unit_zero (by decide), View.ld_unit_zero (by decide), View.ld_unit_zero (by decide)]
  refine (pay_at _ _ y0 y1).trans ?_
  exact Finset.sum_congr rfl fun k _ => congrArg₂ (· * ·) (acts_at m c t y0 k _ rfl) (cols_at m c t k y1 _ rfl)

open Cert.OddGatesReferenceIdeal.Read in
/-- The whole projection. -/
theorem proj_at (x : Vec 𝕀 S16384x2048 .bf16) (w : Vec 𝕀 S2048x8200 .f32) (a : Fin 16384) (n : Fin 8200) :
    val_main_v1 (F := 𝕀) x w (ix2 a n) = (∑ k : Fin 2048, x (ix2 a k) * w (ix2 k n) : EReal) := by
  rw [val_main_v1_apply]
  refine Finset.sum_congr rfl fun k _ => ?_
  rw [val_main_v0_apply]
  refine congrArg₂ (· * ·) (congrArg x (funext fun b => ?_)) (congrArg w (funext fun b => ?_)) <;>
    match b with
    | ⟨0, _⟩ => rfl
    | ⟨1, _⟩ => rfl

open Cert.OddGatesReferenceIdeal.Read in
/-- The reference, entry by entry. -/
theorem ref_at (x : Vec 𝕀 S16384x2048 .bf16) (w : Vec 𝕀 S2048x8200 .f32) (a : Fin 16384) (b : Fin 2048) :
    Cert.OddGatesReferenceIdeal.Read.val_main_v4 (F := 𝕀) x w (ix2 a b) = product x w (ix2 a b) := by
  have hb := b.isLt
  refine Eq.trans ?_ (proj_at x w a ⟨col b.val, col_lt b⟩)
  have hn : col b.val = if b.val < 1024 then b.val + 3072 else b.val + 6152 := rfl
  unfold val_main_v4 val_main_v3 val_main_v2
  pointwise
  split_ifs <;> split_ifs at hn <;> first
    | omega
    | exact congrArg _ (congrArg (ix2 a) (Fin.ext (by show _ = col b.val; rw [hn]; simp only []; omega)))

open Cert.OddGatesIdeal in
theorem algebraic : Cert.algebraic_OddGatesIdeal_OddGatesReferenceIdeal := by
  intro m g m' g' _ hagree
  refine ⟨fun c => product (acts m c) (weights m c), θ_run_mono (Cert.OddGatesIdeal.Value.run_blocks (F := 𝕀) m g) fun r h c =>
    ⟨(h c).1.trans (out_eq m c), (h c).2⟩, ?_⟩
  refine θ_run_mono (Cert.OddGatesReferenceIdeal.Value.run (F := 𝕀) m' g') fun r h c => ⟨(h c).1.trans ?_, (h c).2⟩
  rw [Cert.OddGatesReferenceIdeal.Read.val_main_v4_eq, (hagree c).1, (hagree c).2]
  funext y
  idx_vars y
  exact ref_at _ _ y0 y1

theorem frame_kernel : Cert.quiescent_OddGates := fun m g _ => Cert.OddGates.Gen.frame m g
theorem frame_ideal : Cert.quiescent_OddGatesIdeal := fun m g _ => Cert.OddGatesIdeal.Gen.frame m g
theorem frame_reference : Cert.quiescent_OddGatesReferenceIdeal := fun m g _ =>
  θ_run_mono (Cert.OddGatesReferenceIdeal.Value.run (F := 𝕀) m g) fun r h =>
    ⟨fun c => (h c).2, sem_eq_zero_of_no_sems (by decide) r.2⟩

end Cert.Proof.OddGates
-- ==== Proof.Proj.OddValues.lean ====
module

public import proofs.«01_k».proof.Defs
public import proofs.«01_k».proof.Proof.Gen.OddValues
public import proofs.«01_k».proof.Proof.Gen.OddValuesIdeal
public import proofs.«01_k».proof.Proof.Gen.OddValuesReferenceIdeal
public import proofs.«01_k».proof.Proof.Gen.OddValuesIdeal.Value
public import proofs.«01_k».proof.Proof.Gen.OddValuesReferenceIdeal.Run
public import proofs.«01_k».proof.Proof.Gen.OddValuesReferenceIdeal.Read
public import proofs.«01_k».proof.Proof.Gen.OddValues.Frame
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.PureOps.Ideal.Laws

@[expose] public section

/-!
# The projection of the values of the odd layer

Both programs form the product of the activations with the value columns of the weights, transposed.
-/

set_option maxRecDepth 16384

noncomputable section

namespace Cert.Proof.OddValues

open Cert.OddValuesIdeal Cert.OddValuesIdeal.Gen
open Idealize.ShloMosaic Idealize.ShloMosaic.TcCoe Idealize.SL.Sem
open scoped BigOperators

local notation "𝕀" => Idealize.ShloMosaic.Ideal

variable (m : (ℓ : Loc nD τ sig) → Buf (Elt 𝕀) ℓ) (c : Dev nD)

/-- The activations and the weights. -/
abbrev acts : Vec 𝕀 S16384x2048 .bf16 := m ((c : Thread nD τ).loc main_arg0)
abbrev weights : Vec 𝕀 S2048x8200 .f32 := m ((c : Thread nD τ).loc main_arg1)

/-- The projection's column that column `b` of the output is. -/
def col (b : ℕ) : ℕ := if b < 1024 then b + 2048 else b + 5128

theorem col_lt (b : Fin 2048) : col b.val < 8200 := by
  have h := b.isLt
  unfold col
  split <;> omega

/-- The array both programs end with. -/
def product (x : Vec 𝕀 S16384x2048 .bf16) (w : Vec 𝕀 S2048x8200 .f32) (y : S2048x16384.Idx) : EReal :=
  ∑ k : Fin 2048, x (ix2 (y 1) k) * w (ix2 k ⟨col (y 0).val, col_lt (y 0)⟩)

theorem weight_at (k : Fin 2048) (b : Fin 2048) : V m c main_v4 (ix2 b k) = weights m c (ix2 k ⟨col b.val, col_lt b⟩) := by
  have hb := b.isLt
  have hn : col b.val = if b.val < 1024 then b.val + 2048 else b.val + 5128 := rfl
  unfold V
  after_reads_at
  split_ifs <;> split_ifs at hn <;> first
    | omega
    | exact congrArg (weights m c) (congrArg (ix2 k) (Fin.ext (by show _ = col b.val; rw [hn]; simp only []; omega)))
    | (refine congrArg (weights m c) (funext fun a => Fin.ext ?_)
       match a with
       | ⟨0, _⟩ => exact Nat.zero_add _
       | ⟨1, _⟩ => change 2048 + b.val = col b.val; omega)
    | (refine congrArg (weights m c) (funext fun a => Fin.ext ?_)
       match a with
       | ⟨0, _⟩ => exact Nat.zero_add _
       | ⟨1, _⟩ => change 6152 + (b.val - 1024) = col b.val; omega)

theorem idx : ∀ t : Fin cfg0.N, win0_0.index t = ![(grid0.coords t 0).val, 0] ∧
    win0_1.index t = ![(grid0.coords t 1).val, 0] ∧ win0_2.index t = ![(grid0.coords t 0).val, (grid0.coords t 1).val] :=
  (by decide +kernel : ∀ t : Fin grid0.N, _)

theorem col_tile_lt (t : Fin cfg0.N) : (grid0.coords t 0).val < 2 := (grid0.coords t 0).isLt
theorem row_tile_lt (t : Fin cfg0.N) : (grid0.coords t 1).val < 16 := (grid0.coords t 1).isLt

theorem acts_at (t : Fin cfg0.N) (r : Fin 1024) (k : Fin 2048) (a : Fin 16384) (ha : a.val = 1024 * (grid0.coords t 1).val + r.val) :
    iblk m c 1 t (ix2 r k) = acts m c (ix2 a k) := by
  have hx : (win0_1.blk t).view.emb (ix2 r k) = ix2 a k := by blk_ext [idx t]
  unfold iblk
  blk_simp
  rw [hx]
  exact congrFun (V_main_arg0 m c) _

theorem cols_at (t : Fin cfg0.N) (k : Fin 2048) (b : Fin 1024) (n : Fin 2048) (hn : n.val = 1024 * (grid0.coords t 0).val + b.val) :
    iblk m c 0 t (ix2 b k) = weights m c (ix2 k ⟨col n.val, col_lt n⟩) := by
  have hx : (win0_0.blk t).view.emb (ix2 b k) = ix2 n k := by blk_ext [idx t]
  unfold iblk
  blk_simp
  rw [hx]
  exact weight_at m c k n

theorem pay_at (A B : FVec 𝕀 S1024x2048 .bf16) (r b : Fin 1024) :
    k0_pay1 (F := 𝕀) A B (ix2 r b) = (∑ k : Fin 2048, A (ix2 r k) * B (ix2 b k) : EReal) := by
  pointwise [k0_pay1]

theorem out_eq : (dats (F := 𝕀) m 0 c).arrAt 2 cfg0.N = product (acts m c) (weights m c) := by
  refine (dats m 0 c).arrAt_eq_of_covers 2 _ (by decide +kernel) fun t hf y => ?_
  have hj := col_tile_lt t
  have hi := row_tile_lt t
  blk_simp
  rw [after0_2]
  idx_vars y
  have h0 := y0.isLt
  have h1 := y1.isLt
  have hx : (win0_2.blk t).view.emb (ix2 y0 y1) = ix2 ⟨1024 * (grid0.coords t 0).val + y0.val, by omega⟩
      ⟨1024 * (grid0.coords t 1).val + y1.val, by omega⟩ := by
    blk_ext [idx t]
  refine Eq.trans ?_ (congrArg (product (acts m c) (weights m c)) hx).symm
  unfold out0_2
  rw [View.canon_unit_zero (by decide), View.ld_unit_zero (by decide), View.ld_unit_zero (by decide)]
  refine (pay_at _ _ y0 y1).trans ?_
  exact Finset.sum_congr rfl fun k _ => (mul_comm _ _).trans (congrArg₂ (· * ·) (acts_at m c t y1 k _ rfl) (cols_at m c t k y0 _ rfl))

open Cert.OddValuesReferenceIdeal.Read in
/-- The whole projection. -/
theorem proj_at (x : Vec 𝕀 S16384x2048 .bf16) (w : Vec 𝕀 S2048x8200 .f32) (a : Fin 16384) (n : Fin 8200) :
    val_main_v1 (F := 𝕀) x w (ix2 a n) = (∑ k : Fin 2048, x (ix2 a k) * w (ix2 k n) : EReal) := by
  rw [val_main_v1_apply]
  refine Finset.sum_congr rfl fun k _ => ?_
  rw [val_main_v0_apply]
  refine congrArg₂ (· * ·) (congrArg x (funext fun b => ?_)) (congrArg w (funext fun b => ?_)) <;>
    match b with
    | ⟨0, _⟩ => rfl
    | ⟨1, _⟩ => rfl

open Cert.OddValuesReferenceIdeal.Read in
/-- The reference, entry by entry. -/
theorem ref_at (x : Vec 𝕀 S16384x2048 .bf16) (w : Vec 𝕀 S2048x8200 .f32) (a : Fin 16384) (b : Fin 2048) :
    Cert.OddValuesReferenceIdeal.Read.val_main_v6 (F := 𝕀) x w (ix2 b a) = product x w (ix2 b a) := by
  have hb := b.isLt
  refine Eq.trans ?_ (proj_at x w a ⟨col b.val, col_lt b⟩)
  have hn : col b.val = if b.val < 1024 then b.val + 2048 else b.val + 5128 := rfl
  unfold val_main_v6 val_main_v5 val_main_v4 val_main_v3 val_main_v2
  pointwise
  split_ifs <;> split_ifs at hn <;> first
    | omega
    | exact congrArg _ (congrArg (ix2 a) (Fin.ext (by show _ = col b.val; rw [hn]; simp only []; omega)))

open Cert.OddValuesIdeal in
theorem algebraic : Cert.algebraic_OddValuesIdeal_OddValuesReferenceIdeal := by
  intro m g m' g' _ hagree
  refine ⟨fun c => product (acts m c) (weights m c), θ_run_mono (Cert.OddValuesIdeal.Value.run_blocks (F := 𝕀) m g) fun r h c =>
    ⟨(h c).1.trans (out_eq m c), (h c).2⟩, ?_⟩
  refine θ_run_mono (Cert.OddValuesReferenceIdeal.Value.run (F := 𝕀) m' g') fun r h c => ⟨(h c).1.trans ?_, (h c).2⟩
  rw [Cert.OddValuesReferenceIdeal.Read.val_main_v6_eq, (hagree c).1, (hagree c).2]
  funext y
  idx_vars y
  exact ref_at _ _ y1 y0

theorem frame_kernel : Cert.quiescent_OddValues := fun m g _ => Cert.OddValues.Gen.frame m g
theorem frame_ideal : Cert.quiescent_OddValuesIdeal := fun m g _ => Cert.OddValuesIdeal.Gen.frame m g
theorem frame_reference : Cert.quiescent_OddValuesReferenceIdeal := fun m g _ =>
  θ_run_mono (Cert.OddValuesReferenceIdeal.Value.run (F := 𝕀) m g) fun r h =>
    ⟨fun c => (h c).2, sem_eq_zero_of_no_sems (by decide) r.2⟩

end Cert.Proof.OddValues
-- ==== Proof.Proj.OddQk.lean ====
module

public import proofs.«01_k».proof.Defs
public import proofs.«01_k».proof.Proof.Gen.OddQk
public import proofs.«01_k».proof.Proof.Gen.OddQkIdeal
public import proofs.«01_k».proof.Proof.Gen.OddQkReferenceIdeal
public import proofs.«01_k».proof.Proof.Gen.OddQkIdeal.Value
public import proofs.«01_k».proof.Proof.Gen.OddQkReferenceIdeal.Run
public import proofs.«01_k».proof.Proof.Gen.OddQkReferenceIdeal.Read
public import proofs.«01_k».proof.Proof.Gen.OddQk.Frame
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.PureOps.Ideal.Laws

@[expose] public section

/-!
# The projection of the paired queries and keys of the odd layer

Both programs form the product of the activations with the columns of the two query maps and the two key maps, a head after the other.
-/

set_option maxRecDepth 16384

noncomputable section

namespace Cert.Proof.OddQk

open Cert.OddQkIdeal Cert.OddQkIdeal.Gen
open Idealize.ShloMosaic Idealize.ShloMosaic.TcCoe Idealize.SL.Sem
open scoped BigOperators

local notation "𝕀" => Idealize.ShloMosaic.Ideal

variable (m : (ℓ : Loc nD τ sig) → Buf (Elt 𝕀) ℓ) (c : Dev nD)

/-- The activations and the weights. -/
abbrev acts : Vec 𝕀 S16384x2048 .bf16 := m ((c : Thread nD τ).loc main_arg0)
abbrev weights : Vec 𝕀 S2048x8200 .f32 := m ((c : Thread nD τ).loc main_arg1)

/-- The projection's column that column `b` of the output is. -/
def col (b : ℕ) : ℕ := 4104 + 1024 * (b / 1024) + 64 * (b % 1024 / 128) + if b % 128 < 64 then b % 128 else b % 128 + 448

theorem col_lt (b : Fin 2048) : col b.val < 8200 := by
  have h := b.isLt
  unfold col
  split <;> omega

/-- The array both programs end with. -/
def product (x : Vec 𝕀 S16384x2048 .bf16) (w : Vec 𝕀 S2048x8200 .f32) (y : S16384x2048.Idx) : EReal :=
  ∑ k : Fin 2048, x (ix2 (y 0) k) * w (ix2 k ⟨col (y 1).val, col_lt (y 1)⟩)

theorem weight_at (k : Fin 2048) (b : Fin 2048) : V m c main_v15 (ix2 k b) = weights m c (ix2 k ⟨col b.val, col_lt b⟩) := by
  have hb := b.isLt
  have hn : col b.val = 4104 + 1024 * (b.val / 1024) + 64 * (b.val % 1024 / 128) + if b.val % 128 < 64 then b.val % 128 else b.val % 128 + 448 := rfl
  unfold V
  after_reads_at
  split_ifs <;> after_reads_at <;> split_ifs <;> after_reads_at <;> split_ifs at hn <;> first
    | omega
    | exact congrArg (weights m c) (congrArg (ix2 k) (Fin.ext (by refine Eq.trans ?_ hn.symm; simp only []; omega)))

theorem idx : ∀ t : Fin cfg0.N, win0_0.index t = ![(grid0.coords t 1).val, 0] ∧
    win0_1.index t = ![0, (grid0.coords t 0).val] ∧ win0_2.index t = ![(grid0.coords t 1).val, (grid0.coords t 0).val] :=
  (by decide +kernel : ∀ t : Fin grid0.N, _)

theorem col_tile_lt (t : Fin cfg0.N) : (grid0.coords t 0).val < 1 := (grid0.coords t 0).isLt
theorem row_tile_lt (t : Fin cfg0.N) : (grid0.coords t 1).val < 16 := (grid0.coords t 1).isLt

theorem acts_at (t : Fin cfg0.N) (r : Fin 1024) (k : Fin 2048) (a : Fin 16384) (ha : a.val = 1024 * (grid0.coords t 1).val + r.val) :
    iblk m c 0 t (ix2 r k) = acts m c (ix2 a k) := by
  have hx : (win0_0.blk t).view.emb (ix2 r k) = ix2 a k := by blk_ext [idx t]
  unfold iblk
  blk_simp
  rw [hx]
  exact congrFun (V_main_arg0 m c) _

theorem cols_at (t : Fin cfg0.N) (k b : Fin 2048) (n : Fin 2048) (hn : n.val = 2048 * (grid0.coords t 0).val + b.val) :
    iblk m c 1 t (ix2 k b) = weights m c (ix2 k ⟨col n.val, col_lt n⟩) := by
  have hx : (win0_1.blk t).view.emb (ix2 k b) = ix2 k n := by blk_ext [idx t]
  unfold iblk
  blk_simp
  rw [hx]
  exact weight_at m c k n

theorem pay_at (A : FVec 𝕀 S1024x2048 .bf16) (B : FVec 𝕀 S2048x2048 .bf16) (r : Fin 1024) (b : Fin 2048) :
    k0_pay1 (F := 𝕀) A B (ix2 r b) = (∑ k : Fin 2048, A (ix2 r k) * B (ix2 k b) : EReal) := by
  pointwise [k0_pay1]

theorem out_eq : (dats (F := 𝕀) m 0 c).arrAt 2 cfg0.N = product (acts m c) (weights m c) := by
  refine (dats m 0 c).arrAt_eq_of_covers 2 _ (by decide +kernel) fun t hf y => ?_
  have hj := col_tile_lt t
  have hi := row_tile_lt t
  blk_simp
  rw [after0_2]
  idx_vars y
  have h0 := y0.isLt
  have h1 := y1.isLt
  have hx : (win0_2.blk t).view.emb (ix2 y0 y1) = ix2 ⟨1024 * (grid0.coords t 1).val + y0.val, by omega⟩
      ⟨2048 * (grid0.coords t 0).val + y1.val, by omega⟩ := by
    blk_ext [idx t]
  refine Eq.trans ?_ (congrArg (product (acts m c) (weights m c)) hx).symm
  unfold out0_2
  rw [View.canon_unit_zero (by decide), View.ld_unit_zero (by decide), View.ld_unit_zero (by decide)]
  refine (pay_at _ _ y0 y1).trans ?_
  exact Finset.sum_congr rfl fun k _ => congrArg₂ (· * ·) (acts_at m c t y0 k _ rfl) (cols_at m c t k y1 _ rfl)

open Cert.OddQkReferenceIdeal.Read in
/-- The whole projection. -/
theorem proj_at (x : Vec 𝕀 S16384x2048 .bf16) (w : Vec 𝕀 S2048x8200 .f32) (a : Fin 16384) (n : Fin 8200) :
    val_main_v1 (F := 𝕀) x w (ix2 a n) = (∑ k : Fin 2048, x (ix2 a k) * w (ix2 k n) : EReal) := by
  rw [val_main_v1_apply]
  refine Finset.sum_congr rfl fun k _ => ?_
  rw [val_main_v0_apply]
  refine congrArg₂ (· * ·) (congrArg x (funext fun b => ?_)) (congrArg w (funext fun b => ?_)) <;>
    match b with
    | ⟨0, _⟩ => rfl
    | ⟨1, _⟩ => rfl

open Cert.OddQkReferenceIdeal.Read in
/-- The reference, entry by entry. -/
theorem ref_at (x : Vec 𝕀 S16384x2048 .bf16) (w : Vec 𝕀 S2048x8200 .f32) (a : Fin 16384) (b : Fin 2048) :
    Cert.OddQkReferenceIdeal.Read.val_main_v14 (F := 𝕀) x w (ix2 a b) = product x w (ix2 a b) := by
  have hb := b.isLt
  refine Eq.trans ?_ (proj_at x w a ⟨col b.val, col_lt b⟩)
  have hn : col b.val = 4104 + 1024 * (b.val / 1024) + 64 * (b.val % 1024 / 128) + if b.val % 128 < 64 then b.val % 128 else b.val % 128 + 448 := rfl
  unfold val_main_v14 val_main_v13 val_main_v12 val_main_v11 val_main_v10 val_main_v9 val_main_v8 val_main_v7 val_main_v6 val_main_v5 val_main_v4 val_main_v3 val_main_v2
  pointwise
  split_ifs <;> split_ifs at hn <;> first
    | omega
    | exact congrArg _ (congrArg (ix2 a) (Fin.ext (by show _ = col b.val; rw [hn]; simp only []; omega)))

open Cert.OddQkIdeal in
theorem algebraic : Cert.algebraic_OddQkIdeal_OddQkReferenceIdeal := by
  intro m g m' g' _ hagree
  refine ⟨fun c => product (acts m c) (weights m c), θ_run_mono (Cert.OddQkIdeal.Value.run_blocks (F := 𝕀) m g) fun r h c =>
    ⟨(h c).1.trans (out_eq m c), (h c).2⟩, ?_⟩
  refine θ_run_mono (Cert.OddQkReferenceIdeal.Value.run (F := 𝕀) m' g') fun r h c => ⟨(h c).1.trans ?_, (h c).2⟩
  rw [Cert.OddQkReferenceIdeal.Read.val_main_v14_eq, (hagree c).1, (hagree c).2]
  funext y
  idx_vars y
  exact ref_at _ _ y0 y1

theorem frame_kernel : Cert.quiescent_OddQk := fun m g _ => Cert.OddQk.Gen.frame m g
theorem frame_ideal : Cert.quiescent_OddQkIdeal := fun m g _ => Cert.OddQkIdeal.Gen.frame m g
theorem frame_reference : Cert.quiescent_OddQkReferenceIdeal := fun m g _ =>
  θ_run_mono (Cert.OddQkReferenceIdeal.Value.run (F := 𝕀) m g) fun r h =>
    ⟨fun c => (h c).2, sem_eq_zero_of_no_sems (by decide) r.2⟩

end Cert.Proof.OddQk
-- ==== Proof.lean ====
/-
# The claim

`Kernel` and `KernelIdeal` are one text at two number types, and `Proof/KB` and `Proof/KI` run them: every execution
ends, the argument unchanged, every counter at zero, and the output array made of the tiles of `KI.tile`. `Proof/Value`
reads those tiles over the extended reals and shows that they are the reference's output.

`MixerC` and `MixerCIdeal` are likewise one text at two number types, which `Proof/CB` and `Proof/CI` run. `Proof/ValueC`
reads the tiles of `CI.tile` over the extended reals and shows that they are the output of mixer C's reference.

`Proof/Proj` has the projections into the mixers and out of them, a module for each call. Their ideal programs rewrite no
operation, so that what the passage to them preserves is `True`.
-/
module

public import proofs.«01_k».proof.Defs
public import proofs.«01_k».proof.Proof.KB.Run
public import proofs.«01_k».proof.Proof.Value.Final
public import proofs.«01_k».proof.Proof.CI.Run
public import proofs.«01_k».proof.Proof.CB.Run
public import proofs.«01_k».proof.Proof.ValueC.Final
public import proofs.«01_k».proof.Proof.Proj.Rows
public import proofs.«01_k».proof.Proof.Proj.Gates
public import proofs.«01_k».proof.Proof.Proj.Values
public import proofs.«01_k».proof.Proof.Proj.OutProj
public import proofs.«01_k».proof.Proof.Proj.OddRows
public import proofs.«01_k».proof.Proof.Proj.OddGates
public import proofs.«01_k».proof.Proof.Proj.OddValues
public import proofs.«01_k».proof.Proof.Proj.OddQk

@[expose] public section

noncomputable section

namespace Cert.Proof

open Idealize.ShloMosaic Idealize.SL.Sem

theorem frame_kernel : Cert.quiescent_Kernel := fun m g _ => KB.quiet (F := Bits) m g
theorem frame_ideal : Cert.quiescent_KernelIdeal := fun m g _ => KI.quiet (F := Ideal) m g
theorem frame_ideal_finite : Cert.quiescent_KernelIdeal_pre_finite := fun m g _ => KI.quiet (F := Ideal) m g

/-- The reference declares no semaphore, so its run leaves none nonzero. -/
theorem frame_reference : Cert.quiescent_ReferenceIdeal := fun m g _ =>
  θ_run_mono (Cert.ReferenceIdeal.Value.run (F := Ideal) m g) fun r h =>
    ⟨fun c => (h c).2, sem_eq_zero_of_no_sems (by decide) r.2⟩

theorem frame_reference_finite : Cert.quiescent_ReferenceIdeal_pre_finite := fun m g _ => frame_reference m g trivial

theorem preserves : Cert.preserves_Kernel_KernelIdeal :=
  ⟨IdealRules.named_const.statement Cert.KernelIdeal.κ "log2_scale" .f32 0x3E0293EE#32 _ rfl,
    IdealRules.named_const.statement Cert.KernelIdeal.κ "log2e" .f32 0x3FB8AA3B#32 _ rfl⟩

theorem frame_mixer_c : Cert.quiescent_MixerC := fun m g _ => CB.quiet (F := Bits) m g
theorem frame_mixer_c_ideal : Cert.quiescent_MixerCIdeal := fun m g _ => CI.quiet (F := Ideal) m g
theorem frame_mixer_c_ideal_finite : Cert.quiescent_MixerCIdeal_pre_finite_scores := fun m g _ => CI.quiet (F := Ideal) m g

theorem frame_mixer_c_reference : Cert.quiescent_MixerCReferenceIdeal := fun m g _ =>
  θ_run_mono (Cert.MixerCReferenceIdeal.Value.run (F := Ideal) m g) fun r h =>
    ⟨fun c => (h c).2, sem_eq_zero_of_no_sems (by decide) r.2⟩

theorem frame_mixer_c_reference_finite : Cert.quiescent_MixerCReferenceIdeal_pre_finite_scores :=
  fun m g _ => frame_mixer_c_reference m g trivial

theorem preserves_mixer_c : Cert.preserves_MixerC_MixerCIdeal :=
  IdealRules.named_const.statement Cert.MixerCIdeal.κ "log2_scale" .f32 0x3E0293EE#32 _ rfl

theorem claim : Cert.Claim :=
  ⟨Cert.Kernel.Gen.facts, Cert.KernelIdeal.Gen.facts, Cert.ReferenceIdeal.Gen.facts,
    Cert.Rows.Gen.facts, Cert.RowsIdeal.Gen.facts, Cert.RowsReferenceIdeal.Gen.facts,
    Cert.Gates.Gen.facts, Cert.GatesIdeal.Gen.facts, Cert.GatesReferenceIdeal.Gen.facts,
    Cert.Values.Gen.facts, Cert.ValuesIdeal.Gen.facts, Cert.ValuesReferenceIdeal.Gen.facts,
    Cert.OutProj.Gen.facts, Cert.OutProjIdeal.Gen.facts, Cert.OutProjReferenceIdeal.Gen.facts,
    Cert.OddRows.Gen.facts, Cert.OddRowsIdeal.Gen.facts, Cert.OddRowsReferenceIdeal.Gen.facts,
    Cert.OddGates.Gen.facts, Cert.OddGatesIdeal.Gen.facts, Cert.OddGatesReferenceIdeal.Gen.facts,
    Cert.OddValues.Gen.facts, Cert.OddValuesIdeal.Gen.facts, Cert.OddValuesReferenceIdeal.Gen.facts,
    Cert.OddQk.Gen.facts, Cert.OddQkIdeal.Gen.facts, Cert.OddQkReferenceIdeal.Gen.facts,
    Cert.MixerC.Gen.facts, Cert.MixerCIdeal.Gen.facts, Cert.MixerCReferenceIdeal.Gen.facts,
    Cert.Pre_finite.Gen.facts, Cert.Pre_finite_scores.Gen.facts,
    frame_kernel, frame_ideal, frame_ideal_finite, frame_reference, frame_reference_finite,
    Rows.frame_kernel, Rows.frame_ideal, Rows.frame_reference,
    Gates.frame_kernel, Gates.frame_ideal, Gates.frame_reference,
    Values.frame_kernel, Values.frame_ideal, Values.frame_reference,
    OutProj.frame_kernel, OutProj.frame_ideal, OutProj.frame_reference,
    OddRows.frame_kernel, OddRows.frame_ideal, OddRows.frame_reference,
    OddGates.frame_kernel, OddGates.frame_ideal, OddGates.frame_reference,
    OddValues.frame_kernel, OddValues.frame_ideal, OddValues.frame_reference,
    OddQk.frame_kernel, OddQk.frame_ideal, OddQk.frame_reference,
    frame_mixer_c, frame_mixer_c_ideal, frame_mixer_c_ideal_finite, frame_mixer_c_reference, frame_mixer_c_reference_finite,
    preserves, Val.algebraic,
    trivial, Rows.algebraic,
    trivial, Gates.algebraic,
    trivial, Values.algebraic,
    trivial, OutProj.algebraic,
    trivial, OddRows.algebraic,
    trivial, OddGates.algebraic,
    trivial, OddValues.algebraic,
    trivial, OddQk.algebraic,
    preserves_mixer_c, ValC.algebraic⟩

end Cert.Proof

end
